-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  True

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)) (v2 : (c : Dev Cert.Kernel2Ideal.nD) → Buf (Elt Ideal) ((c.tc : Thread Cert.Kernel2Ideal.nD Cert.Kernel2Ideal.τ).loc Cert.Kernel2Ideal.main_v30_2)) (v3 : (c : Dev Cert.Kernel2Ideal.nD) → Buf (Elt Ideal) ((c.tc : Thread Cert.Kernel2Ideal.nD Cert.Kernel2Ideal.τ).loc Cert.Kernel2Ideal.main_v30_3)) (v4 : (c : Dev Cert.Kernel2Ideal.nD) → Buf (Elt Ideal) ((c.tc : Thread Cert.Kernel2Ideal.nD Cert.Kernel2Ideal.τ).loc Cert.Kernel2Ideal.main_v30_4)) (v5 : (c : Dev Cert.Kernel2Ideal.nD) → Buf (Elt Ideal) ((c.tc : Thread Cert.Kernel2Ideal.nD Cert.Kernel2Ideal.τ).loc Cert.Kernel2Ideal.main_v30_5)) (v6 : (c : Dev Cert.Kernel2Ideal.nD) → Buf (Elt Ideal) ((c.tc : Thread Cert.Kernel2Ideal.nD Cert.Kernel2Ideal.τ).loc Cert.Kernel2Ideal.main_v30_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_v30_2) = v2 c
          ∧ r.2.mem ((c.tc : Thread Cert.Kernel2Ideal.nD Cert.Kernel2Ideal.τ).loc Cert.Kernel2Ideal.main_v30_3) = v3 c
          ∧ r.2.mem ((c.tc : Thread Cert.Kernel2Ideal.nD Cert.Kernel2Ideal.τ).loc Cert.Kernel2Ideal.main_v30_4) = v4 c
          ∧ r.2.mem ((c.tc : Thread Cert.Kernel2Ideal.nD Cert.Kernel2Ideal.τ).loc Cert.Kernel2Ideal.main_v30_5) = v5 c
          ∧ r.2.mem ((c.tc : Thread Cert.Kernel2Ideal.nD Cert.Kernel2Ideal.τ).loc Cert.Kernel2Ideal.main_v30_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v83) = v1 c
          ∧ r.2.mem ((c.tc : Thread Cert.Reference2Ideal.nD Cert.Reference2Ideal.τ).loc Cert.Reference2Ideal.main_v86) = v2 c
          ∧ r.2.mem ((c.tc : Thread Cert.Reference2Ideal.nD Cert.Reference2Ideal.τ).loc Cert.Reference2Ideal.main_v91) = v3 c
          ∧ r.2.mem ((c.tc : Thread Cert.Reference2Ideal.nD Cert.Reference2Ideal.τ).loc Cert.Reference2Ideal.main_v92) = v4 c
          ∧ r.2.mem ((c.tc : Thread Cert.Reference2Ideal.nD Cert.Reference2Ideal.τ).loc Cert.Reference2Ideal.main_v95) = v5 c
          ∧ r.2.mem ((c.tc : Thread Cert.Reference2Ideal.nD Cert.Reference2Ideal.τ).loc Cert.Reference2Ideal.main_v96) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v31)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v31)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v31) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v24)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v53)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v53) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v53) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v56)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v56) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v55) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v57)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v57) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v55) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v67)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v67) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v65) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v9_0)) (v1 : (c : Dev Cert.Kernel11Ideal.nD) → Buf (Elt Ideal) ((c.tc : Thread Cert.Kernel11Ideal.nD Cert.Kernel11Ideal.τ).loc Cert.Kernel11Ideal.main_v9_1)) (v2 : (c : Dev Cert.Kernel11Ideal.nD) → Buf (Elt Ideal) ((c.tc : Thread Cert.Kernel11Ideal.nD Cert.Kernel11Ideal.τ).loc Cert.Kernel11Ideal.main_v9_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9_0) = v0 c
          ∧ r.2.mem ((c.tc : Thread Cert.Kernel11Ideal.nD Cert.Kernel11Ideal.τ).loc Cert.Kernel11Ideal.main_v9_1) = v1 c
          ∧ r.2.mem ((c.tc : Thread Cert.Kernel11Ideal.nD Cert.Kernel11Ideal.τ).loc Cert.Kernel11Ideal.main_v9_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v28) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v42_0)) (v1 : (c : Dev Cert.Kernel12Ideal.nD) → Buf (Elt Ideal) ((c.tc : Thread Cert.Kernel12Ideal.nD Cert.Kernel12Ideal.τ).loc Cert.Kernel12Ideal.main_v42_1)) (v2 : (c : Dev Cert.Kernel12Ideal.nD) → Buf (Elt Ideal) ((c.tc : Thread Cert.Kernel12Ideal.nD Cert.Kernel12Ideal.τ).loc Cert.Kernel12Ideal.main_v42_2)) (v3 : (c : Dev Cert.Kernel12Ideal.nD) → Buf (Elt Ideal) ((c.tc : Thread Cert.Kernel12Ideal.nD Cert.Kernel12Ideal.τ).loc Cert.Kernel12Ideal.main_v42_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v42_0) = v0 c
          ∧ r.2.mem ((c.tc : Thread Cert.Kernel12Ideal.nD Cert.Kernel12Ideal.τ).loc Cert.Kernel12Ideal.main_v42_1) = v1 c
          ∧ r.2.mem ((c.tc : Thread Cert.Kernel12Ideal.nD Cert.Kernel12Ideal.τ).loc Cert.Kernel12Ideal.main_v42_2) = v2 c
          ∧ r.2.mem ((c.tc : Thread Cert.Kernel12Ideal.nD Cert.Kernel12Ideal.τ).loc Cert.Kernel12Ideal.main_v42_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v38) = v0 c
          ∧ r.2.mem ((c.tc : Thread Cert.Reference12Ideal.nD Cert.Reference12Ideal.τ).loc Cert.Reference12Ideal.main_v52) = v1 c
          ∧ r.2.mem ((c.tc : Thread Cert.Reference12Ideal.nD Cert.Reference12Ideal.τ).loc Cert.Reference12Ideal.main_v53) = v2 c
          ∧ r.2.mem ((c.tc : Thread Cert.Reference12Ideal.nD Cert.Reference12Ideal.τ).loc Cert.Reference12Ideal.main_v54) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v51) = v0 c
          ∧ r.2.mem ((c.tc : Thread Cert.Reference13Ideal.nD Cert.Reference13Ideal.τ).loc Cert.Reference13Ideal.main_v50) = v1 c
          ∧ r.2.mem ((c.tc : Thread Cert.Reference13Ideal.nD Cert.Reference13Ideal.τ).loc Cert.Reference13Ideal.main_v52) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)) (v3 : (c : Dev Cert.Kernel14Ideal.nD) → Buf (Elt Ideal) ((c.tc : Thread Cert.Kernel14Ideal.nD Cert.Kernel14Ideal.τ).loc Cert.Kernel14Ideal.main_v4_3)) (v4 : (c : Dev Cert.Kernel14Ideal.nD) → Buf (Elt Ideal) ((c.tc : Thread Cert.Kernel14Ideal.nD Cert.Kernel14Ideal.τ).loc Cert.Kernel14Ideal.main_v4_4)) (v5 : (c : Dev Cert.Kernel14Ideal.nD) → Buf (Elt Ideal) ((c.tc : Thread Cert.Kernel14Ideal.nD Cert.Kernel14Ideal.τ).loc Cert.Kernel14Ideal.main_v4_5)) (v6 : (c : Dev Cert.Kernel14Ideal.nD) → Buf (Elt Ideal) ((c.tc : Thread Cert.Kernel14Ideal.nD Cert.Kernel14Ideal.τ).loc Cert.Kernel14Ideal.main_v4_6)) (v7 : (c : Dev Cert.Kernel14Ideal.nD) → Buf (Elt Ideal) ((c.tc : Thread Cert.Kernel14Ideal.nD Cert.Kernel14Ideal.τ).loc Cert.Kernel14Ideal.main_v4_7)) (v8 : (c : Dev Cert.Kernel14Ideal.nD) → Buf (Elt Ideal) ((c.tc : Thread Cert.Kernel14Ideal.nD Cert.Kernel14Ideal.τ).loc Cert.Kernel14Ideal.main_v4_8)) (v9 : (c : Dev Cert.Kernel14Ideal.nD) → Buf (Elt Ideal) ((c.tc : Thread Cert.Kernel14Ideal.nD Cert.Kernel14Ideal.τ).loc Cert.Kernel14Ideal.main_v4_9)) (v10 : (c : Dev Cert.Kernel14Ideal.nD) → Buf (Elt Ideal) ((c.tc : Thread Cert.Kernel14Ideal.nD Cert.Kernel14Ideal.τ).loc Cert.Kernel14Ideal.main_v4_10)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_v4_3) = v3 c
          ∧ r.2.mem ((c.tc : Thread Cert.Kernel14Ideal.nD Cert.Kernel14Ideal.τ).loc Cert.Kernel14Ideal.main_v4_4) = v4 c
          ∧ r.2.mem ((c.tc : Thread Cert.Kernel14Ideal.nD Cert.Kernel14Ideal.τ).loc Cert.Kernel14Ideal.main_v4_5) = v5 c
          ∧ r.2.mem ((c.tc : Thread Cert.Kernel14Ideal.nD Cert.Kernel14Ideal.τ).loc Cert.Kernel14Ideal.main_v4_6) = v6 c
          ∧ r.2.mem ((c.tc : Thread Cert.Kernel14Ideal.nD Cert.Kernel14Ideal.τ).loc Cert.Kernel14Ideal.main_v4_7) = v7 c
          ∧ r.2.mem ((c.tc : Thread Cert.Kernel14Ideal.nD Cert.Kernel14Ideal.τ).loc Cert.Kernel14Ideal.main_v4_8) = v8 c
          ∧ r.2.mem ((c.tc : Thread Cert.Kernel14Ideal.nD Cert.Kernel14Ideal.τ).loc Cert.Kernel14Ideal.main_v4_9) = v9 c
          ∧ r.2.mem ((c.tc : Thread Cert.Kernel14Ideal.nD Cert.Kernel14Ideal.τ).loc Cert.Kernel14Ideal.main_v4_10) = v10 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v46) = v0 c
          ∧ r.2.mem ((c.tc : Thread Cert.Reference14Ideal.nD Cert.Reference14Ideal.τ).loc Cert.Reference14Ideal.main_v47) = v1 c
          ∧ r.2.mem ((c.tc : Thread Cert.Reference14Ideal.nD Cert.Reference14Ideal.τ).loc Cert.Reference14Ideal.main_v48) = v2 c
          ∧ r.2.mem ((c.tc : Thread Cert.Reference14Ideal.nD Cert.Reference14Ideal.τ).loc Cert.Reference14Ideal.main_v49) = v3 c
          ∧ r.2.mem ((c.tc : Thread Cert.Reference14Ideal.nD Cert.Reference14Ideal.τ).loc Cert.Reference14Ideal.main_v50) = v4 c
          ∧ r.2.mem ((c.tc : Thread Cert.Reference14Ideal.nD Cert.Reference14Ideal.τ).loc Cert.Reference14Ideal.main_v51) = v5 c
          ∧ r.2.mem ((c.tc : Thread Cert.Reference14Ideal.nD Cert.Reference14Ideal.τ).loc Cert.Reference14Ideal.main_v52) = v6 c
          ∧ r.2.mem ((c.tc : Thread Cert.Reference14Ideal.nD Cert.Reference14Ideal.τ).loc Cert.Reference14Ideal.main_v53) = v7 c
          ∧ r.2.mem ((c.tc : Thread Cert.Reference14Ideal.nD Cert.Reference14Ideal.τ).loc Cert.Reference14Ideal.main_v54) = v8 c
          ∧ r.2.mem ((c.tc : Thread Cert.Reference14Ideal.nD Cert.Reference14Ideal.τ).loc Cert.Reference14Ideal.main_v55) = v9 c
          ∧ r.2.mem ((c.tc : Thread Cert.Reference14Ideal.nD Cert.Reference14Ideal.τ).loc Cert.Reference14Ideal.main_v65) = v10 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite2 : Cert.Pre_finite2.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v14 : IVec S_ 1) (main_v15 : FVec F S1024x2816 .f32) (main_cst_5 : FVec F S_ .f32) : IVec S_ 1 :=
  let main_v16 : FVec F S1024x2816 .f32 := broadcastInDim S1024x2816 ![] bcast_S_S1024x2816 main_cst_5
  let main_v17 : IVec S1024x2816 1 := cmpf .olt main_v15 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v14 main_v18
  let main_v20 : FVec F S1024x2816 .f32 := Host.absf main_arg4
  let main_cst_7 : FVec F S_ .f32 := constant S_ .f32 0x7F800000#32
  let main_v21 : FVec F S1024x2816 .f32 := broadcastInDim S1024x2816 ![] bcast_S_S1024x2816 main_cst_7
  let main_v22 : IVec S1024x2816 1 := cmpf .olt main_v20 main_v21
  let main_c_8 : IVec S_ 1 := constantI S_ 1 1#1
  let main_v23 : IVec S_ 1 := (fun x v => Host.reduce IntOp.andi x v reducesTo_S1024x2816_S_d0_1 h_S_) main_v22 main_c_8
  let main_v24 : IVec S_ 1 := andi main_v19 main_v23
  let main_v25 : FVec F S2816x1024 .f32 := Host.absf main_arg5
  let main_cst_9 : FVec F S_ .f32 := constant S_ .f32 0x7F800000#32
  let main_v26 : FVec F S2816x1024 .f32 := broadcastInDim S2816x1024 ![] bcast_S_S2816x1024 main_cst_9
  let main_v27 : IVec S2816x1024 1 := cmpf .olt main_v25 main_v26
  let main_c_10 : IVec S_ 1 := constantI S_ 1 1#1
  let main_v28 : IVec S_ 1 := (fun x v => Host.reduce IntOp.andi x v reducesTo_S2816x1024_S_d0_1 h_S_) main_v27 main_c_10
  let main_v29 : IVec S_ 1 := andi main_v24 main_v28
  main_v29

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S8192x1024 .f32 := Host.absf main_arg1
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_v5 main_v6
  let main_c_2 : IVec S_ 1 := constantI S_ 1 1#1
  let main_v8 : IVec S_ 1 := (fun x v => Host.reduce IntOp.andi x v reducesTo_S8192x1024_S_d0_1 h_S_) main_v7 main_c_2
  let main_v9 : IVec S_ 1 := andi main_v4 main_v8
  let main_v10 : FVec F S1024 .f32 := Host.absf main_arg2
  let main_cst_3 : FVec F S_ .f32 := constant S_ .f32 0x7F800000#32
  let main_v11 : FVec F S1024 .f32 := broadcastInDim S1024 ![] bcast_S_S1024 main_cst_3
  let main_v12 : IVec S1024 1 := cmpf .olt main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v9 main_v13
  let main_v15 : FVec F S1024x2816 .f32 := Host.absf main_arg3
  let main_cst_5 : FVec F S_ .f32 := constant S_ .f32 0x7F800000#32
  fn_part1 (F := F) main_arg4 main_arg5 main_v14 main_v15 main_cst_5
-- ==== Kernel.lean ====
abbrev S1x8192x4x64 : Shape := ⟨4, ![1, 8192, 4, 64]⟩
abbrev S4x128x256 : Shape := ⟨3, ![4, 128, 256]⟩
abbrev S1x8192x4 : Shape := ⟨3, ![1, 8192, 4]⟩
abbrev S_ : Shape := ⟨0, ![]⟩
abbrev S1x512x16x4x64 : Shape := ⟨5, ![1, 512, 16, 4, 64]⟩
abbrev S1x16x512x4x64 : Shape := ⟨5, ![1, 16, 512, 4, 64]⟩
abbrev S16x512x4x64 : Shape := ⟨4, ![16, 512, 4, 64]⟩
abbrev S16x4x128x4x64 : Shape := ⟨5, ![16, 4, 128, 4, 64]⟩
abbrev S16x1x128x4x64 : Shape := ⟨5, ![16, 1, 128, 4, 64]⟩
abbrev S16x3x128x4x64 : Shape := ⟨5, ![16, 3, 128, 4, 64]⟩
abbrev S16x4x256x4x64 : Shape := ⟨5, ![16, 4, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1 : Shape := ⟨2, ![4, 1]⟩
abbrev S4x256 : Shape := ⟨2, ![4, 256]⟩
abbrev S1x128x256 : Shape := ⟨3, ![1, 128, 256]⟩
abbrev S4x1x256 : Shape := ⟨3, ![4, 1, 256]⟩
abbrev S16x4x4x128x256 : Shape := ⟨5, ![16, 4, 4, 128, 256]⟩
abbrev S1x4x1x128x256 : Shape := ⟨5, ![1, 4, 1, 128, 256]⟩
abbrev S1x1x4x128x256 : Shape := ⟨5, ![1, 1, 4, 128, 256]⟩
abbrev S16x4x4x128 : Shape := ⟨4, ![16, 4, 4, 128]⟩
abbrev S16x4x4x128x1 : Shape := ⟨5, ![16, 4, 4, 128, 1]⟩
abbrev S16x4x4x64x128 : Shape := ⟨5, ![16, 4, 4, 64, 128]⟩
abbrev S16x4x128x4 : Shape := ⟨4, ![16, 4, 128, 4]⟩
abbrev S16x4x128x4x1 : Shape := ⟨5, ![16, 4, 128, 4, 1]⟩
abbrev S16x512x4 : Shape := ⟨3, ![16, 512, 4]⟩
abbrev S1x16x512x4 : Shape := ⟨4, ![1, 16, 512, 4]⟩
abbrev S1x512x16x4 : Shape := ⟨4, ![1, 512, 16, 4]⟩
abbrev S1x8192x4x1 : Shape := ⟨4, ![1, 8192, 4, 1]⟩
abbrev S1x4x128x256 : Shape := ⟨4, ![1, 4, 128, 256]⟩
abbrev S2x4x128x256 : Shape := ⟨4, ![2, 4, 128, 256]⟩
abbrev S512x16x256 : Shape := ⟨3, ![512, 16, 256]⟩
abbrev S16x512x256 : Shape := ⟨3, ![16, 512, 256]⟩
abbrev S1x512x256 : Shape := ⟨3, ![1, 512, 256]⟩
abbrev S512x256 : Shape := ⟨2, ![512, 256]⟩
abbrev S640x256 : Shape := ⟨2, ![640, 256]⟩
abbrev S256x256 : Shape := ⟨2, ![256, 256]⟩
abbrev S1x128x1 : Shape := ⟨3, ![1, 128, 1]⟩
abbrev S512x1 : Shape := ⟨2, ![512, 1]⟩

abbrev nBuf : Space → Nat
  | .hbm => 195
  | .vmem => 28
  | .smem => 0
  | _ => 0

abbrev hbmTy0_0 (i : Nat) : BufTy := match i % 128 with
  | 0 => ⟨S1x8192x4x64, .f32⟩
  | 1 => ⟨S1x8192x4x64, .f32⟩
  | 2 => ⟨S1x8192x4x64, .f32⟩
  | 3 => ⟨S4x128x256, .f32⟩
  | 4 => ⟨S1x8192x4x64, .f32⟩
  | 5 => ⟨S1x8192x4x64, .f32⟩
  | 6 => ⟨S1x8192x4, .f32⟩
  | 7 => ⟨S1x8192x4, .f32⟩
  | 8 => ⟨S1x8192x4x64, .f32⟩
  | 9 => ⟨S_, .f32⟩
  | 10 => ⟨S1x8192x4x64, .f32⟩
  | 11 => ⟨S1x8192x4x64, .f32⟩
  | 12 => ⟨S1x512x16x4x64, .f32⟩
  | 13 => ⟨S1x16x512x4x64, .f32⟩
  | 14 => ⟨S16x512x4x64, .f32⟩
  | 15 => ⟨S16x4x128x4x64, .f32⟩
  | 16 => ⟨S1x512x16x4x64, .f32⟩
  | 17 => ⟨S1x16x512x4x64, .f32⟩
  | 18 => ⟨S16x512x4x64, .f32⟩
  | 19 => ⟨S16x4x128x4x64, .f32⟩
  | 20 => ⟨S16x1x128x4x64, .f32⟩
  | 21 => ⟨S_, .f32⟩
  | 22 => ⟨S16x1x128x4x64, .f32⟩
  | 23 => ⟨S16x3x128x4x64, .f32⟩
  | 24 => ⟨S16x4x128x4x64, .f32⟩
  | 25 => ⟨S16x4x256x4x64, .f32⟩
  | 26 => ⟨S1x512x16x4x64, .f32⟩
  | 27 => ⟨S1x16x512x4x64, .f32⟩
  | 28 => ⟨S16x512x4x64, .f32⟩
  | 29 => ⟨S16x4x128x4x64, .f32⟩
  | 30 => ⟨S16x1x128x4x64, .f32⟩
  | 31 => ⟨S_, .f32⟩
  | 32 => ⟨S16x1x128x4x64, .f32⟩
  | 33 => ⟨S16x3x128x4x64, .f32⟩
  | 34 => ⟨S16x4x128x4x64, .f32⟩
  | 35 => ⟨S16x4x256x4x64, .f32⟩
  | 36 => ⟨S128, .i32⟩
  | 37 => ⟨S128x1, .i32⟩
  | 38 => ⟨S256, .i32⟩
  | 39 => ⟨S1x256, .i32⟩
  | 40 => ⟨S_, .i32⟩
  | 41 => ⟨S128x1, .i32⟩
  | 42 => ⟨S128x1, .i32⟩
  | 43 => ⟨S128x256, .i32⟩
  | 44 => ⟨S128x256, .i32⟩
  | 45 => ⟨S128x256, .i32⟩
  | 46 => ⟨S_, .i32⟩
  | 47 => ⟨S128x256, .i32⟩
  | 48 => ⟨S128x256, .i1⟩
  | 49 => ⟨S_, .i32⟩
  | 50 => ⟨S128x256, .i32⟩
  | 51 => ⟨S128x256, .i1⟩
  | 52 => ⟨S128x256, .i1⟩
  | 53 => ⟨S4, .i32⟩
  | 54 => ⟨S4x1, .i32⟩
  | 55 => ⟨S_, .i32⟩
  | 56 => ⟨S4x1, .i32⟩
  | 57 => ⟨S4x1, .i1⟩
  | 58 => ⟨S_, .i32⟩
  | 59 => ⟨S1x256, .i32⟩
  | 60 => ⟨S1x256, .i1⟩
  | 61 => ⟨S4x256, .i1⟩
  | 62 => ⟨S4x256, .i1⟩
  | 63 => ⟨S4x256, .i1⟩
  | 64 => ⟨S1x128x256, .i1⟩
  | 65 => ⟨S4x1x256, .i1⟩
  | 66 => ⟨S4x128x256, .i1⟩
  | 67 => ⟨S4x128x256, .i1⟩
  | 68 => ⟨S4x128x256, .i1⟩
  | 69 => ⟨S16x4x4x128x256, .f32⟩
  | 70 => ⟨S1x4x1x128x256, .f32⟩
  | 71 => ⟨S16x4x4x128x256, .f32⟩
  | 72 => ⟨S16x4x4x128x256, .f32⟩
  | 73 => ⟨S1x1x4x128x256, .i1⟩
  | 74 => ⟨S_, .f32⟩
  | 75 => ⟨S_, .f32⟩
  | 76 => ⟨S16x4x4x128x256, .i1⟩
  | 77 => ⟨S16x4x4x128x256, .f32⟩
  | 78 => ⟨S16x4x4x128x256, .f32⟩
  | 79 => ⟨S_, .f32⟩
  | 80 => ⟨S16x4x4x128, .f32⟩
  | 81 => ⟨S16x4x4x128x1, .f32⟩
  | 82 => ⟨S16x4x4x128x256, .f32⟩
  | 83 => ⟨S16x4x4x128x256, .f32⟩
  | 84 => ⟨S16x4x4x128x256, .f32⟩
  | 85 => ⟨S_, .f32⟩
  | 86 => ⟨S16x4x4x128, .f32⟩
  | 87 => ⟨S16x4x4x64x128, .f32⟩
  | 88 => ⟨S16x4x128x4x64, .f32⟩
  | 89 => ⟨S16x4x128x4, .f32⟩
  | 90 => ⟨S16x4x128x4x1, .f32⟩
  | 91 => ⟨S16x4x128x4x64, .f32⟩
  | 92 => ⟨S16x4x128x4x64, .f32⟩
  | 93 => ⟨S16x4x4x128, .f32⟩
  | 94 => ⟨S16x4x4x128, .f32⟩
  | 95 => ⟨S16x4x4x128, .f32⟩
  | 96 => ⟨S1x16x512x4x64, .f32⟩
  | 97 => ⟨S1x512x16x4x64, .f32⟩
  | 98 => ⟨S1x8192x4x64, .f32⟩
  | 99 => ⟨S16x4x128x4, .f32⟩
  | 100 => ⟨S16x512x4, .f32⟩
  | 101 => ⟨S1x16x512x4, .f32⟩
  | 102 => ⟨S1x512x16x4, .f32⟩
  | 103 => ⟨S1x8192x4, .f32⟩
  | 104 => ⟨S1x8192x4, .f32⟩
  | 105 => ⟨S1x8192x4, .f32⟩
  | 106 => ⟨S1x8192x4, .f32⟩
  | 107 => ⟨S1x8192x4, .f32⟩
  | 108 => ⟨S1x8192x4, .f32⟩
  | 109 => ⟨S1x8192x4, .f32⟩
  | 110 => ⟨S1x8192x4, .f32⟩
  | 111 => ⟨S1x8192x4, .f32⟩
  | 112 => ⟨S1x8192x4, .f32⟩
  | 113 => ⟨S1x8192x4, .f32⟩
  | 114 => ⟨S1x8192x4x1, .f32⟩
  | 115 => ⟨S1x8192x4x64, .f32⟩
  | 116 => ⟨S1x8192x4x64, .f32⟩
  | 117 => ⟨S1x8192x4x1, .f32⟩
  | 118 => ⟨S1x8192x4x64, .f32⟩
  | 119 => ⟨S1x8192x4x64, .f32⟩
  | 120 => ⟨S1x8192x4x64, .f32⟩
  | 121 => ⟨S1x8192x4x1, .f32⟩
  | 122 => ⟨S1x8192x4x64, .f32⟩
  | 123 => ⟨S1x8192x4x64, .f32⟩
  | 124 => ⟨S1x8192x4x64, .f32⟩
  | 125 => ⟨S1x8192x4x1, .f32⟩
  | 126 => ⟨S1x8192x4x64, .f32⟩
  | 127 => ⟨S1x8192x4x64, .f32⟩
  | _ => ⟨S1x8192x4x64, .f32⟩

abbrev hbmTy0_1 (i : Nat) : BufTy := match i % 128 with
  | 0 => ⟨S1x8192x4, .f32⟩
  | 1 => ⟨S1x8192x4, .f32⟩
  | 2 => ⟨S1x8192x4x64, .f32⟩
  | 3 => ⟨S_, .f32⟩
  | 4 => ⟨S1x8192x4, .f32⟩
  | 5 => ⟨S128, .i32⟩
  | 6 => ⟨S128x1, .i32⟩
  | 7 => ⟨S256, .i32⟩
  | 8 => ⟨S1x256, .i32⟩
  | 9 => ⟨S_, .i32⟩
  | 10 => ⟨S128x1, .i32⟩
  | 11 => ⟨S128x1, .i32⟩
  | 12 => ⟨S128x256, .i32⟩
  | 13 => ⟨S128x256, .i32⟩
  | 14 => ⟨S128x256, .i32⟩
  | 15 => ⟨S_, .i32⟩
  | 16 => ⟨S128x256, .i32⟩
  | 17 => ⟨S128x256, .i1⟩
  | 18 => ⟨S_, .i32⟩
  | 19 => ⟨S128x256, .i32⟩
  | 20 => ⟨S128x256, .i1⟩
  | 21 => ⟨S128x256, .i1⟩
  | 22 => ⟨S_, .i32⟩
  | 23 => ⟨S1x256, .i32⟩
  | 24 => ⟨S1x256, .i1⟩
  | 25 => ⟨S128x256, .i1⟩
  | 26 => ⟨S128x256, .i1⟩
  | 27 => ⟨S_, .f32⟩
  | 28 => ⟨S_, .f32⟩
  | 29 => ⟨S4x128x256, .i1⟩
  | 30 => ⟨S4x128x256, .f32⟩
  | 31 => ⟨S4x128x256, .f32⟩
  | 32 => ⟨S_, .f32⟩
  | 33 => ⟨S_, .f32⟩
  | 34 => ⟨S4x128x256, .i1⟩
  | 35 => ⟨S4x128x256, .f32⟩
  | 36 => ⟨S4x128x256, .f32⟩
  | 37 => ⟨S1x4x128x256, .f32⟩
  | 38 => ⟨S1x4x128x256, .f32⟩
  | 39 => ⟨S2x4x128x256, .f32⟩
  | 40 => ⟨S_, .f32⟩
  | 41 => ⟨S1x8192x4x64, .f32⟩
  | 42 => ⟨S1x8192x4x64, .f32⟩
  | 43 => ⟨S512x16x256, .f32⟩
  | 44 => ⟨S16x512x256, .f32⟩
  | 45 => ⟨S16x512x256, .bf16⟩
  | 46 => ⟨S512x16x256, .f32⟩
  | 47 => ⟨S16x512x256, .f32⟩
  | 48 => ⟨S16x512x256, .bf16⟩
  | 49 => ⟨S512x16x256, .f32⟩
  | 50 => ⟨S16x512x256, .f32⟩
  | 51 => ⟨S16x512x256, .bf16⟩
  | 52 => ⟨S512x16x256, .f32⟩
  | 53 => ⟨S16x512x256, .f32⟩
  | 54 => ⟨S16x512x256, .bf16⟩
  | 55 => ⟨S1x8192x4x1, .f32⟩
  | 56 => ⟨S1x8192x4x64, .f32⟩
  | 57 => ⟨S512x16x256, .f32⟩
  | 58 => ⟨S16x512x256, .f32⟩
  | 59 => ⟨S1x8192x4x1, .f32⟩
  | 60 => ⟨S1x8192x4x64, .f32⟩
  | 61 => ⟨S512x16x256, .f32⟩
  | 62 => ⟨S16x512x256, .f32⟩
  | 63 => ⟨S16x512x256, .bf16⟩
  | 64 => ⟨S16x512x256, .bf16⟩
  | 65 => ⟨S16x512x256, .bf16⟩
  | 66 => ⟨S4x128x256, .f32⟩
  | _ => ⟨S1x8192x4x64, .f32⟩

abbrev hbmTy (i : Nat) : BufTy := match i / 128 with
  | 0 => hbmTy0_0 i
  | 1 => hbmTy0_1 i
  | _ => ⟨S1x8192x4x64, .f32⟩

abbrev bufTy : (tb : Table) → Fin (tcTables nBuf tb) → BufTy
  | .hbm, ⟨i, _⟩ => hbmTy i
  | .local _ .vmem, ⟨0, _⟩ => ⟨S1x512x256, .bf16⟩
  | .local _ .vmem, ⟨1, _⟩ => ⟨S1x512x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S2x4x128x256, .f32⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S4x128x256, .f32⟩
  | .local _ .vmem, ⟨24, _⟩ => ⟨S512x256, .f32⟩
  | .local _ .vmem, ⟨25, _⟩ => ⟨S512x256, .f32⟩
  | .local _ .vmem, ⟨26, _⟩ => ⟨S640x256, .f32⟩
  | .local _ .vmem, ⟨27, _⟩ => ⟨S640x256, .f32⟩
  | _, _ => ⟨S1x8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_2 : Ref sig .tc := ⟨.hbm, 46, rfl⟩
abbrev main_v33 : Ref sig .tc := ⟨.hbm, 47, rfl⟩
abbrev main_v34 : Ref sig .tc := ⟨.hbm, 48, rfl⟩
abbrev main_c_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_4 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_6 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v57 : Ref sig .tc := ⟨.hbm, 78, rfl⟩
abbrev main_cst_7 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_8 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_9 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_c_10 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_c_11 : Ref sig .tc := ⟨.hbm, 143, rfl⟩
abbrev main_v118 : Ref sig .tc := ⟨.hbm, 144, rfl⟩
abbrev main_v119 : Ref sig .tc := ⟨.hbm, 145, rfl⟩
abbrev main_c_12 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_c_13 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_14 : Ref sig .tc := ⟨.hbm, 155, rfl⟩
abbrev main_call1_v0 : Ref sig .tc := ⟨.hbm, 156, rfl⟩
abbrev main_call1_v1 : Ref sig .tc := ⟨.hbm, 157, rfl⟩
abbrev main_call1_v2 : Ref sig .tc := ⟨.hbm, 158, rfl⟩
abbrev main_v127 : Ref sig .tc := ⟨.hbm, 159, rfl⟩
abbrev main_cst_15 : Ref sig .tc := ⟨.hbm, 160, rfl⟩
abbrev main_call2_v0 : Ref sig .tc := ⟨.hbm, 161, rfl⟩
abbrev main_call2_v1 : Ref sig .tc := ⟨.hbm, 162, rfl⟩
abbrev main_call2_v2 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_16 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154_0 : Ref sig .tc := ⟨.hbm, 191, rfl⟩
abbrev main_v154_1 : Ref sig .tc := ⟨.hbm, 192, rfl⟩
abbrev main_v154_2 : Ref sig .tc := ⟨.hbm, 193, rfl⟩
abbrev main_v154_3 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c1_i32 : BitVec 32 := 1#32
  let v8 : BitVec 1 := Scalar.cmpi .slt arg1 c1_i32
  let v9 : BitVec 32 := Scalar.extui v8
  let c0_i32_4 : BitVec 32 := 0#32
  let v10 : BitVec 1 := Scalar.cmpi .ne v9 c0_i32_4
  v10

def k0_off1 (i : grid0.Coords) : Fin 4 → Nat :=
  let arg1 : BitVec 32 := BitVec.ofNat 32 (i 1).val
  let c1_i32_27 : BitVec 32 := 1#32
  let v54 : BitVec 32 := Scalar.minsi arg1 c1_i32_27
  let v114 : Index := Scalar.indexCast v54
  let c0_70 : Index := 0#32
  let c0_71 : Index := 0#32
  let c0_72 : Index := 0#32
  ![v114.toNat, 0, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c4_i32 : BitVec 32 := 4#32
  let v1 : BitVec 32 := Scalar.muli v0 c4_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c4_i32 : BitVec 32 := 4#32
  let v1 : BitVec 32 := Scalar.muli v0 c4_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2x4x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S4x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ReferenceIdeal.lean ====
abbrev S1x8192x4x64 : Shape := ⟨4, ![1, 8192, 4, 64]⟩
abbrev S4x128x256 : Shape := ⟨3, ![4, 128, 256]⟩
abbrev S1x8192x4 : Shape := ⟨3, ![1, 8192, 4]⟩
abbrev S_ : Shape := ⟨0, ![]⟩
abbrev S1x512x16x4x64 : Shape := ⟨5, ![1, 512, 16, 4, 64]⟩
abbrev S1x16x512x4x64 : Shape := ⟨5, ![1, 16, 512, 4, 64]⟩
abbrev S16x512x4x64 : Shape := ⟨4, ![16, 512, 4, 64]⟩
abbrev S16x4x128x4x64 : Shape := ⟨5, ![16, 4, 128, 4, 64]⟩
abbrev S16x1x128x4x64 : Shape := ⟨5, ![16, 1, 128, 4, 64]⟩
abbrev S16x3x128x4x64 : Shape := ⟨5, ![16, 3, 128, 4, 64]⟩
abbrev S16x4x256x4x64 : Shape := ⟨5, ![16, 4, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1 : Shape := ⟨2, ![4, 1]⟩
abbrev S4x256 : Shape := ⟨2, ![4, 256]⟩
abbrev S1x128x256 : Shape := ⟨3, ![1, 128, 256]⟩
abbrev S4x1x256 : Shape := ⟨3, ![4, 1, 256]⟩
abbrev S16x4x4x128x256 : Shape := ⟨5, ![16, 4, 4, 128, 256]⟩
abbrev S1x4x1x128x256 : Shape := ⟨5, ![1, 4, 1, 128, 256]⟩
abbrev S1x1x4x128x256 : Shape := ⟨5, ![1, 1, 4, 128, 256]⟩
abbrev S16x4x4x128 : Shape := ⟨4, ![16, 4, 4, 128]⟩
abbrev S16x4x4x128x1 : Shape := ⟨5, ![16, 4, 4, 128, 1]⟩
abbrev S16x4x4x64x128 : Shape := ⟨5, ![16, 4, 4, 64, 128]⟩
abbrev S16x4x128x4 : Shape := ⟨4, ![16, 4, 128, 4]⟩
abbrev S16x4x128x4x1 : Shape := ⟨5, ![16, 4, 128, 4, 1]⟩
abbrev S16x512x4 : Shape := ⟨3, ![16, 512, 4]⟩
abbrev S1x16x512x4 : Shape := ⟨4, ![1, 16, 512, 4]⟩
abbrev S1x512x16x4 : Shape := ⟨4, ![1, 512, 16, 4]⟩
abbrev S1x8192x1x4 : Shape := ⟨4, ![1, 8192, 1, 4]⟩
abbrev S1x8192x3x4 : Shape := ⟨4, ![1, 8192, 3, 4]⟩
abbrev S1x8192x3x4x1 : Shape := ⟨5, ![1, 8192, 3, 4, 1]⟩
abbrev S1x8192x1x4x64 : Shape := ⟨5, ![1, 8192, 1, 4, 64]⟩
abbrev S1x8192x3x4x64 : Shape := ⟨5, ![1, 8192, 3, 4, 64]⟩
abbrev S8192x3x4 : Shape := ⟨3, ![8192, 3, 4]⟩
abbrev S8192x4 : Shape := ⟨2, ![8192, 4]⟩
abbrev S16x4x4x64x256 : Shape := ⟨5, ![16, 4, 4, 64, 256]⟩
abbrev S16x4x4x256x64 : Shape := ⟨5, ![16, 4, 4, 256, 64]⟩
abbrev S16x4x4x128x64 : Shape := ⟨5, ![16, 4, 4, 128, 64]⟩
abbrev S512x16x256 : Shape := ⟨3, ![512, 16, 256]⟩
abbrev S16x512x256 : Shape := ⟨3, ![16, 512, 256]⟩

abbrev nBuf : Space → Nat
  | .hbm => 308
  | .vmem => 0
  | .smem => 0
  | _ => 0

abbrev hbmTy0_0 (i : Nat) : BufTy := match i % 128 with
  | 0 => ⟨S1x8192x4x64, .f32⟩
  | 1 => ⟨S1x8192x4x64, .f32⟩
  | 2 => ⟨S1x8192x4x64, .f32⟩
  | 3 => ⟨S4x128x256, .f32⟩
  | 4 => ⟨S1x8192x4x64, .f32⟩
  | 5 => ⟨S1x8192x4x64, .f32⟩
  | 6 => ⟨S1x8192x4, .f32⟩
  | 7 => ⟨S1x8192x4, .f32⟩
  | 8 => ⟨S1x8192x4x64, .f32⟩
  | 9 => ⟨S_, .f32⟩
  | 10 => ⟨S1x8192x4x64, .f32⟩
  | 11 => ⟨S1x8192x4x64, .f32⟩
  | 12 => ⟨S1x512x16x4x64, .f32⟩
  | 13 => ⟨S1x16x512x4x64, .f32⟩
  | 14 => ⟨S16x512x4x64, .f32⟩
  | 15 => ⟨S16x4x128x4x64, .f32⟩
  | 16 => ⟨S1x512x16x4x64, .f32⟩
  | 17 => ⟨S1x16x512x4x64, .f32⟩
  | 18 => ⟨S16x512x4x64, .f32⟩
  | 19 => ⟨S16x4x128x4x64, .f32⟩
  | 20 => ⟨S16x1x128x4x64, .f32⟩
  | 21 => ⟨S_, .f32⟩
  | 22 => ⟨S16x1x128x4x64, .f32⟩
  | 23 => ⟨S16x3x128x4x64, .f32⟩
  | 24 => ⟨S16x4x128x4x64, .f32⟩
  | 25 => ⟨S_, .f32⟩
  | 26 => ⟨S16x1x128x4x64, .f32⟩
  | 27 => ⟨S16x4x256x4x64, .f32⟩
  | 28 => ⟨S1x512x16x4x64, .f32⟩
  | 29 => ⟨S1x16x512x4x64, .f32⟩
  | 30 => ⟨S16x512x4x64, .f32⟩
  | 31 => ⟨S16x4x128x4x64, .f32⟩
  | 32 => ⟨S16x1x128x4x64, .f32⟩
  | 33 => ⟨S_, .f32⟩
  | 34 => ⟨S16x1x128x4x64, .f32⟩
  | 35 => ⟨S16x3x128x4x64, .f32⟩
  | 36 => ⟨S16x4x128x4x64, .f32⟩
  | 37 => ⟨S_, .f32⟩
  | 38 => ⟨S16x1x128x4x64, .f32⟩
  | 39 => ⟨S16x4x256x4x64, .f32⟩
  | 40 => ⟨S128, .i32⟩
  | 41 => ⟨S128x1, .i32⟩
  | 42 => ⟨S256, .i32⟩
  | 43 => ⟨S1x256, .i32⟩
  | 44 => ⟨S_, .i32⟩
  | 45 => ⟨S128x1, .i32⟩
  | 46 => ⟨S128x1, .i32⟩
  | 47 => ⟨S128x256, .i32⟩
  | 48 => ⟨S128x256, .i32⟩
  | 49 => ⟨S128x256, .i32⟩
  | 50 => ⟨S_, .i32⟩
  | 51 => ⟨S128x256, .i32⟩
  | 52 => ⟨S128x256, .i1⟩
  | 53 => ⟨S_, .i32⟩
  | 54 => ⟨S128x256, .i32⟩
  | 55 => ⟨S128x256, .i1⟩
  | 56 => ⟨S128x256, .i1⟩
  | 57 => ⟨S4, .i32⟩
  | 58 => ⟨S4x1, .i32⟩
  | 59 => ⟨S_, .i32⟩
  | 60 => ⟨S4x1, .i32⟩
  | 61 => ⟨S4x1, .i1⟩
  | 62 => ⟨S_, .i32⟩
  | 63 => ⟨S1x256, .i32⟩
  | 64 => ⟨S1x256, .i1⟩
  | 65 => ⟨S4x256, .i1⟩
  | 66 => ⟨S4x256, .i1⟩
  | 67 => ⟨S4x256, .i1⟩
  | 68 => ⟨S1x128x256, .i1⟩
  | 69 => ⟨S4x1x256, .i1⟩
  | 70 => ⟨S4x128x256, .i1⟩
  | 71 => ⟨S4x128x256, .i1⟩
  | 72 => ⟨S4x128x256, .i1⟩
  | 73 => ⟨S16x4x4x128x256, .f32⟩
  | 74 => ⟨S1x4x1x128x256, .f32⟩
  | 75 => ⟨S16x4x4x128x256, .f32⟩
  | 76 => ⟨S16x4x4x128x256, .f32⟩
  | 77 => ⟨S1x1x4x128x256, .i1⟩
  | 78 => ⟨S_, .f32⟩
  | 79 => ⟨S_, .f32⟩
  | 80 => ⟨S16x4x4x128x256, .i1⟩
  | 81 => ⟨S16x4x4x128x256, .f32⟩
  | 82 => ⟨S16x4x4x128x256, .f32⟩
  | 83 => ⟨S_, .f32⟩
  | 84 => ⟨S16x4x4x128x256, .f32⟩
  | 85 => ⟨S_, .f32⟩
  | 86 => ⟨S16x4x4x128, .f32⟩
  | 87 => ⟨S16x4x4x128x1, .f32⟩
  | 88 => ⟨S16x4x4x128x256, .f32⟩
  | 89 => ⟨S16x4x4x128x256, .i1⟩
  | 90 => ⟨S16x4x4x128x256, .f32⟩
  | 91 => ⟨S_, .f32⟩
  | 92 => ⟨S16x4x4x128, .f32⟩
  | 93 => ⟨S16x4x4x128x1, .f32⟩
  | 94 => ⟨S16x4x4x128x256, .f32⟩
  | 95 => ⟨S16x4x4x128x256, .f32⟩
  | 96 => ⟨S16x4x4x128x256, .f32⟩
  | 97 => ⟨S_, .f32⟩
  | 98 => ⟨S16x4x4x128, .f32⟩
  | 99 => ⟨S16x4x4x64x128, .f32⟩
  | 100 => ⟨S16x4x128x4x64, .f32⟩
  | 101 => ⟨S16x4x128x4, .f32⟩
  | 102 => ⟨S16x4x128x4x1, .f32⟩
  | 103 => ⟨S16x4x128x4x64, .f32⟩
  | 104 => ⟨S16x4x128x4x64, .f32⟩
  | 105 => ⟨S16x4x128x4x1, .f32⟩
  | 106 => ⟨S_, .f32⟩
  | 107 => ⟨S16x4x128x4x1, .f32⟩
  | 108 => ⟨S16x4x128x4x1, .f32⟩
  | 109 => ⟨S16x4x4x128, .f32⟩
  | 110 => ⟨S16x4x4x128, .f32⟩
  | 111 => ⟨S16x4x4x128, .f32⟩
  | 112 => ⟨S1x16x512x4x64, .f32⟩
  | 113 => ⟨S1x512x16x4x64, .f32⟩
  | 114 => ⟨S1x8192x4x64, .f32⟩
  | 115 => ⟨S16x4x128x4, .f32⟩
  | 116 => ⟨S16x512x4, .f32⟩
  | 117 => ⟨S1x16x512x4, .f32⟩
  | 118 => ⟨S1x512x16x4, .f32⟩
  | 119 => ⟨S1x8192x4, .f32⟩
  | 120 => ⟨S1x8192x1x4, .f32⟩
  | 121 => ⟨S1x8192x1x4, .f32⟩
  | 122 => ⟨S1x8192x1x4, .f32⟩
  | 123 => ⟨S1x8192x3x4, .f32⟩
  | 124 => ⟨S_, .f32⟩
  | 125 => ⟨S1x8192x4, .f32⟩
  | 126 => ⟨S_, .f32⟩
  | 127 => ⟨S1x8192x4, .f32⟩
  | _ => ⟨S1x8192x4x64, .f32⟩

abbrev hbmTy0_1 (i : Nat) : BufTy := match i % 128 with
  | 0 => ⟨S_, .f32⟩
  | 1 => ⟨S1x8192x4, .f32⟩
  | 2 => ⟨S1x8192x1x4, .f32⟩
  | 3 => ⟨S1x8192x3x4, .f32⟩
  | 4 => ⟨S1x8192x3x4, .i1⟩
  | 5 => ⟨S1x8192x3x4, .f32⟩
  | 6 => ⟨S_, .f32⟩
  | 7 => ⟨S1x8192x4, .f32⟩
  | 8 => ⟨S_, .f32⟩
  | 9 => ⟨S1x8192x4, .f32⟩
  | 10 => ⟨S1x8192x4, .f32⟩
  | 11 => ⟨S_, .f32⟩
  | 12 => ⟨S1x8192x4, .f32⟩
  | 13 => ⟨S1x8192x4, .i1⟩
  | 14 => ⟨S_, .f32⟩
  | 15 => ⟨S1x8192x4, .f32⟩
  | 16 => ⟨S1x8192x4, .i1⟩
  | 17 => ⟨S_, .f32⟩
  | 18 => ⟨S1x8192x4, .f32⟩
  | 19 => ⟨S_, .f32⟩
  | 20 => ⟨S1x8192x4, .f32⟩
  | 21 => ⟨S_, .f32⟩
  | 22 => ⟨S1x8192x4, .f32⟩
  | 23 => ⟨S1x8192x4, .f32⟩
  | 24 => ⟨S1x8192x4, .f32⟩
  | 25 => ⟨S1x8192x1x4, .f32⟩
  | 26 => ⟨S1x8192x3x4, .f32⟩
  | 27 => ⟨S1x8192x3x4, .f32⟩
  | 28 => ⟨S1x8192x3x4, .f32⟩
  | 29 => ⟨S_, .f32⟩
  | 30 => ⟨S1x8192x4, .f32⟩
  | 31 => ⟨S1x8192x1x4, .f32⟩
  | 32 => ⟨S1x8192x3x4, .f32⟩
  | 33 => ⟨S1x8192x3x4, .f32⟩
  | 34 => ⟨S1x8192x1x4, .f32⟩
  | 35 => ⟨S_, .f32⟩
  | 36 => ⟨S1x8192x1x4, .f32⟩
  | 37 => ⟨S1x8192x1x4, .f32⟩
  | 38 => ⟨S1x8192x3x4x1, .f32⟩
  | 39 => ⟨S1x8192x1x4x64, .f32⟩
  | 40 => ⟨S1x8192x1x4x64, .f32⟩
  | 41 => ⟨S1x8192x1x4x64, .f32⟩
  | 42 => ⟨S1x8192x3x4x64, .f32⟩
  | 43 => ⟨S_, .f32⟩
  | 44 => ⟨S1x8192x4x64, .f32⟩
  | 45 => ⟨S_, .f32⟩
  | 46 => ⟨S1x8192x4x64, .f32⟩
  | 47 => ⟨S1x8192x3x4x64, .f32⟩
  | 48 => ⟨S1x8192x3x4x64, .f32⟩
  | 49 => ⟨S_, .f32⟩
  | 50 => ⟨S1x8192x4x64, .f32⟩
  | 51 => ⟨S1x8192x3x4x64, .f32⟩
  | 52 => ⟨S1x8192x3x4x64, .f32⟩
  | 53 => ⟨S1x8192x3x4x64, .f32⟩
  | 54 => ⟨S1x8192x3x4x64, .f32⟩
  | 55 => ⟨S_, .f32⟩
  | 56 => ⟨S1x8192x3x4, .f32⟩
  | 57 => ⟨S1x8192x3x4x1, .f32⟩
  | 58 => ⟨S1x8192x1x4x64, .f32⟩
  | 59 => ⟨S1x8192x4x64, .f32⟩
  | 60 => ⟨S1x8192x1x4x64, .f32⟩
  | 61 => ⟨S1x8192x4x64, .f32⟩
  | 62 => ⟨S1x8192x1x4x64, .f32⟩
  | 63 => ⟨S1x8192x4x64, .f32⟩
  | 64 => ⟨S_, .f32⟩
  | 65 => ⟨S8192x3x4, .f32⟩
  | 66 => ⟨S1x8192x3x4, .f32⟩
  | 67 => ⟨S1x8192x3x4, .f32⟩
  | 68 => ⟨S1x8192x3x4, .f32⟩
  | 69 => ⟨S1x8192x3x4, .f32⟩
  | 70 => ⟨S_, .f32⟩
  | 71 => ⟨S1x8192x4, .f32⟩
  | 72 => ⟨S1x8192x1x4, .f32⟩
  | 73 => ⟨S1x8192x1x4, .f32⟩
  | 74 => ⟨S1x8192x3x4, .f32⟩
  | 75 => ⟨S1x8192x3x4, .f32⟩
  | 76 => ⟨S_, .f32⟩
  | 77 => ⟨S8192x4, .f32⟩
  | 78 => ⟨S1x8192x4, .f32⟩
  | 79 => ⟨S1x8192x3x4, .f32⟩
  | 80 => ⟨S1x8192x3x4, .f32⟩
  | 81 => ⟨S1x8192x3x4, .f32⟩
  | 82 => ⟨S1x8192x1x4, .f32⟩
  | 83 => ⟨S1x8192x4, .f32⟩
  | 84 => ⟨S1x8192x1x4, .f32⟩
  | 85 => ⟨S1x8192x4, .f32⟩
  | 86 => ⟨S1x8192x1x4, .f32⟩
  | 87 => ⟨S1x8192x4, .f32⟩
  | 88 => ⟨S1x512x16x4, .f32⟩
  | 89 => ⟨S1x16x512x4, .f32⟩
  | 90 => ⟨S16x512x4, .f32⟩
  | 91 => ⟨S16x4x128x4, .f32⟩
  | 92 => ⟨S16x4x4x128, .f32⟩
  | 93 => ⟨S1x512x16x4x64, .f32⟩
  | 94 => ⟨S1x16x512x4x64, .f32⟩
  | 95 => ⟨S16x4x128x4x64, .f32⟩
  | 96 => ⟨S16x4x4x128, .f32⟩
  | 97 => ⟨S16x4x4x128x1, .f32⟩
  | 98 => ⟨S16x4x128x4x64, .f32⟩
  | 99 => ⟨S16x4x128x4x64, .f32⟩
  | 100 => ⟨S16x4x128x4x64, .f32⟩
  | 101 => ⟨S_, .f32⟩
  | 102 => ⟨S16x4x128x4, .f32⟩
  | 103 => ⟨S16x4x128x4x1, .f32⟩
  | 104 => ⟨S16x4x128x4x1, .f32⟩
  | 105 => ⟨S16x4x128x4x64, .f32⟩
  | 106 => ⟨S16x4x128x4x64, .f32⟩
  | 107 => ⟨S_, .f32⟩
  | 108 => ⟨S16x4x128x4, .f32⟩
  | 109 => ⟨S16x4x4x128, .f32⟩
  | 110 => ⟨S16x4x4x128, .f32⟩
  | 111 => ⟨S16x4x4x64x128, .f32⟩
  | 112 => ⟨S16x4x4x128x256, .f32⟩
  | 113 => ⟨S16x4x4x128x256, .f32⟩
  | 114 => ⟨S16x4x4x64x256, .f32⟩
  | 115 => ⟨S16x4x256x4x64, .f32⟩
  | 116 => ⟨S16x4x4x128x256, .f32⟩
  | 117 => ⟨S16x4x4x128x256, .f32⟩
  | 118 => ⟨S16x4x4x128x256, .f32⟩
  | 119 => ⟨S16x4x4x128x256, .f32⟩
  | 120 => ⟨S_, .f32⟩
  | 121 => ⟨S16x4x4x128, .f32⟩
  | 122 => ⟨S16x4x4x128x1, .f32⟩
  | 123 => ⟨S16x4x4x128x1, .f32⟩
  | 124 => ⟨S_, .f32⟩
  | 125 => ⟨S16x4x4x128, .f32⟩
  | 126 => ⟨S16x4x4x128, .f32⟩
  | 127 => ⟨S16x4x4x128x256, .f32⟩
  | _ => ⟨S1x8192x4x64, .f32⟩

abbrev hbmTy0_2 (i : Nat) : BufTy := match i % 128 with
  | 0 => ⟨S16x4x4x128x256, .f32⟩
  | 1 => ⟨S16x4x4x128x256, .f32⟩
  | 2 => ⟨S_, .f32⟩
  | 3 => ⟨S16x4x4x128x256, .f32⟩
  | 4 => ⟨S16x4x4x128x256, .f32⟩
  | 5 => ⟨S_, .f32⟩
  | 6 => ⟨S4x128x256, .f32⟩
  | 7 => ⟨S1x4x1x128x256, .f32⟩
  | 8 => ⟨S_, .f32⟩
  | 9 => ⟨S4x128x256, .f32⟩
  | 10 => ⟨S16x4x4x256x64, .f32⟩
  | 11 => ⟨S16x4x256x4x64, .f32⟩
  | 12 => ⟨S16x4x4x128x64, .f32⟩
  | 13 => ⟨S16x4x128x4x64, .f32⟩
  | 14 => ⟨S16x4x128x4x64, .f32⟩
  | 15 => ⟨S16x4x128x4x64, .f32⟩
  | 16 => ⟨S16x1x128x4x64, .f32⟩
  | 17 => ⟨S16x3x128x4x64, .f32⟩
  | 18 => ⟨S_, .f32⟩
  | 19 => ⟨S16x4x128x4x64, .f32⟩
  | 20 => ⟨S16x4x128x4x64, .f32⟩
  | 21 => ⟨S16x512x4x64, .f32⟩
  | 22 => ⟨S1x16x512x4x64, .f32⟩
  | 23 => ⟨S1x512x16x4x64, .f32⟩
  | 24 => ⟨S1x8192x4x64, .f32⟩
  | 25 => ⟨S16x4x128x4x64, .f32⟩
  | 26 => ⟨S16x4x128x4x64, .f32⟩
  | 27 => ⟨S16x1x128x4x64, .f32⟩
  | 28 => ⟨S16x3x128x4x64, .f32⟩
  | 29 => ⟨S_, .f32⟩
  | 30 => ⟨S16x4x128x4x64, .f32⟩
  | 31 => ⟨S16x4x128x4x64, .f32⟩
  | 32 => ⟨S16x512x4x64, .f32⟩
  | 33 => ⟨S1x16x512x4x64, .f32⟩
  | 34 => ⟨S1x512x16x4x64, .f32⟩
  | 35 => ⟨S1x8192x4x64, .f32⟩
  | 36 => ⟨S16x512x4x64, .f32⟩
  | 37 => ⟨S1x16x512x4x64, .f32⟩
  | 38 => ⟨S1x512x16x4x64, .f32⟩
  | 39 => ⟨S1x8192x4x64, .f32⟩
  | 40 => ⟨S_, .f32⟩
  | 41 => ⟨S1x8192x4x64, .f32⟩
  | 42 => ⟨S1x8192x4x64, .f32⟩
  | 43 => ⟨S512x16x256, .f32⟩
  | 44 => ⟨S16x512x256, .f32⟩
  | 45 => ⟨S16x512x256, .bf16⟩
  | 46 => ⟨S512x16x256, .f32⟩
  | 47 => ⟨S16x512x256, .f32⟩
  | 48 => ⟨S16x512x256, .bf16⟩
  | 49 => ⟨S512x16x256, .f32⟩
  | 50 => ⟨S16x512x256, .f32⟩
  | 51 => ⟨S16x512x256, .bf16⟩
  | _ => ⟨S1x8192x4x64, .f32⟩

abbrev hbmTy (i : Nat) : BufTy := match i / 128 with
  | 0 => hbmTy0_0 i
  | 1 => hbmTy0_1 i
  | 2 => hbmTy0_2 i
  | _ => ⟨S1x8192x4x64, .f32⟩

abbrev bufTy : (tb : Table) → Fin (tcTables nBuf tb) → BufTy
  | .hbm, ⟨i, _⟩ => hbmTy i
  | _, _ => ⟨S1x8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_call0_v0 : Ref sig .tc := ⟨.hbm, 79, rfl⟩
abbrev main_v59_1 : Ref sig .tc := ⟨.hbm, 80, rfl⟩
abbrev main_call0_v2 : Ref sig .tc := ⟨.hbm, 81, rfl⟩
abbrev main_v59_0 : Ref sig .tc := ⟨.hbm, 82, rfl⟩
abbrev main_call0_cst : Ref sig .tc := ⟨.hbm, 83, rfl⟩
abbrev main_v59_2 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_11 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_12 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_13 : Ref sig .tc := ⟨.hbm, 124, rfl⟩
abbrev main_v95 : Ref sig .tc := ⟨.hbm, 125, rfl⟩
abbrev main_cst_14 : Ref sig .tc := ⟨.hbm, 126, rfl⟩
abbrev main_v96 : Ref sig .tc := ⟨.hbm, 127, rfl⟩
abbrev main_cst_15 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_16 : Ref sig .tc := ⟨.hbm, 134, rfl⟩
abbrev main_v102 : Ref sig .tc := ⟨.hbm, 135, rfl⟩
abbrev main_cst_17 : Ref sig .tc := ⟨.hbm, 136, rfl⟩
abbrev main_v103 : Ref sig .tc := ⟨.hbm, 137, rfl⟩
abbrev main_v104 : Ref sig .tc := ⟨.hbm, 138, rfl⟩
abbrev main_cst_18 : Ref sig .tc := ⟨.hbm, 139, rfl⟩
abbrev main_v105 : Ref sig .tc := ⟨.hbm, 140, rfl⟩
abbrev main_v106 : Ref sig .tc := ⟨.hbm, 141, rfl⟩
abbrev main_cst_19 : Ref sig .tc := ⟨.hbm, 142, rfl⟩
abbrev main_v107 : Ref sig .tc := ⟨.hbm, 143, rfl⟩
abbrev main_v108 : Ref sig .tc := ⟨.hbm, 144, rfl⟩
abbrev main_cst_20 : Ref sig .tc := ⟨.hbm, 145, rfl⟩
abbrev main_v109 : Ref sig .tc := ⟨.hbm, 146, rfl⟩
abbrev main_cst_21 : Ref sig .tc := ⟨.hbm, 147, rfl⟩
abbrev main_v110 : Ref sig .tc := ⟨.hbm, 148, rfl⟩
abbrev main_cst_22 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_23 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_24 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_cst_25 : Ref sig .tc := ⟨.hbm, 171, rfl⟩
abbrev main_v130 : Ref sig .tc := ⟨.hbm, 172, rfl⟩
abbrev main_cst_26 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_27 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_28 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_29 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_cst_30 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_cst_31 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_cst_32 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_cst_33 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_cst_34 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_cst_35 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_call1_cst : Ref sig .tc := ⟨.hbm, 258, rfl⟩
abbrev main_call1_v0 : Ref sig .tc := ⟨.hbm, 259, rfl⟩
abbrev main_v206 : Ref sig .tc := ⟨.hbm, 260, rfl⟩
abbrev main_cst_36 : Ref sig .tc := ⟨.hbm, 261, rfl⟩
abbrev main_v207 : Ref sig .tc := ⟨.hbm, 262, rfl⟩
abbrev main_v208 : Ref sig .tc := ⟨.hbm, 263, rfl⟩
abbrev main_cst_37 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_cst_38 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_cst_39 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_cst_40 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x704x1024 : Shape := ⟨3, ![4, 704, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩

abbrev nBuf : Space → Nat
  | .hbm => 46
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S2816x1024, .f32⟩
  | .hbm, ⟨23, _⟩ => ⟨S4x704x1024, .f32⟩
  | .hbm, ⟨24, _⟩ => ⟨S4x704x1024, .bf16⟩
  | .hbm, ⟨25, _⟩ => ⟨S2816x1024, .f32⟩
  | .hbm, ⟨26, _⟩ => ⟨S4x704x1024, .f32⟩
  | .hbm, ⟨27, _⟩ => ⟨S4x704x1024, .bf16⟩
  | .hbm, ⟨28, _⟩ => ⟨S4x704x1024, .f32⟩
  | .hbm, ⟨29, _⟩ => ⟨S4x704x1024, .bf16⟩
  | .hbm, ⟨30, _⟩ => ⟨S1x1024, .f32⟩
  | .hbm, ⟨31, _⟩ => ⟨S8192x2816, .f32⟩
  | .hbm, ⟨32, _⟩ => ⟨S8192x4x704, .f32⟩
  | .hbm, ⟨33, _⟩ => ⟨S4x8192x704, .f32⟩
  | .hbm, ⟨34, _⟩ => ⟨S4x8192x704, .bf16⟩
  | .hbm, ⟨35, _⟩ => ⟨S8192x2816, .f32⟩
  | .hbm, ⟨36, _⟩ => ⟨S8192x4x704, .f32⟩
  | .hbm, ⟨37, _⟩ => ⟨S4x8192x704, .f32⟩
  | .hbm, ⟨38, _⟩ => ⟨S4x8192x704, .bf16⟩
  | .hbm, ⟨39, _⟩ => ⟨S8192x1024, .f32⟩
  | .hbm, ⟨40, _⟩ => ⟨S4x8192x704, .bf16⟩
  | .hbm, ⟨41, _⟩ => ⟨S4x8192x704, .bf16⟩
  | .hbm, ⟨42, _⟩ => ⟨S4x8192x704, .bf16⟩
  | .hbm, ⟨43, _⟩ => ⟨S8192x1024, .bf16⟩
  | .hbm, ⟨44, _⟩ => ⟨S8192x1024, .bf16⟩
  | .hbm, ⟨45, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x704x1024, .bf16⟩
  | .local _ .vmem, ⟨10, _⟩ => ⟨S4x704x1024, .bf16⟩
  | .local _ .vmem, ⟨11, _⟩ => ⟨S4x704x1024, .bf16⟩
  | .local _ .vmem, ⟨12, _⟩ => ⟨S256x1024, .f32⟩
  | .local _ .vmem, ⟨13, _⟩ => ⟨S256x1024, .f32⟩
  | .local _ .vmem, ⟨14, _⟩ => ⟨S4x256x704, .bf16⟩
  | .local _ .vmem, ⟨15, _⟩ => ⟨S4x256x704, .bf16⟩
  | .local _ .vmem, ⟨16, _⟩ => ⟨S4x256x704, .bf16⟩
  | .local _ .vmem, ⟨17, _⟩ => ⟨S4x256x704, .bf16⟩
  | .local _ .vmem, ⟨18, _⟩ => ⟨S4x256x704, .bf16⟩
  | .local _ .vmem, ⟨19, _⟩ => ⟨S4x256x704, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev main_v30_4 : Ref sig .tc := ⟨.hbm, 43, rfl⟩
abbrev main_v30_5 : Ref sig .tc := ⟨.hbm, 44, rfl⟩
abbrev main_v30_6 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference2Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 158
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024x2816, .f32⟩
  | 4 => ⟨S1024x2816, .f32⟩
  | 5 => ⟨S2816x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x2816, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S_, .f32⟩
  | 33 => ⟨S8192x2816, .f32⟩
  | 34 => ⟨S8192x2816, .f32⟩
  | 35 => ⟨S_, .f32⟩
  | 36 => ⟨S8192x2816, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x2816, .f32⟩
  | 52 => ⟨S8192x2816, .f32⟩
  | 53 => ⟨S8192x2816, .f32⟩
  | 54 => ⟨S8192x1024, .f32⟩
  | 55 => ⟨S8192x2816, .f32⟩
  | 56 => ⟨S8192x2816, .f32⟩
  | 57 => ⟨S8192x2816, .f32⟩
  | 58 => ⟨S8192x2816, .f32⟩
  | 59 => ⟨S8192x1024, .f32⟩
  | 60 => ⟨S8192x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S_, .f32⟩
  | 68 => ⟨S1024, .f32⟩
  | 69 => ⟨S8192x1024, .f32⟩
  | 70 => ⟨S_, .f32⟩
  | 71 => ⟨S8192, .f32⟩
  | 72 => ⟨S8192x1, .f32⟩
  | 73 => ⟨S8192x1024, .f32⟩
  | 74 => ⟨S8192x1024, .f32⟩
  | 75 => ⟨S8192x1024, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1, .f32⟩
  | 98 => ⟨S8192x1024, .f32⟩
  | 99 => ⟨S8192x1024, .f32⟩
  | 100 => ⟨S1x1024, .f32⟩
  | 101 => ⟨S8192x1024, .f32⟩
  | 102 => ⟨S8192x1024, .f32⟩
  | 103 => ⟨S8192x2816, .f32⟩
  | 104 => ⟨S8192x2816, .f32⟩
  | 105 => ⟨S8192x2816, .f32⟩
  | 106 => ⟨S8192x2816, .f32⟩
  | 107 => ⟨S_, .f32⟩
  | 108 => ⟨S8192x2816, .f32⟩
  | 109 => ⟨S8192x2816, .f32⟩
  | 110 => ⟨S_, .f32⟩
  | 111 => ⟨S8192x2816, .f32⟩
  | 112 => ⟨S8192x2816, .f32⟩
  | 113 => ⟨S_, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S8192x1024, .f32⟩
  | 120 => ⟨S_, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x2816, .f32⟩
  | 2 => ⟨S8192x2816, .f32⟩
  | 3 => ⟨S8192x2816, .f32⟩
  | 4 => ⟨S8192x2816, .f32⟩
  | 5 => ⟨S8192x4x704, .f32⟩
  | 6 => ⟨S4x8192x704, .f32⟩
  | 7 => ⟨S4x8192x704, .bf16⟩
  | 8 => ⟨S8192x4x704, .f32⟩
  | 9 => ⟨S4x8192x704, .f32⟩
  | 10 => ⟨S4x8192x704, .bf16⟩
  | 11 => ⟨S8192x2816, .f32⟩
  | 12 => ⟨S8192x2816, .f32⟩
  | 13 => ⟨S_, .f32⟩
  | 14 => ⟨S8192x2816, .f32⟩
  | 15 => ⟨S8192x2816, .f32⟩
  | 16 => ⟨S_, .f32⟩
  | 17 => ⟨S8192x2816, .f32⟩
  | 18 => ⟨S8192x2816, .f32⟩
  | 19 => ⟨S8192x2816, .f32⟩
  | 20 => ⟨S8192x2816, .f32⟩
  | 21 => ⟨S8192x4x704, .f32⟩
  | 22 => ⟨S4x8192x704, .f32⟩
  | 23 => ⟨S4x8192x704, .bf16⟩
  | 24 => ⟨S8192x1024, .bf16⟩
  | 25 => ⟨S_, .f32⟩
  | 26 => ⟨S8192x1024, .f32⟩
  | 27 => ⟨S8192x1024, .f32⟩
  | 28 => ⟨S8192x1024, .bf16⟩
  | 29 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_call4_v0 : Ref sig .tc := ⟨.hbm, 139, rfl⟩
abbrev main_call4_v1 : Ref sig .tc := ⟨.hbm, 140, rfl⟩
abbrev main_call4_cst : Ref sig .tc := ⟨.hbm, 141, rfl⟩
abbrev main_call4_v2 : Ref sig .tc := ⟨.hbm, 142, rfl⟩
abbrev main_call4_v3 : Ref sig .tc := ⟨.hbm, 143, rfl⟩
abbrev main_call4_cst_0 : Ref sig .tc := ⟨.hbm, 144, rfl⟩
abbrev main_call4_v4 : Ref sig .tc := ⟨.hbm, 145, rfl⟩
abbrev main_call4_v5 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_15 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S1x8192x1024 : Shape := ⟨3, ![1, 8192, 1024]⟩
abbrev S4x704x1024 : Shape := ⟨3, ![4, 704, 1024]⟩
abbrev S1x4096x704 : Shape := ⟨3, ![1, 4096, 704]⟩
abbrev S1x4096x1024 : Shape := ⟨3, ![1, 4096, 1024]⟩
abbrev S1x704x1024 : Shape := ⟨3, ![1, 704, 1024]⟩
abbrev S704x1024 : Shape := ⟨2, ![704, 1024]⟩
abbrev S4096x704 : Shape := ⟨2, ![4096, 704]⟩
abbrev S4096x1024 : Shape := ⟨2, ![4096, 1024]⟩

abbrev nBuf : Space → Nat
  | .hbm => 58
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x4x704, .f32⟩
  | .hbm, ⟨53, _⟩ => ⟨S4x8192x704, .f32⟩
  | .hbm, ⟨54, _⟩ => ⟨S4x8192x704, .bf16⟩
  | .hbm, ⟨55, _⟩ => ⟨S8192x1024, .bf16⟩
  | .hbm, ⟨56, _⟩ => ⟨S1x8192x1024, .bf16⟩
  | .hbm, ⟨57, _⟩ => ⟨S4x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x704x1024, .f32⟩
  | .local _ .vmem, ⟨5, _⟩ => ⟨S1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S4x704x1024 : Shape := ⟨3, ![4, 704, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S2816x1024, .f32⟩
  | .hbm, ⟨53, _⟩ => ⟨S1024x2816, .f32⟩
  | .hbm, ⟨54, _⟩ => ⟨S2816x1024, .f32⟩
  | .hbm, ⟨55, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S1x8192x1024 : Shape := ⟨3, ![1, 8192, 1024]⟩
abbrev S4x704x1024 : Shape := ⟨3, ![4, 704, 1024]⟩
abbrev S1x4096x704 : Shape := ⟨3, ![1, 4096, 704]⟩
abbrev S1x4096x1024 : Shape := ⟨3, ![1, 4096, 1024]⟩
abbrev S1x704x1024 : Shape := ⟨3, ![1, 704, 1024]⟩
abbrev S704x1024 : Shape := ⟨2, ![704, 1024]⟩
abbrev S4096x704 : Shape := ⟨2, ![4096, 704]⟩
abbrev S4096x1024 : Shape := ⟨2, ![4096, 1024]⟩

abbrev nBuf : Space → Nat
  | .hbm => 58
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x4x704, .f32⟩
  | .hbm, ⟨53, _⟩ => ⟨S4x8192x704, .f32⟩
  | .hbm, ⟨54, _⟩ => ⟨S4x8192x704, .bf16⟩
  | .hbm, ⟨55, _⟩ => ⟨S8192x1024, .bf16⟩
  | .hbm, ⟨56, _⟩ => ⟨S1x8192x1024, .bf16⟩
  | .hbm, ⟨57, _⟩ => ⟨S4x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x704x1024, .f32⟩
  | .local _ .vmem, ⟨5, _⟩ => ⟨S1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S4x704x1024 : Shape := ⟨3, ![4, 704, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x2816, .f32⟩
  | .hbm, ⟨43, _⟩ => ⟨S8192x2816, .f32⟩
  | .hbm, ⟨44, _⟩ => ⟨S2816x1024, .f32⟩
  | .hbm, ⟨45, _⟩ => ⟨S1024x2816, .f32⟩
  | .hbm, ⟨46, _⟩ => ⟨S2816x1024, .f32⟩
  | .hbm, ⟨47, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S1x8192x1024 : Shape := ⟨3, ![1, 8192, 1024]⟩
abbrev S4x704x1024 : Shape := ⟨3, ![4, 704, 1024]⟩
abbrev S1x4096x704 : Shape := ⟨3, ![1, 4096, 704]⟩
abbrev S1x4096x1024 : Shape := ⟨3, ![1, 4096, 1024]⟩
abbrev S1x704x1024 : Shape := ⟨3, ![1, 704, 1024]⟩
abbrev S704x1024 : Shape := ⟨2, ![704, 1024]⟩
abbrev S4096x704 : Shape := ⟨2, ![4096, 704]⟩
abbrev S4096x1024 : Shape := ⟨2, ![4096, 1024]⟩

abbrev nBuf : Space → Nat
  | .hbm => 43
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x4x704, .f32⟩
  | .hbm, ⟨35, _⟩ => ⟨S4x8192x704, .f32⟩
  | .hbm, ⟨36, _⟩ => ⟨S4x8192x704, .bf16⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .bf16⟩
  | .hbm, ⟨41, _⟩ => ⟨S1x8192x1024, .bf16⟩
  | .hbm, ⟨42, _⟩ => ⟨S4x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x704x1024, .f32⟩
  | .local _ .vmem, ⟨5, _⟩ => ⟨S1x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S4x704x1024 : Shape := ⟨3, ![4, 704, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S1024x2816, .f32⟩
  | .hbm, ⟨43, _⟩ => ⟨S2816x1024, .f32⟩
  | .hbm, ⟨44, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Kernel6.lean ====
abbrev S8192x4864 : Shape := ⟨2, ![8192, 4864]⟩
abbrev S8192x1024 : Shape := ⟨2, ![8192, 1024]⟩
abbrev S1024 : Shape := ⟨1, ![1024]⟩
abbrev S1024x4864 : Shape := ⟨2, ![1024, 4864]⟩
abbrev S1x8192x4864 : Shape := ⟨3, ![1, 8192, 4864]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x8192x1024 : Shape := ⟨3, ![1, 8192, 1024]⟩
abbrev S1x4864x1024 : Shape := ⟨3, ![1, 4864, 1024]⟩
abbrev S1x1024x4864 : Shape := ⟨3, ![1, 1024, 4864]⟩
abbrev S1x1024x512 : Shape := ⟨3, ![1, 1024, 512]⟩
abbrev S1x4864x512 : Shape := ⟨3, ![1, 4864, 512]⟩
abbrev S4864x512 : Shape := ⟨2, ![4864, 512]⟩
abbrev S1024x512 : Shape := ⟨2, ![1024, 512]⟩

abbrev nBuf : Space → Nat
  | .hbm => 25
  | .vmem => 6
  | .smem => 0
  | _ => 0

abbrev bufTy : (tb : Table) → Fin (tcTables nBuf tb) → BufTy
  | .hbm, ⟨0, _⟩ => ⟨S8192x4864, .f32⟩
  | .hbm, ⟨1, _⟩ => ⟨S8192x1024, .f32⟩
  | .hbm, ⟨2, _⟩ => ⟨S1024, .f32⟩
  | .hbm, ⟨3, _⟩ => ⟨S1024x4864, .f32⟩
  | .hbm, ⟨4, _⟩ => ⟨S8192x4864, .bf16⟩
  | .hbm, ⟨5, _⟩ => ⟨S1x8192x4864, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1x8192x1024, .bf16⟩
  | .hbm, ⟨24, _⟩ => ⟨S1x4864x1024, .f32⟩
  | .local _ .vmem, ⟨0, _⟩ => ⟨S1x1024x4864, .bf16⟩
  | .local _ .vmem, ⟨1, _⟩ => ⟨S1x1024x4864, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x4864x512, .f32⟩
  | .local _ .vmem, ⟨5, _⟩ => ⟨S1x4864x512, .f32⟩
  | _, _ => ⟨S8192x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x4864 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x4864x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x4864 : Shape := ⟨2, ![8192, 4864]⟩
abbrev S8192x1024 : Shape := ⟨2, ![8192, 1024]⟩
abbrev S1024 : Shape := ⟨1, ![1024]⟩
abbrev S1024x4864 : Shape := ⟨2, ![1024, 4864]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4864x1024 : Shape := ⟨2, ![4864, 1024]⟩
abbrev S1x4864x1024 : Shape := ⟨3, ![1, 4864, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x4864, .f32⟩
  | .hbm, ⟨1, _⟩ => ⟨S8192x1024, .f32⟩
  | .hbm, ⟨2, _⟩ => ⟨S1024, .f32⟩
  | .hbm, ⟨3, _⟩ => ⟨S1024x4864, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4864, .f32⟩
  | .hbm, ⟨21, _⟩ => ⟨S4864x1024, .f32⟩
  | .hbm, ⟨22, _⟩ => ⟨S1024x4864, .f32⟩
  | .hbm, ⟨23, _⟩ => ⟨S4864x1024, .f32⟩
  | .hbm, ⟨24, _⟩ => ⟨S1x4864x1024, .f32⟩
  | _, _ => ⟨S8192x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel7.lean ====
abbrev S8192x1024 : Shape := ⟨2, ![8192, 1024]⟩
abbrev S8192x256 : Shape := ⟨2, ![8192, 256]⟩
abbrev S8192x512 : Shape := ⟨2, ![8192, 512]⟩
abbrev S8192x2048 : Shape := ⟨2, ![8192, 2048]⟩
abbrev S2048 : Shape := ⟨1, ![2048]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩
abbrev S1x8192x1024 : Shape := ⟨3, ![1, 8192, 1024]⟩
abbrev S1x1024x1024 : Shape := ⟨3, ![1, 1024, 1024]⟩
abbrev S1x2048x1024 : Shape := ⟨3, ![1, 2048, 1024]⟩
abbrev S2048x1024 : Shape := ⟨2, ![2048, 1024]⟩

abbrev nBuf : Space → Nat
  | .hbm => 73
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x2048, .f32⟩
  | .hbm, ⟨4, _⟩ => ⟨S2048, .f32⟩
  | .hbm, ⟨5, _⟩ => ⟨S256x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x1024, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | .hbm, ⟨70, _⟩ => ⟨S1x8192x1024, .bf16⟩
  | .hbm, ⟨71, _⟩ => ⟨S1x8192x1024, .f32⟩
  | .hbm, ⟨72, _⟩ => ⟨S1x1024x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x256 : Shape := ⟨2, ![8192, 256]⟩
abbrev S8192x512 : Shape := ⟨2, ![8192, 512]⟩
abbrev S8192x2048 : Shape := ⟨2, ![8192, 2048]⟩
abbrev S2048 : Shape := ⟨1, ![2048]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩
abbrev S1x1024x1024 : Shape := ⟨3, ![1, 1024, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x2048, .f32⟩
  | .hbm, ⟨4, _⟩ => ⟨S2048, .f32⟩
  | .hbm, ⟨5, _⟩ => ⟨S256x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x1024, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S1024x1024, .f32⟩
  | .hbm, ⟨71, _⟩ => ⟨S1024x1024, .f32⟩
  | .hbm, ⟨72, _⟩ => ⟨S1x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel8.lean ====
abbrev S8192x1024 : Shape := ⟨2, ![8192, 1024]⟩
abbrev S8192x256 : Shape := ⟨2, ![8192, 256]⟩
abbrev S8192x512 : Shape := ⟨2, ![8192, 512]⟩
abbrev S8192x2048 : Shape := ⟨2, ![8192, 2048]⟩
abbrev S2048 : Shape := ⟨1, ![2048]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩
abbrev S1x8192x256 : Shape := ⟨3, ![1, 8192, 256]⟩
abbrev S1x8192x1024 : Shape := ⟨3, ![1, 8192, 1024]⟩
abbrev S1x256x1024 : Shape := ⟨3, ![1, 256, 1024]⟩
abbrev S1x4096x256 : Shape := ⟨3, ![1, 4096, 256]⟩
abbrev S1x4096x1024 : Shape := ⟨3, ![1, 4096, 1024]⟩
abbrev S4096x256 : Shape := ⟨2, ![4096, 256]⟩
abbrev S4096x1024 : Shape := ⟨2, ![4096, 1024]⟩

abbrev nBuf : Space → Nat
  | .hbm => 76
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x2048, .f32⟩
  | .hbm, ⟨4, _⟩ => ⟨S2048, .f32⟩
  | .hbm, ⟨5, _⟩ => ⟨S256x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x1024, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1x8192x256, .f32⟩
  | .hbm, ⟨73, _⟩ => ⟨S8192x1024, .bf16⟩
  | .hbm, ⟨74, _⟩ => ⟨S1x8192x1024, .bf16⟩
  | .hbm, ⟨75, _⟩ => ⟨S1x256x1024, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x1024, .bf16⟩
  | .local _ .vmem, ⟨3, _⟩ => ⟨S1x4096x1024, .bf16⟩
  | .local _ .vmem, ⟨4, _⟩ => ⟨S1x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x256 : Shape := ⟨2, ![8192, 256]⟩
abbrev S8192x512 : Shape := ⟨2, ![8192, 512]⟩
abbrev S8192x2048 : Shape := ⟨2, ![8192, 2048]⟩
abbrev S2048 : Shape := ⟨1, ![2048]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩
abbrev S1024x256 : Shape := ⟨2, ![1024, 256]⟩
abbrev S1x256x1024 : Shape := ⟨3, ![1, 256, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x2048, .f32⟩
  | .hbm, ⟨4, _⟩ => ⟨S2048, .f32⟩
  | .hbm, ⟨5, _⟩ => ⟨S256x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x1024, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1024x256, .f32⟩
  | .hbm, ⟨73, _⟩ => ⟨S256x1024, .f32⟩
  | .hbm, ⟨74, _⟩ => ⟨S1x256x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel9.lean ====
abbrev S8192x1024 : Shape := ⟨2, ![8192, 1024]⟩
abbrev S8192x256 : Shape := ⟨2, ![8192, 256]⟩
abbrev S8192x512 : Shape := ⟨2, ![8192, 512]⟩
abbrev S8192x2048 : Shape := ⟨2, ![8192, 2048]⟩
abbrev S2048 : Shape := ⟨1, ![2048]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩
abbrev S1x8192x512 : Shape := ⟨3, ![1, 8192, 512]⟩
abbrev S1x8192x1024 : Shape := ⟨3, ![1, 8192, 1024]⟩
abbrev S1x512x1024 : Shape := ⟨3, ![1, 512, 1024]⟩
abbrev S1x4096x512 : Shape := ⟨3, ![1, 4096, 512]⟩
abbrev S1x4096x1024 : Shape := ⟨3, ![1, 4096, 1024]⟩
abbrev S4096x512 : Shape := ⟨2, ![4096, 512]⟩
abbrev S4096x1024 : Shape := ⟨2, ![4096, 1024]⟩

abbrev nBuf : Space → Nat
  | .hbm => 77
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x2048, .f32⟩
  | .hbm, ⟨4, _⟩ => ⟨S2048, .f32⟩
  | .hbm, ⟨5, _⟩ => ⟨S256x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x1024, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x512, .bf16⟩
  | .hbm, ⟨73, _⟩ => ⟨S1x8192x512, .bf16⟩
  | .hbm, ⟨74, _⟩ => ⟨S8192x1024, .bf16⟩
  | .hbm, ⟨75, _⟩ => ⟨S1x8192x1024, .bf16⟩
  | .hbm, ⟨76, _⟩ => ⟨S1x512x1024, .f32⟩
  | .local _ .vmem, ⟨0, _⟩ => ⟨S1x4096x512, .bf16⟩
  | .local _ .vmem, ⟨1, _⟩ => ⟨S1x4096x512, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x256 : Shape := ⟨2, ![8192, 256]⟩
abbrev S8192x512 : Shape := ⟨2, ![8192, 512]⟩
abbrev S8192x2048 : Shape := ⟨2, ![8192, 2048]⟩
abbrev S2048 : Shape := ⟨1, ![2048]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩
abbrev S1024x512 : Shape := ⟨2, ![1024, 512]⟩
abbrev S1x512x1024 : Shape := ⟨3, ![1, 512, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x2048, .f32⟩
  | .hbm, ⟨4, _⟩ => ⟨S2048, .f32⟩
  | .hbm, ⟨5, _⟩ => ⟨S256x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x1024, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1024x512, .f32⟩
  | .hbm, ⟨73, _⟩ => ⟨S512x1024, .f32⟩
  | .hbm, ⟨74, _⟩ => ⟨S1x512x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel10.lean ====
abbrev S8192x1024 : Shape := ⟨2, ![8192, 1024]⟩
abbrev S8192x256 : Shape := ⟨2, ![8192, 256]⟩
abbrev S8192x512 : Shape := ⟨2, ![8192, 512]⟩
abbrev S8192x2048 : Shape := ⟨2, ![8192, 2048]⟩
abbrev S2048 : Shape := ⟨1, ![2048]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩
abbrev S1x8192x512 : Shape := ⟨3, ![1, 8192, 512]⟩
abbrev S1x8192x1024 : Shape := ⟨3, ![1, 8192, 1024]⟩
abbrev S1x512x1024 : Shape := ⟨3, ![1, 512, 1024]⟩
abbrev S1x4096x512 : Shape := ⟨3, ![1, 4096, 512]⟩
abbrev S1x4096x1024 : Shape := ⟨3, ![1, 4096, 1024]⟩
abbrev S4096x512 : Shape := ⟨2, ![4096, 512]⟩
abbrev S4096x1024 : Shape := ⟨2, ![4096, 1024]⟩

abbrev nBuf : Space → Nat
  | .hbm => 90
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x2048, .f32⟩
  | .hbm, ⟨4, _⟩ => ⟨S2048, .f32⟩
  | .hbm, ⟨5, _⟩ => ⟨S256x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x1024, .f32⟩
  | .hbm, ⟨27, _⟩ => ⟨S8192x1024, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x1024, .f32⟩
  | .hbm, ⟨44, _⟩ => ⟨S8192x1024, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S_, .f32⟩
  | .hbm, ⟨81, _⟩ => ⟨S8192x1024, .f32⟩
  | .hbm, ⟨82, _⟩ => ⟨S_, .f32⟩
  | .hbm, ⟨83, _⟩ => ⟨S8192x1024, .f32⟩
  | .hbm, ⟨84, _⟩ => ⟨S8192x1024, .f32⟩
  | .hbm, ⟨85, _⟩ => ⟨S8192x512, .bf16⟩
  | .hbm, ⟨86, _⟩ => ⟨S1x8192x512, .bf16⟩
  | .hbm, ⟨87, _⟩ => ⟨S8192x1024, .bf16⟩
  | .hbm, ⟨88, _⟩ => ⟨S1x8192x1024, .bf16⟩
  | .hbm, ⟨89, _⟩ => ⟨S1x512x1024, .f32⟩
  | .local _ .vmem, ⟨0, _⟩ => ⟨S1x4096x512, .bf16⟩
  | .local _ .vmem, ⟨1, _⟩ => ⟨S1x4096x512, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S8192x256 : Shape := ⟨2, ![8192, 256]⟩
abbrev S8192x512 : Shape := ⟨2, ![8192, 512]⟩
abbrev S8192x2048 : Shape := ⟨2, ![8192, 2048]⟩
abbrev S2048 : Shape := ⟨1, ![2048]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩
abbrev S1024x512 : Shape := ⟨2, ![1024, 512]⟩
abbrev S1x512x1024 : Shape := ⟨3, ![1, 512, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x2048, .f32⟩
  | .hbm, ⟨4, _⟩ => ⟨S2048, .f32⟩
  | .hbm, ⟨5, _⟩ => ⟨S256x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x1024, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S_, .f32⟩
  | .hbm, ⟨81, _⟩ => ⟨S8192x1024, .f32⟩
  | .hbm, ⟨82, _⟩ => ⟨S_, .f32⟩
  | .hbm, ⟨83, _⟩ => ⟨S8192x1024, .f32⟩
  | .hbm, ⟨84, _⟩ => ⟨S8192x1024, .f32⟩
  | .hbm, ⟨85, _⟩ => ⟨S1024x512, .f32⟩
  | .hbm, ⟨86, _⟩ => ⟨S512x1024, .f32⟩
  | .hbm, ⟨87, _⟩ => ⟨S1x512x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel11.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S4x8192x704 : Shape := ⟨3, ![4, 8192, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 17
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S4x704x1024, .f32⟩
  | .hbm, ⟨13, _⟩ => ⟨S4x704x1024, .bf16⟩
  | .hbm, ⟨14, _⟩ => ⟨S8192x1024, .f32⟩
  | .hbm, ⟨15, _⟩ => ⟨S4x8192x704, .bf16⟩
  | .hbm, ⟨16, _⟩ => ⟨S4x8192x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x2816, .f32⟩
  | .hbm, ⟨39, _⟩ => ⟨S8192x4x704, .f32⟩
  | .hbm, ⟨40, _⟩ => ⟨S4x8192x704, .f32⟩
  | .hbm, ⟨41, _⟩ => ⟨S4x8192x704, .bf16⟩
  | .hbm, ⟨42, _⟩ => ⟨S8192x2816, .f32⟩
  | .hbm, ⟨43, _⟩ => ⟨S8192x4x704, .f32⟩
  | .hbm, ⟨44, _⟩ => ⟨S4x8192x704, .f32⟩
  | .hbm, ⟨45, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel12.lean ====
abbrev S8192x1024 : Shape := ⟨2, ![8192, 1024]⟩
abbrev S8192x4864 : Shape := ⟨2, ![8192, 4864]⟩
abbrev S1024 : Shape := ⟨1, ![1024]⟩
abbrev S1024x4864 : Shape := ⟨2, ![1024, 4864]⟩
abbrev S8192x256 : Shape := ⟨2, ![8192, 256]⟩
abbrev S8192x1x256 : Shape := ⟨3, ![8192, 1, 256]⟩
abbrev S1x8192x256 : Shape := ⟨3, ![1, 8192, 256]⟩
abbrev S2048x4x256 : Shape := ⟨3, ![2048, 4, 256]⟩
abbrev S4x2048x256 : Shape := ⟨3, ![4, 2048, 256]⟩
abbrev S512x16x256 : Shape := ⟨3, ![512, 16, 256]⟩
abbrev S16x512x256 : Shape := ⟨3, ![16, 512, 256]⟩
abbrev S1x1024 : Shape := ⟨2, ![1, 1024]⟩
abbrev S8192x512 : Shape := ⟨2, ![8192, 512]⟩
abbrev S8192x2048 : Shape := ⟨2, ![8192, 2048]⟩
abbrev S4864x1024 : Shape := ⟨2, ![4864, 1024]⟩
abbrev S512x1024 : Shape := ⟨2, ![512, 1024]⟩
abbrev S1x512x256 : Shape := ⟨3, ![1, 512, 256]⟩
abbrev S4x128x256 : Shape := ⟨3, ![4, 128, 256]⟩
abbrev S16x32x256 : Shape := ⟨3, ![16, 32, 256]⟩
abbrev S512x512 : Shape := ⟨2, ![512, 512]⟩
abbrev S512x2048 : Shape := ⟨2, ![512, 2048]⟩
abbrev S512x4864 : Shape := ⟨2, ![512, 4864]⟩
abbrev S2x512x128 : Shape := ⟨3, ![2, 512, 128]⟩
abbrev S512 : Shape := ⟨1, ![512]⟩
abbrev S512x1 : Shape := ⟨2, ![512, 1]⟩
abbrev S512x256 : Shape := ⟨2, ![512, 256]⟩
abbrev S1x128x128 : Shape := ⟨3, ![1, 128, 128]⟩
abbrev S128x128 : Shape := ⟨2, ![128, 128]⟩
abbrev S1x512x128 : Shape := ⟨3, ![1, 512, 128]⟩
abbrev S512x128 : Shape := ⟨2, ![512, 128]⟩
abbrev S1x32x128 : Shape := ⟨3, ![1, 32, 128]⟩
abbrev S32x128 : Shape := ⟨2, ![32, 128]⟩

abbrev nBuf : Space → Nat
  | .hbm => 51
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S8192x4864, .f32⟩
  | .hbm, ⟨2, _⟩ => ⟨S8192x1024, .f32⟩
  | .hbm, ⟨3, _⟩ => ⟨S1024, .f32⟩
  | .hbm, ⟨4, _⟩ => ⟨S1024x4864, .f32⟩
  | .hbm, ⟨5, _⟩ => ⟨S8192x256, .f32⟩
  | .hbm, ⟨6, _⟩ => ⟨S8192x1x256, .f32⟩
  | .hbm, ⟨7, _⟩ => ⟨S1x8192x256, .f32⟩
  | .hbm, ⟨8, _⟩ => ⟨S1x8192x256, .bf16⟩
  | .hbm, ⟨9, _⟩ => ⟨S8192x256, .f32⟩
  | .hbm, ⟨10, _⟩ => ⟨S2048x4x256, .f32⟩
  | .hbm, ⟨11, _⟩ => ⟨S4x2048x256, .f32⟩
  | .hbm, ⟨12, _⟩ => ⟨S4x2048x256, .bf16⟩
  | .hbm, ⟨13, _⟩ => ⟨S8192x256, .f32⟩
  | .hbm, ⟨14, _⟩ => ⟨S512x16x256, .f32⟩
  | .hbm, ⟨15, _⟩ => ⟨S16x512x256, .f32⟩
  | .hbm, ⟨16, _⟩ => ⟨S16x512x256, .bf16⟩
  | .hbm, ⟨17, _⟩ => ⟨S8192x256, .f32⟩
  | .hbm, ⟨18, _⟩ => ⟨S8192x1x256, .f32⟩
  | .hbm, ⟨19, _⟩ => ⟨S1x8192x256, .f32⟩
  | .hbm, ⟨20, _⟩ => ⟨S1x8192x256, .bf16⟩
  | .hbm, ⟨21, _⟩ => ⟨S8192x256, .f32⟩
  | .hbm, ⟨22, _⟩ => ⟨S2048x4x256, .f32⟩
  | .hbm, ⟨23, _⟩ => ⟨S4x2048x256, .f32⟩
  | .hbm, ⟨24, _⟩ => ⟨S4x2048x256, .bf16⟩
  | .hbm, ⟨25, _⟩ => ⟨S8192x256, .f32⟩
  | .hbm, ⟨26, _⟩ => ⟨S512x16x256, .f32⟩
  | .hbm, ⟨27, _⟩ => ⟨S16x512x256, .f32⟩
  | .hbm, ⟨28, _⟩ => ⟨S16x512x256, .bf16⟩
  | .hbm, ⟨29, _⟩ => ⟨S8192x256, .f32⟩
  | .hbm, ⟨30, _⟩ => ⟨S8192x1x256, .f32⟩
  | .hbm, ⟨31, _⟩ => ⟨S1x8192x256, .f32⟩
  | .hbm, ⟨32, _⟩ => ⟨S1x8192x256, .bf16⟩
  | .hbm, ⟨33, _⟩ => ⟨S8192x256, .f32⟩
  | .hbm, ⟨34, _⟩ => ⟨S2048x4x256, .f32⟩
  | .hbm, ⟨35, _⟩ => ⟨S4x2048x256, .f32⟩
  | .hbm, ⟨36, _⟩ => ⟨S4x2048x256, .bf16⟩
  | .hbm, ⟨37, _⟩ => ⟨S8192x256, .f32⟩
  | .hbm, ⟨38, _⟩ => ⟨S512x16x256, .f32⟩
  | .hbm, ⟨39, _⟩ => ⟨S16x512x256, .f32⟩
  | .hbm, ⟨40, _⟩ => ⟨S16x512x256, .bf16⟩
  | .hbm, ⟨41, _⟩ => ⟨S1x1024, .f32⟩
  | .hbm, ⟨42, _⟩ => ⟨S8192x512, .f32⟩
  | .hbm, ⟨43, _⟩ => ⟨S8192x2048, .f32⟩
  | .hbm, ⟨44, _⟩ => ⟨S8192x2048, .bf16⟩
  | .hbm, ⟨45, _⟩ => ⟨S4864x1024, .f32⟩
  | .hbm, ⟨46, _⟩ => ⟨S4864x1024, .bf16⟩
  | .hbm, ⟨47, _⟩ => ⟨S8192x1024, .f32⟩
  | .hbm, ⟨48, _⟩ => ⟨S8192x1024, .bf16⟩
  | .hbm, ⟨49, _⟩ => ⟨S8192x4864, .bf16⟩
  | .hbm, ⟨50, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x512x256, .bf16⟩
  | .local _ .vmem, ⟨6, _⟩ => ⟨S1x512x256, .bf16⟩
  | .local _ .vmem, ⟨7, _⟩ => ⟨S4x128x256, .bf16⟩
  | .local _ .vmem, ⟨8, _⟩ => ⟨S4x128x256, .bf16⟩
  | .local _ .vmem, ⟨9, _⟩ => ⟨S16x32x256, .bf16⟩
  | .local _ .vmem, ⟨10, _⟩ => ⟨S16x32x256, .bf16⟩
  | .local _ .vmem, ⟨11, _⟩ => ⟨S1x512x256, .bf16⟩
  | .local _ .vmem, ⟨12, _⟩ => ⟨S1x512x256, .bf16⟩
  | .local _ .vmem, ⟨13, _⟩ => ⟨S4x128x256, .bf16⟩
  | .local _ .vmem, ⟨14, _⟩ => ⟨S4x128x256, .bf16⟩
  | .local _ .vmem, ⟨15, _⟩ => ⟨S16x32x256, .bf16⟩
  | .local _ .vmem, ⟨16, _⟩ => ⟨S16x32x256, .bf16⟩
  | .local _ .vmem, ⟨17, _⟩ => ⟨S1x512x256, .bf16⟩
  | .local _ .vmem, ⟨18, _⟩ => ⟨S1x512x256, .bf16⟩
  | .local _ .vmem, ⟨19, _⟩ => ⟨S4x128x256, .bf16⟩
  | .local _ .vmem, ⟨20, _⟩ => ⟨S4x128x256, .bf16⟩
  | .local _ .vmem, ⟨21, _⟩ => ⟨S16x32x256, .bf16⟩
  | .local _ .vmem, ⟨22, _⟩ => ⟨S16x32x256, .bf16⟩
  | .local _ .vmem, ⟨23, _⟩ => ⟨S512x512, .f32⟩
  | .local _ .vmem, ⟨24, _⟩ => ⟨S512x512, .f32⟩
  | .local _ .vmem, ⟨25, _⟩ => ⟨S512x2048, .bf16⟩
  | .local _ .vmem, ⟨26, _⟩ => ⟨S512x2048, .bf16⟩
  | .local _ .vmem, ⟨27, _⟩ => ⟨S4864x1024, .bf16⟩
  | .local _ .vmem, ⟨28, _⟩ => ⟨S512x1024, .f32⟩
  | .local _ .vmem, ⟨29, _⟩ => ⟨S512x1024, .f32⟩
  | .local _ .vmem, ⟨30, _⟩ => ⟨S512x1024, .bf16⟩
  | .local _ .vmem, ⟨31, _⟩ => ⟨S512x1024, .bf16⟩
  | .local _ .vmem, ⟨32, _⟩ => ⟨S512x4864, .bf16⟩
  | .local _ .vmem, ⟨33, _⟩ => ⟨S512x4864, .bf16⟩
  | .local _ .vmem, ⟨34, _⟩ => ⟨S1x1024, .f32⟩
  | .local _ .vmem, ⟨35, _⟩ => ⟨S2x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42_0 : Ref sig .tc := ⟨.hbm, 47, rfl⟩
abbrev main_v42_1 : Ref sig .tc := ⟨.hbm, 48, rfl⟩
abbrev main_v42_2 : Ref sig .tc := ⟨.hbm, 49, rfl⟩
abbrev main_v42_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x32x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x32x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S4864x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x4864 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference12Ideal.lean ====
abbrev S8192x1024 : Shape := ⟨2, ![8192, 1024]⟩
abbrev S8192x4864 : Shape := ⟨2, ![8192, 4864]⟩
abbrev S1024 : Shape := ⟨1, ![1024]⟩
abbrev S1024x4864 : Shape := ⟨2, ![1024, 4864]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4864, .f32⟩
  | .hbm, ⟨2, _⟩ => ⟨S8192x1024, .f32⟩
  | .hbm, ⟨3, _⟩ => ⟨S1024, .f32⟩
  | .hbm, ⟨4, _⟩ => ⟨S1024x4864, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4864, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | .hbm, ⟨70, _⟩ => ⟨S8192x4864, .bf16⟩
  | .hbm, ⟨71, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Kernel13.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8x128, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference13Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel14.lean ====
abbrev S8192x1024 : Shape := ⟨2, ![8192, 1024]⟩
abbrev S1024 : Shape := ⟨1, ![1024]⟩
abbrev S1024x4864 : Shape := ⟨2, ![1024, 4864]⟩
abbrev S2048 : Shape := ⟨1, ![2048]⟩
abbrev S1x1024 : Shape := ⟨2, ![1, 1024]⟩
abbrev S4864x1024 : Shape := ⟨2, ![4864, 1024]⟩
abbrev S1x2048 : Shape := ⟨2, ![1, 2048]⟩
abbrev S1x8192x256 : Shape := ⟨3, ![1, 8192, 256]⟩
abbrev S4x2048x256 : Shape := ⟨3, ![4, 2048, 256]⟩
abbrev S16x512x256 : Shape := ⟨3, ![16, 512, 256]⟩
abbrev S8192x512 : Shape := ⟨2, ![8192, 512]⟩
abbrev S8192x2048 : Shape := ⟨2, ![8192, 2048]⟩
abbrev S512x1024 : Shape := ⟨2, ![512, 1024]⟩
abbrev S1x512x256 : Shape := ⟨3, ![1, 512, 256]⟩
abbrev S4x128x256 : Shape := ⟨3, ![4, 128, 256]⟩
abbrev S16x32x256 : Shape := ⟨3, ![16, 32, 256]⟩
abbrev S512x512 : Shape := ⟨2, ![512, 512]⟩
abbrev S512x2048 : Shape := ⟨2, ![512, 2048]⟩
abbrev S2x512x128 : Shape := ⟨3, ![2, 512, 128]⟩
abbrev S512 : Shape := ⟨1, ![512]⟩
abbrev S512x1 : Shape := ⟨2, ![512, 1]⟩
abbrev S768x1024 : Shape := ⟨2, ![768, 1024]⟩
abbrev S512x768 : Shape := ⟨2, ![512, 768]⟩
abbrev S512x256 : Shape := ⟨2, ![512, 256]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩
abbrev S2048x1024 : Shape := ⟨2, ![2048, 1024]⟩

abbrev nBuf : Space → Nat
  | .hbm => 19
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4864, .f32⟩
  | .hbm, ⟨3, _⟩ => ⟨S2048, .f32⟩
  | .hbm, ⟨4, _⟩ => ⟨S1x1024, .f32⟩
  | .hbm, ⟨5, _⟩ => ⟨S4864x1024, .f32⟩
  | .hbm, ⟨6, _⟩ => ⟨S4864x1024, .bf16⟩
  | .hbm, ⟨7, _⟩ => ⟨S1x2048, .f32⟩
  | .hbm, ⟨8, _⟩ => ⟨S1x8192x256, .bf16⟩
  | .hbm, ⟨9, _⟩ => ⟨S4x2048x256, .bf16⟩
  | .hbm, ⟨10, _⟩ => ⟨S16x512x256, .bf16⟩
  | .hbm, ⟨11, _⟩ => ⟨S1x8192x256, .bf16⟩
  | .hbm, ⟨12, _⟩ => ⟨S4x2048x256, .bf16⟩
  | .hbm, ⟨13, _⟩ => ⟨S16x512x256, .bf16⟩
  | .hbm, ⟨14, _⟩ => ⟨S1x8192x256, .bf16⟩
  | .hbm, ⟨15, _⟩ => ⟨S4x2048x256, .bf16⟩
  | .hbm, ⟨16, _⟩ => ⟨S16x512x256, .bf16⟩
  | .hbm, ⟨17, _⟩ => ⟨S8192x512, .f32⟩
  | .hbm, ⟨18, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4864x1024, .bf16⟩
  | .local _ .vmem, ⟨4, _⟩ => ⟨S1x2048, .f32⟩
  | .local _ .vmem, ⟨5, _⟩ => ⟨S1x512x256, .bf16⟩
  | .local _ .vmem, ⟨6, _⟩ => ⟨S1x512x256, .bf16⟩
  | .local _ .vmem, ⟨7, _⟩ => ⟨S4x128x256, .bf16⟩
  | .local _ .vmem, ⟨8, _⟩ => ⟨S4x128x256, .bf16⟩
  | .local _ .vmem, ⟨9, _⟩ => ⟨S16x32x256, .bf16⟩
  | .local _ .vmem, ⟨10, _⟩ => ⟨S16x32x256, .bf16⟩
  | .local _ .vmem, ⟨11, _⟩ => ⟨S1x512x256, .bf16⟩
  | .local _ .vmem, ⟨12, _⟩ => ⟨S1x512x256, .bf16⟩
  | .local _ .vmem, ⟨13, _⟩ => ⟨S4x128x256, .bf16⟩
  | .local _ .vmem, ⟨14, _⟩ => ⟨S4x128x256, .bf16⟩
  | .local _ .vmem, ⟨15, _⟩ => ⟨S16x32x256, .bf16⟩
  | .local _ .vmem, ⟨16, _⟩ => ⟨S16x32x256, .bf16⟩
  | .local _ .vmem, ⟨17, _⟩ => ⟨S1x512x256, .bf16⟩
  | .local _ .vmem, ⟨18, _⟩ => ⟨S1x512x256, .bf16⟩
  | .local _ .vmem, ⟨19, _⟩ => ⟨S4x128x256, .bf16⟩
  | .local _ .vmem, ⟨20, _⟩ => ⟨S4x128x256, .bf16⟩
  | .local _ .vmem, ⟨21, _⟩ => ⟨S16x32x256, .bf16⟩
  | .local _ .vmem, ⟨22, _⟩ => ⟨S16x32x256, .bf16⟩
  | .local _ .vmem, ⟨23, _⟩ => ⟨S512x512, .f32⟩
  | .local _ .vmem, ⟨24, _⟩ => ⟨S512x512, .f32⟩
  | .local _ .vmem, ⟨25, _⟩ => ⟨S512x2048, .f32⟩
  | .local _ .vmem, ⟨26, _⟩ => ⟨S512x2048, .f32⟩
  | .local _ .vmem, ⟨27, _⟩ => ⟨S2x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev main_v4_6 : Ref sig .tc := ⟨.hbm, 14, rfl⟩
abbrev main_v4_7 : Ref sig .tc := ⟨.hbm, 15, rfl⟩
abbrev main_v4_8 : Ref sig .tc := ⟨.hbm, 16, rfl⟩
abbrev main_v4_9 : Ref sig .tc := ⟨.hbm, 17, rfl⟩
abbrev main_v4_10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4864x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x32x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x32x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x32x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference14Ideal.lean ====
abbrev S8192x1024 : Shape := ⟨2, ![8192, 1024]⟩
abbrev S1024 : Shape := ⟨1, ![1024]⟩
abbrev S1024x4864 : Shape := ⟨2, ![1024, 4864]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4864 : Shape := ⟨2, ![8192, 4864]⟩
abbrev S8192x768 : Shape := ⟨2, ![8192, 768]⟩
abbrev S8192x256 : Shape := ⟨2, ![8192, 256]⟩
abbrev S8192x1x256 : Shape := ⟨3, ![8192, 1, 256]⟩
abbrev S1x8192x256 : Shape := ⟨3, ![1, 8192, 256]⟩
abbrev S2048x4x256 : Shape := ⟨3, ![2048, 4, 256]⟩
abbrev S4x2048x256 : Shape := ⟨3, ![4, 2048, 256]⟩
abbrev S512x16x256 : Shape := ⟨3, ![512, 16, 256]⟩
abbrev S16x512x256 : Shape := ⟨3, ![16, 512, 256]⟩
abbrev S8192x512 : Shape := ⟨2, ![8192, 512]⟩
abbrev S8192x2048 : Shape := ⟨2, ![8192, 2048]⟩
abbrev S1x2048 : Shape := ⟨2, ![1, 2048]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4864, .f32⟩
  | .hbm, ⟨3, _⟩ => ⟨S2048, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4864, .f32⟩
  | .hbm, ⟨21, _⟩ => ⟨S8192x768, .f32⟩
  | .hbm, ⟨22, _⟩ => ⟨S_, .f32⟩
  | .hbm, ⟨23, _⟩ => ⟨S8192x768, .f32⟩
  | .hbm, ⟨24, _⟩ => ⟨S8192x768, .f32⟩
  | .hbm, ⟨25, _⟩ => ⟨S8192x768, .f32⟩
  | .hbm, ⟨26, _⟩ => ⟨S8192x768, .f32⟩
  | .hbm, ⟨27, _⟩ => ⟨S8192x256, .f32⟩
  | .hbm, ⟨28, _⟩ => ⟨S8192x1x256, .f32⟩
  | .hbm, ⟨29, _⟩ => ⟨S1x8192x256, .f32⟩
  | .hbm, ⟨30, _⟩ => ⟨S8192x256, .f32⟩
  | .hbm, ⟨31, _⟩ => ⟨S2048x4x256, .f32⟩
  | .hbm, ⟨32, _⟩ => ⟨S4x2048x256, .f32⟩
  | .hbm, ⟨33, _⟩ => ⟨S8192x256, .f32⟩
  | .hbm, ⟨34, _⟩ => ⟨S512x16x256, .f32⟩
  | .hbm, ⟨35, _⟩ => ⟨S16x512x256, .f32⟩
  | .hbm, ⟨36, _⟩ => ⟨S8192x256, .f32⟩
  | .hbm, ⟨37, _⟩ => ⟨S8192x1x256, .f32⟩
  | .hbm, ⟨38, _⟩ => ⟨S1x8192x256, .f32⟩
  | .hbm, ⟨39, _⟩ => ⟨S8192x256, .f32⟩
  | .hbm, ⟨40, _⟩ => ⟨S2048x4x256, .f32⟩
  | .hbm, ⟨41, _⟩ => ⟨S4x2048x256, .f32⟩
  | .hbm, ⟨42, _⟩ => ⟨S8192x256, .f32⟩
  | .hbm, ⟨43, _⟩ => ⟨S512x16x256, .f32⟩
  | .hbm, ⟨44, _⟩ => ⟨S16x512x256, .f32⟩
  | .hbm, ⟨45, _⟩ => ⟨S8192x256, .f32⟩
  | .hbm, ⟨46, _⟩ => ⟨S8192x1x256, .f32⟩
  | .hbm, ⟨47, _⟩ => ⟨S1x8192x256, .f32⟩
  | .hbm, ⟨48, _⟩ => ⟨S8192x256, .f32⟩
  | .hbm, ⟨49, _⟩ => ⟨S2048x4x256, .f32⟩
  | .hbm, ⟨50, _⟩ => ⟨S4x2048x256, .f32⟩
  | .hbm, ⟨51, _⟩ => ⟨S8192x256, .f32⟩
  | .hbm, ⟨52, _⟩ => ⟨S512x16x256, .f32⟩
  | .hbm, ⟨53, _⟩ => ⟨S16x512x256, .f32⟩
  | .hbm, ⟨54, _⟩ => ⟨S1x8192x256, .bf16⟩
  | .hbm, ⟨55, _⟩ => ⟨S4x2048x256, .bf16⟩
  | .hbm, ⟨56, _⟩ => ⟨S16x512x256, .bf16⟩
  | .hbm, ⟨57, _⟩ => ⟨S1x8192x256, .bf16⟩
  | .hbm, ⟨58, _⟩ => ⟨S4x2048x256, .bf16⟩
  | .hbm, ⟨59, _⟩ => ⟨S16x512x256, .bf16⟩
  | .hbm, ⟨60, _⟩ => ⟨S1x8192x256, .bf16⟩
  | .hbm, ⟨61, _⟩ => ⟨S4x2048x256, .bf16⟩
  | .hbm, ⟨62, _⟩ => ⟨S16x512x256, .bf16⟩
  | .hbm, ⟨63, _⟩ => ⟨S8192x512, .f32⟩
  | .hbm, ⟨64, _⟩ => ⟨S8192x2048, .f32⟩
  | .hbm, ⟨65, _⟩ => ⟨S1x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S_, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S8192x2048, .f32⟩
  | .hbm, ⟨75, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_3 : Ref sig .tc := ⟨.hbm, 70, rfl⟩
abbrev main_v62 : Ref sig .tc := ⟨.hbm, 71, rfl⟩
abbrev main_v63 : Ref sig .tc := ⟨.hbm, 72, rfl⟩
abbrev main_cst_4 : Ref sig .tc := ⟨.hbm, 73, rfl⟩
abbrev main_v64 : Ref sig .tc := ⟨.hbm, 74, rfl⟩
abbrev main_v65 : Ref sig .tc := ⟨.hbm, 75, rfl⟩

abbrev nD : Nat := 1
abbrev τ : Topo := Topo.v7x

variable {F : FTy → Type} [FloatOps F]
-- ==== Kernel15.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel15Ideal.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S1216x1024 : Shape := ⟨2, ![1216, 1024]⟩
abbrev S304x1024 : Shape := ⟨2, ![304, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1216x1024, .f32⟩
  | .hbm, ⟨1, _⟩ => ⟨S1216x1024, .f32⟩
  | .hbm, ⟨2, _⟩ => ⟨S1216x1024, .f32⟩
  | .hbm, ⟨3, _⟩ => ⟨S1216x1024, .f32⟩
  | .hbm, ⟨4, _⟩ => ⟨S1216x1024, .f32⟩
  | .hbm, ⟨5, _⟩ => ⟨S1216x1024, .f32⟩
  | .hbm, ⟨6, _⟩ => ⟨S1216x1024, .f32⟩
  | .local _ .vmem, ⟨0, _⟩ => ⟨S304x1024, .f32⟩
  | .local _ .vmem, ⟨1, _⟩ => ⟨S304x1024, .f32⟩
  | .local _ .vmem, ⟨2, _⟩ => ⟨S304x1024, .f32⟩
  | .local _ .vmem, ⟨3, _⟩ => ⟨S304x1024, .f32⟩
  | .local _ .vmem, ⟨4, _⟩ => ⟨S304x1024, .f32⟩
  | .local _ .vmem, ⟨5, _⟩ => ⟨S304x1024, .f32⟩
  | .local _ .vmem, ⟨6, _⟩ => ⟨S304x1024, .f32⟩
  | .local _ .vmem, ⟨7, _⟩ => ⟨S304x1024, .f32⟩
  | .local _ .vmem, ⟨8, _⟩ => ⟨S304x1024, .f32⟩
  | .local _ .vmem, ⟨9, _⟩ => ⟨S304x1024, .f32⟩
  | .local _ .vmem, ⟨10, _⟩ => ⟨S304x1024, .f32⟩
  | .local _ .vmem, ⟨11, _⟩ => ⟨S304x1024, .f32⟩
  | .local _ .vmem, ⟨12, _⟩ => ⟨S304x1024, .f32⟩
  | .local _ .vmem, ⟨13, _⟩ => ⟨S304x1024, .f32⟩
  | _, _ => ⟨S1216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S304x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S304x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S304x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S304x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S304x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S304x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
abbrev S1216x1024 : Shape := ⟨2, ![1216, 1024]⟩
abbrev S304x1024 : Shape := ⟨2, ![304, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1216x1024, .f32⟩
  | .hbm, ⟨1, _⟩ => ⟨S1216x1024, .f32⟩
  | .hbm, ⟨2, _⟩ => ⟨S1216x1024, .f32⟩
  | .hbm, ⟨3, _⟩ => ⟨S1216x1024, .f32⟩
  | .hbm, ⟨4, _⟩ => ⟨S1216x1024, .f32⟩
  | .hbm, ⟨5, _⟩ => ⟨S1216x1024, .f32⟩
  | .hbm, ⟨6, _⟩ => ⟨S1216x1024, .f32⟩
  | .local _ .vmem, ⟨0, _⟩ => ⟨S304x1024, .f32⟩
  | .local _ .vmem, ⟨1, _⟩ => ⟨S304x1024, .f32⟩
  | .local _ .vmem, ⟨2, _⟩ => ⟨S304x1024, .f32⟩
  | .local _ .vmem, ⟨3, _⟩ => ⟨S304x1024, .f32⟩
  | .local _ .vmem, ⟨4, _⟩ => ⟨S304x1024, .f32⟩
  | .local _ .vmem, ⟨5, _⟩ => ⟨S304x1024, .f32⟩
  | .local _ .vmem, ⟨6, _⟩ => ⟨S304x1024, .f32⟩
  | .local _ .vmem, ⟨7, _⟩ => ⟨S304x1024, .f32⟩
  | .local _ .vmem, ⟨8, _⟩ => ⟨S304x1024, .f32⟩
  | .local _ .vmem, ⟨9, _⟩ => ⟨S304x1024, .f32⟩
  | .local _ .vmem, ⟨10, _⟩ => ⟨S304x1024, .f32⟩
  | .local _ .vmem, ⟨11, _⟩ => ⟨S304x1024, .f32⟩
  | .local _ .vmem, ⟨12, _⟩ => ⟨S304x1024, .f32⟩
  | .local _ .vmem, ⟨13, _⟩ => ⟨S304x1024, .f32⟩
  | _, _ => ⟨S1216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S304x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S304x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S304x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S304x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S304x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S304x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S1216x1024 : Shape := ⟨2, ![1216, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1216x1024, .f32⟩
  | .hbm, ⟨1, _⟩ => ⟨S1216x1024, .f32⟩
  | .hbm, ⟨2, _⟩ => ⟨S1216x1024, .f32⟩
  | .hbm, ⟨3, _⟩ => ⟨S1216x1024, .f32⟩
  | .hbm, ⟨4, _⟩ => ⟨S_, .f32⟩
  | .hbm, ⟨5, _⟩ => ⟨S1216x1024, .f32⟩
  | .hbm, ⟨6, _⟩ => ⟨S1216x1024, .f32⟩
  | .hbm, ⟨7, _⟩ => ⟨S_, .f32⟩
  | .hbm, ⟨8, _⟩ => ⟨S1216x1024, .f32⟩
  | .hbm, ⟨9, _⟩ => ⟨S1216x1024, .f32⟩
  | .hbm, ⟨10, _⟩ => ⟨S1216x1024, .f32⟩
  | .hbm, ⟨11, _⟩ => ⟨S_, .f32⟩
  | .hbm, ⟨12, _⟩ => ⟨S1216x1024, .f32⟩
  | .hbm, ⟨13, _⟩ => ⟨S1216x1024, .f32⟩
  | .hbm, ⟨14, _⟩ => ⟨S1216x1024, .f32⟩
  | .hbm, ⟨15, _⟩ => ⟨S_, .f32⟩
  | .hbm, ⟨16, _⟩ => ⟨S1216x1024, .f32⟩
  | .hbm, ⟨17, _⟩ => ⟨S1216x1024, .f32⟩
  | .hbm, ⟨18, _⟩ => ⟨S1216x1024, .f32⟩
  | .hbm, ⟨19, _⟩ => ⟨S_, .f32⟩
  | .hbm, ⟨20, _⟩ => ⟨S1216x1024, .f32⟩
  | .hbm, ⟨21, _⟩ => ⟨S1216x1024, .f32⟩
  | .hbm, ⟨22, _⟩ => ⟨S_, .f32⟩
  | .hbm, ⟨23, _⟩ => ⟨S1216x1024, .f32⟩
  | .hbm, ⟨24, _⟩ => ⟨S1216x1024, .f32⟩
  | .hbm, ⟨25, _⟩ => ⟨S1216x1024, .f32⟩
  | .hbm, ⟨26, _⟩ => ⟨S_, .f32⟩
  | .hbm, ⟨27, _⟩ => ⟨S1216x1024, .f32⟩
  | .hbm, ⟨28, _⟩ => ⟨S1216x1024, .f32⟩
  | .hbm, ⟨29, _⟩ => ⟨S1216x1024, .f32⟩
  | .hbm, ⟨30, _⟩ => ⟨S_, .f32⟩
  | .hbm, ⟨31, _⟩ => ⟨S1216x1024, .f32⟩
  | .hbm, ⟨32, _⟩ => ⟨S1216x1024, .f32⟩
  | .hbm, ⟨33, _⟩ => ⟨S1216x1024, .f32⟩
  | .hbm, ⟨34, _⟩ => ⟨S_, .f32⟩
  | .hbm, ⟨35, _⟩ => ⟨S1216x1024, .f32⟩
  | .hbm, ⟨36, _⟩ => ⟨S1216x1024, .f32⟩
  | _, _ => ⟨S1216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel17Ideal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel18Ideal.lean ====
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel19Ideal.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1128x128 : Shape := ⟨2, ![1128, 128]⟩

abbrev nBuf : Space → Nat
  | .hbm => 7
  | .vmem => 7
  | .smem => 0
  | _ => 0

abbrev bufTy : (tb : Table) → Fin (tcTables nBuf tb) → BufTy
  | .hbm, ⟨0, _⟩ => ⟨S1128x128, .f32⟩
  | .hbm, ⟨1, _⟩ => ⟨S1128x128, .f32⟩
  | .hbm, ⟨2, _⟩ => ⟨S1128x128, .f32⟩
  | .hbm, ⟨3, _⟩ => ⟨S1128x128, .f32⟩
  | .hbm, ⟨4, _⟩ => ⟨S1128x128, .f32⟩
  | .hbm, ⟨5, _⟩ => ⟨S1128x128, .f32⟩
  | .hbm, ⟨6, _⟩ => ⟨S1128x128, .f32⟩
  | .local _ .vmem, ⟨0, _⟩ => ⟨S1128x128, .f32⟩
  | .local _ .vmem, ⟨1, _⟩ => ⟨S1128x128, .f32⟩
  | .local _ .vmem, ⟨2, _⟩ => ⟨S1128x128, .f32⟩
  | .local _ .vmem, ⟨3, _⟩ => ⟨S1128x128, .f32⟩
  | .local _ .vmem, ⟨4, _⟩ => ⟨S1128x128, .f32⟩
  | .local _ .vmem, ⟨5, _⟩ => ⟨S1128x128, .f32⟩
  | .local _ .vmem, ⟨6, _⟩ => ⟨S1128x128, .f32⟩
  | _, _ => ⟨S1128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S1128x128 : Shape := ⟨2, ![1128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1128x128, .f32⟩
  | .hbm, ⟨1, _⟩ => ⟨S1128x128, .f32⟩
  | .hbm, ⟨2, _⟩ => ⟨S1128x128, .f32⟩
  | .hbm, ⟨3, _⟩ => ⟨S1128x128, .f32⟩
  | .hbm, ⟨4, _⟩ => ⟨S_, .f32⟩
  | .hbm, ⟨5, _⟩ => ⟨S1128x128, .f32⟩
  | .hbm, ⟨6, _⟩ => ⟨S1128x128, .f32⟩
  | .hbm, ⟨7, _⟩ => ⟨S_, .f32⟩
  | .hbm, ⟨8, _⟩ => ⟨S1128x128, .f32⟩
  | .hbm, ⟨9, _⟩ => ⟨S1128x128, .f32⟩
  | .hbm, ⟨10, _⟩ => ⟨S1128x128, .f32⟩
  | .hbm, ⟨11, _⟩ => ⟨S_, .f32⟩
  | .hbm, ⟨12, _⟩ => ⟨S1128x128, .f32⟩
  | .hbm, ⟨13, _⟩ => ⟨S1128x128, .f32⟩
  | .hbm, ⟨14, _⟩ => ⟨S1128x128, .f32⟩
  | .hbm, ⟨15, _⟩ => ⟨S_, .f32⟩
  | .hbm, ⟨16, _⟩ => ⟨S1128x128, .f32⟩
  | .hbm, ⟨17, _⟩ => ⟨S1128x128, .f32⟩
  | .hbm, ⟨18, _⟩ => ⟨S1128x128, .f32⟩
  | .hbm, ⟨19, _⟩ => ⟨S_, .f32⟩
  | .hbm, ⟨20, _⟩ => ⟨S1128x128, .f32⟩
  | .hbm, ⟨21, _⟩ => ⟨S1128x128, .f32⟩
  | .hbm, ⟨22, _⟩ => ⟨S_, .f32⟩
  | .hbm, ⟨23, _⟩ => ⟨S1128x128, .f32⟩
  | .hbm, ⟨24, _⟩ => ⟨S1128x128, .f32⟩
  | .hbm, ⟨25, _⟩ => ⟨S1128x128, .f32⟩
  | .hbm, ⟨26, _⟩ => ⟨S_, .f32⟩
  | .hbm, ⟨27, _⟩ => ⟨S1128x128, .f32⟩
  | .hbm, ⟨28, _⟩ => ⟨S1128x128, .f32⟩
  | .hbm, ⟨29, _⟩ => ⟨S1128x128, .f32⟩
  | .hbm, ⟨30, _⟩ => ⟨S_, .f32⟩
  | .hbm, ⟨31, _⟩ => ⟨S1128x128, .f32⟩
  | .hbm, ⟨32, _⟩ => ⟨S1128x128, .f32⟩
  | .hbm, ⟨33, _⟩ => ⟨S1128x128, .f32⟩
  | .hbm, ⟨34, _⟩ => ⟨S_, .f32⟩
  | .hbm, ⟨35, _⟩ => ⟨S1128x128, .f32⟩
  | .hbm, ⟨36, _⟩ => ⟨S1128x128, .f32⟩
  | _, _ => ⟨S1128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.DwGate.lean ====
module
public import proofs.«01_k».proof.Proof.Gen.Kernel3Ideal.Value
public import Idealize.ShloMosaic.Lib.ValueIdxCore
public import Idealize.ShloMosaic.Lib.IdealHost
public import Idealize.ShloMosaic.Lib.Tactic

/-! The gradient of the feed-forward block with respect to its gate weights: the kernel adds the products of two halves of
    the rows, the reference takes the product of all of them. -/

@[expose] public section

set_option maxRecDepth 16384

noncomputable section

open Idealize.ShloMosaic Idealize.ShloMosaic.TcCoe Idealize.SL.Sem
open Idealize.ShloMosaic.Pipeline (Dat)
open Cert.Kernel3Ideal Cert.Kernel3Ideal.Gen

namespace Cert.DwGate

/-! ### One grid point -/

/-- A sum over the rows, by halves. -/
theorem halves (f : Fin 8192 → EReal) (hlo : ∀ l : Fin 4096, l.val < 8192) (hhi : ∀ l : Fin 4096, 4096 + l.val < 8192) :
    (0 + ∑ l : Fin 4096, f ⟨l.val, hlo l⟩) + ∑ l : Fin 4096, f ⟨4096 + l.val, hhi l⟩ = ∑ l : Fin 8192, f l := by
  rw [zero_add]
  exact (Fin.sum_univ_add (a := 4096) (b := 4096) f).symm

theorem tile (a : S4096x704.Idx → EReal) (b : S4096x1024.Idx → EReal) (j : S704x1024.Idx) :
    ∑ k : dot_S4096x704_S4096x1024_S704x1024_0_0_1_1_n_n.contr.Idx,
        a (dot_S4096x704_S4096x1024_S704x1024_0_0_1_1_n_n.lhsIdx j k) * b (dot_S4096x704_S4096x1024_S704x1024_0_0_1_1_n_n.rhsIdx j k)
      = ∑ l : Fin 4096, a (ValueIdx.ix2 l (j 0)) * b (ValueIdx.ix2 l (j 1)) :=
  Fintype.sum_equiv (ValueIdx.contrEquiv1 dot_S4096x704_S4096x1024_S704x1024_0_0_1_1_n_n 4096 rfl rfl) _ _ fun k => by
    congr 1
    · exact congrArg a (funext fun x => by match x with | ⟨0, _⟩ => rfl | ⟨1, _⟩ => rfl)
    · exact congrArg b (funext fun x => by match x with | ⟨0, _⟩ => rfl | ⟨1, _⟩ => rfl)

/-- The zeros that the first point of a shard stores. -/
theorem pay1 (y : S1x704x1024.Idx) : k0_pay1 (F := Ideal) y = 0 := by
  show Ideal.ofBits .f32 0x00000000#32 = 0
  simp [Ideal.ofBits, Ideal.ieee]

/-- A point adds the product of its blocks. -/
theorem pay2 (acc : Vec Ideal S1x704x1024 .f32) (a : Vec Ideal S1x4096x704 .bf16) (b : Vec Ideal S1x4096x1024 .bf16) (y : S1x704x1024.Idx) :
    k0_pay2 acc a b y
      = acc y + ∑ l : Fin 4096, (a (ValueIdx.ix3 (0 : Fin 1) l (y 1)) : EReal) * (b (ValueIdx.ix3 (0 : Fin 1) l (y 2)) : EReal) := by
  unfold k0_pay2
  have h0 : (y 0).val < 1 := (y 0).isLt
  refine (shapeCast_apply _ _ y (ValueIdx.ix2 (y 1) (y 2)) (by
    rw [Shape.rowMajor_val_three, Shape.rowMajor_val_two]
    show (y 1).val * 1024 + (y 2).val = ((y 0).val * 704 + (y 1).val) * 1024 + (y 2).val
    omega)).trans ?_
  show (_ : EReal) + (_ : EReal) = _
  refine congrArg₂ (fun a b : EReal => a + b) ?_ ?_
  · exact shapeCast_apply acc _ (ValueIdx.ix2 (y 1) (y 2)) y (by
      rw [Shape.rowMajor_val_three, Shape.rowMajor_val_two]
      show ((y 0).val * 704 + (y 1).val) * 1024 + (y 2).val = (y 1).val * 1024 + (y 2).val
      omega)
  · show Ideal.ofBits .f32 0x00000000#32 + (_ : EReal) = _
    rw [show Ideal.ofBits .f32 0x00000000#32 = 0 by simp [Ideal.ofBits, Ideal.ieee], zero_add]
    refine (tile _ _ _).trans (Finset.sum_congr rfl fun l _ => congrArg₂ (fun a b : EReal => a * b) ?_ ?_)
    · exact shapeCast_apply a _ _ (ValueIdx.ix3 (0 : Fin 1) l (y 1)) (by
        rw [Shape.rowMajor_val_three, Shape.rowMajor_val_two]
        show (0 * 4096 + l.val) * 704 + (y 1).val = l.val * 704 + (y 1).val
        omega)
    · exact shapeCast_apply b _ _ (ValueIdx.ix3 (0 : Fin 1) l (y 2)) (by
        rw [Shape.rowMajor_val_three, Shape.rowMajor_val_two]
        show (0 * 4096 + l.val) * 1024 + (y 2).val = l.val * 1024 + (y 2).val
        omega)

/-! ### Where the blocks lie -/

theorem ix_0 : ∀ t : Fin cfg0.N, win0_0.index t = ![t.val / 2, t.val % 2, 0] :=
  (by decide +kernel : ∀ t : Fin grid0.N, win0_0.index t = ![t.val / 2, t.val % 2, 0])
theorem ix_1 : ∀ t : Fin cfg0.N, win0_1.index t = ![0, t.val % 2, 0] :=
  (by decide +kernel : ∀ t : Fin grid0.N, win0_1.index t = ![0, t.val % 2, 0])

/-- Row `l` of the half that point `t` takes. -/
def at_ (t : Fin cfg0.N) (l : Fin 4096) : Fin 8192 := ⟨t.val % 2 * 4096 + l.val, by omega⟩
/-- The shard of point `t`. -/
def sh (t : Fin cfg0.N) : Fin 4 := ⟨t.val / 2, by have h : t.val < 8 := t.isLt; omega⟩

theorem emb_0 (t : Fin cfg0.N) (l : Fin 4096) (f : Fin 704) :
    (((cfg0.win 0).blk t).view.emb (ValueIdx.ix3 (0 : Fin 1) l f : S1x4096x704.Idx) : S4x8192x704.Idx) = ValueIdx.ix3 (sh t) (at_ t l) f := by
  funext a
  apply Fin.ext
  match a with
  | ⟨0, _⟩ => show win0_0.index t 0 * 1 + 1 * 0 = t.val / 2; rw [ix_0]; show t.val / 2 * 1 + 1 * 0 = _; omega
  | ⟨1, _⟩ => show win0_0.index t 1 * 4096 + 1 * l.val = t.val % 2 * 4096 + l.val; rw [ix_0]; show t.val % 2 * 4096 + 1 * l.val = _; omega
  | ⟨2, _⟩ => show win0_0.index t 2 * 704 + 1 * f.val = f.val; rw [ix_0]; show 0 * 704 + 1 * f.val = _; omega
theorem emb_1 (t : Fin cfg0.N) (l : Fin 4096) (f : Fin 1024) :
    (((cfg0.win 1).blk t).view.emb (ValueIdx.ix3 (0 : Fin 1) l f : S1x4096x1024.Idx) : S1x8192x1024.Idx) = ValueIdx.ix3 (0 : Fin 1) (at_ t l) f := by
  funext a
  apply Fin.ext
  match a with
  | ⟨0, _⟩ => show win0_1.index t 0 * 1 + 1 * 0 = 0; rw [ix_1]; rfl
  | ⟨1, _⟩ => show win0_1.index t 1 * 4096 + 1 * l.val = t.val % 2 * 4096 + l.val; rw [ix_1]; show t.val % 2 * 4096 + 1 * l.val = _; omega
  | ⟨2, _⟩ => show win0_1.index t 2 * 1024 + 1 * f.val = f.val; rw [ix_1]; show 0 * 1024 + 1 * f.val = _; omega

variable {m : (ℓ : Loc nD τ sig) → Buf (Elt Ideal) ℓ} {c : Dev nD}

/-- The launch's two arguments. -/
def lhs (m : (ℓ : Loc nD τ sig) → Buf (Elt Ideal) ℓ) (c : Dev nD) : S4x8192x704.Idx → EReal := V m c main_v28
def rhs (m : (ℓ : Loc nD τ sig) → Buf (Elt Ideal) ℓ) (c : Dev nD) : S1x8192x1024.Idx → EReal := V m c main_v30

theorem blk_0 (t : Fin cfg0.N) (l : Fin 4096) (f : Fin 704) :
    (iblk m c 0 t : Vec Ideal S1x4096x704 .bf16) (ValueIdx.ix3 (0 : Fin 1) l f) = lhs m c (ValueIdx.ix3 (sh t) (at_ t l) f) := by
  unfold iblk
  rw [View.read_apply]
  show V m c main_v28 _ = _
  rw [emb_0]
  rfl
theorem blk_1 (t : Fin cfg0.N) (l : Fin 4096) (f : Fin 1024) :
    (iblk m c 1 t : Vec Ideal S1x4096x1024 .bf16) (ValueIdx.ix3 (0 : Fin 1) l f) = rhs m c (ValueIdx.ix3 (0 : Fin 1) (at_ t l) f) := by
  unfold iblk
  rw [View.read_apply]
  show V m c main_v30 _ = _
  rw [emb_1]
  rfl

/-- What row `l` adds to entry `i` of the result. -/
def term (m : (ℓ : Loc nD τ sig) → Buf (Elt Ideal) ℓ) (c : Dev nD) (i : S4x704x1024.Idx) (l : Fin 8192) : EReal :=
  lhs m c (ValueIdx.ix3 (i 0) l (i 1)) * rhs m c (ValueIdx.ix3 (0 : Fin 1) l (i 2))

/-- What point `t` of the shard of `i` adds there. -/
theorem point (i : S4x704x1024.Idx) (t : Fin cfg0.N) (ht : t.val / 2 = (i 0).val) (acc : Vec Ideal S1x704x1024 .f32) :
    k0_pay2 acc (iblk m c 0 t) (iblk m c 1 t) (Value.loc2Of i) = acc (Value.loc2Of i) + ∑ l : Fin 4096, term m c i (at_ t l) := by
  have h1 : (i 1).val < 704 := (i 1).isLt
  have h2 : (i 2).val < 1024 := (i 2).isLt
  have ha : sh t = i 0 := Fin.ext ht
  have hb : Value.loc2Of i 1 = i 1 := Fin.ext (Nat.mod_eq_of_lt h1)
  have hc : Value.loc2Of i 2 = i 2 := Fin.ext (Nat.mod_eq_of_lt h2)
  refine (pay2 _ _ _ _).trans (congrArg (acc (Value.loc2Of i) + ·) (Finset.sum_congr rfl fun l _ => ?_))
  refine (congrArg₂ (fun a b : EReal => a * b) (blk_0 t l (Value.loc2Of i 1)) (blk_1 t l (Value.loc2Of i 2))).trans ?_
  rw [ha, hb, hc]
  rfl

/-- The result: every shard's product over all rows. -/
theorem result (i : S4x704x1024.Idx) : @Eq EReal (Value.G2 m c i) (∑ l : Fin 8192, term m c i l) := by
  have h0 : (i 0).val < 4 := (i 0).isLt
  have h1 : (i 1).val < 704 := (i 1).isLt
  have h2 : (i 2).val < 1024 := (i 2).isLt
  have hr : Value.run2Of i = (i 0).val := by
    show 1 * ((i 0).val / 1 - 0) + 1 * ((i 1).val / 704 - 0) + 1 * ((i 2).val / 1024 - 0) = _
    omega
  have hN : 2 * Value.run2Of i + 1 < cfg0.N := by rw [hr, show cfg0.N = 8 from rfl]; omega
  have hlo : ∀ l : Fin 4096, l.val < 8192 := fun l => by omega
  have hhi : ∀ l : Fin 4096, 4096 + l.val < 8192 := fun l => by omega
  unfold Value.G2
  rw [dif_pos hN]
  refine (point (m := m) (c := c) i ⟨2 * Value.run2Of i + 1, hN⟩ (by show (2 * Value.run2Of i + 1) / 2 = _; omega) _).trans ?_
  refine (congrArg (· + _) (point (m := m) (c := c) i ⟨2 * Value.run2Of i, by omega⟩ (by show (2 * Value.run2Of i) / 2 = _; omega) _)).trans ?_
  rw [pay1, ← halves (term m c i) hlo hhi]
  refine congrArg₂ (fun a b : EReal => 0 + a + b) (Finset.sum_congr rfl fun l _ => ?_) (Finset.sum_congr rfl fun l _ => ?_)
  · exact congrArg (term m c i) (Fin.ext (by show (2 * Value.run2Of i) % 2 * 4096 + l.val = l.val; omega))
  · exact congrArg (term m c i) (Fin.ext (by show (2 * Value.run2Of i + 1) % 2 * 4096 + l.val = 4096 + l.val; omega))

end Cert.DwGate

end
-- ==== Proof.DwGateClaim.lean ====
module
public import proofs.«01_k».proof.Proof.DwGate
public import proofs.«01_k».proof.Defs
public import proofs.«01_k».proof.Proof.Gen.Reference3Ideal.Read
public import Idealize.ShloMosaic.Lib.Quiescent

/-! The claims about the gradient with respect to the gate weights. -/

@[expose] public section

set_option maxRecDepth 16384

noncomputable section

open Idealize.ShloMosaic Idealize.ShloMosaic.TcCoe Idealize.SL.Sem
open Cert.Kernel3Ideal Cert.Kernel3Ideal.Gen
open Cert.DwGate

namespace Cert.DwGateClaim

variable (m : (ℓ : Loc nD τ sig) → Buf (Elt Ideal) ℓ) (c : Dev nD)

/-- Column `f` of shard `j`. -/
def col (j : Fin 4) (f : Fin 704) : Fin 2816 := ⟨j.val * 704 + f.val, by omega⟩

/-- The cotangent of the gated hidden array, as the reference computes it. -/
def A : FVec Ideal S8192x2816 .f32 :=
  Cert.Reference3Ideal.Read.val_main_v25 (F := Ideal) (m (c, Proc.tc.devRef main_arg0)) (m (c, Proc.tc.devRef main_arg1))
    (m (c, Proc.tc.devRef main_arg2)) (m (c, Proc.tc.devRef main_arg3)) (m (c, Proc.tc.devRef main_arg4)) (m (c, Proc.tc.devRef main_arg5))
/-- The normed rows. -/
def B : FVec Ideal S8192x1024 .f32 :=
  Cert.Reference3Ideal.Read.val_main_v12 (F := Ideal) (m (c, Proc.tc.devRef main_arg1)) (m (c, Proc.tc.devRef main_arg2))

theorem lhs_eq (j : Fin 4) (l : Fin 8192) (f : Fin 704) : lhs m c (ValueIdx.ix3 j l f) = A m c (ValueIdx.ix2 l (col j f)) := by
  have e : lhs m c = truncf (F := Ideal) .bf16 (transpose S4x8192x704 [1, 0, 2]
      (shapeCast S8192x4x704 (A m c) shapeCasts_S8192x2816_S8192x4x704)
      transposes_S8192x4x704_S4x8192x704_1_0_2) bitsLt_bf16_f32 := by
    unfold lhs
    entry_read
    rfl
  rw [e]
  generalize A m c = a
  show shapeCast S8192x4x704 a _ _ = _
  refine shapeCast_apply a _ _ _ ?_
  rw [Shape.rowMajor_val_three, Shape.rowMajor_val_two]
  show l.val * 2816 + (j.val * 704 + f.val) = (l.val * 4 + j.val) * 704 + f.val
  omega

theorem rhs_eq (l : Fin 8192) (d : Fin 1024) : rhs m c (ValueIdx.ix3 (0 : Fin 1) l d) = B m c (ValueIdx.ix2 l d) := by
  have e : rhs m c = broadcastInDim S1x8192x1024 ![1, 2] bcast_S8192x1024_S1x8192x1024_1_2
      (truncf (F := Ideal) .bf16 (B m c) bitsLt_bf16_f32) := by
    unfold rhs
    entry_read
    rfl
  rw [e]
  exact congrArg (B m c) (funext fun a => by match a with | ⟨0, _⟩ => rfl | ⟨1, _⟩ => rfl)

/-- The kernel's result is the reference's. -/
theorem same : Value.G2 m c
    = Cert.Reference3Ideal.Read.val_main_v29 (F := Ideal) (m (c, Proc.tc.devRef main_arg0)) (m (c, Proc.tc.devRef main_arg1))
    (m (c, Proc.tc.devRef main_arg2)) (m (c, Proc.tc.devRef main_arg3)) (m (c, Proc.tc.devRef main_arg4)) (m (c, Proc.tc.devRef main_arg5)) := by
  funext i
  have h0 : (i 0).val < 4 := (i 0).isLt
  have h1 : (i 1).val < 704 := (i 1).isLt
  have h2 : (i 2).val < 1024 := (i 2).isLt
  refine (show @Eq EReal _ _ from result i).trans ?_
  rw [Cert.Reference3Ideal.Read.val_main_v29_apply, Cert.Reference3Ideal.Read.val_main_v28_apply,
    Cert.Reference3Ideal.Read.val_main_v27_apply, Cert.Reference3Ideal.Read.val_main_v26_apply]
  refine Finset.sum_congr rfl fun l _ => ?_
  refine (congrArg₂ (fun a b : EReal => a * b) (lhs_eq m c (i 0) l (i 1)) (rhs_eq m c l (i 2))).trans ?_
  refine congrArg₂ (fun a b : EReal => a * b) (congrArg (A m c) ?_) (congrArg (B m c) ?_)
  · funext a
    match a with
    | ⟨0, _⟩ => rfl
    | ⟨1, _⟩ =>
      refine Fin.ext ?_
      show (i 0).val * 704 + (i 1).val = (((i 0).val * 704 + (i 1).val) * 1024 + (i 2).val) / 1024
      omega
  · funext a
    match a with
    | ⟨0, _⟩ => rfl
    | ⟨1, _⟩ =>
      refine Fin.ext ?_
      show (i 2).val = (((i 0).val * 704 + (i 1).val) * 1024 + (i 2).val) % 1024
      omega

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m g m' g' _ hargs
  refine ⟨fun c => Value.G2 m c, Value.run m g, ?_⟩
  refine (θ_run Cert.Reference3Ideal.defs _ _).mono (fun r h c => ?_) (Cert.Reference3Ideal.Value.run (F := Ideal) m' g')
  obtain ⟨a0, a1, a2, a3, a4, a5⟩ := hargs c
  obtain ⟨h0, h1⟩ := h c
  refine ⟨h0.trans ?_, h1⟩
  refine (Cert.Reference3Ideal.Read.val_main_v29_eq m' c).trans ?_
  rw [a0, a1, a2, a3, a4, a5]
  exact (same m c).symm

end Cert.DwGateClaim

end
-- ==== Proof.DwUp.lean ====
module
public import proofs.«01_k».proof.Proof.DwGate
public import proofs.«01_k».proof.Proof.Gen.Kernel4Ideal.Value
public import Idealize.ShloMosaic.Lib.ValueIdxCore
public import Idealize.ShloMosaic.Lib.IdealHost
public import Idealize.ShloMosaic.Lib.Tactic

/-! The gradient of the feed-forward block with respect to its up weights: the kernel adds the products of two halves of
    the rows, the reference takes the product of all of them. -/

@[expose] public section

set_option maxRecDepth 16384

noncomputable section

open Idealize.ShloMosaic Idealize.ShloMosaic.TcCoe Idealize.SL.Sem
open Idealize.ShloMosaic.Pipeline (Dat)
open Cert.Kernel4Ideal Cert.Kernel4Ideal.Gen

namespace Cert.DwUp

/-! ### One grid point -/

theorem pay1 (y : S1x704x1024.Idx) : k0_pay1 (F := Ideal) y = 0 := DwGate.pay1 y

theorem pay2 (acc : Vec Ideal S1x704x1024 .f32) (a : Vec Ideal S1x4096x704 .bf16) (b : Vec Ideal S1x4096x1024 .bf16) (y : S1x704x1024.Idx) :
    k0_pay2 acc a b y
      = acc y + ∑ l : Fin 4096, (a (ValueIdx.ix3 (0 : Fin 1) l (y 1)) : EReal) * (b (ValueIdx.ix3 (0 : Fin 1) l (y 2)) : EReal) :=
  DwGate.pay2 acc a b y

/-! ### Where the blocks lie -/

theorem ix_0 : ∀ t : Fin cfg0.N, win0_0.index t = ![t.val / 2, t.val % 2, 0] :=
  (by decide +kernel : ∀ t : Fin grid0.N, win0_0.index t = ![t.val / 2, t.val % 2, 0])
theorem ix_1 : ∀ t : Fin cfg0.N, win0_1.index t = ![0, t.val % 2, 0] :=
  (by decide +kernel : ∀ t : Fin grid0.N, win0_1.index t = ![0, t.val % 2, 0])

/-- Row `l` of the half that point `t` takes. -/
def at_ (t : Fin cfg0.N) (l : Fin 4096) : Fin 8192 := ⟨t.val % 2 * 4096 + l.val, by omega⟩
/-- The shard of point `t`. -/
def sh (t : Fin cfg0.N) : Fin 4 := ⟨t.val / 2, by have h : t.val < 8 := t.isLt; omega⟩

theorem emb_0 (t : Fin cfg0.N) (l : Fin 4096) (f : Fin 704) :
    (((cfg0.win 0).blk t).view.emb (ValueIdx.ix3 (0 : Fin 1) l f : S1x4096x704.Idx) : S4x8192x704.Idx) = ValueIdx.ix3 (sh t) (at_ t l) f := by
  funext a
  apply Fin.ext
  match a with
  | ⟨0, _⟩ => show win0_0.index t 0 * 1 + 1 * 0 = t.val / 2; rw [ix_0]; show t.val / 2 * 1 + 1 * 0 = _; omega
  | ⟨1, _⟩ => show win0_0.index t 1 * 4096 + 1 * l.val = t.val % 2 * 4096 + l.val; rw [ix_0]; show t.val % 2 * 4096 + 1 * l.val = _; omega
  | ⟨2, _⟩ => show win0_0.index t 2 * 704 + 1 * f.val = f.val; rw [ix_0]; show 0 * 704 + 1 * f.val = _; omega
theorem emb_1 (t : Fin cfg0.N) (l : Fin 4096) (f : Fin 1024) :
    (((cfg0.win 1).blk t).view.emb (ValueIdx.ix3 (0 : Fin 1) l f : S1x4096x1024.Idx) : S1x8192x1024.Idx) = ValueIdx.ix3 (0 : Fin 1) (at_ t l) f := by
  funext a
  apply Fin.ext
  match a with
  | ⟨0, _⟩ => show win0_1.index t 0 * 1 + 1 * 0 = 0; rw [ix_1]; rfl
  | ⟨1, _⟩ => show win0_1.index t 1 * 4096 + 1 * l.val = t.val % 2 * 4096 + l.val; rw [ix_1]; show t.val % 2 * 4096 + 1 * l.val = _; omega
  | ⟨2, _⟩ => show win0_1.index t 2 * 1024 + 1 * f.val = f.val; rw [ix_1]; show 0 * 1024 + 1 * f.val = _; omega

variable {m : (ℓ : Loc nD τ sig) → Buf (Elt Ideal) ℓ} {c : Dev nD}

/-- The launch's two arguments. -/
def lhs (m : (ℓ : Loc nD τ sig) → Buf (Elt Ideal) ℓ) (c : Dev nD) : S4x8192x704.Idx → EReal := V m c main_v28
def rhs (m : (ℓ : Loc nD τ sig) → Buf (Elt Ideal) ℓ) (c : Dev nD) : S1x8192x1024.Idx → EReal := V m c main_v30

theorem blk_0 (t : Fin cfg0.N) (l : Fin 4096) (f : Fin 704) :
    (iblk m c 0 t : Vec Ideal S1x4096x704 .bf16) (ValueIdx.ix3 (0 : Fin 1) l f) = lhs m c (ValueIdx.ix3 (sh t) (at_ t l) f) := by
  unfold iblk
  rw [View.read_apply]
  show V m c main_v28 _ = _
  rw [emb_0]
  rfl
theorem blk_1 (t : Fin cfg0.N) (l : Fin 4096) (f : Fin 1024) :
    (iblk m c 1 t : Vec Ideal S1x4096x1024 .bf16) (ValueIdx.ix3 (0 : Fin 1) l f) = rhs m c (ValueIdx.ix3 (0 : Fin 1) (at_ t l) f) := by
  unfold iblk
  rw [View.read_apply]
  show V m c main_v30 _ = _
  rw [emb_1]
  rfl

/-- What row `l` adds to entry `i` of the result. -/
def term (m : (ℓ : Loc nD τ sig) → Buf (Elt Ideal) ℓ) (c : Dev nD) (i : S4x704x1024.Idx) (l : Fin 8192) : EReal :=
  lhs m c (ValueIdx.ix3 (i 0) l (i 1)) * rhs m c (ValueIdx.ix3 (0 : Fin 1) l (i 2))

/-- What point `t` of the shard of `i` adds there. -/
theorem point (i : S4x704x1024.Idx) (t : Fin cfg0.N) (ht : t.val / 2 = (i 0).val) (acc : Vec Ideal S1x704x1024 .f32) :
    k0_pay2 acc (iblk m c 0 t) (iblk m c 1 t) (Value.loc2Of i) = acc (Value.loc2Of i) + ∑ l : Fin 4096, term m c i (at_ t l) := by
  have h1 : (i 1).val < 704 := (i 1).isLt
  have h2 : (i 2).val < 1024 := (i 2).isLt
  have ha : sh t = i 0 := Fin.ext ht
  have hb : Value.loc2Of i 1 = i 1 := Fin.ext (Nat.mod_eq_of_lt h1)
  have hc : Value.loc2Of i 2 = i 2 := Fin.ext (Nat.mod_eq_of_lt h2)
  refine (pay2 _ _ _ _).trans (congrArg (acc (Value.loc2Of i) + ·) (Finset.sum_congr rfl fun l _ => ?_))
  refine (congrArg₂ (fun a b : EReal => a * b) (blk_0 t l (Value.loc2Of i 1)) (blk_1 t l (Value.loc2Of i 2))).trans ?_
  rw [ha, hb, hc]
  rfl

/-- The result: every shard's product over all rows. -/
theorem result (i : S4x704x1024.Idx) : @Eq EReal (Value.G2 m c i) (∑ l : Fin 8192, term m c i l) := by
  have h0 : (i 0).val < 4 := (i 0).isLt
  have h1 : (i 1).val < 704 := (i 1).isLt
  have h2 : (i 2).val < 1024 := (i 2).isLt
  have hr : Value.run2Of i = (i 0).val := by
    show 1 * ((i 0).val / 1 - 0) + 1 * ((i 1).val / 704 - 0) + 1 * ((i 2).val / 1024 - 0) = _
    omega
  have hN : 2 * Value.run2Of i + 1 < cfg0.N := by rw [hr, show cfg0.N = 8 from rfl]; omega
  have hlo : ∀ l : Fin 4096, l.val < 8192 := fun l => by omega
  have hhi : ∀ l : Fin 4096, 4096 + l.val < 8192 := fun l => by omega
  unfold Value.G2
  rw [dif_pos hN]
  refine (point (m := m) (c := c) i ⟨2 * Value.run2Of i + 1, hN⟩ (by show (2 * Value.run2Of i + 1) / 2 = _; omega) _).trans ?_
  refine (congrArg (· + _) (point (m := m) (c := c) i ⟨2 * Value.run2Of i, by omega⟩ (by show (2 * Value.run2Of i) / 2 = _; omega) _)).trans ?_
  rw [pay1, ← DwGate.halves (term m c i) hlo hhi]
  refine congrArg₂ (fun a b : EReal => 0 + a + b) (Finset.sum_congr rfl fun l _ => ?_) (Finset.sum_congr rfl fun l _ => ?_)
  · exact congrArg (term m c i) (Fin.ext (by show (2 * Value.run2Of i) % 2 * 4096 + l.val = l.val; omega))
  · exact congrArg (term m c i) (Fin.ext (by show (2 * Value.run2Of i + 1) % 2 * 4096 + l.val = 4096 + l.val; omega))

end Cert.DwUp

end
-- ==== Proof.DwUpClaim.lean ====
module
public import proofs.«01_k».proof.Proof.DwUp
public import proofs.«01_k».proof.Defs
public import proofs.«01_k».proof.Proof.Gen.Reference4Ideal.Read
public import Idealize.ShloMosaic.Lib.Quiescent

/-! The claims about the gradient with respect to the up weights. -/

@[expose] public section

set_option maxRecDepth 16384

noncomputable section

open Idealize.ShloMosaic Idealize.ShloMosaic.TcCoe Idealize.SL.Sem
open Cert.Kernel4Ideal Cert.Kernel4Ideal.Gen
open Cert.DwUp

namespace Cert.DwUpClaim

variable (m : (ℓ : Loc nD τ sig) → Buf (Elt Ideal) ℓ) (c : Dev nD)

/-- Column `f` of shard `j`. -/
def col (j : Fin 4) (f : Fin 704) : Fin 2816 := ⟨j.val * 704 + f.val, by omega⟩

/-- The cotangent of the other hidden array, as the reference computes it. -/
def A : FVec Ideal S8192x2816 .f32 :=
  Cert.Reference4Ideal.Read.val_main_v24 (F := Ideal) (m (c, Proc.tc.devRef main_arg0)) (m (c, Proc.tc.devRef main_arg1)) (m (c, Proc.tc.devRef main_arg2)) (m (c, Proc.tc.devRef main_arg3)) (m (c, Proc.tc.devRef main_arg5))
/-- The normed rows. -/
def B : FVec Ideal S8192x1024 .f32 :=
  Cert.Reference4Ideal.Read.val_main_v12 (F := Ideal) (m (c, Proc.tc.devRef main_arg1)) (m (c, Proc.tc.devRef main_arg2))

theorem lhs_eq (j : Fin 4) (l : Fin 8192) (f : Fin 704) : lhs m c (ValueIdx.ix3 j l f) = A m c (ValueIdx.ix2 l (col j f)) := by
  have e : lhs m c = truncf (F := Ideal) .bf16 (transpose S4x8192x704 [1, 0, 2]
      (shapeCast S8192x4x704 (A m c) shapeCasts_S8192x2816_S8192x4x704)
      transposes_S8192x4x704_S4x8192x704_1_0_2) bitsLt_bf16_f32 := by
    unfold lhs
    entry_read
    rfl
  rw [e]
  generalize A m c = a
  show shapeCast S8192x4x704 a _ _ = _
  refine shapeCast_apply a _ _ _ ?_
  rw [Shape.rowMajor_val_three, Shape.rowMajor_val_two]
  show l.val * 2816 + (j.val * 704 + f.val) = (l.val * 4 + j.val) * 704 + f.val
  omega

theorem rhs_eq (l : Fin 8192) (d : Fin 1024) : rhs m c (ValueIdx.ix3 (0 : Fin 1) l d) = B m c (ValueIdx.ix2 l d) := by
  have e : rhs m c = broadcastInDim S1x8192x1024 ![1, 2] bcast_S8192x1024_S1x8192x1024_1_2
      (truncf (F := Ideal) .bf16 (B m c) bitsLt_bf16_f32) := by
    unfold rhs
    entry_read
    rfl
  rw [e]
  exact congrArg (B m c) (funext fun a => by match a with | ⟨0, _⟩ => rfl | ⟨1, _⟩ => rfl)

/-- The kernel's result is the reference's. -/
theorem same : Value.G2 m c
    = Cert.Reference4Ideal.Read.val_main_v28 (F := Ideal) (m (c, Proc.tc.devRef main_arg0)) (m (c, Proc.tc.devRef main_arg1)) (m (c, Proc.tc.devRef main_arg2)) (m (c, Proc.tc.devRef main_arg3)) (m (c, Proc.tc.devRef main_arg5)) := by
  funext i
  have h0 : (i 0).val < 4 := (i 0).isLt
  have h1 : (i 1).val < 704 := (i 1).isLt
  have h2 : (i 2).val < 1024 := (i 2).isLt
  refine (show @Eq EReal _ _ from result i).trans ?_
  rw [Cert.Reference4Ideal.Read.val_main_v28_apply, Cert.Reference4Ideal.Read.val_main_v27_apply, Cert.Reference4Ideal.Read.val_main_v26_apply, Cert.Reference4Ideal.Read.val_main_v25_apply]
  refine Finset.sum_congr rfl fun l _ => ?_
  refine (congrArg₂ (fun a b : EReal => a * b) (lhs_eq m c (i 0) l (i 1)) (rhs_eq m c l (i 2))).trans ?_
  refine congrArg₂ (fun a b : EReal => a * b) (congrArg (A m c) ?_) (congrArg (B m c) ?_)
  · funext a
    match a with
    | ⟨0, _⟩ => rfl
    | ⟨1, _⟩ =>
      refine Fin.ext ?_
      show (i 0).val * 704 + (i 1).val = (((i 0).val * 704 + (i 1).val) * 1024 + (i 2).val) / 1024
      omega
  · funext a
    match a with
    | ⟨0, _⟩ => rfl
    | ⟨1, _⟩ =>
      refine Fin.ext ?_
      show (i 2).val = (((i 0).val * 704 + (i 1).val) * 1024 + (i 2).val) % 1024
      omega

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m g m' g' _ hargs
  refine ⟨fun c => Value.G2 m c, Value.run m g, ?_⟩
  refine (θ_run Cert.Reference4Ideal.defs _ _).mono (fun r h c => ?_) (Cert.Reference4Ideal.Value.run (F := Ideal) m' g')
  obtain ⟨a0, a1, a2, a3, a4, a5⟩ := hargs c
  obtain ⟨h0, h1⟩ := h c
  refine ⟨h0.trans ?_, h1⟩
  refine (Cert.Reference4Ideal.Read.val_main_v28_eq _ _ _ _ _).trans ?_
  rw [a0, a1, a2, a3, a5]
  exact (same m c).symm

end Cert.DwUpClaim

end
-- ==== Proof.DwDown.lean ====
module
public import proofs.«01_k».proof.Proof.DwGate
public import proofs.«01_k».proof.Proof.Gen.Kernel5Ideal.Value
public import Idealize.ShloMosaic.Lib.ValueIdxCore
public import Idealize.ShloMosaic.Lib.IdealHost
public import Idealize.ShloMosaic.Lib.Tactic

/-! The gradient of the feed-forward block with respect to its down weights: the kernel adds the products of two halves of
    the rows, the reference takes the product of all of them. -/

@[expose] public section

set_option maxRecDepth 16384

noncomputable section

open Idealize.ShloMosaic Idealize.ShloMosaic.TcCoe Idealize.SL.Sem
open Idealize.ShloMosaic.Pipeline (Dat)
open Cert.Kernel5Ideal Cert.Kernel5Ideal.Gen

namespace Cert.DwDown

/-! ### One grid point -/

theorem pay1 (y : S1x704x1024.Idx) : k0_pay1 (F := Ideal) y = 0 := DwGate.pay1 y

theorem pay2 (acc : Vec Ideal S1x704x1024 .f32) (a : Vec Ideal S1x4096x704 .bf16) (b : Vec Ideal S1x4096x1024 .bf16) (y : S1x704x1024.Idx) :
    k0_pay2 acc a b y
      = acc y + ∑ l : Fin 4096, (a (ValueIdx.ix3 (0 : Fin 1) l (y 1)) : EReal) * (b (ValueIdx.ix3 (0 : Fin 1) l (y 2)) : EReal) :=
  DwGate.pay2 acc a b y

/-! ### Where the blocks lie -/

theorem ix_0 : ∀ t : Fin cfg0.N, win0_0.index t = ![t.val / 2, t.val % 2, 0] :=
  (by decide +kernel : ∀ t : Fin grid0.N, win0_0.index t = ![t.val / 2, t.val % 2, 0])
theorem ix_1 : ∀ t : Fin cfg0.N, win0_1.index t = ![0, t.val % 2, 0] :=
  (by decide +kernel : ∀ t : Fin grid0.N, win0_1.index t = ![0, t.val % 2, 0])

/-- Row `l` of the half that point `t` takes. -/
def at_ (t : Fin cfg0.N) (l : Fin 4096) : Fin 8192 := ⟨t.val % 2 * 4096 + l.val, by omega⟩
/-- The shard of point `t`. -/
def sh (t : Fin cfg0.N) : Fin 4 := ⟨t.val / 2, by have h : t.val < 8 := t.isLt; omega⟩

theorem emb_0 (t : Fin cfg0.N) (l : Fin 4096) (f : Fin 704) :
    (((cfg0.win 0).blk t).view.emb (ValueIdx.ix3 (0 : Fin 1) l f : S1x4096x704.Idx) : S4x8192x704.Idx) = ValueIdx.ix3 (sh t) (at_ t l) f := by
  funext a
  apply Fin.ext
  match a with
  | ⟨0, _⟩ => show win0_0.index t 0 * 1 + 1 * 0 = t.val / 2; rw [ix_0]; show t.val / 2 * 1 + 1 * 0 = _; omega
  | ⟨1, _⟩ => show win0_0.index t 1 * 4096 + 1 * l.val = t.val % 2 * 4096 + l.val; rw [ix_0]; show t.val % 2 * 4096 + 1 * l.val = _; omega
  | ⟨2, _⟩ => show win0_0.index t 2 * 704 + 1 * f.val = f.val; rw [ix_0]; show 0 * 704 + 1 * f.val = _; omega
theorem emb_1 (t : Fin cfg0.N) (l : Fin 4096) (f : Fin 1024) :
    (((cfg0.win 1).blk t).view.emb (ValueIdx.ix3 (0 : Fin 1) l f : S1x4096x1024.Idx) : S1x8192x1024.Idx) = ValueIdx.ix3 (0 : Fin 1) (at_ t l) f := by
  funext a
  apply Fin.ext
  match a with
  | ⟨0, _⟩ => show win0_1.index t 0 * 1 + 1 * 0 = 0; rw [ix_1]; rfl
  | ⟨1, _⟩ => show win0_1.index t 1 * 4096 + 1 * l.val = t.val % 2 * 4096 + l.val; rw [ix_1]; show t.val % 2 * 4096 + 1 * l.val = _; omega
  | ⟨2, _⟩ => show win0_1.index t 2 * 1024 + 1 * f.val = f.val; rw [ix_1]; show 0 * 1024 + 1 * f.val = _; omega

variable {m : (ℓ : Loc nD τ sig) → Buf (Elt Ideal) ℓ} {c : Dev nD}

/-- The launch's two arguments. -/
def lhs (m : (ℓ : Loc nD τ sig) → Buf (Elt Ideal) ℓ) (c : Dev nD) : S4x8192x704.Idx → EReal := V m c main_v19
def rhs (m : (ℓ : Loc nD τ sig) → Buf (Elt Ideal) ℓ) (c : Dev nD) : S1x8192x1024.Idx → EReal := V m c main_v23

theorem blk_0 (t : Fin cfg0.N) (l : Fin 4096) (f : Fin 704) :
    (iblk m c 0 t : Vec Ideal S1x4096x704 .bf16) (ValueIdx.ix3 (0 : Fin 1) l f) = lhs m c (ValueIdx.ix3 (sh t) (at_ t l) f) := by
  unfold iblk
  rw [View.read_apply]
  show V m c main_v19 _ = _
  rw [emb_0]
  rfl
theorem blk_1 (t : Fin cfg0.N) (l : Fin 4096) (f : Fin 1024) :
    (iblk m c 1 t : Vec Ideal S1x4096x1024 .bf16) (ValueIdx.ix3 (0 : Fin 1) l f) = rhs m c (ValueIdx.ix3 (0 : Fin 1) (at_ t l) f) := by
  unfold iblk
  rw [View.read_apply]
  show V m c main_v23 _ = _
  rw [emb_1]
  rfl

/-- What row `l` adds to entry `i` of the result. -/
def term (m : (ℓ : Loc nD τ sig) → Buf (Elt Ideal) ℓ) (c : Dev nD) (i : S4x704x1024.Idx) (l : Fin 8192) : EReal :=
  lhs m c (ValueIdx.ix3 (i 0) l (i 1)) * rhs m c (ValueIdx.ix3 (0 : Fin 1) l (i 2))

/-- What point `t` of the shard of `i` adds there. -/
theorem point (i : S4x704x1024.Idx) (t : Fin cfg0.N) (ht : t.val / 2 = (i 0).val) (acc : Vec Ideal S1x704x1024 .f32) :
    k0_pay2 acc (iblk m c 0 t) (iblk m c 1 t) (Value.loc2Of i) = acc (Value.loc2Of i) + ∑ l : Fin 4096, term m c i (at_ t l) := by
  have h1 : (i 1).val < 704 := (i 1).isLt
  have h2 : (i 2).val < 1024 := (i 2).isLt
  have ha : sh t = i 0 := Fin.ext ht
  have hb : Value.loc2Of i 1 = i 1 := Fin.ext (Nat.mod_eq_of_lt h1)
  have hc : Value.loc2Of i 2 = i 2 := Fin.ext (Nat.mod_eq_of_lt h2)
  refine (pay2 _ _ _ _).trans (congrArg (acc (Value.loc2Of i) + ·) (Finset.sum_congr rfl fun l _ => ?_))
  refine (congrArg₂ (fun a b : EReal => a * b) (blk_0 t l (Value.loc2Of i 1)) (blk_1 t l (Value.loc2Of i 2))).trans ?_
  rw [ha, hb, hc]
  rfl

/-- The result: every shard's product over all rows. -/
theorem result (i : S4x704x1024.Idx) : @Eq EReal (Value.G2 m c i) (∑ l : Fin 8192, term m c i l) := by
  have h0 : (i 0).val < 4 := (i 0).isLt
  have h1 : (i 1).val < 704 := (i 1).isLt
  have h2 : (i 2).val < 1024 := (i 2).isLt
  have hr : Value.run2Of i = (i 0).val := by
    show 1 * ((i 0).val / 1 - 0) + 1 * ((i 1).val / 704 - 0) + 1 * ((i 2).val / 1024 - 0) = _
    omega
  have hN : 2 * Value.run2Of i + 1 < cfg0.N := by rw [hr, show cfg0.N = 8 from rfl]; omega
  have hlo : ∀ l : Fin 4096, l.val < 8192 := fun l => by omega
  have hhi : ∀ l : Fin 4096, 4096 + l.val < 8192 := fun l => by omega
  unfold Value.G2
  rw [dif_pos hN]
  refine (point (m := m) (c := c) i ⟨2 * Value.run2Of i + 1, hN⟩ (by show (2 * Value.run2Of i + 1) / 2 = _; omega) _).trans ?_
  refine (congrArg (· + _) (point (m := m) (c := c) i ⟨2 * Value.run2Of i, by omega⟩ (by show (2 * Value.run2Of i) / 2 = _; omega) _)).trans ?_
  rw [pay1, ← DwGate.halves (term m c i) hlo hhi]
  refine congrArg₂ (fun a b : EReal => 0 + a + b) (Finset.sum_congr rfl fun l _ => ?_) (Finset.sum_congr rfl fun l _ => ?_)
  · exact congrArg (term m c i) (Fin.ext (by show (2 * Value.run2Of i) % 2 * 4096 + l.val = l.val; omega))
  · exact congrArg (term m c i) (Fin.ext (by show (2 * Value.run2Of i + 1) % 2 * 4096 + l.val = 4096 + l.val; omega))

end Cert.DwDown

end
-- ==== Proof.DwDownClaim.lean ====
module
public import proofs.«01_k».proof.Proof.DwDown
public import proofs.«01_k».proof.Defs
public import proofs.«01_k».proof.Proof.Gen.Reference5Ideal.Read
public import Idealize.ShloMosaic.Lib.Quiescent

/-! The claims about the gradient with respect to the down weights. -/

@[expose] public section

set_option maxRecDepth 16384

noncomputable section

open Idealize.ShloMosaic Idealize.ShloMosaic.TcCoe Idealize.SL.Sem
open Cert.Kernel5Ideal Cert.Kernel5Ideal.Gen
open Cert.DwDown

namespace Cert.DwDownClaim

variable (m : (ℓ : Loc nD τ sig) → Buf (Elt Ideal) ℓ) (c : Dev nD)

/-- Column `f` of shard `j`. -/
def col (j : Fin 4) (f : Fin 704) : Fin 2816 := ⟨j.val * 704 + f.val, by omega⟩

/-- The product of the hidden arrays, as the reference computes it. -/
def A : FVec Ideal S8192x2816 .f32 :=
  Cert.Reference5Ideal.Read.val_main_v16 (F := Ideal) (m (c, Proc.tc.devRef main_arg1)) (m (c, Proc.tc.devRef main_arg2)) (m (c, Proc.tc.devRef main_arg3)) (m (c, Proc.tc.devRef main_arg4))
/-- Half the incoming gradient. -/
def B : FVec Ideal S8192x1024 .f32 :=
  Cert.Reference5Ideal.Read.val_main_v22 (F := Ideal) (m (c, Proc.tc.devRef main_arg0))

theorem lhs_eq (j : Fin 4) (l : Fin 8192) (f : Fin 704) : lhs m c (ValueIdx.ix3 j l f) = A m c (ValueIdx.ix2 l (col j f)) := by
  have e : lhs m c = truncf (F := Ideal) .bf16 (transpose S4x8192x704 [1, 0, 2]
      (shapeCast S8192x4x704 (A m c) shapeCasts_S8192x2816_S8192x4x704)
      transposes_S8192x4x704_S4x8192x704_1_0_2) bitsLt_bf16_f32 := by
    unfold lhs
    entry_read
    rfl
  rw [e]
  generalize A m c = a
  show shapeCast S8192x4x704 a _ _ = _
  refine shapeCast_apply a _ _ _ ?_
  rw [Shape.rowMajor_val_three, Shape.rowMajor_val_two]
  show l.val * 2816 + (j.val * 704 + f.val) = (l.val * 4 + j.val) * 704 + f.val
  omega

theorem rhs_eq (l : Fin 8192) (d : Fin 1024) : rhs m c (ValueIdx.ix3 (0 : Fin 1) l d) = B m c (ValueIdx.ix2 l d) := by
  have e : rhs m c = broadcastInDim S1x8192x1024 ![1, 2] bcast_S8192x1024_S1x8192x1024_1_2
      (truncf (F := Ideal) .bf16 (B m c) bitsLt_bf16_f32) := by
    unfold rhs
    entry_read
    rfl
  rw [e]
  exact congrArg (B m c) (funext fun a => by match a with | ⟨0, _⟩ => rfl | ⟨1, _⟩ => rfl)

/-- The kernel's result is the reference's. -/
theorem same : Value.G2 m c
    = Cert.Reference5Ideal.Read.val_main_v25 (F := Ideal) (m (c, Proc.tc.devRef main_arg0)) (m (c, Proc.tc.devRef main_arg1)) (m (c, Proc.tc.devRef main_arg2)) (m (c, Proc.tc.devRef main_arg3)) (m (c, Proc.tc.devRef main_arg4)) := by
  funext i
  have h0 : (i 0).val < 4 := (i 0).isLt
  have h1 : (i 1).val < 704 := (i 1).isLt
  have h2 : (i 2).val < 1024 := (i 2).isLt
  refine (show @Eq EReal _ _ from result i).trans ?_
  rw [Cert.Reference5Ideal.Read.val_main_v25_apply, Cert.Reference5Ideal.Read.val_main_v24_apply, Cert.Reference5Ideal.Read.val_main_v23_apply]
  refine Finset.sum_congr rfl fun l _ => ?_
  refine (congrArg₂ (fun a b : EReal => a * b) (lhs_eq m c (i 0) l (i 1)) (rhs_eq m c l (i 2))).trans ?_
  refine Eq.trans ?_ (mul_comm (_ : EReal) _)
  refine congrArg₂ (fun a b : EReal => a * b) (congrArg (A m c) ?_) (congrArg (B m c) ?_)
  · funext a
    match a with
    | ⟨0, _⟩ => rfl
    | ⟨1, _⟩ =>
      refine Fin.ext ?_
      show (i 0).val * 704 + (i 1).val = (((i 0).val * 704 + (i 1).val) * 1024 + (i 2).val) / 1024
      omega
  · funext a
    match a with
    | ⟨0, _⟩ => rfl
    | ⟨1, _⟩ =>
      refine Fin.ext ?_
      show (i 2).val = (((i 0).val * 704 + (i 1).val) * 1024 + (i 2).val) % 1024
      omega

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := by
  intro m g m' g' _ hargs
  refine ⟨fun c => Value.G2 m c, Value.run m g, ?_⟩
  refine (θ_run Cert.Reference5Ideal.defs _ _).mono (fun r h c => ?_) (Cert.Reference5Ideal.Value.run (F := Ideal) m' g')
  obtain ⟨a0, a1, a2, a3, a4, a5⟩ := hargs c
  obtain ⟨h0, h1⟩ := h c
  refine ⟨h0.trans ?_, h1⟩
  refine (Cert.Reference5Ideal.Read.val_main_v25_eq _ _ _ _ _).trans ?_
  rw [a0, a1, a2, a3, a4]
  exact (same m c).symm

end Cert.DwDownClaim

end
-- ==== Proof.DwSum.lean ====
module
public import Idealize.ShloMosaic.PureOps.Ideal.Laws

/-! A sum over the rows, block by block. -/

@[expose] public section

noncomputable section

namespace Cert.DwSum

/-- A function of the rows, at every natural number. -/
def ext {N : ℕ} (f : Fin N → EReal) (n : ℕ) : EReal := if h : n < N then f ⟨n, h⟩ else 0

theorem ext_of_lt {N : ℕ} (f : Fin N → EReal) (n : ℕ) (h : n < N) : ext f n = f ⟨n, h⟩ := dif_pos h

theorem sum_ext {N : ℕ} (f : Fin N → EReal) : ∑ k ∈ Finset.range N, ext f k = ∑ k : Fin N, f k := by
  rw [← Fin.sum_univ_eq_sum_range (ext f) N]
  exact Finset.sum_congr rfl fun k _ => ext_of_lt f k.val k.isLt

theorem blocks (n m : ℕ) (g : ℕ → EReal) :
    ∑ s ∈ Finset.range n, ∑ l : Fin m, g (s * m + l.val) = ∑ k ∈ Finset.range (n * m), g k := by
  induction n with
  | zero => simp
  | succ n ih =>
    rw [Finset.sum_range_succ, ih, Nat.succ_mul, Finset.sum_range_add, Fin.sum_univ_eq_sum_range (fun l => g (n * m + l)) m]

end Cert.DwSum

end
-- ==== Proof.DwIn.lean ====
module
public import proofs.«01_k».proof.Proof.DwSum
public import proofs.«01_k».proof.Proof.Gen.Kernel6Ideal.Value
public import Idealize.ShloMosaic.Lib.ValueIdxCore
public import Idealize.ShloMosaic.Lib.IdealHost
public import Idealize.ShloMosaic.Lib.Tactic

/-! The gradient with respect to the weights of the mixing layer's input projection: the kernel adds the products of blocks of 1024 rows. -/

@[expose] public section

set_option maxRecDepth 16384

noncomputable section

open Idealize.ShloMosaic Idealize.ShloMosaic.TcCoe Idealize.SL.Sem
open Idealize.ShloMosaic.Pipeline (Dat)
open Cert.Kernel6Ideal Cert.Kernel6Ideal.Gen

namespace Cert.DwIn

/-! ### One grid point -/

theorem tile (a : S1024x4864.Idx → EReal) (b : S1024x512.Idx → EReal) (j : S4864x512.Idx) :
    ∑ k : dot_S1024x4864_S1024x512_S4864x512_0_0_1_1_n_n.contr.Idx, a (dot_S1024x4864_S1024x512_S4864x512_0_0_1_1_n_n.lhsIdx j k) * b (dot_S1024x4864_S1024x512_S4864x512_0_0_1_1_n_n.rhsIdx j k)
      = ∑ l : Fin 1024, a (ValueIdx.ix2 l (j 0)) * b (ValueIdx.ix2 l (j 1)) :=
  Fintype.sum_equiv (ValueIdx.contrEquiv1 dot_S1024x4864_S1024x512_S4864x512_0_0_1_1_n_n 1024 rfl rfl) _ _ fun k => by
    congr 1
    · exact congrArg a (funext fun x => by match x with | ⟨0, _⟩ => rfl | ⟨1, _⟩ => rfl)
    · exact congrArg b (funext fun x => by match x with | ⟨0, _⟩ => rfl | ⟨1, _⟩ => rfl)

/-- The zeros that the first point stores. -/
theorem pay1 (y : S1x4864x512.Idx) : k0_pay1 (F := Ideal) y = 0 := by
  show Ideal.ofBits .f32 0x00000000#32 = 0
  simp [Ideal.ofBits, Ideal.ieee]

/-- A point adds the product of its blocks. -/
theorem pay2 (acc : Vec Ideal S1x4864x512 .f32) (a : Vec Ideal S1x1024x4864 .bf16) (b : Vec Ideal S1x1024x512 .bf16) (y : S1x4864x512.Idx) :
    k0_pay2 acc a b y
      = acc y + ∑ l : Fin 1024, (a (ValueIdx.ix3 (0 : Fin 1) l (y 1)) : EReal) * (b (ValueIdx.ix3 (0 : Fin 1) l (y 2)) : EReal) := by
  unfold k0_pay2
  have h0 : (y 0).val < 1 := (y 0).isLt
  refine (shapeCast_apply _ _ y (ValueIdx.ix2 (y 1) (y 2)) (by
    rw [Shape.rowMajor_val_three, Shape.rowMajor_val_two]
    show (y 1).val * 512 + (y 2).val = ((y 0).val * 4864 + (y 1).val) * 512 + (y 2).val
    omega)).trans ?_
  show (_ : EReal) + (_ : EReal) = _
  refine congrArg₂ (fun a b : EReal => a + b) ?_ ?_
  · exact shapeCast_apply acc _ (ValueIdx.ix2 (y 1) (y 2)) y (by
      rw [Shape.rowMajor_val_three, Shape.rowMajor_val_two]
      show ((y 0).val * 4864 + (y 1).val) * 512 + (y 2).val = (y 1).val * 512 + (y 2).val
      omega)
  · show Ideal.ofBits .f32 0x00000000#32 + (_ : EReal) = _
    rw [show Ideal.ofBits .f32 0x00000000#32 = 0 by simp [Ideal.ofBits, Ideal.ieee], zero_add]
    refine (tile _ _ _).trans (Finset.sum_congr rfl fun l _ => congrArg₂ (fun a b : EReal => a * b) ?_ ?_)
    · exact shapeCast_apply a _ _ (ValueIdx.ix3 (0 : Fin 1) l (y 1)) (by
        rw [Shape.rowMajor_val_three, Shape.rowMajor_val_two]
        show (0 * 1024 + l.val) * 4864 + (y 1).val = l.val * 4864 + (y 1).val
        omega)
    · exact shapeCast_apply b _ _ (ValueIdx.ix3 (0 : Fin 1) l (y 2)) (by
        rw [Shape.rowMajor_val_three, Shape.rowMajor_val_two]
        show (0 * 1024 + l.val) * 512 + (y 2).val = l.val * 512 + (y 2).val
        omega)

/-! ### Where the blocks lie -/

theorem ix_0 : ∀ t : Fin cfg0.N, win0_0.index t = ![0, t.val % 8, 0] :=
  (by decide +kernel : ∀ t : Fin grid0.N, win0_0.index t = ![0, t.val % 8, 0])
theorem ix_1 : ∀ t : Fin cfg0.N, win0_1.index t = ![0, t.val % 8, t.val / 8] :=
  (by decide +kernel : ∀ t : Fin grid0.N, win0_1.index t = ![0, t.val % 8, t.val / 8])

/-- Row `l` of the block of rows that point `t` takes. -/
def at_ (t : Fin cfg0.N) (l : Fin 1024) : Fin 8192 := ⟨t.val % 8 * 1024 + l.val, by omega⟩
/-- Column `d` of the block of columns that point `t` takes. -/
def col (t : Fin cfg0.N) (d : Fin 512) : Fin 1024 := ⟨t.val / 8 * 512 + d.val, by have h : t.val < 16 := t.isLt; omega⟩

theorem emb_0 (t : Fin cfg0.N) (l : Fin 1024) (f : Fin 4864) :
    (((cfg0.win 0).blk t).view.emb (ValueIdx.ix3 (0 : Fin 1) l f : S1x1024x4864.Idx) : S1x8192x4864.Idx) = ValueIdx.ix3 (0 : Fin 1) (at_ t l) f := by
  funext a
  apply Fin.ext
  match a with
  | ⟨0, _⟩ => show win0_0.index t 0 * 1 + 1 * 0 = 0; rw [ix_0]; rfl
  | ⟨1, _⟩ => show win0_0.index t 1 * 1024 + 1 * l.val = t.val % 8 * 1024 + l.val; rw [ix_0]; show t.val % 8 * 1024 + 1 * l.val = _; omega
  | ⟨2, _⟩ => show win0_0.index t 2 * 4864 + 1 * f.val = f.val; rw [ix_0]; show 0 * 4864 + 1 * f.val = _; omega
theorem emb_1 (t : Fin cfg0.N) (l : Fin 1024) (f : Fin 512) :
    (((cfg0.win 1).blk t).view.emb (ValueIdx.ix3 (0 : Fin 1) l f : S1x1024x512.Idx) : S1x8192x1024.Idx) = ValueIdx.ix3 (0 : Fin 1) (at_ t l) (col t f) := by
  funext a
  apply Fin.ext
  match a with
  | ⟨0, _⟩ => show win0_1.index t 0 * 1 + 1 * 0 = 0; rw [ix_1]; rfl
  | ⟨1, _⟩ => show win0_1.index t 1 * 1024 + 1 * l.val = t.val % 8 * 1024 + l.val; rw [ix_1]; show t.val % 8 * 1024 + 1 * l.val = _; omega
  | ⟨2, _⟩ => show win0_1.index t 2 * 512 + 1 * f.val = t.val / 8 * 512 + f.val; rw [ix_1]; show t.val / 8 * 512 + 1 * f.val = _; omega

variable {m : (ℓ : Loc nD τ sig) → Buf (Elt Ideal) ℓ} {c : Dev nD}

/-- The launch's two arguments. -/
def lhs (m : (ℓ : Loc nD τ sig) → Buf (Elt Ideal) ℓ) (c : Dev nD) : S1x8192x4864.Idx → EReal := V m c main_v1
def rhs (m : (ℓ : Loc nD τ sig) → Buf (Elt Ideal) ℓ) (c : Dev nD) : S1x8192x1024.Idx → EReal := V m c main_v16

theorem blk_0 (t : Fin cfg0.N) (l : Fin 1024) (f : Fin 4864) :
    (iblk m c 0 t : Vec Ideal S1x1024x4864 .bf16) (ValueIdx.ix3 (0 : Fin 1) l f) = lhs m c (ValueIdx.ix3 (0 : Fin 1) (at_ t l) f) := by
  unfold iblk
  rw [View.read_apply]
  show V m c main_v1 _ = _
  rw [emb_0]
  rfl
theorem blk_1 (t : Fin cfg0.N) (l : Fin 1024) (f : Fin 512) :
    (iblk m c 1 t : Vec Ideal S1x1024x512 .bf16) (ValueIdx.ix3 (0 : Fin 1) l f) = rhs m c (ValueIdx.ix3 (0 : Fin 1) (at_ t l) (col t f)) := by
  unfold iblk
  rw [View.read_apply]
  show V m c main_v16 _ = _
  rw [emb_1]
  rfl

/-- What row `l` adds to entry `i` of the result. -/
def term (m : (ℓ : Loc nD τ sig) → Buf (Elt Ideal) ℓ) (c : Dev nD) (i : S1x4864x1024.Idx) (l : Fin 8192) : EReal :=
  lhs m c (ValueIdx.ix3 (0 : Fin 1) l (i 1)) * rhs m c (ValueIdx.ix3 (0 : Fin 1) l (i 2))

/-- What a point of the columns of `i` adds there. -/
theorem point (i : S1x4864x1024.Idx) (t : Fin cfg0.N) (ht : t.val / 8 = (i 2).val / 512) (acc : Vec Ideal S1x4864x512 .f32) :
    k0_pay2 acc (iblk m c 0 t) (iblk m c 1 t) (Value.loc2Of i)
      = acc (Value.loc2Of i) + ∑ l : Fin 1024, DwSum.ext (term m c i) (t.val % 8 * 1024 + l.val) := by
  have h1 : (i 1).val < 4864 := (i 1).isLt
  have h2 : (i 2).val < 1024 := (i 2).isLt
  have hb : Value.loc2Of i 1 = i 1 := Fin.ext (Nat.mod_eq_of_lt h1)
  have hc : col t (Value.loc2Of i 2) = i 2 := Fin.ext (by
    show t.val / 8 * 512 + (i 2).val % 512 = (i 2).val
    omega)
  refine (pay2 _ _ _ _).trans (congrArg (acc (Value.loc2Of i) + ·) (Finset.sum_congr rfl fun l _ => ?_))
  refine (congrArg₂ (fun a b : EReal => a * b) (blk_0 t l (Value.loc2Of i 1)) (blk_1 t l (Value.loc2Of i 2))).trans ?_
  rw [hb, hc]
  exact (DwSum.ext_of_lt (term m c i) _ (at_ t l).isLt).symm

theorem run_eq (i : S1x4864x1024.Idx) : Value.run2Of i = (i 2).val / 512 := by
  have h0 : (i 0).val < 1 := (i 0).isLt
  have h1 : (i 1).val < 4864 := (i 1).isLt
  have h2 : (i 2).val < 1024 := (i 2).isLt
  show 2 * ((i 0).val / 1 - 0) + 2 * ((i 1).val / 4864 - 0) + 1 * ((i 2).val / 512 - 0) = _
  omega

/-- The run of the columns of `i`, after its first `j + 1` points. -/
theorem fold (i : S1x4864x1024.Idx) (j : ℕ) (hj : j < 8) (h : 8 * Value.run2Of i + j < cfg0.N) :
    @Eq EReal (Pipeline.accAt (Value.reset2 m c) (Value.step2 m c) (8 * Value.run2Of i) j h (Value.loc2Of i))
      (∑ s ∈ Finset.range (j + 1), ∑ l : Fin 1024, DwSum.ext (term m c i) (s * 1024 + l.val)) := by
  have hr := run_eq i
  induction j with
  | zero =>
    have e := point (m := m) (c := c) i ⟨8 * Value.run2Of i, h⟩ (by show (8 * Value.run2Of i) / 8 = _; omega) (k0_pay1 (F := Ideal))
    rw [pay1, zero_add] at e
    refine Eq.trans e ?_
    rw [Finset.sum_range_one, show (8 * Value.run2Of i) % 8 = 0 by omega]
  | succ j ih =>
    refine (point (m := m) (c := c) i ⟨8 * Value.run2Of i + (j + 1), h⟩ (by show (8 * Value.run2Of i + (j + 1)) / 8 = _; omega) _).trans ?_
    rw [Finset.sum_range_succ _ (j + 1)]
    refine congrArg₂ (fun a b : EReal => a + b) (ih (by omega) (by omega)) ?_
    rw [show (8 * Value.run2Of i + (j + 1)) % 8 = j + 1 by omega]

/-- The result: the product over all rows. -/
theorem result (i : S1x4864x1024.Idx) : @Eq EReal (Value.G2 m c i) (∑ l : Fin 8192, term m c i l) := by
  have h2 : (i 2).val < 1024 := (i 2).isLt
  have hr := run_eq i
  have hN : 8 * Value.run2Of i + 7 < cfg0.N := by rw [hr, show cfg0.N = 16 from rfl]; omega
  unfold Value.G2
  rw [dif_pos hN]
  refine (fold i 7 (by omega) hN).trans ?_
  rw [DwSum.blocks 8 1024 (DwSum.ext (term m c i))]
  exact DwSum.sum_ext (term m c i)

end Cert.DwIn

end
-- ==== Proof.DwInClaim.lean ====
module
public import proofs.«01_k».proof.Proof.DwIn
public import proofs.«01_k».proof.Defs
public import proofs.«01_k».proof.Proof.Gen.Reference6Ideal.Read
public import Idealize.ShloMosaic.Lib.Quiescent

/-! The claims about the gradient with respect to the weights of the mixing layer's input projection. -/

@[expose] public section

set_option maxRecDepth 16384

noncomputable section

open Idealize.ShloMosaic Idealize.ShloMosaic.TcCoe Idealize.SL.Sem
open Cert.Kernel6Ideal Cert.Kernel6Ideal.Gen
open Cert.DwIn

namespace Cert.DwInClaim

variable (m : (ℓ : Loc nD τ sig) → Buf (Elt Ideal) ℓ) (c : Dev nD)

/-- The cotangent of the projection. -/
def A : FVec Ideal S8192x4864 .f32 :=
  m (c, Proc.tc.devRef main_arg0)
/-- The normed rows. -/
def B : FVec Ideal S8192x1024 .f32 :=
  Cert.Reference6Ideal.Read.val_main_v12 (F := Ideal) (m (c, Proc.tc.devRef main_arg1)) (m (c, Proc.tc.devRef main_arg2))

theorem lhs_eq (l : Fin 8192) (f : Fin 4864) : lhs m c (ValueIdx.ix3 (0 : Fin 1) l f) = A m c (ValueIdx.ix2 l f) := by
  have e : lhs m c = broadcastInDim S1x8192x4864 ![1, 2] bcast_S8192x4864_S1x8192x4864_1_2 (truncf (F := Ideal) .bf16 (A m c) bitsLt_bf16_f32) := by
    unfold lhs
    entry_read
    rfl
  rw [e]
  exact congrArg (A m c) (funext fun a => by match a with | ⟨0, _⟩ => rfl | ⟨1, _⟩ => rfl)

theorem rhs_eq (l : Fin 8192) (d : Fin 1024) : rhs m c (ValueIdx.ix3 (0 : Fin 1) l d) = B m c (ValueIdx.ix2 l d) := by
  have e : rhs m c = broadcastInDim S1x8192x1024 ![1, 2] bcast_S8192x1024_S1x8192x1024_1_2 (truncf (F := Ideal) .bf16 (B m c) bitsLt_bf16_f32) := by
    unfold rhs
    entry_read
    rfl
  rw [e]
  exact congrArg (B m c) (funext fun a => by match a with | ⟨0, _⟩ => rfl | ⟨1, _⟩ => rfl)

/-- The kernel's result is the reference's. -/
theorem same : Value.G2 m c
    = Cert.Reference6Ideal.Read.val_main_v17 (F := Ideal) (m (c, Proc.tc.devRef main_arg0)) (m (c, Proc.tc.devRef main_arg1)) (m (c, Proc.tc.devRef main_arg2)) := by
  funext i
  refine (show @Eq EReal _ _ from result i).trans ?_
  rw [Cert.Reference6Ideal.Read.val_main_v17_apply, Cert.Reference6Ideal.Read.val_main_v16_apply, Cert.Reference6Ideal.Read.val_main_v15_apply, Cert.Reference6Ideal.Read.val_main_v14_apply]
  refine Finset.sum_congr rfl fun l _ => ?_
  refine (congrArg₂ (fun a b : EReal => a * b) (lhs_eq m c l (i 1)) (rhs_eq m c l (i 2))).trans ?_
  refine congrArg₂ (fun a b : EReal => a * b) (congrArg (A m c) ?_) (congrArg (B m c) ?_)
  · funext a
    match a with
    | ⟨0, _⟩ => rfl
    | ⟨1, _⟩ => rfl
  · funext a
    match a with
    | ⟨0, _⟩ => rfl
    | ⟨1, _⟩ => rfl

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  intro m g m' g' _ hargs
  refine ⟨fun c => Value.G2 m c, Value.run m g, ?_⟩
  refine (θ_run Cert.Reference6Ideal.defs _ _).mono (fun r h c => ?_) (Cert.Reference6Ideal.Value.run (F := Ideal) m' g')
  obtain ⟨a0, a1, a2, a3⟩ := hargs c
  obtain ⟨h0, h1⟩ := h c
  refine ⟨h0.trans ?_, h1⟩
  refine (Cert.Reference6Ideal.Read.val_main_v17_eq _ _ _).trans ?_
  rw [a0, a1, a2]
  exact (same m c).symm

end Cert.DwInClaim

end
-- ==== Proof.DwOut.lean ====
module
public import proofs.«01_k».proof.Proof.DwSum
public import proofs.«01_k».proof.Proof.Gen.Kernel7Ideal.Value
public import Idealize.ShloMosaic.Lib.ValueIdxCore
public import Idealize.ShloMosaic.Lib.IdealHost
public import Idealize.ShloMosaic.Lib.Tactic

/-! The gradient with respect to the weights of the mixing layer's output projection: the kernel adds the products of blocks of 2048 rows. -/

@[expose] public section

set_option maxRecDepth 16384

noncomputable section

open Idealize.ShloMosaic Idealize.ShloMosaic.TcCoe Idealize.SL.Sem
open Idealize.ShloMosaic.Pipeline (Dat)
open Cert.Kernel7Ideal Cert.Kernel7Ideal.Gen

namespace Cert.DwOut

/-! ### One grid point -/

theorem tile (a : S2048x1024.Idx → EReal) (b : S2048x1024.Idx → EReal) (j : S1024x1024.Idx) :
    ∑ k : dot_S2048x1024_S2048x1024_S1024x1024_0_0_1_1_n_n.contr.Idx, a (dot_S2048x1024_S2048x1024_S1024x1024_0_0_1_1_n_n.lhsIdx j k) * b (dot_S2048x1024_S2048x1024_S1024x1024_0_0_1_1_n_n.rhsIdx j k)
      = ∑ l : Fin 2048, a (ValueIdx.ix2 l (j 0)) * b (ValueIdx.ix2 l (j 1)) :=
  Fintype.sum_equiv (ValueIdx.contrEquiv1 dot_S2048x1024_S2048x1024_S1024x1024_0_0_1_1_n_n 2048 rfl rfl) _ _ fun k => by
    congr 1
    · exact congrArg a (funext fun x => by match x with | ⟨0, _⟩ => rfl | ⟨1, _⟩ => rfl)
    · exact congrArg b (funext fun x => by match x with | ⟨0, _⟩ => rfl | ⟨1, _⟩ => rfl)

/-- The zeros that the first point stores. -/
theorem pay1 (y : S1x1024x1024.Idx) : k0_pay1 (F := Ideal) y = 0 := by
  show Ideal.ofBits .f32 0x00000000#32 = 0
  simp [Ideal.ofBits, Ideal.ieee]

/-- A point adds the product of its blocks. -/
theorem pay2 (acc : Vec Ideal S1x1024x1024 .f32) (a : Vec Ideal S1x2048x1024 .bf16) (b : Vec Ideal S1x2048x1024 .f32) (y : S1x1024x1024.Idx) :
    k0_pay2 acc a b y
      = acc y + ∑ l : Fin 2048, (a (ValueIdx.ix3 (0 : Fin 1) l (y 1)) : EReal) * (b (ValueIdx.ix3 (0 : Fin 1) l (y 2)) : EReal) := by
  unfold k0_pay2
  have h0 : (y 0).val < 1 := (y 0).isLt
  refine (shapeCast_apply _ _ y (ValueIdx.ix2 (y 1) (y 2)) (by
    rw [Shape.rowMajor_val_three, Shape.rowMajor_val_two]
    show (y 1).val * 1024 + (y 2).val = ((y 0).val * 1024 + (y 1).val) * 1024 + (y 2).val
    omega)).trans ?_
  show (_ : EReal) + (_ : EReal) = _
  refine congrArg₂ (fun a b : EReal => a + b) ?_ ?_
  · exact shapeCast_apply acc _ (ValueIdx.ix2 (y 1) (y 2)) y (by
      rw [Shape.rowMajor_val_three, Shape.rowMajor_val_two]
      show ((y 0).val * 1024 + (y 1).val) * 1024 + (y 2).val = (y 1).val * 1024 + (y 2).val
      omega)
  · show Ideal.ofBits .f32 0x00000000#32 + (_ : EReal) = _
    rw [show Ideal.ofBits .f32 0x00000000#32 = 0 by simp [Ideal.ofBits, Ideal.ieee], zero_add]
    refine (tile _ _ _).trans (Finset.sum_congr rfl fun l _ => congrArg₂ (fun a b : EReal => a * b) ?_ ?_)
    · exact shapeCast_apply a _ _ (ValueIdx.ix3 (0 : Fin 1) l (y 1)) (by
        rw [Shape.rowMajor_val_three, Shape.rowMajor_val_two]
        show (0 * 2048 + l.val) * 1024 + (y 1).val = l.val * 1024 + (y 1).val
        omega)
    · exact shapeCast_apply b _ _ (ValueIdx.ix3 (0 : Fin 1) l (y 2)) (by
        rw [Shape.rowMajor_val_three, Shape.rowMajor_val_two]
        show (0 * 2048 + l.val) * 1024 + (y 2).val = l.val * 1024 + (y 2).val
        omega)

/-! ### Where the blocks lie -/

theorem ix_0 : ∀ t : Fin cfg0.N, win0_0.index t = ![0, t.val % 4, 0] :=
  (by decide +kernel : ∀ t : Fin grid0.N, win0_0.index t = ![0, t.val % 4, 0])
theorem ix_1 : ∀ t : Fin cfg0.N, win0_1.index t = ![0, t.val % 4, t.val / 4] :=
  (by decide +kernel : ∀ t : Fin grid0.N, win0_1.index t = ![0, t.val % 4, t.val / 4])

/-- Row `l` of the block of rows that point `t` takes. -/
def at_ (t : Fin cfg0.N) (l : Fin 2048) : Fin 8192 := ⟨t.val % 4 * 2048 + l.val, by omega⟩
/-- Column `d` of the block of columns that point `t` takes. -/
def col (t : Fin cfg0.N) (d : Fin 1024) : Fin 1024 := ⟨t.val / 4 * 1024 + d.val, by have h : t.val < 4 := t.isLt; omega⟩

theorem emb_0 (t : Fin cfg0.N) (l : Fin 2048) (f : Fin 1024) :
    (((cfg0.win 0).blk t).view.emb (ValueIdx.ix3 (0 : Fin 1) l f : S1x2048x1024.Idx) : S1x8192x1024.Idx) = ValueIdx.ix3 (0 : Fin 1) (at_ t l) f := by
  funext a
  apply Fin.ext
  match a with
  | ⟨0, _⟩ => show win0_0.index t 0 * 1 + 1 * 0 = 0; rw [ix_0]; rfl
  | ⟨1, _⟩ => show win0_0.index t 1 * 2048 + 1 * l.val = t.val % 4 * 2048 + l.val; rw [ix_0]; show t.val % 4 * 2048 + 1 * l.val = _; omega
  | ⟨2, _⟩ => show win0_0.index t 2 * 1024 + 1 * f.val = f.val; rw [ix_0]; show 0 * 1024 + 1 * f.val = _; omega
theorem emb_1 (t : Fin cfg0.N) (l : Fin 2048) (f : Fin 1024) :
    (((cfg0.win 1).blk t).view.emb (ValueIdx.ix3 (0 : Fin 1) l f : S1x2048x1024.Idx) : S1x8192x1024.Idx) = ValueIdx.ix3 (0 : Fin 1) (at_ t l) (col t f) := by
  funext a
  apply Fin.ext
  match a with
  | ⟨0, _⟩ => show win0_1.index t 0 * 1 + 1 * 0 = 0; rw [ix_1]; rfl
  | ⟨1, _⟩ => show win0_1.index t 1 * 2048 + 1 * l.val = t.val % 4 * 2048 + l.val; rw [ix_1]; show t.val % 4 * 2048 + 1 * l.val = _; omega
  | ⟨2, _⟩ => show win0_1.index t 2 * 1024 + 1 * f.val = t.val / 4 * 1024 + f.val; rw [ix_1]; show t.val / 4 * 1024 + 1 * f.val = _; omega

variable {m : (ℓ : Loc nD τ sig) → Buf (Elt Ideal) ℓ} {c : Dev nD}

/-- The launch's two arguments. -/
def lhs (m : (ℓ : Loc nD τ sig) → Buf (Elt Ideal) ℓ) (c : Dev nD) : S1x8192x1024.Idx → EReal := V m c main_v51
def rhs (m : (ℓ : Loc nD τ sig) → Buf (Elt Ideal) ℓ) (c : Dev nD) : S1x8192x1024.Idx → EReal := V m c main_v52

theorem blk_0 (t : Fin cfg0.N) (l : Fin 2048) (f : Fin 1024) :
    (iblk m c 0 t : Vec Ideal S1x2048x1024 .bf16) (ValueIdx.ix3 (0 : Fin 1) l f) = lhs m c (ValueIdx.ix3 (0 : Fin 1) (at_ t l) f) := by
  unfold iblk
  rw [View.read_apply]
  show V m c main_v51 _ = _
  rw [emb_0]
  rfl
theorem blk_1 (t : Fin cfg0.N) (l : Fin 2048) (f : Fin 1024) :
    (iblk m c 1 t : Vec Ideal S1x2048x1024 .f32) (ValueIdx.ix3 (0 : Fin 1) l f) = rhs m c (ValueIdx.ix3 (0 : Fin 1) (at_ t l) (col t f)) := by
  unfold iblk
  rw [View.read_apply]
  show V m c main_v52 _ = _
  rw [emb_1]
  rfl

/-- What row `l` adds to entry `i` of the result. -/
def term (m : (ℓ : Loc nD τ sig) → Buf (Elt Ideal) ℓ) (c : Dev nD) (i : S1x1024x1024.Idx) (l : Fin 8192) : EReal :=
  lhs m c (ValueIdx.ix3 (0 : Fin 1) l (i 1)) * rhs m c (ValueIdx.ix3 (0 : Fin 1) l (i 2))

/-- What a point of the columns of `i` adds there. -/
theorem point (i : S1x1024x1024.Idx) (t : Fin cfg0.N) (ht : t.val / 4 = (i 2).val / 1024) (acc : Vec Ideal S1x1024x1024 .f32) :
    k0_pay2 acc (iblk m c 0 t) (iblk m c 1 t) (Value.loc2Of i)
      = acc (Value.loc2Of i) + ∑ l : Fin 2048, DwSum.ext (term m c i) (t.val % 4 * 2048 + l.val) := by
  have h1 : (i 1).val < 1024 := (i 1).isLt
  have h2 : (i 2).val < 1024 := (i 2).isLt
  have hb : Value.loc2Of i 1 = i 1 := Fin.ext (Nat.mod_eq_of_lt h1)
  have hc : col t (Value.loc2Of i 2) = i 2 := Fin.ext (by
    show t.val / 4 * 1024 + (i 2).val % 1024 = (i 2).val
    omega)
  refine (pay2 _ _ _ _).trans (congrArg (acc (Value.loc2Of i) + ·) (Finset.sum_congr rfl fun l _ => ?_))
  refine (congrArg₂ (fun a b : EReal => a * b) (blk_0 t l (Value.loc2Of i 1)) (blk_1 t l (Value.loc2Of i 2))).trans ?_
  rw [hb, hc]
  exact (DwSum.ext_of_lt (term m c i) _ (at_ t l).isLt).symm

theorem run_eq (i : S1x1024x1024.Idx) : Value.run2Of i = (i 2).val / 1024 := by
  have h0 : (i 0).val < 1 := (i 0).isLt
  have h1 : (i 1).val < 1024 := (i 1).isLt
  have h2 : (i 2).val < 1024 := (i 2).isLt
  show 1 * ((i 0).val / 1 - 0) + 1 * ((i 1).val / 1024 - 0) + 1 * ((i 2).val / 1024 - 0) = _
  omega

/-- The run of the columns of `i`, after its first `j + 1` points. -/
theorem fold (i : S1x1024x1024.Idx) (j : ℕ) (hj : j < 4) (h : 4 * Value.run2Of i + j < cfg0.N) :
    @Eq EReal (Pipeline.accAt (Value.reset2 m c) (Value.step2 m c) (4 * Value.run2Of i) j h (Value.loc2Of i))
      (∑ s ∈ Finset.range (j + 1), ∑ l : Fin 2048, DwSum.ext (term m c i) (s * 2048 + l.val)) := by
  have hr := run_eq i
  induction j with
  | zero =>
    have e := point (m := m) (c := c) i ⟨4 * Value.run2Of i, h⟩ (by show (4 * Value.run2Of i) / 4 = _; omega) (k0_pay1 (F := Ideal))
    rw [pay1, zero_add] at e
    refine Eq.trans e ?_
    rw [Finset.sum_range_one, show (4 * Value.run2Of i) % 4 = 0 by omega]
  | succ j ih =>
    refine (point (m := m) (c := c) i ⟨4 * Value.run2Of i + (j + 1), h⟩ (by show (4 * Value.run2Of i + (j + 1)) / 4 = _; omega) _).trans ?_
    rw [Finset.sum_range_succ _ (j + 1)]
    refine congrArg₂ (fun a b : EReal => a + b) (ih (by omega) (by omega)) ?_
    rw [show (4 * Value.run2Of i + (j + 1)) % 4 = j + 1 by omega]

/-- The result: the product over all rows. -/
theorem result (i : S1x1024x1024.Idx) : @Eq EReal (Value.G2 m c i) (∑ l : Fin 8192, term m c i l) := by
  have h2 : (i 2).val < 1024 := (i 2).isLt
  have hr := run_eq i
  have hN : 4 * Value.run2Of i + 3 < cfg0.N := by rw [hr, show cfg0.N = 4 from rfl]; omega
  unfold Value.G2
  rw [dif_pos hN]
  refine (fold i 3 (by omega) hN).trans ?_
  rw [DwSum.blocks 4 2048 (DwSum.ext (term m c i))]
  exact DwSum.sum_ext (term m c i)

end Cert.DwOut

end
-- ==== Proof.DwOutClaim.lean ====
module
public import proofs.«01_k».proof.Proof.DwOut
public import proofs.«01_k».proof.Defs
public import proofs.«01_k».proof.Proof.Gen.Reference7Ideal.Read
public import Idealize.ShloMosaic.Lib.Quiescent

/-! The claims about the gradient with respect to the weights of the mixing layer's output projection. -/

@[expose] public section

set_option maxRecDepth 16384

noncomputable section

open Idealize.ShloMosaic Idealize.ShloMosaic.TcCoe Idealize.SL.Sem
open Cert.Kernel7Ideal Cert.Kernel7Ideal.Gen
open Cert.DwOut

namespace Cert.DwOutClaim

variable (m : (ℓ : Loc nD τ sig) → Buf (Elt Ideal) ℓ) (c : Dev nD)

/-- The merged branches. -/
def A : FVec Ideal S8192x1024 .f32 :=
  Cert.Reference7Ideal.Read.val_main_v49 (F := Ideal) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7))
/-- The incoming gradient. -/
def B : FVec Ideal S8192x1024 .f32 :=
  m (c, Proc.tc.devRef main_arg0)

theorem lhs_eq (l : Fin 8192) (f : Fin 1024) : lhs m c (ValueIdx.ix3 (0 : Fin 1) l f) = A m c (ValueIdx.ix2 l f) := by
  have e : lhs m c = broadcastInDim S1x8192x1024 ![1, 2] bcast_S8192x1024_S1x8192x1024_1_2 (truncf (F := Ideal) .bf16 (A m c) bitsLt_bf16_f32) := by
    unfold lhs
    entry_read
    rfl
  rw [e]
  exact congrArg (A m c) (funext fun a => by match a with | ⟨0, _⟩ => rfl | ⟨1, _⟩ => rfl)

theorem rhs_eq (l : Fin 8192) (d : Fin 1024) : rhs m c (ValueIdx.ix3 (0 : Fin 1) l d) = B m c (ValueIdx.ix2 l d) := by
  have e : rhs m c = broadcastInDim S1x8192x1024 ![1, 2] bcast_S8192x1024_S1x8192x1024_1_2 (B m c) := by
    unfold rhs
    entry_read
    rfl
  rw [e]
  exact congrArg (B m c) (funext fun a => by match a with | ⟨0, _⟩ => rfl | ⟨1, _⟩ => rfl)

/-- The kernel's result is the reference's. -/
theorem same : Value.G2 m c
    = Cert.Reference7Ideal.Read.val_main_v53 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) := by
  funext i
  refine (show @Eq EReal _ _ from result i).trans ?_
  rw [Cert.Reference7Ideal.Read.val_main_v53_apply, Cert.Reference7Ideal.Read.val_main_v52_apply, Cert.Reference7Ideal.Read.val_main_v51_apply]
  refine Finset.sum_congr rfl fun l _ => ?_
  refine (congrArg₂ (fun a b : EReal => a * b) (lhs_eq m c l (i 1)) (rhs_eq m c l (i 2))).trans ?_
  refine Eq.trans ?_ (mul_comm (_ : EReal) _)
  refine congrArg₂ (fun a b : EReal => a * b) (congrArg (A m c) ?_) (congrArg (B m c) ?_)
  · funext a
    match a with
    | ⟨0, _⟩ => rfl
    | ⟨1, _⟩ => rfl
  · funext a
    match a with
    | ⟨0, _⟩ => rfl
    | ⟨1, _⟩ => rfl

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  intro m g m' g' _ hargs
  refine ⟨fun c => Value.G2 m c, Value.run m g, ?_⟩
  refine (θ_run Cert.Reference7Ideal.defs _ _).mono (fun r h c => ?_) (Cert.Reference7Ideal.Value.run (F := Ideal) m' g')
  obtain ⟨a0, a1, a2, a3, a4, a5, a6, a7, a8⟩ := hargs c
  obtain ⟨h0, h1⟩ := h c
  refine ⟨h0.trans ?_, h1⟩
  refine (Cert.Reference7Ideal.Read.val_main_v53_eq _ _ _ _ _ _ _ _).trans ?_
  rw [a0, a1, a2, a3, a4, a5, a6, a7]
  exact (same m c).symm

end Cert.DwOutClaim

end
-- ==== Proof.DwAttn.lean ====
module
public import proofs.«01_k».proof.Proof.DwSum
public import proofs.«01_k».proof.Proof.Gen.Kernel8Ideal.Value
public import Idealize.ShloMosaic.Lib.ValueIdxCore
public import Idealize.ShloMosaic.Lib.IdealHost
public import Idealize.ShloMosaic.Lib.Tactic

/-! The gradient with respect to the weights of the attention branch: the kernel adds the products of blocks of 4096 rows. -/

@[expose] public section

set_option maxRecDepth 16384

noncomputable section

open Idealize.ShloMosaic Idealize.ShloMosaic.TcCoe Idealize.SL.Sem
open Idealize.ShloMosaic.Pipeline (Dat)
open Cert.Kernel8Ideal Cert.Kernel8Ideal.Gen

namespace Cert.DwAttn

/-! ### One grid point -/

theorem tile (a : S4096x256.Idx → EReal) (b : S4096x1024.Idx → EReal) (j : S256x1024.Idx) :
    ∑ k : dot_S4096x256_S4096x1024_S256x1024_0_0_1_1_n_n.contr.Idx, a (dot_S4096x256_S4096x1024_S256x1024_0_0_1_1_n_n.lhsIdx j k) * b (dot_S4096x256_S4096x1024_S256x1024_0_0_1_1_n_n.rhsIdx j k)
      = ∑ l : Fin 4096, a (ValueIdx.ix2 l (j 0)) * b (ValueIdx.ix2 l (j 1)) :=
  Fintype.sum_equiv (ValueIdx.contrEquiv1 dot_S4096x256_S4096x1024_S256x1024_0_0_1_1_n_n 4096 rfl rfl) _ _ fun k => by
    congr 1
    · exact congrArg a (funext fun x => by match x with | ⟨0, _⟩ => rfl | ⟨1, _⟩ => rfl)
    · exact congrArg b (funext fun x => by match x with | ⟨0, _⟩ => rfl | ⟨1, _⟩ => rfl)

/-- The zeros that the first point stores. -/
theorem pay1 (y : S1x256x1024.Idx) : k0_pay1 (F := Ideal) y = 0 := by
  show Ideal.ofBits .f32 0x00000000#32 = 0
  simp [Ideal.ofBits, Ideal.ieee]

/-- A point adds the product of its blocks. -/
theorem pay2 (acc : Vec Ideal S1x256x1024 .f32) (a : Vec Ideal S1x4096x256 .f32) (b : Vec Ideal S1x4096x1024 .bf16) (y : S1x256x1024.Idx) :
    k0_pay2 acc a b y
      = acc y + ∑ l : Fin 4096, (a (ValueIdx.ix3 (0 : Fin 1) l (y 1)) : EReal) * (b (ValueIdx.ix3 (0 : Fin 1) l (y 2)) : EReal) := by
  unfold k0_pay2
  have h0 : (y 0).val < 1 := (y 0).isLt
  refine (shapeCast_apply _ _ y (ValueIdx.ix2 (y 1) (y 2)) (by
    rw [Shape.rowMajor_val_three, Shape.rowMajor_val_two]
    show (y 1).val * 1024 + (y 2).val = ((y 0).val * 256 + (y 1).val) * 1024 + (y 2).val
    omega)).trans ?_
  show (_ : EReal) + (_ : EReal) = _
  refine congrArg₂ (fun a b : EReal => a + b) ?_ ?_
  · exact shapeCast_apply acc _ (ValueIdx.ix2 (y 1) (y 2)) y (by
      rw [Shape.rowMajor_val_three, Shape.rowMajor_val_two]
      show ((y 0).val * 256 + (y 1).val) * 1024 + (y 2).val = (y 1).val * 1024 + (y 2).val
      omega)
  · show Ideal.ofBits .f32 0x00000000#32 + (_ : EReal) = _
    rw [show Ideal.ofBits .f32 0x00000000#32 = 0 by simp [Ideal.ofBits, Ideal.ieee], zero_add]
    refine (tile _ _ _).trans (Finset.sum_congr rfl fun l _ => congrArg₂ (fun a b : EReal => a * b) ?_ ?_)
    · exact shapeCast_apply a _ _ (ValueIdx.ix3 (0 : Fin 1) l (y 1)) (by
        rw [Shape.rowMajor_val_three, Shape.rowMajor_val_two]
        show (0 * 4096 + l.val) * 256 + (y 1).val = l.val * 256 + (y 1).val
        omega)
    · exact shapeCast_apply b _ _ (ValueIdx.ix3 (0 : Fin 1) l (y 2)) (by
        rw [Shape.rowMajor_val_three, Shape.rowMajor_val_two]
        show (0 * 4096 + l.val) * 1024 + (y 2).val = l.val * 1024 + (y 2).val
        omega)

/-! ### Where the blocks lie -/

theorem ix_0 : ∀ t : Fin cfg0.N, win0_0.index t = ![0, t.val % 2, 0] :=
  (by decide +kernel : ∀ t : Fin grid0.N, win0_0.index t = ![0, t.val % 2, 0])
theorem ix_1 : ∀ t : Fin cfg0.N, win0_1.index t = ![0, t.val % 2, t.val / 2] :=
  (by decide +kernel : ∀ t : Fin grid0.N, win0_1.index t = ![0, t.val % 2, t.val / 2])

/-- Row `l` of the block of rows that point `t` takes. -/
def at_ (t : Fin cfg0.N) (l : Fin 4096) : Fin 8192 := ⟨t.val % 2 * 4096 + l.val, by omega⟩
/-- Column `d` of the block of columns that point `t` takes. -/
def col (t : Fin cfg0.N) (d : Fin 1024) : Fin 1024 := ⟨t.val / 2 * 1024 + d.val, by have h : t.val < 2 := t.isLt; omega⟩

theorem emb_0 (t : Fin cfg0.N) (l : Fin 4096) (f : Fin 256) :
    (((cfg0.win 0).blk t).view.emb (ValueIdx.ix3 (0 : Fin 1) l f : S1x4096x256.Idx) : S1x8192x256.Idx) = ValueIdx.ix3 (0 : Fin 1) (at_ t l) f := by
  funext a
  apply Fin.ext
  match a with
  | ⟨0, _⟩ => show win0_0.index t 0 * 1 + 1 * 0 = 0; rw [ix_0]; rfl
  | ⟨1, _⟩ => show win0_0.index t 1 * 4096 + 1 * l.val = t.val % 2 * 4096 + l.val; rw [ix_0]; show t.val % 2 * 4096 + 1 * l.val = _; omega
  | ⟨2, _⟩ => show win0_0.index t 2 * 256 + 1 * f.val = f.val; rw [ix_0]; show 0 * 256 + 1 * f.val = _; omega
theorem emb_1 (t : Fin cfg0.N) (l : Fin 4096) (f : Fin 1024) :
    (((cfg0.win 1).blk t).view.emb (ValueIdx.ix3 (0 : Fin 1) l f : S1x4096x1024.Idx) : S1x8192x1024.Idx) = ValueIdx.ix3 (0 : Fin 1) (at_ t l) (col t f) := by
  funext a
  apply Fin.ext
  match a with
  | ⟨0, _⟩ => show win0_1.index t 0 * 1 + 1 * 0 = 0; rw [ix_1]; rfl
  | ⟨1, _⟩ => show win0_1.index t 1 * 4096 + 1 * l.val = t.val % 2 * 4096 + l.val; rw [ix_1]; show t.val % 2 * 4096 + 1 * l.val = _; omega
  | ⟨2, _⟩ => show win0_1.index t 2 * 1024 + 1 * f.val = t.val / 2 * 1024 + f.val; rw [ix_1]; show t.val / 2 * 1024 + 1 * f.val = _; omega

variable {m : (ℓ : Loc nD τ sig) → Buf (Elt Ideal) ℓ} {c : Dev nD}

/-- The launch's two arguments. -/
def lhs (m : (ℓ : Loc nD τ sig) → Buf (Elt Ideal) ℓ) (c : Dev nD) : S1x8192x256.Idx → EReal := V m c main_v53
def rhs (m : (ℓ : Loc nD τ sig) → Buf (Elt Ideal) ℓ) (c : Dev nD) : S1x8192x1024.Idx → EReal := V m c main_v55

theorem blk_0 (t : Fin cfg0.N) (l : Fin 4096) (f : Fin 256) :
    (iblk m c 0 t : Vec Ideal S1x4096x256 .f32) (ValueIdx.ix3 (0 : Fin 1) l f) = lhs m c (ValueIdx.ix3 (0 : Fin 1) (at_ t l) f) := by
  unfold iblk
  rw [View.read_apply]
  show V m c main_v53 _ = _
  rw [emb_0]
  rfl
theorem blk_1 (t : Fin cfg0.N) (l : Fin 4096) (f : Fin 1024) :
    (iblk m c 1 t : Vec Ideal S1x4096x1024 .bf16) (ValueIdx.ix3 (0 : Fin 1) l f) = rhs m c (ValueIdx.ix3 (0 : Fin 1) (at_ t l) (col t f)) := by
  unfold iblk
  rw [View.read_apply]
  show V m c main_v55 _ = _
  rw [emb_1]
  rfl

/-- What row `l` adds to entry `i` of the result. -/
def term (m : (ℓ : Loc nD τ sig) → Buf (Elt Ideal) ℓ) (c : Dev nD) (i : S1x256x1024.Idx) (l : Fin 8192) : EReal :=
  lhs m c (ValueIdx.ix3 (0 : Fin 1) l (i 1)) * rhs m c (ValueIdx.ix3 (0 : Fin 1) l (i 2))

/-- What a point of the columns of `i` adds there. -/
theorem point (i : S1x256x1024.Idx) (t : Fin cfg0.N) (ht : t.val / 2 = (i 2).val / 1024) (acc : Vec Ideal S1x256x1024 .f32) :
    k0_pay2 acc (iblk m c 0 t) (iblk m c 1 t) (Value.loc2Of i)
      = acc (Value.loc2Of i) + ∑ l : Fin 4096, DwSum.ext (term m c i) (t.val % 2 * 4096 + l.val) := by
  have h1 : (i 1).val < 256 := (i 1).isLt
  have h2 : (i 2).val < 1024 := (i 2).isLt
  have hb : Value.loc2Of i 1 = i 1 := Fin.ext (Nat.mod_eq_of_lt h1)
  have hc : col t (Value.loc2Of i 2) = i 2 := Fin.ext (by
    show t.val / 2 * 1024 + (i 2).val % 1024 = (i 2).val
    omega)
  refine (pay2 _ _ _ _).trans (congrArg (acc (Value.loc2Of i) + ·) (Finset.sum_congr rfl fun l _ => ?_))
  refine (congrArg₂ (fun a b : EReal => a * b) (blk_0 t l (Value.loc2Of i 1)) (blk_1 t l (Value.loc2Of i 2))).trans ?_
  rw [hb, hc]
  exact (DwSum.ext_of_lt (term m c i) _ (at_ t l).isLt).symm

theorem run_eq (i : S1x256x1024.Idx) : Value.run2Of i = (i 2).val / 1024 := by
  have h0 : (i 0).val < 1 := (i 0).isLt
  have h1 : (i 1).val < 256 := (i 1).isLt
  have h2 : (i 2).val < 1024 := (i 2).isLt
  show 1 * ((i 0).val / 1 - 0) + 1 * ((i 1).val / 256 - 0) + 1 * ((i 2).val / 1024 - 0) = _
  omega

/-- The run of the columns of `i`, after its first `j + 1` points. -/
theorem fold (i : S1x256x1024.Idx) (j : ℕ) (hj : j < 2) (h : 2 * Value.run2Of i + j < cfg0.N) :
    @Eq EReal (Pipeline.accAt (Value.reset2 m c) (Value.step2 m c) (2 * Value.run2Of i) j h (Value.loc2Of i))
      (∑ s ∈ Finset.range (j + 1), ∑ l : Fin 4096, DwSum.ext (term m c i) (s * 4096 + l.val)) := by
  have hr := run_eq i
  induction j with
  | zero =>
    have e := point (m := m) (c := c) i ⟨2 * Value.run2Of i, h⟩ (by show (2 * Value.run2Of i) / 2 = _; omega) (k0_pay1 (F := Ideal))
    rw [pay1, zero_add] at e
    refine Eq.trans e ?_
    rw [Finset.sum_range_one, show (2 * Value.run2Of i) % 2 = 0 by omega]
  | succ j ih =>
    refine (point (m := m) (c := c) i ⟨2 * Value.run2Of i + (j + 1), h⟩ (by show (2 * Value.run2Of i + (j + 1)) / 2 = _; omega) _).trans ?_
    rw [Finset.sum_range_succ _ (j + 1)]
    refine congrArg₂ (fun a b : EReal => a + b) (ih (by omega) (by omega)) ?_
    rw [show (2 * Value.run2Of i + (j + 1)) % 2 = j + 1 by omega]

/-- The result: the product over all rows. -/
theorem result (i : S1x256x1024.Idx) : @Eq EReal (Value.G2 m c i) (∑ l : Fin 8192, term m c i l) := by
  have h2 : (i 2).val < 1024 := (i 2).isLt
  have hr := run_eq i
  have hN : 2 * Value.run2Of i + 1 < cfg0.N := by rw [hr, show cfg0.N = 2 from rfl]; omega
  unfold Value.G2
  rw [dif_pos hN]
  refine (fold i 1 (by omega) hN).trans ?_
  rw [DwSum.blocks 2 4096 (DwSum.ext (term m c i))]
  exact DwSum.sum_ext (term m c i)

end Cert.DwAttn

end
-- ==== Proof.DwAttnClaim.lean ====
module
public import proofs.«01_k».proof.Proof.DwAttn
public import proofs.«01_k».proof.Defs
public import proofs.«01_k».proof.Proof.Gen.Reference8Ideal.Read
public import Idealize.ShloMosaic.Lib.Quiescent

/-! The claims about the gradient with respect to the weights of the attention branch. -/

@[expose] public section

set_option maxRecDepth 16384

noncomputable section

open Idealize.ShloMosaic Idealize.ShloMosaic.TcCoe Idealize.SL.Sem
open Cert.Kernel8Ideal Cert.Kernel8Ideal.Gen
open Cert.DwAttn

namespace Cert.DwAttnClaim

variable (m : (ℓ : Loc nD τ sig) → Buf (Elt Ideal) ℓ) (c : Dev nD)

/-- The attention's output. -/
def A : FVec Ideal S8192x256 .f32 :=
  m (c, Proc.tc.devRef main_arg1)
/-- The cotangent of the branch. -/
def B : FVec Ideal S8192x1024 .f32 :=
  Cert.Reference8Ideal.Read.val_main_v52 (F := Ideal) (m (c, Proc.tc.devRef main_arg0)) (m (c, Proc.tc.devRef main_arg3)) (m (c, Proc.tc.devRef main_arg4)) (m (c, Proc.tc.devRef main_arg8))

theorem lhs_eq (l : Fin 8192) (f : Fin 256) : lhs m c (ValueIdx.ix3 (0 : Fin 1) l f) = A m c (ValueIdx.ix2 l f) := by
  have e : lhs m c = broadcastInDim S1x8192x256 ![1, 2] bcast_S8192x256_S1x8192x256_1_2 (A m c) := by
    unfold lhs
    entry_read
    rfl
  rw [e]
  exact congrArg (A m c) (funext fun a => by match a with | ⟨0, _⟩ => rfl | ⟨1, _⟩ => rfl)

theorem rhs_eq (l : Fin 8192) (d : Fin 1024) : rhs m c (ValueIdx.ix3 (0 : Fin 1) l d) = B m c (ValueIdx.ix2 l d) := by
  have e : rhs m c = broadcastInDim S1x8192x1024 ![1, 2] bcast_S8192x1024_S1x8192x1024_1_2 (truncf (F := Ideal) .bf16 (B m c) bitsLt_bf16_f32) := by
    unfold rhs
    entry_read
    rfl
  rw [e]
  exact congrArg (B m c) (funext fun a => by match a with | ⟨0, _⟩ => rfl | ⟨1, _⟩ => rfl)

/-- The kernel's result is the reference's. -/
theorem same : Value.G2 m c
    = Cert.Reference8Ideal.Read.val_main_v55 (F := Ideal) (m (c, Proc.tc.devRef main_arg0)) (m (c, Proc.tc.devRef main_arg1)) (m (c, Proc.tc.devRef main_arg3)) (m (c, Proc.tc.devRef main_arg4)) (m (c, Proc.tc.devRef main_arg8)) := by
  funext i
  refine (show @Eq EReal _ _ from result i).trans ?_
  rw [Cert.Reference8Ideal.Read.val_main_v55_apply, Cert.Reference8Ideal.Read.val_main_v54_apply, Cert.Reference8Ideal.Read.val_main_v53_apply]
  refine Finset.sum_congr rfl fun l _ => ?_
  refine (congrArg₂ (fun a b : EReal => a * b) (lhs_eq m c l (i 1)) (rhs_eq m c l (i 2))).trans ?_
  refine Eq.trans ?_ (mul_comm (_ : EReal) _)
  refine congrArg₂ (fun a b : EReal => a * b) (congrArg (A m c) ?_) (congrArg (B m c) ?_)
  · funext a
    match a with
    | ⟨0, _⟩ => rfl
    | ⟨1, _⟩ => rfl
  · funext a
    match a with
    | ⟨0, _⟩ => rfl
    | ⟨1, _⟩ => rfl

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := by
  intro m g m' g' _ hargs
  refine ⟨fun c => Value.G2 m c, Value.run m g, ?_⟩
  refine (θ_run Cert.Reference8Ideal.defs _ _).mono (fun r h c => ?_) (Cert.Reference8Ideal.Value.run (F := Ideal) m' g')
  obtain ⟨a0, a1, a2, a3, a4, a5, a6, a7, a8⟩ := hargs c
  obtain ⟨h0, h1⟩ := h c
  refine ⟨h0.trans ?_, h1⟩
  refine (Cert.Reference8Ideal.Read.val_main_v55_eq _ _ _ _ _).trans ?_
  rw [a0, a1, a3, a4, a8]
  exact (same m c).symm

end Cert.DwAttnClaim

end
-- ==== Proof.DwSsm.lean ====
module
public import proofs.«01_k».proof.Proof.DwSum
public import proofs.«01_k».proof.Proof.Gen.Kernel9Ideal.Value
public import Idealize.ShloMosaic.Lib.ValueIdxCore
public import Idealize.ShloMosaic.Lib.IdealHost
public import Idealize.ShloMosaic.Lib.Tactic

/-! The gradient with respect to the weights of the state space branch: the kernel adds the products of blocks of 4096 rows. -/

@[expose] public section

set_option maxRecDepth 16384

noncomputable section

open Idealize.ShloMosaic Idealize.ShloMosaic.TcCoe Idealize.SL.Sem
open Idealize.ShloMosaic.Pipeline (Dat)
open Cert.Kernel9Ideal Cert.Kernel9Ideal.Gen

namespace Cert.DwSsm

/-! ### One grid point -/

theorem tile (a : S4096x512.Idx → EReal) (b : S4096x1024.Idx → EReal) (j : S512x1024.Idx) :
    ∑ k : dot_S4096x512_S4096x1024_S512x1024_0_0_1_1_n_n.contr.Idx, a (dot_S4096x512_S4096x1024_S512x1024_0_0_1_1_n_n.lhsIdx j k) * b (dot_S4096x512_S4096x1024_S512x1024_0_0_1_1_n_n.rhsIdx j k)
      = ∑ l : Fin 4096, a (ValueIdx.ix2 l (j 0)) * b (ValueIdx.ix2 l (j 1)) :=
  Fintype.sum_equiv (ValueIdx.contrEquiv1 dot_S4096x512_S4096x1024_S512x1024_0_0_1_1_n_n 4096 rfl rfl) _ _ fun k => by
    congr 1
    · exact congrArg a (funext fun x => by match x with | ⟨0, _⟩ => rfl | ⟨1, _⟩ => rfl)
    · exact congrArg b (funext fun x => by match x with | ⟨0, _⟩ => rfl | ⟨1, _⟩ => rfl)

/-- The zeros that the first point stores. -/
theorem pay1 (y : S1x512x1024.Idx) : k0_pay1 (F := Ideal) y = 0 := by
  show Ideal.ofBits .f32 0x00000000#32 = 0
  simp [Ideal.ofBits, Ideal.ieee]

/-- A point adds the product of its blocks. -/
theorem pay2 (acc : Vec Ideal S1x512x1024 .f32) (a : Vec Ideal S1x4096x512 .bf16) (b : Vec Ideal S1x4096x1024 .bf16) (y : S1x512x1024.Idx) :
    k0_pay2 acc a b y
      = acc y + ∑ l : Fin 4096, (a (ValueIdx.ix3 (0 : Fin 1) l (y 1)) : EReal) * (b (ValueIdx.ix3 (0 : Fin 1) l (y 2)) : EReal) := by
  unfold k0_pay2
  have h0 : (y 0).val < 1 := (y 0).isLt
  refine (shapeCast_apply _ _ y (ValueIdx.ix2 (y 1) (y 2)) (by
    rw [Shape.rowMajor_val_three, Shape.rowMajor_val_two]
    show (y 1).val * 1024 + (y 2).val = ((y 0).val * 512 + (y 1).val) * 1024 + (y 2).val
    omega)).trans ?_
  show (_ : EReal) + (_ : EReal) = _
  refine congrArg₂ (fun a b : EReal => a + b) ?_ ?_
  · exact shapeCast_apply acc _ (ValueIdx.ix2 (y 1) (y 2)) y (by
      rw [Shape.rowMajor_val_three, Shape.rowMajor_val_two]
      show ((y 0).val * 512 + (y 1).val) * 1024 + (y 2).val = (y 1).val * 1024 + (y 2).val
      omega)
  · show Ideal.ofBits .f32 0x00000000#32 + (_ : EReal) = _
    rw [show Ideal.ofBits .f32 0x00000000#32 = 0 by simp [Ideal.ofBits, Ideal.ieee], zero_add]
    refine (tile _ _ _).trans (Finset.sum_congr rfl fun l _ => congrArg₂ (fun a b : EReal => a * b) ?_ ?_)
    · exact shapeCast_apply a _ _ (ValueIdx.ix3 (0 : Fin 1) l (y 1)) (by
        rw [Shape.rowMajor_val_three, Shape.rowMajor_val_two]
        show (0 * 4096 + l.val) * 512 + (y 1).val = l.val * 512 + (y 1).val
        omega)
    · exact shapeCast_apply b _ _ (ValueIdx.ix3 (0 : Fin 1) l (y 2)) (by
        rw [Shape.rowMajor_val_three, Shape.rowMajor_val_two]
        show (0 * 4096 + l.val) * 1024 + (y 2).val = l.val * 1024 + (y 2).val
        omega)

/-! ### Where the blocks lie -/

theorem ix_0 : ∀ t : Fin cfg0.N, win0_0.index t = ![0, t.val % 2, 0] :=
  (by decide +kernel : ∀ t : Fin grid0.N, win0_0.index t = ![0, t.val % 2, 0])
theorem ix_1 : ∀ t : Fin cfg0.N, win0_1.index t = ![0, t.val % 2, t.val / 2] :=
  (by decide +kernel : ∀ t : Fin grid0.N, win0_1.index t = ![0, t.val % 2, t.val / 2])

/-- Row `l` of the block of rows that point `t` takes. -/
def at_ (t : Fin cfg0.N) (l : Fin 4096) : Fin 8192 := ⟨t.val % 2 * 4096 + l.val, by omega⟩
/-- Column `d` of the block of columns that point `t` takes. -/
def col (t : Fin cfg0.N) (d : Fin 1024) : Fin 1024 := ⟨t.val / 2 * 1024 + d.val, by have h : t.val < 2 := t.isLt; omega⟩

theorem emb_0 (t : Fin cfg0.N) (l : Fin 4096) (f : Fin 512) :
    (((cfg0.win 0).blk t).view.emb (ValueIdx.ix3 (0 : Fin 1) l f : S1x4096x512.Idx) : S1x8192x512.Idx) = ValueIdx.ix3 (0 : Fin 1) (at_ t l) f := by
  funext a
  apply Fin.ext
  match a with
  | ⟨0, _⟩ => show win0_0.index t 0 * 1 + 1 * 0 = 0; rw [ix_0]; rfl
  | ⟨1, _⟩ => show win0_0.index t 1 * 4096 + 1 * l.val = t.val % 2 * 4096 + l.val; rw [ix_0]; show t.val % 2 * 4096 + 1 * l.val = _; omega
  | ⟨2, _⟩ => show win0_0.index t 2 * 512 + 1 * f.val = f.val; rw [ix_0]; show 0 * 512 + 1 * f.val = _; omega
theorem emb_1 (t : Fin cfg0.N) (l : Fin 4096) (f : Fin 1024) :
    (((cfg0.win 1).blk t).view.emb (ValueIdx.ix3 (0 : Fin 1) l f : S1x4096x1024.Idx) : S1x8192x1024.Idx) = ValueIdx.ix3 (0 : Fin 1) (at_ t l) (col t f) := by
  funext a
  apply Fin.ext
  match a with
  | ⟨0, _⟩ => show win0_1.index t 0 * 1 + 1 * 0 = 0; rw [ix_1]; rfl
  | ⟨1, _⟩ => show win0_1.index t 1 * 4096 + 1 * l.val = t.val % 2 * 4096 + l.val; rw [ix_1]; show t.val % 2 * 4096 + 1 * l.val = _; omega
  | ⟨2, _⟩ => show win0_1.index t 2 * 1024 + 1 * f.val = t.val / 2 * 1024 + f.val; rw [ix_1]; show t.val / 2 * 1024 + 1 * f.val = _; omega

variable {m : (ℓ : Loc nD τ sig) → Buf (Elt Ideal) ℓ} {c : Dev nD}

/-- The launch's two arguments. -/
def lhs (m : (ℓ : Loc nD τ sig) → Buf (Elt Ideal) ℓ) (c : Dev nD) : S1x8192x512.Idx → EReal := V m c main_v54
def rhs (m : (ℓ : Loc nD τ sig) → Buf (Elt Ideal) ℓ) (c : Dev nD) : S1x8192x1024.Idx → EReal := V m c main_v56

theorem blk_0 (t : Fin cfg0.N) (l : Fin 4096) (f : Fin 512) :
    (iblk m c 0 t : Vec Ideal S1x4096x512 .bf16) (ValueIdx.ix3 (0 : Fin 1) l f) = lhs m c (ValueIdx.ix3 (0 : Fin 1) (at_ t l) f) := by
  unfold iblk
  rw [View.read_apply]
  show V m c main_v54 _ = _
  rw [emb_0]
  rfl
theorem blk_1 (t : Fin cfg0.N) (l : Fin 4096) (f : Fin 1024) :
    (iblk m c 1 t : Vec Ideal S1x4096x1024 .bf16) (ValueIdx.ix3 (0 : Fin 1) l f) = rhs m c (ValueIdx.ix3 (0 : Fin 1) (at_ t l) (col t f)) := by
  unfold iblk
  rw [View.read_apply]
  show V m c main_v56 _ = _
  rw [emb_1]
  rfl

/-- What row `l` adds to entry `i` of the result. -/
def term (m : (ℓ : Loc nD τ sig) → Buf (Elt Ideal) ℓ) (c : Dev nD) (i : S1x512x1024.Idx) (l : Fin 8192) : EReal :=
  lhs m c (ValueIdx.ix3 (0 : Fin 1) l (i 1)) * rhs m c (ValueIdx.ix3 (0 : Fin 1) l (i 2))

/-- What a point of the columns of `i` adds there. -/
theorem point (i : S1x512x1024.Idx) (t : Fin cfg0.N) (ht : t.val / 2 = (i 2).val / 1024) (acc : Vec Ideal S1x512x1024 .f32) :
    k0_pay2 acc (iblk m c 0 t) (iblk m c 1 t) (Value.loc2Of i)
      = acc (Value.loc2Of i) + ∑ l : Fin 4096, DwSum.ext (term m c i) (t.val % 2 * 4096 + l.val) := by
  have h1 : (i 1).val < 512 := (i 1).isLt
  have h2 : (i 2).val < 1024 := (i 2).isLt
  have hb : Value.loc2Of i 1 = i 1 := Fin.ext (Nat.mod_eq_of_lt h1)
  have hc : col t (Value.loc2Of i 2) = i 2 := Fin.ext (by
    show t.val / 2 * 1024 + (i 2).val % 1024 = (i 2).val
    omega)
  refine (pay2 _ _ _ _).trans (congrArg (acc (Value.loc2Of i) + ·) (Finset.sum_congr rfl fun l _ => ?_))
  refine (congrArg₂ (fun a b : EReal => a * b) (blk_0 t l (Value.loc2Of i 1)) (blk_1 t l (Value.loc2Of i 2))).trans ?_
  rw [hb, hc]
  exact (DwSum.ext_of_lt (term m c i) _ (at_ t l).isLt).symm

theorem run_eq (i : S1x512x1024.Idx) : Value.run2Of i = (i 2).val / 1024 := by
  have h0 : (i 0).val < 1 := (i 0).isLt
  have h1 : (i 1).val < 512 := (i 1).isLt
  have h2 : (i 2).val < 1024 := (i 2).isLt
  show 1 * ((i 0).val / 1 - 0) + 1 * ((i 1).val / 512 - 0) + 1 * ((i 2).val / 1024 - 0) = _
  omega

/-- The run of the columns of `i`, after its first `j + 1` points. -/
theorem fold (i : S1x512x1024.Idx) (j : ℕ) (hj : j < 2) (h : 2 * Value.run2Of i + j < cfg0.N) :
    @Eq EReal (Pipeline.accAt (Value.reset2 m c) (Value.step2 m c) (2 * Value.run2Of i) j h (Value.loc2Of i))
      (∑ s ∈ Finset.range (j + 1), ∑ l : Fin 4096, DwSum.ext (term m c i) (s * 4096 + l.val)) := by
  have hr := run_eq i
  induction j with
  | zero =>
    have e := point (m := m) (c := c) i ⟨2 * Value.run2Of i, h⟩ (by show (2 * Value.run2Of i) / 2 = _; omega) (k0_pay1 (F := Ideal))
    rw [pay1, zero_add] at e
    refine Eq.trans e ?_
    rw [Finset.sum_range_one, show (2 * Value.run2Of i) % 2 = 0 by omega]
  | succ j ih =>
    refine (point (m := m) (c := c) i ⟨2 * Value.run2Of i + (j + 1), h⟩ (by show (2 * Value.run2Of i + (j + 1)) / 2 = _; omega) _).trans ?_
    rw [Finset.sum_range_succ _ (j + 1)]
    refine congrArg₂ (fun a b : EReal => a + b) (ih (by omega) (by omega)) ?_
    rw [show (2 * Value.run2Of i + (j + 1)) % 2 = j + 1 by omega]

/-- The result: the product over all rows. -/
theorem result (i : S1x512x1024.Idx) : @Eq EReal (Value.G2 m c i) (∑ l : Fin 8192, term m c i l) := by
  have h2 : (i 2).val < 1024 := (i 2).isLt
  have hr := run_eq i
  have hN : 2 * Value.run2Of i + 1 < cfg0.N := by rw [hr, show cfg0.N = 2 from rfl]; omega
  unfold Value.G2
  rw [dif_pos hN]
  refine (fold i 1 (by omega) hN).trans ?_
  rw [DwSum.blocks 2 4096 (DwSum.ext (term m c i))]
  exact DwSum.sum_ext (term m c i)

end Cert.DwSsm

end
-- ==== Proof.DwSsmClaim.lean ====
module
public import proofs.«01_k».proof.Proof.DwSsm
public import proofs.«01_k».proof.Defs
public import proofs.«01_k».proof.Proof.Gen.Reference9Ideal.Read
public import Idealize.ShloMosaic.Lib.Quiescent

/-! The claims about the gradient with respect to the weights of the state space branch. -/

@[expose] public section

set_option maxRecDepth 16384

noncomputable section

open Idealize.ShloMosaic Idealize.ShloMosaic.TcCoe Idealize.SL.Sem
open Cert.Kernel9Ideal Cert.Kernel9Ideal.Gen
open Cert.DwSsm

namespace Cert.DwSsmClaim

variable (m : (ℓ : Loc nD τ sig) → Buf (Elt Ideal) ℓ) (c : Dev nD)

/-- The gated rows. -/
def A : FVec Ideal S8192x512 .f32 :=
  Cert.Reference9Ideal.Read.val_main_v22 (F := Ideal) (m (c, Proc.tc.devRef main_arg2)) (m (c, Proc.tc.devRef main_arg6))
/-- The cotangent of the branch. -/
def B : FVec Ideal S8192x1024 .f32 :=
  Cert.Reference9Ideal.Read.val_main_v52 (F := Ideal) (m (c, Proc.tc.devRef main_arg0)) (m (c, Proc.tc.devRef main_arg3)) (m (c, Proc.tc.devRef main_arg4)) (m (c, Proc.tc.devRef main_arg8))

theorem lhs_eq (l : Fin 8192) (f : Fin 512) : lhs m c (ValueIdx.ix3 (0 : Fin 1) l f) = A m c (ValueIdx.ix2 l f) := by
  have e : lhs m c = broadcastInDim S1x8192x512 ![1, 2] bcast_S8192x512_S1x8192x512_1_2 (truncf (F := Ideal) .bf16 (A m c) bitsLt_bf16_f32) := by
    unfold lhs
    entry_read
    rfl
  rw [e]
  exact congrArg (A m c) (funext fun a => by match a with | ⟨0, _⟩ => rfl | ⟨1, _⟩ => rfl)

theorem rhs_eq (l : Fin 8192) (d : Fin 1024) : rhs m c (ValueIdx.ix3 (0 : Fin 1) l d) = B m c (ValueIdx.ix2 l d) := by
  have e : rhs m c = broadcastInDim S1x8192x1024 ![1, 2] bcast_S8192x1024_S1x8192x1024_1_2 (truncf (F := Ideal) .bf16 (B m c) bitsLt_bf16_f32) := by
    unfold rhs
    entry_read
    rfl
  rw [e]
  exact congrArg (B m c) (funext fun a => by match a with | ⟨0, _⟩ => rfl | ⟨1, _⟩ => rfl)

/-- The kernel's result is the reference's. -/
theorem same : Value.G2 m c
    = Cert.Reference9Ideal.Read.val_main_v55 (F := Ideal) (m (c, Proc.tc.devRef main_arg0)) (m (c, Proc.tc.devRef main_arg2)) (m (c, Proc.tc.devRef main_arg3)) (m (c, Proc.tc.devRef main_arg4)) (m (c, Proc.tc.devRef main_arg6)) (m (c, Proc.tc.devRef main_arg8)) := by
  funext i
  refine (show @Eq EReal _ _ from result i).trans ?_
  rw [Cert.Reference9Ideal.Read.val_main_v55_apply, Cert.Reference9Ideal.Read.val_main_v54_apply, Cert.Reference9Ideal.Read.val_main_v53_apply]
  refine Finset.sum_congr rfl fun l _ => ?_
  refine (congrArg₂ (fun a b : EReal => a * b) (lhs_eq m c l (i 1)) (rhs_eq m c l (i 2))).trans ?_
  refine Eq.trans ?_ (mul_comm (_ : EReal) _)
  refine congrArg₂ (fun a b : EReal => a * b) (congrArg (A m c) ?_) (congrArg (B m c) ?_)
  · funext a
    match a with
    | ⟨0, _⟩ => rfl
    | ⟨1, _⟩ => rfl
  · funext a
    match a with
    | ⟨0, _⟩ => rfl
    | ⟨1, _⟩ => rfl

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := by
  intro m g m' g' _ hargs
  refine ⟨fun c => Value.G2 m c, Value.run m g, ?_⟩
  refine (θ_run Cert.Reference9Ideal.defs _ _).mono (fun r h c => ?_) (Cert.Reference9Ideal.Value.run (F := Ideal) m' g')
  obtain ⟨a0, a1, a2, a3, a4, a5, a6, a7, a8⟩ := hargs c
  obtain ⟨h0, h1⟩ := h c
  refine ⟨h0.trans ?_, h1⟩
  refine (Cert.Reference9Ideal.Read.val_main_v55_eq _ _ _ _ _ _).trans ?_
  rw [a0, a2, a3, a4, a6, a8]
  exact (same m c).symm

end Cert.DwSsmClaim

end
-- ==== Proof.DwGlu.lean ====
module
public import proofs.«01_k».proof.Proof.DwSum
public import proofs.«01_k».proof.Proof.Gen.Kernel10Ideal.Value
public import Idealize.ShloMosaic.Lib.ValueIdxCore
public import Idealize.ShloMosaic.Lib.IdealHost
public import Idealize.ShloMosaic.Lib.Tactic

/-! The gradient with respect to the weights of the gated unit: the kernel adds the products of blocks of 4096 rows. -/

@[expose] public section

set_option maxRecDepth 16384

noncomputable section

open Idealize.ShloMosaic Idealize.ShloMosaic.TcCoe Idealize.SL.Sem
open Idealize.ShloMosaic.Pipeline (Dat)
open Cert.Kernel10Ideal Cert.Kernel10Ideal.Gen

namespace Cert.DwGlu

/-! ### One grid point -/

theorem tile (a : S4096x512.Idx → EReal) (b : S4096x1024.Idx → EReal) (j : S512x1024.Idx) :
    ∑ k : dot_S4096x512_S4096x1024_S512x1024_0_0_1_1_n_n.contr.Idx, a (dot_S4096x512_S4096x1024_S512x1024_0_0_1_1_n_n.lhsIdx j k) * b (dot_S4096x512_S4096x1024_S512x1024_0_0_1_1_n_n.rhsIdx j k)
      = ∑ l : Fin 4096, a (ValueIdx.ix2 l (j 0)) * b (ValueIdx.ix2 l (j 1)) :=
  Fintype.sum_equiv (ValueIdx.contrEquiv1 dot_S4096x512_S4096x1024_S512x1024_0_0_1_1_n_n 4096 rfl rfl) _ _ fun k => by
    congr 1
    · exact congrArg a (funext fun x => by match x with | ⟨0, _⟩ => rfl | ⟨1, _⟩ => rfl)
    · exact congrArg b (funext fun x => by match x with | ⟨0, _⟩ => rfl | ⟨1, _⟩ => rfl)

/-- The zeros that the first point stores. -/
theorem pay1 (y : S1x512x1024.Idx) : k0_pay1 (F := Ideal) y = 0 := by
  show Ideal.ofBits .f32 0x00000000#32 = 0
  simp [Ideal.ofBits, Ideal.ieee]

/-- A point adds the product of its blocks. -/
theorem pay2 (acc : Vec Ideal S1x512x1024 .f32) (a : Vec Ideal S1x4096x512 .bf16) (b : Vec Ideal S1x4096x1024 .bf16) (y : S1x512x1024.Idx) :
    k0_pay2 acc a b y
      = acc y + ∑ l : Fin 4096, (a (ValueIdx.ix3 (0 : Fin 1) l (y 1)) : EReal) * (b (ValueIdx.ix3 (0 : Fin 1) l (y 2)) : EReal) := by
  unfold k0_pay2
  have h0 : (y 0).val < 1 := (y 0).isLt
  refine (shapeCast_apply _ _ y (ValueIdx.ix2 (y 1) (y 2)) (by
    rw [Shape.rowMajor_val_three, Shape.rowMajor_val_two]
    show (y 1).val * 1024 + (y 2).val = ((y 0).val * 512 + (y 1).val) * 1024 + (y 2).val
    omega)).trans ?_
  show (_ : EReal) + (_ : EReal) = _
  refine congrArg₂ (fun a b : EReal => a + b) ?_ ?_
  · exact shapeCast_apply acc _ (ValueIdx.ix2 (y 1) (y 2)) y (by
      rw [Shape.rowMajor_val_three, Shape.rowMajor_val_two]
      show ((y 0).val * 512 + (y 1).val) * 1024 + (y 2).val = (y 1).val * 1024 + (y 2).val
      omega)
  · show Ideal.ofBits .f32 0x00000000#32 + (_ : EReal) = _
    rw [show Ideal.ofBits .f32 0x00000000#32 = 0 by simp [Ideal.ofBits, Ideal.ieee], zero_add]
    refine (tile _ _ _).trans (Finset.sum_congr rfl fun l _ => congrArg₂ (fun a b : EReal => a * b) ?_ ?_)
    · exact shapeCast_apply a _ _ (ValueIdx.ix3 (0 : Fin 1) l (y 1)) (by
        rw [Shape.rowMajor_val_three, Shape.rowMajor_val_two]
        show (0 * 4096 + l.val) * 512 + (y 1).val = l.val * 512 + (y 1).val
        omega)
    · exact shapeCast_apply b _ _ (ValueIdx.ix3 (0 : Fin 1) l (y 2)) (by
        rw [Shape.rowMajor_val_three, Shape.rowMajor_val_two]
        show (0 * 4096 + l.val) * 1024 + (y 2).val = l.val * 1024 + (y 2).val
        omega)

/-! ### Where the blocks lie -/

theorem ix_0 : ∀ t : Fin cfg0.N, win0_0.index t = ![0, t.val % 2, 0] :=
  (by decide +kernel : ∀ t : Fin grid0.N, win0_0.index t = ![0, t.val % 2, 0])
theorem ix_1 : ∀ t : Fin cfg0.N, win0_1.index t = ![0, t.val % 2, t.val / 2] :=
  (by decide +kernel : ∀ t : Fin grid0.N, win0_1.index t = ![0, t.val % 2, t.val / 2])

/-- Row `l` of the block of rows that point `t` takes. -/
def at_ (t : Fin cfg0.N) (l : Fin 4096) : Fin 8192 := ⟨t.val % 2 * 4096 + l.val, by omega⟩
/-- Column `d` of the block of columns that point `t` takes. -/
def col (t : Fin cfg0.N) (d : Fin 1024) : Fin 1024 := ⟨t.val / 2 * 1024 + d.val, by have h : t.val < 2 := t.isLt; omega⟩

theorem emb_0 (t : Fin cfg0.N) (l : Fin 4096) (f : Fin 512) :
    (((cfg0.win 0).blk t).view.emb (ValueIdx.ix3 (0 : Fin 1) l f : S1x4096x512.Idx) : S1x8192x512.Idx) = ValueIdx.ix3 (0 : Fin 1) (at_ t l) f := by
  funext a
  apply Fin.ext
  match a with
  | ⟨0, _⟩ => show win0_0.index t 0 * 1 + 1 * 0 = 0; rw [ix_0]; rfl
  | ⟨1, _⟩ => show win0_0.index t 1 * 4096 + 1 * l.val = t.val % 2 * 4096 + l.val; rw [ix_0]; show t.val % 2 * 4096 + 1 * l.val = _; omega
  | ⟨2, _⟩ => show win0_0.index t 2 * 512 + 1 * f.val = f.val; rw [ix_0]; show 0 * 512 + 1 * f.val = _; omega
theorem emb_1 (t : Fin cfg0.N) (l : Fin 4096) (f : Fin 1024) :
    (((cfg0.win 1).blk t).view.emb (ValueIdx.ix3 (0 : Fin 1) l f : S1x4096x1024.Idx) : S1x8192x1024.Idx) = ValueIdx.ix3 (0 : Fin 1) (at_ t l) (col t f) := by
  funext a
  apply Fin.ext
  match a with
  | ⟨0, _⟩ => show win0_1.index t 0 * 1 + 1 * 0 = 0; rw [ix_1]; rfl
  | ⟨1, _⟩ => show win0_1.index t 1 * 4096 + 1 * l.val = t.val % 2 * 4096 + l.val; rw [ix_1]; show t.val % 2 * 4096 + 1 * l.val = _; omega
  | ⟨2, _⟩ => show win0_1.index t 2 * 1024 + 1 * f.val = t.val / 2 * 1024 + f.val; rw [ix_1]; show t.val / 2 * 1024 + 1 * f.val = _; omega

variable {m : (ℓ : Loc nD τ sig) → Buf (Elt Ideal) ℓ} {c : Dev nD}

/-- The launch's two arguments. -/
def lhs (m : (ℓ : Loc nD τ sig) → Buf (Elt Ideal) ℓ) (c : Dev nD) : S1x8192x512.Idx → EReal := V m c main_v64
def rhs (m : (ℓ : Loc nD τ sig) → Buf (Elt Ideal) ℓ) (c : Dev nD) : S1x8192x1024.Idx → EReal := V m c main_v66

theorem blk_0 (t : Fin cfg0.N) (l : Fin 4096) (f : Fin 512) :
    (iblk m c 0 t : Vec Ideal S1x4096x512 .bf16) (ValueIdx.ix3 (0 : Fin 1) l f) = lhs m c (ValueIdx.ix3 (0 : Fin 1) (at_ t l) f) := by
  unfold iblk
  rw [View.read_apply]
  show V m c main_v64 _ = _
  rw [emb_0]
  rfl
theorem blk_1 (t : Fin cfg0.N) (l : Fin 4096) (f : Fin 1024) :
    (iblk m c 1 t : Vec Ideal S1x4096x1024 .bf16) (ValueIdx.ix3 (0 : Fin 1) l f) = rhs m c (ValueIdx.ix3 (0 : Fin 1) (at_ t l) (col t f)) := by
  unfold iblk
  rw [View.read_apply]
  show V m c main_v66 _ = _
  rw [emb_1]
  rfl

/-- What row `l` adds to entry `i` of the result. -/
def term (m : (ℓ : Loc nD τ sig) → Buf (Elt Ideal) ℓ) (c : Dev nD) (i : S1x512x1024.Idx) (l : Fin 8192) : EReal :=
  lhs m c (ValueIdx.ix3 (0 : Fin 1) l (i 1)) * rhs m c (ValueIdx.ix3 (0 : Fin 1) l (i 2))

/-- What a point of the columns of `i` adds there. -/
theorem point (i : S1x512x1024.Idx) (t : Fin cfg0.N) (ht : t.val / 2 = (i 2).val / 1024) (acc : Vec Ideal S1x512x1024 .f32) :
    k0_pay2 acc (iblk m c 0 t) (iblk m c 1 t) (Value.loc2Of i)
      = acc (Value.loc2Of i) + ∑ l : Fin 4096, DwSum.ext (term m c i) (t.val % 2 * 4096 + l.val) := by
  have h1 : (i 1).val < 512 := (i 1).isLt
  have h2 : (i 2).val < 1024 := (i 2).isLt
  have hb : Value.loc2Of i 1 = i 1 := Fin.ext (Nat.mod_eq_of_lt h1)
  have hc : col t (Value.loc2Of i 2) = i 2 := Fin.ext (by
    show t.val / 2 * 1024 + (i 2).val % 1024 = (i 2).val
    omega)
  refine (pay2 _ _ _ _).trans (congrArg (acc (Value.loc2Of i) + ·) (Finset.sum_congr rfl fun l _ => ?_))
  refine (congrArg₂ (fun a b : EReal => a * b) (blk_0 t l (Value.loc2Of i 1)) (blk_1 t l (Value.loc2Of i 2))).trans ?_
  rw [hb, hc]
  exact (DwSum.ext_of_lt (term m c i) _ (at_ t l).isLt).symm

theorem run_eq (i : S1x512x1024.Idx) : Value.run2Of i = (i 2).val / 1024 := by
  have h0 : (i 0).val < 1 := (i 0).isLt
  have h1 : (i 1).val < 512 := (i 1).isLt
  have h2 : (i 2).val < 1024 := (i 2).isLt
  show 1 * ((i 0).val / 1 - 0) + 1 * ((i 1).val / 512 - 0) + 1 * ((i 2).val / 1024 - 0) = _
  omega

/-- The run of the columns of `i`, after its first `j + 1` points. -/
theorem fold (i : S1x512x1024.Idx) (j : ℕ) (hj : j < 2) (h : 2 * Value.run2Of i + j < cfg0.N) :
    @Eq EReal (Pipeline.accAt (Value.reset2 m c) (Value.step2 m c) (2 * Value.run2Of i) j h (Value.loc2Of i))
      (∑ s ∈ Finset.range (j + 1), ∑ l : Fin 4096, DwSum.ext (term m c i) (s * 4096 + l.val)) := by
  have hr := run_eq i
  induction j with
  | zero =>
    have e := point (m := m) (c := c) i ⟨2 * Value.run2Of i, h⟩ (by show (2 * Value.run2Of i) / 2 = _; omega) (k0_pay1 (F := Ideal))
    rw [pay1, zero_add] at e
    refine Eq.trans e ?_
    rw [Finset.sum_range_one, show (2 * Value.run2Of i) % 2 = 0 by omega]
  | succ j ih =>
    refine (point (m := m) (c := c) i ⟨2 * Value.run2Of i + (j + 1), h⟩ (by show (2 * Value.run2Of i + (j + 1)) / 2 = _; omega) _).trans ?_
    rw [Finset.sum_range_succ _ (j + 1)]
    refine congrArg₂ (fun a b : EReal => a + b) (ih (by omega) (by omega)) ?_
    rw [show (2 * Value.run2Of i + (j + 1)) % 2 = j + 1 by omega]

/-- The result: the product over all rows. -/
theorem result (i : S1x512x1024.Idx) : @Eq EReal (Value.G2 m c i) (∑ l : Fin 8192, term m c i l) := by
  have h2 : (i 2).val < 1024 := (i 2).isLt
  have hr := run_eq i
  have hN : 2 * Value.run2Of i + 1 < cfg0.N := by rw [hr, show cfg0.N = 2 from rfl]; omega
  unfold Value.G2
  rw [dif_pos hN]
  refine (fold i 1 (by omega) hN).trans ?_
  rw [DwSum.blocks 2 4096 (DwSum.ext (term m c i))]
  exact DwSum.sum_ext (term m c i)

end Cert.DwGlu

end
-- ==== Proof.DwGluClaim.lean ====
module
public import proofs.«01_k».proof.Proof.DwGlu
public import proofs.«01_k».proof.Defs
public import proofs.«01_k».proof.Proof.Gen.Reference10Ideal.Read
public import Idealize.ShloMosaic.Lib.Quiescent

/-! The claims about the gradient with respect to the weights of the gated unit. -/

@[expose] public section

set_option maxRecDepth 16384

noncomputable section

open Idealize.ShloMosaic Idealize.ShloMosaic.TcCoe Idealize.SL.Sem
open Cert.Kernel10Ideal Cert.Kernel10Ideal.Gen
open Cert.DwGlu

namespace Cert.DwGluClaim

variable (m : (ℓ : Loc nD τ sig) → Buf (Elt Ideal) ℓ) (c : Dev nD)

/-- The function gelu of the rows. -/
def A : FVec Ideal S8192x512 .f32 :=
  Cert.Reference10Ideal.Read.val_main_v12 (F := Ideal) (m (c, Proc.tc.devRef main_arg2))
/-- The cotangent of the unit's argument. -/
def B : FVec Ideal S8192x1024 .f32 :=
  Cert.Reference10Ideal.Read.val_main_v62 (F := Ideal) (m (c, Proc.tc.devRef main_arg0)) (m (c, Proc.tc.devRef main_arg2)) (m (c, Proc.tc.devRef main_arg3)) (m (c, Proc.tc.devRef main_arg4)) (m (c, Proc.tc.devRef main_arg6)) (m (c, Proc.tc.devRef main_arg7)) (m (c, Proc.tc.devRef main_arg8))

theorem lhs_eq (l : Fin 8192) (f : Fin 512) : lhs m c (ValueIdx.ix3 (0 : Fin 1) l f) = A m c (ValueIdx.ix2 l f) := by
  have e : lhs m c = broadcastInDim S1x8192x512 ![1, 2] bcast_S8192x512_S1x8192x512_1_2 (truncf (F := Ideal) .bf16 (A m c) bitsLt_bf16_f32) := by
    unfold lhs
    entry_read
    rfl
  rw [e]
  exact congrArg (A m c) (funext fun a => by match a with | ⟨0, _⟩ => rfl | ⟨1, _⟩ => rfl)

theorem rhs_eq (l : Fin 8192) (d : Fin 1024) : rhs m c (ValueIdx.ix3 (0 : Fin 1) l d) = B m c (ValueIdx.ix2 l d) := by
  have e : rhs m c = broadcastInDim S1x8192x1024 ![1, 2] bcast_S8192x1024_S1x8192x1024_1_2 (truncf (F := Ideal) .bf16 (B m c) bitsLt_bf16_f32) := by
    unfold rhs
    entry_read
    rfl
  rw [e]
  exact congrArg (B m c) (funext fun a => by match a with | ⟨0, _⟩ => rfl | ⟨1, _⟩ => rfl)

/-- The kernel's result is the reference's. -/
theorem same : Value.G2 m c
    = Cert.Reference10Ideal.Read.val_main_v65 (F := Ideal) (m (c, Proc.tc.devRef main_arg0)) (m (c, Proc.tc.devRef main_arg2)) (m (c, Proc.tc.devRef main_arg3)) (m (c, Proc.tc.devRef main_arg4)) (m (c, Proc.tc.devRef main_arg6)) (m (c, Proc.tc.devRef main_arg7)) (m (c, Proc.tc.devRef main_arg8)) := by
  funext i
  refine (show @Eq EReal _ _ from result i).trans ?_
  rw [Cert.Reference10Ideal.Read.val_main_v65_apply, Cert.Reference10Ideal.Read.val_main_v64_apply, Cert.Reference10Ideal.Read.val_main_v63_apply]
  refine Finset.sum_congr rfl fun l _ => ?_
  refine (congrArg₂ (fun a b : EReal => a * b) (lhs_eq m c l (i 1)) (rhs_eq m c l (i 2))).trans ?_
  refine Eq.trans ?_ (mul_comm (_ : EReal) _)
  refine congrArg₂ (fun a b : EReal => a * b) (congrArg (A m c) ?_) (congrArg (B m c) ?_)
  · funext a
    match a with
    | ⟨0, _⟩ => rfl
    | ⟨1, _⟩ => rfl
  · funext a
    match a with
    | ⟨0, _⟩ => rfl
    | ⟨1, _⟩ => rfl

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := by
  intro m g m' g' _ hargs
  refine ⟨fun c => Value.G2 m c, Value.run m g, ?_⟩
  refine (θ_run Cert.Reference10Ideal.defs _ _).mono (fun r h c => ?_) (Cert.Reference10Ideal.Value.run (F := Ideal) m' g')
  obtain ⟨a0, a1, a2, a3, a4, a5, a6, a7, a8⟩ := hargs c
  obtain ⟨h0, h1⟩ := h c
  refine ⟨h0.trans ?_, h1⟩
  refine (Cert.Reference10Ideal.Read.val_main_v65_eq m' c).trans ?_
  rw [a0, a2, a3, a4, a6, a7, a8]
  exact (same m c).symm

end Cert.DwGluClaim

end
-- ==== Proof.Ffn.lean ====
/- The feed-forward layer `x + 0.5 · swiglu(rms_norm(x, g))` and its gradient, row by row, over the real numbers: what
   both the kernels and the references of this directory compute at real arguments. -/
module

public import Idealize.ShloMosaic.PureOps.Ideal.Laws
public import Idealize.ShloMosaic.Lib.IdealHost
public import Idealize.ShloMosaic.Lib.ValueIdx

@[expose] public section

noncomputable section

open Idealize.ShloMosaic

namespace Cert.Ffn

/-! ## Constants -/

/-- The real number that the constant `1e-6` of the norm stands for. -/
def eps : ℝ := 8796093 / 8796093022208

theorem eps_pos : 0 < eps := by unfold eps; norm_num

theorem ofBits_eps : Ideal.ofBits .f32 0x358637BD#32 = ((eps : ℝ) : EReal) := by
  simp [Ideal.ofBits, Ideal.ieee, -EReal.coe_mul]; unfold eps; norm_num

theorem ofBits_1024 : Ideal.ofBits .f32 0x44800000#32 = ((1024 : ℝ) : EReal) := by
  simp [Ideal.ofBits, Ideal.ieee, -EReal.coe_mul]; norm_num

theorem ofBits_half : Ideal.ofBits .f32 0x3F000000#32 = (((1 / 2 : ℝ)) : EReal) := by
  simp [Ideal.ofBits, Ideal.ieee, -EReal.coe_mul]; norm_num

theorem ofBits_neg_half : Ideal.ofBits .f32 0xBF000000#32 = (((-(1 / 2) : ℝ)) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee, -EReal.coe_mul]

/-! ## Operations at real numbers -/

theorem coe_sum {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

theorem div_coe_coe (a b : ℝ) (h : b ≠ 0) : Ideal.div (a : EReal) (b : EReal) = ((a / b : ℝ) : EReal) := by
  rw [Ideal.div_coe h, ← EReal.coe_mul, mul_one_div]

theorem rsqrt_pos (a : ℝ) (h : 0 < a) : Ideal.rsqrt (a : EReal) = (((Real.sqrt a)⁻¹ : ℝ) : EReal) := by
  rw [Ideal.rsqrt_coe, if_neg (not_lt.mpr h.le), if_neg h.ne']

/-- The logistic function. -/
def sg (t : ℝ) : ℝ := 1 / (1 + Real.exp (-t))

theorem one_add_exp_ne (t : ℝ) : 1 + Real.exp (-t) ≠ 0 := by positivity

/-- The logistic function by the hyperbolic tangent. -/
theorem half_tanh (t : ℝ) : 1 / 2 + 1 / 2 * Real.tanh (1 / 2 * t) = sg t := by
  have h : Real.exp (-t) = Real.exp (-(1 / 2 * t)) * Real.exp (-(1 / 2 * t)) := by rw [← Real.exp_add]; ring_nf
  have h1 : Real.exp (1 / 2 * t) * Real.exp (-(1 / 2 * t)) = 1 := by rw [← Real.exp_add]; simp
  have p : 0 < Real.exp (1 / 2 * t) := Real.exp_pos _
  have n : 0 < Real.exp (-(1 / 2 * t)) := Real.exp_pos _
  rw [Real.tanh_eq, sg, h]
  generalize Real.exp (1 / 2 * t) = u at *
  generalize Real.exp (-(1 / 2 * t)) = v at *
  have hu : u = 1 / v := by field_simp; linarith
  subst hu
  field_simp
  ring

/-! ## The layer on one row -/

/-- The mean of the squares of a row, and `1e-6`. -/
def ms (x : Fin 1024 → ℝ) : ℝ := (∑ d, x d * x d) / 1024 + eps

theorem ms_pos (x : Fin 1024 → ℝ) : 0 < ms x := by
  have := Finset.sum_nonneg fun d (_ : d ∈ Finset.univ) => mul_self_nonneg (x d)
  have := eps_pos
  unfold ms; positivity

/-- The inverse of the norm. -/
def rr (x : Fin 1024 → ℝ) : ℝ := (Real.sqrt (ms x))⁻¹

theorem rr_sq (x : Fin 1024 → ℝ) : rr x * rr x * ms x = 1 := by
  have h := ms_pos x
  unfold rr
  rw [← mul_inv, Real.mul_self_sqrt h.le]
  exact inv_mul_cancel₀ h.ne'

def xh (x : Fin 1024 → ℝ) (d : Fin 1024) : ℝ := x d * rr x

/-- The normed row. -/
def hh (x g : Fin 1024 → ℝ) (d : Fin 1024) : ℝ := xh x d * g d

/-- A normed row times a matrix: the two hidden rows. -/
def hid (x g : Fin 1024 → ℝ) (w : Fin 1024 → Fin 2816 → ℝ) (f : Fin 2816) : ℝ := ∑ d, hh x g d * w d f

/-- The layer's inner product's left factor. -/
def act (a b : Fin 2816 → ℝ) (f : Fin 2816) : ℝ := a f * sg (a f) * b f

/-- The layer. -/
def out (x : Fin 1024 → ℝ) (s : Fin 2816 → ℝ) (wd : Fin 2816 → Fin 1024 → ℝ) (d : Fin 1024) : ℝ :=
  x d + 1 / 2 * ∑ f, s f * wd f d

/-! ## Its gradient on one row: `e` the cotangent of the layer's result, `a` and `b` the two hidden rows -/

/-- The cotangent of the inner product's left factor. -/
def ds (e : Fin 1024 → ℝ) (wd : Fin 2816 → Fin 1024 → ℝ) (f : Fin 2816) : ℝ := ∑ d, 1 / 2 * e d * wd f d

def db (e : Fin 1024 → ℝ) (a : Fin 2816 → ℝ) (wd : Fin 2816 → Fin 1024 → ℝ) (f : Fin 2816) : ℝ :=
  ds e wd f * (a f * sg (a f))

def da (e : Fin 1024 → ℝ) (a b : Fin 2816 → ℝ) (wd : Fin 2816 → Fin 1024 → ℝ) (f : Fin 2816) : ℝ :=
  ds e wd f * b f * (sg (a f) * (1 + a f * (1 - sg (a f))))

/-- The cotangent of the normed row. -/
def dh (p q : Fin 2816 → ℝ) (wg wu : Fin 1024 → Fin 2816 → ℝ) (d : Fin 1024) : ℝ :=
  ∑ f, p f * wg d f + ∑ f, q f * wu d f

/-- The cotangent of the row: `t` that of the normed row. -/
def dx (e x g t : Fin 1024 → ℝ) (d : Fin 1024) : ℝ :=
  e d + rr x * (t d * g d - xh x d * ((∑ k, t k * g k * xh x k) / 1024))

/-- The cotangent of the row as the derivative of the norm gives it, term by term. -/
theorem dx_eq (e x g t : Fin 1024 → ℝ) (d : Fin 1024) :
    e d + t d * g d * rr x + x d * ((∑ k, x k * (t k * g k)) * (-(1 / 2) * (rr x / ms x)) / 1024)
      + (∑ k, x k * (t k * g k)) * (-(1 / 2) * (rr x / ms x)) / 1024 * x d = dx e x g t d := by
  have h := rr_sq x
  have hm := ms_pos x
  have hr : rr x / ms x = rr x * rr x * rr x := by
    field_simp
    linear_combination (-1 : ℝ) * rr x * h
  have hs : ∑ k, t k * g k * xh x k = rr x * ∑ k, x k * (t k * g k) := by
    rw [Finset.mul_sum]
    exact Finset.sum_congr rfl fun k _ => by unfold xh; ring
  unfold dx
  rw [hs, hr]
  unfold xh
  ring

end Cert.Ffn

end
-- ==== Proof.FfnBwdReference.lean ====
/- The reference of the feed-forward layer's gradient, read at real arguments: each of its seven results is the row
   function of Ffn.lean. -/
module

public import proofs.«01_k».proof.Proof.Ffn
public import proofs.«01_k».proof.Proof.Gen.Reference2Ideal.Read

@[expose] public section

set_option maxRecDepth 16384

noncomputable section

open Idealize.ShloMosaic Cert.Reference2Ideal Cert.Reference2Ideal.Read

namespace Cert.FfnBwdReference

variable (D X : Fin 8192 → Fin 1024 → ℝ) (G : Fin 1024 → ℝ) (Wg Wu : Fin 1024 → Fin 2816 → ℝ)
  (Wd : Fin 2816 → Fin 1024 → ℝ)

/-- The rank-two array of a real matrix. -/
def mat (M : Fin 8192 → Fin 1024 → ℝ) : (⟨S8192x1024, .f32⟩ : BufTy).Contents (Elt Ideal) :=
  fun i => ((M (i 0) (i 1) : ℝ) : EReal)
def vec (g : Fin 1024 → ℝ) : (⟨S1024, .f32⟩ : BufTy).Contents (Elt Ideal) := fun i => ((g (i 0) : ℝ) : EReal)
def wup (w : Fin 1024 → Fin 2816 → ℝ) : (⟨S1024x2816, .f32⟩ : BufTy).Contents (Elt Ideal) :=
  fun i => ((w (i 0) (i 1) : ℝ) : EReal)
def wdn (w : Fin 2816 → Fin 1024 → ℝ) : (⟨S2816x1024, .f32⟩ : BufTy).Contents (Elt Ideal) :=
  fun i => ((w (i 0) (i 1) : ℝ) : EReal)

theorem mat_apply (M : Fin 8192 → Fin 1024 → ℝ) (i) : mat M i = ((M (i 0) (i 1) : ℝ) : EReal) := rfl
theorem vec_apply (g : Fin 1024 → ℝ) (i) : vec g i = ((g (i 0) : ℝ) : EReal) := rfl
theorem wup_apply (w : Fin 1024 → Fin 2816 → ℝ) (i) : wup w i = ((w (i 0) (i 1) : ℝ) : EReal) := rfl
theorem wdn_apply (w : Fin 2816 → Fin 1024 → ℝ) (i) : wdn w i = ((w (i 0) (i 1) : ℝ) : EReal) := rfl

theorem v6 (i) : val_main_v6 (F := Ideal) (mat X) i = ((Ffn.ms (X (i 0)) : ℝ) : EReal) := by
  simp only [val_main_v6_apply, val_main_v4_apply, val_main_v2_apply, val_main_v1_apply, val_main_v0_apply, val_main_v3_apply,
    val_main_v5_apply, val_main_cst_apply, val_main_cst_0_apply, val_main_cst_1_apply, Ideal.addf_def, Ideal.mulf_def,
    Ideal.hostDivf_def, Ideal.ofBits_def, Ffn.ofBits_zero, Ffn.ofBits_1024, Ffn.ofBits_eps, mat_apply, ← EReal.coe_mul,
    Ffn.coe_sum, ← EReal.coe_add, Ffn.div_coe_coe _ 1024 (by norm_num), zero_add]
  rfl

theorem v7 (i) : val_main_v7 (F := Ideal) (mat X) i = ((Ffn.rr (X (i 0)) : ℝ) : EReal) := by
  rw [val_main_v7_apply, v6, Ideal.hostUnary_rsqrt_def, Ffn.rsqrt_pos _ (Ffn.ms_pos _)]; rfl

theorem v15 (i) : val_main_v15 (F := Ideal) (mat X) (vec G) i = ((Ffn.hh (X (i 0)) G (i 1) : ℝ) : EReal) := by
  simp only [val_main_v15_apply, val_main_v12_apply, val_main_v11_apply, val_main_v14_apply, val_main_v13_apply, v7,
    Ideal.mulf_def, mat_apply, vec_apply, ← EReal.coe_mul]
  rfl

theorem v16 (i) : val_main_v16 (F := Ideal) (mat X) (vec G) (wup Wg) i
    = ((Ffn.hid (X (i 0)) G Wg (i 1) : ℝ) : EReal) := by
  simp only [val_main_v16_apply, v15, wup_apply, ← EReal.coe_mul, Ffn.coe_sum]
  rfl

theorem v17_2 (i) : val_main_v17_2 (F := Ideal) (mat X) (vec G) (wup Wg) i
    = ((Ffn.sg (Ffn.hid (X (i 0)) G Wg (i 1)) : ℝ) : EReal) := by
  simp only [val_main_v17_2_apply, val_main_call0_v4_apply, val_main_call0_v3_apply, val_main_call0_v2_apply,
    val_main_call0_v1_apply, val_main_call0_v0_apply, val_main_call0_cst_apply, val_main_call0_cst_0_apply, v16,
    Ideal.hostDivf_def, Ideal.addf_def, Ideal.ofBits_def, Ffn.ofBits_one, Ideal.hostNegf_def, Ideal.negf_def,
    Ideal.hostUnary_exp_def, ← EReal.coe_neg, Ideal.exp_coe, ← EReal.coe_add,
    Ffn.div_coe_coe _ _ (Ffn.one_add_exp_ne _)]
  rfl

theorem v17_1 (i) : val_main_v17_1 (F := Ideal) (mat X) (vec G) (wup Wg) i
    = ((Ffn.sg (Ffn.hid (X (i 0)) G Wg (i 1)) * (1 - Ffn.sg (Ffn.hid (X (i 0)) G Wg (i 1))) : ℝ) : EReal) := by
  simp only [val_main_v17_1_apply, val_main_call0_v7_apply, val_main_call0_v6_apply, val_main_call0_cst_1_apply, v17_2,
    Ideal.mulf_def, Ideal.subf_def, Ideal.ofBits_def, Ffn.ofBits_one, ← EReal.coe_sub, ← EReal.coe_mul]

theorem v17_0 (i) : val_main_v17_0 (F := Ideal) (mat X) (vec G) (wup Wg) i
    = ((Ffn.hid (X (i 0)) G Wg (i 1) * Ffn.sg (Ffn.hid (X (i 0)) G Wg (i 1)) : ℝ) : EReal) := by
  simp only [val_main_v17_0_apply, v16, v17_2, Ideal.mulf_def, ← EReal.coe_mul]

theorem v18 (i) : val_main_v18 (F := Ideal) (mat X) (vec G) (wup Wu) i
    = ((Ffn.hid (X (i 0)) G Wu (i 1) : ℝ) : EReal) := v16 X G Wu i

theorem idx24 (i : S8192x1024.Idx) : idx_main_v24 i = i := by
  have h1 : (i 1).val < 1024 := (i 1).isLt
  funext a
  apply Fin.ext
  match a with
  | ⟨0, _⟩ => show ((i 0).val * 1024 + (i 1).val) / 1024 = (i 0).val; omega
  | ⟨1, _⟩ => show ((i 0).val * 1024 + (i 1).val) % 1024 = (i 1).val; omega

theorem v27 (i) : val_main_v27 (F := Ideal) (mat D) (wdn Wd) i = ((Ffn.ds (D (i 0)) Wd (i 1) : ℝ) : EReal) := by
  simp only [val_main_v27_apply, val_main_v26_apply, val_main_v25_apply, val_main_cst_4_apply, val_main_v24_apply, idx24,
    mat_apply, wdn_apply, Ideal.mulf_def, Ideal.ofBits_def, Ffn.ofBits_half, ← EReal.coe_mul, Ffn.coe_sum]
  rfl

/-- The cotangents of the two hidden rows. -/
def dA (l : Fin 8192) : Fin 2816 → ℝ := Ffn.da (D l) (Ffn.hid (X l) G Wg) (Ffn.hid (X l) G Wu) Wd
def dB (l : Fin 8192) : Fin 2816 → ℝ := Ffn.db (D l) (Ffn.hid (X l) G Wg) Wd
def dH (l : Fin 8192) : Fin 1024 → ℝ := Ffn.dh (dA D X G Wg Wu Wd l) (dB D X G Wg Wd l) Wg Wu

theorem v28 (i) : val_main_v28 (F := Ideal) (mat D) (mat X) (vec G) (wup Wg) (wdn Wd) i
    = ((dB D X G Wg Wd (i 0) (i 1) : ℝ) : EReal) := by
  simp only [val_main_v28_apply, v17_0, v27, Ideal.mulf_def, ← EReal.coe_mul]
  exact congrArg _ (mul_comm _ _)

theorem v31 (i) : val_main_v31 (F := Ideal) (mat D) (mat X) (vec G) (wup Wg) (wup Wu) (wdn Wd) i
    = ((dA D X G Wg Wu Wd (i 0) (i 1) : ℝ) : EReal) := by
  simp only [val_main_v31_apply, val_main_call1_v0_apply, val_main_call1_v1_apply, val_main_call1_v2_apply,
    val_main_v29_apply, v16, v17_1, v17_2, v18, v27, Ideal.mulf_def, Ideal.addf_def, ← EReal.coe_mul, ← EReal.coe_add]
  refine congrArg _ ?_
  unfold dA Ffn.da
  ring

theorem v33 (i) : val_main_v33 (F := Ideal) (mat D) (mat X) (vec G) (wup Wg) (wup Wu) (wdn Wd) i
    = ((dH D X G Wg Wu Wd (i 0) (i 1) : ℝ) : EReal) := by
  simp only [val_main_v33_apply, val_main_v30_apply, val_main_v32_apply, v28, v31, wup_apply, Ideal.addf_def,
    ← EReal.coe_mul, Ffn.coe_sum, ← EReal.coe_add]
  exact congrArg _ (add_comm _ _)

theorem v38 (i) : val_main_v38 (F := Ideal) (mat D) (mat X) (vec G) (wup Wg) (wup Wu) (wdn Wd) i
    = ((dH D X G Wg Wu Wd (i 0) (i 1) * G (i 1) : ℝ) : EReal) := by
  simp only [val_main_v38_apply, val_main_v37_apply, val_main_v13_apply, v33, vec_apply, Ideal.mulf_def, ← EReal.coe_mul]
  rfl

theorem idx41 (i : S8192x1024.Idx) (u : Fin 1) (k : Fin 1024) :
    idx_main_v41 (idx_main_v42 (idx_main_v49 (idx_main_v50 i) u)) k 0 = i 0 := by
  have hu : u.val < 1 := u.isLt
  apply Fin.ext
  show (i 0).val * 1 + u.val = (i 0).val
  omega

/-- The gradient with respect to the rows. -/
theorem v54 (i) : val_main_v54 (F := Ideal) (mat D) (mat X) (vec G) (wup Wg) (wup Wu) (wdn Wd) i
    = ((Ffn.dx (D (i 0)) (X (i 0)) G (dH D X G Wg Wu Wd (i 0)) (i 1) : ℝ) : EReal) := by
  simp only [val_main_v54_apply, val_main_v53_apply, val_main_v52_apply, val_main_v51_apply, val_main_v50_apply,
    val_main_v49_apply, val_main_v48_apply, val_main_v47_apply, val_main_v46_apply, val_main_v45_apply,
    val_main_v44_apply, val_main_v43_apply, val_main_v42_apply, val_main_v41_apply, val_main_v40_apply,
    val_main_v10_apply, val_main_v9_apply, val_main_v8_apply, val_main_cst_2_apply, val_main_cst_7_apply,
    val_main_cst_8_apply, val_main_cst_9_apply, v38, v7, v6, mat_apply, Ideal.mulf_def, Ideal.addf_def,
    Ideal.hostDivf_def, Ideal.ofBits_def, Ffn.ofBits_zero, Ffn.ofBits_1024, Ffn.ofBits_neg_half, ← EReal.coe_mul,
    Ffn.coe_sum, ← EReal.coe_add, Ffn.div_coe_coe _ 1024 (by norm_num), Ffn.div_coe_coe _ _ (Ffn.ms_pos _).ne', zero_add,
    Fin.sum_univ_one, idx41]
  exact congrArg _ (Ffn.dx_eq (D (i 0)) (X (i 0)) G (dH D X G Wg Wu Wd (i 0)) (i 1))

theorem idx35 (i : S1x1024.Idx) (u : Fin 1) (l : Fin 8192) :
    idx_main_v35 (idx_main_v36 (idx_main_v39 (idx_main_v96 i) u)) l 1 = i 1 := by
  have hu : u.val < 1 := u.isLt
  apply Fin.ext
  show u.val * 1024 + (i 1).val = (i 1).val
  omega

/-- The gradient with respect to the norm's weights. -/
theorem v96 (i) : val_main_v96 (F := Ideal) (mat D) (mat X) (vec G) (wup Wg) (wup Wu) (wdn Wd) i
    = ((∑ l, dH D X G Wg Wu Wd l (i 1) * Ffn.xh (X l) (i 1) : ℝ) : EReal) := by
  simp only [val_main_v96_apply, val_main_v39_apply, val_main_v36_apply, val_main_v35_apply, val_main_v34_apply,
    val_main_v12_apply, val_main_v11_apply, val_main_cst_5_apply, val_main_cst_6_apply, v33, v7, mat_apply,
    Ideal.mulf_def, Ideal.ofBits_def, Ffn.ofBits_zero, ← EReal.coe_mul, Ffn.coe_sum, ← EReal.coe_add, zero_add,
    Fin.sum_univ_one, idx35]
  refine congrArg _ (Finset.sum_congr rfl fun l _ => ?_)
  exact mul_comm (Ffn.xh (X l) (i 1)) (dH D X G Wg Wu Wd l (i 1))

/-! ### The arrays that the gradients of the weights are taken from -/

/-- Column `f` of shard `j`. -/
def col (j : Fin 4) (f : Fin 704) : Fin 2816 := ⟨j.val * 704 + f.val, by omega⟩

theorem idx81 (i : S4x8192x704.Idx) : (idx_main_v81 (idx_main_v82 i) 0 = i 1) ∧ idx_main_v81 (idx_main_v82 i) 1 = col (i 0) (i 2) := by
  have h0 : (i 0).val < 4 := (i 0).isLt
  have h2 : (i 2).val < 704 := (i 2).isLt
  constructor
  · apply Fin.ext
    show (((i 1).val * 4 + (i 0).val) * 704 + (i 2).val) / 2816 = (i 1).val
    omega
  · apply Fin.ext
    show (((i 1).val * 4 + (i 0).val) * 704 + (i 2).val) % 2816 = (i 0).val * 704 + (i 2).val
    omega

theorem v83 (i) : val_main_v83 (F := Ideal) (mat D) (mat X) (vec G) (wup Wg) (wup Wu) (wdn Wd) i
    = ((dA D X G Wg Wu Wd (i 1) (col (i 0) (i 2)) : ℝ) : EReal) := by
  have h : val_main_v80 (F := Ideal) (mat D) (mat X) (vec G) (wup Wg) (wup Wu) (wdn Wd)
      = val_main_v31 (F := Ideal) (mat D) (mat X) (vec G) (wup Wg) (wup Wu) (wdn Wd) := by
    funext k
    simp only [val_main_v80_apply, val_main_call3_v0_apply, val_main_call3_v1_apply, val_main_call3_v2_apply,
      val_main_v31_apply, val_main_call1_v0_apply, val_main_call1_v1_apply, val_main_call1_v2_apply, val_main_v79_apply,
      val_main_v29_apply]
    have e : val_main_v77 (F := Ideal) (mat D) (wdn Wd) k = val_main_v27 (F := Ideal) (mat D) (wdn Wd) k := by
      rw [v27]
      simp only [val_main_v77_apply, val_main_v76_apply, val_main_v75_apply, val_main_cst_14_apply, mat_apply, wdn_apply,
        Ideal.mulf_def, Ideal.ofBits_def, Ffn.ofBits_half, ← EReal.coe_mul, Ffn.coe_sum]
      rfl
    rw [e]
    rfl
  rw [val_main_v83_apply, val_main_v82_apply, val_main_v81_apply, Ideal.truncf_def, h, v31, (idx81 i).1, (idx81 i).2]

theorem v77 (k) : val_main_v77 (F := Ideal) (mat D) (wdn Wd) k = ((Ffn.ds (D (k 0)) Wd (k 1) : ℝ) : EReal) := by
  simp only [val_main_v77_apply, val_main_v76_apply, val_main_v75_apply, val_main_cst_14_apply, mat_apply, wdn_apply,
    Ideal.mulf_def, Ideal.ofBits_def, Ffn.ofBits_half, ← EReal.coe_mul, Ffn.coe_sum]
  rfl

theorem v86 (i) : val_main_v86 (F := Ideal) (mat D) (mat X) (vec G) (wup Wg) (wdn Wd) i
    = ((dB D X G Wg Wd (i 1) (col (i 0) (i 2)) : ℝ) : EReal) := by
  have e : val_main_v70_0 (F := Ideal) (mat X) (vec G) (wup Wg) = val_main_v17_0 (F := Ideal) (mat X) (vec G) (wup Wg) := rfl
  rw [val_main_v86_apply, val_main_v85_apply, val_main_v84_apply, Ideal.truncf_def, val_main_v78_apply, v77, e, v17_0]
  show _ * _ = _
  rw [← EReal.coe_mul, show (idx_main_v84 (idx_main_v85 i)) 0 = i 1 from (idx81 i).1,
    show (idx_main_v84 (idx_main_v85 i)) 1 = col (i 0) (i 2) from (idx81 i).2]
  exact congrArg _ (mul_comm _ _)

theorem v91 (i) : val_main_v91 (F := Ideal) (mat X) (vec G) (wup Wg) (wup Wu) i
    = ((Ffn.act (Ffn.hid (X (i 1)) G Wg) (Ffn.hid (X (i 1)) G Wu) (col (i 0) (i 2)) : ℝ) : EReal) := by
  have e : val_main_v87 (F := Ideal) (mat X) (vec G) (wup Wg) = val_main_v17_0 (F := Ideal) (mat X) (vec G) (wup Wg) := rfl
  have e' : val_main_v69 (F := Ideal) (mat X) (vec G) (wup Wu) = val_main_v18 (F := Ideal) (mat X) (vec G) (wup Wu) := rfl
  rw [val_main_v91_apply, val_main_v90_apply, val_main_v89_apply, Ideal.truncf_def, val_main_v88_apply, e, e', v17_0, v18]
  show _ * _ = _
  rw [← EReal.coe_mul, show (idx_main_v89 (idx_main_v90 i)) 0 = i 1 from (idx81 i).1,
    show (idx_main_v89 (idx_main_v90 i)) 1 = col (i 0) (i 2) from (idx81 i).2]
  rfl

theorem v92 (i) : val_main_v92 (F := Ideal) (mat X) (vec G) i = ((Ffn.hh (X (i 0)) G (i 1) : ℝ) : EReal) := v15 X G i

theorem v95 (i) : val_main_v95 (F := Ideal) (mat D) i = ((1 / 2 * D (i 0) (i 1) : ℝ) : EReal) := by
  simp only [val_main_v95_apply, val_main_v94_apply, val_main_v93_apply, val_main_cst_15_apply, mat_apply,
    Ideal.truncf_def, Ideal.mulf_def, Ideal.ofBits_def, Ffn.ofBits_half, ← EReal.coe_mul]

end Cert.FfnBwdReference

end
-- ==== Proof.RealVec.lean ====
module
public import proofs.«01_k».proof.Proof.Ffn
public import Idealize.ShloMosaic.Lib.Tactic

/-! Vectors of real numbers under the operations of a kernel's body: each operation sends vectors of reals to the
    vector of the real operation's values. -/

@[expose] public section

set_option maxRecDepth 16384

noncomputable section

open Idealize.ShloMosaic Idealize.ShloMosaic.TcCoe Idealize.SL.Sem

namespace Cert.RealVec

/-- The vector of the reals `f`. -/
def cv {s : Shape} {φ : FTy} (f : s.Idx → ℝ) : FVec Ideal s φ := fun i => ((f i : ℝ) : EReal)

variable {s t : Shape} {φ φ' : FTy}

theorem cv_apply (f : s.Idx → ℝ) (i : s.Idx) : (cv f : FVec Ideal s φ) i = ((f i : ℝ) : EReal) := rfl

theorem cv_congr {f g : s.Idx → ℝ} (h : ∀ i, f i = g i) : (cv f : FVec Ideal s φ) = cv g := congrArg _ (funext h)

theorem addf_cv (f g : s.Idx → ℝ) : addf (cv f : FVec Ideal s φ) (cv g) = cv fun i => f i + g i :=
  funext fun i => (EReal.coe_add (f i) (g i)).symm
theorem subf_cv (f g : s.Idx → ℝ) : subf (cv f : FVec Ideal s φ) (cv g) = cv fun i => f i - g i :=
  funext fun i => (EReal.coe_sub (f i) (g i)).symm
theorem mulf_cv (f g : s.Idx → ℝ) : mulf (cv f : FVec Ideal s φ) (cv g) = cv fun i => f i * g i :=
  funext fun i => (EReal.coe_mul (f i) (g i)).symm
theorem divf_cv (f g : s.Idx → ℝ) (h : ∀ i, g i ≠ 0) :
    divf (cv f : FVec Ideal s φ) (cv g) = cv fun i => f i / g i :=
  funext fun i => Ffn.div_coe_coe (f i) (g i) (h i)
theorem divf_cv_1024 (f : s.Idx → ℝ) :
    divf (cv f : FVec Ideal s φ) (cv fun _ => 1024) = cv fun i => f i / 1024 :=
  divf_cv f _ fun _ => by norm_num
theorem rsqrt_cv (f : s.Idx → ℝ) (h : ∀ i, 0 < f i) :
    rsqrt (cv f : FVec Ideal s φ) = cv fun i => (Real.sqrt (f i))⁻¹ :=
  funext fun i => Ffn.rsqrt_pos (f i) (h i)
theorem tanh_cv (f : s.Idx → ℝ) : tanh (cv f : FVec Ideal s φ) = cv fun i => Real.tanh (f i) :=
  funext fun i => Ideal.tanh_coe (f i)
theorem truncf_cv (f : s.Idx → ℝ) (h) : truncf φ' (cv f : FVec Ideal s φ) h = cv f := rfl
theorem extf_cv (f : s.Idx → ℝ) (h) : extf φ' (cv f : FVec Ideal s φ) h = cv f := rfl
theorem shapeCast_cv (f : s.Idx → ℝ) (h) : shapeCast t (cv f : FVec Ideal s φ) h = cv (φ := φ) (shapeCast t f h) := rfl
theorem broadcastTo_cv (f : s.Idx → ℝ) (h) : broadcastTo t (cv f : FVec Ideal s φ) h = cv (φ := φ) (broadcastTo t f h) := rfl

theorem splat_zero : broadcast s (Scalar.ofBits (F := Ideal) .f32 0x00000000#32) = cv fun _ => (0 : ℝ) :=
  funext fun _ => Ffn.ofBits_zero
theorem splat_half : broadcast s (Scalar.ofBits (F := Ideal) .f32 0x3F000000#32) = cv fun _ => (1 / 2 : ℝ) :=
  funext fun _ => Ffn.ofBits_half
theorem splat_one : broadcast s (Scalar.ofBits (F := Ideal) .f32 0x3F800000#32) = cv fun _ => (1 : ℝ) :=
  funext fun _ => Ffn.ofBits_one
theorem splat_1024 : broadcast s (Scalar.ofBits (F := Ideal) .f32 0x44800000#32) = cv fun _ => (1024 : ℝ) :=
  funext fun _ => Ffn.ofBits_1024
theorem splat_eps : broadcast s (Scalar.ofBits (F := Ideal) .f32 0x358637BD#32) = cv fun _ => Ffn.eps :=
  funext fun _ => Ffn.ofBits_eps
theorem constant_zero : constant (F := Ideal) s .f32 0x00000000#32 = cv fun _ => (0 : ℝ) :=
  funext fun _ => Ffn.ofBits_zero

theorem splat_half' : broadcast s (FloatOps.ofBits (F := Ideal) .f32 0x3F000000#32) = cv fun _ => (1 / 2 : ℝ) :=
  funext fun _ => Ffn.ofBits_half
theorem splat_one' : broadcast s (FloatOps.ofBits (F := Ideal) .f32 0x3F800000#32) = cv fun _ => (1 : ℝ) :=
  funext fun _ => Ffn.ofBits_one

theorem matmul_cv {sl sr so : Shape} {φ₁ φ₂ : FTy} (d : DotDims sl sr so) (prec : Option ContractPrecision)
    (f : sl.Idx → ℝ) (g : sr.Idx → ℝ) (r : so.Idx → ℝ) :
    matmul d prec (cv f : FVec Ideal sl φ₁) (cv g : FVec Ideal sr φ₂) (cv r)
      = cv fun j => r j + ∑ k : d.contr.Idx, f (d.lhsIdx j k) * g (d.rhsIdx j k) := by
  funext j
  show (r j : EReal) + ∑ k : d.contr.Idx, (f (d.lhsIdx j k) : EReal) * (g (d.rhsIdx j k) : EReal) = _
  simp only [← EReal.coe_mul, Ffn.coe_sum, ← EReal.coe_add]
  rfl

theorem reduce_cv {a : Fin s.rank} (f : s.Idx → ℝ) (acc : BitVec φ.bits) (h : s.Reduces [a] t) (hφ : FKind.Formats φ)
    (hacc : acc = FKind.add.neutral φ hφ) :
    multiReduction .add [a] t (cv f : FVec Ideal s φ) acc h hφ hacc = cv fun j => ∑ k : Fin (s.size a), f (h.lift j k) := by
  funext j
  rw [Ideal.multiReduction_add_single]
  simp only [cv_apply, Ffn.coe_sum]

/-! ### Host operations -/

theorem broadcastInDim_cv (dims : Fin s.rank → Fin t.rank) (h : s.BroadcastsInDim t dims) (f : s.Idx → ℝ) :
    broadcastInDim t dims h (cv f : FVec Ideal s φ) = cv (φ := φ) (broadcastInDim t dims h f) := rfl
theorem transpose_cv (perm : List (Fin s.rank)) (f : s.Idx → ℝ) (h) :
    transpose t perm (cv f : FVec Ideal s φ) h = cv (φ := φ) (transpose t perm f h) := rfl
theorem hostDivf_cv (f g : s.Idx → ℝ) (h : ∀ i, g i ≠ 0) :
    Host.divf (cv f : FVec Ideal s φ) (cv g) = cv fun i => f i / g i :=
  funext fun i => Ffn.div_coe_coe (f i) (g i) (h i)
theorem hostRsqrt_cv (f : s.Idx → ℝ) (h : ∀ i, 0 < f i) :
    Host.rsqrt (cv f : FVec Ideal s φ) = cv fun i => (Real.sqrt (f i))⁻¹ :=
  funext fun i => Ffn.rsqrt_pos (f i) (h i)
theorem constant_1024 : constant (F := Ideal) s .f32 0x44800000#32 = cv fun _ => (1024 : ℝ) :=
  funext fun _ => Ffn.ofBits_1024
theorem constant_eps : constant (F := Ideal) s .f32 0x358637BD#32 = cv fun _ => Ffn.eps :=
  funext fun _ => Ffn.ofBits_eps
theorem constant_half : constant (F := Ideal) s .f32 0x3F000000#32 = cv fun _ => (1 / 2 : ℝ) :=
  funext fun _ => Ffn.ofBits_half
theorem constant_one : constant (F := Ideal) s .f32 0x3F800000#32 = cv fun _ => (1 : ℝ) :=
  funext fun _ => Ffn.ofBits_one

theorem dotGeneral_cv {sl sr so : Shape} {φ₁ φ₂ : FTy} (d : DotDims sl sr so) (prec : Option ContractPrecision)
    (f : sl.Idx → ℝ) (g : sr.Idx → ℝ) :
    Host.dotGeneral d prec (cv f : FVec Ideal sl φ₁) (cv g : FVec Ideal sr φ₂)
      = cv fun j => ∑ k : d.contr.Idx, f (d.lhsIdx j k) * g (d.rhsIdx j k) := by
  funext j
  unfold Host.dotGeneral
  rw [Ideal.dotGeneral_apply]
  simp only [cv_apply, ← EReal.coe_mul, Ffn.coe_sum]

theorem hostReduceAdd_cv {u : Shape} {a : Fin s.rank} (f : s.Idx → ℝ) (h : s.ReducesTo [a] t) (h' : s.Reduces [a] t)
    (hu : 0 < u.numel) :
    Host.reduceAdd (cv f : FVec Ideal s φ) (cv (s := u) fun _ => 0) h hu
      = cv fun j => ∑ k : Fin (s.size a), f (h'.lift j k) := by
  funext j
  refine (Ideal.hostReduceAdd_single h h' _ _ j).trans ?_
  simp only [cv_apply, Ffn.coe_sum]
  exact zero_add _

end Cert.RealVec

end
-- ==== Proof.FfnBwdBody.lean ====
module
public import proofs.«01_k».proof.Proof.FfnBwdReference
public import proofs.«01_k».proof.Proof.RealVec
public import proofs.«01_k».proof.Proof.Gen.Kernel2Ideal.Value
public import Idealize.ShloMosaic.Lib.ValueIdxCore
public import Idealize.ShloMosaic.Lib.Pipeline.ValueKit.Tiles
public import Idealize.ShloMosaic.Lib.Tactic

/-! What one grid point of the feed-forward layer's backward kernel writes, at blocks of reals. -/

@[expose] public section

set_option maxRecDepth 16384

noncomputable section

open Idealize.ShloMosaic Idealize.ShloMosaic.TcCoe Idealize.SL.Sem
open Idealize.ShloMosaic.Pipeline (Dat)
open Idealize.ShloMosaic.ValueIdx
open Cert.Kernel2Ideal Cert.Kernel2Ideal.Gen Cert.RealVec Cert.FfnBwdReference

namespace Cert.FfnBwdBody

/-! ### Layout operations and products, on real functions -/

theorem sc_row (f : S1x1024.Idx → ℝ) (h) : shapeCast S1x1024 f h = f :=
  funext fun i => shapeCast_apply f h i i rfl
theorem sc_256 (f : S256.Idx → ℝ) (h) : shapeCast S256x1 f h = fun i => f (ix1 (i 0)) :=
  funext fun i => shapeCast_apply f h i _ (by
    have h1 : (i 1).val < 1 := (i 1).isLt
    rw [Shape.rowMajor_val_one, Shape.rowMajor_val_two]
    show (i 0).val = (i 0).val * 1 + (i 1).val
    omega)
theorem sc_1024 (f : S1024.Idx → ℝ) (h) : shapeCast S1x1024 f h = fun i => f (ix1 (i 1)) :=
  funext fun i => shapeCast_apply f h i _ (by
    have h0 : (i 0).val < 1 := (i 0).isLt
    rw [Shape.rowMajor_val_one, Shape.rowMajor_val_two]
    show (i 1).val = (i 0).val * 1024 + (i 1).val
    omega)
theorem sc_slab (f : S1x256x704.Idx → ℝ) (h) : shapeCast S256x704 f h = fun i => f (ix3 (0 : Fin 1) (i 0) (i 1)) :=
  funext fun i => shapeCast_apply f h i _ (by
    rw [Shape.rowMajor_val_three, Shape.rowMajor_val_two]
    show (0 * 256 + (i 0).val) * 704 + (i 1).val = (i 0).val * 704 + (i 1).val
    omega)
theorem sc_wslab (f : S1x704x1024.Idx → ℝ) (h) : shapeCast S704x1024 f h = fun i => f (ix3 (0 : Fin 1) (i 0) (i 1)) :=
  funext fun i => shapeCast_apply f h i _ (by
    rw [Shape.rowMajor_val_three, Shape.rowMajor_val_two]
    show (0 * 704 + (i 0).val) * 1024 + (i 1).val = (i 0).val * 1024 + (i 1).val
    omega)
theorem sc_out (f : S256x704.Idx → ℝ) (h) : shapeCast S1x256x704 f h = fun i => f (ix2 (i 1) (i 2)) :=
  funext fun i => shapeCast_apply f h i _ (by
    have h0 : (i 0).val < 1 := (i 0).isLt
    rw [Shape.rowMajor_val_three, Shape.rowMajor_val_two]
    show (i 1).val * 704 + (i 2).val = ((i 0).val * 256 + (i 1).val) * 704 + (i 2).val
    omega)
theorem bc_row (f : S1x1024.Idx → ℝ) (h) : broadcastTo S256x1024 f h = fun i => f (ix2 (0 : Fin 1) (i 1)) :=
  funext fun i => broadcastTo_apply f h i _ (by
    intro a; match a with | ⟨0, _⟩ => rfl | ⟨1, _⟩ => rfl)
theorem bc_col (f : S256x1.Idx → ℝ) (h) : broadcastTo S256x1024 f h = fun i => f (ix2 (i 0) (0 : Fin 1)) :=
  funext fun i => broadcastTo_apply f h i _ (by
    intro a; match a with | ⟨0, _⟩ => rfl | ⟨1, _⟩ => rfl)

theorem rd_row (f : S256x1024.Idx → ℝ) (h : S256x1024.Reduces [1] S256) (j : S256.Idx) :
    (∑ k : Fin (S256x1024.size 1), f (h.lift j k)) = ∑ k : Fin 1024, f (ix2 (j 0) k) :=
  Finset.sum_congr rfl fun k _ => congrArg f (funext fun a => by
    match a with | ⟨0, _⟩ => rfl | ⟨1, _⟩ => rfl)
theorem rd_col (f : S256x1024.Idx → ℝ) (h : S256x1024.Reduces [0] S1024) (j : S1024.Idx) :
    (∑ k : Fin (S256x1024.size 0), f (h.lift j k)) = ∑ k : Fin 256, f (ix2 k (j 0)) :=
  Finset.sum_congr rfl fun k _ => congrArg f (funext fun a => by
    match a with | ⟨0, _⟩ => rfl | ⟨1, _⟩ => rfl)

theorem mm_up (f : S256x1024.Idx → ℝ) (g : S704x1024.Idx → ℝ) (j : S256x704.Idx) :
    (∑ k : dot_S256x1024_S704x1024_S256x704_1_1_0_0_n_n.contr.Idx,
      f (dot_S256x1024_S704x1024_S256x704_1_1_0_0_n_n.lhsIdx j k)
        * g (dot_S256x1024_S704x1024_S256x704_1_1_0_0_n_n.rhsIdx j k))
      = ∑ k : Fin 1024, f (ix2 (j 0) k) * g (ix2 (j 1) k) :=
  Fintype.sum_equiv (contrEquiv1 dot_S256x1024_S704x1024_S256x704_1_1_0_0_n_n 1024 rfl rfl) _ _ fun k => by
    congr 1
    · exact congrArg f (funext fun a => by match a with | ⟨0, _⟩ => rfl | ⟨1, _⟩ => rfl)
    · exact congrArg g (funext fun a => by match a with | ⟨0, _⟩ => rfl | ⟨1, _⟩ => rfl)
theorem mm_dn (f : S256x704.Idx → ℝ) (g : S704x1024.Idx → ℝ) (j : S256x1024.Idx) :
    (∑ k : dot_S256x704_S704x1024_S256x1024_1_0_0_1_n_n.contr.Idx,
      f (dot_S256x704_S704x1024_S256x1024_1_0_0_1_n_n.lhsIdx j k)
        * g (dot_S256x704_S704x1024_S256x1024_1_0_0_1_n_n.rhsIdx j k))
      = ∑ k : Fin 704, f (ix2 (j 0) k) * g (ix2 k (j 1)) :=
  Fintype.sum_equiv (contrEquiv1 dot_S256x704_S704x1024_S256x1024_1_0_0_1_n_n 704 rfl rfl) _ _ fun k => by
    congr 1
    · exact congrArg f (funext fun a => by match a with | ⟨0, _⟩ => rfl | ⟨1, _⟩ => rfl)
    · exact congrArg g (funext fun a => by match a with | ⟨0, _⟩ => rfl | ⟨1, _⟩ => rfl)

theorem red_row (f : S256x1024.Idx → ℝ) :
    multiReduction .add (no_index [1]) S256 (cv f : FVec Ideal S256x1024 .f32) 0x00000000#32 reduces_S256x1024_S256 (.inl rfl) rfl
      = cv (φ := .f32) fun j => ∑ k : Fin 1024, f (ix2 (j 0) k) :=
  (reduce_cv (φ := .f32) f _ _ _ _).trans (cv_congr fun j => rd_row f _ j)
theorem red_col (f : S256x1024.Idx → ℝ) :
    multiReduction .add (no_index [0]) S1024 (cv f : FVec Ideal S256x1024 .f32) 0x00000000#32 reduces_S256x1024_S1024 (.inl rfl) rfl
      = cv (φ := .f32) fun j => ∑ k : Fin 256, f (ix2 k (j 0)) :=
  (reduce_cv (φ := .f32) f _ _ _ _).trans (cv_congr fun j => rd_col f _ j)
theorem dot_up (prec) (f : S256x1024.Idx → ℝ) (g : S704x1024.Idx → ℝ) (r : S256x704.Idx → ℝ) :
    matmul dot_S256x1024_S704x1024_S256x704_1_1_0_0_n_n prec (cv f : FVec Ideal _ .bf16) (cv g : FVec Ideal _ .bf16) (cv r)
      = cv fun j => r j + ∑ k : Fin 1024, f (ix2 (j 0) k) * g (ix2 (j 1) k) :=
  (matmul_cv _ prec f g r).trans (cv_congr fun j => congrArg (r j + ·) (mm_up f g j))
theorem dot_dn (prec) (f : S256x704.Idx → ℝ) (g : S704x1024.Idx → ℝ) (r : S256x1024.Idx → ℝ) :
    matmul dot_S256x704_S704x1024_S256x1024_1_0_0_1_n_n prec (cv f : FVec Ideal _ .bf16) (cv g : FVec Ideal _ .bf16) (cv r)
      = cv fun j => r j + ∑ k : Fin 704, f (ix2 (j 0) k) * g (ix2 k (j 1)) :=
  (matmul_cv _ prec f g r).trans (cv_congr fun j => congrArg (r j + ·) (mm_dn f g j))

/-! ### The blocks -/

/-- A block of rows. -/
def blk (M : Fin 256 → Fin 1024 → ℝ) : Vec Ideal S256x1024 .f32 := cv (φ := .f32) fun i => M (i 0) (i 1)
def row (g : Fin 1024 → ℝ) : Vec Ideal S1x1024 .f32 := cv (φ := .f32) fun i => g (i 1)
/-- A block of hidden rows, by shard. -/
def hblk (A : Fin 256 → Fin 2816 → ℝ) : Vec Ideal S4x256x704 .bf16 := cv (φ := .bf16) fun i => A (i 1) (col (i 0) (i 2))
def wblk (W : Fin 2816 → Fin 1024 → ℝ) : Vec Ideal S4x704x1024 .bf16 := cv (φ := .bf16) fun i => W (col (i 0) (i 1)) (i 2)

theorem hz : (![0, 0] : Fin 2 → Nat) = fun _ => 0 := funext fun a => by fin_cases a <;> rfl

theorem ld_h (j : Nat) (hj : j < 4) (A : Fin 256 → Fin 2816 → ℝ) (inb) :
    View.ld (hblk A) (Rect.unit (s := S4x256x704) ![j, 0, 0] (no_index S1x256x704.size) inb)
      = cv (s := S1x256x704) (φ := .bf16) fun i => A (i 1) (col ⟨j, hj⟩ (i 2)) := by
  funext i
  refine (View.ld_unit_apply_of (hblk A) _ _ inb i (ix3 (⟨j, hj⟩ : Fin 4) (i 1) (i 2)) ?_).trans rfl
  intro a
  have h0 : (i 0).val < 1 := (i 0).isLt
  match a with
  | ⟨0, _⟩ => show j = j + (i 0).val; omega
  | ⟨1, _⟩ => show (i 1).val = 0 + (i 1).val; omega
  | ⟨2, _⟩ => show (i 2).val = 0 + (i 2).val; omega
theorem ld_w (j : Nat) (hj : j < 4) (W : Fin 2816 → Fin 1024 → ℝ) (inb) :
    View.ld (wblk W) (Rect.unit (s := S4x704x1024) ![j, 0, 0] (no_index S1x704x1024.size) inb)
      = cv (s := S1x704x1024) (φ := .bf16) fun i => W (col ⟨j, hj⟩ (i 1)) (i 2) := by
  funext i
  refine (View.ld_unit_apply_of (wblk W) _ _ inb i (ix3 (⟨j, hj⟩ : Fin 4) (i 1) (i 2)) ?_).trans rfl
  intro a
  have h0 : (i 0).val < 1 := (i 0).isLt
  match a with
  | ⟨0, _⟩ => show j = j + (i 0).val; omega
  | ⟨1, _⟩ => show (i 1).val = 0 + (i 1).val; omega
  | ⟨2, _⟩ => show (i 2).val = 0 + (i 2).val; omega

theorem ld_h0 (A : Fin 256 → Fin 2816 → ℝ) (inb) :
    View.ld (hblk A) (Rect.unit (s := S4x256x704) ![0, 0, 0] (no_index S1x256x704.size) inb)
      = cv (s := S1x256x704) (φ := .bf16) fun i => A (i 1) (col 0 (i 2)) := ld_h 0 (by norm_num) A inb
theorem ld_w0 (W : Fin 2816 → Fin 1024 → ℝ) (inb) :
    View.ld (wblk W) (Rect.unit (s := S4x704x1024) ![0, 0, 0] (no_index S1x704x1024.size) inb)
      = cv (s := S1x704x1024) (φ := .bf16) fun i => W (col 0 (i 1)) (i 2) := ld_w 0 (by norm_num) W inb
theorem ld_h1 (A : Fin 256 → Fin 2816 → ℝ) (inb) :
    View.ld (hblk A) (Rect.unit (s := S4x256x704) ![1, 0, 0] (no_index S1x256x704.size) inb)
      = cv (s := S1x256x704) (φ := .bf16) fun i => A (i 1) (col 1 (i 2)) := ld_h 1 (by norm_num) A inb
theorem ld_w1 (W : Fin 2816 → Fin 1024 → ℝ) (inb) :
    View.ld (wblk W) (Rect.unit (s := S4x704x1024) ![1, 0, 0] (no_index S1x704x1024.size) inb)
      = cv (s := S1x704x1024) (φ := .bf16) fun i => W (col 1 (i 1)) (i 2) := ld_w 1 (by norm_num) W inb
theorem ld_h2 (A : Fin 256 → Fin 2816 → ℝ) (inb) :
    View.ld (hblk A) (Rect.unit (s := S4x256x704) ![2, 0, 0] (no_index S1x256x704.size) inb)
      = cv (s := S1x256x704) (φ := .bf16) fun i => A (i 1) (col 2 (i 2)) := ld_h 2 (by norm_num) A inb
theorem ld_w2 (W : Fin 2816 → Fin 1024 → ℝ) (inb) :
    View.ld (wblk W) (Rect.unit (s := S4x704x1024) ![2, 0, 0] (no_index S1x704x1024.size) inb)
      = cv (s := S1x704x1024) (φ := .bf16) fun i => W (col 2 (i 1)) (i 2) := ld_w 2 (by norm_num) W inb
theorem ld_h3 (A : Fin 256 → Fin 2816 → ℝ) (inb) :
    View.ld (hblk A) (Rect.unit (s := S4x256x704) ![3, 0, 0] (no_index S1x256x704.size) inb)
      = cv (s := S1x256x704) (φ := .bf16) fun i => A (i 1) (col 3 (i 2)) := ld_h 3 (by norm_num) A inb
theorem ld_w3 (W : Fin 2816 → Fin 1024 → ℝ) (inb) :
    View.ld (wblk W) (Rect.unit (s := S4x704x1024) ![3, 0, 0] (no_index S1x704x1024.size) inb)
      = cv (s := S1x704x1024) (φ := .bf16) fun i => W (col 3 (i 1)) (i 2) := ld_w 3 (by norm_num) W inb

theorem ld_blk (M : Fin 256 → Fin 1024 → ℝ) (inb) :
    View.ld (blk M) (Rect.unit (s := S256x1024) ![0, 0] (no_index S256x1024.size) inb) = blk M := View.ld_unit_zero hz inb _
theorem ld_row (g : Fin 1024 → ℝ) (inb) :
    View.ld (row g) (Rect.unit (s := S1x1024) ![0, 0] (no_index S1x1024.size) inb) = row g := View.ld_unit_zero hz inb _

variable (m : (ℓ : Loc nD τ sig) → Buf (Elt Ideal) ℓ)

/-- The windows' blocks at a point are these reals'. -/
structure Blocks (c : Dev nD) (t : Fin cfg0.N) (E X : Fin 256 → Fin 1024 → ℝ) (G : Fin 1024 → ℝ)
    (A B : Fin 256 → Fin 2816 → ℝ) (Wg Wu : Fin 1024 → Fin 2816 → ℝ) (Wd : Fin 2816 → Fin 1024 → ℝ) : Prop where
  e : iblk m c 0 t = blk E
  x : iblk m c 1 t = blk X
  g : iblk m c 2 t = row G
  a : iblk m c 3 t = hblk A
  b : iblk m c 4 t = hblk B
  wg : iblk m c 5 t = wblk fun f d => Wg d f
  wu : iblk m c 6 t = wblk fun f d => Wu d f
  wd : iblk m c 7 t = wblk Wd

variable {m} {c : Dev nD} {t : Fin cfg0.N} {E X : Fin 256 → Fin 1024 → ℝ} {G : Fin 1024 → ℝ}
  {A B : Fin 256 → Fin 2816 → ℝ} {Wg Wu : Fin 1024 → Fin 2816 → ℝ} {Wd : Fin 2816 → Fin 1024 → ℝ}

/-! ### The body's values -/

theorem pay6 : k0_pay6 (blk X) = cv (φ := .f32) fun i => Ffn.rr (X (i 0)) := by
  unfold k0_pay6 blk
  simp only [mulf_cv, red_row, shapeCast_cv, sc_256, splat_1024, splat_eps, divf_cv_1024, addf_cv]
  exact rsqrt_cv (fun i : S256x1.Idx => Ffn.ms (X (i 0))) fun i => Ffn.ms_pos (X (i 0))

theorem pay7 : k0_pay7 (blk X) = cv (φ := .f32) fun i => Ffn.xh (X (i 0)) (i 1) := by
  unfold k0_pay7
  rw [pay6]
  unfold blk
  simp only [mulf_cv, broadcastTo_cv, bc_col]
  rfl

theorem pay8 : k0_pay8 (blk X) (row G) = cv (φ := .bf16) fun i => Ffn.hh (X (i 0)) G (i 1) := by
  unfold k0_pay8 k0_pay5
  rw [pay7]
  unfold row
  simp only [shapeCast_cv, sc_row, mulf_cv, broadcastTo_cv, bc_row, truncf_cv]
  rfl

theorem pay9 : k0_pay9 (blk E) = cv (φ := .bf16) fun i => 1 / 2 * E (i 0) (i 1) := by
  unfold k0_pay9 blk
  simp only [splat_half, mulf_cv, truncf_cv]

theorem at_shard {n : Nat} (j : Fin 4) (hn : j.val = n) (x : S1x256x704.Idx) (y : S4x256x704.Idx)
    (h : ∀ a, (y a : Nat) = (![n, 0, 0] : Fin 3 → Nat) a + x a) : y = ix3 j (x 1) (x 2) := by
  subst hn
  have x0 : (x 0).val < 1 := (x 0).isLt
  funext a
  apply Fin.ext
  match a with
  | ⟨0, _⟩ => have h0 : (y 0).val = j.val + (x 0).val := h 0
              show (y 0).val = j.val; omega
  | ⟨1, _⟩ => have h1 : (y 1).val = 0 + (x 1).val := h 1
              show (y 1).val = (x 1).val; omega
  | ⟨2, _⟩ => have h2 : (y 2).val = 0 + (x 2).val := h 2
              show (y 2).val = (x 2).val; omega

theorem sum_shards (p : Fin 2816 → ℝ) :
    ∑ f, p f = ∑ f, p (col 0 f) + ∑ f, p (col 1 f) + ∑ f, p (col 2 f) + ∑ f, p (col 3 f) := by
  have e : ∑ f, p f = ∑ q : Fin 4 × Fin 704, p (col q.1 q.2) :=
    (Fintype.sum_equiv (finProdFinEquiv (m := 4) (n := 704)) _ p fun q => congrArg p (Fin.ext (by
      show q.1.val * 704 + q.2.val = q.2.val + 704 * q.1.val
      omega))).symm
  rw [e, Fintype.sum_prod_type, Fin.sum_univ_four]

/-- The cotangent of the normed row, over the four shards. -/
theorem dhv : k0_pay1
    (k0_pay48
      (k0_pay35
        (k0_pay24 (k0_pay17 (cv (φ := .bf16) fun i : S256x1024.Idx => 1 / 2 * E (i 0) (i 1)) (k0_pay11 (cv (s := S1x256x704) (φ := .bf16) fun i => A (i 1) (col 0 (i 2)))) (k0_pay13 (cv (s := S1x256x704) (φ := .bf16) fun i => A (i 1) (col 0 (i 2)))) (cv (s := S1x704x1024) (φ := .bf16) fun i => Wd (col 0 (i 1)) (i 2)))
          (k0_pay22 (cv (φ := .bf16) fun i : S256x1024.Idx => 1 / 2 * E (i 0) (i 1)) k0_pay10 (k0_pay11 (cv (s := S1x256x704) (φ := .bf16) fun i => A (i 1) (col 0 (i 2)))) (k0_pay12 (cv (s := S1x256x704) (φ := .bf16) fun i => B (i 1) (col 0 (i 2))))
            (k0_pay13 (cv (s := S1x256x704) (φ := .bf16) fun i => A (i 1) (col 0 (i 2)))) (cv (s := S1x704x1024) (φ := .bf16) fun i => Wd (col 0 (i 1)) (i 2)) (cv (s := S1x704x1024) (φ := .bf16) fun i => Wg (i 2) (col 0 (i 1))))
          (k0_pay23 (cv (s := S1x704x1024) (φ := .bf16) fun i => Wu (i 2) (col 0 (i 1)))))
        (k0_pay30 (cv (φ := .bf16) fun i : S256x1024.Idx => 1 / 2 * E (i 0) (i 1)) (cv (s := S1x256x704) (φ := .bf16) fun i => A (i 1) (col 1 (i 2))) (cv (s := S1x704x1024) (φ := .bf16) fun i => Wd (col 1 (i 1)) (i 2)))
        (k0_pay31 (cv (φ := .bf16) fun i : S256x1024.Idx => 1 / 2 * E (i 0) (i 1)) (cv (s := S1x256x704) (φ := .bf16) fun i => A (i 1) (col 1 (i 2))) (cv (s := S1x256x704) (φ := .bf16) fun i => B (i 1) (col 1 (i 2))) (cv (s := S1x704x1024) (φ := .bf16) fun i => Wd (col 1 (i 1)) (i 2)))
        (cv (s := S1x704x1024) (φ := .bf16) fun i => Wg (i 2) (col 1 (i 1))) (cv (s := S1x704x1024) (φ := .bf16) fun i => Wu (i 2) (col 1 (i 1))))
      (k0_pay36 (cv (s := S1x256x704) (φ := .bf16) fun i => A (i 1) (col 2 (i 2)))) (k0_pay38 (cv (s := S1x256x704) (φ := .bf16) fun i => A (i 1) (col 2 (i 2)))) (k0_pay41 (cv (φ := .bf16) fun i : S256x1024.Idx => 1 / 2 * E (i 0) (i 1)) (cv (s := S1x256x704) (φ := .bf16) fun i => A (i 1) (col 2 (i 2))) (cv (s := S1x704x1024) (φ := .bf16) fun i => Wd (col 2 (i 1)) (i 2)))
      (k0_pay42 (cv (φ := .bf16) fun i : S256x1024.Idx => 1 / 2 * E (i 0) (i 1)) (cv (s := S1x256x704) (φ := .bf16) fun i => B (i 1) (col 2 (i 2))) (cv (s := S1x704x1024) (φ := .bf16) fun i => Wd (col 2 (i 1)) (i 2))) k0_pay43 (cv (s := S1x704x1024) (φ := .bf16) fun i => Wg (i 2) (col 2 (i 1))) (cv (s := S1x704x1024) (φ := .bf16) fun i => Wu (i 2) (col 2 (i 1))))
    (k0_pay54 (cv (φ := .bf16) fun i : S256x1024.Idx => 1 / 2 * E (i 0) (i 1)) (k0_pay49 (cv (s := S1x256x704) (φ := .bf16) fun i => A (i 1) (col 3 (i 2)))) (FloatOps.ofBits FTy.f32 1056964608#32) (cv (s := S1x704x1024) (φ := .bf16) fun i => Wd (col 3 (i 1)) (i 2)))
    (k0_pay59 (cv (φ := .bf16) fun i : S256x1024.Idx => 1 / 2 * E (i 0) (i 1)) (k0_pay49 (cv (s := S1x256x704) (φ := .bf16) fun i => A (i 1) (col 3 (i 2)))) (k0_pay50 (cv (s := S1x256x704) (φ := .bf16) fun i => B (i 1) (col 3 (i 2)))) (FloatOps.ofBits FTy.f32 1056964608#32) (cv (s := S1x704x1024) (φ := .bf16) fun i => Wd (col 3 (i 1)) (i 2)) (cv (s := S1x704x1024) (φ := .bf16) fun i => Wg (i 2) (col 3 (i 1))))
    (cv (s := S1x704x1024) (φ := .bf16) fun i => Wu (i 2) (col 3 (i 1)))
    = cv (φ := .f32) fun i => Ffn.dh (Ffn.da (E (i 0)) (A (i 0)) (B (i 0)) Wd) (Ffn.db (E (i 0)) (A (i 0)) Wd) Wg Wu (i 1) := by
  simp only [k0_pay1, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59,
    mulf_cv, addf_cv, subf_cv, tanh_cv, splat_half, splat_half', splat_one, splat_one', splat_zero, constant_zero, truncf_cv,
    extf_cv, shapeCast_cv, sc_slab, sc_wslab, sc_out, dot_up, dot_dn, Ffn.half_tanh, zero_add]
  refine cv_congr fun i => ?_
  unfold Ffn.dh
  rw [sum_shards fun f => _ * Wg (i 1) f, sum_shards fun f => _ * Wu (i 1) f]
  unfold Ffn.da Ffn.db Ffn.ds
  ring

/-- The gradient with respect to the rows. -/
theorem pay4 : k0_pay4 (k0_pay5 (row G)) (k0_pay6 (blk X)) (k0_pay7 (blk X)) (blk E)
    (k0_pay48
      (k0_pay35
        (k0_pay24 (k0_pay17 (cv (φ := .bf16) fun i : S256x1024.Idx => 1 / 2 * E (i 0) (i 1)) (k0_pay11 (cv (s := S1x256x704) (φ := .bf16) fun i => A (i 1) (col 0 (i 2)))) (k0_pay13 (cv (s := S1x256x704) (φ := .bf16) fun i => A (i 1) (col 0 (i 2)))) (cv (s := S1x704x1024) (φ := .bf16) fun i => Wd (col 0 (i 1)) (i 2)))
          (k0_pay22 (cv (φ := .bf16) fun i : S256x1024.Idx => 1 / 2 * E (i 0) (i 1)) k0_pay10 (k0_pay11 (cv (s := S1x256x704) (φ := .bf16) fun i => A (i 1) (col 0 (i 2)))) (k0_pay12 (cv (s := S1x256x704) (φ := .bf16) fun i => B (i 1) (col 0 (i 2))))
            (k0_pay13 (cv (s := S1x256x704) (φ := .bf16) fun i => A (i 1) (col 0 (i 2)))) (cv (s := S1x704x1024) (φ := .bf16) fun i => Wd (col 0 (i 1)) (i 2)) (cv (s := S1x704x1024) (φ := .bf16) fun i => Wg (i 2) (col 0 (i 1))))
          (k0_pay23 (cv (s := S1x704x1024) (φ := .bf16) fun i => Wu (i 2) (col 0 (i 1)))))
        (k0_pay30 (cv (φ := .bf16) fun i : S256x1024.Idx => 1 / 2 * E (i 0) (i 1)) (cv (s := S1x256x704) (φ := .bf16) fun i => A (i 1) (col 1 (i 2))) (cv (s := S1x704x1024) (φ := .bf16) fun i => Wd (col 1 (i 1)) (i 2)))
        (k0_pay31 (cv (φ := .bf16) fun i : S256x1024.Idx => 1 / 2 * E (i 0) (i 1)) (cv (s := S1x256x704) (φ := .bf16) fun i => A (i 1) (col 1 (i 2))) (cv (s := S1x256x704) (φ := .bf16) fun i => B (i 1) (col 1 (i 2))) (cv (s := S1x704x1024) (φ := .bf16) fun i => Wd (col 1 (i 1)) (i 2)))
        (cv (s := S1x704x1024) (φ := .bf16) fun i => Wg (i 2) (col 1 (i 1))) (cv (s := S1x704x1024) (φ := .bf16) fun i => Wu (i 2) (col 1 (i 1))))
      (k0_pay36 (cv (s := S1x256x704) (φ := .bf16) fun i => A (i 1) (col 2 (i 2)))) (k0_pay38 (cv (s := S1x256x704) (φ := .bf16) fun i => A (i 1) (col 2 (i 2)))) (k0_pay41 (cv (φ := .bf16) fun i : S256x1024.Idx => 1 / 2 * E (i 0) (i 1)) (cv (s := S1x256x704) (φ := .bf16) fun i => A (i 1) (col 2 (i 2))) (cv (s := S1x704x1024) (φ := .bf16) fun i => Wd (col 2 (i 1)) (i 2)))
      (k0_pay42 (cv (φ := .bf16) fun i : S256x1024.Idx => 1 / 2 * E (i 0) (i 1)) (cv (s := S1x256x704) (φ := .bf16) fun i => B (i 1) (col 2 (i 2))) (cv (s := S1x704x1024) (φ := .bf16) fun i => Wd (col 2 (i 1)) (i 2))) k0_pay43 (cv (s := S1x704x1024) (φ := .bf16) fun i => Wg (i 2) (col 2 (i 1))) (cv (s := S1x704x1024) (φ := .bf16) fun i => Wu (i 2) (col 2 (i 1))))
    (k0_pay54 (cv (φ := .bf16) fun i : S256x1024.Idx => 1 / 2 * E (i 0) (i 1)) (k0_pay49 (cv (s := S1x256x704) (φ := .bf16) fun i => A (i 1) (col 3 (i 2)))) (FloatOps.ofBits FTy.f32 1056964608#32) (cv (s := S1x704x1024) (φ := .bf16) fun i => Wd (col 3 (i 1)) (i 2)))
    (k0_pay59 (cv (φ := .bf16) fun i : S256x1024.Idx => 1 / 2 * E (i 0) (i 1)) (k0_pay49 (cv (s := S1x256x704) (φ := .bf16) fun i => A (i 1) (col 3 (i 2)))) (k0_pay50 (cv (s := S1x256x704) (φ := .bf16) fun i => B (i 1) (col 3 (i 2)))) (FloatOps.ofBits FTy.f32 1056964608#32) (cv (s := S1x704x1024) (φ := .bf16) fun i => Wd (col 3 (i 1)) (i 2)) (cv (s := S1x704x1024) (φ := .bf16) fun i => Wg (i 2) (col 3 (i 1))))
    (cv (s := S1x704x1024) (φ := .bf16) fun i => Wu (i 2) (col 3 (i 1)))
    = blk fun l => Ffn.dx (E l) (X l) G (Ffn.dh (Ffn.da (E l) (A l) (B l) Wd) (Ffn.db (E l) (A l) Wd) Wg Wu) := by
  unfold k0_pay4
  rw [pay6, pay7, dhv]
  unfold row k0_pay5 blk
  simp only [shapeCast_cv, sc_row, broadcastTo_cv, bc_row, bc_col, mulf_cv, red_row, sc_256, splat_1024,
    divf_cv_1024, subf_cv, addf_cv]
  rfl

/-- The rows' part of the gradient with respect to the norm's weights, added to what the block holds. -/
theorem pay3 (S : Fin 1024 → ℝ) : k0_pay3 (k0_pay7 (blk X))
    (k0_pay48
      (k0_pay35
        (k0_pay24 (k0_pay17 (cv (φ := .bf16) fun i : S256x1024.Idx => 1 / 2 * E (i 0) (i 1)) (k0_pay11 (cv (s := S1x256x704) (φ := .bf16) fun i => A (i 1) (col 0 (i 2)))) (k0_pay13 (cv (s := S1x256x704) (φ := .bf16) fun i => A (i 1) (col 0 (i 2)))) (cv (s := S1x704x1024) (φ := .bf16) fun i => Wd (col 0 (i 1)) (i 2)))
          (k0_pay22 (cv (φ := .bf16) fun i : S256x1024.Idx => 1 / 2 * E (i 0) (i 1)) k0_pay10 (k0_pay11 (cv (s := S1x256x704) (φ := .bf16) fun i => A (i 1) (col 0 (i 2)))) (k0_pay12 (cv (s := S1x256x704) (φ := .bf16) fun i => B (i 1) (col 0 (i 2))))
            (k0_pay13 (cv (s := S1x256x704) (φ := .bf16) fun i => A (i 1) (col 0 (i 2)))) (cv (s := S1x704x1024) (φ := .bf16) fun i => Wd (col 0 (i 1)) (i 2)) (cv (s := S1x704x1024) (φ := .bf16) fun i => Wg (i 2) (col 0 (i 1))))
          (k0_pay23 (cv (s := S1x704x1024) (φ := .bf16) fun i => Wu (i 2) (col 0 (i 1)))))
        (k0_pay30 (cv (φ := .bf16) fun i : S256x1024.Idx => 1 / 2 * E (i 0) (i 1)) (cv (s := S1x256x704) (φ := .bf16) fun i => A (i 1) (col 1 (i 2))) (cv (s := S1x704x1024) (φ := .bf16) fun i => Wd (col 1 (i 1)) (i 2)))
        (k0_pay31 (cv (φ := .bf16) fun i : S256x1024.Idx => 1 / 2 * E (i 0) (i 1)) (cv (s := S1x256x704) (φ := .bf16) fun i => A (i 1) (col 1 (i 2))) (cv (s := S1x256x704) (φ := .bf16) fun i => B (i 1) (col 1 (i 2))) (cv (s := S1x704x1024) (φ := .bf16) fun i => Wd (col 1 (i 1)) (i 2)))
        (cv (s := S1x704x1024) (φ := .bf16) fun i => Wg (i 2) (col 1 (i 1))) (cv (s := S1x704x1024) (φ := .bf16) fun i => Wu (i 2) (col 1 (i 1))))
      (k0_pay36 (cv (s := S1x256x704) (φ := .bf16) fun i => A (i 1) (col 2 (i 2)))) (k0_pay38 (cv (s := S1x256x704) (φ := .bf16) fun i => A (i 1) (col 2 (i 2)))) (k0_pay41 (cv (φ := .bf16) fun i : S256x1024.Idx => 1 / 2 * E (i 0) (i 1)) (cv (s := S1x256x704) (φ := .bf16) fun i => A (i 1) (col 2 (i 2))) (cv (s := S1x704x1024) (φ := .bf16) fun i => Wd (col 2 (i 1)) (i 2)))
      (k0_pay42 (cv (φ := .bf16) fun i : S256x1024.Idx => 1 / 2 * E (i 0) (i 1)) (cv (s := S1x256x704) (φ := .bf16) fun i => B (i 1) (col 2 (i 2))) (cv (s := S1x704x1024) (φ := .bf16) fun i => Wd (col 2 (i 1)) (i 2))) k0_pay43 (cv (s := S1x704x1024) (φ := .bf16) fun i => Wg (i 2) (col 2 (i 1))) (cv (s := S1x704x1024) (φ := .bf16) fun i => Wu (i 2) (col 2 (i 1))))
    (k0_pay54 (cv (φ := .bf16) fun i : S256x1024.Idx => 1 / 2 * E (i 0) (i 1)) (k0_pay49 (cv (s := S1x256x704) (φ := .bf16) fun i => A (i 1) (col 3 (i 2)))) (FloatOps.ofBits FTy.f32 1056964608#32) (cv (s := S1x704x1024) (φ := .bf16) fun i => Wd (col 3 (i 1)) (i 2)))
    (k0_pay59 (cv (φ := .bf16) fun i : S256x1024.Idx => 1 / 2 * E (i 0) (i 1)) (k0_pay49 (cv (s := S1x256x704) (φ := .bf16) fun i => A (i 1) (col 3 (i 2)))) (k0_pay50 (cv (s := S1x256x704) (φ := .bf16) fun i => B (i 1) (col 3 (i 2)))) (FloatOps.ofBits FTy.f32 1056964608#32) (cv (s := S1x704x1024) (φ := .bf16) fun i => Wd (col 3 (i 1)) (i 2)) (cv (s := S1x704x1024) (φ := .bf16) fun i => Wg (i 2) (col 3 (i 1))))
    (cv (s := S1x704x1024) (φ := .bf16) fun i => Wu (i 2) (col 3 (i 1))) (row S)
    = row fun d => S d + ∑ l, (fun l => (Ffn.dh (Ffn.da (E l) (A l) (B l) Wd) (Ffn.db (E l) (A l) Wd) Wg Wu) d * Ffn.xh (X l) d) l := by
  unfold k0_pay3
  rw [pay7, dhv]
  unfold row
  simp only [shapeCast_cv, sc_row, mulf_cv, red_col, sc_1024, addf_cv]

theorem pay2 : k0_pay2 (F := Ideal) = row fun _ => 0 := by
  unfold k0_pay2 row
  simp only [splat_zero]

theorem out12_B (h : Blocks m c t E X G A B Wg Wu Wd) (h0 : ¬t.val % 32 = 0) :
    (outsAt0 m c t.val t.isLt).2.2.2.2.1 = cv (φ := .bf16) fun i => Ffn.hh (X (i 0)) G (i 1) := by
  rw [outsAt0_B m c t h0]
  dsimp only
  unfold out0_B_12
  rw [View.read_writes_eq_canon _ _ _ (fun y => cover0_B_12 (y := y) ..)]
  unfold kernelRun0_B
  dsimp only
  rw [View.canon_unit_zero hz]
  sl_unfold_words
  simp only [View.readAt_eq_ld, (hs0_1 t).read_unread, (hs0_2 t).read_unread, h.x, h.g]
  rw [View.ld_unit_zero hz, View.ld_unit_zero hz, pay8]

theorem out13_B (h : Blocks m c t E X G A B Wg Wu Wd) (h0 : ¬t.val % 32 = 0) :
    (outsAt0 m c t.val t.isLt).2.2.2.2.2.1 = cv (φ := .bf16) fun i => 1 / 2 * E (i 0) (i 1) := by
  rw [outsAt0_B m c t h0]
  dsimp only
  unfold out0_B_13
  rw [View.read_writes_eq_canon _ _ _ (fun y => cover0_B_13 (y := y) ..)]
  unfold kernelRun0_B
  dsimp only
  rw [View.canon_unit_zero hz]
  sl_unfold_words
  simp only [View.readAt_eq_ld, (hs0_0 t).read_unread, h.e]
  rw [View.ld_unit_zero hz, pay9]

theorem out9_B (h : Blocks m c t E X G A B Wg Wu Wd) (h0 : ¬t.val % 32 = 0) :
    (outsAt0 m c t.val t.isLt).2.1 = hblk fun l => Ffn.da (E l) (A l) (B l) Wd := by
  rw [outsAt0_B m c t h0]
  dsimp only
  unfold out0_B_9
  rw [View.read_writes_eq_canon _ _ _ (fun y => cover0_B_9 (y := y) ..)]
  unfold kernelRun0_B
  dsimp only
  sl_unfold_words
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    h.e, h.x, h.g, h.a, h.b, h.wg, h.wu, h.wd, ld_blk, ld_row, ld_h0, ld_h1, ld_h2, ld_h3, ld_w0, ld_w1, ld_w2, ld_w3]
  funext y
  refine View.canon_eq_of_allAt _ y _ (View.cover_of_tiled_head _ _ _ (by rfl) y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  all_goals
    simp only [pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59,
      mulf_cv, addf_cv, subf_cv, tanh_cv, splat_half, splat_half', splat_one, splat_one', splat_zero, constant_zero, truncf_cv,
    extf_cv, shapeCast_cv, sc_slab, sc_wslab, sc_out, dot_up, dot_dn, Ffn.half_tanh, zero_add]
  · obtain rfl := at_shard 3 rfl x y hx; rfl
  · obtain rfl := at_shard 2 rfl x y hx; rfl
  · obtain rfl := at_shard 1 rfl x y hx; rfl
  · obtain rfl := at_shard 0 rfl x y hx; rfl

theorem out10_B (h : Blocks m c t E X G A B Wg Wu Wd) (h0 : ¬t.val % 32 = 0) :
    (outsAt0 m c t.val t.isLt).2.2.1 = hblk fun l => Ffn.db (E l) (A l) Wd := by
  rw [outsAt0_B m c t h0]
  dsimp only
  unfold out0_B_10
  rw [View.read_writes_eq_canon _ _ _ (fun y => cover0_B_10 (y := y) ..)]
  unfold kernelRun0_B
  dsimp only
  sl_unfold_words
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    h.e, h.x, h.g, h.a, h.b, h.wg, h.wu, h.wd, ld_blk, ld_row, ld_h0, ld_h1, ld_h2, ld_h3, ld_w0, ld_w1, ld_w2, ld_w3]
  funext y
  refine View.canon_eq_of_allAt _ y _ (View.cover_of_tiled_head _ _ _ (by rfl) y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  all_goals
    simp only [pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59,
      mulf_cv, addf_cv, subf_cv, tanh_cv, splat_half, splat_half', splat_one, splat_one', splat_zero, constant_zero, truncf_cv,
    extf_cv, shapeCast_cv, sc_slab, sc_wslab, sc_out, dot_up, dot_dn, Ffn.half_tanh, zero_add]
  · obtain rfl := at_shard 3 rfl x y hx; rfl
  · obtain rfl := at_shard 2 rfl x y hx; rfl
  · obtain rfl := at_shard 1 rfl x y hx; rfl
  · obtain rfl := at_shard 0 rfl x y hx; rfl

theorem out11_B (h : Blocks m c t E X G A B Wg Wu Wd) (h0 : ¬t.val % 32 = 0) :
    (outsAt0 m c t.val t.isLt).2.2.2.1 = hblk fun l => Ffn.act (A l) (B l) := by
  rw [outsAt0_B m c t h0]
  dsimp only
  unfold out0_B_11
  rw [View.read_writes_eq_canon _ _ _ (fun y => cover0_B_11 (y := y) ..)]
  unfold kernelRun0_B
  dsimp only
  sl_unfold_words
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    h.e, h.x, h.g, h.a, h.b, h.wg, h.wu, h.wd, ld_blk, ld_row, ld_h0, ld_h1, ld_h2, ld_h3, ld_w0, ld_w1, ld_w2, ld_w3]
  funext y
  refine View.canon_eq_of_allAt _ y _ (View.cover_of_tiled_head _ _ _ (by rfl) y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  all_goals
    simp only [pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59,
      mulf_cv, addf_cv, subf_cv, tanh_cv, splat_half, splat_half', splat_one, splat_one', splat_zero, constant_zero, truncf_cv,
    extf_cv, shapeCast_cv, sc_slab, sc_wslab, sc_out, dot_up, dot_dn, Ffn.half_tanh, zero_add]
  · obtain rfl := at_shard 3 rfl x y hx; rfl
  · obtain rfl := at_shard 2 rfl x y hx; rfl
  · obtain rfl := at_shard 1 rfl x y hx; rfl
  · obtain rfl := at_shard 0 rfl x y hx; rfl

theorem out8_B (h : Blocks m c t E X G A B Wg Wu Wd) (h0 : ¬t.val % 32 = 0) :
    (outsAt0 m c t.val t.isLt).1 = blk fun l => Ffn.dx (E l) (X l) G (Ffn.dh (Ffn.da (E l) (A l) (B l) Wd) (Ffn.db (E l) (A l) Wd) Wg Wu) := by
  rw [outsAt0_B m c t h0]
  dsimp only
  unfold out0_B_8
  rw [View.read_writes_eq_canon _ _ _ (fun y => cover0_B_8 (y := y) ..)]
  unfold kernelRun0_B
  dsimp only
  sl_unfold_words
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    h.e, h.x, h.g, h.a, h.b, h.wg, h.wu, h.wd, ld_blk, ld_row, ld_h0, ld_h1, ld_h2, ld_h3, ld_w0, ld_w1, ld_w2, ld_w3]
  rw [View.canon_unit_zero hz, pay9, pay4]

theorem out14_B (h : Blocks m c t E X G A B Wg Wu Wd) (h0 : ¬t.val % 32 = 0) (S : Fin 1024 → ℝ)
    (hS : (outsAt0 m c (t.val - 1) (by have := t.isLt; omega)).2.2.2.2.2.2 = row S) :
    (outsAt0 m c t.val t.isLt).2.2.2.2.2.2
      = row fun d => S d + ∑ l, (fun l => (Ffn.dh (Ffn.da (E l) (A l) (B l) Wd) (Ffn.db (E l) (A l) Wd) Wg Wu) d * Ffn.xh (X l) d) l := by
  rw [outsAt0_B m c t h0]
  dsimp only
  unfold out0_B_14
  rw [View.read_writes_eq_canon _ _ _ (fun y => cover0_B_14 (y := y) ..)]
  unfold kernelRun0_B
  dsimp only
  sl_unfold_words
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    h.e, h.x, h.g, h.a, h.b, h.wg, h.wu, h.wd, ld_blk, ld_row, ld_h0, ld_h1, ld_h2, ld_h3, ld_w0, ld_w1, ld_w2, ld_w3]
  simp only [(hs0_14 t).read_unread, hS]
  rw [View.canon_unit_zero hz, View.ld_unit_zero hz, pay9, pay3]

theorem out12_A (h : Blocks m c t E X G A B Wg Wu Wd) (h0 : t.val % 32 = 0) :
    (outsAt0 m c t.val t.isLt).2.2.2.2.1 = cv (φ := .bf16) fun i => Ffn.hh (X (i 0)) G (i 1) := by
  rw [outsAt0_A m c t h0]
  dsimp only
  unfold out0_A_12
  rw [View.read_writes_eq_canon _ _ _ (fun y => cover0_A_12 (y := y) ..)]
  unfold kernelRun0_A
  dsimp only
  rw [View.canon_unit_zero hz]
  sl_unfold_words
  simp only [View.readAt_eq_ld, (hs0_1 t).read_unread, (hs0_2 t).read_unread, h.x, h.g]
  rw [View.ld_unit_zero hz, View.ld_unit_zero hz, pay8]

theorem out13_A (h : Blocks m c t E X G A B Wg Wu Wd) (h0 : t.val % 32 = 0) :
    (outsAt0 m c t.val t.isLt).2.2.2.2.2.1 = cv (φ := .bf16) fun i => 1 / 2 * E (i 0) (i 1) := by
  rw [outsAt0_A m c t h0]
  dsimp only
  unfold out0_A_13
  rw [View.read_writes_eq_canon _ _ _ (fun y => cover0_A_13 (y := y) ..)]
  unfold kernelRun0_A
  dsimp only
  rw [View.canon_unit_zero hz]
  sl_unfold_words
  simp only [View.readAt_eq_ld, (hs0_0 t).read_unread, h.e]
  rw [View.ld_unit_zero hz, pay9]

theorem out9_A (h : Blocks m c t E X G A B Wg Wu Wd) (h0 : t.val % 32 = 0) :
    (outsAt0 m c t.val t.isLt).2.1 = hblk fun l => Ffn.da (E l) (A l) (B l) Wd := by
  rw [outsAt0_A m c t h0]
  dsimp only
  unfold out0_A_9
  rw [View.read_writes_eq_canon _ _ _ (fun y => cover0_A_9 (y := y) ..)]
  unfold kernelRun0_A
  dsimp only
  sl_unfold_words
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    h.e, h.x, h.g, h.a, h.b, h.wg, h.wu, h.wd, ld_blk, ld_row, ld_h0, ld_h1, ld_h2, ld_h3, ld_w0, ld_w1, ld_w2, ld_w3]
  funext y
  refine View.canon_eq_of_allAt _ y _ (View.cover_of_tiled_head _ _ _ (by rfl) y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  all_goals
    simp only [pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59,
      mulf_cv, addf_cv, subf_cv, tanh_cv, splat_half, splat_half', splat_one, splat_one', splat_zero, constant_zero, truncf_cv,
    extf_cv, shapeCast_cv, sc_slab, sc_wslab, sc_out, dot_up, dot_dn, Ffn.half_tanh, zero_add]
  · obtain rfl := at_shard 3 rfl x y hx; rfl
  · obtain rfl := at_shard 2 rfl x y hx; rfl
  · obtain rfl := at_shard 1 rfl x y hx; rfl
  · obtain rfl := at_shard 0 rfl x y hx; rfl

theorem out10_A (h : Blocks m c t E X G A B Wg Wu Wd) (h0 : t.val % 32 = 0) :
    (outsAt0 m c t.val t.isLt).2.2.1 = hblk fun l => Ffn.db (E l) (A l) Wd := by
  rw [outsAt0_A m c t h0]
  dsimp only
  unfold out0_A_10
  rw [View.read_writes_eq_canon _ _ _ (fun y => cover0_A_10 (y := y) ..)]
  unfold kernelRun0_A
  dsimp only
  sl_unfold_words
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    h.e, h.x, h.g, h.a, h.b, h.wg, h.wu, h.wd, ld_blk, ld_row, ld_h0, ld_h1, ld_h2, ld_h3, ld_w0, ld_w1, ld_w2, ld_w3]
  funext y
  refine View.canon_eq_of_allAt _ y _ (View.cover_of_tiled_head _ _ _ (by rfl) y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  all_goals
    simp only [pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59,
      mulf_cv, addf_cv, subf_cv, tanh_cv, splat_half, splat_half', splat_one, splat_one', splat_zero, constant_zero, truncf_cv,
    extf_cv, shapeCast_cv, sc_slab, sc_wslab, sc_out, dot_up, dot_dn, Ffn.half_tanh, zero_add]
  · obtain rfl := at_shard 3 rfl x y hx; rfl
  · obtain rfl := at_shard 2 rfl x y hx; rfl
  · obtain rfl := at_shard 1 rfl x y hx; rfl
  · obtain rfl := at_shard 0 rfl x y hx; rfl

theorem out11_A (h : Blocks m c t E X G A B Wg Wu Wd) (h0 : t.val % 32 = 0) :
    (outsAt0 m c t.val t.isLt).2.2.2.1 = hblk fun l => Ffn.act (A l) (B l) := by
  rw [outsAt0_A m c t h0]
  dsimp only
  unfold out0_A_11
  rw [View.read_writes_eq_canon _ _ _ (fun y => cover0_A_11 (y := y) ..)]
  unfold kernelRun0_A
  dsimp only
  sl_unfold_words
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    h.e, h.x, h.g, h.a, h.b, h.wg, h.wu, h.wd, ld_blk, ld_row, ld_h0, ld_h1, ld_h2, ld_h3, ld_w0, ld_w1, ld_w2, ld_w3]
  funext y
  refine View.canon_eq_of_allAt _ y _ (View.cover_of_tiled_head _ _ _ (by rfl) y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  all_goals
    simp only [pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59,
      mulf_cv, addf_cv, subf_cv, tanh_cv, splat_half, splat_half', splat_one, splat_one', splat_zero, constant_zero, truncf_cv,
    extf_cv, shapeCast_cv, sc_slab, sc_wslab, sc_out, dot_up, dot_dn, Ffn.half_tanh, zero_add]
  · obtain rfl := at_shard 3 rfl x y hx; rfl
  · obtain rfl := at_shard 2 rfl x y hx; rfl
  · obtain rfl := at_shard 1 rfl x y hx; rfl
  · obtain rfl := at_shard 0 rfl x y hx; rfl

theorem out8_A (h : Blocks m c t E X G A B Wg Wu Wd) (h0 : t.val % 32 = 0) :
    (outsAt0 m c t.val t.isLt).1 = blk fun l => Ffn.dx (E l) (X l) G (Ffn.dh (Ffn.da (E l) (A l) (B l) Wd) (Ffn.db (E l) (A l) Wd) Wg Wu) := by
  rw [outsAt0_A m c t h0]
  dsimp only
  unfold out0_A_8
  rw [View.read_writes_eq_canon _ _ _ (fun y => cover0_A_8 (y := y) ..)]
  unfold kernelRun0_A
  dsimp only
  sl_unfold_words
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    h.e, h.x, h.g, h.a, h.b, h.wg, h.wu, h.wd, ld_blk, ld_row, ld_h0, ld_h1, ld_h2, ld_h3, ld_w0, ld_w1, ld_w2, ld_w3]
  rw [View.canon_unit_zero hz, pay9, pay4]

theorem out14_A (h : Blocks m c t E X G A B Wg Wu Wd) (h0 : t.val % 32 = 0) :
    (outsAt0 m c t.val t.isLt).2.2.2.2.2.2
      = row fun d => 0 + ∑ l, (fun l => (Ffn.dh (Ffn.da (E l) (A l) (B l) Wd) (Ffn.db (E l) (A l) Wd) Wg Wu) d * Ffn.xh (X l) d) l := by
  rw [outsAt0_A m c t h0]
  dsimp only
  unfold out0_A_14
  rw [View.read_writes_eq_canon _ _ _ (fun y => cover0_A_14 (y := y) ..)]
  unfold kernelRun0_A
  dsimp only
  sl_unfold_words
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    h.e, h.x, h.g, h.a, h.b, h.wg, h.wu, h.wd, ld_blk, ld_row, ld_h0, ld_h1, ld_h2, ld_h3, ld_w0, ld_w1, ld_w2, ld_w3]
  rw [View.canon_cons_unit_zero hz, View.readCov_unit_zero _ hz, pay9, pay2, pay3]

end Cert.FfnBwdBody

end
-- ==== Proof.FfnBwdHost.lean ====
module
public import proofs.«01_k».proof.Proof.FfnBwdBody
public import Idealize.ShloMosaic.Lib.Tactic

/-! What the backward kernel's launch is given, at real arguments: the hidden arrays and the weights by shard. -/

@[expose] public section

set_option maxRecDepth 16384

noncomputable section

open Idealize.ShloMosaic Idealize.ShloMosaic.TcCoe Idealize.SL.Sem
open Idealize.ShloMosaic.Pipeline (Dat)
open Idealize.ShloMosaic.ValueIdx
open Cert.Kernel2Ideal Cert.Kernel2Ideal.Gen Cert.RealVec Cert.FfnBwdReference Cert.FfnBwdBody

namespace Cert.FfnBwdHost

/-! ### Layout operations of the host, on real functions -/

theorem bid_col (f : S8192.Idx → ℝ) (h) : broadcastInDim S8192x1 ![0] h f = fun i => f (ix1 (i 0)) :=
  funext fun i => congrArg f (funext fun a => by match a with | ⟨0, _⟩ => rfl)
theorem bid_splat (x : ℝ) (h) : broadcastInDim S8192x1 ![] h (fun _ : S_.Idx => x) = fun _ => x := rfl
theorem bid_cols (f : S8192x1.Idx → ℝ) (h) : broadcastInDim S8192x1024 ![0, 1] h f = fun i => f (ix2 (i 0) (0 : Fin 1)) :=
  funext fun i => congrArg f (funext fun a => by match a with | ⟨0, _⟩ => rfl | ⟨1, _⟩ => rfl)
theorem bid_vec (f : S1024.Idx → ℝ) (h) : broadcastInDim S1x1024 ![1] h f = fun i => f (ix1 (i 1)) :=
  funext fun i => congrArg f (funext fun a => by match a with | ⟨0, _⟩ => rfl)
theorem bid_rows (f : S1x1024.Idx → ℝ) (h) : broadcastInDim S8192x1024 ![0, 1] h f = fun i => f (ix2 (0 : Fin 1) (i 1)) :=
  funext fun i => congrArg f (funext fun a => by match a with | ⟨0, _⟩ => rfl | ⟨1, _⟩ => rfl)
theorem tr_w (f : S1024x2816.Idx → ℝ) (h) : transpose S2816x1024 [1, 0] f h = fun i => f (ix2 (i 1) (i 0)) :=
  funext fun i => congrArg f (funext fun a => by match a with | ⟨0, _⟩ => rfl | ⟨1, _⟩ => rfl)
theorem tr_h (f : S8192x4x704.Idx → ℝ) (h) : transpose S4x8192x704 [1, 0, 2] f h = fun i => f (ix3 (i 1) (i 0) (i 2)) :=
  funext fun i => congrArg f (funext fun a => by match a with | ⟨0, _⟩ => rfl | ⟨1, _⟩ => rfl | ⟨2, _⟩ => rfl)
theorem sc_w (f : S2816x1024.Idx → ℝ) (h) : shapeCast S4x704x1024 f h = fun i => f (ix2 (col (i 0) (i 1)) (i 2)) :=
  funext fun i => shapeCast_apply f h i _ (by
    rw [Shape.rowMajor_val_three, Shape.rowMajor_val_two]
    rfl)
theorem sc_h (f : S8192x2816.Idx → ℝ) (h) : shapeCast S8192x4x704 f h = fun i => f (ix2 (i 0) (col (i 1) (i 2))) :=
  funext fun i => shapeCast_apply f h i _ (by
    rw [Shape.rowMajor_val_three, Shape.rowMajor_val_two]
    show (i 0).val * 2816 + ((i 1).val * 704 + (i 2).val) = ((i 0).val * 4 + (i 1).val) * 704 + (i 2).val
    omega)
theorem hsum (f : S8192x1024.Idx → ℝ) :
    Host.reduceAdd (cv f : FVec Ideal S8192x1024 .f32) (cv (s := S_) fun _ => 0) reducesTo_S8192x1024_S8192_d1 h_S_
      = cv (φ := .f32) fun j => ∑ k : Fin 1024, f (ix2 (j 0) k) :=
  (hostReduceAdd_cv (φ := .f32) f _ (by decide) _).trans (cv_congr fun j => Finset.sum_congr rfl fun k _ =>
    congrArg f (funext fun a => by match a with | ⟨0, _⟩ => rfl | ⟨1, _⟩ => rfl))
theorem hdot (f : S8192x1024.Idx → ℝ) (g : S1024x2816.Idx → ℝ) :
    Host.dotGeneral dot_S8192x1024_S1024x2816_S8192x2816_1_0_0_1_n_n none (cv f : FVec Ideal _ .f32) (cv g : FVec Ideal _ .f32)
      = cv fun j => ∑ k : Fin 1024, f (ix2 (j 0) k) * g (ix2 k (j 1)) :=
  (dotGeneral_cv _ _ f g).trans (cv_congr fun j =>
    Fintype.sum_equiv (contrEquiv1 dot_S8192x1024_S1024x2816_S8192x2816_1_0_0_1_n_n 1024 rfl rfl) _ _ fun k => by
      congr 1
      · exact congrArg f (funext fun a => by match a with | ⟨0, _⟩ => rfl | ⟨1, _⟩ => rfl)
      · exact congrArg g (funext fun a => by match a with | ⟨0, _⟩ => rfl | ⟨1, _⟩ => rfl))

theorem hms (X : Fin 8192 → Fin 1024 → ℝ) :
    addf (Host.divf (broadcastInDim S8192x1 ![0] bcast_S8192_S8192x1_0
        (Host.reduceAdd (mulf (mat X) (mat X)) (constant S_ FTy.f32 0x00000000#32) reducesTo_S8192x1024_S8192_d1 h_S_))
        (broadcastInDim S8192x1 ![] bcast_S_S8192x1 (constant S_ FTy.f32 0x44800000#32)))
      (broadcastInDim S8192x1 ![] bcast_S_S8192x1 (constant S_ FTy.f32 0x358637BD#32))
      = cv (s := S8192x1) (φ := .f32) fun i => Ffn.ms (X (i 0)) := by
  rw [show mat X = cv (s := S8192x1024) (φ := .f32) fun i => X (i 0) (i 1) from rfl]
  rw [mulf_cv, constant_zero, hsum, broadcastInDim_cv, bid_col, constant_1024, broadcastInDim_cv, bid_splat,
    hostDivf_cv _ _ (fun _ => by norm_num), constant_eps, broadcastInDim_cv, bid_splat, addf_cv]
  rfl

/-- The normed rows, as the host computes them. -/
theorem hnorm (X : Fin 8192 → Fin 1024 → ℝ) (G : Fin 1024 → ℝ) :
    mulf (mulf (mat X) (broadcastInDim S8192x1024 ![0, 1] bcast_S8192x1_S8192x1024_0_1 (Host.rsqrt
      (addf (Host.divf (broadcastInDim S8192x1 ![0] bcast_S8192_S8192x1_0
        (Host.reduceAdd (mulf (mat X) (mat X)) (constant S_ FTy.f32 0x00000000#32) reducesTo_S8192x1024_S8192_d1 h_S_))
        (broadcastInDim S8192x1 ![] bcast_S_S8192x1 (constant S_ FTy.f32 0x44800000#32)))
      (broadcastInDim S8192x1 ![] bcast_S_S8192x1 (constant S_ FTy.f32 0x358637BD#32))))))
      (broadcastInDim S8192x1024 ![0, 1] bcast_S1x1024_S8192x1024_0_1
        (broadcastInDim S1x1024 ![1] bcast_S1024_S1x1024_1 (vec G)))
      = cv (s := S8192x1024) (φ := .f32) fun i => Ffn.hh (X (i 0)) G (i 1) := by
  rw [hms, hostRsqrt_cv (s := S8192x1) (fun i => Ffn.ms (X (i 0))) (fun i => Ffn.ms_pos (X (i 0))), broadcastInDim_cv, bid_cols]
  rw [show mat X = cv (s := S8192x1024) (φ := .f32) fun i => X (i 0) (i 1) from rfl,
    show vec G = cv (s := S1024) (φ := .f32) fun i => G (i 0) from rfl]
  rw [mulf_cv, broadcastInDim_cv, bid_vec, broadcastInDim_cv, bid_rows, mulf_cv]
  rfl

variable {m : (ℓ : Loc nD τ sig) → Buf (Elt Ideal) ℓ} {c : Dev nD}
variable {D X : Fin 8192 → Fin 1024 → ℝ} {G : Fin 1024 → ℝ} {Wg Wu : Fin 1024 → Fin 2816 → ℝ}
  {Wd : Fin 2816 → Fin 1024 → ℝ}

theorem v25 (hx : m (c, Proc.tc.devRef main_arg1) = mat X) (hg : m (c, Proc.tc.devRef main_arg2) = vec G)
    (hw : m (c, Proc.tc.devRef main_arg3) = wup Wg) :
    V m c main_v25 = cv (s := S4x8192x704) (φ := .bf16) fun i => Ffn.hid (X (i 1)) G Wg (col (i 0) (i 2)) := by
  entry_read
  rw [hx, hg, hw, hnorm, show wup Wg = cv (s := S1024x2816) (φ := .f32) fun i => Wg (i 0) (i 1) from rfl, hdot]
  show truncf .bf16 (transpose S4x8192x704 [1, 0, 2] (shapeCast S8192x4x704 (cv _) _) _) _ = _
  rw [shapeCast_cv, sc_h, transpose_cv, tr_h, truncf_cv]
  rfl

theorem v29 (hx : m (c, Proc.tc.devRef main_arg1) = mat X) (hg : m (c, Proc.tc.devRef main_arg2) = vec G)
    (hw : m (c, Proc.tc.devRef main_arg4) = wup Wu) :
    V m c main_v29 = cv (s := S4x8192x704) (φ := .bf16) fun i => Ffn.hid (X (i 1)) G Wu (col (i 0) (i 2)) := by
  entry_read
  rw [hx, hg, hw, hnorm, show wup Wu = cv (s := S1024x2816) (φ := .f32) fun i => Wu (i 0) (i 1) from rfl, hdot]
  show truncf .bf16 (transpose S4x8192x704 [1, 0, 2] (shapeCast S8192x4x704 (cv _) _) _) _ = _
  rw [shapeCast_cv, sc_h, transpose_cv, tr_h, truncf_cv]
  rfl

theorem v15 (hw : m (c, Proc.tc.devRef main_arg3) = wup Wg) : V m c main_v15 = wblk fun f d => Wg d f := by
  entry_read
  rw [hw, show wup Wg = cv (s := S1024x2816) (φ := .f32) fun i => Wg (i 0) (i 1) from rfl, transpose_cv, tr_w]
  show truncf .bf16 (shapeCast S4x704x1024 (cv _) _) _ = _
  rw [shapeCast_cv, sc_w, truncf_cv]
  rfl

theorem v18 (hw : m (c, Proc.tc.devRef main_arg4) = wup Wu) : V m c main_v18 = wblk fun f d => Wu d f := by
  entry_read
  rw [hw, show wup Wu = cv (s := S1024x2816) (φ := .f32) fun i => Wu (i 0) (i 1) from rfl, transpose_cv, tr_w]
  show truncf .bf16 (shapeCast S4x704x1024 (cv _) _) _ = _
  rw [shapeCast_cv, sc_w, truncf_cv]
  rfl

theorem v20 (hw : m (c, Proc.tc.devRef main_arg5) = wdn Wd) : V m c main_v20 = wblk Wd := by
  entry_read
  rw [hw, show wdn Wd = cv (s := S2816x1024) (φ := .f32) fun i => Wd (i 0) (i 1) from rfl]
  show truncf .bf16 (shapeCast S4x704x1024 (cv _) _) _ = _
  rw [shapeCast_cv, sc_w, truncf_cv]
  rfl

theorem v21 (hg : m (c, Proc.tc.devRef main_arg2) = vec G) : V m c main_v21 = row G := by
  entry_read
  rw [hg, show vec G = cv (s := S1024) (φ := .f32) fun i => G (i 0) from rfl, broadcastInDim_cv, bid_vec]
  rfl

/-! ### The windows' blocks -/

/-- Row `r` of block `t`. -/
def at_ (t : Fin cfg0.N) (r : Fin 256) : Fin 8192 := ⟨t.val * 256 + r.val, by
  have h : t.val < 32 := t.isLt
  omega⟩

theorem ix_0 : ∀ t : Fin cfg0.N, win0_0.index t = ![t.val, 0] :=
  (by decide +kernel : ∀ t : Fin grid0.N, win0_0.index t = ![t.val, 0])
theorem ix_1 : ∀ t : Fin cfg0.N, win0_1.index t = ![t.val, 0] :=
  (by decide +kernel : ∀ t : Fin grid0.N, win0_1.index t = ![t.val, 0])
theorem ix_2 : ∀ t : Fin cfg0.N, win0_2.index t = ![0, 0] :=
  (by decide +kernel : ∀ t : Fin grid0.N, win0_2.index t = ![0, 0])
theorem ix_3 : ∀ t : Fin cfg0.N, win0_3.index t = ![0, t.val, 0] :=
  (by decide +kernel : ∀ t : Fin grid0.N, win0_3.index t = ![0, t.val, 0])
theorem ix_4 : ∀ t : Fin cfg0.N, win0_4.index t = ![0, t.val, 0] :=
  (by decide +kernel : ∀ t : Fin grid0.N, win0_4.index t = ![0, t.val, 0])
theorem ix_5 : ∀ t : Fin cfg0.N, win0_5.index t = ![0, 0, 0] :=
  (by decide +kernel : ∀ t : Fin grid0.N, win0_5.index t = ![0, 0, 0])
theorem ix_6 : ∀ t : Fin cfg0.N, win0_6.index t = ![0, 0, 0] :=
  (by decide +kernel : ∀ t : Fin grid0.N, win0_6.index t = ![0, 0, 0])
theorem ix_7 : ∀ t : Fin cfg0.N, win0_7.index t = ![0, 0, 0] :=
  (by decide +kernel : ∀ t : Fin grid0.N, win0_7.index t = ![0, 0, 0])

theorem emb_0 (t : Fin cfg0.N) (j : S256x1024.Idx) :
    (((cfg0.win 0).blk t).view.emb j : S8192x1024.Idx) = ix2 (at_ t (j 0)) (j 1) := by
  funext a
  apply Fin.ext
  match a with
  | ⟨0, _⟩ => show win0_0.index t 0 * 256 + 1 * (j 0).val = t.val * 256 + (j 0).val; rw [ix_0]; show t.val * 256 + 1 * (j 0).val = _; omega
  | ⟨1, _⟩ => show win0_0.index t 1 * 1024 + 1 * (j 1).val = (j 1).val; rw [ix_0]; show 0 * 1024 + 1 * (j 1).val = _; omega
theorem emb_1 (t : Fin cfg0.N) (j : S256x1024.Idx) :
    (((cfg0.win 1).blk t).view.emb j : S8192x1024.Idx) = ix2 (at_ t (j 0)) (j 1) := by
  funext a
  apply Fin.ext
  match a with
  | ⟨0, _⟩ => show win0_1.index t 0 * 256 + 1 * (j 0).val = t.val * 256 + (j 0).val; rw [ix_1]; show t.val * 256 + 1 * (j 0).val = _; omega
  | ⟨1, _⟩ => show win0_1.index t 1 * 1024 + 1 * (j 1).val = (j 1).val; rw [ix_1]; show 0 * 1024 + 1 * (j 1).val = _; omega
theorem emb_2 (t : Fin cfg0.N) (j : S1x1024.Idx) :
    (((cfg0.win 2).blk t).view.emb j : S1x1024.Idx) = j := by
  funext a
  apply Fin.ext
  match a with
  | ⟨0, _⟩ => show win0_2.index t 0 * 1 + 1 * (j 0).val = (j 0).val; rw [ix_2]; show 0 * 1 + 1 * (j 0).val = _; omega
  | ⟨1, _⟩ => show win0_2.index t 1 * 1024 + 1 * (j 1).val = (j 1).val; rw [ix_2]; show 0 * 1024 + 1 * (j 1).val = _; omega
theorem emb_3 (t : Fin cfg0.N) (j : S4x256x704.Idx) :
    (((cfg0.win 3).blk t).view.emb j : S4x8192x704.Idx) = ix3 (j 0) (at_ t (j 1)) (j 2) := by
  funext a
  apply Fin.ext
  match a with
  | ⟨0, _⟩ => show win0_3.index t 0 * 4 + 1 * (j 0).val = (j 0).val; rw [ix_3]; show 0 * 4 + 1 * (j 0).val = _; omega
  | ⟨1, _⟩ => show win0_3.index t 1 * 256 + 1 * (j 1).val = t.val * 256 + (j 1).val; rw [ix_3]; show t.val * 256 + 1 * (j 1).val = _; omega
  | ⟨2, _⟩ => show win0_3.index t 2 * 704 + 1 * (j 2).val = (j 2).val; rw [ix_3]; show 0 * 704 + 1 * (j 2).val = _; omega
theorem emb_4 (t : Fin cfg0.N) (j : S4x256x704.Idx) :
    (((cfg0.win 4).blk t).view.emb j : S4x8192x704.Idx) = ix3 (j 0) (at_ t (j 1)) (j 2) := by
  funext a
  apply Fin.ext
  match a with
  | ⟨0, _⟩ => show win0_4.index t 0 * 4 + 1 * (j 0).val = (j 0).val; rw [ix_4]; show 0 * 4 + 1 * (j 0).val = _; omega
  | ⟨1, _⟩ => show win0_4.index t 1 * 256 + 1 * (j 1).val = t.val * 256 + (j 1).val; rw [ix_4]; show t.val * 256 + 1 * (j 1).val = _; omega
  | ⟨2, _⟩ => show win0_4.index t 2 * 704 + 1 * (j 2).val = (j 2).val; rw [ix_4]; show 0 * 704 + 1 * (j 2).val = _; omega
theorem emb_5 (t : Fin cfg0.N) (j : S4x704x1024.Idx) :
    (((cfg0.win 5).blk t).view.emb j : S4x704x1024.Idx) = j := by
  funext a
  apply Fin.ext
  match a with
  | ⟨0, _⟩ => show win0_5.index t 0 * 4 + 1 * (j 0).val = (j 0).val; rw [ix_5]; show 0 * 4 + 1 * (j 0).val = _; omega
  | ⟨1, _⟩ => show win0_5.index t 1 * 704 + 1 * (j 1).val = (j 1).val; rw [ix_5]; show 0 * 704 + 1 * (j 1).val = _; omega
  | ⟨2, _⟩ => show win0_5.index t 2 * 1024 + 1 * (j 2).val = (j 2).val; rw [ix_5]; show 0 * 1024 + 1 * (j 2).val = _; omega
theorem emb_6 (t : Fin cfg0.N) (j : S4x704x1024.Idx) :
    (((cfg0.win 6).blk t).view.emb j : S4x704x1024.Idx) = j := by
  funext a
  apply Fin.ext
  match a with
  | ⟨0, _⟩ => show win0_6.index t 0 * 4 + 1 * (j 0).val = (j 0).val; rw [ix_6]; show 0 * 4 + 1 * (j 0).val = _; omega
  | ⟨1, _⟩ => show win0_6.index t 1 * 704 + 1 * (j 1).val = (j 1).val; rw [ix_6]; show 0 * 704 + 1 * (j 1).val = _; omega
  | ⟨2, _⟩ => show win0_6.index t 2 * 1024 + 1 * (j 2).val = (j 2).val; rw [ix_6]; show 0 * 1024 + 1 * (j 2).val = _; omega
theorem emb_7 (t : Fin cfg0.N) (j : S4x704x1024.Idx) :
    (((cfg0.win 7).blk t).view.emb j : S4x704x1024.Idx) = j := by
  funext a
  apply Fin.ext
  match a with
  | ⟨0, _⟩ => show win0_7.index t 0 * 4 + 1 * (j 0).val = (j 0).val; rw [ix_7]; show 0 * 4 + 1 * (j 0).val = _; omega
  | ⟨1, _⟩ => show win0_7.index t 1 * 704 + 1 * (j 1).val = (j 1).val; rw [ix_7]; show 0 * 704 + 1 * (j 1).val = _; omega
  | ⟨2, _⟩ => show win0_7.index t 2 * 1024 + 1 * (j 2).val = (j 2).val; rw [ix_7]; show 0 * 1024 + 1 * (j 2).val = _; omega

set_option maxHeartbeats 1000000 in
theorem blocks (t : Fin cfg0.N) (hd : m (c, Proc.tc.devRef main_arg0) = mat D)
    (hx : m (c, Proc.tc.devRef main_arg1) = mat X) (hg : m (c, Proc.tc.devRef main_arg2) = vec G)
    (hwg : m (c, Proc.tc.devRef main_arg3) = wup Wg) (hwu : m (c, Proc.tc.devRef main_arg4) = wup Wu)
    (hwd : m (c, Proc.tc.devRef main_arg5) = wdn Wd) :
    FfnBwdBody.Blocks m c t (fun r => D (at_ t r)) (fun r => X (at_ t r)) G
      (fun r => Ffn.hid (X (at_ t r)) G Wg) (fun r => Ffn.hid (X (at_ t r)) G Wu) Wg Wu Wd := by
  constructor
  · funext j
    unfold iblk
    rw [View.read_apply]
    show V m c main_arg0 _ = _
    rw [emb_0]
    exact congrFun (show V m c main_arg0 = _ from hd) _
  · funext j
    unfold iblk
    rw [View.read_apply]
    show V m c main_arg1 _ = _
    rw [emb_1]
    exact congrFun (show V m c main_arg1 = _ from hx) _
  · funext j
    unfold iblk
    rw [View.read_apply]
    show V m c main_v21 _ = _
    rw [emb_2]
    exact congrFun (show V m c main_v21 = _ from v21 hg) _
  · funext j
    unfold iblk
    rw [View.read_apply]
    show V m c main_v25 _ = _
    rw [emb_3]
    exact congrFun (show V m c main_v25 = _ from v25 hx hg hwg) _
  · funext j
    unfold iblk
    rw [View.read_apply]
    show V m c main_v29 _ = _
    rw [emb_4]
    exact congrFun (show V m c main_v29 = _ from v29 hx hg hwu) _
  · funext j
    unfold iblk
    rw [View.read_apply]
    show V m c main_v15 _ = _
    rw [emb_5]
    exact congrFun (show V m c main_v15 = _ from v15 hwg) _
  · funext j
    unfold iblk
    rw [View.read_apply]
    show V m c main_v18 _ = _
    rw [emb_6]
    exact congrFun (show V m c main_v18 = _ from v18 hwu) _
  · funext j
    unfold iblk
    rw [View.read_apply]
    show V m c main_v20 _ = _
    rw [emb_7]
    exact congrFun (show V m c main_v20 = _ from v20 hwd) _
end Cert.FfnBwdHost

end
-- ==== Proof.FfnBwdFinal.lean ====
module
public import proofs.«01_k».proof.Proof.FfnBwdHost
public import Idealize.ShloMosaic.Lib.Pipeline.ValueKit

/-! What the backward kernel's seven result arrays hold after the run, at real arguments. -/

@[expose] public section

set_option maxRecDepth 16384

noncomputable section

open Idealize.ShloMosaic Idealize.ShloMosaic.TcCoe Idealize.SL.Sem
open Idealize.ShloMosaic.Pipeline (Dat)
open Idealize.ShloMosaic.ValueIdx
open Cert.Kernel2Ideal Cert.Kernel2Ideal.Gen Cert.RealVec Cert.FfnBwdReference Cert.FfnBwdBody Cert.FfnBwdHost

namespace Cert.FfnBwdFinal

/-! ### Where the blocks of the result windows lie -/

theorem ix_8 : ∀ t : Fin cfg0.N, win0_8.index t = ![t.val, 0] :=
  (by decide +kernel : ∀ t : Fin grid0.N, win0_8.index t = ![t.val, 0])
theorem emb_8 (t : Fin cfg0.N) (j : S256x1024.Idx) :
    (((cfg0.win 8).blk t).view.emb j : S8192x1024.Idx) = ValueIdx.ix2 (at_ t (j 0)) (j 1) := by
  funext a
  apply Fin.ext
  match a with
  | ⟨0, _⟩ => show win0_8.index t 0 * 256 + 1 * (j 0).val = t.val * 256 + (j 0).val; rw [ix_8]; show t.val * 256 + 1 * (j 0).val = _; omega
  | ⟨1, _⟩ => show win0_8.index t 1 * 1024 + 1 * (j 1).val = (j 1).val; rw [ix_8]; show 0 * 1024 + 1 * (j 1).val = _; omega
theorem ix_12 : ∀ t : Fin cfg0.N, win0_12.index t = ![t.val, 0] :=
  (by decide +kernel : ∀ t : Fin grid0.N, win0_12.index t = ![t.val, 0])
theorem emb_12 (t : Fin cfg0.N) (j : S256x1024.Idx) :
    (((cfg0.win 12).blk t).view.emb j : S8192x1024.Idx) = ValueIdx.ix2 (at_ t (j 0)) (j 1) := by
  funext a
  apply Fin.ext
  match a with
  | ⟨0, _⟩ => show win0_12.index t 0 * 256 + 1 * (j 0).val = t.val * 256 + (j 0).val; rw [ix_12]; show t.val * 256 + 1 * (j 0).val = _; omega
  | ⟨1, _⟩ => show win0_12.index t 1 * 1024 + 1 * (j 1).val = (j 1).val; rw [ix_12]; show 0 * 1024 + 1 * (j 1).val = _; omega
theorem ix_13 : ∀ t : Fin cfg0.N, win0_13.index t = ![t.val, 0] :=
  (by decide +kernel : ∀ t : Fin grid0.N, win0_13.index t = ![t.val, 0])
theorem emb_13 (t : Fin cfg0.N) (j : S256x1024.Idx) :
    (((cfg0.win 13).blk t).view.emb j : S8192x1024.Idx) = ValueIdx.ix2 (at_ t (j 0)) (j 1) := by
  funext a
  apply Fin.ext
  match a with
  | ⟨0, _⟩ => show win0_13.index t 0 * 256 + 1 * (j 0).val = t.val * 256 + (j 0).val; rw [ix_13]; show t.val * 256 + 1 * (j 0).val = _; omega
  | ⟨1, _⟩ => show win0_13.index t 1 * 1024 + 1 * (j 1).val = (j 1).val; rw [ix_13]; show 0 * 1024 + 1 * (j 1).val = _; omega
theorem ix_9 : ∀ t : Fin cfg0.N, win0_9.index t = ![0, t.val, 0] :=
  (by decide +kernel : ∀ t : Fin grid0.N, win0_9.index t = ![0, t.val, 0])
theorem emb_9 (t : Fin cfg0.N) (j : S4x256x704.Idx) :
    (((cfg0.win 9).blk t).view.emb j : S4x8192x704.Idx) = ValueIdx.ix3 (j 0) (at_ t (j 1)) (j 2) := by
  funext a
  apply Fin.ext
  match a with
  | ⟨0, _⟩ => show win0_9.index t 0 * 4 + 1 * (j 0).val = (j 0).val; rw [ix_9]; show 0 * 4 + 1 * (j 0).val = _; omega
  | ⟨1, _⟩ => show win0_9.index t 1 * 256 + 1 * (j 1).val = t.val * 256 + (j 1).val; rw [ix_9]; show t.val * 256 + 1 * (j 1).val = _; omega
  | ⟨2, _⟩ => show win0_9.index t 2 * 704 + 1 * (j 2).val = (j 2).val; rw [ix_9]; show 0 * 704 + 1 * (j 2).val = _; omega
theorem ix_10 : ∀ t : Fin cfg0.N, win0_10.index t = ![0, t.val, 0] :=
  (by decide +kernel : ∀ t : Fin grid0.N, win0_10.index t = ![0, t.val, 0])
theorem emb_10 (t : Fin cfg0.N) (j : S4x256x704.Idx) :
    (((cfg0.win 10).blk t).view.emb j : S4x8192x704.Idx) = ValueIdx.ix3 (j 0) (at_ t (j 1)) (j 2) := by
  funext a
  apply Fin.ext
  match a with
  | ⟨0, _⟩ => show win0_10.index t 0 * 4 + 1 * (j 0).val = (j 0).val; rw [ix_10]; show 0 * 4 + 1 * (j 0).val = _; omega
  | ⟨1, _⟩ => show win0_10.index t 1 * 256 + 1 * (j 1).val = t.val * 256 + (j 1).val; rw [ix_10]; show t.val * 256 + 1 * (j 1).val = _; omega
  | ⟨2, _⟩ => show win0_10.index t 2 * 704 + 1 * (j 2).val = (j 2).val; rw [ix_10]; show 0 * 704 + 1 * (j 2).val = _; omega
theorem ix_11 : ∀ t : Fin cfg0.N, win0_11.index t = ![0, t.val, 0] :=
  (by decide +kernel : ∀ t : Fin grid0.N, win0_11.index t = ![0, t.val, 0])
theorem emb_11 (t : Fin cfg0.N) (j : S4x256x704.Idx) :
    (((cfg0.win 11).blk t).view.emb j : S4x8192x704.Idx) = ValueIdx.ix3 (j 0) (at_ t (j 1)) (j 2) := by
  funext a
  apply Fin.ext
  match a with
  | ⟨0, _⟩ => show win0_11.index t 0 * 4 + 1 * (j 0).val = (j 0).val; rw [ix_11]; show 0 * 4 + 1 * (j 0).val = _; omega
  | ⟨1, _⟩ => show win0_11.index t 1 * 256 + 1 * (j 1).val = t.val * 256 + (j 1).val; rw [ix_11]; show t.val * 256 + 1 * (j 1).val = _; omega
  | ⟨2, _⟩ => show win0_11.index t 2 * 704 + 1 * (j 2).val = (j 2).val; rw [ix_11]; show 0 * 704 + 1 * (j 2).val = _; omega
theorem ix_14 : ∀ t : Fin cfg0.N, win0_14.index t = ![0, 0] :=
  (by decide +kernel : ∀ t : Fin grid0.N, win0_14.index t = ![0, 0])
theorem emb_14 (t : Fin cfg0.N) (j : S1x1024.Idx) :
    (((cfg0.win 14).blk t).view.emb j : S1x1024.Idx) = j := by
  funext a
  apply Fin.ext
  match a with
  | ⟨0, _⟩ => show win0_14.index t 0 * 1 + 1 * (j 0).val = (j 0).val; rw [ix_14]; show 0 * 1 + 1 * (j 0).val = _; omega
  | ⟨1, _⟩ => show win0_14.index t 1 * 1024 + 1 * (j 1).val = (j 1).val; rw [ix_14]; show 0 * 1024 + 1 * (j 1).val = _; omega

/-- The launch's arguments are the real arrays `D … Wd`. -/
structure Args (m : (ℓ : Loc nD τ sig) → Buf (Elt Ideal) ℓ) (c : Dev nD) (D X : Fin 8192 → Fin 1024 → ℝ) (G : Fin 1024 → ℝ)
    (Wg Wu : Fin 1024 → Fin 2816 → ℝ) (Wd : Fin 2816 → Fin 1024 → ℝ) : Prop where
  d : m (c, Proc.tc.devRef main_arg0) = mat D
  x : m (c, Proc.tc.devRef main_arg1) = mat X
  g : m (c, Proc.tc.devRef main_arg2) = vec G
  wg : m (c, Proc.tc.devRef main_arg3) = wup Wg
  wu : m (c, Proc.tc.devRef main_arg4) = wup Wu
  wd : m (c, Proc.tc.devRef main_arg5) = wdn Wd

variable {m : (ℓ : Loc nD τ sig) → Buf (Elt Ideal) ℓ} {c : Dev nD}
variable {D X : Fin 8192 → Fin 1024 → ℝ} {G : Fin 1024 → ℝ} {Wg Wu : Fin 1024 → Fin 2816 → ℝ}
  {Wd : Fin 2816 → Fin 1024 → ℝ}

theorem Args.blocks (a : Args m c D X G Wg Wu Wd) (t : Fin cfg0.N) :
    FfnBwdBody.Blocks m c t (fun r => D (at_ t r)) (fun r => X (at_ t r)) G
      (fun r => Ffn.hid (X (at_ t r)) G Wg) (fun r => Ffn.hid (X (at_ t r)) G Wu) Wg Wu Wd :=
  FfnBwdHost.blocks t a.d a.x a.g a.wg a.wu a.wd

theorem out8 (a : Args m c D X G Wg Wu Wd) (t : Fin cfg0.N) : (outsAt0 m c t.val t.isLt).1 = blk fun r => Ffn.dx (D (at_ t r)) (X (at_ t r)) G (dH D X G Wg Wu Wd (at_ t r)) := by
  by_cases h0 : t.val % 32 = 0
  · exact out8_A (a.blocks t) h0
  · exact out8_B (a.blocks t) h0

theorem final8 (a : Args m c D X G Wg Wu Wd) : (dats m 0 c).arrAt 8 cfg0.N = mat fun l => Ffn.dx (D l) (X l) G (dH D X G Wg Wu Wd l) := by
  refine (dats m 0 c).arrAt_eq_of_covers 8 _ (by decide +kernel) fun t hf y => ?_
  rw [after0_8, out8 a t, emb_8]
  rfl

theorem out9 (a : Args m c D X G Wg Wu Wd) (t : Fin cfg0.N) : (outsAt0 m c t.val t.isLt).2.1 = hblk fun r => dA D X G Wg Wu Wd (at_ t r) := by
  by_cases h0 : t.val % 32 = 0
  · exact out9_A (a.blocks t) h0
  · exact out9_B (a.blocks t) h0

theorem final9 (a : Args m c D X G Wg Wu Wd) : (dats m 0 c).arrAt 9 cfg0.N = cv (s := S4x8192x704) (φ := .bf16) fun i => dA D X G Wg Wu Wd (i 1) (col (i 0) (i 2)) := by
  refine (dats m 0 c).arrAt_eq_of_covers 9 _ (by decide +kernel) fun t hf y => ?_
  rw [after0_9, out9 a t, emb_9]
  rfl

theorem out10 (a : Args m c D X G Wg Wu Wd) (t : Fin cfg0.N) : (outsAt0 m c t.val t.isLt).2.2.1 = hblk fun r => dB D X G Wg Wd (at_ t r) := by
  by_cases h0 : t.val % 32 = 0
  · exact out10_A (a.blocks t) h0
  · exact out10_B (a.blocks t) h0

theorem final10 (a : Args m c D X G Wg Wu Wd) : (dats m 0 c).arrAt 10 cfg0.N = cv (s := S4x8192x704) (φ := .bf16) fun i => dB D X G Wg Wd (i 1) (col (i 0) (i 2)) := by
  refine (dats m 0 c).arrAt_eq_of_covers 10 _ (by decide +kernel) fun t hf y => ?_
  rw [after0_10, out10 a t, emb_10]
  rfl

theorem out11 (a : Args m c D X G Wg Wu Wd) (t : Fin cfg0.N) : (outsAt0 m c t.val t.isLt).2.2.2.1 = hblk fun r => Ffn.act (Ffn.hid (X (at_ t r)) G Wg) (Ffn.hid (X (at_ t r)) G Wu) := by
  by_cases h0 : t.val % 32 = 0
  · exact out11_A (a.blocks t) h0
  · exact out11_B (a.blocks t) h0

theorem final11 (a : Args m c D X G Wg Wu Wd) : (dats m 0 c).arrAt 11 cfg0.N = cv (s := S4x8192x704) (φ := .bf16) fun i => Ffn.act (Ffn.hid (X (i 1)) G Wg) (Ffn.hid (X (i 1)) G Wu) (col (i 0) (i 2)) := by
  refine (dats m 0 c).arrAt_eq_of_covers 11 _ (by decide +kernel) fun t hf y => ?_
  rw [after0_11, out11 a t, emb_11]
  rfl

theorem out12 (a : Args m c D X G Wg Wu Wd) (t : Fin cfg0.N) : (outsAt0 m c t.val t.isLt).2.2.2.2.1 = cv (φ := .bf16) fun i => Ffn.hh (X (at_ t (i 0))) G (i 1) := by
  by_cases h0 : t.val % 32 = 0
  · exact out12_A (a.blocks t) h0
  · exact out12_B (a.blocks t) h0

theorem final12 (a : Args m c D X G Wg Wu Wd) : (dats m 0 c).arrAt 12 cfg0.N = cv (s := S8192x1024) (φ := .bf16) fun i => Ffn.hh (X (i 0)) G (i 1) := by
  refine (dats m 0 c).arrAt_eq_of_covers 12 _ (by decide +kernel) fun t hf y => ?_
  rw [after0_12, out12 a t, emb_12]
  rfl

theorem out13 (a : Args m c D X G Wg Wu Wd) (t : Fin cfg0.N) : (outsAt0 m c t.val t.isLt).2.2.2.2.2.1 = cv (φ := .bf16) fun i => 1 / 2 * D (at_ t (i 0)) (i 1) := by
  by_cases h0 : t.val % 32 = 0
  · exact out13_A (a.blocks t) h0
  · exact out13_B (a.blocks t) h0

theorem final13 (a : Args m c D X G Wg Wu Wd) : (dats m 0 c).arrAt 13 cfg0.N = cv (s := S8192x1024) (φ := .bf16) fun i => 1 / 2 * D (i 0) (i 1) := by
  refine (dats m 0 c).arrAt_eq_of_covers 13 _ (by decide +kernel) fun t hf y => ?_
  rw [after0_13, out13 a t, emb_13]
  rfl

/-- Rows taken 256 at a time. -/
theorem sum_rows (f : Fin 8192 → ℝ) : ∑ t : Fin cfg0.N, ∑ r : Fin 256, f (at_ t r) = ∑ l, f l := by
  rw [← Fintype.sum_prod_type']
  refine Fintype.sum_equiv (finProdFinEquiv (m := 32) (n := 256)) _ _ fun p => congrArg f (Fin.ext ?_)
  show p.1.val * 256 + p.2.val = p.2.val + 256 * p.1.val
  omega

/-- One block's share of the gradient of the norm's scale. -/
def part (D X : Fin 8192 → Fin 1024 → ℝ) (G : Fin 1024 → ℝ) (Wg Wu : Fin 1024 → Fin 2816 → ℝ) (Wd : Fin 2816 → Fin 1024 → ℝ)
    (t : Fin cfg0.N) (d : Fin 1024) : ℝ := ∑ r : Fin 256, dH D X G Wg Wu Wd (at_ t r) d * Ffn.xh (X (at_ t r)) d

theorem first14 (a : Args m c D X G Wg Wu Wd) (t : Fin cfg0.N) (h0 : t.val % 32 = 0) :
    (outsAt0 m c t.val t.isLt).2.2.2.2.2.2 = row fun d => 0 + part D X G Wg Wu Wd t d := out14_A (a.blocks t) h0
theorem step14 (a : Args m c D X G Wg Wu Wd) (t : Fin cfg0.N) (h0 : ¬t.val % 32 = 0) (S : Fin 1024 → ℝ)
    (hS : (outsAt0 m c (t.val - 1) (by have := t.isLt; omega)).2.2.2.2.2.2 = row S) :
    (outsAt0 m c t.val t.isLt).2.2.2.2.2.2 = row fun d => S d + part D X G Wg Wu Wd t d := out14_B (a.blocks t) h0 S hS

/-- The running sum: the shares of the blocks up to point `n`. -/
def upto (P : Fin cfg0.N → Fin 1024 → ℝ) : (n : ℕ) → n < cfg0.N → Fin 1024 → ℝ
  | 0, h => fun d => 0 + P ⟨0, h⟩ d
  | n + 1, h => fun d => upto P n (Nat.lt_of_succ_lt h) d + P ⟨n + 1, h⟩ d

theorem upto_eq (P : Fin cfg0.N → Fin 1024 → ℝ) (d : Fin 1024) : ∀ (n : ℕ) (h : n < cfg0.N),
    upto P n h d = ∑ k : Fin (n + 1), P ⟨k.val, Nat.lt_of_le_of_lt (Nat.le_of_lt_succ k.isLt) h⟩ d
  | 0, h => by rw [Fin.sum_univ_one]; exact zero_add _
  | n + 1, h => by
    rw [Fin.sum_univ_castSucc]
    show upto P n _ d + _ = _
    rw [upto_eq P d n]
    rfl

theorem out14 (a : Args m c D X G Wg Wu Wd) (n : ℕ) : ∀ h : n < cfg0.N,
    (outsAt0 m c n h).2.2.2.2.2.2 = row (upto (part D X G Wg Wu Wd) n h) := by
  induction n with
  | zero => exact fun h => first14 a ⟨0, h⟩ (Nat.zero_mod 32)
  | succ n ih =>
    intro h
    have hn : n + 1 < 32 := h
    exact step14 a ⟨n + 1, h⟩ (by show ¬(n + 1) % 32 = 0; omega) _ (ih (Nat.lt_of_succ_lt h))

theorem total14 (d : Fin 1024) : upto (part D X G Wg Wu Wd) 31 (by decide) d
    = ∑ l, dH D X G Wg Wu Wd l d * Ffn.xh (X l) d := by
  rw [upto_eq]
  exact sum_rows fun l => dH D X G Wg Wu Wd l d * Ffn.xh (X l) d

theorem final14 (a : Args m c D X G Wg Wu Wd) :
    (dats m 0 c).arrAt 14 cfg0.N = row fun d => ∑ l, dH D X G Wg Wu Wd l d * Ffn.xh (X l) d := by
  refine (dats m 0 c).arrAt_eq_of_covers 14 _ (by decide +kernel) fun t hf y => ?_
  have ht : t.val % 32 = 31 := (flush0_14 t).mp hf
  have hN : t.val < 32 := t.isLt
  obtain rfl : t = ⟨31, by decide⟩ := Fin.ext (by show t.val = 31; omega)
  rw [after0_14, out14 a 31, emb_14, ← show upto (part D X G Wg Wu Wd) 31 (by decide) = _ from funext total14]
  rfl

end Cert.FfnBwdFinal

end
-- ==== Proof.Finite.lean ====
module
public import proofs.«01_k».proof.Proof.RealVec
public import Idealize.ShloMosaic.Lib.ReduceAll
public import Idealize.ShloMosaic.Lib.ValueIdxCore

/-! An array all of whose entries lie strictly between the infinities is an array of reals. -/

@[expose] public section

noncomputable section

open Idealize.ShloMosaic
open Idealize.ShloMosaic.ValueIdx
open Cert.RealVec

namespace Cert.Finite

theorem eta1 {n : Nat} (i : (⟨1, ![n]⟩ : Shape).Idx) : i = ix1 (i 0) := funext fun a => by match a with | ⟨0, _⟩ => rfl
theorem eta2 {n k : Nat} (i : (⟨2, ![n, k]⟩ : Shape).Idx) : i = ix2 (i 0) (i 1) :=
  funext fun a => by match a with | ⟨0, _⟩ => rfl | ⟨1, _⟩ => rfl

theorem ofBits_inf : Ideal.ofBits .f32 0x7F800000#32 = (⊤ : EReal) := by
  simp [Ideal.ofBits, Ideal.ieee]

/-- An entry whose magnitude is below infinity is a real. -/
theorem coe_of_abs_lt (a : EReal) (h : max a (-a) < ⊤) : ∃ r : ℝ, a = (r : EReal) := by
  induction a using EReal.rec with
  | bot => exact absurd h (by simp)
  | top => exact absurd h (by simp)
  | coe r => exact ⟨r, rfl⟩

/-- `all (|x| < ∞)` at an array: its entries are reals. -/
theorem real_of_all {s t u v : Shape} [Subsingleton t.Idx] {axes : List (Fin s.rank)} (x : FVec Ideal s .f32)
    (init : u.Idx → BitVec 1) (dims : Fin v.rank → Fin s.rank) (hb : v.BroadcastsInDim s dims) (h : s.ReducesTo axes t)
    (hu : 0 < u.numel) (j : t.Idx)
    (e : Host.reduce IntOp.andi (cmpf .olt (Host.absf x) (broadcastInDim s dims hb (constant v .f32 0x7F800000#32))) init h hu j = 1#1) :
    ∃ f : s.Idx → ℝ, x = cv f := by
  have hx : ∀ i, ∃ r : ℝ, x i = (r : EReal) := fun i => by
    have h1 := Host.reduce_andi_all _ init h hu j e i
    refine coe_of_abs_lt _ ?_
    by_contra hn
    have h2 : BitVec.ofBool (decide (max (x i) (-(x i)) < Ideal.ofBits .f32 0x7F800000#32)) = 1#1 := h1
    rw [ofBits_inf, decide_eq_false hn] at h2
    exact absurd h2 (by decide)
  choose f hf using hx
  exact ⟨f, funext hf⟩

end Cert.Finite

end
-- ==== Proof.FfnBwdClaim.lean ====
module
public import proofs.«01_k».proof.Proof.FfnBwdFinal
public import proofs.«01_k».proof.Proof.Finite
public import proofs.«01_k».proof.Defs
public import proofs.«01_k».proof.Proof.Gen.Reference2Ideal.Run
public import proofs.«01_k».proof.Proof.Gen.Pre_finite2
public import Idealize.ShloMosaic.Lib.Quiescent

/-! The claims about the backward kernel of the feed-forward block. -/

@[expose] public section

set_option maxRecDepth 16384

noncomputable section

open Idealize.ShloMosaic Idealize.ShloMosaic.TcCoe Idealize.SL.Sem
open Idealize.ShloMosaic.ValueIdx
open Cert.RealVec Cert.FfnBwdReference Cert.FfnBwdFinal

namespace Cert.FfnBwdClaim

instance : Subsingleton Cert.Pre_finite2.S_.Idx := ⟨fun a b => funext fun i => i.elim0⟩

/-- Under the precondition every argument is an array of reals. -/
theorem args (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) :
    ∃ (D X : Fin 8192 → Fin 1024 → ℝ) (G : Fin 1024 → ℝ) (Wg Wu : Fin 1024 → Fin 2816 → ℝ) (Wd : Fin 2816 → Fin 1024 → ℝ),
      Args m c D X G Wg Wu Wd := by
  have e := congrFun (h c) (fun a => a.elim0)
  unfold Cert.Pre_finite2.fn Cert.Pre_finite2.fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨_, e0⟩ := IntOp.andi_eq_one.1 e
  obtain ⟨d, hd⟩ := Finite.real_of_all _ _ _ _ _ _ _ e0
  obtain ⟨x, hx⟩ := Finite.real_of_all _ _ _ _ _ _ _ e1
  obtain ⟨g, hg⟩ := Finite.real_of_all _ _ _ _ _ _ _ e2
  obtain ⟨wg, hwg⟩ := Finite.real_of_all _ _ _ _ _ _ _ e3
  obtain ⟨wu, hwu⟩ := Finite.real_of_all _ _ _ _ _ _ _ e4
  obtain ⟨wd, hwd⟩ := Finite.real_of_all _ _ _ _ _ _ _ e5
  refine ⟨fun i j => d (ValueIdx.ix2 i j), fun i j => x (ValueIdx.ix2 i j), fun i => g (ValueIdx.ix1 i), fun i j => wg (ValueIdx.ix2 i j),
    fun i j => wu (ValueIdx.ix2 i j), fun i j => wd (ValueIdx.ix2 i j), ?_, ?_, ?_, ?_, ?_, ?_⟩
  · exact hd.trans (funext fun i => congrArg (fun k => ((d k : ℝ) : EReal)) (Finite.eta2 i))
  · exact hx.trans (funext fun i => congrArg (fun k => ((x k : ℝ) : EReal)) (Finite.eta2 i))
  · exact hg.trans (funext fun i => congrArg (fun k => ((g k : ℝ) : EReal)) (Finite.eta1 i))
  · exact hwg.trans (funext fun i => congrArg (fun k => ((wg k : ℝ) : EReal)) (Finite.eta2 i))
  · exact hwu.trans (funext fun i => congrArg (fun k => ((wu k : ℝ) : EReal)) (Finite.eta2 i))
  · exact hwd.trans (funext fun i => congrArg (fun k => ((wd k : ℝ) : EReal)) (Finite.eta2 i))

theorem frame_reference : Cert.quiescent_Reference2Ideal := fun m ρ _ =>
  (θ_run Cert.Reference2Ideal.defs _ _).mono
    (fun r h => ⟨fun c => (h c).2.2.2.2.2.2.2, sem_eq_zero_of_no_sems (by decide) r.2⟩)
    (Cert.Reference2Ideal.Value.run (F := Ideal) m ρ)

set_option maxHeartbeats 2000000 in
theorem algebraic : Cert.algebraic_Kernel2Ideal_Reference2Ideal_pre_finite2 := by
  intro m g m' g' hpre hargs
  refine ⟨fun c => (Cert.Kernel2Ideal.Gen.dats m 0 c).arrAt 8 Cert.Kernel2Ideal.cfg0.N,
    fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    Cert.Kernel2Ideal.Value.run_blocks m g, ?_⟩
  refine (θ_run Cert.Reference2Ideal.defs _ _).mono (fun r h c => ?_) (Cert.Reference2Ideal.Value.run (F := Ideal) m' g')
  obtain ⟨D, X, G, Wg, Wu, Wd, a⟩ := args m hpre c
  obtain ⟨a0, a1, a2, a3, a4, a5⟩ := hargs c
  have b0 := a0.trans a.d
  have b1 := a1.trans a.x
  have b2 := a2.trans a.g
  have b3 := a3.trans a.wg
  have b4 := a4.trans a.wu
  have b5 := a5.trans a.wd
  obtain ⟨h0, h1, h2, h3, h4, h5, h6, h7⟩ := h c
  refine ⟨h0.trans ?_, h1.trans ?_, h2.trans ?_, h3.trans ?_, h4.trans ?_, h5.trans ?_, h6.trans ?_, h7⟩
  · refine (Cert.Reference2Ideal.Read.val_main_v54_eq m' c).trans ?_
    rw [b0, b1, b2, b3, b4, b5]
    exact (funext fun i => FfnBwdReference.v54 D X G Wg Wu Wd i).trans (final8 a).symm
  · refine (Cert.Reference2Ideal.Read.val_main_v83_eq m' c).trans ?_
    rw [b0, b1, b2, b3, b4, b5]
    exact (funext fun i => FfnBwdReference.v83 D X G Wg Wu Wd i).trans (final9 a).symm
  · refine (Cert.Reference2Ideal.Read.val_main_v86_eq _ _ _ _ _).trans ?_
    rw [b0, b1, b2, b3, b5]
    exact (funext fun i => FfnBwdReference.v86 D X G Wg Wd i).trans (final10 a).symm
  · refine (Cert.Reference2Ideal.Read.val_main_v91_eq _ _ _ _).trans ?_
    rw [b1, b2, b3, b4]
    exact (funext fun i => FfnBwdReference.v91 X G Wg Wu i).trans (final11 a).symm
  · refine (Cert.Reference2Ideal.Read.val_main_v92_eq _ _).trans ?_
    rw [b1, b2]
    exact (funext fun i => FfnBwdReference.v92 X G i).trans (final12 a).symm
  · refine (Cert.Reference2Ideal.Read.val_main_v95_eq _).trans ?_
    rw [b0]
    exact (funext fun i => FfnBwdReference.v95 D i).trans (final13 a).symm
  · refine (Cert.Reference2Ideal.Read.val_main_v96_eq m' c).trans ?_
    rw [b0, b1, b2, b3, b4, b5]
    exact (funext fun i => FfnBwdReference.v96 D X G Wg Wu Wd i).trans (final14 a).symm

end Cert.FfnBwdClaim

end
-- ==== Proof.FfnRow.lean ====
/- The feed-forward layer `x + 0.5 · swiglu(rms_norm(x, g))` on one row, over the extended reals. -/
module

public import proofs.«01_k».proof.Proof.Ffn

@[expose] public section

noncomputable section

open Idealize.ShloMosaic

namespace Cert.FfnRow

def half : EReal := Ideal.ofBits .f32 0x3F000000#32
def one : EReal := Ideal.ofBits .f32 0x3F800000#32
def len : EReal := Ideal.ofBits .f32 0x44800000#32
def eps : EReal := Ideal.ofBits .f32 0x358637BD#32

theorem half_eq : half = ((1 / 2 : ℝ) : EReal) := Ffn.ofBits_half
theorem one_eq : one = 1 := Ffn.ofBits_one

/-- The logistic function. -/
def sg (a : EReal) : EReal := Ideal.div one (one + Ideal.exp (-a))

/-- The logistic function by the hyperbolic tangent, at the infinities too. -/
theorem sg_tanh (a : EReal) : half + half * Ideal.tanh (half * a) = sg a := by
  have hp : (0 : ℝ) < 1 / 2 := by norm_num
  unfold sg
  rw [half_eq, one_eq]
  induction a using EReal.rec with
  | bot =>
    rw [EReal.coe_mul_bot_of_pos hp, Ideal.tanh_bot, EReal.neg_bot, Ideal.exp_top, show (1 : EReal) + ⊤ = ⊤ from rfl]
    unfold Ideal.div
    rw [if_neg EReal.top_ne_zero, EReal.inv_top, mul_zero]
    rw [show (-1 : EReal) = ((-1 : ℝ) : EReal) from rfl, ← EReal.coe_mul, ← EReal.coe_add]
    norm_num
  | coe r =>
    rw [← EReal.coe_mul, Ideal.tanh_coe, ← EReal.coe_mul, ← EReal.coe_add, Ffn.half_tanh, ← EReal.coe_neg, Ideal.exp_coe,
      show (1 : EReal) = ((1 : ℝ) : EReal) from rfl, ← EReal.coe_add, Ffn.div_coe_coe _ _ (Ffn.one_add_exp_ne r)]
    rfl
  | top =>
    rw [EReal.coe_mul_top_of_pos hp, Ideal.tanh_top, EReal.neg_top, Ideal.exp_bot, add_zero,
      show (1 : EReal) = ((1 : ℝ) : EReal) from rfl, Ffn.div_coe_coe _ _ one_ne_zero, ← EReal.coe_mul, ← EReal.coe_add]
    norm_num

/-- A normed entry. -/
def nrm (x g : Fin 1024 → EReal) (d : Fin 1024) : EReal :=
  x d * Ideal.rsqrt (Ideal.div (∑ k, x k * x k) len + eps) * g d
/-- An entry of a hidden row. -/
def hid (h w : Fin 1024 → EReal) : EReal := ∑ k, h k * w k
/-- An entry of the gated row. -/
def act (a b : EReal) : EReal := a * sg a * b

def col (j : Fin 4) (f : Fin 704) : Fin 2816 := ⟨j.val * 704 + f.val, by omega⟩

theorem sum_shards (p : Fin 2816 → EReal) :
    ∑ f, p f = ∑ f, p (col 0 f) + ∑ f, p (col 1 f) + ∑ f, p (col 2 f) + ∑ f, p (col 3 f) := by
  have e : ∑ f, p f = ∑ q : Fin 4 × Fin 704, p (col q.1 q.2) :=
    (Fintype.sum_equiv (finProdFinEquiv (m := 4) (n := 704)) _ p fun q => congrArg p (Fin.ext (by
      show q.1.val * 704 + q.2.val = q.2.val + 704 * q.1.val
      omega))).symm
  rw [e, Fintype.sum_prod_type, Fin.sum_univ_four]

end Cert.FfnRow

end
-- ==== Proof.FfnFwd.lean ====
module
public import proofs.«01_k».proof.Proof.FfnRow
public import proofs.«01_k».proof.Proof.Gen.Kernel11Ideal.Value
public import Idealize.ShloMosaic.Lib.ValueIdxCore
public import Idealize.ShloMosaic.Lib.IdealHost
public import Idealize.ShloMosaic.Lib.Pipeline.ValueKit
public import Idealize.ShloMosaic.Lib.Pipeline.ValueKit.Tiles
public import Idealize.ShloMosaic.Lib.Tactic

/-! The feed-forward layer's forward kernel: what its three arrays hold after the run. -/

@[expose] public section

set_option maxRecDepth 16384

noncomputable section

open Idealize.ShloMosaic Idealize.ShloMosaic.TcCoe Idealize.SL.Sem
open Idealize.ShloMosaic.Pipeline (Dat)
open Idealize.ShloMosaic.ValueIdx
open Cert.Kernel11Ideal Cert.Kernel11Ideal.Gen Cert.FfnRow

namespace Cert.FfnFwd

/-! ### The body's operations, entry by entry -/

theorem zero_bits : Ideal.ofBits .f32 0x00000000#32 = (0 : EReal) := Ffn.ofBits_zero

theorem mm_up (f : S512x1024.Idx → EReal) (g : S704x1024.Idx → EReal) (j : S512x704.Idx) :
    (∑ k : dot_S512x1024_S704x1024_S512x704_1_1_0_0_n_n.contr.Idx,
      f (dot_S512x1024_S704x1024_S512x704_1_1_0_0_n_n.lhsIdx j k) * g (dot_S512x1024_S704x1024_S512x704_1_1_0_0_n_n.rhsIdx j k))
      = ∑ k : Fin 1024, f (ValueIdx.ix2 (j 0) k) * g (ValueIdx.ix2 (j 1) k) :=
  Fintype.sum_equiv (contrEquiv1 dot_S512x1024_S704x1024_S512x704_1_1_0_0_n_n 1024 rfl rfl) _ _ fun k => by
    congr 1
    · exact congrArg f (funext fun a => by match a with | ⟨0, _⟩ => rfl | ⟨1, _⟩ => rfl)
    · exact congrArg g (funext fun a => by match a with | ⟨0, _⟩ => rfl | ⟨1, _⟩ => rfl)
theorem mm_dn (f : S512x704.Idx → EReal) (g : S704x1024.Idx → EReal) (j : S512x1024.Idx) :
    (∑ k : dot_S512x704_S704x1024_S512x1024_1_0_0_1_n_n.contr.Idx,
      f (dot_S512x704_S704x1024_S512x1024_1_0_0_1_n_n.lhsIdx j k) * g (dot_S512x704_S704x1024_S512x1024_1_0_0_1_n_n.rhsIdx j k))
      = ∑ k : Fin 704, f (ValueIdx.ix2 (j 0) k) * g (ValueIdx.ix2 k (j 1)) :=
  Fintype.sum_equiv (contrEquiv1 dot_S512x704_S704x1024_S512x1024_1_0_0_1_n_n 704 rfl rfl) _ _ fun k => by
    congr 1
    · exact congrArg f (funext fun a => by match a with | ⟨0, _⟩ => rfl | ⟨1, _⟩ => rfl)
    · exact congrArg g (funext fun a => by match a with | ⟨0, _⟩ => rfl | ⟨1, _⟩ => rfl)

theorem slab (w : Vec Ideal S1x704x1024 .bf16) (f : Fin 704) (k : Fin 1024) :
    shapeCast S704x1024 w shapeCasts_S1x704x1024_S704x1024 (ValueIdx.ix2 f k) = w (ValueIdx.ix3 (0 : Fin 1) f k) :=
  shapeCast_apply w _ _ _ (by
    rw [Shape.rowMajor_val_three, Shape.rowMajor_val_two]
    show (0 * 704 + f.val) * 1024 + k.val = f.val * 1024 + k.val
    omega)

/-- A product of the rows with a shard of the weights. -/
def up (h : FVec Ideal S512x1024 .bf16) (w : Vec Ideal S1x704x1024 .bf16) (r : Fin 512) (f : Fin 704) : EReal :=
  hid (fun k => h (ValueIdx.ix2 r k)) fun k => w (ValueIdx.ix3 (0 : Fin 1) f k)

theorem pay9 (h : FVec Ideal S512x1024 .bf16) (w : Vec Ideal S1x704x1024 .bf16) (j : S512x704.Idx) :
    @Eq EReal (k0_pay9 h w j) (up h w (j 0) (j 1)) := by
  unfold k0_pay9
  show Ideal.ofBits .f32 0x00000000#32 + (_ : EReal) = _
  rw [zero_bits, zero_add]
  exact (mm_up _ _ _).trans (Finset.sum_congr rfl fun k _ => congrArg₂ (fun a b : EReal => a * b) rfl (slab w (j 1) k))

theorem down (s : FVec Ideal S512x704 .bf16) (w : Vec Ideal S1x704x1024 .bf16) (j : S512x1024.Idx) :
    @Eq EReal (matmul dot_S512x704_S704x1024_S512x1024_1_0_0_1_n_n none s
        (shapeCast S704x1024 w shapeCasts_S1x704x1024_S704x1024 : FVec Ideal S704x1024 .bf16) (constant S512x1024 .f32 0x00000000#32) j)
      (∑ f : Fin 704, (s (ValueIdx.ix2 (j 0) f) : EReal) * (w (ValueIdx.ix3 (0 : Fin 1) f (j 1)) : EReal)) := by
  show Ideal.ofBits .f32 0x00000000#32 + (_ : EReal) = _
  rw [zero_bits, zero_add]
  exact (mm_dn _ _ _).trans (Finset.sum_congr rfl fun k _ => congrArg₂ (fun a b : EReal => a * b) rfl (slab w k (j 1)))

theorem pay13 (h : FVec Ideal S512x1024 .bf16) (wg wu : Vec Ideal S1x704x1024 .bf16) (j : S512x704.Idx) :
    @Eq EReal (k0_pay13 h wg wu j) (act (up h wg (j 0) (j 1)) (up h wu (j 0) (j 1))) := by
  refine Eq.trans (b := (k0_pay9 h wg j : EReal) * (half + half * Ideal.tanh (half * (k0_pay9 h wg j : EReal))) * (k0_pay9 h wu j : EReal)) rfl ?_
  rw [sg_tanh, pay9, pay9]
  rfl

/-- What a shard of the weights adds to a row. -/
def part (h : FVec Ideal S512x1024 .bf16) (wg wu wd : Vec Ideal S1x704x1024 .bf16) (r : Fin 512) (d : Fin 1024) : EReal :=
  ∑ f : Fin 704, act (up h wg r f) (up h wu r f) * (wd (ValueIdx.ix3 (0 : Fin 1) f d) : EReal)

theorem gated (h : FVec Ideal S512x1024 .bf16) (wg wu wd : Vec Ideal S1x704x1024 .bf16) (j : S512x1024.Idx) :
    @Eq EReal (matmul dot_S512x704_S704x1024_S512x1024_1_0_0_1_n_n none (k0_pay13 h wg wu)
        (shapeCast S704x1024 wd shapeCasts_S1x704x1024_S704x1024 : FVec Ideal S704x1024 .bf16) (constant S512x1024 .f32 0x00000000#32) j)
      (part h wg wu wd (j 0) (j 1)) :=
  (down _ _ _).trans (Finset.sum_congr rfl fun f _ => congrArg₂ (fun a b : EReal => a * b) (pay13 h wg wu (ValueIdx.ix2 (j 0) f)) rfl)

theorem pay8 (v0 : Vec Ideal S512x1024 .f32) (v11 : Vec Ideal S1x1024 .f32) (wg wu wd : Vec Ideal S1x704x1024 .bf16) (j : S512x1024.Idx) :
    @Eq EReal (k0_pay8 (k0_pay2 (F := Ideal)) (k0_pay3 v0 v11 wg) (k0_pay4 v0 v11 wu) (k0_pay7 v0 v11 wg) wd j)
      (part (k0_pay1 v0 v11) wg wu wd (j 0) (j 1)) := by
  refine Eq.trans (b := Ideal.ofBits .f32 0x00000000#32 + (_ : EReal)) (congrArg₂ (fun a b : EReal => a + b) rfl (gated (k0_pay1 v0 v11) wg wu wd j)) ?_
  rw [zero_bits, zero_add]

theorem pay18 (h : FVec Ideal S512x1024 .bf16) (v44 : FVec Ideal S512x1024 .f32) (wg1 wu1 wd1 wg wu wd : Vec Ideal S1x704x1024 .bf16)
    (j : S512x1024.Idx) :
    @Eq EReal (k0_pay18 h v44 (k0_pay13 h wg1 wu1) wd1 wg wu wd j)
      ((v44 j : EReal) + part h wg1 wu1 wd1 (j 0) (j 1) + part h wg wu wd (j 0) (j 1)) :=
  congrArg₂ (fun a b : EReal => a + b) (congrArg₂ (fun a b : EReal => a + b) rfl (gated h wg1 wu1 wd1 j)) (gated h wg wu wd j)

theorem pay23 (v0 : Vec Ideal S512x1024 .f32) (h : FVec Ideal S512x1024 .bf16) (v100 : FVec Ideal S512x1024 .f32)
    (wg wu wd : Vec Ideal S1x704x1024 .bf16) (j : S512x1024.Idx) :
    @Eq EReal (k0_pay23 v0 h v100 wg wu wd j) ((v0 j : EReal) + half * ((v100 j : EReal) + part h wg wu wd (j 0) (j 1))) :=
  congrArg (fun a : EReal => (v0 j : EReal) + half * ((v100 j : EReal) + a)) (gated h wg wu wd j)

theorem pay1 (v0 : Vec Ideal S512x1024 .f32) (v11 : Vec Ideal S1x1024 .f32) (r : Fin 512) (d : Fin 1024) :
    @Eq EReal (k0_pay1 v0 v11 (ValueIdx.ix2 r d)) (nrm (fun k => v0 (ValueIdx.ix2 r k)) (fun k => v11 (ValueIdx.ix2 (0 : Fin 1) k)) d) := by
  have hs : @Eq EReal (multiReduction .add [1] S512 (mulf v0 v0 : FVec Ideal S512x1024 .f32) 0x00000000#32 reduces_S512x1024_S512 (.inl rfl) (by decide) (ValueIdx.ix1 r))
      (∑ k : Fin 1024, (v0 (ValueIdx.ix2 r k) : EReal) * (v0 (ValueIdx.ix2 r k) : EReal)) := by
    rw [Ideal.multiReduction_add_single]
    refine Finset.sum_congr rfl fun k _ => ?_
    refine congrArg (mulf v0 v0 : FVec Ideal S512x1024 .f32) (funext fun a => ?_)
    match a with | ⟨0, _⟩ => rfl | ⟨1, _⟩ => rfl
  unfold k0_pay1 nrm
  refine congrArg₂ (fun a b : EReal => a * b) (congrArg₂ (fun a b : EReal => a * b) rfl ?_) ?_
  · refine (broadcastTo_apply _ _ (ValueIdx.ix2 r d) (ValueIdx.ix2 r (0 : Fin 1)) (by intro a; match a with | ⟨0, _⟩ => rfl | ⟨1, _⟩ => rfl)).trans ?_
    refine congrArg (fun a : EReal => Ideal.rsqrt (Ideal.div a len + eps)) ?_
    refine Eq.trans ?_ hs
    exact shapeCast_apply _ _ (ValueIdx.ix2 r (0 : Fin 1)) (ValueIdx.ix1 r) (by
      rw [Shape.rowMajor_val_one, Shape.rowMajor_val_two]
      show r.val = r.val * 1 + 0
      omega)
  · refine (broadcastTo_apply _ _ (ValueIdx.ix2 r d) (ValueIdx.ix2 (0 : Fin 1) d) (by intro a; match a with | ⟨0, _⟩ => rfl | ⟨1, _⟩ => rfl)).trans ?_
    exact shapeCast_apply v11 _ (ValueIdx.ix2 (0 : Fin 1) d) (ValueIdx.ix2 (0 : Fin 1) d) rfl

/-! ### What a point writes -/

theorem hz : (![0, 0] : Fin 2 → Nat) = fun _ => 0 := funext fun a => by fin_cases a <;> rfl

theorem ld_w (j : Nat) (hj : j < 4) (w : Vec Ideal S4x704x1024 .bf16) (inb) (f : Fin 704) (k : Fin 1024) :
    View.ld w (Rect.unit (s := S4x704x1024) ![j, 0, 0] S1x704x1024.size inb) (ValueIdx.ix3 (0 : Fin 1) f k) = w (ValueIdx.ix3 (⟨j, hj⟩ : Fin 4) f k) := by
  refine View.ld_unit_apply_of w _ _ inb _ _ ?_
  intro a
  match a with
  | ⟨0, _⟩ => show j = j + 0; omega
  | ⟨1, _⟩ => show f.val = 0 + f.val; omega
  | ⟨2, _⟩ => show k.val = 0 + k.val; omega

/-- Hidden entry `f` of shard `n` of row `r`. -/
def hd (x0 : Vec Ideal S512x1024 .f32) (x1 : Vec Ideal S1x1024 .f32) (w : Vec Ideal S4x704x1024 .bf16) (n : Fin 4) (r : Fin 512) (f : Fin 704) : EReal :=
  hid (nrm (fun k => x0 (ValueIdx.ix2 r k)) fun k => x1 (ValueIdx.ix2 (0 : Fin 1) k)) fun k => w (ValueIdx.ix3 n f k)

theorem up_ld (x0 : Vec Ideal S512x1024 .f32) (x1 : Vec Ideal S1x1024 .f32) (w : Vec Ideal S4x704x1024 .bf16) (n : Nat) (hn : n < 4) (inb)
    (r : Fin 512) (f : Fin 704) :
    up (k0_pay1 x0 x1) (View.ld w (Rect.unit (s := S4x704x1024) ![n, 0, 0] S1x704x1024.size inb)) r f = hd x0 x1 w ⟨n, hn⟩ r f := by
  unfold up hd hid
  exact Finset.sum_congr rfl fun k _ => congrArg₂ (fun a b : EReal => a * b) (pay1 x0 x1 r k) (ld_w n hn w inb f k)

/-- What shard `n` adds to a row. -/
def sh (x0 : Vec Ideal S512x1024 .f32) (x1 : Vec Ideal S1x1024 .f32) (x2 x3 x4 : Vec Ideal S4x704x1024 .bf16) (n : Fin 4) (r : Fin 512) (d : Fin 1024) : EReal :=
  ∑ f : Fin 704, act (hd x0 x1 x2 n r f) (hd x0 x1 x3 n r f) * (x4 (ValueIdx.ix3 n f d) : EReal)

theorem part_ld (x0 : Vec Ideal S512x1024 .f32) (x1 : Vec Ideal S1x1024 .f32) (x2 x3 x4 : Vec Ideal S4x704x1024 .bf16) (n : Nat) (hn : n < 4) (inb)
    (r : Fin 512) (d : Fin 1024) :
    part (k0_pay1 x0 x1) (View.ld x2 (Rect.unit (s := S4x704x1024) ![n, 0, 0] S1x704x1024.size inb))
      (View.ld x3 (Rect.unit (s := S4x704x1024) ![n, 0, 0] S1x704x1024.size inb))
      (View.ld x4 (Rect.unit (s := S4x704x1024) ![n, 0, 0] S1x704x1024.size inb)) r d = sh x0 x1 x2 x3 x4 ⟨n, hn⟩ r d :=
  Finset.sum_congr rfl fun f _ => congrArg₂ (fun a b : EReal => a * b)
    (congrArg₂ act (up_ld x0 x1 x2 n hn inb r f) (up_ld x0 x1 x3 n hn inb r f)) (ld_w n hn x4 inb f d)

theorem out5 (x0 : Vec Ideal S512x1024 .f32) (x1 : Vec Ideal S1x1024 .f32) (x2 x3 x4 : Vec Ideal S4x704x1024 .bf16) (j : S512x1024.Idx) :
    @Eq EReal (out0_5 x0 x1 x2 x3 x4 j)
      ((x0 j : EReal) + half * (sh x0 x1 x2 x3 x4 0 (j 0) (j 1) + sh x0 x1 x2 x3 x4 1 (j 0) (j 1) + sh x0 x1 x2 x3 x4 2 (j 0) (j 1)
        + sh x0 x1 x2 x3 x4 3 (j 0) (j 1))) := by
  unfold out0_5 k0_pay24
  rw [View.canon_unit_zero hz, View.ld_unit_zero hz, View.ld_unit_zero hz]
  refine (pay23 _ _ _ _ _ _ j).trans ?_
  refine congrArg₂ (fun a b : EReal => (x0 j : EReal) + half * (a + b)) ?_ (part_ld x0 x1 x2 x3 x4 3 (by norm_num) _ (j 0) (j 1))
  refine (pay18 _ _ _ _ _ _ _ _ j).trans ?_
  refine congrArg₂ (fun a b : EReal => a + b) (congrArg₂ (fun a b : EReal => a + b) ?_ (part_ld x0 x1 x2 x3 x4 1 (by norm_num) _ (j 0) (j 1)))
    (part_ld x0 x1 x2 x3 x4 2 (by norm_num) _ (j 0) (j 1))
  exact (pay8 _ _ _ _ _ j).trans (part_ld x0 x1 x2 x3 x4 0 (by norm_num) _ (j 0) (j 1))

/-- A block of a hidden array, as the body stores it. -/
theorem stored (h : FVec Ideal S512x1024 .bf16) (w : Vec Ideal S1x704x1024 .bf16) (x : S1x512x704.Idx) :
    @Eq EReal (k0_pay11 h w x) (up h w (x 1) (x 2)) := by
  unfold k0_pay11
  have h0 : (x 0).val < 1 := (x 0).isLt
  refine (shapeCast_apply _ _ x (ValueIdx.ix2 (x 1) (x 2)) (by
    rw [Shape.rowMajor_val_three, Shape.rowMajor_val_two]
    show (x 1).val * 704 + (x 2).val = ((x 0).val * 512 + (x 1).val) * 704 + (x 2).val
    omega)).trans ?_
  exact pay9 h w (ValueIdx.ix2 (x 1) (x 2))

theorem at_shard {n : Nat} (j : Fin 4) (hn : j.val = n) (x : S1x512x704.Idx) (y : S4x512x704.Idx)
    (h : ∀ a, (y a : Nat) = (![n, 0, 0] : Fin 3 → Nat) a + x a) : y = ValueIdx.ix3 j (x 1) (x 2) := by
  subst hn
  have x0 : (x 0).val < 1 := (x 0).isLt
  funext a
  apply Fin.ext
  match a with
  | ⟨0, _⟩ => have h0 : (y 0).val = j.val + (x 0).val := h 0
              show (y 0).val = j.val; omega
  | ⟨1, _⟩ => have h1 : (y 1).val = 0 + (x 1).val := h 1
              show (y 1).val = (x 1).val; omega
  | ⟨2, _⟩ => have h2 : (y 2).val = 0 + (x 2).val := h 2
              show (y 2).val = (x 2).val; omega

theorem out6 (x0 : Vec Ideal S512x1024 .f32) (x1 : Vec Ideal S1x1024 .f32) (x2 x3 x4 : Vec Ideal S4x704x1024 .bf16) (y : S4x512x704.Idx) :
    @Eq EReal (out0_6 x0 x1 x2 x3 x4 y) (hd x0 x1 x2 (y 0) (y 1) (y 2)) := by
  unfold out0_6 k0_pay24
  refine View.canon_eq_of_allAt _ y _ (View.cover_of_tiled_head _ _ _ (by rfl) y) ?_
  rw [View.ld_unit_zero hz, View.ld_unit_zero hz]
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  · obtain rfl := at_shard 3 rfl x y hx
    exact (stored _ _ x).trans (up_ld x0 x1 x2 3 (by norm_num) _ (x 1) (x 2))
  · obtain rfl := at_shard 2 rfl x y hx
    exact (stored _ _ x).trans (up_ld x0 x1 x2 2 (by norm_num) _ (x 1) (x 2))
  · obtain rfl := at_shard 1 rfl x y hx
    exact (stored _ _ x).trans (up_ld x0 x1 x2 1 (by norm_num) _ (x 1) (x 2))
  · obtain rfl := at_shard 0 rfl x y hx
    exact (stored _ _ x).trans (up_ld x0 x1 x2 0 (by norm_num) _ (x 1) (x 2))

theorem out7 (x0 : Vec Ideal S512x1024 .f32) (x1 : Vec Ideal S1x1024 .f32) (x2 x3 x4 : Vec Ideal S4x704x1024 .bf16) (y : S4x512x704.Idx) :
    @Eq EReal (out0_7 x0 x1 x2 x3 x4 y) (hd x0 x1 x3 (y 0) (y 1) (y 2)) := by
  unfold out0_7 k0_pay24
  refine View.canon_eq_of_allAt _ y _ (View.cover_of_tiled_head _ _ _ (by rfl) y) ?_
  rw [View.ld_unit_zero hz, View.ld_unit_zero hz]
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  · obtain rfl := at_shard 3 rfl x y hx
    exact (stored _ _ x).trans (up_ld x0 x1 x3 3 (by norm_num) _ (x 1) (x 2))
  · obtain rfl := at_shard 2 rfl x y hx
    exact (stored _ _ x).trans (up_ld x0 x1 x3 2 (by norm_num) _ (x 1) (x 2))
  · obtain rfl := at_shard 1 rfl x y hx
    exact (stored _ _ x).trans (up_ld x0 x1 x3 1 (by norm_num) _ (x 1) (x 2))
  · obtain rfl := at_shard 0 rfl x y hx
    exact (stored _ _ x).trans (up_ld x0 x1 x3 0 (by norm_num) _ (x 1) (x 2))

/-! ### The blocks -/

variable (m : (ℓ : Loc nD τ sig) → Buf (Elt Ideal) ℓ) (c : Dev nD)

/-- Row `r` of block `t`. -/
def at_ (t : Fin cfg0.N) (r : Fin 512) : Fin 8192 := ⟨t.val * 512 + r.val, by
  have := t.isLt
  have : cfg0.N = 16 := rfl
  omega⟩

theorem ix_0 : ∀ t : Fin cfg0.N, win0_0.index t = ![t.val, 0] :=
  (by decide +kernel : ∀ t : Fin grid0.N, win0_0.index t = ![t.val, 0])
theorem emb_0 (t : Fin cfg0.N) (j : S512x1024.Idx) : (((cfg0.win 0).blk t).view.emb j : S8192x1024.Idx) = ValueIdx.ix2 (at_ t (j 0)) (j 1) := by
  funext a
  apply Fin.ext
  match a with
  | ⟨0, _⟩ => show win0_0.index t 0 * 512 + 1 * (j 0).val = t.val * 512 + (j 0).val; rw [ix_0]; show t.val * 512 + 1 * (j 0).val = _; omega
  | ⟨1, _⟩ => show win0_0.index t 1 * 1024 + 1 * (j 1).val = (j 1).val; rw [ix_0]; show 0 * 1024 + 1 * (j 1).val = _; omega

theorem ix_1 : ∀ t : Fin cfg0.N, win0_1.index t = ![0, 0] :=
  (by decide +kernel : ∀ t : Fin grid0.N, win0_1.index t = ![0, 0])
theorem emb_1 (t : Fin cfg0.N) (j : S1x1024.Idx) : (((cfg0.win 1).blk t).view.emb j : S1x1024.Idx) = ValueIdx.ix2 (j 0) (j 1) := by
  funext a
  apply Fin.ext
  match a with
  | ⟨0, _⟩ => show win0_1.index t 0 * 1 + 1 * (j 0).val = (j 0).val; rw [ix_1]; show 0 * 1 + 1 * (j 0).val = _; omega
  | ⟨1, _⟩ => show win0_1.index t 1 * 1024 + 1 * (j 1).val = (j 1).val; rw [ix_1]; show 0 * 1024 + 1 * (j 1).val = _; omega

theorem ix_2 : ∀ t : Fin cfg0.N, win0_2.index t = ![0, 0, 0] :=
  (by decide +kernel : ∀ t : Fin grid0.N, win0_2.index t = ![0, 0, 0])
theorem emb_2 (t : Fin cfg0.N) (j : S4x704x1024.Idx) : (((cfg0.win 2).blk t).view.emb j : S4x704x1024.Idx) = ValueIdx.ix3 (j 0) (j 1) (j 2) := by
  funext a
  apply Fin.ext
  match a with
  | ⟨0, _⟩ => show win0_2.index t 0 * 4 + 1 * (j 0).val = (j 0).val; rw [ix_2]; show 0 * 4 + 1 * (j 0).val = _; omega
  | ⟨1, _⟩ => show win0_2.index t 1 * 704 + 1 * (j 1).val = (j 1).val; rw [ix_2]; show 0 * 704 + 1 * (j 1).val = _; omega
  | ⟨2, _⟩ => show win0_2.index t 2 * 1024 + 1 * (j 2).val = (j 2).val; rw [ix_2]; show 0 * 1024 + 1 * (j 2).val = _; omega

theorem ix_3 : ∀ t : Fin cfg0.N, win0_3.index t = ![0, 0, 0] :=
  (by decide +kernel : ∀ t : Fin grid0.N, win0_3.index t = ![0, 0, 0])
theorem emb_3 (t : Fin cfg0.N) (j : S4x704x1024.Idx) : (((cfg0.win 3).blk t).view.emb j : S4x704x1024.Idx) = ValueIdx.ix3 (j 0) (j 1) (j 2) := by
  funext a
  apply Fin.ext
  match a with
  | ⟨0, _⟩ => show win0_3.index t 0 * 4 + 1 * (j 0).val = (j 0).val; rw [ix_3]; show 0 * 4 + 1 * (j 0).val = _; omega
  | ⟨1, _⟩ => show win0_3.index t 1 * 704 + 1 * (j 1).val = (j 1).val; rw [ix_3]; show 0 * 704 + 1 * (j 1).val = _; omega
  | ⟨2, _⟩ => show win0_3.index t 2 * 1024 + 1 * (j 2).val = (j 2).val; rw [ix_3]; show 0 * 1024 + 1 * (j 2).val = _; omega

theorem ix_4 : ∀ t : Fin cfg0.N, win0_4.index t = ![0, 0, 0] :=
  (by decide +kernel : ∀ t : Fin grid0.N, win0_4.index t = ![0, 0, 0])
theorem emb_4 (t : Fin cfg0.N) (j : S4x704x1024.Idx) : (((cfg0.win 4).blk t).view.emb j : S4x704x1024.Idx) = ValueIdx.ix3 (j 0) (j 1) (j 2) := by
  funext a
  apply Fin.ext
  match a with
  | ⟨0, _⟩ => show win0_4.index t 0 * 4 + 1 * (j 0).val = (j 0).val; rw [ix_4]; show 0 * 4 + 1 * (j 0).val = _; omega
  | ⟨1, _⟩ => show win0_4.index t 1 * 704 + 1 * (j 1).val = (j 1).val; rw [ix_4]; show 0 * 704 + 1 * (j 1).val = _; omega
  | ⟨2, _⟩ => show win0_4.index t 2 * 1024 + 1 * (j 2).val = (j 2).val; rw [ix_4]; show 0 * 1024 + 1 * (j 2).val = _; omega

theorem ix_5 : ∀ t : Fin cfg0.N, win0_5.index t = ![t.val, 0] :=
  (by decide +kernel : ∀ t : Fin grid0.N, win0_5.index t = ![t.val, 0])
theorem emb_5 (t : Fin cfg0.N) (j : S512x1024.Idx) : (((cfg0.win 5).blk t).view.emb j : S8192x1024.Idx) = ValueIdx.ix2 (at_ t (j 0)) (j 1) := by
  funext a
  apply Fin.ext
  match a with
  | ⟨0, _⟩ => show win0_5.index t 0 * 512 + 1 * (j 0).val = t.val * 512 + (j 0).val; rw [ix_5]; show t.val * 512 + 1 * (j 0).val = _; omega
  | ⟨1, _⟩ => show win0_5.index t 1 * 1024 + 1 * (j 1).val = (j 1).val; rw [ix_5]; show 0 * 1024 + 1 * (j 1).val = _; omega

theorem ix_6 : ∀ t : Fin cfg0.N, win0_6.index t = ![0, t.val, 0] :=
  (by decide +kernel : ∀ t : Fin grid0.N, win0_6.index t = ![0, t.val, 0])
theorem emb_6 (t : Fin cfg0.N) (j : S4x512x704.Idx) : (((cfg0.win 6).blk t).view.emb j : S4x8192x704.Idx) = ValueIdx.ix3 (j 0) (at_ t (j 1)) (j 2) := by
  funext a
  apply Fin.ext
  match a with
  | ⟨0, _⟩ => show win0_6.index t 0 * 4 + 1 * (j 0).val = (j 0).val; rw [ix_6]; show 0 * 4 + 1 * (j 0).val = _; omega
  | ⟨1, _⟩ => show win0_6.index t 1 * 512 + 1 * (j 1).val = t.val * 512 + (j 1).val; rw [ix_6]; show t.val * 512 + 1 * (j 1).val = _; omega
  | ⟨2, _⟩ => show win0_6.index t 2 * 704 + 1 * (j 2).val = (j 2).val; rw [ix_6]; show 0 * 704 + 1 * (j 2).val = _; omega

theorem ix_7 : ∀ t : Fin cfg0.N, win0_7.index t = ![0, t.val, 0] :=
  (by decide +kernel : ∀ t : Fin grid0.N, win0_7.index t = ![0, t.val, 0])
theorem emb_7 (t : Fin cfg0.N) (j : S4x512x704.Idx) : (((cfg0.win 7).blk t).view.emb j : S4x8192x704.Idx) = ValueIdx.ix3 (j 0) (at_ t (j 1)) (j 2) := by
  funext a
  apply Fin.ext
  match a with
  | ⟨0, _⟩ => show win0_7.index t 0 * 4 + 1 * (j 0).val = (j 0).val; rw [ix_7]; show 0 * 4 + 1 * (j 0).val = _; omega
  | ⟨1, _⟩ => show win0_7.index t 1 * 512 + 1 * (j 1).val = t.val * 512 + (j 1).val; rw [ix_7]; show t.val * 512 + 1 * (j 1).val = _; omega
  | ⟨2, _⟩ => show win0_7.index t 2 * 704 + 1 * (j 2).val = (j 2).val; rw [ix_7]; show 0 * 704 + 1 * (j 2).val = _; omega

/-- The five arguments: rows, scale, and the weights of the gate, of the branch it gates and of the projection back. -/
def aX (l : Fin 8192) (d : Fin 1024) : EReal := (m (c, Proc.tc.devRef main_arg0) : S8192x1024.Idx → EReal) (ValueIdx.ix2 l d)
def aG (d : Fin 1024) : EReal := (m (c, Proc.tc.devRef main_arg1) : S1024.Idx → EReal) (ValueIdx.ix1 d)
def aWg (d : Fin 1024) (f : Fin 2816) : EReal := (m (c, Proc.tc.devRef main_arg2) : S1024x2816.Idx → EReal) (ValueIdx.ix2 d f)
def aWu (d : Fin 1024) (f : Fin 2816) : EReal := (m (c, Proc.tc.devRef main_arg3) : S1024x2816.Idx → EReal) (ValueIdx.ix2 d f)
def aWd (f : Fin 2816) (d : Fin 1024) : EReal := (m (c, Proc.tc.devRef main_arg4) : S2816x1024.Idx → EReal) (ValueIdx.ix2 f d)

theorem rm1 (d : Fin 1024) : (S1024.rowMajor (ValueIdx.ix1 d)).val = (S1x1024.rowMajor (ValueIdx.ix2 (0 : Fin 1) d)).val := by
  rw [Shape.rowMajor_val_one, Shape.rowMajor_val_two]
  show d.val = 0 * 1024 + d.val
  omega
theorem rm3 (n : Fin 4) (f : Fin 704) (d : Fin 1024) :
    (S2816x1024.rowMajor (ValueIdx.ix2 (col n f) d)).val = (S4x704x1024.rowMajor (ValueIdx.ix3 n f d)).val := by
  rw [Shape.rowMajor_val_three, Shape.rowMajor_val_two]
  rfl

theorem b0 (t : Fin cfg0.N) (r : Fin 512) (d : Fin 1024) : @Eq EReal ((iblk m c 0 t : Vec Ideal S512x1024 .f32) (ValueIdx.ix2 r d)) (aX m c (at_ t r) d) := by
  unfold iblk
  rw [View.read_apply]
  show V m c main_arg0 _ = _
  rw [emb_0]
  entry_read
  rfl
theorem b1 (t : Fin cfg0.N) (d : Fin 1024) : @Eq EReal ((iblk m c 1 t : Vec Ideal S1x1024 .f32) (ValueIdx.ix2 (0 : Fin 1) d)) (aG m c d) := by
  unfold iblk
  rw [View.read_apply]
  show V m c main_v0 _ = _
  rw [emb_1]
  entry_read
  exact shapeCast_apply (m (c, Proc.tc.devRef main_arg1) : S1024.Idx → EReal) _ (ValueIdx.ix2 (0 : Fin 1) d) (ValueIdx.ix1 d) (rm1 d)
theorem b2 (t : Fin cfg0.N) (n : Fin 4) (f : Fin 704) (d : Fin 1024) :
    @Eq EReal ((iblk m c 2 t : Vec Ideal S4x704x1024 .bf16) (ValueIdx.ix3 n f d)) (aWg m c d (col n f)) := by
  unfold iblk
  rw [View.read_apply]
  show V m c main_v3 _ = _
  rw [emb_2]
  entry_read
  exact (shapeCast_apply (transpose S2816x1024 [1, 0] (m (c, Proc.tc.devRef main_arg2) : S1024x2816.Idx → EReal) transposes_S1024x2816_S2816x1024_1_0)
    shapeCasts_S2816x1024_S4x704x1024 (ValueIdx.ix3 n f d) (ValueIdx.ix2 (col n f) d) (rm3 n f d)).trans
    (transpose_apply [1, 0] _ _ _ (ValueIdx.ix2 d (col n f)) (by intro a; match a with | ⟨0, _⟩ => rfl | ⟨1, _⟩ => rfl))
theorem b3 (t : Fin cfg0.N) (n : Fin 4) (f : Fin 704) (d : Fin 1024) :
    @Eq EReal ((iblk m c 3 t : Vec Ideal S4x704x1024 .bf16) (ValueIdx.ix3 n f d)) (aWu m c d (col n f)) := by
  unfold iblk
  rw [View.read_apply]
  show V m c main_v6 _ = _
  rw [emb_3]
  entry_read
  exact (shapeCast_apply (transpose S2816x1024 [1, 0] (m (c, Proc.tc.devRef main_arg3) : S1024x2816.Idx → EReal) transposes_S1024x2816_S2816x1024_1_0)
    shapeCasts_S2816x1024_S4x704x1024 (ValueIdx.ix3 n f d) (ValueIdx.ix2 (col n f) d) (rm3 n f d)).trans
    (transpose_apply [1, 0] _ _ _ (ValueIdx.ix2 d (col n f)) (by intro a; match a with | ⟨0, _⟩ => rfl | ⟨1, _⟩ => rfl))
theorem b4 (t : Fin cfg0.N) (n : Fin 4) (f : Fin 704) (d : Fin 1024) :
    @Eq EReal ((iblk m c 4 t : Vec Ideal S4x704x1024 .bf16) (ValueIdx.ix3 n f d)) (aWd m c (col n f) d) := by
  unfold iblk
  rw [View.read_apply]
  show V m c main_v8 _ = _
  rw [emb_4]
  entry_read
  exact shapeCast_apply (m (c, Proc.tc.devRef main_arg4) : S2816x1024.Idx → EReal)
    shapeCasts_S2816x1024_S4x704x1024 (ValueIdx.ix3 n f d) (ValueIdx.ix2 (col n f) d) (rm3 n f d)

/-! ### The results -/

/-- A hidden entry. -/
def H (W : Fin 1024 → Fin 2816 → EReal) (l : Fin 8192) (f : Fin 2816) : EReal := hid (nrm (aX m c l) (aG m c)) fun d => W d f
/-- An entry of the layer. -/
def Y (l : Fin 8192) (d : Fin 1024) : EReal :=
  aX m c l d + half * ∑ f, act (H m c (aWg m c) l f) (H m c (aWu m c) l f) * aWd m c f d

theorem hn (t : Fin cfg0.N) (r : Fin 512) :
    nrm (fun k => (iblk m c 0 t : Vec Ideal S512x1024 .f32) (ValueIdx.ix2 r k)) (fun k => (iblk m c 1 t : Vec Ideal S1x1024 .f32) (ValueIdx.ix2 (0 : Fin 1) k))
      = nrm (aX m c (at_ t r)) (aG m c) :=
  congrArg₂ nrm (funext fun k => b0 m c t r k) (funext fun k => b1 m c t k)

theorem hg (t : Fin cfg0.N) (n : Fin 4) (r : Fin 512) (f : Fin 704) :
    hd (iblk m c 0 t) (iblk m c 1 t) (iblk m c 2 t) n r f = H m c (aWg m c) (at_ t r) (col n f) :=
  congrArg₂ hid (hn m c t r) (funext fun k => b2 m c t n f k)
theorem hu (t : Fin cfg0.N) (n : Fin 4) (r : Fin 512) (f : Fin 704) :
    hd (iblk m c 0 t) (iblk m c 1 t) (iblk m c 3 t) n r f = H m c (aWu m c) (at_ t r) (col n f) :=
  congrArg₂ hid (hn m c t r) (funext fun k => b3 m c t n f k)
theorem hs (t : Fin cfg0.N) (n : Fin 4) (r : Fin 512) (d : Fin 1024) :
    sh (iblk m c 0 t) (iblk m c 1 t) (iblk m c 2 t) (iblk m c 3 t) (iblk m c 4 t) n r d
      = ∑ f, act (H m c (aWg m c) (at_ t r) (col n f)) (H m c (aWu m c) (at_ t r) (col n f)) * aWd m c (col n f) d :=
  Finset.sum_congr rfl fun f _ => congrArg₂ (fun a b : EReal => a * b) (congrArg₂ act (hg m c t n r f) (hu m c t n r f)) (b4 m c t n f d)

def out : (⟨S8192x1024, .f32⟩ : BufTy).Contents (Elt Ideal) := fun i => Y m c (i 0) (i 1)
def hidden (W : Fin 1024 → Fin 2816 → EReal) : (⟨S4x8192x704, .bf16⟩ : BufTy).Contents (Elt Ideal) := fun i => H m c W (i 1) (col (i 0) (i 2))

end Cert.FfnFwd

end
-- ==== Proof.FfnFwdFinal.lean ====
module
public import proofs.«01_k».proof.Proof.FfnFwd
public import proofs.«01_k».proof.Proof.Finite

/-! What the feed-forward layer's forward kernel leaves in its three arrays. -/

@[expose] public section

set_option maxRecDepth 16384

noncomputable section

open Idealize.ShloMosaic Idealize.ShloMosaic.TcCoe Idealize.SL.Sem
open Idealize.ShloMosaic.Pipeline (Dat)
open Idealize.ShloMosaic.ValueIdx
open Cert.Kernel11Ideal Cert.Kernel11Ideal.Gen Cert.FfnRow

namespace Cert.FfnFwd

variable (m : (ℓ : Loc nD τ sig) → Buf (Elt Ideal) ℓ) (c : Dev nD)

theorem at5 (t : Fin cfg0.N) (y : S512x1024.Idx) : @Eq EReal (out0_5 (iblk m c 0 t) (iblk m c 1 t) (iblk m c 2 t) (iblk m c 3 t) (iblk m c 4 t) y) (out m c (ValueIdx.ix2 (at_ t (y 0)) (y 1))) := by
  refine (out5 (iblk m c 0 t) (iblk m c 1 t) (iblk m c 2 t) (iblk m c 3 t) (iblk m c 4 t) y).trans ?_
  refine Eq.trans (congrArg₂ (fun a b : EReal => a + half * b)
    ((congrArg (iblk m c 0 t : Vec Ideal S512x1024 .f32) (Finite.eta2 y)).trans (b0 m c t (y 0) (y 1)))
    (congrArg₂ (fun a b : EReal => a + b) (congrArg₂ (fun a b : EReal => a + b) (congrArg₂ (fun a b : EReal => a + b)
      (hs m c t 0 (y 0) (y 1)) (hs m c t 1 (y 0) (y 1))) (hs m c t 2 (y 0) (y 1))) (hs m c t 3 (y 0) (y 1)))) ?_
  exact (congrArg (fun a : EReal => aX m c (at_ t (y 0)) (y 1) + half * a) (sum_shards fun f =>
    act (H m c (aWg m c) (at_ t (y 0)) f) (H m c (aWu m c) (at_ t (y 0)) f) * aWd m c f (y 1))).symm
theorem at6 (t : Fin cfg0.N) (y : S4x512x704.Idx) :
    @Eq EReal (out0_6 (iblk m c 0 t) (iblk m c 1 t) (iblk m c 2 t) (iblk m c 3 t) (iblk m c 4 t) y) (hidden m c (aWg m c) (ValueIdx.ix3 (y 0) (at_ t (y 1)) (y 2))) :=
  (out6 (iblk m c 0 t) (iblk m c 1 t) (iblk m c 2 t) (iblk m c 3 t) (iblk m c 4 t) y).trans (hg m c t (y 0) (y 1) (y 2))
theorem at7 (t : Fin cfg0.N) (y : S4x512x704.Idx) :
    @Eq EReal (out0_7 (iblk m c 0 t) (iblk m c 1 t) (iblk m c 2 t) (iblk m c 3 t) (iblk m c 4 t) y) (hidden m c (aWu m c) (ValueIdx.ix3 (y 0) (at_ t (y 1)) (y 2))) :=
  (out7 (iblk m c 0 t) (iblk m c 1 t) (iblk m c 2 t) (iblk m c 3 t) (iblk m c 4 t) y).trans (hu m c t (y 0) (y 1) (y 2))

theorem row5 (t : Fin cfg0.N) : out0_5 (iblk m c 0 t) (iblk m c 1 t) (iblk m c 2 t) (iblk m c 3 t) (iblk m c 4 t) = fun y => out m c (ValueIdx.ix2 (at_ t (y 0)) (y 1)) := funext fun y => at5 m c t y
theorem row6 (t : Fin cfg0.N) : out0_6 (iblk m c 0 t) (iblk m c 1 t) (iblk m c 2 t) (iblk m c 3 t) (iblk m c 4 t) = fun y => hidden m c (aWg m c) (ValueIdx.ix3 (y 0) (at_ t (y 1)) (y 2)) :=
  funext fun y => at6 m c t y
theorem row7 (t : Fin cfg0.N) : out0_7 (iblk m c 0 t) (iblk m c 1 t) (iblk m c 2 t) (iblk m c 3 t) (iblk m c 4 t) = fun y => hidden m c (aWu m c) (ValueIdx.ix3 (y 0) (at_ t (y 1)) (y 2)) :=
  funext fun y => at7 m c t y

theorem final5 : (dats m 0 c).arrAt 5 cfg0.N = out m c := by
  refine (dats m 0 c).arrAt_eq_of_covers 5 _ (by decide +kernel) fun t hf y => ?_
  rw [after0_5, row5 m c t, emb_5]
  rfl
theorem final6 : (dats m 0 c).arrAt 6 cfg0.N = hidden m c (aWg m c) := by
  refine (dats m 0 c).arrAt_eq_of_covers 6 _ (by decide +kernel) fun t hf y => ?_
  rw [after0_6, row6 m c t, emb_6]
  rfl
theorem final7 : (dats m 0 c).arrAt 7 cfg0.N = hidden m c (aWu m c) := by
  refine (dats m 0 c).arrAt_eq_of_covers 7 _ (by decide +kernel) fun t hf y => ?_
  rw [after0_7, row7 m c t, emb_7]
  rfl

end Cert.FfnFwd

end
-- ==== Proof.FfnFwdClaim.lean ====
module
public import proofs.«01_k».proof.Proof.FfnFwdFinal
public import proofs.«01_k».proof.Defs
public import proofs.«01_k».proof.Proof.Gen.Reference11Ideal.Run
public import proofs.«01_k».proof.Proof.Gen.Reference11Ideal.Read
public import Idealize.ShloMosaic.Lib.Quiescent

/-! The claims about the feed-forward layer's forward kernel. -/

@[expose] public section

set_option maxRecDepth 16384

noncomputable section

open Idealize.ShloMosaic Idealize.ShloMosaic.TcCoe Idealize.SL.Sem
open Idealize.ShloMosaic.ValueIdx
open Cert.FfnRow

namespace Cert.FfnFwdClaim

open Cert.Reference11Ideal Cert.Reference11Ideal.Gen Cert.Reference11Ideal.Read

/-! ### The reference, entry by entry -/

variable (x : S8192x1024.Idx → EReal) (g : S1024.Idx → EReal) (wg wu : S1024x2816.Idx → EReal) (wd : S2816x1024.Idx → EReal)

theorem r12 (l : Fin 8192) (d : Fin 1024) :
    @Eq EReal (val_main_v12 (F := Ideal) x g (ValueIdx.ix2 l d)) (nrm (fun k => x (ValueIdx.ix2 l k)) (fun k => g (ValueIdx.ix1 k)) d) := by
  have hs : @Eq EReal (val_main_v1 (F := Ideal) x (ValueIdx.ix1 l)) (∑ k, x (ValueIdx.ix2 l k) * x (ValueIdx.ix2 l k)) := by
    rw [val_main_v1_apply]
    refine Eq.trans (b := Ideal.ofBits .f32 0x00000000#32 + ∑ k : Fin 1024, x (ValueIdx.ix2 l k) * x (ValueIdx.ix2 l k))
      (congrArg (fun a : EReal => Ideal.ofBits .f32 0x00000000#32 + a) (Finset.sum_congr rfl fun k _ => ?_)) ?_
    · have e : idx_main_v1 (ValueIdx.ix1 l) k = ValueIdx.ix2 l k := funext fun a => by match a with | ⟨0, _⟩ => rfl | ⟨1, _⟩ => rfl
      rw [e]; rfl
    · rw [show Ideal.ofBits .f32 0x00000000#32 = (0 : EReal) from Ffn.ofBits_zero, zero_add]
  rw [val_main_v12_apply, val_main_v9_apply, val_main_v8_apply, val_main_v7_apply, val_main_v6_apply, val_main_v4_apply, val_main_v2_apply,
    val_main_v3_apply, val_main_v5_apply, val_main_v11_apply, val_main_v10_apply]
  refine congrArg₂ (fun a b : EReal => x (ValueIdx.ix2 l d) * Ideal.rsqrt (Ideal.div a len + eps) * b) ?_ ?_
  · refine Eq.trans (congrArg (val_main_v1 (F := Ideal) x) ?_) hs
    funext a; match a with | ⟨0, _⟩ => rfl
  · exact congrArg g (funext fun a => by match a with | ⟨0, _⟩ => rfl)

theorem r13 (l : Fin 8192) (f : Fin 2816) :
    @Eq EReal (val_main_v13 (F := Ideal) x g wg (ValueIdx.ix2 l f)) (hid (nrm (fun k => x (ValueIdx.ix2 l k)) fun k => g (ValueIdx.ix1 k)) fun k => wg (ValueIdx.ix2 k f)) := by
  rw [val_main_v13_apply]
  refine Finset.sum_congr rfl fun k _ => congrArg₂ (fun a b : EReal => a * b) ?_ ?_
  · refine Eq.trans (congrArg (val_main_v12 (F := Ideal) x g) ?_) (r12 x g l k)
    funext a; match a with | ⟨0, _⟩ => rfl | ⟨1, _⟩ => rfl
  · exact congrArg wg (funext fun a => by match a with | ⟨0, _⟩ => rfl | ⟨1, _⟩ => rfl)

theorem r16 (l : Fin 8192) (f : Fin 2816) :
    @Eq EReal (val_main_v16 (F := Ideal) x g wg wu (ValueIdx.ix2 l f))
      (act (hid (nrm (fun k => x (ValueIdx.ix2 l k)) fun k => g (ValueIdx.ix1 k)) fun k => wg (ValueIdx.ix2 k f))
        (hid (nrm (fun k => x (ValueIdx.ix2 l k)) fun k => g (ValueIdx.ix1 k)) fun k => wu (ValueIdx.ix2 k f))) := by
  refine Eq.trans (b := act (val_main_v13 (F := Ideal) x g wg (ValueIdx.ix2 l f)) (val_main_v13 (F := Ideal) x g wu (ValueIdx.ix2 l f))) rfl ?_
  rw [r13, r13]

theorem r20 (i : S8192x1024.Idx) :
    @Eq EReal (val_main_v20 (F := Ideal) x g wg wu wd i)
      (x (ValueIdx.ix2 (i 0) (i 1)) + half * ∑ f, act (hid (nrm (fun k => x (ValueIdx.ix2 (i 0) k)) fun k => g (ValueIdx.ix1 k)) fun k => wg (ValueIdx.ix2 k f))
        (hid (nrm (fun k => x (ValueIdx.ix2 (i 0) k)) fun k => g (ValueIdx.ix1 k)) fun k => wu (ValueIdx.ix2 k f)) * wd (ValueIdx.ix2 f (i 1))) := by
  rw [val_main_v20_apply, val_main_v19_apply, val_main_v17_apply]
  refine congrArg₂ (fun a b : EReal => a + half * b) (congrArg x (funext fun a => by match a with | ⟨0, _⟩ => rfl | ⟨1, _⟩ => rfl))
    (Finset.sum_congr rfl fun f _ => congrArg₂ (fun a b : EReal => a * b) ?_ ?_)
  · refine Eq.trans (congrArg (val_main_v16 (F := Ideal) x g wg wu) ?_) (r16 x g wg wu (i 0) f)
    funext a; match a with | ⟨0, _⟩ => rfl | ⟨1, _⟩ => rfl
  · exact congrArg wd (funext fun a => by match a with | ⟨0, _⟩ => rfl | ⟨1, _⟩ => rfl)

theorem r24 (i : S4x8192x704.Idx) :
    @Eq EReal (val_main_v24 (F := Ideal) x g wg i)
      (hid (nrm (fun k => x (ValueIdx.ix2 (i 1) k)) fun k => g (ValueIdx.ix1 k)) fun k => wg (ValueIdx.ix2 k (col (i 0) (i 2)))) := by
  refine Eq.trans (b := val_main_v23 (F := Ideal) x g wg i) rfl ?_
  rw [val_main_v23_apply, val_main_v22_apply]
  refine Eq.trans (congrArg (val_main_v13 (F := Ideal) x g wg) ?_) (r13 x g wg (i 1) (col (i 0) (i 2)))
  have h0 : (i 0).val < 4 := (i 0).isLt
  have h1 : (i 1).val < 8192 := (i 1).isLt
  have h2 : (i 2).val < 704 := (i 2).isLt
  funext a
  apply Fin.ext
  match a with
  | ⟨0, _⟩ => show (((i 1).val * 4 + (i 0).val) * 704 + (i 2).val) / 2816 = (i 1).val; omega
  | ⟨1, _⟩ => show (((i 1).val * 4 + (i 0).val) * 704 + (i 2).val) % 2816 = (i 0).val * 704 + (i 2).val; omega

/-! ### The claims -/

theorem frame_reference : Cert.quiescent_Reference11Ideal := fun m ρ _ =>
  (θ_run Cert.Reference11Ideal.defs _ _).mono
    (fun r h => ⟨fun c => (h c).2.2.2, sem_eq_zero_of_no_sems (by decide) r.2⟩)
    (Cert.Reference11Ideal.Value.run (F := Ideal) m ρ)

theorem algebraic : Cert.algebraic_Kernel11Ideal_Reference11Ideal := by
  intro m g m' g' _ hargs
  refine ⟨fun c => (Cert.Kernel11Ideal.Gen.dats m 0 c).arrAt 5 Cert.Kernel11Ideal.cfg0.N,
    fun c => (Cert.Kernel11Ideal.Gen.dats m 0 c).arrAt 6 Cert.Kernel11Ideal.cfg0.N,
    fun c => (Cert.Kernel11Ideal.Gen.dats m 0 c).arrAt 7 Cert.Kernel11Ideal.cfg0.N,
    Cert.Kernel11Ideal.Value.run_blocks m g, ?_⟩
  refine (θ_run Cert.Reference11Ideal.defs _ _).mono (fun r h c => ?_) (Cert.Reference11Ideal.Value.run (F := Ideal) m' g')
  obtain ⟨a0, a1, a2, a3, a4⟩ := hargs c
  obtain ⟨h0, h1, h2, h3⟩ := h c
  refine ⟨h0.trans ?_, h1.trans ?_, h2.trans ?_, h3⟩
  · refine (Cert.Reference11Ideal.Read.val_main_v20_eq _ _ _ _ _).trans ?_
    rw [a0, a1, a2, a3, a4]
    exact (funext fun i => r20 _ _ _ _ _ i).trans (FfnFwd.final5 m c).symm
  · refine (Cert.Reference11Ideal.Read.val_main_v24_eq _ _ _).trans ?_
    rw [a0, a1, a2]
    exact (funext fun i => r24 _ _ _ i).trans (FfnFwd.final6 m c).symm
  · refine (Cert.Reference11Ideal.Read.val_main_v28_eq _ _ _).trans ?_
    rw [a0, a1, a3]
    exact (funext fun i => r24 _ _ _ i).trans (FfnFwd.final7 m c).symm

end Cert.FfnFwdClaim

end
-- ==== Proof.RmsBack.lean ====
/- The derivative of a root-mean-square normed row, over the extended reals. A row with an infinite entry has an infinite
mean square; its reciprocal root is zero, and so is everything the derivative is made of. -/
module

public import proofs.«01_k».proof.Proof.FfnRow

@[expose] public section

noncomputable section

open Idealize.ShloMosaic

namespace Cert.RmsBack

open FfnRow (len eps half one)

def negHalf : EReal := Ideal.ofBits .f32 0xBF000000#32

def ms (x : Fin 1024 → EReal) : EReal := Ideal.div (∑ k, x k * x k) len + eps
def rs (x : Fin 1024 → EReal) : EReal := Ideal.rsqrt (ms x)

/-- The derivative in the form that shares the normed row. -/
def near (x t : Fin 1024 → EReal) (d : Fin 1024) : EReal :=
  rs x * (t d - x d * rs x * Ideal.div (∑ k, t k * (x k * rs x)) len)

/-- The factor of the row by the derivative of the reciprocal root. -/
def pull (x t : Fin 1024 → EReal) : EReal :=
  Ideal.div ((∑ k, x k * t k) * (negHalf * Ideal.div (rs x) (ms x))) len

theorem div_len (a : EReal) : Ideal.div a len = a * ((1 / 1024 : ℝ) : EReal) := by
  show Ideal.div a (Ideal.ofBits .f32 0x44800000#32) = _
  rw [Ffn.ofBits_1024]
  exact Ideal.div_coe (y := 1024) (by norm_num) a

theorem mul_sum {ι : Type} [DecidableEq ι] (c : ℝ) (hc : 0 ≤ c) (s : Finset ι) (f : ι → EReal) :
    (c : EReal) * ∑ k ∈ s, f k = ∑ k ∈ s, (c : EReal) * f k := by
  induction s using Finset.induction with
  | empty => simp
  | insert a s ha ih =>
    rw [Finset.sum_insert ha, Finset.sum_insert ha, ← ih]
    exact EReal.left_distrib_of_nonneg_of_ne_top (EReal.coe_nonneg.mpr hc) (EReal.coe_ne_top c) _ _

theorem mul_double (s : EReal) (a : ℝ) : s * ((a + a : ℝ) : EReal) = s * (a : EReal) + s * (a : EReal) := by
  induction s using EReal.rec with
  | coe r => rw [← EReal.coe_mul, ← EReal.coe_mul, ← EReal.coe_add, mul_add]
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl

theorem sq_nonneg (a : EReal) : 0 ≤ a * a :=
  EReal.mul_nonneg_iff.mpr ((le_total 0 a).imp (fun h => ⟨h, h⟩) fun h => ⟨h, h⟩)

theorem real_or_top (x : Fin 1024 → EReal) :
    (∃ y : Fin 1024 → ℝ, x = fun k => ((y k : ℝ) : EReal)) ∨ ms x = ⊤ := by
  by_cases h : ∀ k, x k ≠ ⊥ ∧ x k ≠ ⊤
  · exact .inl ⟨fun k => (x k).toReal, funext fun k => (EReal.coe_toReal (h k).2 (h k).1).symm⟩
  · right
    obtain ⟨k, hk⟩ := not_forall.mp h
    have hs : x k * x k = ⊤ := by
      by_cases hb : x k = ⊥
      · rw [hb]; rfl
      · rw [not_not.mp fun ht => hk ⟨hb, ht⟩]; rfl
    have hr : ∑ j ∈ Finset.univ.erase k, x j * x j ≠ ⊥ := fun e =>
      absurd (e ▸ Finset.sum_nonneg fun j _ => sq_nonneg (x j) : (0 : EReal) ≤ ⊥) (by simp)
    have hsum : ∑ j, x j * x j = ⊤ := by
      rw [← Finset.add_sum_erase Finset.univ (fun j => x j * x j) (Finset.mem_univ k)]
      show x k * x k + _ = ⊤
      rw [hs]
      exact EReal.top_add_of_ne_bot hr
    unfold ms
    rw [hsum, div_len, EReal.top_mul_coe_of_pos (by norm_num)]
    show ⊤ + Ideal.ofBits .f32 0x358637BD#32 = ⊤
    rw [Ffn.ofBits_eps]
    exact EReal.top_add_coe _

theorem ms_coe (y : Fin 1024 → ℝ) : ms (fun k => ((y k : ℝ) : EReal)) = ((Ffn.ms y : ℝ) : EReal) := by
  unfold ms
  rw [div_len]
  show _ + Ideal.ofBits .f32 0x358637BD#32 = _
  rw [Ffn.ofBits_eps, show ∑ k, ((y k : ℝ) : EReal) * ((y k : ℝ) : EReal) = ((∑ k, y k * y k : ℝ) : EReal) from
    (Finset.sum_congr rfl fun k _ => (EReal.coe_mul _ _).symm).trans (Ffn.coe_sum _), ← EReal.coe_mul, ← EReal.coe_add]
  exact congrArg _ (by unfold Ffn.ms; ring)

theorem rs_coe (y : Fin 1024 → ℝ) : rs (fun k => ((y k : ℝ) : EReal)) = ((Ffn.rr y : ℝ) : EReal) := by
  unfold rs
  rw [ms_coe, Ffn.rsqrt_pos _ (Ffn.ms_pos y)]
  rfl

/-- The two forms of the derivative. -/
theorem near_eq (x t : Fin 1024 → EReal) (d : Fin 1024) :
    near x t d = t d * rs x + x d * pull x t + pull x t * x d := by
  rcases real_or_top x with ⟨y, rfl⟩ | h
  · unfold near pull
    rw [rs_coe, ms_coe, div_len, div_len, Ffn.div_coe_coe _ _ (Ffn.ms_pos y).ne']
    show _ = _ + _ * (_ * (Ideal.ofBits .f32 0xBF000000#32 * _) * _) + (_ * (Ideal.ofBits .f32 0xBF000000#32 * _) * _) * _
    rw [Ffn.ofBits_neg_half]
    have hr : 0 ≤ Ffn.rr y := inv_nonneg.mpr (Real.sqrt_nonneg _)
    have hS : ∑ k, t k * (((y k : ℝ) : EReal) * ((Ffn.rr y : ℝ) : EReal)) =
        ((Ffn.rr y : ℝ) : EReal) * ∑ k, ((y k : ℝ) : EReal) * t k := by
      rw [mul_sum _ hr]
      exact Finset.sum_congr rfl fun k _ => by
        rw [← mul_assoc, mul_comm (t k), mul_comm _ ((Ffn.rr y : ℝ) : EReal)]
    rw [hS]
    generalize ∑ k, ((y k : ℝ) : EReal) * t k = S
    have hm := Ffn.rr_sq y
    have hp := Ffn.ms_pos y
    generalize Ffn.rr y = r at *
    generalize Ffn.ms y = m at *
    have hc : (-(r * (y d * r * (r * (1 / 1024)))) : ℝ) =
        y d * (-(1 / 2) * (r / m) * (1 / 1024)) + y d * (-(1 / 2) * (r / m) * (1 / 1024)) := by
      have : r / m = r * r * r := by
        rw [div_eq_iff hp.ne']
        linear_combination (-r) * hm
      rw [this]; ring
    have e1 : ((r : ℝ) : EReal) * (t d - ((y d : ℝ) : EReal) * ((r : ℝ) : EReal) *
        (((r : ℝ) : EReal) * S * ((1 / 1024 : ℝ) : EReal))) =
        t d * ((r : ℝ) : EReal) + S * ((-(r * (y d * r * (r * (1 / 1024)))) : ℝ) : EReal) := by
      rw [sub_eq_add_neg, EReal.left_distrib_of_nonneg_of_ne_top (EReal.coe_nonneg.mpr hr) (EReal.coe_ne_top r),
        mul_neg, EReal.coe_neg, mul_neg, mul_comm ((r : ℝ) : EReal) (t d)]
      refine congrArg (fun a : EReal => t d * ((r : ℝ) : EReal) + -a) ?_
      rw [EReal.coe_mul, EReal.coe_mul, EReal.coe_mul, EReal.coe_mul]
      ac_rfl
    have e2 : ((y d : ℝ) : EReal) * (S * (((-(1 / 2) : ℝ) : EReal) * ((r / m : ℝ) : EReal)) * ((1 / 1024 : ℝ) : EReal)) =
        S * ((y d * (-(1 / 2) * (r / m) * (1 / 1024)) : ℝ) : EReal) := by
      rw [EReal.coe_mul, EReal.coe_mul, EReal.coe_mul (-(1 / 2))]
      ac_rfl
    refine e1.trans ?_
    rw [hc, mul_double, mul_comm _ ((y d : ℝ) : EReal), e2, add_assoc]
  · have hr : rs x = 0 := by unfold rs; rw [h]; exact Ideal.rsqrt_top
    have hp : pull x t = 0 := by
      unfold pull
      rw [hr, h]
      unfold Ideal.div
      rw [if_neg EReal.top_ne_zero, zero_mul, mul_zero, mul_zero]
      exact (div_len 0).trans (zero_mul _)
    unfold near
    rw [hr, hp, zero_mul, mul_zero, mul_zero, zero_mul, add_zero, add_zero]

end Cert.RmsBack

end
-- ==== Proof.RowOps.lean ====
module
public import Idealize.ShloMosaic.Lib.ValueIdxCore
public import Idealize.ShloMosaic.Lib.IdealHost
public import Idealize.ShloMosaic.Lib.Tactic
public import Idealize.ShloMosaic.Lib.Pipeline.ValueKit
public import Idealize.ShloMosaic.Lib.Pipeline.ValueKit.Tiles
public import proofs.«01_k».proof.Proof.Gen.Kernel13Ideal.Launch
public import proofs.«01_k».proof.Proof.RmsBack
public import proofs.«01_k».proof.Proof.DwSum

/-! Operations on a block of 512 rows of 1024, entry by entry, and sums over the rows of all blocks. -/

@[expose] public section

set_option maxRecDepth 16384

noncomputable section

open Idealize.ShloMosaic
open Idealize.ShloMosaic.ValueIdx

namespace Cert.RowOps

abbrev Blk : Shape := Kernel13Ideal.S512x1024
abbrev Row : Shape := Kernel13Ideal.S1x1024
abbrev Col : Shape := Kernel13Ideal.S512x1
abbrev Rows : Shape := Kernel13Ideal.S512
abbrev Cols : Shape := Kernel13Ideal.S1024

theorem hz : (![0, 0] : Fin 2 → Nat) = fun _ => 0 := funext fun a => by fin_cases a <;> rfl

/-- A row of a block. -/
def row (v : Blk.Idx → EReal) (r : Fin 512) (d : Fin 1024) : EReal := v (ValueIdx.ix2 r d)
/-- The one row of a block of one row. -/
def one (v : Row.Idx → EReal) (d : Fin 1024) : EReal := v (ValueIdx.ix2 (0 : Fin 1) d)

theorem sum_row (f : FVec Ideal Blk .f32) (h1 h2 h3) (r : Fin 512) :
    @Eq EReal (multiReduction .add [1] Rows f 0x00000000#32 h1 h2 h3 (ValueIdx.ix1 r)) (∑ k : Fin 1024, row f r k) := by
  rw [Ideal.multiReduction_add_single]
  refine Finset.sum_congr rfl fun k _ => ?_
  refine congrArg f (funext fun a => ?_)
  match a with | ⟨0, _⟩ => rfl | ⟨1, _⟩ => rfl

theorem sum_col (f : FVec Ideal Blk .f32) (h1 h2 h3) (d : Fin 1024) :
    @Eq EReal (multiReduction .add [0] Cols f 0x00000000#32 h1 h2 h3 (ValueIdx.ix1 d)) (∑ r : Fin 512, row f r d) := by
  rw [Ideal.multiReduction_add_single]
  refine Finset.sum_congr rfl fun k _ => ?_
  refine congrArg f (funext fun a => ?_)
  match a with | ⟨0, _⟩ => rfl | ⟨1, _⟩ => rfl

theorem sum_ones (f : FVec Ideal Col .f32) (h1 h2 h3) :
    @Eq EReal (multiReduction .add [0] Kernel13Ideal.S1 f 0x00000000#32 h1 h2 h3 (ValueIdx.ix1 (0 : Fin 1))) (∑ r : Fin 512, (f (ValueIdx.ix2 r (0 : Fin 1)) : EReal)) := by
  rw [Ideal.multiReduction_add_single]
  refine Finset.sum_congr rfl fun k _ => ?_
  refine congrArg f (funext fun a => ?_)
  match a with | ⟨0, _⟩ => rfl | ⟨1, _⟩ => rfl

theorem cast_col (v : Rows.Idx → EReal) (h) (r : Fin 512) : shapeCast Col v h (ValueIdx.ix2 r (0 : Fin 1)) = v (ValueIdx.ix1 r) :=
  shapeCast_apply _ _ (ValueIdx.ix2 r (0 : Fin 1)) (ValueIdx.ix1 r) (by
    rw [Shape.rowMajor_val_one, Shape.rowMajor_val_two]
    show r.val = r.val * 1 + 0
    omega)
theorem cast_row (v : Cols.Idx → EReal) (h) (d : Fin 1024) : shapeCast Row v h (ValueIdx.ix2 (0 : Fin 1) d) = v (ValueIdx.ix1 d) :=
  shapeCast_apply _ _ (ValueIdx.ix2 (0 : Fin 1) d) (ValueIdx.ix1 d) (by
    rw [Shape.rowMajor_val_one, Shape.rowMajor_val_two]
    show d.val = 0 * 1024 + d.val
    omega)
theorem cast_same (v : Row.Idx → EReal) (h) (d : Fin 1024) : shapeCast Row v h (ValueIdx.ix2 (0 : Fin 1) d) = one v d :=
  shapeCast_apply v _ (ValueIdx.ix2 (0 : Fin 1) d) (ValueIdx.ix2 (0 : Fin 1) d) rfl
theorem spread_col (v : Col.Idx → EReal) (h) (r : Fin 512) (d : Fin 1024) :
    broadcastTo Blk v h (ValueIdx.ix2 r d) = v (ValueIdx.ix2 r (0 : Fin 1)) :=
  broadcastTo_apply _ _ (ValueIdx.ix2 r d) (ValueIdx.ix2 r (0 : Fin 1)) (by intro a; match a with | ⟨0, _⟩ => rfl | ⟨1, _⟩ => rfl)
theorem spread_row (v : Row.Idx → EReal) (h) (r : Fin 512) (d : Fin 1024) :
    broadcastTo Blk v h (ValueIdx.ix2 r d) = one v d :=
  broadcastTo_apply _ _ (ValueIdx.ix2 r d) (ValueIdx.ix2 (0 : Fin 1) d) (by intro a; match a with | ⟨0, _⟩ => rfl | ⟨1, _⟩ => rfl)

theorem row_ext (v : Row.Idx → EReal) (p : Fin 1024 → EReal) (h : ∀ d, one v d = p d) : v = fun i => p (i 1) :=
  funext fun i => (congrArg v (funext fun a => by
    match a with
    | ⟨0, _⟩ => exact Fin.ext (by have h0 : (i 0).val < 1 := (i 0).isLt; show (i 0).val = 0; omega)
    | ⟨1, _⟩ => rfl)).trans (h (i 1))

/-- The sum of the rows of block `s`, out of 16. -/
def part (f : Fin 8192 → EReal) (s : ℕ) : EReal := ∑ r : Fin 512, DwSum.ext f (s * 512 + r.val)

theorem sum_part (f : Fin 8192 → EReal) : ∑ s ∈ Finset.range 16, part f s = ∑ l, f l :=
  (DwSum.blocks 16 512 (DwSum.ext f)).trans (DwSum.sum_ext f)

end Cert.RowOps

end
-- ==== Proof.Residues.lean ====
module
public import proofs.«01_k».proof.Proof.RowOps
public import proofs.«01_k».proof.Proof.Gen.Kernel12Ideal.Value

/-! Rows that are stored by residue, a residue's rows at a time, and read in order. -/

@[expose] public section

noncomputable section

open Idealize.ShloMosaic Idealize.ShloMosaic.TcCoe Idealize.SL.Sem
open Idealize.ShloMosaic.ValueIdx
open Cert.Kernel12Ideal Cert.Kernel12Ideal.Gen Cert.RowOps

namespace Cert.Residues

abbrev Plane : Shape := ⟨3, ![2, 512, 128]⟩
abbrev Slab (d n : ℕ) : Shape := ⟨3, ![d, n, 256]⟩
abbrev Strip (n : ℕ) : Shape := ⟨3, ![1, n, 128]⟩
abbrev Flat (n : ℕ) : Shape := ⟨2, ![n, 128]⟩

/-- The stores hold the rows `Y` in the first `k` pairs of a half and a residue. -/
def Good (Y : ℕ → ℕ → EReal) (d : ℕ) (L : List (View.Piece (Elt Ideal) Plane .f32)) (k : ℕ) : Prop :=
  ∀ y : Plane.Idx, d * (y 0).val + (y 1).val % d < k → @Eq EReal (View.canon L y) (Y (y 1).val (128 * (y 0).val + (y 2).val))

theorem good_zero (Y : ℕ → ℕ → EReal) (d : ℕ) (L : List (View.Piece (Elt Ideal) Plane .f32)) : Good Y d L 0 :=
  fun _ h => absurd h (Nat.not_lt_zero _)

theorem pair_eq {d a b h r : ℕ} (hb : b < d) (hr : r < d) (e : d * a + b = d * h + r) : a = h ∧ b = r := by
  have hd : 0 < d := by omega
  have h1 : (d * a + b) / d = (d * h + r) / d := by rw [e]
  rw [Nat.mul_add_div hd, Nat.mul_add_div hd, Nat.div_eq_of_lt hb, Nat.div_eq_of_lt hr] at h1
  have h2 : a = h := by omega
  subst h2
  exact ⟨rfl, by omega⟩

theorem good_step (Y : ℕ → ℕ → EReal) {d n : ℕ} (h r : ℕ) (hr : r < d) (hn : 512 ≤ d * n)
    (inb : ∀ a : Fin 3, (Strip n).size a = 0 ∨ (![h, r, 0] : Fin 3 → ℕ) a + (![1, d, 1] : Fin 3 → ℕ) a * ((Strip n).size a - 1) < Plane.size a)
    (pos : ∀ a : Fin 3, 0 < (![1, d, 1] : Fin 3 → ℕ) a) (w : (Strip n).Idx → EReal)
    (hw : ∀ (a : Fin n) (l : Fin 128), w (ValueIdx.ix3 (0 : Fin 1) a l) = Y (r + d * a.val) (128 * h + l.val))
    (L : List (View.Piece (Elt Ideal) Plane .f32)) (hL : Good Y d L (d * h + r)) :
    Good Y d (⟨(⟨(⟨![h, r, 0], (Strip n).size, ![1, d, 1], inb⟩ : LoadRect Plane), pos⟩ : Rect Plane), w⟩ :: L) (d * h + r + 1) := by
  intro y hy
  by_cases hm : y ∈ (⟨(⟨![h, r, 0], (Strip n).size, ![1, d, 1], inb⟩ : LoadRect Plane), pos⟩ : Rect Plane).set
  · obtain ⟨x, rfl⟩ := (⟨(⟨![h, r, 0], (Strip n).size, ![1, d, 1], inb⟩ : LoadRect Plane), pos⟩ : Rect Plane).exists_idx_of_mem hm
    refine (View.canon_cons_emb (Val := Elt Ideal) (e := .f32) (⟨(⟨![h, r, 0], (Strip n).size, ![1, d, 1], inb⟩ : LoadRect Plane), pos⟩ : Rect Plane) w L x).trans ?_
    have h0 : (x 0).val < 1 := (x 0).isLt
    have e : x = ValueIdx.ix3 (0 : Fin 1) (x 1) (x 2) := funext fun a => by
      match a with
      | ⟨0, _⟩ => exact Fin.ext (by show (x 0).val = 0; omega)
      | ⟨1, _⟩ => rfl
      | ⟨2, _⟩ => rfl
    refine (congrArg w e).trans ((hw (x 1) (x 2)).trans ?_)
    refine congrArg₂ Y rfl ?_
    show 128 * h + (x 2).val = 128 * (h + 1 * (x 0).val) + (0 + 1 * (x 2).val)
    omega
  · refine (View.canon_cons_of_not_mem (Val := Elt Ideal) (e := .f32) (⟨(⟨(⟨![h, r, 0], (Strip n).size, ![1, d, 1], inb⟩ : LoadRect Plane), pos⟩ : Rect Plane), w⟩ : View.Piece (Elt Ideal) Plane .f32) L hm).trans (hL y ?_)
    have hlt : (y 1).val % d < d := Nat.mod_lt _ (by omega)
    rcases Nat.lt_or_ge (d * (y 0).val + (y 1).val % d) (d * h + r) with hlt' | hge
    · exact hlt'
    · exfalso
      obtain ⟨e0, e1⟩ := pair_eq hlt hr (by omega : d * (y 0).val + (y 1).val % d = d * h + r)
      refine hm ((LoadRect.mem_set _).mpr fun a => ?_)
      have hy1 : (y 1).val < 512 := (y 1).isLt
      match a with
      | ⟨0, _⟩ => exact ⟨0, Nat.one_pos, by show (y 0).val = h + 1 * 0; omega⟩
      | ⟨1, _⟩ =>
        refine ⟨(y 1).val / d, ?_, ?_⟩
        · show (y 1).val / d < n
          exact Nat.div_lt_of_lt_mul (by omega)
        · show (y 1).val = r + d * ((y 1).val / d)
          have := Nat.div_add_mod (y 1).val d
          omega
      | ⟨2, _⟩ => exact ⟨(y 2).val, (y 2).isLt, by show (y 2).val = 0 + 1 * (y 2).val; omega⟩

/-- What a store takes from the rows of a residue. -/
theorem lift {d n : ℕ} (arg : Memref sig .tc .vmem (Slab d n) .bf16) (harg : arg.IsWhole) (X : Vec Ideal (Slab d n) .bf16)
    (Y : ℕ → ℕ → EReal) (hX : ∀ (r : Fin d) (a : Fin n) (l : Fin 256), @Eq EReal (X (ValueIdx.ix3 r a l)) (Y (r.val + d * a.val) l.val))
    (h r : ℕ) (hr : r < d) (hh : h < 2) (o : ℕ) (ho : o = 128 * h)
    (inb : ∀ a : Fin 3, (![r, 0, o] : Fin 3 → ℕ) a + (Strip n).size a ≤ (Slab d n).size a) (h1 h2 h3)
    (a : Fin n) (l : Fin 128) :
    @Eq EReal ((shapeCast (Strip n) (extf .f32 (shapeCast (Flat n) (arg.view.readAt (Elt Ideal)
      (Rect.unit (s := Slab d n) ![r, 0, o] (Strip n).size inb).toLoadRect (harg.unread X) : Vec Ideal (Strip n) .bf16) h1 : FVec Ideal (Flat n) .bf16) h2 : FVec Ideal (Flat n) .f32) h3 : FVec Ideal (Strip n) .f32)
      (ValueIdx.ix3 (0 : Fin 1) a l)) (Y (r + d * a.val) (128 * h + l.val)) := by
  subst ho
  refine (congrFun (shapeCast_shapeCast (arg.view.readAt (Elt Ideal)
      (Rect.unit (s := Slab d n) ![r, 0, 128 * h] (Strip n).size inb).toLoadRect (harg.unread X) : Vec Ideal (Strip n) .bf16) h1 h3) (ValueIdx.ix3 (0 : Fin 1) a l)).trans ?_
  rw [View.readAt_eq_ld, harg.read_unread]
  have hl : 128 * h + l.val < 256 := by have := l.isLt; omega
  refine Eq.trans ?_ (hX ⟨r, hr⟩ a ⟨128 * h + l.val, hl⟩)
  refine congrArg X (funext fun b => ?_)
  match b with
  | ⟨0, _⟩ => exact Fin.ext (by show r + 1 * 0 = r; omega)
  | ⟨1, _⟩ => exact Fin.ext (by show 0 + 1 * a.val = a.val; omega)
  | ⟨2, _⟩ => exact Fin.ext (by show 128 * h + 1 * l.val = 128 * h + l.val; omega)

/-- A half, read after the stores. -/
theorem read {d : ℕ} (hd : 0 < d) {Y : ℕ → ℕ → EReal} {L : List (View.Piece (Elt Ideal) Plane .f32)} (hL : Good Y d L (d * 1 + (d - 1) + 1))
    (v : View sig .tc .vmem Plane .f32) (h : ℕ) (hh : h < 2)
    (inb : ∀ a : Fin 3, (![h, 0, 0] : Fin 3 → ℕ) a + (Strip 512).size a ≤ Plane.size a) (l : Fin 512) (j : Fin 128) :
    @Eq EReal (v.readCov L (Rect.unit (s := Plane) ![h, 0, 0] (Strip 512).size inb).toLoadRect (ValueIdx.ix3 (0 : Fin 1) l j)) (Y l.val (128 * h + j.val)) := by
  rw [View.readCov_eq_canon']
  refine (hL ((Rect.unit (s := Plane) ![h, 0, 0] (Strip 512).size inb).toLoadRect.idx (ValueIdx.ix3 (0 : Fin 1) l j)) ?_).trans ?_
  · show d * (h + 1 * 0) + (0 + 1 * l.val) % d < d * 1 + (d - 1) + 1
    have h1 : (0 + 1 * l.val) % d < d := Nat.mod_lt _ hd
    have h2 : d * (h + 1 * 0) ≤ d * 1 := Nat.mul_le_mul_left d (by omega)
    omega
  · refine congrArg₂ Y ?_ ?_
    · show 0 + 1 * l.val = l.val; omega
    · show 128 * (h + 1 * 0) + (0 + 1 * j.val) = 128 * h + j.val; omega

/-- The two halves side by side. -/
theorem join (Y : ℕ → ℕ → EReal) (u v : Vec Ideal (Strip 512) .f32)
    (hu : ∀ (l : Fin 512) (j : Fin 128), @Eq EReal (u (ValueIdx.ix3 (0 : Fin 1) l j)) (Y l.val (128 * 0 + j.val)))
    (hv : ∀ (l : Fin 512) (j : Fin 128), @Eq EReal (v (ValueIdx.ix3 (0 : Fin 1) l j)) (Y l.val (128 * 1 + j.val)))
    (l : Fin 512) (j : Fin 256) : @Eq EReal (k0_pay16 u v (ValueIdx.ix2 l j)) (Y l.val j.val) := by
  unfold k0_pay16
  rcases Nat.lt_or_ge j.val 128 with hj | hj
  · refine (concatenate_pair_apply_left (t := S512x256) (s₁ := S512x128) (s₂ := S512x128) 1 _ _ concatenates_S512x128_S512x128_S512x256_d1 (ValueIdx.ix2 l j) rfl
      (ValueIdx.ix2 l (⟨j.val, hj⟩ : Fin 128)) (fun b => by match b with | ⟨0, _⟩ => rfl | ⟨1, _⟩ => rfl)).trans ?_
    refine (shapeCast_apply u _ (ValueIdx.ix2 l (⟨j.val, hj⟩ : Fin 128)) (ValueIdx.ix3 (0 : Fin 1) l (⟨j.val, hj⟩ : Fin 128)) ?_).trans ?_
    · rw [Shape.rowMajor_val_three, Shape.rowMajor_val_two]
      show (0 * 512 + l.val) * 128 + j.val = l.val * 128 + j.val; omega
    · exact (hu l ⟨j.val, hj⟩).trans (congrArg₂ Y rfl (by show 128 * 0 + j.val = j.val; omega))
  · have hj2 : j.val - 128 < 128 := by have := j.isLt; omega
    refine (concatenate_pair_apply_right (t := S512x256) (s₁ := S512x128) (s₂ := S512x128) 1 _ _ concatenates_S512x128_S512x128_S512x256_d1 (ValueIdx.ix2 l j) rfl rfl
      (ValueIdx.ix2 l (⟨j.val - 128, hj2⟩ : Fin 128)) (fun b hb => by match b with | ⟨0, _⟩ => rfl | ⟨1, _⟩ => exact absurd rfl hb)
      (by show j.val - 128 + 128 = j.val; omega)).trans ?_
    refine (shapeCast_apply v _ (ValueIdx.ix2 l (⟨j.val - 128, hj2⟩ : Fin 128)) (ValueIdx.ix3 (0 : Fin 1) l (⟨j.val - 128, hj2⟩ : Fin 128)) ?_).trans ?_
    · rw [Shape.rowMajor_val_three, Shape.rowMajor_val_two]
      show (0 * 512 + l.val) * 128 + (j.val - 128) = l.val * 128 + (j.val - 128); omega
    · exact (hv l ⟨j.val - 128, hj2⟩).trans (congrArg₂ Y rfl (by show 128 * 1 + (j.val - 128) = j.val; omega))

end Cert.Residues

end
-- ==== Proof.MixStage.lean ====
module
public import proofs.«01_k».proof.Proof.Residues

/-! The rows of the cotangent's pieces, stored by residue and read in order. -/

@[expose] public section

set_option maxRecDepth 16384

noncomputable section

open Idealize.ShloMosaic Idealize.ShloMosaic.TcCoe Idealize.SL.Sem
open Idealize.ShloMosaic.ValueIdx
open Cert.Kernel12Ideal Cert.Kernel12Ideal.Gen Cert.Residues

namespace Cert.MixIn

theorem good8 (c : Dev nD) (arg5 : Memref sig .tc .vmem S4x128x256 .bf16) (harg5 : arg5.IsWhole)
    (x4 : Vec Ideal S4x128x256 .bf16) (Y : ℕ → ℕ → EReal)
    (hX : ∀ (r : Fin 4) (a : Fin 128) (l : Fin 256), @Eq EReal (x4 (ValueIdx.ix3 r a l)) (Y (r.val + 4 * a.val) l.val)) :
    Good Y 4 (kernelRun0_B.sl.HS0_8 (F := Ideal) c arg5 harg5 x4) 8 := by
  unfold kernelRun0_B.sl.HS0_8
  exact
    good_step Y 1 3 (by decide) (by decide) _ _ _ (lift arg5 harg5 x4 Y hX 1 3 (by decide) (by decide) 128 rfl _ _ _ _) _ <|
    good_step Y 1 2 (by decide) (by decide) _ _ _ (lift arg5 harg5 x4 Y hX 1 2 (by decide) (by decide) 128 rfl _ _ _ _) _ <|
    good_step Y 1 1 (by decide) (by decide) _ _ _ (lift arg5 harg5 x4 Y hX 1 1 (by decide) (by decide) 128 rfl _ _ _ _) _ <|
    good_step Y 1 0 (by decide) (by decide) _ _ _ (lift arg5 harg5 x4 Y hX 1 0 (by decide) (by decide) 128 rfl _ _ _ _) _ <|
    good_step Y 0 3 (by decide) (by decide) _ _ _ (lift arg5 harg5 x4 Y hX 0 3 (by decide) (by decide) 0 rfl _ _ _ _) _ <|
    good_step Y 0 2 (by decide) (by decide) _ _ _ (lift arg5 harg5 x4 Y hX 0 2 (by decide) (by decide) 0 rfl _ _ _ _) _ <|
    good_step Y 0 1 (by decide) (by decide) _ _ _ (lift arg5 harg5 x4 Y hX 0 1 (by decide) (by decide) 0 rfl _ _ _ _) _ <|
    good_step Y 0 0 (by decide) (by decide) _ _ _ (lift arg5 harg5 x4 Y hX 0 0 (by decide) (by decide) 0 rfl _ _ _ _) _ <|
    good_zero Y 4 _

theorem good40 (c : Dev nD) (arg5 : Memref sig .tc .vmem S4x128x256 .bf16) (harg5 : arg5.IsWhole) (arg6 : Memref sig .tc .vmem S16x32x256 .bf16) (harg6 : arg6.IsWhole)
    (x4 : Vec Ideal S4x128x256 .bf16) (x5 : Vec Ideal S16x32x256 .bf16) (Y : ℕ → ℕ → EReal)
    (hX : ∀ (r : Fin 16) (a : Fin 32) (l : Fin 256), @Eq EReal (x5 (ValueIdx.ix3 r a l)) (Y (r.val + 16 * a.val) l.val)) :
    Good Y 16 (kernelRun0_B.sl.HS0_40 (F := Ideal) c arg5 harg5 arg6 harg6 x4 x5) 32 := by
  unfold kernelRun0_B.sl.HS0_40
  exact
    good_step Y 1 15 (by decide) (by decide) _ _ _ (lift arg6 harg6 x5 Y hX 1 15 (by decide) (by decide) 128 rfl _ _ _ _) _ <|
    good_step Y 1 14 (by decide) (by decide) _ _ _ (lift arg6 harg6 x5 Y hX 1 14 (by decide) (by decide) 128 rfl _ _ _ _) _ <|
    good_step Y 1 13 (by decide) (by decide) _ _ _ (lift arg6 harg6 x5 Y hX 1 13 (by decide) (by decide) 128 rfl _ _ _ _) _ <|
    good_step Y 1 12 (by decide) (by decide) _ _ _ (lift arg6 harg6 x5 Y hX 1 12 (by decide) (by decide) 128 rfl _ _ _ _) _ <|
    good_step Y 1 11 (by decide) (by decide) _ _ _ (lift arg6 harg6 x5 Y hX 1 11 (by decide) (by decide) 128 rfl _ _ _ _) _ <|
    good_step Y 1 10 (by decide) (by decide) _ _ _ (lift arg6 harg6 x5 Y hX 1 10 (by decide) (by decide) 128 rfl _ _ _ _) _ <|
    good_step Y 1 9 (by decide) (by decide) _ _ _ (lift arg6 harg6 x5 Y hX 1 9 (by decide) (by decide) 128 rfl _ _ _ _) _ <|
    good_step Y 1 8 (by decide) (by decide) _ _ _ (lift arg6 harg6 x5 Y hX 1 8 (by decide) (by decide) 128 rfl _ _ _ _) _ <|
    good_step Y 1 7 (by decide) (by decide) _ _ _ (lift arg6 harg6 x5 Y hX 1 7 (by decide) (by decide) 128 rfl _ _ _ _) _ <|
    good_step Y 1 6 (by decide) (by decide) _ _ _ (lift arg6 harg6 x5 Y hX 1 6 (by decide) (by decide) 128 rfl _ _ _ _) _ <|
    good_step Y 1 5 (by decide) (by decide) _ _ _ (lift arg6 harg6 x5 Y hX 1 5 (by decide) (by decide) 128 rfl _ _ _ _) _ <|
    good_step Y 1 4 (by decide) (by decide) _ _ _ (lift arg6 harg6 x5 Y hX 1 4 (by decide) (by decide) 128 rfl _ _ _ _) _ <|
    good_step Y 1 3 (by decide) (by decide) _ _ _ (lift arg6 harg6 x5 Y hX 1 3 (by decide) (by decide) 128 rfl _ _ _ _) _ <|
    good_step Y 1 2 (by decide) (by decide) _ _ _ (lift arg6 harg6 x5 Y hX 1 2 (by decide) (by decide) 128 rfl _ _ _ _) _ <|
    good_step Y 1 1 (by decide) (by decide) _ _ _ (lift arg6 harg6 x5 Y hX 1 1 (by decide) (by decide) 128 rfl _ _ _ _) _ <|
    good_step Y 1 0 (by decide) (by decide) _ _ _ (lift arg6 harg6 x5 Y hX 1 0 (by decide) (by decide) 128 rfl _ _ _ _) _ <|
    good_step Y 0 15 (by decide) (by decide) _ _ _ (lift arg6 harg6 x5 Y hX 0 15 (by decide) (by decide) 0 rfl _ _ _ _) _ <|
    good_step Y 0 14 (by decide) (by decide) _ _ _ (lift arg6 harg6 x5 Y hX 0 14 (by decide) (by decide) 0 rfl _ _ _ _) _ <|
    good_step Y 0 13 (by decide) (by decide) _ _ _ (lift arg6 harg6 x5 Y hX 0 13 (by decide) (by decide) 0 rfl _ _ _ _) _ <|
    good_step Y 0 12 (by decide) (by decide) _ _ _ (lift arg6 harg6 x5 Y hX 0 12 (by decide) (by decide) 0 rfl _ _ _ _) _ <|
    good_step Y 0 11 (by decide) (by decide) _ _ _ (lift arg6 harg6 x5 Y hX 0 11 (by decide) (by decide) 0 rfl _ _ _ _) _ <|
    good_step Y 0 10 (by decide) (by decide) _ _ _ (lift arg6 harg6 x5 Y hX 0 10 (by decide) (by decide) 0 rfl _ _ _ _) _ <|
    good_step Y 0 9 (by decide) (by decide) _ _ _ (lift arg6 harg6 x5 Y hX 0 9 (by decide) (by decide) 0 rfl _ _ _ _) _ <|
    good_step Y 0 8 (by decide) (by decide) _ _ _ (lift arg6 harg6 x5 Y hX 0 8 (by decide) (by decide) 0 rfl _ _ _ _) _ <|
    good_step Y 0 7 (by decide) (by decide) _ _ _ (lift arg6 harg6 x5 Y hX 0 7 (by decide) (by decide) 0 rfl _ _ _ _) _ <|
    good_step Y 0 6 (by decide) (by decide) _ _ _ (lift arg6 harg6 x5 Y hX 0 6 (by decide) (by decide) 0 rfl _ _ _ _) _ <|
    good_step Y 0 5 (by decide) (by decide) _ _ _ (lift arg6 harg6 x5 Y hX 0 5 (by decide) (by decide) 0 rfl _ _ _ _) _ <|
    good_step Y 0 4 (by decide) (by decide) _ _ _ (lift arg6 harg6 x5 Y hX 0 4 (by decide) (by decide) 0 rfl _ _ _ _) _ <|
    good_step Y 0 3 (by decide) (by decide) _ _ _ (lift arg6 harg6 x5 Y hX 0 3 (by decide) (by decide) 0 rfl _ _ _ _) _ <|
    good_step Y 0 2 (by decide) (by decide) _ _ _ (lift arg6 harg6 x5 Y hX 0 2 (by decide) (by decide) 0 rfl _ _ _ _) _ <|
    good_step Y 0 1 (by decide) (by decide) _ _ _ (lift arg6 harg6 x5 Y hX 0 1 (by decide) (by decide) 0 rfl _ _ _ _) _ <|
    good_step Y 0 0 (by decide) (by decide) _ _ _ (lift arg6 harg6 x5 Y hX 0 0 (by decide) (by decide) 0 rfl _ _ _ _) _ <|
    good_zero Y 16 _

theorem good48 (c : Dev nD) (arg5 : Memref sig .tc .vmem S4x128x256 .bf16) (harg5 : arg5.IsWhole) (arg6 : Memref sig .tc .vmem S16x32x256 .bf16) (harg6 : arg6.IsWhole) (arg8 : Memref sig .tc .vmem S4x128x256 .bf16) (harg8 : arg8.IsWhole)
    (x4 : Vec Ideal S4x128x256 .bf16) (x5 : Vec Ideal S16x32x256 .bf16) (x7 : Vec Ideal S4x128x256 .bf16) (Y : ℕ → ℕ → EReal)
    (hX : ∀ (r : Fin 4) (a : Fin 128) (l : Fin 256), @Eq EReal (x7 (ValueIdx.ix3 r a l)) (Y (r.val + 4 * a.val) l.val)) :
    Good Y 4 (kernelRun0_B.sl.HS0_48 (F := Ideal) c arg5 harg5 arg6 harg6 arg8 harg8 x4 x5 x7) 8 := by
  unfold kernelRun0_B.sl.HS0_48
  exact
    good_step Y 1 3 (by decide) (by decide) _ _ _ (lift arg8 harg8 x7 Y hX 1 3 (by decide) (by decide) 128 rfl _ _ _ _) _ <|
    good_step Y 1 2 (by decide) (by decide) _ _ _ (lift arg8 harg8 x7 Y hX 1 2 (by decide) (by decide) 128 rfl _ _ _ _) _ <|
    good_step Y 1 1 (by decide) (by decide) _ _ _ (lift arg8 harg8 x7 Y hX 1 1 (by decide) (by decide) 128 rfl _ _ _ _) _ <|
    good_step Y 1 0 (by decide) (by decide) _ _ _ (lift arg8 harg8 x7 Y hX 1 0 (by decide) (by decide) 128 rfl _ _ _ _) _ <|
    good_step Y 0 3 (by decide) (by decide) _ _ _ (lift arg8 harg8 x7 Y hX 0 3 (by decide) (by decide) 0 rfl _ _ _ _) _ <|
    good_step Y 0 2 (by decide) (by decide) _ _ _ (lift arg8 harg8 x7 Y hX 0 2 (by decide) (by decide) 0 rfl _ _ _ _) _ <|
    good_step Y 0 1 (by decide) (by decide) _ _ _ (lift arg8 harg8 x7 Y hX 0 1 (by decide) (by decide) 0 rfl _ _ _ _) _ <|
    good_step Y 0 0 (by decide) (by decide) _ _ _ (lift arg8 harg8 x7 Y hX 0 0 (by decide) (by decide) 0 rfl _ _ _ _) _ <|
    good_zero Y 4 _

theorem good80 (c : Dev nD) (arg5 : Memref sig .tc .vmem S4x128x256 .bf16) (harg5 : arg5.IsWhole) (arg6 : Memref sig .tc .vmem S16x32x256 .bf16) (harg6 : arg6.IsWhole) (arg8 : Memref sig .tc .vmem S4x128x256 .bf16) (harg8 : arg8.IsWhole) (arg9 : Memref sig .tc .vmem S16x32x256 .bf16) (harg9 : arg9.IsWhole)
    (x4 : Vec Ideal S4x128x256 .bf16) (x5 : Vec Ideal S16x32x256 .bf16) (x7 : Vec Ideal S4x128x256 .bf16) (x8 : Vec Ideal S16x32x256 .bf16) (Y : ℕ → ℕ → EReal)
    (hX : ∀ (r : Fin 16) (a : Fin 32) (l : Fin 256), @Eq EReal (x8 (ValueIdx.ix3 r a l)) (Y (r.val + 16 * a.val) l.val)) :
    Good Y 16 (kernelRun0_B.sl.HS0_80 (F := Ideal) c arg5 harg5 arg6 harg6 arg8 harg8 arg9 harg9 x4 x5 x7 x8) 32 := by
  unfold kernelRun0_B.sl.HS0_80 kernelRun0_B.sl.r_15
  exact
    good_step Y 1 15 (by decide) (by decide) _ _ _ (lift arg9 harg9 x8 Y hX 1 15 (by decide) (by decide) 128 rfl _ _ _ _) _ <|
    good_step Y 1 14 (by decide) (by decide) _ _ _ (lift arg9 harg9 x8 Y hX 1 14 (by decide) (by decide) 128 rfl _ _ _ _) _ <|
    good_step Y 1 13 (by decide) (by decide) _ _ _ (lift arg9 harg9 x8 Y hX 1 13 (by decide) (by decide) 128 rfl _ _ _ _) _ <|
    good_step Y 1 12 (by decide) (by decide) _ _ _ (lift arg9 harg9 x8 Y hX 1 12 (by decide) (by decide) 128 rfl _ _ _ _) _ <|
    good_step Y 1 11 (by decide) (by decide) _ _ _ (lift arg9 harg9 x8 Y hX 1 11 (by decide) (by decide) 128 rfl _ _ _ _) _ <|
    good_step Y 1 10 (by decide) (by decide) _ _ _ (lift arg9 harg9 x8 Y hX 1 10 (by decide) (by decide) 128 rfl _ _ _ _) _ <|
    good_step Y 1 9 (by decide) (by decide) _ _ _ (lift arg9 harg9 x8 Y hX 1 9 (by decide) (by decide) 128 rfl _ _ _ _) _ <|
    good_step Y 1 8 (by decide) (by decide) _ _ _ (lift arg9 harg9 x8 Y hX 1 8 (by decide) (by decide) 128 rfl _ _ _ _) _ <|
    good_step Y 1 7 (by decide) (by decide) _ _ _ (lift arg9 harg9 x8 Y hX 1 7 (by decide) (by decide) 128 rfl _ _ _ _) _ <|
    good_step Y 1 6 (by decide) (by decide) _ _ _ (lift arg9 harg9 x8 Y hX 1 6 (by decide) (by decide) 128 rfl _ _ _ _) _ <|
    good_step Y 1 5 (by decide) (by decide) _ _ _ (lift arg9 harg9 x8 Y hX 1 5 (by decide) (by decide) 128 rfl _ _ _ _) _ <|
    good_step Y 1 4 (by decide) (by decide) _ _ _ (lift arg9 harg9 x8 Y hX 1 4 (by decide) (by decide) 128 rfl _ _ _ _) _ <|
    good_step Y 1 3 (by decide) (by decide) _ _ _ (lift arg9 harg9 x8 Y hX 1 3 (by decide) (by decide) 128 rfl _ _ _ _) _ <|
    good_step Y 1 2 (by decide) (by decide) _ _ _ (lift arg9 harg9 x8 Y hX 1 2 (by decide) (by decide) 128 rfl _ _ _ _) _ <|
    good_step Y 1 1 (by decide) (by decide) _ _ _ (lift arg9 harg9 x8 Y hX 1 1 (by decide) (by decide) 128 rfl _ _ _ _) _ <|
    good_step Y 1 0 (by decide) (by decide) _ _ _ (lift arg9 harg9 x8 Y hX 1 0 (by decide) (by decide) 128 rfl _ _ _ _) _ <|
    good_step Y 0 15 (by decide) (by decide) _ _ _ (lift arg9 harg9 x8 Y hX 0 15 (by decide) (by decide) 0 rfl _ _ _ _) _ <|
    good_step Y 0 14 (by decide) (by decide) _ _ _ (lift arg9 harg9 x8 Y hX 0 14 (by decide) (by decide) 0 rfl _ _ _ _) _ <|
    good_step Y 0 13 (by decide) (by decide) _ _ _ (lift arg9 harg9 x8 Y hX 0 13 (by decide) (by decide) 0 rfl _ _ _ _) _ <|
    good_step Y 0 12 (by decide) (by decide) _ _ _ (lift arg9 harg9 x8 Y hX 0 12 (by decide) (by decide) 0 rfl _ _ _ _) _ <|
    good_step Y 0 11 (by decide) (by decide) _ _ _ (lift arg9 harg9 x8 Y hX 0 11 (by decide) (by decide) 0 rfl _ _ _ _) _ <|
    good_step Y 0 10 (by decide) (by decide) _ _ _ (lift arg9 harg9 x8 Y hX 0 10 (by decide) (by decide) 0 rfl _ _ _ _) _ <|
    good_step Y 0 9 (by decide) (by decide) _ _ _ (lift arg9 harg9 x8 Y hX 0 9 (by decide) (by decide) 0 rfl _ _ _ _) _ <|
    good_step Y 0 8 (by decide) (by decide) _ _ _ (lift arg9 harg9 x8 Y hX 0 8 (by decide) (by decide) 0 rfl _ _ _ _) _ <|
    good_step Y 0 7 (by decide) (by decide) _ _ _ (lift arg9 harg9 x8 Y hX 0 7 (by decide) (by decide) 0 rfl _ _ _ _) _ <|
    good_step Y 0 6 (by decide) (by decide) _ _ _ (lift arg9 harg9 x8 Y hX 0 6 (by decide) (by decide) 0 rfl _ _ _ _) _ <|
    good_step Y 0 5 (by decide) (by decide) _ _ _ (lift arg9 harg9 x8 Y hX 0 5 (by decide) (by decide) 0 rfl _ _ _ _) _ <|
    good_step Y 0 4 (by decide) (by decide) _ _ _ (lift arg9 harg9 x8 Y hX 0 4 (by decide) (by decide) 0 rfl _ _ _ _) _ <|
    good_step Y 0 3 (by decide) (by decide) _ _ _ (lift arg9 harg9 x8 Y hX 0 3 (by decide) (by decide) 0 rfl _ _ _ _) _ <|
    good_step Y 0 2 (by decide) (by decide) _ _ _ (lift arg9 harg9 x8 Y hX 0 2 (by decide) (by decide) 0 rfl _ _ _ _) _ <|
    good_step Y 0 1 (by decide) (by decide) _ _ _ (lift arg9 harg9 x8 Y hX 0 1 (by decide) (by decide) 0 rfl _ _ _ _) _ <|
    good_step Y 0 0 (by decide) (by decide) _ _ _ (lift arg9 harg9 x8 Y hX 0 0 (by decide) (by decide) 0 rfl _ _ _ _) _ <|
    good_zero Y 16 _

theorem good88 (c : Dev nD) (arg5 : Memref sig .tc .vmem S4x128x256 .bf16) (harg5 : arg5.IsWhole) (arg6 : Memref sig .tc .vmem S16x32x256 .bf16) (harg6 : arg6.IsWhole) (arg8 : Memref sig .tc .vmem S4x128x256 .bf16) (harg8 : arg8.IsWhole) (arg9 : Memref sig .tc .vmem S16x32x256 .bf16) (harg9 : arg9.IsWhole) (arg11 : Memref sig .tc .vmem S4x128x256 .bf16) (harg11 : arg11.IsWhole)
    (x4 : Vec Ideal S4x128x256 .bf16) (x5 : Vec Ideal S16x32x256 .bf16) (x7 : Vec Ideal S4x128x256 .bf16) (x8 : Vec Ideal S16x32x256 .bf16) (x10 : Vec Ideal S4x128x256 .bf16) (Y : ℕ → ℕ → EReal)
    (hX : ∀ (r : Fin 4) (a : Fin 128) (l : Fin 256), @Eq EReal (x10 (ValueIdx.ix3 r a l)) (Y (r.val + 4 * a.val) l.val)) :
    Good Y 4 (kernelRun0_B.sl.HS0_88 (F := Ideal) c arg5 harg5 arg6 harg6 arg8 harg8 arg9 harg9 arg11 harg11 x4 x5 x7 x8 x10) 8 := by
  unfold kernelRun0_B.sl.HS0_88
  exact
    good_step Y 1 3 (by decide) (by decide) _ _ _ (lift arg11 harg11 x10 Y hX 1 3 (by decide) (by decide) 128 rfl _ _ _ _) _ <|
    good_step Y 1 2 (by decide) (by decide) _ _ _ (lift arg11 harg11 x10 Y hX 1 2 (by decide) (by decide) 128 rfl _ _ _ _) _ <|
    good_step Y 1 1 (by decide) (by decide) _ _ _ (lift arg11 harg11 x10 Y hX 1 1 (by decide) (by decide) 128 rfl _ _ _ _) _ <|
    good_step Y 1 0 (by decide) (by decide) _ _ _ (lift arg11 harg11 x10 Y hX 1 0 (by decide) (by decide) 128 rfl _ _ _ _) _ <|
    good_step Y 0 3 (by decide) (by decide) _ _ _ (lift arg11 harg11 x10 Y hX 0 3 (by decide) (by decide) 0 rfl _ _ _ _) _ <|
    good_step Y 0 2 (by decide) (by decide) _ _ _ (lift arg11 harg11 x10 Y hX 0 2 (by decide) (by decide) 0 rfl _ _ _ _) _ <|
    good_step Y 0 1 (by decide) (by decide) _ _ _ (lift arg11 harg11 x10 Y hX 0 1 (by decide) (by decide) 0 rfl _ _ _ _) _ <|
    good_step Y 0 0 (by decide) (by decide) _ _ _ (lift arg11 harg11 x10 Y hX 0 0 (by decide) (by decide) 0 rfl _ _ _ _) _ <|
    good_zero Y 4 _

theorem good120 (c : Dev nD) (arg5 : Memref sig .tc .vmem S4x128x256 .bf16) (harg5 : arg5.IsWhole) (arg6 : Memref sig .tc .vmem S16x32x256 .bf16) (harg6 : arg6.IsWhole) (arg8 : Memref sig .tc .vmem S4x128x256 .bf16) (harg8 : arg8.IsWhole) (arg9 : Memref sig .tc .vmem S16x32x256 .bf16) (harg9 : arg9.IsWhole) (arg11 : Memref sig .tc .vmem S4x128x256 .bf16) (harg11 : arg11.IsWhole) (arg12 : Memref sig .tc .vmem S16x32x256 .bf16) (harg12 : arg12.IsWhole)
    (x4 : Vec Ideal S4x128x256 .bf16) (x5 : Vec Ideal S16x32x256 .bf16) (x7 : Vec Ideal S4x128x256 .bf16) (x8 : Vec Ideal S16x32x256 .bf16) (x10 : Vec Ideal S4x128x256 .bf16) (x11 : Vec Ideal S16x32x256 .bf16) (Y : ℕ → ℕ → EReal)
    (hX : ∀ (r : Fin 16) (a : Fin 32) (l : Fin 256), @Eq EReal (x11 (ValueIdx.ix3 r a l)) (Y (r.val + 16 * a.val) l.val)) :
    Good Y 16 (kernelRun0_B.sl.HS0_120 (F := Ideal) c arg5 harg5 arg6 harg6 arg8 harg8 arg9 harg9 arg11 harg11 arg12 harg12 x4 x5 x7 x8 x10 x11) 32 := by
  unfold kernelRun0_B.sl.HS0_120 kernelRun0_B.sl.HS0_113 kernelRun0_B.sl.r_21
  exact
    good_step Y 1 15 (by decide) (by decide) _ _ _ (lift arg12 harg12 x11 Y hX 1 15 (by decide) (by decide) 128 rfl _ _ _ _) _ <|
    good_step Y 1 14 (by decide) (by decide) _ _ _ (lift arg12 harg12 x11 Y hX 1 14 (by decide) (by decide) 128 rfl _ _ _ _) _ <|
    good_step Y 1 13 (by decide) (by decide) _ _ _ (lift arg12 harg12 x11 Y hX 1 13 (by decide) (by decide) 128 rfl _ _ _ _) _ <|
    good_step Y 1 12 (by decide) (by decide) _ _ _ (lift arg12 harg12 x11 Y hX 1 12 (by decide) (by decide) 128 rfl _ _ _ _) _ <|
    good_step Y 1 11 (by decide) (by decide) _ _ _ (lift arg12 harg12 x11 Y hX 1 11 (by decide) (by decide) 128 rfl _ _ _ _) _ <|
    good_step Y 1 10 (by decide) (by decide) _ _ _ (lift arg12 harg12 x11 Y hX 1 10 (by decide) (by decide) 128 rfl _ _ _ _) _ <|
    good_step Y 1 9 (by decide) (by decide) _ _ _ (lift arg12 harg12 x11 Y hX 1 9 (by decide) (by decide) 128 rfl _ _ _ _) _ <|
    good_step Y 1 8 (by decide) (by decide) _ _ _ (lift arg12 harg12 x11 Y hX 1 8 (by decide) (by decide) 128 rfl _ _ _ _) _ <|
    good_step Y 1 7 (by decide) (by decide) _ _ _ (lift arg12 harg12 x11 Y hX 1 7 (by decide) (by decide) 128 rfl _ _ _ _) _ <|
    good_step Y 1 6 (by decide) (by decide) _ _ _ (lift arg12 harg12 x11 Y hX 1 6 (by decide) (by decide) 128 rfl _ _ _ _) _ <|
    good_step Y 1 5 (by decide) (by decide) _ _ _ (lift arg12 harg12 x11 Y hX 1 5 (by decide) (by decide) 128 rfl _ _ _ _) _ <|
    good_step Y 1 4 (by decide) (by decide) _ _ _ (lift arg12 harg12 x11 Y hX 1 4 (by decide) (by decide) 128 rfl _ _ _ _) _ <|
    good_step Y 1 3 (by decide) (by decide) _ _ _ (lift arg12 harg12 x11 Y hX 1 3 (by decide) (by decide) 128 rfl _ _ _ _) _ <|
    good_step Y 1 2 (by decide) (by decide) _ _ _ (lift arg12 harg12 x11 Y hX 1 2 (by decide) (by decide) 128 rfl _ _ _ _) _ <|
    good_step Y 1 1 (by decide) (by decide) _ _ _ (lift arg12 harg12 x11 Y hX 1 1 (by decide) (by decide) 128 rfl _ _ _ _) _ <|
    good_step Y 1 0 (by decide) (by decide) _ _ _ (lift arg12 harg12 x11 Y hX 1 0 (by decide) (by decide) 128 rfl _ _ _ _) _ <|
    good_step Y 0 15 (by decide) (by decide) _ _ _ (lift arg12 harg12 x11 Y hX 0 15 (by decide) (by decide) 0 rfl _ _ _ _) _ <|
    good_step Y 0 14 (by decide) (by decide) _ _ _ (lift arg12 harg12 x11 Y hX 0 14 (by decide) (by decide) 0 rfl _ _ _ _) _ <|
    good_step Y 0 13 (by decide) (by decide) _ _ _ (lift arg12 harg12 x11 Y hX 0 13 (by decide) (by decide) 0 rfl _ _ _ _) _ <|
    good_step Y 0 12 (by decide) (by decide) _ _ _ (lift arg12 harg12 x11 Y hX 0 12 (by decide) (by decide) 0 rfl _ _ _ _) _ <|
    good_step Y 0 11 (by decide) (by decide) _ _ _ (lift arg12 harg12 x11 Y hX 0 11 (by decide) (by decide) 0 rfl _ _ _ _) _ <|
    good_step Y 0 10 (by decide) (by decide) _ _ _ (lift arg12 harg12 x11 Y hX 0 10 (by decide) (by decide) 0 rfl _ _ _ _) _ <|
    good_step Y 0 9 (by decide) (by decide) _ _ _ (lift arg12 harg12 x11 Y hX 0 9 (by decide) (by decide) 0 rfl _ _ _ _) _ <|
    good_step Y 0 8 (by decide) (by decide) _ _ _ (lift arg12 harg12 x11 Y hX 0 8 (by decide) (by decide) 0 rfl _ _ _ _) _ <|
    good_step Y 0 7 (by decide) (by decide) _ _ _ (lift arg12 harg12 x11 Y hX 0 7 (by decide) (by decide) 0 rfl _ _ _ _) _ <|
    good_step Y 0 6 (by decide) (by decide) _ _ _ (lift arg12 harg12 x11 Y hX 0 6 (by decide) (by decide) 0 rfl _ _ _ _) _ <|
    good_step Y 0 5 (by decide) (by decide) _ _ _ (lift arg12 harg12 x11 Y hX 0 5 (by decide) (by decide) 0 rfl _ _ _ _) _ <|
    good_step Y 0 4 (by decide) (by decide) _ _ _ (lift arg12 harg12 x11 Y hX 0 4 (by decide) (by decide) 0 rfl _ _ _ _) _ <|
    good_step Y 0 3 (by decide) (by decide) _ _ _ (lift arg12 harg12 x11 Y hX 0 3 (by decide) (by decide) 0 rfl _ _ _ _) _ <|
    good_step Y 0 2 (by decide) (by decide) _ _ _ (lift arg12 harg12 x11 Y hX 0 2 (by decide) (by decide) 0 rfl _ _ _ _) _ <|
    good_step Y 0 1 (by decide) (by decide) _ _ _ (lift arg12 harg12 x11 Y hX 0 1 (by decide) (by decide) 0 rfl _ _ _ _) _ <|
    good_step Y 0 0 (by decide) (by decide) _ _ _ (lift arg12 harg12 x11 Y hX 0 0 (by decide) (by decide) 0 rfl _ _ _ _) _ <|
    good_zero Y 16 _

end Cert.MixIn

end
-- ==== Proof.MixRows.lean ====
module
public import proofs.«01_k».proof.Proof.MixStage
public import proofs.«01_k».proof.Proof.RmsBack

/-! The kernel of the mixing layer's entry: what a point of its grid writes. -/

@[expose] public section

set_option maxRecDepth 16384

noncomputable section

open Idealize.ShloMosaic Idealize.ShloMosaic.TcCoe Idealize.SL.Sem
open Idealize.ShloMosaic.Pipeline (Dat)
open Idealize.ShloMosaic.ValueIdx
open Cert.Kernel12Ideal Cert.Kernel12Ideal.Gen Cert.Residues Cert.RowOps
open Cert.FfnRow (half len)
open Cert.RmsBack (rs near)

namespace Cert.MixIn

/-- The pieces are those of the rows `Z`. -/
structure Pieces (Z : ℕ → ℕ → EReal) (x3 : Vec Ideal S1x512x256 .bf16) (x4 : Vec Ideal S4x128x256 .bf16) (x5 : Vec Ideal S16x32x256 .bf16) (x6 : Vec Ideal S1x512x256 .bf16) (x7 : Vec Ideal S4x128x256 .bf16) (x8 : Vec Ideal S16x32x256 .bf16) (x9 : Vec Ideal S1x512x256 .bf16) (x10 : Vec Ideal S4x128x256 .bf16) (x11 : Vec Ideal S16x32x256 .bf16) (x12 : Vec Ideal S512x512 .f32) (x13 : Vec Ideal S512x2048 .bf16) : Prop where
  h3 : ∀ (l : Fin 512) (j : Fin 256), @Eq EReal (x3 (ValueIdx.ix3 (0 : Fin 1) l j)) (Z l.val (0 + j.val))
  h4 : ∀ (r : Fin 4) (a : Fin 128) (j : Fin 256), @Eq EReal (x4 (ValueIdx.ix3 r a j)) (Z (r.val + 4 * a.val) (256 + j.val))
  h5 : ∀ (r : Fin 16) (a : Fin 32) (j : Fin 256), @Eq EReal (x5 (ValueIdx.ix3 r a j)) (Z (r.val + 16 * a.val) (512 + j.val))
  h6 : ∀ (l : Fin 512) (j : Fin 256), @Eq EReal (x6 (ValueIdx.ix3 (0 : Fin 1) l j)) (Z l.val (768 + j.val))
  h7 : ∀ (r : Fin 4) (a : Fin 128) (j : Fin 256), @Eq EReal (x7 (ValueIdx.ix3 r a j)) (Z (r.val + 4 * a.val) (1024 + j.val))
  h8 : ∀ (r : Fin 16) (a : Fin 32) (j : Fin 256), @Eq EReal (x8 (ValueIdx.ix3 r a j)) (Z (r.val + 16 * a.val) (1280 + j.val))
  h9 : ∀ (l : Fin 512) (j : Fin 256), @Eq EReal (x9 (ValueIdx.ix3 (0 : Fin 1) l j)) (Z l.val (1536 + j.val))
  h10 : ∀ (r : Fin 4) (a : Fin 128) (j : Fin 256), @Eq EReal (x10 (ValueIdx.ix3 r a j)) (Z (r.val + 4 * a.val) (1792 + j.val))
  h11 : ∀ (r : Fin 16) (a : Fin 32) (j : Fin 256), @Eq EReal (x11 (ValueIdx.ix3 r a j)) (Z (r.val + 16 * a.val) (2048 + j.val))
  h12 : ∀ (l : Fin 512) (j : Fin 512), @Eq EReal (x12 (ValueIdx.ix2 l j)) (Z l.val (2304 + j.val))
  h13 : ∀ (l : Fin 512) (j : Fin 2048), @Eq EReal (x13 (ValueIdx.ix2 l j)) (Z l.val (2816 + j.val))

theorem tile (Z : ℕ → ℕ → EReal) (l : Fin 512) (k : Fin 4864) (o : ℕ) {n : ℕ} (w : (⟨2, ![512, n]⟩ : Shape).Idx → EReal)
    (hw : ∀ (a : Fin 512) (b : Fin n), w (ValueIdx.ix2 a b) = Z a.val (o + b.val)) :
    View.TileAt (Val := Elt Ideal) (S := S512x4864) (e := .bf16) (ValueIdx.ix2 l k) ![0, o] ![512, n] w (Z l.val k.val) := by
  intro x hx
  have h0 : l.val = 0 + (x 0).val := hx 0
  have h1 : k.val = o + (x 1).val := hx 1
  have e : x = ValueIdx.ix2 (x 0) (x 1) := funext fun a => by match a with | ⟨0, _⟩ => rfl | ⟨1, _⟩ => rfl
  exact (congrArg w e).trans ((hw (x 0) (x 1)).trans (congrArg₂ Z (by omega) h1.symm))

theorem flat (arg : Memref sig .tc .vmem S1x512x256 .bf16) (harg : arg.IsWhole) (X : Vec Ideal S1x512x256 .bf16) (inb)
    (l : Fin 512) (j : Fin 256) :
    @Eq EReal (k0_pay6 (arg.view.readAt (Elt Ideal) (Rect.unit (s := S1x512x256) ![0, 0, 0] S1x512x256.size inb).toLoadRect (harg.unread X)) (ValueIdx.ix2 l j))
      (X (ValueIdx.ix3 (0 : Fin 1) l j)) := by
  rw [View.readAt_eq_ld, harg.read_unread, View.ld_unit_zero (funext fun a => by fin_cases a <;> rfl)]
  exact shapeCast_apply X _ (ValueIdx.ix2 l j) (ValueIdx.ix3 (0 : Fin 1) l j) (by
    rw [Shape.rowMajor_val_three, Shape.rowMajor_val_two]
    show (0 * 512 + l.val) * 256 + j.val = l.val * 256 + j.val
    omega)

theorem inner (arg : Memref sig .tc .vmem S512x512 .f32) (harg : arg.IsWhole) (X : Vec Ideal S512x512 .f32) (inb)
    (l : Fin 512) (j : Fin 512) :
    @Eq EReal (k0_pay149 (arg.view.readAt (Elt Ideal) (Rect.unit (s := S512x512) ![0, 0] S512x512.size inb).toLoadRect (harg.unread X)) (ValueIdx.ix2 l j))
      (X (ValueIdx.ix2 l j)) := by
  rw [View.readAt_eq_ld, harg.read_unread, View.ld_unit_zero hz]
  exact shapeCast_apply X _ (ValueIdx.ix2 l j) (ValueIdx.ix2 l j) rfl

theorem gates (arg : Memref sig .tc .vmem S512x2048 .bf16) (harg : arg.IsWhole) (X : Vec Ideal S512x2048 .bf16) (inb)
    (l : Fin 512) (j : Fin 2048) :
    @Eq EReal (k0_pay150 (arg.view.readAt (Elt Ideal) (Rect.unit (s := S512x2048) ![0, 0] S512x2048.size inb).toLoadRect (harg.unread X)) (ValueIdx.ix2 l j))
      (X (ValueIdx.ix2 l j)) := by
  rw [View.readAt_eq_ld, harg.read_unread, View.ld_unit_zero hz]
  exact shapeCast_apply X _ (ValueIdx.ix2 l j) (ValueIdx.ix2 l j) rfl

/-- The assembled rows of the cotangent. -/
theorem rows_at (c : Dev nD) (arg4 : Memref sig .tc .vmem S1x512x256 .bf16) (harg4 : arg4.IsWhole)
    (arg5 : Memref sig .tc .vmem S4x128x256 .bf16) (harg5 : arg5.IsWhole)
    (arg6 : Memref sig .tc .vmem S16x32x256 .bf16) (harg6 : arg6.IsWhole)
    (arg7 : Memref sig .tc .vmem S1x512x256 .bf16) (harg7 : arg7.IsWhole)
    (arg8 : Memref sig .tc .vmem S4x128x256 .bf16) (harg8 : arg8.IsWhole)
    (arg9 : Memref sig .tc .vmem S16x32x256 .bf16) (harg9 : arg9.IsWhole)
    (arg10 : Memref sig .tc .vmem S1x512x256 .bf16) (harg10 : arg10.IsWhole)
    (arg11 : Memref sig .tc .vmem S4x128x256 .bf16) (harg11 : arg11.IsWhole)
    (arg12 : Memref sig .tc .vmem S16x32x256 .bf16) (harg12 : arg12.IsWhole)
    (arg13 : Memref sig .tc .vmem S512x512 .f32) (harg13 : arg13.IsWhole)
    (arg14 : Memref sig .tc .vmem S512x2048 .bf16) (harg14 : arg14.IsWhole)
    (arg20 : Memref sig .tc .vmem S2x512x128 .f32) (x3 : Vec Ideal S1x512x256 .bf16) (x4 : Vec Ideal S4x128x256 .bf16) (x5 : Vec Ideal S16x32x256 .bf16) (x6 : Vec Ideal S1x512x256 .bf16) (x7 : Vec Ideal S4x128x256 .bf16) (x8 : Vec Ideal S16x32x256 .bf16) (x9 : Vec Ideal S1x512x256 .bf16) (x10 : Vec Ideal S4x128x256 .bf16) (x11 : Vec Ideal S16x32x256 .bf16) (x12 : Vec Ideal S512x512 .f32) (x13 : Vec Ideal S512x2048 .bf16) (Z : ℕ → ℕ → EReal) (h : Pieces Z x3 x4 x5 x6 x7 x8 x9 x10 x11 x12 x13) (l : Fin 512) (k : Fin 4864) :
    @Eq EReal (View.canon (Val := Elt Ideal) (kernelRun0_B.sl.H17_11 (F := Ideal) c arg4 harg4 arg5 harg5 arg6 harg6 arg7 harg7 arg8 harg8 arg9 harg9 arg10 harg10 arg11 harg11 arg12 harg12 arg13 harg13 arg14 harg14 arg20 x3 x4 x5 x6 x7 x8 x9 x10 x11 x12 x13) (ValueIdx.ix2 l k)) (Z l.val k.val) := by
  refine View.canon_eq_of_allAt (Val := Elt Ideal) _ (ValueIdx.ix2 l k) _ (View.cover_of_tiledBy _ ![512, 256] (by sl_kernel_rfl) _) ?_
  unfold kernelRun0_B.sl.H17_11
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))))))
  · exact tile Z l k 2816 _ (fun a b => (gates arg14 harg14 x13 _ a b).trans (h.h13 a b))
  · exact tile Z l k 2304 _ (fun a b => (inner arg13 harg13 x12 _ a b).trans (h.h12 a b))
  · exact tile Z l k 2048 _ (join (fun a b => Z a (2048 + b)) _ _
      (Cert.Residues.read (d := 16) (by decide) (good120 c arg5 harg5 arg6 harg6 arg8 harg8 arg9 harg9 arg11 harg11 arg12 harg12 x4 x5 x7 x8 x10 x11 (fun a b => Z a (2048 + b)) h.h11) _ 0 (by decide) _)
      (Cert.Residues.read (d := 16) (by decide) (good120 c arg5 harg5 arg6 harg6 arg8 harg8 arg9 harg9 arg11 harg11 arg12 harg12 x4 x5 x7 x8 x10 x11 (fun a b => Z a (2048 + b)) h.h11) _ 1 (by decide) _))
  · exact tile Z l k 1792 _ (join (fun a b => Z a (1792 + b)) _ _
      (Cert.Residues.read (d := 4) (by decide) (good88 c arg5 harg5 arg6 harg6 arg8 harg8 arg9 harg9 arg11 harg11 x4 x5 x7 x8 x10 (fun a b => Z a (1792 + b)) h.h10) _ 0 (by decide) _)
      (Cert.Residues.read (d := 4) (by decide) (good88 c arg5 harg5 arg6 harg6 arg8 harg8 arg9 harg9 arg11 harg11 x4 x5 x7 x8 x10 (fun a b => Z a (1792 + b)) h.h10) _ 1 (by decide) _))
  · exact tile Z l k 1536 _ (fun a b => (flat arg10 harg10 x9 _ a b).trans (h.h9 a b))
  · exact tile Z l k 1280 _ (join (fun a b => Z a (1280 + b)) _ _
      (Cert.Residues.read (d := 16) (by decide) (good80 c arg5 harg5 arg6 harg6 arg8 harg8 arg9 harg9 x4 x5 x7 x8 (fun a b => Z a (1280 + b)) h.h8) _ 0 (by decide) _)
      (Cert.Residues.read (d := 16) (by decide) (good80 c arg5 harg5 arg6 harg6 arg8 harg8 arg9 harg9 x4 x5 x7 x8 (fun a b => Z a (1280 + b)) h.h8) _ 1 (by decide) _))
  · exact tile Z l k 1024 _ (join (fun a b => Z a (1024 + b)) _ _
      (Cert.Residues.read (d := 4) (by decide) (good48 c arg5 harg5 arg6 harg6 arg8 harg8 x4 x5 x7 (fun a b => Z a (1024 + b)) h.h7) _ 0 (by decide) _)
      (Cert.Residues.read (d := 4) (by decide) (good48 c arg5 harg5 arg6 harg6 arg8 harg8 x4 x5 x7 (fun a b => Z a (1024 + b)) h.h7) _ 1 (by decide) _))
  · exact tile Z l k 768 _ (fun a b => (flat arg7 harg7 x6 _ a b).trans (h.h6 a b))
  · exact tile Z l k 512 _ (join (fun a b => Z a (512 + b)) _ _
      (Cert.Residues.read (d := 16) (by decide) (good40 c arg5 harg5 arg6 harg6 x4 x5 (fun a b => Z a (512 + b)) h.h5) _ 0 (by decide) _)
      (Cert.Residues.read (d := 16) (by decide) (good40 c arg5 harg5 arg6 harg6 x4 x5 (fun a b => Z a (512 + b)) h.h5) _ 1 (by decide) _))
  · exact tile Z l k 256 _ (join (fun a b => Z a (256 + b)) _ _
      (Cert.Residues.read (d := 4) (by decide) (good8 c arg5 harg5 x4 (fun a b => Z a (256 + b)) h.h4) _ 0 (by decide) _)
      (Cert.Residues.read (d := 4) (by decide) (good8 c arg5 harg5 x4 (fun a b => Z a (256 + b)) h.h4) _ 1 (by decide) _))
  · exact tile Z l k 0 _ (fun a b => (flat arg4 harg4 x3 _ a b).trans (h.h3 a b))

end Cert.MixIn

end
-- ==== Proof.MixIn.lean ====
module
public import proofs.«01_k».proof.Proof.MixRows

/-! The kernel of the mixing layer's entry: the product, the derivative of the norm, and what a point of the grid writes. -/

@[expose] public section

set_option maxRecDepth 16384

noncomputable section

open Idealize.ShloMosaic Idealize.ShloMosaic.TcCoe Idealize.SL.Sem
open Idealize.ShloMosaic.Pipeline (Dat)
open Idealize.ShloMosaic.ValueIdx
open Cert.Kernel12Ideal Cert.Kernel12Ideal.Gen Cert.RowOps
open Cert.FfnRow (len)
open Cert.RmsBack (rs near)

namespace Cert.MixIn

/-! ### The body's operations, entry by entry -/

theorem mm (f : S512x4864.Idx → EReal) (g : S4864x1024.Idx → EReal) (j : S512x1024.Idx) :
    (∑ k : dot_S512x4864_S4864x1024_S512x1024_1_0_0_1_n_n.contr.Idx,
      f (dot_S512x4864_S4864x1024_S512x1024_1_0_0_1_n_n.lhsIdx j k) * g (dot_S512x4864_S4864x1024_S512x1024_1_0_0_1_n_n.rhsIdx j k))
      = ∑ k : Fin 4864, f (ValueIdx.ix2 (j 0) k) * g (ValueIdx.ix2 k (j 1)) :=
  Fintype.sum_equiv (contrEquiv1 dot_S512x4864_S4864x1024_S512x1024_1_0_0_1_n_n 4864 rfl rfl) _ _ fun k => by
    congr 1
    · exact congrArg f (funext fun a => by match a with | ⟨0, _⟩ => rfl | ⟨1, _⟩ => rfl)
    · exact congrArg g (funext fun a => by match a with | ⟨0, _⟩ => rfl | ⟨1, _⟩ => rfl)

/-- A row of the cotangent times the weights. -/
def back (z : ℕ → EReal) (w : Vec Ideal S4864x1024 .bf16) (d : Fin 1024) : EReal :=
  ∑ k : Fin 4864, z k.val * (w (ValueIdx.ix2 k d) : EReal)

variable (x : Vec Ideal S512x1024 .f32) (g : Vec Ideal S1x1024 .f32) (v : FVec Ideal S512x4864 .bf16) (w : Vec Ideal S4864x1024 .bf16)
  (Z : ℕ → ℕ → EReal) (hv : ∀ (l : Fin 512) (k : Fin 4864), @Eq EReal (v (ValueIdx.ix2 l k)) (Z l.val k.val))

theorem pay2 (d : Fin 1024) : @Eq EReal (one (k0_pay2 g) d) (one g d) := cast_same g _ d

theorem pay3 (r : Fin 512) : @Eq EReal (k0_pay3 x (ValueIdx.ix2 r (0 : Fin 1))) (rs (row x r)) := by
  unfold k0_pay3 rs RmsBack.ms
  refine congrArg (fun a : EReal => Ideal.rsqrt (Ideal.div a len + FfnRow.eps)) ?_
  exact (cast_col _ _ r).trans (sum_row (mulf x x) _ _ _ r)

theorem pay4 (r : Fin 512) (d : Fin 1024) : @Eq EReal (row (k0_pay4 x) r d) (row x r d * rs (row x r)) := by
  unfold k0_pay4
  exact congrArg (fun a : EReal => row x r d * a) ((spread_col _ _ r d).trans (pay3 x r))

/-- The normed rows. -/
theorem pay5 (r : Fin 512) (d : Fin 1024) :
    @Eq EReal (k0_pay5 g x (ValueIdx.ix2 r d)) (row x r d * rs (row x r) * one g d) := by
  unfold k0_pay5
  exact congrArg₂ (fun a b : EReal => a * b) (pay4 x r d) ((spread_row _ _ r d).trans (pay2 g d))

include hv

theorem pay152 (r : Fin 512) (d : Fin 1024) : @Eq EReal (row (k0_pay152 v w) r d) (back (Z r.val) w d) := by
  unfold k0_pay152
  show Ideal.ofBits .f32 0x00000000#32 + (_ : EReal) = _
  rw [show Ideal.ofBits .f32 0x00000000#32 = (0 : EReal) from Ffn.ofBits_zero, zero_add]
  exact (mm _ _ _).trans (Finset.sum_congr rfl fun k _ => congrArg₂ (fun a b : EReal => a * b) (hv r k) (shapeCast_apply w _ (ValueIdx.ix2 k d) (ValueIdx.ix2 k d) rfl))

theorem pay155 (r : Fin 512) (d : Fin 1024) :
    @Eq EReal (row (k0_pay155 (k0_pay2 g) v w) r d) (back (Z r.val) w d * one g d) := by
  unfold k0_pay155
  exact congrArg₂ (fun a b : EReal => a * b) (pay152 v w Z hv r d) ((spread_row _ _ r d).trans (pay2 g d))

/-- What a block adds to the gradient of the scale. -/
theorem pay154 (s : Vec Ideal S1x1024 .f32) (d : Fin 1024) :
    @Eq EReal (one (k0_pay154 (k0_pay4 x) v w s) d) (one s d + ∑ r : Fin 512, back (Z r.val) w d * (row x r d * rs (row x r))) := by
  unfold k0_pay154
  refine congrArg₂ (fun a b : EReal => a + b) (cast_same s _ d) ?_
  refine (cast_row _ _ d).trans ((sum_col (mulf (k0_pay152 v w) (k0_pay4 x)) _ _ _ d).trans (Finset.sum_congr rfl fun r _ => ?_))
  exact congrArg₂ (fun a b : EReal => a * b) (pay152 v w Z hv r d) (pay4 x r d)

/-- The gradient of the rows. -/
theorem pay1 (u : Vec Ideal S512x1024 .f32) (r : Fin 512) (d : Fin 1024) :
    @Eq EReal (row (k0_pay1 (k0_pay3 x) (k0_pay4 x) u (k0_pay155 (k0_pay2 g) v w) (k0_pay156 (k0_pay2 g) (k0_pay4 x) v w)) r d)
      (row u r d + near (row x r) (fun k => back (Z r.val) w k * one g k) d) := by
  unfold k0_pay1 near
  refine congrArg (fun a : EReal => row u r d + a) ?_
  refine congrArg₂ (fun a b : EReal => a * b) ((spread_col _ _ r d).trans (pay3 x r)) ?_
  refine congrArg₂ (fun a b : EReal => a - b) (pay155 g v w Z hv r d) ?_
  refine congrArg₂ (fun a b : EReal => a * b) (pay4 x r d) ?_
  refine (spread_col _ _ r d).trans (congrArg (fun a : EReal => Ideal.div a len) ?_)
  refine (cast_col _ _ r).trans ?_
  unfold k0_pay156
  refine (sum_row (mulf (k0_pay155 (k0_pay2 g) v w) (k0_pay4 x)) _ _ _ r).trans (Finset.sum_congr rfl fun k _ => ?_)
  exact congrArg₂ (fun a b : EReal => a * b) (pay155 g v w Z hv r k) (pay4 x r k)

omit hv

theorem pay153 (d : Fin 1024) : @Eq EReal (one (k0_pay153 (F := Ideal)) d) 0 := Ffn.ofBits_zero

/-! ### The assembled rows, read back -/

theorem read_rows (c : Dev nD) (arg4 : Memref sig .tc .vmem S1x512x256 .bf16) (harg4 : arg4.IsWhole)
    (arg5 : Memref sig .tc .vmem S4x128x256 .bf16) (harg5 : arg5.IsWhole)
    (arg6 : Memref sig .tc .vmem S16x32x256 .bf16) (harg6 : arg6.IsWhole)
    (arg7 : Memref sig .tc .vmem S1x512x256 .bf16) (harg7 : arg7.IsWhole)
    (arg8 : Memref sig .tc .vmem S4x128x256 .bf16) (harg8 : arg8.IsWhole)
    (arg9 : Memref sig .tc .vmem S16x32x256 .bf16) (harg9 : arg9.IsWhole)
    (arg10 : Memref sig .tc .vmem S1x512x256 .bf16) (harg10 : arg10.IsWhole)
    (arg11 : Memref sig .tc .vmem S4x128x256 .bf16) (harg11 : arg11.IsWhole)
    (arg12 : Memref sig .tc .vmem S16x32x256 .bf16) (harg12 : arg12.IsWhole)
    (arg13 : Memref sig .tc .vmem S512x512 .f32) (harg13 : arg13.IsWhole)
    (arg14 : Memref sig .tc .vmem S512x2048 .bf16) (harg14 : arg14.IsWhole)
    (arg18 : Memref sig .tc .vmem S512x4864 .bf16) (arg20 : Memref sig .tc .vmem S2x512x128 .f32) (x3 : Vec Ideal S1x512x256 .bf16) (x4 : Vec Ideal S4x128x256 .bf16) (x5 : Vec Ideal S16x32x256 .bf16) (x6 : Vec Ideal S1x512x256 .bf16) (x7 : Vec Ideal S4x128x256 .bf16) (x8 : Vec Ideal S16x32x256 .bf16) (x9 : Vec Ideal S1x512x256 .bf16) (x10 : Vec Ideal S4x128x256 .bf16) (x11 : Vec Ideal S16x32x256 .bf16) (x12 : Vec Ideal S512x512 .f32) (x13 : Vec Ideal S512x2048 .bf16)
    (Z : ℕ → ℕ → EReal) (h : Pieces Z x3 x4 x5 x6 x7 x8 x9 x10 x11 x12 x13) (l : Fin 512) (k : Fin 4864) :
    @Eq EReal (kernelRun0_B.sl.r_25 (F := Ideal) c arg4 harg4 arg5 harg5 arg6 harg6 arg7 harg7 arg8 harg8 arg9 harg9 arg10 harg10 arg11 harg11 arg12 harg12 arg13 harg13 arg14 harg14 arg18 arg20 x3 x4 x5 x6 x7 x8 x9 x10 x11 x12 x13 (ValueIdx.ix2 l k)) (Z l.val k.val) := by
  unfold kernelRun0_B.sl.r_25 k0_pay151
  refine (shapeCast_apply _ _ (ValueIdx.ix2 l k) (ValueIdx.ix2 l k) rfl).trans ?_
  unfold kernelRun0_B.sl.v801
  rw [View.readCov_eq_canon_ld _ _ _ (View.cover_of_tiledBy _ ![512, 256] (by sl_kernel_rfl)), View.ld_unit_zero hz]
  exact rows_at c arg4 harg4 arg5 harg5 arg6 harg6 arg7 harg7 arg8 harg8 arg9 harg9 arg10 harg10 arg11 harg11 arg12 harg12 arg13 harg13 arg14 harg14 arg20 x3 x4 x5 x6 x7 x8 x9 x10 x11 x12 x13 Z h l k

/-- The first point of a pass assembles the same rows. -/
theorem first_rows (c : Dev nD) (arg4 : Memref sig .tc .vmem S1x512x256 .bf16) (harg4 : arg4.IsWhole)
    (arg5 : Memref sig .tc .vmem S4x128x256 .bf16) (harg5 : arg5.IsWhole)
    (arg6 : Memref sig .tc .vmem S16x32x256 .bf16) (harg6 : arg6.IsWhole)
    (arg7 : Memref sig .tc .vmem S1x512x256 .bf16) (harg7 : arg7.IsWhole)
    (arg8 : Memref sig .tc .vmem S4x128x256 .bf16) (harg8 : arg8.IsWhole)
    (arg9 : Memref sig .tc .vmem S16x32x256 .bf16) (harg9 : arg9.IsWhole)
    (arg10 : Memref sig .tc .vmem S1x512x256 .bf16) (harg10 : arg10.IsWhole)
    (arg11 : Memref sig .tc .vmem S4x128x256 .bf16) (harg11 : arg11.IsWhole)
    (arg12 : Memref sig .tc .vmem S16x32x256 .bf16) (harg12 : arg12.IsWhole)
    (arg13 : Memref sig .tc .vmem S512x512 .f32) (harg13 : arg13.IsWhole)
    (arg14 : Memref sig .tc .vmem S512x2048 .bf16) (harg14 : arg14.IsWhole)
    (arg18 : Memref sig .tc .vmem S512x4864 .bf16) (arg20 : Memref sig .tc .vmem S2x512x128 .f32) (x3 : Vec Ideal S1x512x256 .bf16) (x4 : Vec Ideal S4x128x256 .bf16) (x5 : Vec Ideal S16x32x256 .bf16) (x6 : Vec Ideal S1x512x256 .bf16) (x7 : Vec Ideal S4x128x256 .bf16) (x8 : Vec Ideal S16x32x256 .bf16) (x9 : Vec Ideal S1x512x256 .bf16) (x10 : Vec Ideal S4x128x256 .bf16) (x11 : Vec Ideal S16x32x256 .bf16) (x12 : Vec Ideal S512x512 .f32) (x13 : Vec Ideal S512x2048 .bf16) :
    kernelRun0_A.sl.r_25 (F := Ideal) c arg4 harg4 arg5 harg5 arg6 harg6 arg7 harg7 arg8 harg8 arg9 harg9 arg10 harg10 arg11 harg11 arg12 harg12 arg13 harg13 arg14 harg14 arg18 arg20 x3 x4 x5 x6 x7 x8 x9 x10 x11 x12 x13 = kernelRun0_B.sl.r_25 (F := Ideal) c arg4 harg4 arg5 harg5 arg6 harg6 arg7 harg7 arg8 harg8 arg9 harg9 arg10 harg10 arg11 harg11 arg12 harg12 arg13 harg13 arg14 harg14 arg18 arg20 x3 x4 x5 x6 x7 x8 x9 x10 x11 x12 x13 := by rfl
theorem first_pieces (c : Dev nD) (arg4 : Memref sig .tc .vmem S1x512x256 .bf16) (harg4 : arg4.IsWhole)
    (arg5 : Memref sig .tc .vmem S4x128x256 .bf16) (harg5 : arg5.IsWhole)
    (arg6 : Memref sig .tc .vmem S16x32x256 .bf16) (harg6 : arg6.IsWhole)
    (arg7 : Memref sig .tc .vmem S1x512x256 .bf16) (harg7 : arg7.IsWhole)
    (arg8 : Memref sig .tc .vmem S4x128x256 .bf16) (harg8 : arg8.IsWhole)
    (arg9 : Memref sig .tc .vmem S16x32x256 .bf16) (harg9 : arg9.IsWhole)
    (arg10 : Memref sig .tc .vmem S1x512x256 .bf16) (harg10 : arg10.IsWhole)
    (arg11 : Memref sig .tc .vmem S4x128x256 .bf16) (harg11 : arg11.IsWhole)
    (arg12 : Memref sig .tc .vmem S16x32x256 .bf16) (harg12 : arg12.IsWhole)
    (arg13 : Memref sig .tc .vmem S512x512 .f32) (harg13 : arg13.IsWhole)
    (arg14 : Memref sig .tc .vmem S512x2048 .bf16) (harg14 : arg14.IsWhole)
    (arg20 : Memref sig .tc .vmem S2x512x128 .f32) (x3 : Vec Ideal S1x512x256 .bf16) (x4 : Vec Ideal S4x128x256 .bf16) (x5 : Vec Ideal S16x32x256 .bf16) (x6 : Vec Ideal S1x512x256 .bf16) (x7 : Vec Ideal S4x128x256 .bf16) (x8 : Vec Ideal S16x32x256 .bf16) (x9 : Vec Ideal S1x512x256 .bf16) (x10 : Vec Ideal S4x128x256 .bf16) (x11 : Vec Ideal S16x32x256 .bf16) (x12 : Vec Ideal S512x512 .f32) (x13 : Vec Ideal S512x2048 .bf16) :
    kernelRun0_A.sl.H17_11 (F := Ideal) c arg4 harg4 arg5 harg5 arg6 harg6 arg7 harg7 arg8 harg8 arg9 harg9 arg10 harg10 arg11 harg11 arg12 harg12 arg13 harg13 arg14 harg14 arg20 x3 x4 x5 x6 x7 x8 x9 x10 x11 x12 x13 = kernelRun0_B.sl.H17_11 (F := Ideal) c arg4 harg4 arg5 harg5 arg6 harg6 arg7 harg7 arg8 harg8 arg9 harg9 arg10 harg10 arg11 harg11 arg12 harg12 arg13 harg13 arg14 harg14 arg20 x3 x4 x5 x6 x7 x8 x9 x10 x11 x12 x13 := by rfl

/-! ### Whole blocks, loaded -/

theorem word_14 (arg : Memref sig .tc .vmem S4864x1024 .bf16) (harg : arg.IsWhole) (w : Vec Ideal S4864x1024 .bf16) (inb) :
    arg.view.readAt (Elt Ideal) (Rect.unit (s := S4864x1024) ![0, 0] S4864x1024.size inb).toLoadRect (harg.unread w) = w := by
  rw [View.readAt_eq_ld, harg.read_unread, View.ld_unit_zero hz]
theorem word_A (c : Dev nD) (arg : Memref sig .tc .vmem S1x1024 .f32) (harg : arg.IsWhole) (x : Vec Ideal S1x1024 .f32) :
    kernelRun0_A.sl.r (F := Ideal) c arg harg x = k0_pay2 x := by
  unfold kernelRun0_A.sl.r
  rw [View.readAt_eq_ld, harg.read_unread, View.ld_unit_zero hz]
theorem word_A_1 (c : Dev nD) (arg : Memref sig .tc .vmem S512x1024 .f32) (harg : arg.IsWhole) (x : Vec Ideal S512x1024 .f32) :
    kernelRun0_A.sl.r_1 (F := Ideal) c arg harg x = k0_pay3 x := by
  unfold kernelRun0_A.sl.r_1
  rw [View.readAt_eq_ld, harg.read_unread, View.ld_unit_zero hz]
theorem word_A_2 (c : Dev nD) (arg : Memref sig .tc .vmem S512x1024 .f32) (harg : arg.IsWhole) (x : Vec Ideal S512x1024 .f32) :
    kernelRun0_A.sl.r_2 (F := Ideal) c arg harg x = k0_pay4 x := by
  unfold kernelRun0_A.sl.r_2
  rw [View.readAt_eq_ld, harg.read_unread, View.ld_unit_zero hz]
theorem word_A_26 (c : Dev nD) (arg : Memref sig .tc .vmem S512x1024 .f32) (harg : arg.IsWhole) (x : Vec Ideal S512x1024 .f32) :
    kernelRun0_A.sl.r_26 (F := Ideal) c arg harg x = x := by
  unfold kernelRun0_A.sl.r_26
  rw [View.readAt_eq_ld, harg.read_unread, View.ld_unit_zero hz]
theorem word_B (c : Dev nD) (arg : Memref sig .tc .vmem S1x1024 .f32) (harg : arg.IsWhole) (x : Vec Ideal S1x1024 .f32) :
    kernelRun0_B.sl.r (F := Ideal) c arg harg x = k0_pay2 x := by
  unfold kernelRun0_B.sl.r
  rw [View.readAt_eq_ld, harg.read_unread, View.ld_unit_zero hz]
theorem word_B_1 (c : Dev nD) (arg : Memref sig .tc .vmem S512x1024 .f32) (harg : arg.IsWhole) (x : Vec Ideal S512x1024 .f32) :
    kernelRun0_B.sl.r_1 (F := Ideal) c arg harg x = k0_pay3 x := by
  unfold kernelRun0_B.sl.r_1
  rw [View.readAt_eq_ld, harg.read_unread, View.ld_unit_zero hz]
theorem word_B_2 (c : Dev nD) (arg : Memref sig .tc .vmem S512x1024 .f32) (harg : arg.IsWhole) (x : Vec Ideal S512x1024 .f32) :
    kernelRun0_B.sl.r_2 (F := Ideal) c arg harg x = k0_pay4 x := by
  unfold kernelRun0_B.sl.r_2
  rw [View.readAt_eq_ld, harg.read_unread, View.ld_unit_zero hz]
theorem word_B_26 (c : Dev nD) (arg : Memref sig .tc .vmem S512x1024 .f32) (harg : arg.IsWhole) (x : Vec Ideal S512x1024 .f32) :
    kernelRun0_B.sl.r_26 (F := Ideal) c arg harg x = x := by
  unfold kernelRun0_B.sl.r_26
  rw [View.readAt_eq_ld, harg.read_unread, View.ld_unit_zero hz]

/-! ### What a point writes -/

variable (m : (ℓ : Loc nD τ sig) → Buf (Elt Ideal) ℓ) (c : Dev nD)

/-- The rows of the cotangent at a point. -/
def cot (t : Fin cfg0.N) : FVec Ideal S512x4864 .bf16 :=
  kernelRun0_B.sl.r_25 (F := Ideal) c (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_17 t) scM0_0 (iblk m c 3 t) (iblk m c 4 t) (iblk m c 5 t) (iblk m c 6 t) (iblk m c 7 t) (iblk m c 8 t) (iblk m c 9 t) (iblk m c 10 t) (iblk m c 11 t) (iblk m c 12 t) (iblk m c 13 t)

theorem cot_at (t : Fin cfg0.N) (h : Pieces Z (iblk m c 3 t) (iblk m c 4 t) (iblk m c 5 t) (iblk m c 6 t) (iblk m c 7 t) (iblk m c 8 t) (iblk m c 9 t) (iblk m c 10 t) (iblk m c 11 t) (iblk m c 12 t) (iblk m c 13 t)) (l : Fin 512) (k : Fin 4864) :
    @Eq EReal (cot m c t (ValueIdx.ix2 l k)) (Z l.val k.val) :=
  read_rows c (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_17 t) scM0_0 (iblk m c 3 t) (iblk m c 4 t) (iblk m c 5 t) (iblk m c 6 t) (iblk m c 7 t) (iblk m c 8 t) (iblk m c 9 t) (iblk m c 10 t) (iblk m c 11 t) (iblk m c 12 t) (iblk m c 13 t) Z h l k

theorem run15_B (t : Fin cfg0.N) (h0 : ¬t.val % 16 = 0) :
    (outsAt0 m c t.val t.isLt).1 = k0_pay1 (k0_pay3 (iblk m c 1 t)) (k0_pay4 (iblk m c 1 t)) (iblk m c 0 t) (k0_pay155 (k0_pay2 (iblk m c 2 t)) (cot m c t) (iblk m c 14 t))
      (k0_pay156 (k0_pay2 (iblk m c 2 t)) (k0_pay4 (iblk m c 1 t)) (cot m c t) (iblk m c 14 t)) := by
  rw [outsAt0_B m c t h0]
  dsimp only
  unfold out0_B_15
  rw [View.read_writes_eq_canon _ _ _ (fun y => cover0_B_15 (y := y) ..)]
  unfold kernelRun0_B
  dsimp only
  rw [View.canon_unit_zero hz]
  unfold kernelRun0_B.sl.r_27 kernelRun0_B.sl.r_28
  rw [word_B, word_B_1, word_B_2, word_B_26, word_14]
  rfl

theorem run16_B (t : Fin cfg0.N) (h0 : ¬t.val % 16 = 0) :
    (outsAt0 m c t.val t.isLt).2.1 = k0_pay5 (iblk m c 2 t) (iblk m c 1 t) := by
  rw [outsAt0_B m c t h0]
  dsimp only
  unfold out0_B_16
  rw [View.read_writes_eq_canon _ _ _ (fun y => cover0_B_16 (y := y) ..)]
  unfold kernelRun0_B
  dsimp only
  sl_unfold_words
  simp only [View.readAt_eq_ld, (hs0_0 t).read_unread, (hs0_1 t).read_unread, (hs0_2 t).read_unread, (hs0_14 t).read_unread, (hs0_18 t).read_unread]
  rw [View.canon_unit_zero hz]
  repeat rw [View.ld_unit_zero hz]

theorem run17_B (t : Fin cfg0.N) (h0 : ¬t.val % 16 = 0) :
    (outsAt0 m c t.val t.isLt).2.2.1 = View.canon (Val := Elt Ideal) (kernelRun0_B.sl.H17_11 (F := Ideal) c (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  rw [outsAt0_B m c t h0]
  dsimp only
  unfold out0_B_17
  rw [View.read_writes_eq_canon _ _ _ (fun y => cover0_B_17 (y := y) ..)]
  unfold kernelRun0_B
  dsimp only

theorem run18_B (t : Fin cfg0.N) (h0 : ¬t.val % 16 = 0) :
    (outsAt0 m c t.val t.isLt).2.2.2 = k0_pay154 (k0_pay4 (iblk m c 1 t)) (cot m c t) (iblk m c 14 t) (outsAt0 m c (t.val - 1) (Nat.lt_of_le_of_lt (Nat.sub_le _ _) t.isLt)).2.2.2 := by
  rw [outsAt0_B m c t h0]
  dsimp only
  unfold out0_B_18
  rw [View.read_writes_eq_canon _ _ _ (fun y => cover0_B_18 (y := y) ..)]
  unfold kernelRun0_B
  dsimp only
  unfold kernelRun0_B.sl.r_2
  simp only [View.readAt_eq_ld, (hs0_0 t).read_unread, (hs0_1 t).read_unread, (hs0_2 t).read_unread, (hs0_14 t).read_unread, (hs0_18 t).read_unread]
  rw [View.canon_unit_zero hz]
  repeat rw [View.ld_unit_zero hz]
  rfl

theorem run15_A (t : Fin cfg0.N) (h0 : t.val % 16 = 0) :
    (outsAt0 m c t.val t.isLt).1 = k0_pay1 (k0_pay3 (iblk m c 1 t)) (k0_pay4 (iblk m c 1 t)) (iblk m c 0 t) (k0_pay155 (k0_pay2 (iblk m c 2 t)) (cot m c t) (iblk m c 14 t))
      (k0_pay156 (k0_pay2 (iblk m c 2 t)) (k0_pay4 (iblk m c 1 t)) (cot m c t) (iblk m c 14 t)) := by
  rw [outsAt0_A m c t h0]
  dsimp only
  unfold out0_A_15
  rw [View.read_writes_eq_canon _ _ _ (fun y => cover0_A_15 (y := y) ..)]
  unfold kernelRun0_A
  dsimp only
  rw [View.canon_unit_zero hz]
  unfold kernelRun0_A.sl.r_27 kernelRun0_A.sl.r_28
  rw [word_A, word_A_1, word_A_2, word_A_26, word_14]
  rw [first_rows]
  rfl

theorem run16_A (t : Fin cfg0.N) (h0 : t.val % 16 = 0) :
    (outsAt0 m c t.val t.isLt).2.1 = k0_pay5 (iblk m c 2 t) (iblk m c 1 t) := by
  rw [outsAt0_A m c t h0]
  dsimp only
  unfold out0_A_16
  rw [View.read_writes_eq_canon _ _ _ (fun y => cover0_A_16 (y := y) ..)]
  unfold kernelRun0_A
  dsimp only
  sl_unfold_words
  simp only [View.readAt_eq_ld, (hs0_0 t).read_unread, (hs0_1 t).read_unread, (hs0_2 t).read_unread, (hs0_14 t).read_unread, (hs0_18 t).read_unread]
  rw [View.canon_unit_zero hz]
  repeat rw [View.ld_unit_zero hz]

theorem run17_A (t : Fin cfg0.N) (h0 : t.val % 16 = 0) :
    (outsAt0 m c t.val t.isLt).2.2.1 = View.canon (Val := Elt Ideal) (kernelRun0_B.sl.H17_11 (F := Ideal) c (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  rw [outsAt0_A m c t h0]
  dsimp only
  unfold out0_A_17
  rw [View.read_writes_eq_canon _ _ _ (fun y => cover0_A_17 (y := y) ..)]
  unfold kernelRun0_A
  dsimp only
  rw [first_pieces]

theorem run18_A (t : Fin cfg0.N) (h0 : t.val % 16 = 0) :
    (outsAt0 m c t.val t.isLt).2.2.2 = k0_pay154 (k0_pay4 (iblk m c 1 t)) (cot m c t) (iblk m c 14 t) (k0_pay153 (F := Ideal)) := by
  rw [outsAt0_A m c t h0]
  dsimp only
  unfold out0_A_18
  rw [View.read_writes_eq_canon _ _ _ (fun y => cover0_A_18 (y := y) ..)]
  unfold kernelRun0_A
  dsimp only
  unfold kernelRun0_A.sl.r_2 kernelRun0_A.sl.v809 kernelRun0_A.sl.H18_1
  simp only [View.readAt_eq_ld, (hs0_0 t).read_unread, (hs0_1 t).read_unread, (hs0_2 t).read_unread, (hs0_14 t).read_unread, (hs0_18 t).read_unread]
  rw [first_rows, View.canon_cons_unit_zero hz, View.readCov_unit_zero _ hz]
  repeat rw [View.ld_unit_zero hz]
  rfl

end Cert.MixIn

end
-- ==== Proof.MixInFinal.lean ====
module
public import proofs.«01_k».proof.Proof.MixIn
public import proofs.«01_k».proof.Proof.Finite

/-! What the kernel of the mixing layer's entry leaves in its four arrays. -/

@[expose] public section

set_option maxRecDepth 16384

noncomputable section

open Idealize.ShloMosaic Idealize.ShloMosaic.TcCoe Idealize.SL.Sem
open Idealize.ShloMosaic.Pipeline (Dat)
open Idealize.ShloMosaic.ValueIdx
open Cert.Kernel12Ideal Cert.Kernel12Ideal.Gen Cert.RowOps
open Cert.RmsBack (rs near)

namespace Cert.MixIn

variable (m : (ℓ : Loc nD τ sig) → Buf (Elt Ideal) ℓ) (c : Dev nD)

theorem lt16 (t : Fin cfg0.N) : t.val < 16 := t.isLt

/-- Row `r` of block `t`. -/
def at_ (t : Fin cfg0.N) (r : Fin 512) : Fin 8192 := ⟨t.val * 512 + r.val, by
  have := lt16 t
  omega⟩

/-! ### Where the blocks lie -/

theorem ix_0 : ∀ t : Fin cfg0.N, win0_0.index t = ![t.val, 0] :=
  (by decide +kernel : ∀ t : Fin grid0.N, win0_0.index t = ![t.val, 0])
theorem emb_0 (t : Fin cfg0.N) (j : S512x1024.Idx) : (((cfg0.win 0).blk t).view.emb j : S8192x1024.Idx) = ValueIdx.ix2 (at_ t (j 0)) (j 1) := by
  funext a
  apply Fin.ext
  match a with
  | ⟨0, _⟩ => show win0_0.index t 0 * 512 + 1 * (j 0).val = t.val * 512 + (j 0).val; rw [ix_0]; show t.val * 512 + 1 * (j 0).val = _; omega
  | ⟨1, _⟩ => show win0_0.index t 1 * 1024 + 1 * (j 1).val = (j 1).val; rw [ix_0]; show 0 * 1024 + 1 * (j 1).val = _; omega
theorem ix_1 : ∀ t : Fin cfg0.N, win0_1.index t = ![t.val, 0] :=
  (by decide +kernel : ∀ t : Fin grid0.N, win0_1.index t = ![t.val, 0])
theorem emb_1 (t : Fin cfg0.N) (j : S512x1024.Idx) : (((cfg0.win 1).blk t).view.emb j : S8192x1024.Idx) = ValueIdx.ix2 (at_ t (j 0)) (j 1) := by
  funext a
  apply Fin.ext
  match a with
  | ⟨0, _⟩ => show win0_1.index t 0 * 512 + 1 * (j 0).val = t.val * 512 + (j 0).val; rw [ix_1]; show t.val * 512 + 1 * (j 0).val = _; omega
  | ⟨1, _⟩ => show win0_1.index t 1 * 1024 + 1 * (j 1).val = (j 1).val; rw [ix_1]; show 0 * 1024 + 1 * (j 1).val = _; omega
theorem ix_2 : ∀ t : Fin cfg0.N, win0_2.index t = ![0, 0] :=
  (by decide +kernel : ∀ t : Fin grid0.N, win0_2.index t = ![0, 0])
theorem emb_2 (t : Fin cfg0.N) (j : S1x1024.Idx) : (((cfg0.win 2).blk t).view.emb j : S1x1024.Idx) = ValueIdx.ix2 (j 0) (j 1) := by
  funext a
  apply Fin.ext
  match a with
  | ⟨0, _⟩ => show win0_2.index t 0 * 1 + 1 * (j 0).val = (j 0).val; rw [ix_2]; show 0 * 1 + 1 * (j 0).val = _; omega
  | ⟨1, _⟩ => show win0_2.index t 1 * 1024 + 1 * (j 1).val = (j 1).val; rw [ix_2]; show 0 * 1024 + 1 * (j 1).val = _; omega
theorem ix_12 : ∀ t : Fin cfg0.N, win0_12.index t = ![t.val, 0] :=
  (by decide +kernel : ∀ t : Fin grid0.N, win0_12.index t = ![t.val, 0])
theorem emb_12 (t : Fin cfg0.N) (j : S512x512.Idx) : (((cfg0.win 12).blk t).view.emb j : S8192x512.Idx) = ValueIdx.ix2 (at_ t (j 0)) (j 1) := by
  funext a
  apply Fin.ext
  match a with
  | ⟨0, _⟩ => show win0_12.index t 0 * 512 + 1 * (j 0).val = t.val * 512 + (j 0).val; rw [ix_12]; show t.val * 512 + 1 * (j 0).val = _; omega
  | ⟨1, _⟩ => show win0_12.index t 1 * 512 + 1 * (j 1).val = (j 1).val; rw [ix_12]; show 0 * 512 + 1 * (j 1).val = _; omega
theorem ix_13 : ∀ t : Fin cfg0.N, win0_13.index t = ![t.val, 0] :=
  (by decide +kernel : ∀ t : Fin grid0.N, win0_13.index t = ![t.val, 0])
theorem emb_13 (t : Fin cfg0.N) (j : S512x2048.Idx) : (((cfg0.win 13).blk t).view.emb j : S8192x2048.Idx) = ValueIdx.ix2 (at_ t (j 0)) (j 1) := by
  funext a
  apply Fin.ext
  match a with
  | ⟨0, _⟩ => show win0_13.index t 0 * 512 + 1 * (j 0).val = t.val * 512 + (j 0).val; rw [ix_13]; show t.val * 512 + 1 * (j 0).val = _; omega
  | ⟨1, _⟩ => show win0_13.index t 1 * 2048 + 1 * (j 1).val = (j 1).val; rw [ix_13]; show 0 * 2048 + 1 * (j 1).val = _; omega
theorem ix_14 : ∀ t : Fin cfg0.N, win0_14.index t = ![0, 0] :=
  (by decide +kernel : ∀ t : Fin grid0.N, win0_14.index t = ![0, 0])
theorem emb_14 (t : Fin cfg0.N) (j : S4864x1024.Idx) : (((cfg0.win 14).blk t).view.emb j : S4864x1024.Idx) = ValueIdx.ix2 (j 0) (j 1) := by
  funext a
  apply Fin.ext
  match a with
  | ⟨0, _⟩ => show win0_14.index t 0 * 4864 + 1 * (j 0).val = (j 0).val; rw [ix_14]; show 0 * 4864 + 1 * (j 0).val = _; omega
  | ⟨1, _⟩ => show win0_14.index t 1 * 1024 + 1 * (j 1).val = (j 1).val; rw [ix_14]; show 0 * 1024 + 1 * (j 1).val = _; omega
theorem ix_15 : ∀ t : Fin cfg0.N, win0_15.index t = ![t.val, 0] :=
  (by decide +kernel : ∀ t : Fin grid0.N, win0_15.index t = ![t.val, 0])
theorem emb_15 (t : Fin cfg0.N) (j : S512x1024.Idx) : (((cfg0.win 15).blk t).view.emb j : S8192x1024.Idx) = ValueIdx.ix2 (at_ t (j 0)) (j 1) := by
  funext a
  apply Fin.ext
  match a with
  | ⟨0, _⟩ => show win0_15.index t 0 * 512 + 1 * (j 0).val = t.val * 512 + (j 0).val; rw [ix_15]; show t.val * 512 + 1 * (j 0).val = _; omega
  | ⟨1, _⟩ => show win0_15.index t 1 * 1024 + 1 * (j 1).val = (j 1).val; rw [ix_15]; show 0 * 1024 + 1 * (j 1).val = _; omega
theorem ix_16 : ∀ t : Fin cfg0.N, win0_16.index t = ![t.val, 0] :=
  (by decide +kernel : ∀ t : Fin grid0.N, win0_16.index t = ![t.val, 0])
theorem emb_16 (t : Fin cfg0.N) (j : S512x1024.Idx) : (((cfg0.win 16).blk t).view.emb j : S8192x1024.Idx) = ValueIdx.ix2 (at_ t (j 0)) (j 1) := by
  funext a
  apply Fin.ext
  match a with
  | ⟨0, _⟩ => show win0_16.index t 0 * 512 + 1 * (j 0).val = t.val * 512 + (j 0).val; rw [ix_16]; show t.val * 512 + 1 * (j 0).val = _; omega
  | ⟨1, _⟩ => show win0_16.index t 1 * 1024 + 1 * (j 1).val = (j 1).val; rw [ix_16]; show 0 * 1024 + 1 * (j 1).val = _; omega
theorem ix_17 : ∀ t : Fin cfg0.N, win0_17.index t = ![t.val, 0] :=
  (by decide +kernel : ∀ t : Fin grid0.N, win0_17.index t = ![t.val, 0])
theorem emb_17 (t : Fin cfg0.N) (j : S512x4864.Idx) : (((cfg0.win 17).blk t).view.emb j : S8192x4864.Idx) = ValueIdx.ix2 (at_ t (j 0)) (j 1) := by
  funext a
  apply Fin.ext
  match a with
  | ⟨0, _⟩ => show win0_17.index t 0 * 512 + 1 * (j 0).val = t.val * 512 + (j 0).val; rw [ix_17]; show t.val * 512 + 1 * (j 0).val = _; omega
  | ⟨1, _⟩ => show win0_17.index t 1 * 4864 + 1 * (j 1).val = (j 1).val; rw [ix_17]; show 0 * 4864 + 1 * (j 1).val = _; omega
theorem ix_18 : ∀ t : Fin cfg0.N, win0_18.index t = ![0, 0] :=
  (by decide +kernel : ∀ t : Fin grid0.N, win0_18.index t = ![0, 0])
theorem emb_18 (t : Fin cfg0.N) (j : S1x1024.Idx) : (((cfg0.win 18).blk t).view.emb j : S1x1024.Idx) = ValueIdx.ix2 (j 0) (j 1) := by
  funext a
  apply Fin.ext
  match a with
  | ⟨0, _⟩ => show win0_18.index t 0 * 1 + 1 * (j 0).val = (j 0).val; rw [ix_18]; show 0 * 1 + 1 * (j 0).val = _; omega
  | ⟨1, _⟩ => show win0_18.index t 1 * 1024 + 1 * (j 1).val = (j 1).val; rw [ix_18]; show 0 * 1024 + 1 * (j 1).val = _; omega
theorem ix_3 : ∀ t : Fin cfg0.N, win0_3.index t = ![0, t.val, 0] :=
  (by decide +kernel : ∀ t : Fin grid0.N, win0_3.index t = ![0, t.val, 0])
theorem emb_3 (t : Fin cfg0.N) (r : Fin 1) (a : Fin 512) (j : Fin 256) :
    (((cfg0.win 3).blk t).view.emb (ValueIdx.ix3 r a j : S1x512x256.Idx) : S1x8192x256.Idx) =
      ValueIdx.ix3 r ⟨t.val * 512 + a.val, by have := lt16 t; omega⟩ j := by
  funext b
  apply Fin.ext
  match b with
  | ⟨0, _⟩ => show win0_3.index t 0 * 1 + 1 * r.val = r.val; rw [ix_3]; show 0 * 1 + 1 * r.val = _; omega
  | ⟨1, _⟩ => show win0_3.index t 1 * 512 + 1 * a.val = t.val * 512 + a.val; rw [ix_3]; show t.val * 512 + 1 * a.val = _; omega
  | ⟨2, _⟩ => show win0_3.index t 2 * 256 + 1 * j.val = j.val; rw [ix_3]; show 0 * 256 + 1 * j.val = _; omega
theorem ix_4 : ∀ t : Fin cfg0.N, win0_4.index t = ![0, t.val, 0] :=
  (by decide +kernel : ∀ t : Fin grid0.N, win0_4.index t = ![0, t.val, 0])
theorem emb_4 (t : Fin cfg0.N) (r : Fin 4) (a : Fin 128) (j : Fin 256) :
    (((cfg0.win 4).blk t).view.emb (ValueIdx.ix3 r a j : S4x128x256.Idx) : S4x2048x256.Idx) =
      ValueIdx.ix3 r ⟨t.val * 128 + a.val, by have := lt16 t; omega⟩ j := by
  funext b
  apply Fin.ext
  match b with
  | ⟨0, _⟩ => show win0_4.index t 0 * 4 + 1 * r.val = r.val; rw [ix_4]; show 0 * 4 + 1 * r.val = _; omega
  | ⟨1, _⟩ => show win0_4.index t 1 * 128 + 1 * a.val = t.val * 128 + a.val; rw [ix_4]; show t.val * 128 + 1 * a.val = _; omega
  | ⟨2, _⟩ => show win0_4.index t 2 * 256 + 1 * j.val = j.val; rw [ix_4]; show 0 * 256 + 1 * j.val = _; omega
theorem ix_5 : ∀ t : Fin cfg0.N, win0_5.index t = ![0, t.val, 0] :=
  (by decide +kernel : ∀ t : Fin grid0.N, win0_5.index t = ![0, t.val, 0])
theorem emb_5 (t : Fin cfg0.N) (r : Fin 16) (a : Fin 32) (j : Fin 256) :
    (((cfg0.win 5).blk t).view.emb (ValueIdx.ix3 r a j : S16x32x256.Idx) : S16x512x256.Idx) =
      ValueIdx.ix3 r ⟨t.val * 32 + a.val, by have := lt16 t; omega⟩ j := by
  funext b
  apply Fin.ext
  match b with
  | ⟨0, _⟩ => show win0_5.index t 0 * 16 + 1 * r.val = r.val; rw [ix_5]; show 0 * 16 + 1 * r.val = _; omega
  | ⟨1, _⟩ => show win0_5.index t 1 * 32 + 1 * a.val = t.val * 32 + a.val; rw [ix_5]; show t.val * 32 + 1 * a.val = _; omega
  | ⟨2, _⟩ => show win0_5.index t 2 * 256 + 1 * j.val = j.val; rw [ix_5]; show 0 * 256 + 1 * j.val = _; omega
theorem ix_6 : ∀ t : Fin cfg0.N, win0_6.index t = ![0, t.val, 0] :=
  (by decide +kernel : ∀ t : Fin grid0.N, win0_6.index t = ![0, t.val, 0])
theorem emb_6 (t : Fin cfg0.N) (r : Fin 1) (a : Fin 512) (j : Fin 256) :
    (((cfg0.win 6).blk t).view.emb (ValueIdx.ix3 r a j : S1x512x256.Idx) : S1x8192x256.Idx) =
      ValueIdx.ix3 r ⟨t.val * 512 + a.val, by have := lt16 t; omega⟩ j := by
  funext b
  apply Fin.ext
  match b with
  | ⟨0, _⟩ => show win0_6.index t 0 * 1 + 1 * r.val = r.val; rw [ix_6]; show 0 * 1 + 1 * r.val = _; omega
  | ⟨1, _⟩ => show win0_6.index t 1 * 512 + 1 * a.val = t.val * 512 + a.val; rw [ix_6]; show t.val * 512 + 1 * a.val = _; omega
  | ⟨2, _⟩ => show win0_6.index t 2 * 256 + 1 * j.val = j.val; rw [ix_6]; show 0 * 256 + 1 * j.val = _; omega
theorem ix_7 : ∀ t : Fin cfg0.N, win0_7.index t = ![0, t.val, 0] :=
  (by decide +kernel : ∀ t : Fin grid0.N, win0_7.index t = ![0, t.val, 0])
theorem emb_7 (t : Fin cfg0.N) (r : Fin 4) (a : Fin 128) (j : Fin 256) :
    (((cfg0.win 7).blk t).view.emb (ValueIdx.ix3 r a j : S4x128x256.Idx) : S4x2048x256.Idx) =
      ValueIdx.ix3 r ⟨t.val * 128 + a.val, by have := lt16 t; omega⟩ j := by
  funext b
  apply Fin.ext
  match b with
  | ⟨0, _⟩ => show win0_7.index t 0 * 4 + 1 * r.val = r.val; rw [ix_7]; show 0 * 4 + 1 * r.val = _; omega
  | ⟨1, _⟩ => show win0_7.index t 1 * 128 + 1 * a.val = t.val * 128 + a.val; rw [ix_7]; show t.val * 128 + 1 * a.val = _; omega
  | ⟨2, _⟩ => show win0_7.index t 2 * 256 + 1 * j.val = j.val; rw [ix_7]; show 0 * 256 + 1 * j.val = _; omega
theorem ix_8 : ∀ t : Fin cfg0.N, win0_8.index t = ![0, t.val, 0] :=
  (by decide +kernel : ∀ t : Fin grid0.N, win0_8.index t = ![0, t.val, 0])
theorem emb_8 (t : Fin cfg0.N) (r : Fin 16) (a : Fin 32) (j : Fin 256) :
    (((cfg0.win 8).blk t).view.emb (ValueIdx.ix3 r a j : S16x32x256.Idx) : S16x512x256.Idx) =
      ValueIdx.ix3 r ⟨t.val * 32 + a.val, by have := lt16 t; omega⟩ j := by
  funext b
  apply Fin.ext
  match b with
  | ⟨0, _⟩ => show win0_8.index t 0 * 16 + 1 * r.val = r.val; rw [ix_8]; show 0 * 16 + 1 * r.val = _; omega
  | ⟨1, _⟩ => show win0_8.index t 1 * 32 + 1 * a.val = t.val * 32 + a.val; rw [ix_8]; show t.val * 32 + 1 * a.val = _; omega
  | ⟨2, _⟩ => show win0_8.index t 2 * 256 + 1 * j.val = j.val; rw [ix_8]; show 0 * 256 + 1 * j.val = _; omega
theorem ix_9 : ∀ t : Fin cfg0.N, win0_9.index t = ![0, t.val, 0] :=
  (by decide +kernel : ∀ t : Fin grid0.N, win0_9.index t = ![0, t.val, 0])
theorem emb_9 (t : Fin cfg0.N) (r : Fin 1) (a : Fin 512) (j : Fin 256) :
    (((cfg0.win 9).blk t).view.emb (ValueIdx.ix3 r a j : S1x512x256.Idx) : S1x8192x256.Idx) =
      ValueIdx.ix3 r ⟨t.val * 512 + a.val, by have := lt16 t; omega⟩ j := by
  funext b
  apply Fin.ext
  match b with
  | ⟨0, _⟩ => show win0_9.index t 0 * 1 + 1 * r.val = r.val; rw [ix_9]; show 0 * 1 + 1 * r.val = _; omega
  | ⟨1, _⟩ => show win0_9.index t 1 * 512 + 1 * a.val = t.val * 512 + a.val; rw [ix_9]; show t.val * 512 + 1 * a.val = _; omega
  | ⟨2, _⟩ => show win0_9.index t 2 * 256 + 1 * j.val = j.val; rw [ix_9]; show 0 * 256 + 1 * j.val = _; omega
theorem ix_10 : ∀ t : Fin cfg0.N, win0_10.index t = ![0, t.val, 0] :=
  (by decide +kernel : ∀ t : Fin grid0.N, win0_10.index t = ![0, t.val, 0])
theorem emb_10 (t : Fin cfg0.N) (r : Fin 4) (a : Fin 128) (j : Fin 256) :
    (((cfg0.win 10).blk t).view.emb (ValueIdx.ix3 r a j : S4x128x256.Idx) : S4x2048x256.Idx) =
      ValueIdx.ix3 r ⟨t.val * 128 + a.val, by have := lt16 t; omega⟩ j := by
  funext b
  apply Fin.ext
  match b with
  | ⟨0, _⟩ => show win0_10.index t 0 * 4 + 1 * r.val = r.val; rw [ix_10]; show 0 * 4 + 1 * r.val = _; omega
  | ⟨1, _⟩ => show win0_10.index t 1 * 128 + 1 * a.val = t.val * 128 + a.val; rw [ix_10]; show t.val * 128 + 1 * a.val = _; omega
  | ⟨2, _⟩ => show win0_10.index t 2 * 256 + 1 * j.val = j.val; rw [ix_10]; show 0 * 256 + 1 * j.val = _; omega
theorem ix_11 : ∀ t : Fin cfg0.N, win0_11.index t = ![0, t.val, 0] :=
  (by decide +kernel : ∀ t : Fin grid0.N, win0_11.index t = ![0, t.val, 0])
theorem emb_11 (t : Fin cfg0.N) (r : Fin 16) (a : Fin 32) (j : Fin 256) :
    (((cfg0.win 11).blk t).view.emb (ValueIdx.ix3 r a j : S16x32x256.Idx) : S16x512x256.Idx) =
      ValueIdx.ix3 r ⟨t.val * 32 + a.val, by have := lt16 t; omega⟩ j := by
  funext b
  apply Fin.ext
  match b with
  | ⟨0, _⟩ => show win0_11.index t 0 * 16 + 1 * r.val = r.val; rw [ix_11]; show 0 * 16 + 1 * r.val = _; omega
  | ⟨1, _⟩ => show win0_11.index t 1 * 32 + 1 * a.val = t.val * 32 + a.val; rw [ix_11]; show t.val * 32 + 1 * a.val = _; omega
  | ⟨2, _⟩ => show win0_11.index t 2 * 256 + 1 * j.val = j.val; rw [ix_11]; show 0 * 256 + 1 * j.val = _; omega

/-! ### The arguments, and the blocks made of them -/

def aU (l : Fin 8192) (d : Fin 1024) : EReal := (m (c, Proc.tc.devRef main_arg0) : S8192x1024.Idx → EReal) (ValueIdx.ix2 l d)
def aZ (l : Fin 8192) (k : Fin 4864) : EReal := (m (c, Proc.tc.devRef main_arg1) : S8192x4864.Idx → EReal) (ValueIdx.ix2 l k)
def aX (l : Fin 8192) (d : Fin 1024) : EReal := (m (c, Proc.tc.devRef main_arg2) : S8192x1024.Idx → EReal) (ValueIdx.ix2 l d)
def aG (d : Fin 1024) : EReal := (m (c, Proc.tc.devRef main_arg3) : S1024.Idx → EReal) (ValueIdx.ix1 d)
def aW (d : Fin 1024) (k : Fin 4864) : EReal := (m (c, Proc.tc.devRef main_arg4) : S1024x4864.Idx → EReal) (ValueIdx.ix2 d k)

/-- The cotangent, at numbers. -/
def zN (l k : ℕ) : EReal := if h : l < 8192 ∧ k < 4864 then aZ m c ⟨l, h.1⟩ ⟨k, h.2⟩ else 0

theorem zN_at (l : Fin 8192) (k : Fin 4864) : aZ m c l k = zN m c l.val k.val := by
  unfold zN
  rw [dif_pos (⟨l.isLt, k.isLt⟩ : l.val < 8192 ∧ k.val < 4864)]

/-- The rows of the cotangent in block `t`. -/
def zB (t : Fin cfg0.N) (l k : ℕ) : EReal := zN m c (t.val * 512 + l) k

theorem slice_at {n : ℕ} (X : S8192x4864.Idx → EReal) (o : ℕ) (ho : o + n ≤ 4864) (h) (l : Fin 8192) (j : Fin n) :
    (extractStridedSlice (⟨2, ![8192, n]⟩ : Shape) ![0, o] X h : (⟨2, ![8192, n]⟩ : Shape).Idx → EReal) (ValueIdx.ix2 l j)
      = X (ValueIdx.ix2 l ⟨o + j.val, by omega⟩) := by
  unfold extractStridedSlice
  refine congrArg X (funext fun a => Fin.ext ?_)
  match a with
  | ⟨0, _⟩ => show 0 + l.val = l.val; omega
  | ⟨1, _⟩ => rfl

theorem lt_rows {d n r a : ℕ} (hd : d * n = 8192) (hr : r < d) (ha : a < n) : r + d * a < 8192 := by
  have h : d * (a + 1) ≤ d * n := Nat.mul_le_mul_left d ha
  rw [Nat.mul_add, Nat.mul_one] at h
  omega

/-- Columns of the cotangent, by residue of the row. -/
theorem by_residue {d n : ℕ} (hd : d * n = 8192) (X : S8192x4864.Idx → EReal) (o : ℕ) (ho : o + 256 ≤ 4864) (h h' h'')
    (r : Fin d) (a : Fin n) (j : Fin 256) :
    transpose (⟨3, ![d, n, 256]⟩ : Shape) [1, 0, 2]
      (shapeCast (⟨3, ![n, d, 256]⟩ : Shape) (extractStridedSlice S8192x256 ![0, o] X h : S8192x256.Idx → EReal) h' : (⟨3, ![n, d, 256]⟩ : Shape).Idx → EReal) h''
        (ValueIdx.ix3 r a j)
      = X (ValueIdx.ix2 ⟨r.val + d * a.val, lt_rows hd r.isLt a.isLt⟩ ⟨o + j.val, by omega⟩) := by
  refine Eq.trans (b := shapeCast (⟨3, ![n, d, 256]⟩ : Shape) (extractStridedSlice S8192x256 ![0, o] X h : S8192x256.Idx → EReal) h' (ValueIdx.ix3 a r j)) ?_ ?_
  · unfold transpose
    exact congrArg _ (funext fun b => by match b with | ⟨0, _⟩ => rfl | ⟨1, _⟩ => rfl | ⟨2, _⟩ => rfl)
  refine (shapeCast_apply _ _ (ValueIdx.ix3 a r j) (ValueIdx.ix2 ⟨r.val + d * a.val, lt_rows hd r.isLt a.isLt⟩ j) ?_).trans (slice_at X o ho h _ j)
  rw [Shape.rowMajor_val_three, Shape.rowMajor_val_two]
  show (r.val + d * a.val) * 256 + j.val = (a.val * d + r.val) * 256 + j.val
  rw [Nat.mul_comm a.val d, Nat.add_comm r.val]

theorem b0 (t : Fin cfg0.N) (r : Fin 512) : row (iblk m c 0 t : Vec Ideal S512x1024 .f32) r = aU m c (at_ t r) := by
  funext d
  unfold row iblk
  rw [View.read_apply]
  show V m c main_arg0 _ = _
  rw [emb_0]
  entry_read
  rfl
theorem b1 (t : Fin cfg0.N) (r : Fin 512) : row (iblk m c 1 t : Vec Ideal S512x1024 .f32) r = aX m c (at_ t r) := by
  funext d
  unfold row iblk
  rw [View.read_apply]
  show V m c main_arg2 _ = _
  rw [emb_1]
  entry_read
  rfl
theorem b2 (t : Fin cfg0.N) : one (iblk m c 2 t : Vec Ideal S1x1024 .f32) = aG m c := by
  funext d
  unfold one iblk
  rw [View.read_apply]
  show V m c main_v36 _ = _
  rw [emb_2]
  entry_read
  exact cast_row (m (c, Proc.tc.devRef main_arg3) : S1024.Idx → EReal) _ d |>.symm ▸ rfl
theorem b14 (t : Fin cfg0.N) (k : Fin 4864) (d : Fin 1024) :
    @Eq EReal ((iblk m c 14 t : Vec Ideal S4864x1024 .bf16) (ValueIdx.ix2 k d)) (aW m c d k) := by
  unfold iblk
  rw [View.read_apply]
  show V m c main_v41 _ = _
  rw [emb_14]
  entry_read
  unfold aW transpose
  exact congrArg (m (c, Proc.tc.devRef main_arg4) : S1024x4864.Idx → EReal) (funext fun b => by match b with | ⟨0, _⟩ => rfl | ⟨1, _⟩ => rfl)
theorem b3 (t : Fin cfg0.N) (r : Fin 1) (a : Fin 512) (j : Fin 256) :
    @Eq EReal ((iblk m c 3 t : Vec Ideal S1x512x256 .bf16) (ValueIdx.ix3 r a j)) (zB m c t (r.val + 1 * a.val) (0 + j.val)) := by
  unfold iblk
  rw [View.read_apply]
  show V m c main_v3 _ = _
  rw [emb_3]
  entry_read
  have ht := lt16 t
  refine (by_residue (d := 1) (n := 8192) rfl (m (c, Proc.tc.devRef main_arg1) : S8192x4864.Idx → EReal) 0 (by omega)
    slices_S8192x4864_S8192x256_0_0 shapeCasts_S8192x256_S8192x1x256 transposes_S8192x1x256_S1x8192x256_1_0_2 r ⟨t.val * 512 + a.val, by omega⟩ j).trans ?_
  refine (zN_at m c _ _).trans (congrArg₂ (zN m c) ?_ rfl)
  show r.val + 1 * (t.val * 512 + a.val) = t.val * 512 + (r.val + 1 * a.val)
  omega
theorem b4 (t : Fin cfg0.N) (r : Fin 4) (a : Fin 128) (j : Fin 256) :
    @Eq EReal ((iblk m c 4 t : Vec Ideal S4x128x256 .bf16) (ValueIdx.ix3 r a j)) (zB m c t (r.val + 4 * a.val) (256 + j.val)) := by
  unfold iblk
  rw [View.read_apply]
  show V m c main_v7 _ = _
  rw [emb_4]
  entry_read
  have ht := lt16 t
  refine (by_residue (d := 4) (n := 2048) rfl (m (c, Proc.tc.devRef main_arg1) : S8192x4864.Idx → EReal) 256 (by omega)
    slices_S8192x4864_S8192x256_0_256 shapeCasts_S8192x256_S2048x4x256 transposes_S2048x4x256_S4x2048x256_1_0_2 r ⟨t.val * 128 + a.val, by omega⟩ j).trans ?_
  refine (zN_at m c _ _).trans (congrArg₂ (zN m c) ?_ rfl)
  show r.val + 4 * (t.val * 128 + a.val) = t.val * 512 + (r.val + 4 * a.val)
  omega
theorem b5 (t : Fin cfg0.N) (r : Fin 16) (a : Fin 32) (j : Fin 256) :
    @Eq EReal ((iblk m c 5 t : Vec Ideal S16x32x256 .bf16) (ValueIdx.ix3 r a j)) (zB m c t (r.val + 16 * a.val) (512 + j.val)) := by
  unfold iblk
  rw [View.read_apply]
  show V m c main_v11 _ = _
  rw [emb_5]
  entry_read
  have ht := lt16 t
  refine (by_residue (d := 16) (n := 512) rfl (m (c, Proc.tc.devRef main_arg1) : S8192x4864.Idx → EReal) 512 (by omega)
    slices_S8192x4864_S8192x256_0_512 shapeCasts_S8192x256_S512x16x256 transposes_S512x16x256_S16x512x256_1_0_2 r ⟨t.val * 32 + a.val, by omega⟩ j).trans ?_
  refine (zN_at m c _ _).trans (congrArg₂ (zN m c) ?_ rfl)
  show r.val + 16 * (t.val * 32 + a.val) = t.val * 512 + (r.val + 16 * a.val)
  omega
theorem b6 (t : Fin cfg0.N) (r : Fin 1) (a : Fin 512) (j : Fin 256) :
    @Eq EReal ((iblk m c 6 t : Vec Ideal S1x512x256 .bf16) (ValueIdx.ix3 r a j)) (zB m c t (r.val + 1 * a.val) (768 + j.val)) := by
  unfold iblk
  rw [View.read_apply]
  show V m c main_v15 _ = _
  rw [emb_6]
  entry_read
  have ht := lt16 t
  refine (by_residue (d := 1) (n := 8192) rfl (m (c, Proc.tc.devRef main_arg1) : S8192x4864.Idx → EReal) 768 (by omega)
    slices_S8192x4864_S8192x256_0_768 shapeCasts_S8192x256_S8192x1x256 transposes_S8192x1x256_S1x8192x256_1_0_2 r ⟨t.val * 512 + a.val, by omega⟩ j).trans ?_
  refine (zN_at m c _ _).trans (congrArg₂ (zN m c) ?_ rfl)
  show r.val + 1 * (t.val * 512 + a.val) = t.val * 512 + (r.val + 1 * a.val)
  omega
theorem b7 (t : Fin cfg0.N) (r : Fin 4) (a : Fin 128) (j : Fin 256) :
    @Eq EReal ((iblk m c 7 t : Vec Ideal S4x128x256 .bf16) (ValueIdx.ix3 r a j)) (zB m c t (r.val + 4 * a.val) (1024 + j.val)) := by
  unfold iblk
  rw [View.read_apply]
  show V m c main_v19 _ = _
  rw [emb_7]
  entry_read
  have ht := lt16 t
  refine (by_residue (d := 4) (n := 2048) rfl (m (c, Proc.tc.devRef main_arg1) : S8192x4864.Idx → EReal) 1024 (by omega)
    slices_S8192x4864_S8192x256_0_1024 shapeCasts_S8192x256_S2048x4x256 transposes_S2048x4x256_S4x2048x256_1_0_2 r ⟨t.val * 128 + a.val, by omega⟩ j).trans ?_
  refine (zN_at m c _ _).trans (congrArg₂ (zN m c) ?_ rfl)
  show r.val + 4 * (t.val * 128 + a.val) = t.val * 512 + (r.val + 4 * a.val)
  omega
theorem b8 (t : Fin cfg0.N) (r : Fin 16) (a : Fin 32) (j : Fin 256) :
    @Eq EReal ((iblk m c 8 t : Vec Ideal S16x32x256 .bf16) (ValueIdx.ix3 r a j)) (zB m c t (r.val + 16 * a.val) (1280 + j.val)) := by
  unfold iblk
  rw [View.read_apply]
  show V m c main_v23 _ = _
  rw [emb_8]
  entry_read
  have ht := lt16 t
  refine (by_residue (d := 16) (n := 512) rfl (m (c, Proc.tc.devRef main_arg1) : S8192x4864.Idx → EReal) 1280 (by omega)
    slices_S8192x4864_S8192x256_0_1280 shapeCasts_S8192x256_S512x16x256 transposes_S512x16x256_S16x512x256_1_0_2 r ⟨t.val * 32 + a.val, by omega⟩ j).trans ?_
  refine (zN_at m c _ _).trans (congrArg₂ (zN m c) ?_ rfl)
  show r.val + 16 * (t.val * 32 + a.val) = t.val * 512 + (r.val + 16 * a.val)
  omega
theorem b9 (t : Fin cfg0.N) (r : Fin 1) (a : Fin 512) (j : Fin 256) :
    @Eq EReal ((iblk m c 9 t : Vec Ideal S1x512x256 .bf16) (ValueIdx.ix3 r a j)) (zB m c t (r.val + 1 * a.val) (1536 + j.val)) := by
  unfold iblk
  rw [View.read_apply]
  show V m c main_v27 _ = _
  rw [emb_9]
  entry_read
  have ht := lt16 t
  refine (by_residue (d := 1) (n := 8192) rfl (m (c, Proc.tc.devRef main_arg1) : S8192x4864.Idx → EReal) 1536 (by omega)
    slices_S8192x4864_S8192x256_0_1536 shapeCasts_S8192x256_S8192x1x256 transposes_S8192x1x256_S1x8192x256_1_0_2 r ⟨t.val * 512 + a.val, by omega⟩ j).trans ?_
  refine (zN_at m c _ _).trans (congrArg₂ (zN m c) ?_ rfl)
  show r.val + 1 * (t.val * 512 + a.val) = t.val * 512 + (r.val + 1 * a.val)
  omega
theorem b10 (t : Fin cfg0.N) (r : Fin 4) (a : Fin 128) (j : Fin 256) :
    @Eq EReal ((iblk m c 10 t : Vec Ideal S4x128x256 .bf16) (ValueIdx.ix3 r a j)) (zB m c t (r.val + 4 * a.val) (1792 + j.val)) := by
  unfold iblk
  rw [View.read_apply]
  show V m c main_v31 _ = _
  rw [emb_10]
  entry_read
  have ht := lt16 t
  refine (by_residue (d := 4) (n := 2048) rfl (m (c, Proc.tc.devRef main_arg1) : S8192x4864.Idx → EReal) 1792 (by omega)
    slices_S8192x4864_S8192x256_0_1792 shapeCasts_S8192x256_S2048x4x256 transposes_S2048x4x256_S4x2048x256_1_0_2 r ⟨t.val * 128 + a.val, by omega⟩ j).trans ?_
  refine (zN_at m c _ _).trans (congrArg₂ (zN m c) ?_ rfl)
  show r.val + 4 * (t.val * 128 + a.val) = t.val * 512 + (r.val + 4 * a.val)
  omega
theorem b11 (t : Fin cfg0.N) (r : Fin 16) (a : Fin 32) (j : Fin 256) :
    @Eq EReal ((iblk m c 11 t : Vec Ideal S16x32x256 .bf16) (ValueIdx.ix3 r a j)) (zB m c t (r.val + 16 * a.val) (2048 + j.val)) := by
  unfold iblk
  rw [View.read_apply]
  show V m c main_v35 _ = _
  rw [emb_11]
  entry_read
  have ht := lt16 t
  refine (by_residue (d := 16) (n := 512) rfl (m (c, Proc.tc.devRef main_arg1) : S8192x4864.Idx → EReal) 2048 (by omega)
    slices_S8192x4864_S8192x256_0_2048 shapeCasts_S8192x256_S512x16x256 transposes_S512x16x256_S16x512x256_1_0_2 r ⟨t.val * 32 + a.val, by omega⟩ j).trans ?_
  refine (zN_at m c _ _).trans (congrArg₂ (zN m c) ?_ rfl)
  show r.val + 16 * (t.val * 32 + a.val) = t.val * 512 + (r.val + 16 * a.val)
  omega
theorem b12 (t : Fin cfg0.N) (l : Fin 512) (j : Fin 512) :
    @Eq EReal ((iblk m c 12 t : Vec Ideal S512x512 .f32) (ValueIdx.ix2 l j)) (zB m c t l.val (2304 + j.val)) := by
  unfold iblk
  rw [View.read_apply]
  show V m c main_v37 _ = _
  rw [emb_12]
  entry_read
  exact (slice_at (n := 512) (m (c, Proc.tc.devRef main_arg1) : S8192x4864.Idx → EReal) 2304 (by omega)
    slices_S8192x4864_S8192x512_0_2304 (at_ t l) j).trans (zN_at m c _ _)
theorem b13 (t : Fin cfg0.N) (l : Fin 512) (j : Fin 2048) :
    @Eq EReal ((iblk m c 13 t : Vec Ideal S512x2048 .bf16) (ValueIdx.ix2 l j)) (zB m c t l.val (2816 + j.val)) := by
  unfold iblk
  rw [View.read_apply]
  show V m c main_v39 _ = _
  rw [emb_13]
  entry_read
  exact (slice_at (n := 2048) (m (c, Proc.tc.devRef main_arg1) : S8192x4864.Idx → EReal) 2816 (by omega)
    slices_S8192x4864_S8192x2048_0_2816 (at_ t l) j).trans (zN_at m c _ _)

theorem pieces (t : Fin cfg0.N) : Pieces (zB m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) where
  h3 := fun l j => (b3 m c t 0 l j).trans (congrArg (fun n => zB m c t n (0 + j.val)) (by omega))
  h6 := fun l j => (b6 m c t 0 l j).trans (congrArg (fun n => zB m c t n (768 + j.val)) (by omega))
  h9 := fun l j => (b9 m c t 0 l j).trans (congrArg (fun n => zB m c t n (1536 + j.val)) (by omega))
  h4 := b4 m c t
  h5 := b5 m c t
  h7 := b7 m c t
  h8 := b8 m c t
  h10 := b10 m c t
  h11 := b11 m c t
  h12 := b12 m c t
  h13 := b13 m c t

/-! ### The results -/

/-- The gradient of the normed row `l`. -/
def DH (l : Fin 8192) (d : Fin 1024) : EReal := ∑ k : Fin 4864, aZ m c l k * aW m c d k
/-- What row `l` adds to the gradient of the scale. -/
def DG (d : Fin 1024) (l : Fin 8192) : EReal := DH m c l d * (aX m c l d * rs (aX m c l))
/-- The gradient of row `l`. -/
def DX (l : Fin 8192) (d : Fin 1024) : EReal := aU m c l d + near (aX m c l) (fun k => DH m c l k * aG m c k) d

theorem ext_at (f : Fin 8192 → EReal) (t : Fin cfg0.N) : ∑ r, f (at_ t r) = part f t.val :=
  Finset.sum_congr rfl fun r _ => (DwSum.ext_of_lt f (t.val * 512 + r.val) (at_ t r).isLt).symm

theorem back_at (t : Fin cfg0.N) (r : Fin 512) : back (zB m c t r.val) (iblk m c 14 t) = DH m c (at_ t r) :=
  funext fun d => Finset.sum_congr rfl fun k _ => congrArg₂ (fun a b : EReal => a * b) (zN_at m c (at_ t r) k).symm (b14 m c t k d)

theorem any15 (t : Fin cfg0.N) : (outsAt0 m c t.val t.isLt).1 = k0_pay1 (k0_pay3 (iblk m c 1 t)) (k0_pay4 (iblk m c 1 t)) (iblk m c 0 t) (k0_pay155 (k0_pay2 (iblk m c 2 t)) (cot m c t) (iblk m c 14 t))
      (k0_pay156 (k0_pay2 (iblk m c 2 t)) (k0_pay4 (iblk m c 1 t)) (cot m c t) (iblk m c 14 t)) := by
  by_cases h0 : t.val % 16 = 0
  · exact run15_A m c t h0
  · exact run15_B m c t h0
theorem any16 (t : Fin cfg0.N) : (outsAt0 m c t.val t.isLt).2.1 = k0_pay5 (iblk m c 2 t) (iblk m c 1 t) := by
  by_cases h0 : t.val % 16 = 0
  · exact run16_A m c t h0
  · exact run16_B m c t h0
theorem any17 (t : Fin cfg0.N) : (outsAt0 m c t.val t.isLt).2.2.1 = View.canon (Val := Elt Ideal) (kernelRun0_B.sl.H17_11 (F := Ideal) c (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  by_cases h0 : t.val % 16 = 0
  · exact run17_A m c t h0
  · exact run17_B m c t h0

theorem near_at (t : Fin cfg0.N) (r : Fin 512) (d : Fin 1024) :
    row (iblk m c 0 t : Vec Ideal S512x1024 .f32) r d + near (row (iblk m c 1 t : Vec Ideal S512x1024 .f32) r) (fun k => back (zB m c t r.val) (iblk m c 14 t) k * one (iblk m c 2 t : Vec Ideal S1x1024 .f32) k) d
      = DX m c (at_ t r) d := by
  rw [b0, b1, b2, back_at]
  rfl

theorem row15 (t : Fin cfg0.N) : (outsAt0 m c t.val t.isLt).1 = fun y : S512x1024.Idx => DX m c (at_ t (y 0)) (y 1) := by
  rw [any15]
  funext y
  exact (congrArg _ (Finite.eta2 y)).trans ((pay1 _ _ _ _ (zB m c t) (cot_at _ m c t (pieces m c t)) _ (y 0) (y 1)).trans (near_at m c t (y 0) (y 1)))

theorem h_at (t : Fin cfg0.N) (r : Fin 512) (d : Fin 1024) :
    row (iblk m c 1 t : Vec Ideal S512x1024 .f32) r d * rs (row (iblk m c 1 t : Vec Ideal S512x1024 .f32) r) * one (iblk m c 2 t : Vec Ideal S1x1024 .f32) d
      = aX m c (at_ t r) d * rs (aX m c (at_ t r)) * aG m c d := by
  rw [b1, b2]

theorem row16 (t : Fin cfg0.N) : (outsAt0 m c t.val t.isLt).2.1 = fun y : S512x1024.Idx => aX m c (at_ t (y 0)) (y 1) * rs (aX m c (at_ t (y 0))) * aG m c (y 1) := by
  rw [any16]
  funext y
  exact (congrArg _ (Finite.eta2 y)).trans ((pay5 _ _ (y 0) (y 1)).trans (h_at m c t (y 0) (y 1)))

theorem row17 (t : Fin cfg0.N) : (outsAt0 m c t.val t.isLt).2.2.1 = fun y : S512x4864.Idx => aZ m c (at_ t (y 0)) (y 1) := by
  rw [any17]
  funext y
  exact (congrArg _ (Finite.eta2 y)).trans ((rows_at c (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 3 t) (iblk m c 4 t) (iblk m c 5 t) (iblk m c 6 t) (iblk m c 7 t) (iblk m c 8 t) (iblk m c 9 t) (iblk m c 10 t) (iblk m c 11 t) (iblk m c 12 t) (iblk m c 13 t) (zB m c t) (pieces m c t) (y 0) (y 1)).trans (zN_at m c (at_ t (y 0)) (y 1)).symm)

theorem step18 (t : Fin cfg0.N) (s : Vec Ideal S1x1024 .f32) :
    k0_pay154 (k0_pay4 (iblk m c 1 t)) (cot m c t) (iblk m c 14 t) s = fun i : S1x1024.Idx => (one s (i 1) + part (DG m c (i 1)) t.val : EReal) := by
  refine row_ext _ (fun d => one s d + part (DG m c d) t.val) fun d => (pay154 _ _ _ (zB m c t) (cot_at _ m c t (pieces m c t)) s d).trans ?_
  rw [← ext_at]
  refine congrArg (fun a : EReal => one s d + a) (Finset.sum_congr rfl fun r _ => ?_)
  rw [b1, back_at]
  rfl

theorem acc18 (n : ℕ) : ∀ h : n < cfg0.N,
    (outsAt0 m c n h).2.2.2 = fun i : S1x1024.Idx => (∑ s ∈ Finset.range (n + 1), part (DG m c (i 1)) s : EReal) := by
  induction n with
  | zero =>
    intro h
    refine (run18_A m c ⟨0, h⟩ (Nat.zero_mod 16)).trans ((step18 m c ⟨0, h⟩ _).trans (funext fun i => ?_))
    rw [Finset.sum_range_one]
    exact (congrArg (fun a : EReal => a + part (DG m c (i 1)) 0) (pay153 (i 1))).trans (zero_add _)
  | succ n ih =>
    intro h
    have hn : n + 1 < 16 := h
    refine (run18_B m c ⟨n + 1, h⟩ (by show ¬(n + 1) % 16 = 0; omega)).trans ((step18 m c ⟨n + 1, h⟩ _).trans (funext fun i => ?_))
    rw [Finset.sum_range_succ _ (n + 1)]
    exact congrArg (fun a : EReal => a + part (DG m c (i 1)) (n + 1)) (congrFun (ih (Nat.lt_of_succ_lt h)) (ValueIdx.ix2 (0 : Fin 1) (i 1)))

def dx : (⟨S8192x1024, .f32⟩ : BufTy).Contents (Elt Ideal) := fun i => DX m c (i 0) (i 1)
def hh : (⟨S8192x1024, .bf16⟩ : BufTy).Contents (Elt Ideal) := fun i => (aX m c (i 0) (i 1) * rs (aX m c (i 0)) * aG m c (i 1) : EReal)
def zz : (⟨S8192x4864, .bf16⟩ : BufTy).Contents (Elt Ideal) := fun i => aZ m c (i 0) (i 1)
def dg : (⟨S1x1024, .f32⟩ : BufTy).Contents (Elt Ideal) := fun i => (∑ l, DG m c (i 1) l : EReal)

theorem total18 : (fun i : S1x1024.Idx => (∑ s ∈ Finset.range (15 + 1), part (DG m c (i 1)) s : EReal)) = dg m c :=
  funext fun i => sum_part (DG m c (i 1))

theorem final15 : (dats m 0 c).arrAt 15 cfg0.N = dx m c := by
  refine (dats m 0 c).arrAt_eq_of_covers 15 _ (by decide +kernel) fun t hf y => ?_
  rw [after0_15, row15 m c t, emb_15]
  rfl
theorem final16 : (dats m 0 c).arrAt 16 cfg0.N = hh m c := by
  refine (dats m 0 c).arrAt_eq_of_covers 16 _ (by decide +kernel) fun t hf y => ?_
  rw [after0_16, row16 m c t, emb_16]
  rfl
theorem final17 : (dats m 0 c).arrAt 17 cfg0.N = zz m c := by
  refine (dats m 0 c).arrAt_eq_of_covers 17 _ (by decide +kernel) fun t hf y => ?_
  rw [after0_17, row17 m c t, emb_17]
  rfl
theorem final18 : (dats m 0 c).arrAt 18 cfg0.N = dg m c := by
  refine (dats m 0 c).arrAt_eq_of_covers 18 _ (by decide +kernel) fun t hf y => ?_
  have ht : t.val % 16 = 15 := (flush0_18 t).mp hf
  have hN : t.val < 16 := t.isLt
  obtain rfl : t = ⟨15, by decide⟩ := Fin.ext (by show t.val = 15; omega)
  rw [after0_18, acc18 m c 15, total18, emb_18]
  rfl

end Cert.MixIn

end
-- ==== Proof.MixInClaim.lean ====
module
public import proofs.«01_k».proof.Proof.MixInFinal
public import proofs.«01_k».proof.Defs
public import proofs.«01_k».proof.Proof.Gen.Reference12Ideal.Run
public import proofs.«01_k».proof.Proof.Gen.Reference12Ideal.Read
public import Idealize.ShloMosaic.Lib.Quiescent

/-! The claims about the kernel of the mixing layer's entry. -/

@[expose] public section

set_option maxRecDepth 16384

noncomputable section

open Idealize.ShloMosaic Idealize.ShloMosaic.TcCoe Idealize.SL.Sem
open Idealize.ShloMosaic.ValueIdx
open Cert.FfnRow (len)
open Cert.RmsBack (rs near pull)

namespace Cert.MixInClaim

open Cert.Reference12Ideal Cert.Reference12Ideal.Gen Cert.Reference12Ideal.Read

theorem zero_bits : Ideal.ofBits .f32 0x00000000#32 = (0 : EReal) := Ffn.ofBits_zero

/-! ### The reference, entry by entry -/

variable (u : S8192x1024.Idx → EReal) (z : S8192x4864.Idx → EReal) (x : S8192x1024.Idx → EReal) (g : S1024.Idx → EReal)
  (w : S1024x4864.Idx → EReal)

def rowOf (x : S8192x1024.Idx → EReal) (l : Fin 8192) (d : Fin 1024) : EReal := x (ValueIdx.ix2 l d)
def vecOf (g : S1024.Idx → EReal) (d : Fin 1024) : EReal := g (ValueIdx.ix1 d)

/-- The gradient of the normed row `l`. -/
def DH (l : Fin 8192) (d : Fin 1024) : EReal := ∑ k : Fin 4864, z (ValueIdx.ix2 l k) * w (ValueIdx.ix2 d k)
/-- The gradient of the row before the scale. -/
def T (l : Fin 8192) (d : Fin 1024) : EReal := DH z w l d * vecOf g d

theorem r1 (i : S8192.Idx) : @Eq EReal (val_main_v1 (F := Ideal) x i) (∑ k, rowOf x (i 0) k * rowOf x (i 0) k) := by
  rw [val_main_v1_apply]
  refine Eq.trans (b := Ideal.ofBits .f32 0x00000000#32 + ∑ k : Fin 1024, rowOf x (i 0) k * rowOf x (i 0) k)
    (congrArg (fun a : EReal => Ideal.ofBits .f32 0x00000000#32 + a) (Finset.sum_congr rfl fun k _ => ?_)) ?_
  · have e : idx_main_v1 i k = ValueIdx.ix2 (i 0) k := funext fun a => by match a with | ⟨0, _⟩ => rfl | ⟨1, _⟩ => rfl
    rw [e]; rfl
  · rw [zero_bits, zero_add]

theorem r6 (i : S8192x1.Idx) : @Eq EReal (val_main_v6 (F := Ideal) x i) (RmsBack.ms (rowOf x (i 0))) := by
  rw [val_main_v6_apply, val_main_v4_apply, val_main_v2_apply, val_main_v3_apply, val_main_v5_apply]
  exact congrArg (fun a : EReal => Ideal.div a len + FfnRow.eps) (r1 x (idx_main_v2 i))

theorem r7 (i : S8192x1.Idx) : @Eq EReal (val_main_v7 (F := Ideal) x i) (rs (rowOf x (i 0))) := by
  rw [val_main_v7_apply]
  exact congrArg Ideal.rsqrt (r6 x i)

theorem r12 (l : Fin 8192) (d : Fin 1024) : @Eq EReal (val_main_v12 (F := Ideal) x (ValueIdx.ix2 l d)) (rowOf x l d * rs (rowOf x l)) := by
  rw [val_main_v12_apply, val_main_v11_apply]
  exact congrArg (fun a : EReal => rowOf x l d * a) (r7 x _)

theorem r15 (l : Fin 8192) (d : Fin 1024) :
    @Eq EReal (val_main_v15 (F := Ideal) x g (ValueIdx.ix2 l d)) (rowOf x l d * rs (rowOf x l) * vecOf g d) := by
  rw [val_main_v15_apply, val_main_v14_apply, val_main_v13_apply]
  refine congrArg₂ (fun a b : EReal => a * b) (r12 x l d) (congrArg g (funext fun a => ?_))
  match a with | ⟨0, _⟩ => rfl

theorem r52 (i : S8192x1024.Idx) :
    @Eq EReal (val_main_v52 (F := Ideal) x g i) (rowOf x (i 0) (i 1) * rs (rowOf x (i 0)) * vecOf g (i 1)) :=
  (congrArg _ (Finite.eta2 i)).trans (r15 x g (i 0) (i 1))

theorem r17 (l : Fin 8192) (d : Fin 1024) : @Eq EReal (val_main_v17 (F := Ideal) z w (ValueIdx.ix2 l d)) (DH z w l d) := by
  rw [val_main_v17_apply]
  refine Finset.sum_congr rfl fun k _ => congrArg₂ (fun a b : EReal => a * b) (congrArg z ?_) (congrArg w ?_)
  · funext a; match a with | ⟨0, _⟩ => rfl | ⟨1, _⟩ => rfl
  · funext a; match a with | ⟨0, _⟩ => rfl | ⟨1, _⟩ => rfl

theorem r54 (i : S1x1024.Idx) : @Eq EReal (val_main_v54 (F := Ideal) z x w i)
    (∑ l, DH z w l (i 1) * (rowOf x l (i 1) * rs (rowOf x l))) := by
  rw [val_main_v54_apply, val_main_v23_apply]
  refine Eq.trans (b := Ideal.ofBits .f32 0x00000000#32 + ∑ k : Fin 1, (Ideal.ofBits .f32 0x00000000#32
      + ∑ l, DH z w l (i 1) * (rowOf x l (i 1) * rs (rowOf x l)))) ?_ (by
    rw [Fin.sum_univ_one, zero_bits, zero_add, zero_add])
  refine congrArg (fun a : EReal => Ideal.ofBits .f32 0x00000000#32 + a) (Finset.sum_congr rfl fun k _ => ?_)
  rw [val_main_v20_apply, val_main_v19_apply]
  refine congrArg (fun a : EReal => Ideal.ofBits .f32 0x00000000#32 + a) (Finset.sum_congr rfl fun l _ => ?_)
  refine (congrArg (val_main_v18 (F := Ideal) z x w) (?_ : _ = ValueIdx.ix2 l (i 1))).trans ?_
  · have h1 : (i 1).val < 1024 := (i 1).isLt
    have hk : k.val < 1 := k.isLt
    funext a
    apply Fin.ext
    match a with
    | ⟨0, _⟩ => rfl
    | ⟨1, _⟩ => first | rfl | (show k.val * 1024 + (i 1).val = (i 1).val; omega)
  · exact (congrArg₂ (fun a b : EReal => a * b) (r12 x l (i 1)) (r17 z w l (i 1))).trans (mul_comm _ _)

theorem r22 (l : Fin 8192) (d : Fin 1024) : @Eq EReal (val_main_v22 (F := Ideal) z g w (ValueIdx.ix2 l d)) (T z g w l d) := by
  rw [val_main_v22_apply, val_main_v21_apply, val_main_v13_apply]
  refine congrArg₂ (fun a b : EReal => a * b) (r17 z w l d) (congrArg g (funext fun a => ?_))
  match a with | ⟨0, _⟩ => rfl

theorem r24 (l : Fin 8192) (d : Fin 1024) : @Eq EReal (val_main_v24 (F := Ideal) z x g w (ValueIdx.ix2 l d)) (rowOf x l d * T z g w l d) := by
  rw [val_main_v24_apply]
  exact congrArg (fun b : EReal => rowOf x l d * b) (r22 z g w l d)

theorem r25 (i : S8192.Idx) : @Eq EReal (val_main_v25 (F := Ideal) z x g w i) (∑ k, rowOf x (i 0) k * T z g w (i 0) k) := by
  rw [val_main_v25_apply]
  refine Eq.trans (b := Ideal.ofBits .f32 0x00000000#32 + ∑ k : Fin 1024, rowOf x (i 0) k * T z g w (i 0) k)
    (congrArg (fun a : EReal => Ideal.ofBits .f32 0x00000000#32 + a) (Finset.sum_congr rfl fun k _ => ?_)) (by rw [zero_bits, zero_add])
  have e : idx_main_v25 i k = ValueIdx.ix2 (i 0) k := funext fun a => by match a with | ⟨0, _⟩ => rfl | ⟨1, _⟩ => rfl
  exact (congrArg _ e).trans (r24 z x g w (i 0) k)

theorem r32 (i : S8192x1.Idx) : @Eq EReal (val_main_v32 (F := Ideal) z x g w i) (pull (rowOf x (i 0)) (T z g w (i 0))) := by
  rw [val_main_v32_apply, val_main_v30_apply, val_main_v26_apply, val_main_v10_apply, val_main_v8_apply, val_main_v9_apply, val_main_v31_apply]
  refine congrArg₂ (fun a b : EReal => Ideal.div (a * (RmsBack.negHalf * b)) len) ?_ (congrArg₂ Ideal.div (r7 x i) (r6 x i))
  refine (r25 z x g w _).trans ?_
  have e : idx_main_v26 i 0 = i 0 := Fin.ext (by
    have h1 : (i 1).val < 1 := (i 1).isLt
    first | rfl | (show (i 0).val * 1 + (i 1).val = (i 0).val; omega))
  rw [e]

theorem r34 (l : Fin 8192) (d : Fin 1024) :
    @Eq EReal (val_main_v34 (F := Ideal) z x g w (ValueIdx.ix2 l d)) (pull (rowOf x l) (T z g w l)) := by
  rw [val_main_v34_apply, val_main_v33_apply]
  refine Eq.trans (b := Ideal.ofBits .f32 0x00000000#32 + ∑ k : Fin 1, pull (rowOf x l) (T z g w l))
    (congrArg (fun a : EReal => Ideal.ofBits .f32 0x00000000#32 + a) (Finset.sum_congr rfl fun k _ => r32 z x g w _)) ?_
  rw [Fin.sum_univ_one, zero_bits, zero_add]

theorem r38 (i : S8192x1024.Idx) : @Eq EReal (val_main_v38 (F := Ideal) u z x g w i)
    (rowOf u (i 0) (i 1) + near (rowOf x (i 0)) (T z g w (i 0)) (i 1)) := by
  have key : ∀ (l : Fin 8192) (d : Fin 1024), @Eq EReal (val_main_v38 (F := Ideal) u z x g w (ValueIdx.ix2 l d))
      (rowOf u l d + near (rowOf x l) (T z g w l) d) := fun l d => by
    rw [RmsBack.near_eq, ← add_assoc, ← add_assoc, val_main_v38_apply, val_main_v36_apply, val_main_v29_apply, val_main_v28_apply,
      val_main_v27_apply, val_main_v35_apply, val_main_v37_apply]
    exact congrArg₂ (fun a b : EReal => a + b) (congrArg₂ (fun a b : EReal => a + b)
      (congrArg (fun b : EReal => rowOf u l d + b) (congrArg₂ (fun a b : EReal => a * b) (r22 z g w l d) (r7 x _)))
      (congrArg (fun b : EReal => rowOf x l d * b) (r34 z x g w l d))) (congrArg (fun b : EReal => b * rowOf x l d) (r34 z x g w l d))
  exact (congrArg _ (Finite.eta2 i)).trans (key (i 0) (i 1))

theorem r53 (i : S8192x4864.Idx) : @Eq EReal (val_main_v53 (F := Ideal) z i) (z (ValueIdx.ix2 (i 0) (i 1))) :=
  congrArg z (Finite.eta2 i)

/-! ### The claims -/

theorem frame_reference : Cert.quiescent_Reference12Ideal := fun m ρ _ =>
  (θ_run Cert.Reference12Ideal.defs _ _).mono
    (fun r h => ⟨fun c => (h c).2.2.2.2, sem_eq_zero_of_no_sems (by decide) r.2⟩)
    (Cert.Reference12Ideal.Value.run (F := Ideal) m ρ)

theorem algebraic : Cert.algebraic_Kernel12Ideal_Reference12Ideal := by
  intro m g m' g' _ hargs
  refine ⟨fun c => (Cert.Kernel12Ideal.Gen.dats m 0 c).arrAt 15 Cert.Kernel12Ideal.cfg0.N,
    fun c => (Cert.Kernel12Ideal.Gen.dats m 0 c).arrAt 16 Cert.Kernel12Ideal.cfg0.N,
    fun c => (Cert.Kernel12Ideal.Gen.dats m 0 c).arrAt 17 Cert.Kernel12Ideal.cfg0.N,
    fun c => (Cert.Kernel12Ideal.Gen.dats m 0 c).arrAt 18 Cert.Kernel12Ideal.cfg0.N,
    Cert.Kernel12Ideal.Value.run_blocks m g, ?_⟩
  refine (θ_run Cert.Reference12Ideal.defs _ _).mono (fun r h c => ?_) (Cert.Reference12Ideal.Value.run (F := Ideal) m' g')
  obtain ⟨a0, a1, a2, a3, a4⟩ := hargs c
  obtain ⟨h0, h1, h2, h3, h4⟩ := h c
  refine ⟨h0.trans ?_, h1.trans ?_, h2.trans ?_, h3.trans ?_, h4⟩
  · refine (Cert.Reference12Ideal.Read.val_main_v38_eq m' c).trans ?_
    rw [a0, a1, a2, a3, a4]
    exact (funext fun i => r38 _ _ _ _ _ i).trans (MixIn.final15 m c).symm
  · refine (Cert.Reference12Ideal.Read.val_main_v52_eq _ _).trans ?_
    rw [a2, a3]
    exact (funext fun i => r52 _ _ i).trans (MixIn.final16 m c).symm
  · refine (Cert.Reference12Ideal.Read.val_main_v53_eq _).trans ?_
    rw [a1]
    exact (funext fun i => r53 _ i).trans (MixIn.final17 m c).symm
  · refine (Cert.Reference12Ideal.Read.val_main_v54_eq _ _ _).trans ?_
    rw [a1, a2, a4]
    exact (funext fun i => r54 _ _ _ i).trans (MixIn.final18 m c).symm

end Cert.MixInClaim

end
-- ==== Proof.Loss.lean ====
module
public import proofs.«01_k».proof.Proof.RowOps
public import proofs.«01_k».proof.Proof.Gen.Kernel13Ideal.Value

/-! The kernel of the loss: what a point of its grid writes. -/

@[expose] public section

set_option maxRecDepth 16384

noncomputable section

open Idealize.ShloMosaic Idealize.ShloMosaic.TcCoe Idealize.SL.Sem
open Idealize.ShloMosaic.Pipeline (Dat)
open Idealize.ShloMosaic.ValueIdx
open Cert.Kernel13Ideal Cert.Kernel13Ideal.Gen Cert.RowOps
open Cert.FfnRow (half len)
open Cert.RmsBack (rs near)

namespace Cert.Loss

/-- The reciprocal of a row's length. -/
def inv : EReal := Ideal.ofBits .f32 0x3A800000#32

/-! ### The body's operations, entry by entry -/

variable (x t : Vec Ideal S512x1024 .f32) (g : Vec Ideal S1x1024 .f32)

theorem pay4 (r : Fin 512) : @Eq EReal (k0_pay4 x (ValueIdx.ix2 r (0 : Fin 1))) (rs (row x r)) := by
  unfold k0_pay4 rs RmsBack.ms
  refine congrArg (fun a : EReal => Ideal.rsqrt (Ideal.div a len + FfnRow.eps)) ?_
  exact (cast_col _ _ r).trans (sum_row (mulf x x) _ _ _ r)

theorem pay5 (r : Fin 512) (d : Fin 1024) : @Eq EReal (row (k0_pay5 x) r d) (row x r d * rs (row x r)) := by
  unfold k0_pay5
  exact congrArg (fun a : EReal => row x r d * a) ((spread_col _ _ r d).trans (pay4 x r))

theorem pay3 (d : Fin 1024) : @Eq EReal (one (k0_pay3 g) d) (one g d) := cast_same g _ d

/-- What a row misses its target by. -/
def miss (x : Fin 1024 → EReal) (g t : Fin 1024 → EReal) (d : Fin 1024) : EReal := x d * rs x * g d - t d

theorem pay6 (r : Fin 512) (d : Fin 1024) : @Eq EReal (row (k0_pay6 x g t) r d) (miss (row x r) (one g) (row t r) d) := by
  unfold k0_pay6
  exact congrArg₂ (fun a b : EReal => a * b - row t r d) (pay5 x r d) ((spread_row _ _ r d).trans (pay3 g d))

theorem pay7 (r : Fin 512) (d : Fin 1024) : @Eq EReal (row (k0_pay7 x g t) r d) (miss (row x r) (one g) (row t r) d * inv) := by
  unfold k0_pay7
  exact congrArg (fun a : EReal => a * inv) (pay6 x t g r d)

/-- What a block adds to the gradient of the scale. -/
theorem pay1 (s : Vec Ideal S1x1024 .f32) (d : Fin 1024) :
    @Eq EReal (one (k0_pay1 (k0_pay5 x) (k0_pay7 x g t) s) d)
      (one s d + ∑ r, miss (row x r) (one g) (row t r) d * inv * (row x r d * rs (row x r))) := by
  unfold k0_pay1
  refine congrArg₂ (fun a b : EReal => a + b) (cast_same s _ d) ?_
  refine (cast_row _ _ d).trans ((sum_col (mulf (k0_pay7 x g t) (k0_pay5 x)) _ _ _ d).trans (Finset.sum_congr rfl fun r _ => ?_))
  exact congrArg₂ (fun a b : EReal => a * b) (pay7 x t g r d) (pay5 x r d)

/-- The gradient of the rows. -/
theorem pay2 (r : Fin 512) (d : Fin 1024) :
    @Eq EReal (row (k0_pay2 (k0_pay3 g) (k0_pay4 x) (k0_pay5 x) (k0_pay7 x g t)) r d)
      (near (row x r) (fun k => miss (row x r) (one g) (row t r) k * inv * one g k) d) := by
  have ht : ∀ k, @Eq EReal (row (mulf (k0_pay7 x g t) (broadcastTo S512x1024 (k0_pay3 g) broadcasts_S1x1024_S512x1024 : FVec Ideal S512x1024 .f32) : FVec Ideal S512x1024 .f32) r k)
      (miss (row x r) (one g) (row t r) k * inv * one g k) := fun k =>
    congrArg₂ (fun a b : EReal => a * b) (pay7 x t g r k) ((spread_row _ _ r k).trans (pay3 g k))
  unfold k0_pay2 near
  refine congrArg₂ (fun a b : EReal => a * b) ((spread_col _ _ r d).trans (pay4 x r)) ?_
  refine congrArg₂ (fun a b : EReal => a - b) (ht d) ?_
  refine congrArg₂ (fun a b : EReal => a * b) (pay5 x r d) ?_
  refine (spread_col _ _ r d).trans (congrArg (fun a : EReal => Ideal.div a len) ?_)
  refine (cast_col _ _ r).trans ((sum_row (mulf (mulf (k0_pay7 x g t) (broadcastTo S512x1024 (k0_pay3 g) broadcasts_S1x1024_S512x1024 : FVec Ideal S512x1024 .f32) : FVec Ideal S512x1024 .f32) (k0_pay5 x)) _ _ _ r).trans
    (Finset.sum_congr rfl fun k _ => ?_))
  exact congrArg₂ (fun a b : EReal => a * b) (ht k) (pay5 x r k)

/-- What a row adds to the loss, before halving. -/
def cost (x g t : Fin 1024 → EReal) : EReal := (∑ d, miss x g t d * miss x g t d) * inv

/-- What a block adds to the loss. -/
theorem pay10 (s : Vec Ideal S8x128 .f32) (j : S8x128.Idx) :
    @Eq EReal (k0_pay10 x g t s j) ((s j : EReal) + half * ∑ r, cost (row x r) (one g) (row t r)) := by
  have hc : ∀ r : Fin 512, @Eq EReal ((mulf (shapeCast S512x1 (multiReduction .add [1] S512 (mulf (k0_pay6 x g t) (k0_pay6 x g t) : FVec Ideal S512x1024 .f32)
      0x00000000#32 reduces_S512x1024_S512 (.inl rfl) (by decide) : FVec Ideal S512 .f32) shapeCasts_S512_S512x1)
      (broadcast S512x1 (Scalar.ofBits .f32 0x3A800000#32 : Ideal .f32)) : FVec Ideal S512x1 .f32) (ValueIdx.ix2 r (0 : Fin 1)))
      (cost (row x r) (one g) (row t r)) := fun r => by
    refine congrArg (fun a : EReal => a * inv) ((cast_col _ _ r).trans ((sum_row (mulf (k0_pay6 x g t) (k0_pay6 x g t)) _ _ _ r).trans
      (Finset.sum_congr rfl fun d _ => ?_)))
    exact congrArg₂ (fun a b : EReal => a * b) (pay6 x t g r d) (pay6 x t g r d)
  unfold k0_pay10
  refine congrArg₂ (fun a b : EReal => a + b) (shapeCast_apply s _ j j rfl) ?_
  refine (broadcastTo_apply _ _ j (ValueIdx.ix2 (0 : Fin 1) (0 : Fin 1)) (by intro a; match a with | ⟨0, _⟩ => rfl | ⟨1, _⟩ => rfl)).trans ?_
  refine (shapeCast_apply _ _ (ValueIdx.ix2 (0 : Fin 1) (0 : Fin 1)) (ValueIdx.ix2 (0 : Fin 1) (0 : Fin 1)) rfl).trans ?_
  refine congrArg (fun a : EReal => half * a) ?_
  refine (shapeCast_apply _ _ (ValueIdx.ix2 (0 : Fin 1) (0 : Fin 1)) (ValueIdx.ix1 (0 : Fin 1)) rfl).trans ?_
  exact (sum_ones _ _ _ _).trans (Finset.sum_congr rfl fun r _ => hc r)

theorem pay8 (d : Fin 1024) : @Eq EReal (one (k0_pay8 (F := Ideal)) d) 0 := Ffn.ofBits_zero
theorem pay9 (j : S8x128.Idx) : @Eq EReal (k0_pay9 (F := Ideal) j) 0 := Ffn.ofBits_zero

/-! ### What a point writes -/

variable (m : (ℓ : Loc nD τ sig) → Buf (Elt Ideal) ℓ) (c : Dev nD)

theorem run3_B (t : Fin cfg0.N) (h0 : ¬t.val % 16 = 0) :
    (outsAt0 m c t.val t.isLt).1 = k0_pay10 (iblk m c 0 t) (iblk m c 1 t) (iblk m c 2 t) (outsAt0 m c (t.val - 1) (Nat.lt_of_le_of_lt (Nat.sub_le _ _) t.isLt)).1 := by
  rw [outsAt0_B m c t h0]
  dsimp only
  unfold out0_B_3
  rw [View.read_writes_eq_canon _ _ _ (fun y => cover0_B_3 (y := y) ..)]
  unfold kernelRun0_B
  dsimp only
  sl_unfold_words
  simp only [View.readAt_eq_ld, (hs0_0 t).read_unread, (hs0_1 t).read_unread, (hs0_2 t).read_unread, (hs0_3 t).read_unread]
  rw [View.canon_unit_zero hz]
  repeat rw [View.ld_unit_zero hz]

theorem run4_B (t : Fin cfg0.N) (h0 : ¬t.val % 16 = 0) :
    (outsAt0 m c t.val t.isLt).2.1 = k0_pay2 (k0_pay3 (iblk m c 1 t)) (k0_pay4 (iblk m c 0 t)) (k0_pay5 (iblk m c 0 t)) (k0_pay7 (iblk m c 0 t) (iblk m c 1 t) (iblk m c 2 t)) := by
  rw [outsAt0_B m c t h0]
  dsimp only
  unfold out0_B_4
  rw [View.read_writes_eq_canon _ _ _ (fun y => cover0_B_4 (y := y) ..)]
  unfold kernelRun0_B
  dsimp only
  sl_unfold_words
  simp only [View.readAt_eq_ld, (hs0_0 t).read_unread, (hs0_1 t).read_unread, (hs0_2 t).read_unread]
  rw [View.canon_unit_zero hz]
  repeat rw [View.ld_unit_zero hz]

theorem run5_B (t : Fin cfg0.N) (h0 : ¬t.val % 16 = 0) :
    (outsAt0 m c t.val t.isLt).2.2 = k0_pay1 (k0_pay5 (iblk m c 0 t)) (k0_pay7 (iblk m c 0 t) (iblk m c 1 t) (iblk m c 2 t)) (outsAt0 m c (t.val - 1) (Nat.lt_of_le_of_lt (Nat.sub_le _ _) t.isLt)).2.2 := by
  rw [outsAt0_B m c t h0]
  dsimp only
  unfold out0_B_5
  rw [View.read_writes_eq_canon _ _ _ (fun y => cover0_B_5 (y := y) ..)]
  unfold kernelRun0_B
  dsimp only
  sl_unfold_words
  simp only [View.readAt_eq_ld, (hs0_0 t).read_unread, (hs0_1 t).read_unread, (hs0_2 t).read_unread, (hs0_5 t).read_unread]
  rw [View.canon_unit_zero hz]
  repeat rw [View.ld_unit_zero hz]

theorem run3_A (t : Fin cfg0.N) (h0 : t.val % 16 = 0) :
    (outsAt0 m c t.val t.isLt).1 = k0_pay10 (iblk m c 0 t) (iblk m c 1 t) (iblk m c 2 t) (k0_pay9 (F := Ideal)) := by
  rw [outsAt0_A m c t h0]
  dsimp only
  unfold out0_A_3
  rw [View.read_writes_eq_canon _ _ _ (fun y => cover0_A_3 (y := y) ..)]
  unfold kernelRun0_A
  dsimp only
  sl_unfold_words
  simp only [View.readAt_eq_ld, (hs0_0 t).read_unread, (hs0_1 t).read_unread, (hs0_2 t).read_unread]
  rw [View.canon_cons_unit_zero hz, View.readCov_unit_zero _ hz]
  repeat rw [View.ld_unit_zero hz]

theorem run4_A (t : Fin cfg0.N) (h0 : t.val % 16 = 0) :
    (outsAt0 m c t.val t.isLt).2.1 = k0_pay2 (k0_pay3 (iblk m c 1 t)) (k0_pay4 (iblk m c 0 t)) (k0_pay5 (iblk m c 0 t)) (k0_pay7 (iblk m c 0 t) (iblk m c 1 t) (iblk m c 2 t)) := by
  rw [outsAt0_A m c t h0]
  dsimp only
  unfold out0_A_4
  rw [View.read_writes_eq_canon _ _ _ (fun y => cover0_A_4 (y := y) ..)]
  unfold kernelRun0_A
  dsimp only
  sl_unfold_words
  simp only [View.readAt_eq_ld, (hs0_0 t).read_unread, (hs0_1 t).read_unread, (hs0_2 t).read_unread]
  rw [View.canon_unit_zero hz]
  repeat rw [View.ld_unit_zero hz]

theorem run5_A (t : Fin cfg0.N) (h0 : t.val % 16 = 0) :
    (outsAt0 m c t.val t.isLt).2.2 = k0_pay1 (k0_pay5 (iblk m c 0 t)) (k0_pay7 (iblk m c 0 t) (iblk m c 1 t) (iblk m c 2 t)) (k0_pay8 (F := Ideal)) := by
  rw [outsAt0_A m c t h0]
  dsimp only
  unfold out0_A_5
  rw [View.read_writes_eq_canon _ _ _ (fun y => cover0_A_5 (y := y) ..)]
  unfold kernelRun0_A
  dsimp only
  sl_unfold_words
  simp only [View.readAt_eq_ld, (hs0_0 t).read_unread, (hs0_1 t).read_unread, (hs0_2 t).read_unread]
  rw [View.canon_cons_unit_zero hz, View.readCov_unit_zero _ hz]
  repeat rw [View.ld_unit_zero hz]

end Cert.Loss

end
-- ==== Proof.LossFinal.lean ====
module
public import proofs.«01_k».proof.Proof.Loss
public import proofs.«01_k».proof.Proof.Finite

/-! What the kernel of the loss leaves in its three arrays. -/

@[expose] public section

set_option maxRecDepth 16384

noncomputable section

open Idealize.ShloMosaic Idealize.ShloMosaic.TcCoe Idealize.SL.Sem
open Idealize.ShloMosaic.Pipeline (Dat)
open Idealize.ShloMosaic.ValueIdx
open Cert.Kernel13Ideal Cert.Kernel13Ideal.Gen Cert.RowOps
open Cert.FfnRow (half len)
open Cert.RmsBack (rs near)

namespace Cert.Loss

variable (m : (ℓ : Loc nD τ sig) → Buf (Elt Ideal) ℓ) (c : Dev nD)

/-- Row `r` of block `t`. -/
def at_ (t : Fin cfg0.N) (r : Fin 512) : Fin 8192 := ⟨t.val * 512 + r.val, by
  have := t.isLt
  have : cfg0.N = 16 := rfl
  omega⟩

theorem ix_0 : ∀ t : Fin cfg0.N, win0_0.index t = ![t.val, 0] :=
  (by decide +kernel : ∀ t : Fin grid0.N, win0_0.index t = ![t.val, 0])
theorem emb_0 (t : Fin cfg0.N) (j : S512x1024.Idx) : (((cfg0.win 0).blk t).view.emb j : S8192x1024.Idx) = ValueIdx.ix2 (at_ t (j 0)) (j 1) := by
  funext a
  apply Fin.ext
  match a with
  | ⟨0, _⟩ => show win0_0.index t 0 * 512 + 1 * (j 0).val = t.val * 512 + (j 0).val; rw [ix_0]; show t.val * 512 + 1 * (j 0).val = _; omega
  | ⟨1, _⟩ => show win0_0.index t 1 * 1024 + 1 * (j 1).val = (j 1).val; rw [ix_0]; show 0 * 1024 + 1 * (j 1).val = _; omega

theorem ix_1 : ∀ t : Fin cfg0.N, win0_1.index t = ![0, 0] :=
  (by decide +kernel : ∀ t : Fin grid0.N, win0_1.index t = ![0, 0])
theorem emb_1 (t : Fin cfg0.N) (j : S1x1024.Idx) : (((cfg0.win 1).blk t).view.emb j : S1x1024.Idx) = ValueIdx.ix2 (j 0) (j 1) := by
  funext a
  apply Fin.ext
  match a with
  | ⟨0, _⟩ => show win0_1.index t 0 * 1 + 1 * (j 0).val = (j 0).val; rw [ix_1]; show 0 * 1 + 1 * (j 0).val = _; omega
  | ⟨1, _⟩ => show win0_1.index t 1 * 1024 + 1 * (j 1).val = (j 1).val; rw [ix_1]; show 0 * 1024 + 1 * (j 1).val = _; omega

theorem ix_2 : ∀ t : Fin cfg0.N, win0_2.index t = ![t.val, 0] :=
  (by decide +kernel : ∀ t : Fin grid0.N, win0_2.index t = ![t.val, 0])
theorem emb_2 (t : Fin cfg0.N) (j : S512x1024.Idx) : (((cfg0.win 2).blk t).view.emb j : S8192x1024.Idx) = ValueIdx.ix2 (at_ t (j 0)) (j 1) := by
  funext a
  apply Fin.ext
  match a with
  | ⟨0, _⟩ => show win0_2.index t 0 * 512 + 1 * (j 0).val = t.val * 512 + (j 0).val; rw [ix_2]; show t.val * 512 + 1 * (j 0).val = _; omega
  | ⟨1, _⟩ => show win0_2.index t 1 * 1024 + 1 * (j 1).val = (j 1).val; rw [ix_2]; show 0 * 1024 + 1 * (j 1).val = _; omega

theorem ix_3 : ∀ t : Fin cfg0.N, win0_3.index t = ![0, 0] :=
  (by decide +kernel : ∀ t : Fin grid0.N, win0_3.index t = ![0, 0])
theorem emb_3 (t : Fin cfg0.N) (j : S8x128.Idx) : (((cfg0.win 3).blk t).view.emb j : S8x128.Idx) = ValueIdx.ix2 (j 0) (j 1) := by
  funext a
  apply Fin.ext
  match a with
  | ⟨0, _⟩ => show win0_3.index t 0 * 8 + 1 * (j 0).val = (j 0).val; rw [ix_3]; show 0 * 8 + 1 * (j 0).val = _; omega
  | ⟨1, _⟩ => show win0_3.index t 1 * 128 + 1 * (j 1).val = (j 1).val; rw [ix_3]; show 0 * 128 + 1 * (j 1).val = _; omega

theorem ix_4 : ∀ t : Fin cfg0.N, win0_4.index t = ![t.val, 0] :=
  (by decide +kernel : ∀ t : Fin grid0.N, win0_4.index t = ![t.val, 0])
theorem emb_4 (t : Fin cfg0.N) (j : S512x1024.Idx) : (((cfg0.win 4).blk t).view.emb j : S8192x1024.Idx) = ValueIdx.ix2 (at_ t (j 0)) (j 1) := by
  funext a
  apply Fin.ext
  match a with
  | ⟨0, _⟩ => show win0_4.index t 0 * 512 + 1 * (j 0).val = t.val * 512 + (j 0).val; rw [ix_4]; show t.val * 512 + 1 * (j 0).val = _; omega
  | ⟨1, _⟩ => show win0_4.index t 1 * 1024 + 1 * (j 1).val = (j 1).val; rw [ix_4]; show 0 * 1024 + 1 * (j 1).val = _; omega

theorem ix_5 : ∀ t : Fin cfg0.N, win0_5.index t = ![0, 0] :=
  (by decide +kernel : ∀ t : Fin grid0.N, win0_5.index t = ![0, 0])
theorem emb_5 (t : Fin cfg0.N) (j : S1x1024.Idx) : (((cfg0.win 5).blk t).view.emb j : S1x1024.Idx) = ValueIdx.ix2 (j 0) (j 1) := by
  funext a
  apply Fin.ext
  match a with
  | ⟨0, _⟩ => show win0_5.index t 0 * 1 + 1 * (j 0).val = (j 0).val; rw [ix_5]; show 0 * 1 + 1 * (j 0).val = _; omega
  | ⟨1, _⟩ => show win0_5.index t 1 * 1024 + 1 * (j 1).val = (j 1).val; rw [ix_5]; show 0 * 1024 + 1 * (j 1).val = _; omega

/-- The three arguments: rows, scale and targets. -/
def aX (l : Fin 8192) (d : Fin 1024) : EReal := (m (c, Proc.tc.devRef main_arg0) : S8192x1024.Idx → EReal) (ValueIdx.ix2 l d)
def aG (d : Fin 1024) : EReal := (m (c, Proc.tc.devRef main_arg1) : S1024.Idx → EReal) (ValueIdx.ix1 d)
def aT (l : Fin 8192) (d : Fin 1024) : EReal := (m (c, Proc.tc.devRef main_arg2) : S8192x1024.Idx → EReal) (ValueIdx.ix2 l d)

theorem b0 (t : Fin cfg0.N) (r : Fin 512) : row (iblk m c 0 t : Vec Ideal S512x1024 .f32) r = aX m c (at_ t r) := by
  funext d
  unfold row iblk
  rw [View.read_apply]
  show V m c main_arg0 _ = _
  rw [emb_0]
  entry_read
  rfl
theorem b1 (t : Fin cfg0.N) : one (iblk m c 1 t : Vec Ideal S1x1024 .f32) = aG m c := by
  funext d
  unfold one iblk
  rw [View.read_apply]
  show V m c main_v0 _ = _
  rw [emb_1]
  entry_read
  exact cast_row (m (c, Proc.tc.devRef main_arg1) : S1024.Idx → EReal) _ d |>.symm ▸ rfl
theorem b2 (t : Fin cfg0.N) (r : Fin 512) : row (iblk m c 2 t : Vec Ideal S512x1024 .f32) r = aT m c (at_ t r) := by
  funext d
  unfold row iblk
  rw [View.read_apply]
  show V m c main_arg2 _ = _
  rw [emb_2]
  entry_read
  rfl

/-! ### The results -/

/-- What row `l` misses its target by. -/
def E (l : Fin 8192) : Fin 1024 → EReal := miss (aX m c l) (aG m c) (aT m c l)
/-- What row `l` adds to the gradient of the scale. -/
def DG (d : Fin 1024) (l : Fin 8192) : EReal := E m c l d * inv * (aX m c l d * rs (aX m c l))
/-- The gradient of row `l`. -/
def DX (l : Fin 8192) : Fin 1024 → EReal := near (aX m c l) fun k => E m c l k * inv * aG m c k
/-- What row `l` adds to the loss, before halving. -/
def C (l : Fin 8192) : EReal := cost (aX m c l) (aG m c) (aT m c l)

theorem ext_at (f : Fin 8192 → EReal) (t : Fin cfg0.N) : ∑ r, f (at_ t r) = part f t.val :=
  Finset.sum_congr rfl fun r _ => (DwSum.ext_of_lt f (t.val * 512 + r.val) (at_ t r).isLt).symm

theorem dx_any (t : Fin cfg0.N) : (outsAt0 m c t.val t.isLt).2.1 =
    k0_pay2 (k0_pay3 (iblk m c 1 t)) (k0_pay4 (iblk m c 0 t)) (k0_pay5 (iblk m c 0 t)) (k0_pay7 (iblk m c 0 t) (iblk m c 1 t) (iblk m c 2 t)) := by
  by_cases h0 : t.val % 16 = 0
  · exact run4_A m c t h0
  · exact run4_B m c t h0

theorem near_at (t : Fin cfg0.N) (r : Fin 512) (d : Fin 1024) :
    near (row (iblk m c 0 t) r) (fun k => miss (row (iblk m c 0 t) r) (one (iblk m c 1 t)) (row (iblk m c 2 t) r) k * inv * one (iblk m c 1 t) k) d
      = DX m c (at_ t r) d := by
  rw [b0, b1, b2]
  rfl

theorem row4 (t : Fin cfg0.N) : (outsAt0 m c t.val t.isLt).2.1 = fun y : S512x1024.Idx => DX m c (at_ t (y 0)) (y 1) := by
  rw [dx_any]
  funext y
  exact (congrArg _ (Finite.eta2 y)).trans ((pay2 _ _ _ (y 0) (y 1)).trans (near_at m c t (y 0) (y 1)))

theorem step5 (t : Fin cfg0.N) (s : Vec Ideal S1x1024 .f32) :
    k0_pay1 (k0_pay5 (iblk m c 0 t)) (k0_pay7 (iblk m c 0 t) (iblk m c 1 t) (iblk m c 2 t)) s =
      fun i : S1x1024.Idx => (one s (i 1) + part (DG m c (i 1)) t.val : EReal) := by
  refine row_ext _ (fun d => one s d + part (DG m c d) t.val) fun d => (pay1 _ _ _ s d).trans ?_
  rw [← ext_at]
  refine congrArg (fun a : EReal => one s d + a) (Finset.sum_congr rfl fun r _ => ?_)
  rw [b0, b1, b2]
  rfl

theorem step3 (t : Fin cfg0.N) (s : Vec Ideal S8x128 .f32) :
    k0_pay10 (iblk m c 0 t) (iblk m c 1 t) (iblk m c 2 t) s = fun i : S8x128.Idx => ((s i : EReal) + half * part (C m c) t.val : EReal) := by
  funext i
  refine (pay10 _ _ _ s i).trans ?_
  rw [← ext_at]
  refine congrArg (fun a : EReal => (s i : EReal) + half * a) (Finset.sum_congr rfl fun r _ => ?_)
  rw [b0, b1, b2]
  rfl

theorem acc5 (n : ℕ) : ∀ h : n < cfg0.N,
    (outsAt0 m c n h).2.2 = fun i : S1x1024.Idx => (∑ s ∈ Finset.range (n + 1), part (DG m c (i 1)) s : EReal) := by
  induction n with
  | zero =>
    intro h
    refine (run5_A m c ⟨0, h⟩ (Nat.zero_mod 16)).trans ((step5 m c ⟨0, h⟩ _).trans (funext fun i => ?_))
    rw [Finset.sum_range_one]
    exact (congrArg (fun a : EReal => a + part (DG m c (i 1)) 0) (pay8 (i 1))).trans (zero_add _)
  | succ n ih =>
    intro h
    have hn : n + 1 < 16 := h
    refine (run5_B m c ⟨n + 1, h⟩ (by show ¬(n + 1) % 16 = 0; omega)).trans ((step5 m c ⟨n + 1, h⟩ _).trans (funext fun i => ?_))
    rw [Finset.sum_range_succ _ (n + 1)]
    exact congrArg (fun a : EReal => a + part (DG m c (i 1)) (n + 1)) (congrFun (ih (Nat.lt_of_succ_lt h)) (ValueIdx.ix2 (0 : Fin 1) (i 1)))

theorem acc3 (n : ℕ) : ∀ h : n < cfg0.N,
    (outsAt0 m c n h).1 = fun i : S8x128.Idx => (∑ s ∈ Finset.range (n + 1), half * part (C m c) s : EReal) := by
  induction n with
  | zero =>
    intro h
    refine (run3_A m c ⟨0, h⟩ (Nat.zero_mod 16)).trans ((step3 m c ⟨0, h⟩ _).trans (funext fun i => ?_))
    rw [Finset.sum_range_one]
    exact (congrArg (fun a : EReal => a + half * part (C m c) 0) (pay9 i)).trans (zero_add _)
  | succ n ih =>
    intro h
    have hn : n + 1 < 16 := h
    refine (run3_B m c ⟨n + 1, h⟩ (by show ¬(n + 1) % 16 = 0; omega)).trans ((step3 m c ⟨n + 1, h⟩ _).trans (funext fun i => ?_))
    rw [Finset.sum_range_succ _ (n + 1)]
    exact congrArg (fun a : EReal => a + half * part (C m c) (n + 1)) (congrFun (ih (Nat.lt_of_succ_lt h)) i)

def loss : (⟨S8x128, .f32⟩ : BufTy).Contents (Elt Ideal) := fun _ => (half * ∑ l, C m c l : EReal)
def dx : (⟨S8192x1024, .f32⟩ : BufTy).Contents (Elt Ideal) := fun i => DX m c (i 0) (i 1)
def dg : (⟨S1x1024, .f32⟩ : BufTy).Contents (Elt Ideal) := fun i => (∑ l, DG m c (i 1) l : EReal)

theorem total3 : (fun i : S8x128.Idx => (∑ s ∈ Finset.range (15 + 1), half * part (C m c) s : EReal)) = loss m c := by
  funext i
  show _ = half * ∑ l, C m c l
  rw [← sum_part (C m c), FfnRow.half_eq]
  exact (RmsBack.mul_sum (1 / 2) (by norm_num) _ _).symm
theorem total5 : (fun i : S1x1024.Idx => (∑ s ∈ Finset.range (15 + 1), part (DG m c (i 1)) s : EReal)) = dg m c :=
  funext fun i => sum_part (DG m c (i 1))

theorem final3 : (dats m 0 c).arrAt 3 cfg0.N = loss m c := by
  refine (dats m 0 c).arrAt_eq_of_covers 3 _ (by decide +kernel) fun t hf y => ?_
  have ht : t.val % 16 = 15 := (flush0_3 t).mp hf
  have hN : t.val < 16 := t.isLt
  obtain rfl : t = ⟨15, by decide⟩ := Fin.ext (by show t.val = 15; omega)
  rw [after0_3, acc3 m c 15, total3, emb_3]
  rfl
theorem final4 : (dats m 0 c).arrAt 4 cfg0.N = dx m c := by
  refine (dats m 0 c).arrAt_eq_of_covers 4 _ (by decide +kernel) fun t hf y => ?_
  rw [after0_4, row4 m c t, emb_4]
  rfl
theorem final5 : (dats m 0 c).arrAt 5 cfg0.N = dg m c := by
  refine (dats m 0 c).arrAt_eq_of_covers 5 _ (by decide +kernel) fun t hf y => ?_
  have ht : t.val % 16 = 15 := (flush0_5 t).mp hf
  have hN : t.val < 16 := t.isLt
  obtain rfl : t = ⟨15, by decide⟩ := Fin.ext (by show t.val = 15; omega)
  rw [after0_5, acc5 m c 15, total5, emb_5]
  rfl

end Cert.Loss

end
-- ==== Proof.LossClaim.lean ====
module
public import proofs.«01_k».proof.Proof.LossFinal
public import proofs.«01_k».proof.Defs
public import proofs.«01_k».proof.Proof.Gen.Reference13Ideal.Run
public import proofs.«01_k».proof.Proof.Gen.Reference13Ideal.Read
public import Idealize.ShloMosaic.Lib.Quiescent

/-! The claims about the kernel of the loss. -/

@[expose] public section

set_option maxRecDepth 16384

noncomputable section

open Idealize.ShloMosaic Idealize.ShloMosaic.TcCoe Idealize.SL.Sem
open Idealize.ShloMosaic.ValueIdx
open Cert.FfnRow (half len)
open Cert.RmsBack (rs near pull)
open Cert.Loss (inv miss cost)

namespace Cert.LossClaim

open Cert.Reference13Ideal Cert.Reference13Ideal.Gen Cert.Reference13Ideal.Read

theorem zero_bits : Ideal.ofBits .f32 0x00000000#32 = (0 : EReal) := Ffn.ofBits_zero

theorem inv_eq : inv = ((1 / 1024 : ℝ) : EReal) := by
  unfold Loss.inv
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

theorem div_inv (a : EReal) : Ideal.div a len = a * inv := (RmsBack.div_len a).trans (by rw [inv_eq])

/-! ### The reference, entry by entry -/

variable (x : S8192x1024.Idx → EReal) (g : S1024.Idx → EReal) (t : S8192x1024.Idx → EReal)

def rowOf (x : S8192x1024.Idx → EReal) (l : Fin 8192) (d : Fin 1024) : EReal := x (ValueIdx.ix2 l d)
def vecOf (g : S1024.Idx → EReal) (d : Fin 1024) : EReal := g (ValueIdx.ix1 d)

theorem r1 (i : S8192.Idx) : @Eq EReal (val_main_v1 (F := Ideal) x i) (∑ k, rowOf x (i 0) k * rowOf x (i 0) k) := by
  rw [val_main_v1_apply]
  refine Eq.trans (b := Ideal.ofBits .f32 0x00000000#32 + ∑ k : Fin 1024, rowOf x (i 0) k * rowOf x (i 0) k)
    (congrArg (fun a : EReal => Ideal.ofBits .f32 0x00000000#32 + a) (Finset.sum_congr rfl fun k _ => ?_)) ?_
  · have e : idx_main_v1 i k = ValueIdx.ix2 (i 0) k := funext fun a => by match a with | ⟨0, _⟩ => rfl | ⟨1, _⟩ => rfl
    rw [e]; rfl
  · rw [zero_bits, zero_add]

theorem r6 (i : S8192x1.Idx) : @Eq EReal (val_main_v6 (F := Ideal) x i) (RmsBack.ms (rowOf x (i 0))) := by
  rw [val_main_v6_apply, val_main_v4_apply, val_main_v2_apply, val_main_v3_apply, val_main_v5_apply]
  exact congrArg (fun a : EReal => Ideal.div a len + FfnRow.eps) (r1 x (idx_main_v2 i))

theorem r7 (i : S8192x1.Idx) : @Eq EReal (val_main_v7 (F := Ideal) x i) (rs (rowOf x (i 0))) := by
  rw [val_main_v7_apply]
  exact congrArg Ideal.rsqrt (r6 x i)

theorem r12 (l : Fin 8192) (d : Fin 1024) : @Eq EReal (val_main_v12 (F := Ideal) x (ValueIdx.ix2 l d)) (rowOf x l d * rs (rowOf x l)) := by
  rw [val_main_v12_apply, val_main_v11_apply]
  exact congrArg (fun a : EReal => rowOf x l d * a) (r7 x _)

theorem r16 (l : Fin 8192) (d : Fin 1024) :
    @Eq EReal (val_main_v16 (F := Ideal) x g t (ValueIdx.ix2 l d)) (miss (rowOf x l) (vecOf g) (rowOf t l) d) := by
  rw [val_main_v16_apply, val_main_v15_apply, val_main_v14_apply, val_main_v13_apply]
  refine congrArg₂ (fun a b : EReal => a * b - rowOf t l d) (r12 x l d) (congrArg g (funext fun a => ?_))
  match a with | ⟨0, _⟩ => rfl

theorem r22 (l : Fin 8192) : @Eq EReal (val_main_v22 (F := Ideal) x g t (ValueIdx.ix1 l)) (cost (rowOf x l) (vecOf g) (rowOf t l)) := by
  rw [val_main_v22_apply, val_main_v20_apply, val_main_v21_apply]
  refine (div_inv _).trans (congrArg (fun a : EReal => a * inv) ?_)
  refine Eq.trans (b := Ideal.ofBits .f32 0x00000000#32 + ∑ k : Fin 1024, miss (rowOf x l) (vecOf g) (rowOf t l) k * miss (rowOf x l) (vecOf g) (rowOf t l) k)
    (congrArg (fun a : EReal => Ideal.ofBits .f32 0x00000000#32 + a) (Finset.sum_congr rfl fun k _ => ?_)) (by rw [zero_bits, zero_add])
  have e : idx_main_v20 (ValueIdx.ix1 l) k = ValueIdx.ix2 l k := funext fun a => by match a with | ⟨0, _⟩ => rfl | ⟨1, _⟩ => rfl
  rw [e, val_main_v17_apply]
  exact congrArg₂ (fun a b : EReal => a * b) (r16 x g t l k) (r16 x g t l k)

theorem sum_idx (f : S8192.Idx → EReal) : ∑ j, f j = ∑ l : Fin 8192, f (ValueIdx.ix1 l) :=
  Fintype.sum_equiv ⟨fun j => j 0, fun l => ValueIdx.ix1 l, fun j => (Finite.eta1 j).symm, fun _ => rfl⟩ _ _
    fun j => congrArg f (Finite.eta1 j)

theorem r51 (i : S8x128.Idx) :
    @Eq EReal (val_main_v51 (F := Ideal) x g t i) (half * ∑ l, cost (rowOf x l) (vecOf g) (rowOf t l)) := by
  rw [val_main_v51_apply, val_main_v24_apply, val_main_v23_apply]
  refine congrArg (fun a : EReal => half * a) ?_
  refine Eq.trans (congrArg (fun a : EReal => Ideal.ofBits .f32 0x00000000#32 + a)
    ((sum_idx _).trans (Finset.sum_congr rfl fun l _ => r22 x g t l))) ?_
  rw [zero_bits, zero_add]

theorem r30 (l : Fin 8192) (d : Fin 1024) :
    @Eq EReal (val_main_v30 (F := Ideal) x g t (ValueIdx.ix2 l d)) (miss (rowOf x l) (vecOf g) (rowOf t l) d * inv) := by
  rw [val_main_v30_apply, val_main_v29_apply, val_main_v28_apply, val_main_v26_apply, val_main_v27_apply, val_main_v25_apply,
    val_main_v19_apply, val_main_v18_apply]
  refine Eq.trans (b := Ideal.div (half * Ideal.ofBits .f32 0x3F800000#32) len
    * (Ideal.ofBits .f32 0x40000000#32 * miss (rowOf x l) (vecOf g) (rowOf t l) d))
    (congrArg (fun a : EReal => Ideal.div (half * Ideal.ofBits .f32 0x3F800000#32) len * (Ideal.ofBits .f32 0x40000000#32 * a)) (r16 x g t l d)) ?_
  rw [RmsBack.div_len, two_eq, FfnRow.half_eq, Ffn.ofBits_one, inv_eq, ← mul_assoc, ← EReal.coe_mul, ← EReal.coe_mul, ← EReal.coe_mul, mul_comm]
  exact congrArg (fun a : ℝ => miss (rowOf x l) (vecOf g) (rowOf t l) d * (a : EReal)) (by norm_num)

theorem r52 (i : S1x1024.Idx) : @Eq EReal (val_main_v52 (F := Ideal) x g t i)
    (∑ l, miss (rowOf x l) (vecOf g) (rowOf t l) (i 1) * inv * (rowOf x l (i 1) * rs (rowOf x l))) := by
  rw [val_main_v52_apply, val_main_v36_apply]
  refine Eq.trans (b := Ideal.ofBits .f32 0x00000000#32 + ∑ k : Fin 1, (Ideal.ofBits .f32 0x00000000#32
      + ∑ l, miss (rowOf x l) (vecOf g) (rowOf t l) (i 1) * inv * (rowOf x l (i 1) * rs (rowOf x l)))) ?_ (by
    rw [Fin.sum_univ_one, zero_bits, zero_add, zero_add])
  refine congrArg (fun a : EReal => Ideal.ofBits .f32 0x00000000#32 + a) (Finset.sum_congr rfl fun k _ => ?_)
  rw [val_main_v33_apply, val_main_v32_apply]
  refine congrArg (fun a : EReal => Ideal.ofBits .f32 0x00000000#32 + a) (Finset.sum_congr rfl fun l _ => ?_)
  refine (congrArg (val_main_v31 (F := Ideal) x g t) (?_ : _ = ValueIdx.ix2 l (i 1))).trans ?_
  · have h1 : (i 1).val < 1024 := (i 1).isLt
    have hk : k.val < 1 := k.isLt
    funext a
    apply Fin.ext
    match a with
    | ⟨0, _⟩ => rfl
    | ⟨1, _⟩ => first | rfl | (show (k.val * 1024 + (i 1).val) % 1024 = (i 1).val; omega) | (show k.val * 1024 + (i 1).val = (i 1).val; omega)
  · exact (congrArg₂ (fun a b : EReal => a * b) (r12 x l (i 1)) (r30 x g t l (i 1))).trans (mul_comm _ _)

theorem r35 (l : Fin 8192) (d : Fin 1024) :
    @Eq EReal (val_main_v35 (F := Ideal) x g t (ValueIdx.ix2 l d)) (miss (rowOf x l) (vecOf g) (rowOf t l) d * inv * vecOf g d) := by
  rw [val_main_v35_apply, val_main_v34_apply, val_main_v13_apply]
  refine congrArg₂ (fun a b : EReal => a * b) (r30 x g t l d) (congrArg g (funext fun a => ?_))
  match a with | ⟨0, _⟩ => rfl

/-- The derivative of the normed and scaled row `l`. -/
def T (l : Fin 8192) (d : Fin 1024) : EReal := miss (rowOf x l) (vecOf g) (rowOf t l) d * inv * vecOf g d

theorem r37 (l : Fin 8192) (d : Fin 1024) : @Eq EReal (val_main_v37 (F := Ideal) x g t (ValueIdx.ix2 l d)) (rowOf x l d * T x g t l d) := by
  rw [val_main_v37_apply]
  exact congrArg (fun b : EReal => rowOf x l d * b) (r35 x g t l d)

theorem r38 (i : S8192.Idx) : @Eq EReal (val_main_v38 (F := Ideal) x g t i) (∑ k, rowOf x (i 0) k * T x g t (i 0) k) := by
  rw [val_main_v38_apply]
  refine Eq.trans (b := Ideal.ofBits .f32 0x00000000#32 + ∑ k : Fin 1024, rowOf x (i 0) k * T x g t (i 0) k)
    (congrArg (fun a : EReal => Ideal.ofBits .f32 0x00000000#32 + a) (Finset.sum_congr rfl fun k _ => ?_)) (by rw [zero_bits, zero_add])
  have e : idx_main_v38 i k = ValueIdx.ix2 (i 0) k := funext fun a => by match a with | ⟨0, _⟩ => rfl | ⟨1, _⟩ => rfl
  exact (congrArg _ e).trans (r37 x g t (i 0) k)

theorem r44 (i : S8192x1.Idx) : @Eq EReal (val_main_v44 (F := Ideal) x g t i) (pull (rowOf x (i 0)) (T x g t (i 0))) := by
  rw [val_main_v44_apply, val_main_v42_apply, val_main_v39_apply, val_main_v10_apply, val_main_v8_apply, val_main_v9_apply, val_main_v43_apply]
  refine congrArg₂ (fun a b : EReal => Ideal.div (a * (RmsBack.negHalf * b)) len) ?_ (congrArg₂ Ideal.div (r7 x i) (r6 x i))
  refine (r38 x g t _).trans ?_
  have e : idx_main_v39 i 0 = i 0 := Fin.ext (by
    have h1 : (i 1).val < 1 := (i 1).isLt
    first | rfl | (show (i 0).val * 1 + (i 1).val = (i 0).val; omega))
  rw [e]

theorem r46 (l : Fin 8192) (d : Fin 1024) :
    @Eq EReal (val_main_v46 (F := Ideal) x g t (ValueIdx.ix2 l d)) (pull (rowOf x l) (T x g t l)) := by
  rw [val_main_v46_apply, val_main_v45_apply]
  refine Eq.trans (b := Ideal.ofBits .f32 0x00000000#32 + ∑ k : Fin 1, pull (rowOf x l) (T x g t l))
    (congrArg (fun a : EReal => Ideal.ofBits .f32 0x00000000#32 + a) (Finset.sum_congr rfl fun k _ => r44 x g t _)) ?_
  rw [Fin.sum_univ_one, zero_bits, zero_add]

theorem r50 (i : S8192x1024.Idx) : @Eq EReal (val_main_v50 (F := Ideal) x g t i) (near (rowOf x (i 0)) (T x g t (i 0)) (i 1)) := by
  have key : ∀ (l : Fin 8192) (d : Fin 1024), @Eq EReal (val_main_v50 (F := Ideal) x g t (ValueIdx.ix2 l d)) (near (rowOf x l) (T x g t l) d) := fun l d => by
    rw [RmsBack.near_eq, val_main_v50_apply, val_main_v48_apply, val_main_v41_apply, val_main_v40_apply, val_main_v47_apply, val_main_v49_apply]
    exact congrArg₂ (fun a b : EReal => a + b) (congrArg₂ (fun a b : EReal => a + b)
      (congrArg₂ (fun a b : EReal => a * b) (r35 x g t l d) (r7 x _)) (congrArg (fun b : EReal => rowOf x l d * b) (r46 x g t l d)))
      (congrArg (fun b : EReal => b * rowOf x l d) (r46 x g t l d))
  exact (congrArg _ (Finite.eta2 i)).trans (key (i 0) (i 1))

/-! ### The claims -/

theorem frame_reference : Cert.quiescent_Reference13Ideal := fun m ρ _ =>
  (θ_run Cert.Reference13Ideal.defs _ _).mono
    (fun r h => ⟨fun c => (h c).2.2.2, sem_eq_zero_of_no_sems (by decide) r.2⟩)
    (Cert.Reference13Ideal.Value.run (F := Ideal) m ρ)

theorem algebraic : Cert.algebraic_Kernel13Ideal_Reference13Ideal := by
  intro m g m' g' _ hargs
  refine ⟨fun c => (Cert.Kernel13Ideal.Gen.dats m 0 c).arrAt 3 Cert.Kernel13Ideal.cfg0.N,
    fun c => (Cert.Kernel13Ideal.Gen.dats m 0 c).arrAt 4 Cert.Kernel13Ideal.cfg0.N,
    fun c => (Cert.Kernel13Ideal.Gen.dats m 0 c).arrAt 5 Cert.Kernel13Ideal.cfg0.N,
    Cert.Kernel13Ideal.Value.run_blocks m g, ?_⟩
  refine (θ_run Cert.Reference13Ideal.defs _ _).mono (fun r h c => ?_) (Cert.Reference13Ideal.Value.run (F := Ideal) m' g')
  obtain ⟨a0, a1, a2⟩ := hargs c
  obtain ⟨h0, h1, h2, h3⟩ := h c
  refine ⟨h0.trans ?_, h1.trans ?_, h2.trans ?_, h3⟩
  · refine (Cert.Reference13Ideal.Read.val_main_v51_eq _ _ _).trans ?_
    rw [a0, a1, a2]
    exact (funext fun i => r51 _ _ _ i).trans (Loss.final3 m c).symm
  · refine (Cert.Reference13Ideal.Read.val_main_v50_eq m' c).trans ?_
    rw [a0, a1, a2]
    exact (funext fun i => r50 _ _ _ i).trans (Loss.final4 m c).symm
  · refine (Cert.Reference13Ideal.Read.val_main_v52_eq _ _ _).trans ?_
    rw [a0, a1, a2]
    exact (funext fun i => r52 _ _ _ i).trans (Loss.final5 m c).symm

end Cert.LossClaim

end
-- ==== Proof.MixFwd.lean ====
module
public import proofs.«01_k».proof.Proof.RowOps
public import proofs.«01_k».proof.Proof.RmsBack
public import proofs.«01_k».proof.Proof.Residues
public import proofs.«01_k».proof.Proof.Gen.Kernel14Ideal.Value
public import Idealize.ShloMosaic.Lib.Tactic

/-! The mixer's input projection, forward: what a block of its rows gives to each of the eleven arrays. -/

@[expose] public section

set_option maxRecDepth 16384

noncomputable section

open Idealize.ShloMosaic Idealize.ShloMosaic.TcCoe Idealize.SL.Sem
open Idealize.ShloMosaic.Pipeline (Dat)
open Idealize.ShloMosaic.ValueIdx
open Cert.Kernel14Ideal Cert.Kernel14Ideal.Gen Cert.RowOps
open Cert.FfnRow (nrm half sg sg_tanh one_eq len eps)
open Cert.Residues (Plane Slab Strip Flat)

namespace Cert.MixFwd

/-! ### The body's operations, entry by entry -/

theorem mm768 (f : S512x1024.Idx → EReal) (g : S768x1024.Idx → EReal) (j : S512x768.Idx) :
    (∑ k : dot_S512x1024_S768x1024_S512x768_1_1_0_0_n_n.contr.Idx, f (dot_S512x1024_S768x1024_S512x768_1_1_0_0_n_n.lhsIdx j k) * g (dot_S512x1024_S768x1024_S512x768_1_1_0_0_n_n.rhsIdx j k))
      = ∑ k : Fin 1024, f (ValueIdx.ix2 (j 0) k) * g (ValueIdx.ix2 (j 1) k) :=
  Fintype.sum_equiv (contrEquiv1 dot_S512x1024_S768x1024_S512x768_1_1_0_0_n_n 1024 rfl rfl) _ _ fun k => by
    congr 1
    · exact congrArg f (funext fun a => by match a with | ⟨0, _⟩ => rfl | ⟨1, _⟩ => rfl)
    · exact congrArg g (funext fun a => by match a with | ⟨0, _⟩ => rfl | ⟨1, _⟩ => rfl)

theorem mm512 (f : S512x1024.Idx → EReal) (g : S512x1024.Idx → EReal) (j : S512x512.Idx) :
    (∑ k : dot_S512x1024_S512x1024_S512x512_1_1_0_0_n_n.contr.Idx, f (dot_S512x1024_S512x1024_S512x512_1_1_0_0_n_n.lhsIdx j k) * g (dot_S512x1024_S512x1024_S512x512_1_1_0_0_n_n.rhsIdx j k))
      = ∑ k : Fin 1024, f (ValueIdx.ix2 (j 0) k) * g (ValueIdx.ix2 (j 1) k) :=
  Fintype.sum_equiv (contrEquiv1 dot_S512x1024_S512x1024_S512x512_1_1_0_0_n_n 1024 rfl rfl) _ _ fun k => by
    congr 1
    · exact congrArg f (funext fun a => by match a with | ⟨0, _⟩ => rfl | ⟨1, _⟩ => rfl)
    · exact congrArg g (funext fun a => by match a with | ⟨0, _⟩ => rfl | ⟨1, _⟩ => rfl)

theorem mm2048 (f : S512x1024.Idx → EReal) (g : S2048x1024.Idx → EReal) (j : S512x2048.Idx) :
    (∑ k : dot_S512x1024_S2048x1024_S512x2048_1_1_0_0_n_n.contr.Idx, f (dot_S512x1024_S2048x1024_S512x2048_1_1_0_0_n_n.lhsIdx j k) * g (dot_S512x1024_S2048x1024_S512x2048_1_1_0_0_n_n.rhsIdx j k))
      = ∑ k : Fin 1024, f (ValueIdx.ix2 (j 0) k) * g (ValueIdx.ix2 (j 1) k) :=
  Fintype.sum_equiv (contrEquiv1 dot_S512x1024_S2048x1024_S512x2048_1_1_0_0_n_n 1024 rfl rfl) _ _ fun k => by
    congr 1
    · exact congrArg f (funext fun a => by match a with | ⟨0, _⟩ => rfl | ⟨1, _⟩ => rfl)
    · exact congrArg g (funext fun a => by match a with | ⟨0, _⟩ => rfl | ⟨1, _⟩ => rfl)

/-- The factor of the queries, the inverse root of a head's width. -/
def eighth : EReal := Ideal.ofBits .f32 0x3E000000#32

/-- An entry of the normed rows of a block times the weights. -/
def pj (x : Vec Ideal S512x1024 .f32) (g : Vec Ideal S1x1024 .f32) (w : Vec Ideal S4864x1024 .bf16) (l k : ℕ) : EReal :=
  if h : l < 512 ∧ k < 4864 then ∑ d : Fin 1024, nrm (row x ⟨l, h.1⟩) (one g) d * (w (ValueIdx.ix2 (⟨k, h.2⟩ : Fin 4864) d) : EReal) else 0

theorem normed (x : Vec Ideal S512x1024 .f32) (g : Vec Ideal S1x1024 .f32) (r : Fin 512) (d : Fin 1024) :
    @Eq EReal (k0_pay2 x g (ValueIdx.ix2 r d)) (nrm (row x r) (one g) d) := by
  unfold k0_pay2 nrm
  refine congrArg₂ (fun a b : EReal => a * b) (congrArg₂ (fun a b : EReal => a * b) rfl ((spread_col _ _ r d).trans ?_))
    ((spread_row _ _ r d).trans (cast_same g _ d))
  exact congrArg (fun a : EReal => Ideal.rsqrt (Ideal.div a len + eps)) ((cast_col _ _ r).trans (sum_row (mulf x x) _ _ _ r))

/-- Rows of the weights from row `o` on. -/
theorem ld_w {n : ℕ} (o : ℕ) (w : Vec Ideal S4864x1024 .bf16) (inb) (k : Fin n) (d : Fin 1024) (h : o + k.val < 4864) :
    View.ld w (Rect.unit (s := S4864x1024) ![o, 0] (⟨2, ![n, 1024]⟩ : Shape).size inb) (ValueIdx.ix2 k d) = w (ValueIdx.ix2 (⟨o + k.val, h⟩ : Fin 4864) d) := by
  refine View.ld_unit_apply_of w _ _ inb _ _ ?_
  intro a
  match a with
  | ⟨0, _⟩ => rfl
  | ⟨1, _⟩ => show d.val = 0 + d.val; omega

section
variable (x : Vec Ideal S512x1024 .f32) (g : Vec Ideal S1x1024 .f32) (w : Vec Ideal S4864x1024 .bf16) (o : ℕ)

theorem pj768 (inb) (h1) (l : Fin 512) (k : Fin 768) (ho : o + 768 ≤ 4864) :
    @Eq EReal (matmul dot_S512x1024_S768x1024_S512x768_1_1_0_0_n_n none (k0_pay2 x g)
        (shapeCast S768x1024 (View.ld w (Rect.unit (s := S4864x1024) ![o, 0] S768x1024.size inb)) h1 : FVec Ideal S768x1024 .bf16) (constant S512x768 .f32 0x00000000#32) (ValueIdx.ix2 l k))
      (pj x g w l.val (o + k.val)) := by
  have hk : o + k.val < 4864 := by have := k.isLt; omega
  show Ideal.ofBits .f32 0x00000000#32 + (_ : EReal) = _
  rw [show Ideal.ofBits .f32 0x00000000#32 = (0 : EReal) from Ffn.ofBits_zero, zero_add]
  unfold pj
  rw [dif_pos (⟨l.isLt, hk⟩ : l.val < 512 ∧ o + k.val < 4864)]
  refine (mm768 _ _ _).trans (Finset.sum_congr rfl fun d _ => congrArg₂ (fun a b : EReal => a * b) (normed x g l d) ?_)
  exact (shapeCast_apply _ h1 (ValueIdx.ix2 k d) (ValueIdx.ix2 k d) rfl).trans (ld_w o w inb k d hk)

theorem pj512 (inb) (h1) (l : Fin 512) (k : Fin 512) (ho : o + 512 ≤ 4864) :
    @Eq EReal (matmul dot_S512x1024_S512x1024_S512x512_1_1_0_0_n_n none (k0_pay2 x g)
        (shapeCast S512x1024 (View.ld w (Rect.unit (s := S4864x1024) ![o, 0] S512x1024.size inb)) h1 : FVec Ideal S512x1024 .bf16) (constant S512x512 .f32 0x00000000#32) (ValueIdx.ix2 l k))
      (pj x g w l.val (o + k.val)) := by
  have hk : o + k.val < 4864 := by have := k.isLt; omega
  show Ideal.ofBits .f32 0x00000000#32 + (_ : EReal) = _
  rw [show Ideal.ofBits .f32 0x00000000#32 = (0 : EReal) from Ffn.ofBits_zero, zero_add]
  unfold pj
  rw [dif_pos (⟨l.isLt, hk⟩ : l.val < 512 ∧ o + k.val < 4864)]
  refine (mm512 _ _ _).trans (Finset.sum_congr rfl fun d _ => congrArg₂ (fun a b : EReal => a * b) (normed x g l d) ?_)
  exact (shapeCast_apply _ h1 (ValueIdx.ix2 k d) (ValueIdx.ix2 k d) rfl).trans (ld_w o w inb k d hk)

theorem pj2048 (inb) (h1) (l : Fin 512) (k : Fin 2048) (ho : o + 2048 ≤ 4864) :
    @Eq EReal (matmul dot_S512x1024_S2048x1024_S512x2048_1_1_0_0_n_n none (k0_pay2 x g)
        (shapeCast S2048x1024 (View.ld w (Rect.unit (s := S4864x1024) ![o, 0] S2048x1024.size inb)) h1 : FVec Ideal S2048x1024 .bf16) (constant S512x2048 .f32 0x00000000#32) (ValueIdx.ix2 l k))
      (pj x g w l.val (o + k.val)) := by
  have hk : o + k.val < 4864 := by have := k.isLt; omega
  show Ideal.ofBits .f32 0x00000000#32 + (_ : EReal) = _
  rw [show Ideal.ofBits .f32 0x00000000#32 = (0 : EReal) from Ffn.ofBits_zero, zero_add]
  unfold pj
  rw [dif_pos (⟨l.isLt, hk⟩ : l.val < 512 ∧ o + k.val < 4864)]
  refine (mm2048 _ _ _).trans (Finset.sum_congr rfl fun d _ => congrArg₂ (fun a b : EReal => a * b) (normed x g l d) ?_)
  exact (shapeCast_apply _ h1 (ValueIdx.ix2 k d) (ValueIdx.ix2 k d) rfl).trans (ld_w o w inb k d hk)

theorem pay3 (inb) (l : Fin 512) (k : Fin 768) (ho : o + 768 ≤ 4864) :
    @Eq EReal (k0_pay3 x g (View.ld w (Rect.unit (s := S4864x1024) ![o, 0] S768x1024.size inb)) (ValueIdx.ix2 l k)) (pj x g w l.val (o + k.val) * eighth) :=
  congrArg (fun a : EReal => a * eighth) (pj768 x g w o inb _ l k ho)

theorem pay59 (inb) (l : Fin 512) (k : Fin 768) (ho : o + 768 ≤ 4864) :
    @Eq EReal (k0_pay59 (k0_pay2 x g) (k0_pay58 (View.ld w (Rect.unit (s := S4864x1024) ![o, 0] S768x1024.size inb))) (ValueIdx.ix2 l k)) (pj x g w l.val (o + k.val)) := by
  refine Eq.trans (congrArg (fun a : EReal => a * FfnRow.one) (pj768 x g w o inb _ l k ho)) ?_
  rw [one_eq, mul_one]

theorem pay113 (inb) (l : Fin 512) (k : Fin 768) (ho : o + 768 ≤ 4864) :
    @Eq EReal (k0_pay113 (k0_pay2 x g) (View.ld w (Rect.unit (s := S4864x1024) ![o, 0] S768x1024.size inb)) (ValueIdx.ix2 l k)) (pj x g w l.val (o + k.val)) := by
  refine Eq.trans (congrArg (fun a : EReal => a * FfnRow.one) (pj768 x g w o inb _ l k ho)) ?_
  rw [one_eq, mul_one]

theorem pay166 (inb) (l : Fin 512) (k : Fin 512) (ho : o + 512 ≤ 4864) :
    @Eq EReal (k0_pay166 (k0_pay2 x g) (View.ld w (Rect.unit (s := S4864x1024) ![o, 0] S512x1024.size inb)) (ValueIdx.ix2 l k)) (pj x g w l.val (o + k.val)) :=
  pj512 x g w o inb _ l k ho

theorem gate (b : Vec Ideal S1x2048 .f32) (inb) (l : Fin 512) (k : Fin 2048) (ho : o + 2048 ≤ 4864) :
    @Eq EReal (k0_pay1 (k0_pay167 (k0_pay2 x g) (View.ld w (Rect.unit (s := S4864x1024) ![o, 0] S2048x1024.size inb)) b) (k0_pay168 (F := Ideal)) (ValueIdx.ix2 l k))
      (sg (pj x g w l.val (o + k.val) + b (ValueIdx.ix2 (0 : Fin 1) k))) := by
  refine Eq.trans (b := half + half * Ideal.tanh (half * (pj x g w l.val (o + k.val) + b (ValueIdx.ix2 (0 : Fin 1) k)))) ?_ (sg_tanh _)
  refine congrArg (fun a : EReal => half + half * Ideal.tanh (half * a)) ?_
  refine congrArg₂ (fun a b : EReal => a + b) (pj2048 x g w o inb _ l k ho) ?_
  refine (broadcastTo_apply _ _ (ValueIdx.ix2 l k) (ValueIdx.ix2 (0 : Fin 1) k) (by intro a; match a with | ⟨0, _⟩ => rfl | ⟨1, _⟩ => rfl)).trans ?_
  exact shapeCast_apply b _ (ValueIdx.ix2 (0 : Fin 1) k) (ValueIdx.ix2 (0 : Fin 1) k) rfl

end

/-! ### Columns of a third, and the halves they are stored in -/

theorem half_ {Y : ℕ → ℕ → EReal} {v : FVec Ideal S512x768 .f32} (hv : ∀ (l : Fin 512) (k : Fin 768), @Eq EReal (v (ValueIdx.ix2 l k)) (Y l.val k.val))
    (o h q : ℕ) (ho : o + 256 ≤ 768) (hh : h < 2) (hq : q = 128 * h) (h1 h2 h3) (l : Fin 512) (j : Fin 128) :
    @Eq EReal (shapeCast S1x512x128 (extractStridedSlice S512x128 ![0, q] (extractStridedSlice S512x256 ![0, o] v h1 : FVec Ideal S512x256 .f32) h2 : FVec Ideal S512x128 .f32) h3
      (ValueIdx.ix3 (0 : Fin 1) l j)) (Y l.val (o + (128 * h + j.val))) := by
  subst hq
  have hj := j.isLt
  have hb : o + (128 * h + j.val) < 768 := by omega
  refine (shapeCast_apply _ _ (ValueIdx.ix3 (0 : Fin 1) l j) (ValueIdx.ix2 l j) (by
    rw [Shape.rowMajor_val_three, Shape.rowMajor_val_two]
    show l.val * 128 + j.val = (0 * 512 + l.val) * 128 + j.val
    omega)).trans ?_
  refine Eq.trans ?_ (hv l ⟨o + (128 * h + j.val), hb⟩)
  refine congrArg v (funext fun a => Fin.ext ?_)
  match a with
  | ⟨0, _⟩ => show 0 + (0 + l.val) = l.val; omega
  | ⟨1, _⟩ => rfl

theorem whole {Y : ℕ → ℕ → EReal} {v : FVec Ideal S512x768 .f32} (hv : ∀ (l : Fin 512) (k : Fin 768), @Eq EReal (v (ValueIdx.ix2 l k)) (Y l.val k.val))
    (h1 h2 h3) (y : S1x512x256.Idx) :
    @Eq EReal (shapeCast S1x512x256 (truncf .bf16 (extractStridedSlice S512x256 ![0, 0] v h1 : FVec Ideal S512x256 .f32) h2 : FVec Ideal S512x256 .bf16) h3 y)
      (Y ((y 0).val + 1 * (y 1).val) (0 + (y 2).val)) := by
  have h0 : (y 0).val < 1 := (y 0).isLt
  have hb : 0 + (y 2).val < 768 := by have : (y 2).val < 256 := (y 2).isLt; omega
  refine (shapeCast_apply _ _ y (ValueIdx.ix2 (y 1) (y 2)) (by
    rw [Shape.rowMajor_val_three, Shape.rowMajor_val_two]
    show (y 1).val * 256 + (y 2).val = ((y 0).val * 512 + (y 1).val) * 256 + (y 2).val
    omega)).trans ?_
  refine Eq.trans ?_ ((hv (y 1) ⟨0 + (y 2).val, hb⟩).trans (congrArg (fun a => Y a _) (by omega)))
  refine congrArg v (funext fun a => Fin.ext ?_)
  match a with
  | ⟨0, _⟩ => show 0 + (y 1).val = (y 1).val; omega
  | ⟨1, _⟩ => rfl

/-- The newest store holds half `h` of the columns `T`. -/
def Top (T : ℕ → ℕ → EReal) (h : ℕ) (L : List (View.Piece (Elt Ideal) Plane .f32)) : Prop :=
  ∃ (inb : ∀ a : Fin 3, (![h, 0, 0] : Fin 3 → ℕ) a + (Strip 512).size a ≤ Plane.size a) (w : (Strip 512).Idx → EReal) (rest : List (View.Piece (Elt Ideal) Plane .f32)),
    L = ⟨Rect.unit (s := Plane) ![h, 0, 0] (Strip 512).size inb, w⟩ :: rest ∧
      ∀ (l : Fin 512) (j : Fin 128), w (ValueIdx.ix3 (0 : Fin 1) l j) = T l.val (128 * h + j.val)

/-- Every `d`th row of the newest store from row `r` on. -/
theorem strip {d n : ℕ} (hn : d * n = 512) {T : ℕ → ℕ → EReal} (h r q : ℕ) (hr : r < d) (hq : q = 128 * h)
    {L : List (View.Piece (Elt Ideal) Plane .f32)} (hL : Top T h L) (v : View sig .tc .vmem Plane .f32) (inb) (h1 h2 h3)
    (x : (Strip n).Idx) (y : (Slab d n).Idx) (hx : ∀ a, (y a : ℕ) = (![r, 0, q] : Fin 3 → ℕ) a + x a) :
    @Eq EReal (shapeCast (Strip n) (truncf .bf16 (shapeCast (Flat n)
        (v.readCov (Val := Elt Ideal) L (⟨![h, r, 0], (Strip n).size, ![1, d, 1], inb⟩ : LoadRect Plane) : FVec Ideal (Strip n) .f32) h1 : FVec Ideal (Flat n) .f32) h2 : FVec Ideal (Flat n) .bf16) h3 x)
      (T ((y 0).val + d * (y 1).val) (y 2).val) := by
  obtain ⟨inb', w, rest, rfl, hw⟩ := hL
  subst hq
  have x0 : (x 0).val < 1 := (x 0).isLt
  have x1 : (x 1).val < n := (x 1).isLt
  have y0 : (y 0).val = r + (x 0).val := hx 0
  have y1 : (y 1).val = 0 + (x 1).val := hx 1
  have y2 : (y 2).val = 128 * h + (x 2).val := hx 2
  have hb : r + d * (x 1).val < 512 := by
    have : d * (x 1).val + d ≤ d * n := by rw [← Nat.mul_succ]; exact Nat.mul_le_mul_left d x1
    omega
  refine (congrFun (shapeCast_shapeCast (v.readCov (Val := Elt Ideal) (⟨Rect.unit (s := Plane) ![h, 0, 0] (Strip 512).size inb', w⟩ :: rest)
    (⟨![h, r, 0], (Strip n).size, ![1, d, 1], inb⟩ : LoadRect Plane) : FVec Ideal (Strip n) .f32) h1 h3) x).trans ?_
  rw [View.readCov_eq_canon']
  have e : (⟨![h, r, 0], (Strip n).size, ![1, d, 1], inb⟩ : LoadRect Plane).idx x
      = (Rect.unit (s := Plane) ![h, 0, 0] (Strip 512).size inb').emb (ValueIdx.ix3 (0 : Fin 1) (⟨r + d * (x 1).val, hb⟩ : Fin 512) (x 2)) := by
    funext a
    apply Fin.ext
    match a with
    | ⟨0, _⟩ => show h + 1 * (x 0).val = h + 1 * 0; omega
    | ⟨1, _⟩ => show r + d * (x 1).val = 0 + 1 * (r + d * (x 1).val); omega
    | ⟨2, _⟩ => rfl
  refine (congrArg (View.canon (Val := Elt Ideal) (e := .f32) _) e).trans ?_
  refine (View.canon_cons_emb (Val := Elt Ideal) (e := .f32) (Rect.unit (s := Plane) ![h, 0, 0] (Strip 512).size inb') w rest _).trans ?_
  refine (hw _ _).trans ?_
  rw [y0, y1, y2]
  exact congrArg₂ T (by show r + d * (x 1).val = r + (x 0).val + d * (0 + (x 1).val); rw [Nat.zero_add]; omega) rfl

/-! ### The words of the body -/

/-- The queries, the keys and the values of a block, by row and column. -/
def qY (x : Vec Ideal S512x1024 .f32) (g : Vec Ideal S1x1024 .f32) (w : Vec Ideal S4864x1024 .bf16) (l k : ℕ) : EReal := pj x g w l (0 + k) * eighth
def kY (x : Vec Ideal S512x1024 .f32) (g : Vec Ideal S1x1024 .f32) (w : Vec Ideal S4864x1024 .bf16) (l k : ℕ) : EReal := pj x g w l (768 + k)
def vY (x : Vec Ideal S512x1024 .f32) (g : Vec Ideal S1x1024 .f32) (w : Vec Ideal S4864x1024 .bf16) (l k : ℕ) : EReal := pj x g w l (1536 + k)

section
variable (c : Dev nD) (arg1 : Memref sig .tc .vmem S512x1024 .f32) (harg1 : arg1.IsWhole) (arg2 : Memref sig .tc .vmem S1x1024 .f32) (harg2 : arg2.IsWhole)
  (arg3 : Memref sig .tc .vmem S4864x1024 .bf16) (harg3 : arg3.IsWhole) (arg4 : Memref sig .tc .vmem S1x2048 .f32) (harg4 : arg4.IsWhole)
  (x0 : Vec Ideal S512x1024 .f32) (x1 : Vec Ideal S1x1024 .f32) (x2 : Vec Ideal S4864x1024 .bf16) (x3 : Vec Ideal S1x2048 .f32)

theorem get1 : View.readAt (Elt Ideal) arg1.view (Rect.unit (s := S512x1024) ![0, 0] S512x1024.size inb_S512x1024_S512x1024_0_0).toLoadRect (harg1.unread x0) = x0 := by
  rw [View.readAt_eq_ld, harg1.read_unread, View.ld_unit_zero hz]
theorem get2 : View.readAt (Elt Ideal) arg2.view (Rect.unit (s := S1x1024) ![0, 0] S1x1024.size inb_S1x1024_S1x1024_0_0).toLoadRect (harg2.unread x1) = x1 := by
  rw [View.readAt_eq_ld, harg2.read_unread, View.ld_unit_zero hz]
theorem get4 : View.readAt (Elt Ideal) arg4.view (Rect.unit (s := S1x2048) ![0, 0] S1x2048.size inb_S1x2048_S1x2048_0_0).toLoadRect (harg4.unread x3) = x3 := by
  rw [View.readAt_eq_ld, harg4.read_unread, View.ld_unit_zero hz]

theorem word_r : kernelRun0_A.sl.r (F := Ideal) c arg1 harg1 arg2 harg2 x0 x1 = k0_pay2 x0 x1 := by
  unfold kernelRun0_A.sl.r
  rw [get1, get2]

theorem word_q (l : Fin 512) (k : Fin 768) : @Eq EReal (k0_pay3
    (View.readAt (Elt Ideal) arg1.view (Rect.unit (s := S512x1024) ![0, 0] S512x1024.size inb_S512x1024_S512x1024_0_0).toLoadRect (harg1.unread x0))
    (View.readAt (Elt Ideal) arg2.view (Rect.unit (s := S1x1024) ![0, 0] S1x1024.size inb_S1x1024_S1x1024_0_0).toLoadRect (harg2.unread x1))
    (View.readAt (Elt Ideal) arg3.view (Rect.unit (s := S4864x1024) ![0, 0] S768x1024.size inb_S4864x1024_S768x1024_0_0).toLoadRect (harg3.unread x2))
    (ValueIdx.ix2 l k)) (qY x0 x1 x2 l.val k.val) := by
  rw [get1, get2, View.readAt_eq_ld, harg3.read_unread]
  exact pay3 x0 x1 x2 0 _ l k (by norm_num)

theorem word_k (l : Fin 512) (k : Fin 768) : @Eq EReal (k0_pay59 (kernelRun0_A.sl.r (F := Ideal) c arg1 harg1 arg2 harg2 x0 x1)
    (kernelRun0_A.sl.r_11 (F := Ideal) c arg3 harg3 x2) (ValueIdx.ix2 l k)) (kY x0 x1 x2 l.val k.val) := by
  rw [word_r]
  unfold kernelRun0_A.sl.r_11
  rw [View.readAt_eq_ld, harg3.read_unread]
  exact pay59 x0 x1 x2 768 _ l k (by norm_num)

theorem word_v (l : Fin 512) (k : Fin 768) : @Eq EReal (k0_pay113 (kernelRun0_A.sl.r (F := Ideal) c arg1 harg1 arg2 harg2 x0 x1)
    (View.readAt (Elt Ideal) arg3.view (Rect.unit (s := S4864x1024) ![1536, 0] S768x1024.size inb_S4864x1024_S768x1024_1536_0).toLoadRect (harg3.unread x2))
    (ValueIdx.ix2 l k)) (vY x0 x1 x2 l.val k.val) := by
  rw [word_r, View.readAt_eq_ld, harg3.read_unread]
  exact pay113 x0 x1 x2 1536 _ l k (by norm_num)

theorem top_1 : Top (fun l k => qY x0 x1 x2 l (256 + k)) 0 (kernelRun0_A.sl.HS0_1 (F := Ideal) c arg1 harg1 arg2 harg2 arg3 harg3 x0 x1 x2) :=
  ⟨_, _, _, rfl, fun l j => half_ (word_q arg1 harg1 arg2 harg2 arg3 harg3 x0 x1 x2) 256 0 0 (by norm_num) (by norm_num) rfl slices_S512x768_o0_256_S512x256 slices_S512x256_o0_0_S512x128 shapeCasts_S512x128_S1x512x128 l j⟩
theorem top_2 : Top (fun l k => qY x0 x1 x2 l (256 + k)) 1 (kernelRun0_A.sl.HS0_2 (F := Ideal) c arg1 harg1 arg2 harg2 arg3 harg3 x0 x1 x2) :=
  ⟨_, _, _, rfl, fun l j => half_ (word_q arg1 harg1 arg2 harg2 arg3 harg3 x0 x1 x2) 256 1 128 (by norm_num) (by norm_num) rfl slices_S512x768_o0_256_S512x256 slices_S512x256_o0_128_S512x128 shapeCasts_S512x128_S1x512x128 l j⟩
theorem top_3 : Top (fun l k => qY x0 x1 x2 l (512 + k)) 0 (kernelRun0_A.sl.HS0_3 (F := Ideal) c arg1 harg1 arg2 harg2 arg3 harg3 x0 x1 x2) :=
  ⟨_, _, _, rfl, fun l j => half_ (word_q arg1 harg1 arg2 harg2 arg3 harg3 x0 x1 x2) 512 0 0 (by norm_num) (by norm_num) rfl slices_S512x768_o0_512_S512x256 slices_S512x256_o0_0_S512x128 shapeCasts_S512x128_S1x512x128 l j⟩
theorem top_4 : Top (fun l k => qY x0 x1 x2 l (512 + k)) 1 (kernelRun0_A.sl.HS0_4 (F := Ideal) c arg1 harg1 arg2 harg2 arg3 harg3 x0 x1 x2) :=
  ⟨_, _, _, rfl, fun l j => half_ (word_q arg1 harg1 arg2 harg2 arg3 harg3 x0 x1 x2) 512 1 128 (by norm_num) (by norm_num) rfl slices_S512x768_o0_512_S512x256 slices_S512x256_o0_128_S512x128 shapeCasts_S512x128_S1x512x128 l j⟩
theorem top_5 : Top (fun l k => kY x0 x1 x2 l (256 + k)) 0 (kernelRun0_A.sl.HS0_5 (F := Ideal) c arg1 harg1 arg2 harg2 arg3 harg3 x0 x1 x2) :=
  ⟨_, _, _, rfl, fun l j => half_ (word_k c arg1 harg1 arg2 harg2 arg3 harg3 x0 x1 x2) 256 0 0 (by norm_num) (by norm_num) rfl slices_S512x768_o0_256_S512x256 slices_S512x256_o0_0_S512x128 shapeCasts_S512x128_S1x512x128 l j⟩
theorem top_6 : Top (fun l k => kY x0 x1 x2 l (256 + k)) 1 (kernelRun0_A.sl.HS0_6 (F := Ideal) c arg1 harg1 arg2 harg2 arg3 harg3 x0 x1 x2) :=
  ⟨_, _, _, rfl, fun l j => half_ (word_k c arg1 harg1 arg2 harg2 arg3 harg3 x0 x1 x2) 256 1 128 (by norm_num) (by norm_num) rfl slices_S512x768_o0_256_S512x256 slices_S512x256_o0_128_S512x128 shapeCasts_S512x128_S1x512x128 l j⟩
theorem top_7 : Top (fun l k => kY x0 x1 x2 l (512 + k)) 0 (kernelRun0_A.sl.HS0_7 (F := Ideal) c arg1 harg1 arg2 harg2 arg3 harg3 x0 x1 x2) :=
  ⟨_, _, _, rfl, fun l j => half_ (word_k c arg1 harg1 arg2 harg2 arg3 harg3 x0 x1 x2) 512 0 0 (by norm_num) (by norm_num) rfl slices_S512x768_o0_512_S512x256 slices_S512x256_o0_0_S512x128 shapeCasts_S512x128_S1x512x128 l j⟩
theorem top_8 : Top (fun l k => kY x0 x1 x2 l (512 + k)) 1 (kernelRun0_A.sl.HS0_8 (F := Ideal) c arg1 harg1 arg2 harg2 arg3 harg3 x0 x1 x2) :=
  ⟨_, _, _, rfl, fun l j => half_ (word_k c arg1 harg1 arg2 harg2 arg3 harg3 x0 x1 x2) 512 1 128 (by norm_num) (by norm_num) rfl slices_S512x768_o0_512_S512x256 slices_S512x256_o0_128_S512x128 shapeCasts_S512x128_S1x512x128 l j⟩
theorem top_9 : Top (fun l k => vY x0 x1 x2 l (256 + k)) 0 (kernelRun0_A.sl.HS0_9 (F := Ideal) c arg1 harg1 arg2 harg2 arg3 harg3 x0 x1 x2) :=
  ⟨_, _, _, rfl, fun l j => half_ (word_v c arg1 harg1 arg2 harg2 arg3 harg3 x0 x1 x2) 256 0 0 (by norm_num) (by norm_num) rfl slices_S512x768_o0_256_S512x256 slices_S512x256_o0_0_S512x128 shapeCasts_S512x128_S1x512x128 l j⟩
theorem top_10 : Top (fun l k => vY x0 x1 x2 l (256 + k)) 1 (kernelRun0_A.sl.HS0_10 (F := Ideal) c arg1 harg1 arg2 harg2 arg3 harg3 x0 x1 x2) :=
  ⟨_, _, _, rfl, fun l j => half_ (word_v c arg1 harg1 arg2 harg2 arg3 harg3 x0 x1 x2) 256 1 128 (by norm_num) (by norm_num) rfl slices_S512x768_o0_256_S512x256 slices_S512x256_o0_128_S512x128 shapeCasts_S512x128_S1x512x128 l j⟩
theorem top_11 : Top (fun l k => vY x0 x1 x2 l (512 + k)) 0 (kernelRun0_A.sl.HS0_11 (F := Ideal) c arg1 harg1 arg2 harg2 arg3 harg3 x0 x1 x2) :=
  ⟨_, _, _, rfl, fun l j => half_ (word_v c arg1 harg1 arg2 harg2 arg3 harg3 x0 x1 x2) 512 0 0 (by norm_num) (by norm_num) rfl slices_S512x768_o0_512_S512x256 slices_S512x256_o0_0_S512x128 shapeCasts_S512x128_S1x512x128 l j⟩
theorem top_12 : Top (fun l k => vY x0 x1 x2 l (512 + k)) 1 (kernelRun0_A.sl.HS0_12 (F := Ideal) c arg1 harg1 arg2 harg2 arg3 harg3 x0 x1 x2) :=
  ⟨_, _, _, rfl, fun l j => half_ (word_v c arg1 harg1 arg2 harg2 arg3 harg3 x0 x1 x2) 512 1 128 (by norm_num) (by norm_num) rfl slices_S512x768_o0_512_S512x256 slices_S512x256_o0_128_S512x128 shapeCasts_S512x128_S1x512x128 l j⟩

end

/-! ### What a point writes -/

variable (m : (ℓ : Loc nD τ sig) → Buf (Elt Ideal) ℓ) (c : Dev nD)

theorem hz3 : (![0, 0, 0] : Fin 3 → Nat) = fun _ => 0 := funext fun a => by fin_cases a <;> rfl

set_option maxHeartbeats 1000000 in
theorem point_4 (t : Fin cfg0.N) (y : S1x512x256.Idx) : @Eq EReal ((outsAt0 m c t).1 y)
    (qY (iblk m c 0 t) (iblk m c 1 t) (iblk m c 2 t) ((y 0).val + 1 * (y 1).val) (0 + (y 2).val)) := by
  unfold outsAt0
  dsimp only
  unfold out0_A_4
  rw [View.read_writes_eq_canon _ _ _ (fun y => cover0_A_4 (y := y) ..)]
  unfold kernelRun0_A
  dsimp only
  rw [View.canon_unit_zero hz3]
  exact whole (word_q (ms0_0 t) (hs0_0 t) (ms0_1 t) (hs0_1 t) (ms0_2 t) (hs0_2 t) (iblk m c 0 t) (iblk m c 1 t) (iblk m c 2 t)) _ _ _ y

set_option maxHeartbeats 1000000 in
theorem point_5 (t : Fin cfg0.N) (y : S4x128x256.Idx) : @Eq EReal ((outsAt0 m c t).2.1 y)
    (qY (iblk m c 0 t) (iblk m c 1 t) (iblk m c 2 t) ((y 0).val + 4 * (y 1).val) (256 + (y 2).val)) := by
  unfold outsAt0
  dsimp only
  unfold out0_A_5
  rw [View.read_writes_eq_canon _ _ _ (fun y => cover0_A_5 (y := y) ..)]
  refine View.canon_eq_of_allAt _ y _ (cover0_A_5 ..) ?_
  unfold kernelRun0_A
  dsimp only
  refine View.allAt_cons_unit _ _ _ _ _ (fun x hx => strip (d := 4) (n := 128) rfl (T := fun l k => qY (iblk m c 0 t) (iblk m c 1 t) (iblk m c 2 t) l (256 + k)) 1 3 128 (by norm_num) rfl (top_2 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => qY (iblk m c 0 t) (iblk m c 1 t) (iblk m c 2 t) l (256 + k)) 1 2 128 (by norm_num) rfl (top_2 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => qY (iblk m c 0 t) (iblk m c 1 t) (iblk m c 2 t) l (256 + k)) 1 1 128 (by norm_num) rfl (top_2 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => qY (iblk m c 0 t) (iblk m c 1 t) (iblk m c 2 t) l (256 + k)) 1 0 128 (by norm_num) rfl (top_2 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => qY (iblk m c 0 t) (iblk m c 1 t) (iblk m c 2 t) l (256 + k)) 0 3 0 (by norm_num) rfl (top_1 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => qY (iblk m c 0 t) (iblk m c 1 t) (iblk m c 2 t) l (256 + k)) 0 2 0 (by norm_num) rfl (top_1 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => qY (iblk m c 0 t) (iblk m c 1 t) (iblk m c 2 t) l (256 + k)) 0 1 0 (by norm_num) rfl (top_1 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => qY (iblk m c 0 t) (iblk m c 1 t) (iblk m c 2 t) l (256 + k)) 0 0 0 (by norm_num) rfl (top_1 c (ms0_0 t) (hs0_0 t) (ms0_1 t) (hs0_1 t) (ms0_2 t) (hs0_2 t) (iblk m c 0 t) (iblk m c 1 t) (iblk m c 2 t)) scM0_0.view _ _ _ _ x y hx) ?_
  exact View.allAt_nil _ _

set_option maxHeartbeats 1000000 in
theorem point_6 (t : Fin cfg0.N) (y : S16x32x256.Idx) : @Eq EReal ((outsAt0 m c t).2.2.1 y)
    (qY (iblk m c 0 t) (iblk m c 1 t) (iblk m c 2 t) ((y 0).val + 16 * (y 1).val) (512 + (y 2).val)) := by
  unfold outsAt0
  dsimp only
  unfold out0_A_6
  rw [View.read_writes_eq_canon _ _ _ (fun y => cover0_A_6 (y := y) ..)]
  refine View.canon_eq_of_allAt _ y _ (cover0_A_6 ..) ?_
  unfold kernelRun0_A
  dsimp only
  refine View.allAt_cons_unit _ _ _ _ _ (fun x hx => strip (d := 16) (n := 32) rfl (T := fun l k => qY (iblk m c 0 t) (iblk m c 1 t) (iblk m c 2 t) l (512 + k)) 1 15 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 1 14 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 1 13 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 1 12 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 1 11 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 1 10 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 1 9 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 1 8 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 1 7 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 1 6 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 1 5 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 1 4 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 1 3 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 1 2 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 1 1 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 1 0 128 (by norm_num) rfl (top_4 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 15 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 14 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 13 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 12 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 11 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 10 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 9 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 8 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 7 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 6 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 5 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 4 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 3 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 2 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 1 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => qY (iblk m c 0 t) (iblk m c 1 t) (iblk m c 2 t) l (512 + k)) 0 0 0 (by norm_num) rfl (top_3 c (ms0_0 t) (hs0_0 t) (ms0_1 t) (hs0_1 t) (ms0_2 t) (hs0_2 t) (iblk m c 0 t) (iblk m c 1 t) (iblk m c 2 t)) scM0_0.view _ _ _ _ x y hx) ?_
  exact View.allAt_nil _ _

set_option maxHeartbeats 1000000 in
theorem point_7 (t : Fin cfg0.N) (y : S1x512x256.Idx) : @Eq EReal ((outsAt0 m c t).2.2.2.1 y)
    (kY (iblk m c 0 t) (iblk m c 1 t) (iblk m c 2 t) ((y 0).val + 1 * (y 1).val) (0 + (y 2).val)) := by
  unfold outsAt0
  dsimp only
  unfold out0_A_7
  rw [View.read_writes_eq_canon _ _ _ (fun y => cover0_A_7 (y := y) ..)]
  unfold kernelRun0_A
  dsimp only
  rw [View.canon_unit_zero hz3]
  exact whole (word_k c (ms0_0 t) (hs0_0 t) (ms0_1 t) (hs0_1 t) (ms0_2 t) (hs0_2 t) (iblk m c 0 t) (iblk m c 1 t) (iblk m c 2 t)) _ _ _ y

set_option maxHeartbeats 1000000 in
theorem point_8 (t : Fin cfg0.N) (y : S4x128x256.Idx) : @Eq EReal ((outsAt0 m c t).2.2.2.2.1 y)
    (kY (iblk m c 0 t) (iblk m c 1 t) (iblk m c 2 t) ((y 0).val + 4 * (y 1).val) (256 + (y 2).val)) := by
  unfold outsAt0
  dsimp only
  unfold out0_A_8
  rw [View.read_writes_eq_canon _ _ _ (fun y => cover0_A_8 (y := y) ..)]
  refine View.canon_eq_of_allAt _ y _ (cover0_A_8 ..) ?_
  unfold kernelRun0_A
  dsimp only
  refine View.allAt_cons_unit _ _ _ _ _ (fun x hx => strip (d := 4) (n := 128) rfl (T := fun l k => kY (iblk m c 0 t) (iblk m c 1 t) (iblk m c 2 t) l (256 + k)) 1 3 128 (by norm_num) rfl (top_6 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => kY (iblk m c 0 t) (iblk m c 1 t) (iblk m c 2 t) l (256 + k)) 1 2 128 (by norm_num) rfl (top_6 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => kY (iblk m c 0 t) (iblk m c 1 t) (iblk m c 2 t) l (256 + k)) 1 1 128 (by norm_num) rfl (top_6 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => kY (iblk m c 0 t) (iblk m c 1 t) (iblk m c 2 t) l (256 + k)) 1 0 128 (by norm_num) rfl (top_6 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => kY (iblk m c 0 t) (iblk m c 1 t) (iblk m c 2 t) l (256 + k)) 0 3 0 (by norm_num) rfl (top_5 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => kY (iblk m c 0 t) (iblk m c 1 t) (iblk m c 2 t) l (256 + k)) 0 2 0 (by norm_num) rfl (top_5 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => kY (iblk m c 0 t) (iblk m c 1 t) (iblk m c 2 t) l (256 + k)) 0 1 0 (by norm_num) rfl (top_5 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => kY (iblk m c 0 t) (iblk m c 1 t) (iblk m c 2 t) l (256 + k)) 0 0 0 (by norm_num) rfl (top_5 c (ms0_0 t) (hs0_0 t) (ms0_1 t) (hs0_1 t) (ms0_2 t) (hs0_2 t) (iblk m c 0 t) (iblk m c 1 t) (iblk m c 2 t)) scM0_0.view _ _ _ _ x y hx) ?_
  exact View.allAt_nil _ _

set_option maxHeartbeats 1000000 in
theorem point_9 (t : Fin cfg0.N) (y : S16x32x256.Idx) : @Eq EReal ((outsAt0 m c t).2.2.2.2.2.1 y)
    (kY (iblk m c 0 t) (iblk m c 1 t) (iblk m c 2 t) ((y 0).val + 16 * (y 1).val) (512 + (y 2).val)) := by
  unfold outsAt0
  dsimp only
  unfold out0_A_9
  rw [View.read_writes_eq_canon _ _ _ (fun y => cover0_A_9 (y := y) ..)]
  refine View.canon_eq_of_allAt _ y _ (cover0_A_9 ..) ?_
  unfold kernelRun0_A
  dsimp only
  refine View.allAt_cons_unit _ _ _ _ _ (fun x hx => strip (d := 16) (n := 32) rfl (T := fun l k => kY (iblk m c 0 t) (iblk m c 1 t) (iblk m c 2 t) l (512 + k)) 1 15 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 1 14 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 1 13 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 1 12 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 1 11 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 1 10 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 1 9 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 1 8 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 1 7 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 1 6 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 1 5 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 1 4 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 1 3 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 1 2 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 1 1 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 1 0 128 (by norm_num) rfl (top_8 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 15 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 14 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 13 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 12 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 11 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 10 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 9 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 8 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 7 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 6 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 5 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 4 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 3 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 2 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 1 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => kY (iblk m c 0 t) (iblk m c 1 t) (iblk m c 2 t) l (512 + k)) 0 0 0 (by norm_num) rfl (top_7 c (ms0_0 t) (hs0_0 t) (ms0_1 t) (hs0_1 t) (ms0_2 t) (hs0_2 t) (iblk m c 0 t) (iblk m c 1 t) (iblk m c 2 t)) scM0_0.view _ _ _ _ x y hx) ?_
  exact View.allAt_nil _ _

set_option maxHeartbeats 1000000 in
theorem point_10 (t : Fin cfg0.N) (y : S1x512x256.Idx) : @Eq EReal ((outsAt0 m c t).2.2.2.2.2.2.1 y)
    (vY (iblk m c 0 t) (iblk m c 1 t) (iblk m c 2 t) ((y 0).val + 1 * (y 1).val) (0 + (y 2).val)) := by
  unfold outsAt0
  dsimp only
  unfold out0_A_10
  rw [View.read_writes_eq_canon _ _ _ (fun y => cover0_A_10 (y := y) ..)]
  unfold kernelRun0_A
  dsimp only
  rw [View.canon_unit_zero hz3]
  exact whole (word_v c (ms0_0 t) (hs0_0 t) (ms0_1 t) (hs0_1 t) (ms0_2 t) (hs0_2 t) (iblk m c 0 t) (iblk m c 1 t) (iblk m c 2 t)) _ _ _ y

set_option maxHeartbeats 1000000 in
theorem point_11 (t : Fin cfg0.N) (y : S4x128x256.Idx) : @Eq EReal ((outsAt0 m c t).2.2.2.2.2.2.2.1 y)
    (vY (iblk m c 0 t) (iblk m c 1 t) (iblk m c 2 t) ((y 0).val + 4 * (y 1).val) (256 + (y 2).val)) := by
  unfold outsAt0
  dsimp only
  unfold out0_A_11
  rw [View.read_writes_eq_canon _ _ _ (fun y => cover0_A_11 (y := y) ..)]
  refine View.canon_eq_of_allAt _ y _ (cover0_A_11 ..) ?_
  unfold kernelRun0_A
  dsimp only
  refine View.allAt_cons_unit _ _ _ _ _ (fun x hx => strip (d := 4) (n := 128) rfl (T := fun l k => vY (iblk m c 0 t) (iblk m c 1 t) (iblk m c 2 t) l (256 + k)) 1 3 128 (by norm_num) rfl (top_10 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => vY (iblk m c 0 t) (iblk m c 1 t) (iblk m c 2 t) l (256 + k)) 1 2 128 (by norm_num) rfl (top_10 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => vY (iblk m c 0 t) (iblk m c 1 t) (iblk m c 2 t) l (256 + k)) 1 1 128 (by norm_num) rfl (top_10 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => vY (iblk m c 0 t) (iblk m c 1 t) (iblk m c 2 t) l (256 + k)) 1 0 128 (by norm_num) rfl (top_10 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => vY (iblk m c 0 t) (iblk m c 1 t) (iblk m c 2 t) l (256 + k)) 0 3 0 (by norm_num) rfl (top_9 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => vY (iblk m c 0 t) (iblk m c 1 t) (iblk m c 2 t) l (256 + k)) 0 2 0 (by norm_num) rfl (top_9 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => vY (iblk m c 0 t) (iblk m c 1 t) (iblk m c 2 t) l (256 + k)) 0 1 0 (by norm_num) rfl (top_9 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 4) (n := 128) rfl (T := fun l k => vY (iblk m c 0 t) (iblk m c 1 t) (iblk m c 2 t) l (256 + k)) 0 0 0 (by norm_num) rfl (top_9 c (ms0_0 t) (hs0_0 t) (ms0_1 t) (hs0_1 t) (ms0_2 t) (hs0_2 t) (iblk m c 0 t) (iblk m c 1 t) (iblk m c 2 t)) scM0_0.view _ _ _ _ x y hx) ?_
  exact View.allAt_nil _ _

set_option maxHeartbeats 1000000 in
theorem point_12 (t : Fin cfg0.N) (y : S16x32x256.Idx) : @Eq EReal ((outsAt0 m c t).2.2.2.2.2.2.2.2.1 y)
    (vY (iblk m c 0 t) (iblk m c 1 t) (iblk m c 2 t) ((y 0).val + 16 * (y 1).val) (512 + (y 2).val)) := by
  unfold outsAt0
  dsimp only
  unfold out0_A_12
  rw [View.read_writes_eq_canon _ _ _ (fun y => cover0_A_12 (y := y) ..)]
  refine View.canon_eq_of_allAt _ y _ (cover0_A_12 ..) ?_
  unfold kernelRun0_A
  dsimp only
  unfold kernelRun0_A.sl.r_26
  refine View.allAt_cons_unit _ _ _ _ _ (fun x hx => strip (d := 16) (n := 32) rfl (T := fun l k => vY (iblk m c 0 t) (iblk m c 1 t) (iblk m c 2 t) l (512 + k)) 1 15 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 1 14 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 1 13 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 1 12 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 1 11 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 1 10 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 1 9 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 1 8 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 1 7 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 1 6 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 1 5 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 1 4 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 1 3 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 1 2 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 1 1 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 1 0 128 (by norm_num) rfl (top_12 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 15 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 14 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 13 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 12 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 11 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 10 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 9 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 8 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 7 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 6 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 5 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 4 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 3 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 2 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 1 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  refine View.allAt_cons_unit _ _ _ _ _ (fun x hx => strip (d := 16) (n := 32) rfl (T := fun l k => vY (iblk m c 0 t) (iblk m c 1 t) (iblk m c 2 t) l (512 + k)) 0 0 0 (by norm_num) rfl (top_11 c (ms0_0 t) (hs0_0 t) (ms0_1 t) (hs0_1 t) (ms0_2 t) (hs0_2 t) (iblk m c 0 t) (iblk m c 1 t) (iblk m c 2 t)) scM0_0.view _ _ _ _ x y hx) ?_
  exact View.allAt_nil _ _

theorem point_13 (t : Fin cfg0.N) (l j : Fin 512) : @Eq EReal ((outsAt0 m c t).2.2.2.2.2.2.2.2.2.1 (ValueIdx.ix2 l j)) (pj (iblk m c 0 t) (iblk m c 1 t) (iblk m c 2 t) l.val (2304 + j.val)) := by
  unfold outsAt0
  dsimp only
  unfold out0_A_13
  rw [View.read_writes_eq_canon _ _ _ (fun y => cover0_A_13 (y := y) ..)]
  unfold kernelRun0_A
  dsimp only
  rw [View.canon_unit_zero hz, word_r, View.readAt_eq_ld, (hs0_2 t).read_unread]
  exact pay166 (iblk m c 0 t) (iblk m c 1 t) (iblk m c 2 t) 2304 _ l j (by norm_num)

theorem point_14 (t : Fin cfg0.N) (l : Fin 512) (j : Fin 2048) : @Eq EReal ((outsAt0 m c t).2.2.2.2.2.2.2.2.2.2 (ValueIdx.ix2 l j))
    (sg (pj (iblk m c 0 t) (iblk m c 1 t) (iblk m c 2 t) l.val (2816 + j.val) + (iblk m c 3 t : Vec Ideal S1x2048 .f32) (ValueIdx.ix2 (0 : Fin 1) j))) := by
  unfold outsAt0
  dsimp only
  unfold out0_A_14
  rw [View.read_writes_eq_canon _ _ _ (fun y => cover0_A_14 (y := y) ..)]
  unfold kernelRun0_A
  dsimp only
  rw [View.canon_unit_zero hz]
  unfold kernelRun0_A.sl.r_30
  rw [word_r, View.readAt_eq_ld, (hs0_2 t).read_unread, get4]
  exact gate (iblk m c 0 t) (iblk m c 1 t) (iblk m c 2 t) 2816 (iblk m c 3 t) _ l j (by norm_num)

end Cert.MixFwd
-- ==== Proof.MixFwdFinal.lean ====
module
public import proofs.«01_k».proof.Proof.MixFwd
public import proofs.«01_k».proof.Proof.Finite

/-! What the forward kernel of the mixing layer's entry leaves in its eleven arrays. -/

@[expose] public section

set_option maxRecDepth 16384

noncomputable section

open Idealize.ShloMosaic Idealize.ShloMosaic.TcCoe Idealize.SL.Sem
open Idealize.ShloMosaic.Pipeline (Dat)
open Idealize.ShloMosaic.ValueIdx
open Cert.Kernel14Ideal Cert.Kernel14Ideal.Gen Cert.RowOps
open Cert.FfnRow (nrm sg)

namespace Cert.MixFwd

/-- An entry of the normed rows times the weights, at numbers. -/
def prod (x : S8192x1024.Idx → EReal) (g : S1024.Idx → EReal) (w : S1024x4864.Idx → EReal) (l k : ℕ) : EReal :=
  if h : l < 8192 ∧ k < 4864 then
    ∑ d : Fin 1024, nrm (fun e => x (ValueIdx.ix2 (⟨l, h.1⟩ : Fin 8192) e)) (fun e => g (ValueIdx.ix1 e)) d * w (ValueIdx.ix2 d (⟨k, h.2⟩ : Fin 4864))
  else 0

variable (m : (ℓ : Loc nD τ sig) → Buf (Elt Ideal) ℓ) (c : Dev nD)

theorem lt16 (t : Fin cfg0.N) : t.val < 16 := t.isLt

/-- Row `r` of block `t`. -/
def at_ (t : Fin cfg0.N) (r : Fin 512) : Fin 8192 := ⟨t.val * 512 + r.val, by
  have := lt16 t
  omega⟩

/-! ### The blocks -/

theorem ix_0 : ∀ t : Fin cfg0.N, win0_0.index t = ![t.val, 0] :=
  (by decide +kernel : ∀ t : Fin grid0.N, win0_0.index t = ![t.val, 0])
theorem emb_0 (t : Fin cfg0.N) (j : S512x1024.Idx) : (((cfg0.win 0).blk t).view.emb j : S8192x1024.Idx) = ValueIdx.ix2 (at_ t (j 0)) (j 1) := by
  funext a
  apply Fin.ext
  match a with
  | ⟨0, _⟩ => show win0_0.index t 0 * 512 + 1 * (j 0).val = t.val * 512 + (j 0).val; rw [ix_0]; show t.val * 512 + 1 * (j 0).val = _; omega
  | ⟨1, _⟩ => show win0_0.index t 1 * 1024 + 1 * (j 1).val = (j 1).val; rw [ix_0]; show 0 * 1024 + 1 * (j 1).val = _; omega
theorem ix_1 : ∀ t : Fin cfg0.N, win0_1.index t = ![0, 0] :=
  (by decide +kernel : ∀ t : Fin grid0.N, win0_1.index t = ![0, 0])
theorem emb_1 (t : Fin cfg0.N) (j : S1x1024.Idx) : (((cfg0.win 1).blk t).view.emb j : S1x1024.Idx) = ValueIdx.ix2 (j 0) (j 1) := by
  funext a
  apply Fin.ext
  match a with
  | ⟨0, _⟩ => show win0_1.index t 0 * 1 + 1 * (j 0).val = (j 0).val; rw [ix_1]; show 0 * 1 + 1 * (j 0).val = _; omega
  | ⟨1, _⟩ => show win0_1.index t 1 * 1024 + 1 * (j 1).val = (j 1).val; rw [ix_1]; show 0 * 1024 + 1 * (j 1).val = _; omega
theorem ix_2 : ∀ t : Fin cfg0.N, win0_2.index t = ![0, 0] :=
  (by decide +kernel : ∀ t : Fin grid0.N, win0_2.index t = ![0, 0])
theorem emb_2 (t : Fin cfg0.N) (j : S4864x1024.Idx) : (((cfg0.win 2).blk t).view.emb j : S4864x1024.Idx) = ValueIdx.ix2 (j 0) (j 1) := by
  funext a
  apply Fin.ext
  match a with
  | ⟨0, _⟩ => show win0_2.index t 0 * 4864 + 1 * (j 0).val = (j 0).val; rw [ix_2]; show 0 * 4864 + 1 * (j 0).val = _; omega
  | ⟨1, _⟩ => show win0_2.index t 1 * 1024 + 1 * (j 1).val = (j 1).val; rw [ix_2]; show 0 * 1024 + 1 * (j 1).val = _; omega
theorem ix_3 : ∀ t : Fin cfg0.N, win0_3.index t = ![0, 0] :=
  (by decide +kernel : ∀ t : Fin grid0.N, win0_3.index t = ![0, 0])
theorem emb_3 (t : Fin cfg0.N) (j : S1x2048.Idx) : (((cfg0.win 3).blk t).view.emb j : S1x2048.Idx) = ValueIdx.ix2 (j 0) (j 1) := by
  funext a
  apply Fin.ext
  match a with
  | ⟨0, _⟩ => show win0_3.index t 0 * 1 + 1 * (j 0).val = (j 0).val; rw [ix_3]; show 0 * 1 + 1 * (j 0).val = _; omega
  | ⟨1, _⟩ => show win0_3.index t 1 * 2048 + 1 * (j 1).val = (j 1).val; rw [ix_3]; show 0 * 2048 + 1 * (j 1).val = _; omega
theorem ix_4 : ∀ t : Fin cfg0.N, win0_4.index t = ![0, t.val, 0] :=
  (by decide +kernel : ∀ t : Fin grid0.N, win0_4.index t = ![0, t.val, 0])
theorem emb_4 (t : Fin cfg0.N) (y : S1x512x256.Idx) :
    (((cfg0.win 4).blk t).view.emb y : S1x8192x256.Idx) =
      ValueIdx.ix3 (y 0) (⟨t.val * 512 + (y 1).val, by have := lt16 t; have : (y 1).val < 512 := (y 1).isLt; omega⟩ : Fin 8192) (y 2) := by
  funext b
  apply Fin.ext
  match b with
  | ⟨0, _⟩ => show win0_4.index t 0 * 1 + 1 * (y 0).val = (y 0).val; rw [ix_4]; show 0 * 1 + 1 * (y 0).val = _; omega
  | ⟨1, _⟩ => show win0_4.index t 1 * 512 + 1 * (y 1).val = t.val * 512 + (y 1).val; rw [ix_4]; show t.val * 512 + 1 * (y 1).val = _; omega
  | ⟨2, _⟩ => show win0_4.index t 2 * 256 + 1 * (y 2).val = (y 2).val; rw [ix_4]; show 0 * 256 + 1 * (y 2).val = _; omega
theorem ix_5 : ∀ t : Fin cfg0.N, win0_5.index t = ![0, t.val, 0] :=
  (by decide +kernel : ∀ t : Fin grid0.N, win0_5.index t = ![0, t.val, 0])
theorem emb_5 (t : Fin cfg0.N) (y : S4x128x256.Idx) :
    (((cfg0.win 5).blk t).view.emb y : S4x2048x256.Idx) =
      ValueIdx.ix3 (y 0) (⟨t.val * 128 + (y 1).val, by have := lt16 t; have : (y 1).val < 128 := (y 1).isLt; omega⟩ : Fin 2048) (y 2) := by
  funext b
  apply Fin.ext
  match b with
  | ⟨0, _⟩ => show win0_5.index t 0 * 4 + 1 * (y 0).val = (y 0).val; rw [ix_5]; show 0 * 4 + 1 * (y 0).val = _; omega
  | ⟨1, _⟩ => show win0_5.index t 1 * 128 + 1 * (y 1).val = t.val * 128 + (y 1).val; rw [ix_5]; show t.val * 128 + 1 * (y 1).val = _; omega
  | ⟨2, _⟩ => show win0_5.index t 2 * 256 + 1 * (y 2).val = (y 2).val; rw [ix_5]; show 0 * 256 + 1 * (y 2).val = _; omega
theorem ix_6 : ∀ t : Fin cfg0.N, win0_6.index t = ![0, t.val, 0] :=
  (by decide +kernel : ∀ t : Fin grid0.N, win0_6.index t = ![0, t.val, 0])
theorem emb_6 (t : Fin cfg0.N) (y : S16x32x256.Idx) :
    (((cfg0.win 6).blk t).view.emb y : S16x512x256.Idx) =
      ValueIdx.ix3 (y 0) (⟨t.val * 32 + (y 1).val, by have := lt16 t; have : (y 1).val < 32 := (y 1).isLt; omega⟩ : Fin 512) (y 2) := by
  funext b
  apply Fin.ext
  match b with
  | ⟨0, _⟩ => show win0_6.index t 0 * 16 + 1 * (y 0).val = (y 0).val; rw [ix_6]; show 0 * 16 + 1 * (y 0).val = _; omega
  | ⟨1, _⟩ => show win0_6.index t 1 * 32 + 1 * (y 1).val = t.val * 32 + (y 1).val; rw [ix_6]; show t.val * 32 + 1 * (y 1).val = _; omega
  | ⟨2, _⟩ => show win0_6.index t 2 * 256 + 1 * (y 2).val = (y 2).val; rw [ix_6]; show 0 * 256 + 1 * (y 2).val = _; omega
theorem ix_7 : ∀ t : Fin cfg0.N, win0_7.index t = ![0, t.val, 0] :=
  (by decide +kernel : ∀ t : Fin grid0.N, win0_7.index t = ![0, t.val, 0])
theorem emb_7 (t : Fin cfg0.N) (y : S1x512x256.Idx) :
    (((cfg0.win 7).blk t).view.emb y : S1x8192x256.Idx) =
      ValueIdx.ix3 (y 0) (⟨t.val * 512 + (y 1).val, by have := lt16 t; have : (y 1).val < 512 := (y 1).isLt; omega⟩ : Fin 8192) (y 2) := by
  funext b
  apply Fin.ext
  match b with
  | ⟨0, _⟩ => show win0_7.index t 0 * 1 + 1 * (y 0).val = (y 0).val; rw [ix_7]; show 0 * 1 + 1 * (y 0).val = _; omega
  | ⟨1, _⟩ => show win0_7.index t 1 * 512 + 1 * (y 1).val = t.val * 512 + (y 1).val; rw [ix_7]; show t.val * 512 + 1 * (y 1).val = _; omega
  | ⟨2, _⟩ => show win0_7.index t 2 * 256 + 1 * (y 2).val = (y 2).val; rw [ix_7]; show 0 * 256 + 1 * (y 2).val = _; omega
theorem ix_8 : ∀ t : Fin cfg0.N, win0_8.index t = ![0, t.val, 0] :=
  (by decide +kernel : ∀ t : Fin grid0.N, win0_8.index t = ![0, t.val, 0])
theorem emb_8 (t : Fin cfg0.N) (y : S4x128x256.Idx) :
    (((cfg0.win 8).blk t).view.emb y : S4x2048x256.Idx) =
      ValueIdx.ix3 (y 0) (⟨t.val * 128 + (y 1).val, by have := lt16 t; have : (y 1).val < 128 := (y 1).isLt; omega⟩ : Fin 2048) (y 2) := by
  funext b
  apply Fin.ext
  match b with
  | ⟨0, _⟩ => show win0_8.index t 0 * 4 + 1 * (y 0).val = (y 0).val; rw [ix_8]; show 0 * 4 + 1 * (y 0).val = _; omega
  | ⟨1, _⟩ => show win0_8.index t 1 * 128 + 1 * (y 1).val = t.val * 128 + (y 1).val; rw [ix_8]; show t.val * 128 + 1 * (y 1).val = _; omega
  | ⟨2, _⟩ => show win0_8.index t 2 * 256 + 1 * (y 2).val = (y 2).val; rw [ix_8]; show 0 * 256 + 1 * (y 2).val = _; omega
theorem ix_9 : ∀ t : Fin cfg0.N, win0_9.index t = ![0, t.val, 0] :=
  (by decide +kernel : ∀ t : Fin grid0.N, win0_9.index t = ![0, t.val, 0])
theorem emb_9 (t : Fin cfg0.N) (y : S16x32x256.Idx) :
    (((cfg0.win 9).blk t).view.emb y : S16x512x256.Idx) =
      ValueIdx.ix3 (y 0) (⟨t.val * 32 + (y 1).val, by have := lt16 t; have : (y 1).val < 32 := (y 1).isLt; omega⟩ : Fin 512) (y 2) := by
  funext b
  apply Fin.ext
  match b with
  | ⟨0, _⟩ => show win0_9.index t 0 * 16 + 1 * (y 0).val = (y 0).val; rw [ix_9]; show 0 * 16 + 1 * (y 0).val = _; omega
  | ⟨1, _⟩ => show win0_9.index t 1 * 32 + 1 * (y 1).val = t.val * 32 + (y 1).val; rw [ix_9]; show t.val * 32 + 1 * (y 1).val = _; omega
  | ⟨2, _⟩ => show win0_9.index t 2 * 256 + 1 * (y 2).val = (y 2).val; rw [ix_9]; show 0 * 256 + 1 * (y 2).val = _; omega
theorem ix_10 : ∀ t : Fin cfg0.N, win0_10.index t = ![0, t.val, 0] :=
  (by decide +kernel : ∀ t : Fin grid0.N, win0_10.index t = ![0, t.val, 0])
theorem emb_10 (t : Fin cfg0.N) (y : S1x512x256.Idx) :
    (((cfg0.win 10).blk t).view.emb y : S1x8192x256.Idx) =
      ValueIdx.ix3 (y 0) (⟨t.val * 512 + (y 1).val, by have := lt16 t; have : (y 1).val < 512 := (y 1).isLt; omega⟩ : Fin 8192) (y 2) := by
  funext b
  apply Fin.ext
  match b with
  | ⟨0, _⟩ => show win0_10.index t 0 * 1 + 1 * (y 0).val = (y 0).val; rw [ix_10]; show 0 * 1 + 1 * (y 0).val = _; omega
  | ⟨1, _⟩ => show win0_10.index t 1 * 512 + 1 * (y 1).val = t.val * 512 + (y 1).val; rw [ix_10]; show t.val * 512 + 1 * (y 1).val = _; omega
  | ⟨2, _⟩ => show win0_10.index t 2 * 256 + 1 * (y 2).val = (y 2).val; rw [ix_10]; show 0 * 256 + 1 * (y 2).val = _; omega
theorem ix_11 : ∀ t : Fin cfg0.N, win0_11.index t = ![0, t.val, 0] :=
  (by decide +kernel : ∀ t : Fin grid0.N, win0_11.index t = ![0, t.val, 0])
theorem emb_11 (t : Fin cfg0.N) (y : S4x128x256.Idx) :
    (((cfg0.win 11).blk t).view.emb y : S4x2048x256.Idx) =
      ValueIdx.ix3 (y 0) (⟨t.val * 128 + (y 1).val, by have := lt16 t; have : (y 1).val < 128 := (y 1).isLt; omega⟩ : Fin 2048) (y 2) := by
  funext b
  apply Fin.ext
  match b with
  | ⟨0, _⟩ => show win0_11.index t 0 * 4 + 1 * (y 0).val = (y 0).val; rw [ix_11]; show 0 * 4 + 1 * (y 0).val = _; omega
  | ⟨1, _⟩ => show win0_11.index t 1 * 128 + 1 * (y 1).val = t.val * 128 + (y 1).val; rw [ix_11]; show t.val * 128 + 1 * (y 1).val = _; omega
  | ⟨2, _⟩ => show win0_11.index t 2 * 256 + 1 * (y 2).val = (y 2).val; rw [ix_11]; show 0 * 256 + 1 * (y 2).val = _; omega
theorem ix_12 : ∀ t : Fin cfg0.N, win0_12.index t = ![0, t.val, 0] :=
  (by decide +kernel : ∀ t : Fin grid0.N, win0_12.index t = ![0, t.val, 0])
theorem emb_12 (t : Fin cfg0.N) (y : S16x32x256.Idx) :
    (((cfg0.win 12).blk t).view.emb y : S16x512x256.Idx) =
      ValueIdx.ix3 (y 0) (⟨t.val * 32 + (y 1).val, by have := lt16 t; have : (y 1).val < 32 := (y 1).isLt; omega⟩ : Fin 512) (y 2) := by
  funext b
  apply Fin.ext
  match b with
  | ⟨0, _⟩ => show win0_12.index t 0 * 16 + 1 * (y 0).val = (y 0).val; rw [ix_12]; show 0 * 16 + 1 * (y 0).val = _; omega
  | ⟨1, _⟩ => show win0_12.index t 1 * 32 + 1 * (y 1).val = t.val * 32 + (y 1).val; rw [ix_12]; show t.val * 32 + 1 * (y 1).val = _; omega
  | ⟨2, _⟩ => show win0_12.index t 2 * 256 + 1 * (y 2).val = (y 2).val; rw [ix_12]; show 0 * 256 + 1 * (y 2).val = _; omega
theorem ix_13 : ∀ t : Fin cfg0.N, win0_13.index t = ![t.val, 0] :=
  (by decide +kernel : ∀ t : Fin grid0.N, win0_13.index t = ![t.val, 0])
theorem emb_13 (t : Fin cfg0.N) (j : S512x512.Idx) : (((cfg0.win 13).blk t).view.emb j : S8192x512.Idx) = ValueIdx.ix2 (at_ t (j 0)) (j 1) := by
  funext a
  apply Fin.ext
  match a with
  | ⟨0, _⟩ => show win0_13.index t 0 * 512 + 1 * (j 0).val = t.val * 512 + (j 0).val; rw [ix_13]; show t.val * 512 + 1 * (j 0).val = _; omega
  | ⟨1, _⟩ => show win0_13.index t 1 * 512 + 1 * (j 1).val = (j 1).val; rw [ix_13]; show 0 * 512 + 1 * (j 1).val = _; omega
theorem ix_14 : ∀ t : Fin cfg0.N, win0_14.index t = ![t.val, 0] :=
  (by decide +kernel : ∀ t : Fin grid0.N, win0_14.index t = ![t.val, 0])
theorem emb_14 (t : Fin cfg0.N) (j : S512x2048.Idx) : (((cfg0.win 14).blk t).view.emb j : S8192x2048.Idx) = ValueIdx.ix2 (at_ t (j 0)) (j 1) := by
  funext a
  apply Fin.ext
  match a with
  | ⟨0, _⟩ => show win0_14.index t 0 * 512 + 1 * (j 0).val = t.val * 512 + (j 0).val; rw [ix_14]; show t.val * 512 + 1 * (j 0).val = _; omega
  | ⟨1, _⟩ => show win0_14.index t 1 * 2048 + 1 * (j 1).val = (j 1).val; rw [ix_14]; show 0 * 2048 + 1 * (j 1).val = _; omega

/-! ### The blocks made of the arguments -/

/-- The products of the arguments. -/
def pN (l k : ℕ) : EReal := prod (m (c, Proc.tc.devRef main_arg0) : S8192x1024.Idx → EReal) (m (c, Proc.tc.devRef main_arg1) : S1024.Idx → EReal)
  (m (c, Proc.tc.devRef main_arg2) : S1024x4864.Idx → EReal) l k
def aB (k : Fin 2048) : EReal := (m (c, Proc.tc.devRef main_arg3) : S2048.Idx → EReal) (ValueIdx.ix1 k)

theorem b0 (t : Fin cfg0.N) (r : Fin 512) : row (iblk m c 0 t : Vec Ideal S512x1024 .f32) r
    = fun d => (m (c, Proc.tc.devRef main_arg0) : S8192x1024.Idx → EReal) (ValueIdx.ix2 (at_ t r) d) := by
  funext d
  unfold row iblk
  rw [View.read_apply]
  show V m c main_arg0 _ = _
  rw [emb_0]
  entry_read
  rfl
theorem b1 (t : Fin cfg0.N) : one (iblk m c 1 t : Vec Ideal S1x1024 .f32)
    = fun d => (m (c, Proc.tc.devRef main_arg1) : S1024.Idx → EReal) (ValueIdx.ix1 d) := by
  funext d
  unfold one iblk
  rw [View.read_apply]
  show V m c main_v0 _ = _
  rw [emb_1]
  entry_read
  exact cast_row (m (c, Proc.tc.devRef main_arg1) : S1024.Idx → EReal) _ d
theorem b2 (t : Fin cfg0.N) (k : Fin 4864) (d : Fin 1024) :
    @Eq EReal ((iblk m c 2 t : Vec Ideal S4864x1024 .bf16) (ValueIdx.ix2 k d)) ((m (c, Proc.tc.devRef main_arg2) : S1024x4864.Idx → EReal) (ValueIdx.ix2 d k)) := by
  unfold iblk
  rw [View.read_apply]
  show V m c main_v2 _ = _
  rw [emb_2]
  entry_read
  unfold transpose
  exact congrArg (m (c, Proc.tc.devRef main_arg2) : S1024x4864.Idx → EReal) (funext fun b => by match b with | ⟨0, _⟩ => rfl | ⟨1, _⟩ => rfl)
theorem cast_gate (v : S2048.Idx → EReal) (h) (k : Fin 2048) : shapeCast S1x2048 v h (ValueIdx.ix2 (0 : Fin 1) k) = v (ValueIdx.ix1 k) :=
  shapeCast_apply v h (ValueIdx.ix2 (0 : Fin 1) k) (ValueIdx.ix1 k) (by
    rw [Shape.rowMajor_val_two, Shape.rowMajor_val_one]
    show k.val = 0 * 2048 + k.val
    omega)
theorem b3 (t : Fin cfg0.N) (k : Fin 2048) : @Eq EReal ((iblk m c 3 t : Vec Ideal S1x2048 .f32) (ValueIdx.ix2 (0 : Fin 1) k)) (aB m c k) := by
  unfold iblk
  rw [View.read_apply]
  show V m c main_v3 _ = _
  rw [emb_3]
  entry_read
  exact cast_gate (m (c, Proc.tc.devRef main_arg3) : S2048.Idx → EReal) _ k

theorem pj_at (t : Fin cfg0.N) (l k : ℕ) (hl : l < 512) : pj (iblk m c 0 t) (iblk m c 1 t) (iblk m c 2 t) l k = pN m c (t.val * 512 + l) k := by
  have ht := lt16 t
  unfold pj pN prod
  by_cases hk : k < 4864
  · rw [dif_pos (⟨hl, hk⟩ : l < 512 ∧ k < 4864), dif_pos (⟨by omega, hk⟩ : t.val * 512 + l < 8192 ∧ k < 4864), b0, b1]
    exact Finset.sum_congr rfl fun d _ => congrArg₂ (fun a b : EReal => a * b) rfl (b2 m c t ⟨k, hk⟩ d)
  · rw [dif_neg (fun h => hk h.2), dif_neg (fun h => hk h.2)]

/-! ### The arrays -/

def arr4 (i : S1x8192x256.Idx) : EReal := pN m c ((i 0).val + 1 * (i 1).val) (0 + (0 + (i 2).val)) * eighth
theorem row4 (t : Fin cfg0.N) : (outsAt0 m c t).1 = fun y : S1x512x256.Idx =>
    pN m c (t.val * 512 + ((y 0).val + 1 * (y 1).val)) (0 + (0 + (y 2).val)) * eighth := by
  funext y
  have h0 : (y 0).val < 1 := (y 0).isLt
  have h1 : (y 1).val < 512 := (y 1).isLt
  exact (point_4 m c t y).trans (congrArg (fun a : EReal => a * eighth) (pj_at m c t _ _ (by omega)))
theorem final4 : (dats m 0 c).arrAt 4 cfg0.N = arr4 m c := by
  refine (dats m 0 c).arrAt_eq_of_covers 4 _ (by decide +kernel) fun t hf y => ?_
  rw [after0_4, row4 m c t, emb_4]
  exact congrArg (fun a : ℕ => pN m c a (0 + (0 + ((y : S1x512x256.Idx) 2).val)) * eighth)
    (show t.val * 512 + (((y : S1x512x256.Idx) 0).val + 1 * ((y : S1x512x256.Idx) 1).val)
      = ((y : S1x512x256.Idx) 0).val + 1 * (t.val * 512 + ((y : S1x512x256.Idx) 1).val) by omega)

def arr5 (i : S4x2048x256.Idx) : EReal := pN m c ((i 0).val + 4 * (i 1).val) (0 + (256 + (i 2).val)) * eighth
theorem row5 (t : Fin cfg0.N) : (outsAt0 m c t).2.1 = fun y : S4x128x256.Idx =>
    pN m c (t.val * 512 + ((y 0).val + 4 * (y 1).val)) (0 + (256 + (y 2).val)) * eighth := by
  funext y
  have h0 : (y 0).val < 4 := (y 0).isLt
  have h1 : (y 1).val < 128 := (y 1).isLt
  exact (point_5 m c t y).trans (congrArg (fun a : EReal => a * eighth) (pj_at m c t _ _ (by omega)))
theorem final5 : (dats m 0 c).arrAt 5 cfg0.N = arr5 m c := by
  refine (dats m 0 c).arrAt_eq_of_covers 5 _ (by decide +kernel) fun t hf y => ?_
  rw [after0_5, row5 m c t, emb_5]
  exact congrArg (fun a : ℕ => pN m c a (0 + (256 + ((y : S4x128x256.Idx) 2).val)) * eighth)
    (show t.val * 512 + (((y : S4x128x256.Idx) 0).val + 4 * ((y : S4x128x256.Idx) 1).val)
      = ((y : S4x128x256.Idx) 0).val + 4 * (t.val * 128 + ((y : S4x128x256.Idx) 1).val) by omega)

def arr6 (i : S16x512x256.Idx) : EReal := pN m c ((i 0).val + 16 * (i 1).val) (0 + (512 + (i 2).val)) * eighth
theorem row6 (t : Fin cfg0.N) : (outsAt0 m c t).2.2.1 = fun y : S16x32x256.Idx =>
    pN m c (t.val * 512 + ((y 0).val + 16 * (y 1).val)) (0 + (512 + (y 2).val)) * eighth := by
  funext y
  have h0 : (y 0).val < 16 := (y 0).isLt
  have h1 : (y 1).val < 32 := (y 1).isLt
  exact (point_6 m c t y).trans (congrArg (fun a : EReal => a * eighth) (pj_at m c t _ _ (by omega)))
theorem final6 : (dats m 0 c).arrAt 6 cfg0.N = arr6 m c := by
  refine (dats m 0 c).arrAt_eq_of_covers 6 _ (by decide +kernel) fun t hf y => ?_
  rw [after0_6, row6 m c t, emb_6]
  exact congrArg (fun a : ℕ => pN m c a (0 + (512 + ((y : S16x32x256.Idx) 2).val)) * eighth)
    (show t.val * 512 + (((y : S16x32x256.Idx) 0).val + 16 * ((y : S16x32x256.Idx) 1).val)
      = ((y : S16x32x256.Idx) 0).val + 16 * (t.val * 32 + ((y : S16x32x256.Idx) 1).val) by omega)

def arr7 (i : S1x8192x256.Idx) : EReal := pN m c ((i 0).val + 1 * (i 1).val) (768 + (0 + (i 2).val))
theorem row7 (t : Fin cfg0.N) : (outsAt0 m c t).2.2.2.1 = fun y : S1x512x256.Idx =>
    pN m c (t.val * 512 + ((y 0).val + 1 * (y 1).val)) (768 + (0 + (y 2).val)) := by
  funext y
  have h0 : (y 0).val < 1 := (y 0).isLt
  have h1 : (y 1).val < 512 := (y 1).isLt
  exact (point_7 m c t y).trans (congrArg (fun a : EReal => a) (pj_at m c t _ _ (by omega)))
theorem final7 : (dats m 0 c).arrAt 7 cfg0.N = arr7 m c := by
  refine (dats m 0 c).arrAt_eq_of_covers 7 _ (by decide +kernel) fun t hf y => ?_
  rw [after0_7, row7 m c t, emb_7]
  exact congrArg (fun a : ℕ => pN m c a (768 + (0 + ((y : S1x512x256.Idx) 2).val)))
    (show t.val * 512 + (((y : S1x512x256.Idx) 0).val + 1 * ((y : S1x512x256.Idx) 1).val)
      = ((y : S1x512x256.Idx) 0).val + 1 * (t.val * 512 + ((y : S1x512x256.Idx) 1).val) by omega)

def arr8 (i : S4x2048x256.Idx) : EReal := pN m c ((i 0).val + 4 * (i 1).val) (768 + (256 + (i 2).val))
theorem row8 (t : Fin cfg0.N) : (outsAt0 m c t).2.2.2.2.1 = fun y : S4x128x256.Idx =>
    pN m c (t.val * 512 + ((y 0).val + 4 * (y 1).val)) (768 + (256 + (y 2).val)) := by
  funext y
  have h0 : (y 0).val < 4 := (y 0).isLt
  have h1 : (y 1).val < 128 := (y 1).isLt
  exact (point_8 m c t y).trans (congrArg (fun a : EReal => a) (pj_at m c t _ _ (by omega)))
theorem final8 : (dats m 0 c).arrAt 8 cfg0.N = arr8 m c := by
  refine (dats m 0 c).arrAt_eq_of_covers 8 _ (by decide +kernel) fun t hf y => ?_
  rw [after0_8, row8 m c t, emb_8]
  exact congrArg (fun a : ℕ => pN m c a (768 + (256 + ((y : S4x128x256.Idx) 2).val)))
    (show t.val * 512 + (((y : S4x128x256.Idx) 0).val + 4 * ((y : S4x128x256.Idx) 1).val)
      = ((y : S4x128x256.Idx) 0).val + 4 * (t.val * 128 + ((y : S4x128x256.Idx) 1).val) by omega)

def arr9 (i : S16x512x256.Idx) : EReal := pN m c ((i 0).val + 16 * (i 1).val) (768 + (512 + (i 2).val))
theorem row9 (t : Fin cfg0.N) : (outsAt0 m c t).2.2.2.2.2.1 = fun y : S16x32x256.Idx =>
    pN m c (t.val * 512 + ((y 0).val + 16 * (y 1).val)) (768 + (512 + (y 2).val)) := by
  funext y
  have h0 : (y 0).val < 16 := (y 0).isLt
  have h1 : (y 1).val < 32 := (y 1).isLt
  exact (point_9 m c t y).trans (congrArg (fun a : EReal => a) (pj_at m c t _ _ (by omega)))
theorem final9 : (dats m 0 c).arrAt 9 cfg0.N = arr9 m c := by
  refine (dats m 0 c).arrAt_eq_of_covers 9 _ (by decide +kernel) fun t hf y => ?_
  rw [after0_9, row9 m c t, emb_9]
  exact congrArg (fun a : ℕ => pN m c a (768 + (512 + ((y : S16x32x256.Idx) 2).val)))
    (show t.val * 512 + (((y : S16x32x256.Idx) 0).val + 16 * ((y : S16x32x256.Idx) 1).val)
      = ((y : S16x32x256.Idx) 0).val + 16 * (t.val * 32 + ((y : S16x32x256.Idx) 1).val) by omega)

def arr10 (i : S1x8192x256.Idx) : EReal := pN m c ((i 0).val + 1 * (i 1).val) (1536 + (0 + (i 2).val))
theorem row10 (t : Fin cfg0.N) : (outsAt0 m c t).2.2.2.2.2.2.1 = fun y : S1x512x256.Idx =>
    pN m c (t.val * 512 + ((y 0).val + 1 * (y 1).val)) (1536 + (0 + (y 2).val)) := by
  funext y
  have h0 : (y 0).val < 1 := (y 0).isLt
  have h1 : (y 1).val < 512 := (y 1).isLt
  exact (point_10 m c t y).trans (congrArg (fun a : EReal => a) (pj_at m c t _ _ (by omega)))
theorem final10 : (dats m 0 c).arrAt 10 cfg0.N = arr10 m c := by
  refine (dats m 0 c).arrAt_eq_of_covers 10 _ (by decide +kernel) fun t hf y => ?_
  rw [after0_10, row10 m c t, emb_10]
  exact congrArg (fun a : ℕ => pN m c a (1536 + (0 + ((y : S1x512x256.Idx) 2).val)))
    (show t.val * 512 + (((y : S1x512x256.Idx) 0).val + 1 * ((y : S1x512x256.Idx) 1).val)
      = ((y : S1x512x256.Idx) 0).val + 1 * (t.val * 512 + ((y : S1x512x256.Idx) 1).val) by omega)

def arr11 (i : S4x2048x256.Idx) : EReal := pN m c ((i 0).val + 4 * (i 1).val) (1536 + (256 + (i 2).val))
theorem row11 (t : Fin cfg0.N) : (outsAt0 m c t).2.2.2.2.2.2.2.1 = fun y : S4x128x256.Idx =>
    pN m c (t.val * 512 + ((y 0).val + 4 * (y 1).val)) (1536 + (256 + (y 2).val)) := by
  funext y
  have h0 : (y 0).val < 4 := (y 0).isLt
  have h1 : (y 1).val < 128 := (y 1).isLt
  exact (point_11 m c t y).trans (congrArg (fun a : EReal => a) (pj_at m c t _ _ (by omega)))
theorem final11 : (dats m 0 c).arrAt 11 cfg0.N = arr11 m c := by
  refine (dats m 0 c).arrAt_eq_of_covers 11 _ (by decide +kernel) fun t hf y => ?_
  rw [after0_11, row11 m c t, emb_11]
  exact congrArg (fun a : ℕ => pN m c a (1536 + (256 + ((y : S4x128x256.Idx) 2).val)))
    (show t.val * 512 + (((y : S4x128x256.Idx) 0).val + 4 * ((y : S4x128x256.Idx) 1).val)
      = ((y : S4x128x256.Idx) 0).val + 4 * (t.val * 128 + ((y : S4x128x256.Idx) 1).val) by omega)

def arr12 (i : S16x512x256.Idx) : EReal := pN m c ((i 0).val + 16 * (i 1).val) (1536 + (512 + (i 2).val))
theorem row12 (t : Fin cfg0.N) : (outsAt0 m c t).2.2.2.2.2.2.2.2.1 = fun y : S16x32x256.Idx =>
    pN m c (t.val * 512 + ((y 0).val + 16 * (y 1).val)) (1536 + (512 + (y 2).val)) := by
  funext y
  have h0 : (y 0).val < 16 := (y 0).isLt
  have h1 : (y 1).val < 32 := (y 1).isLt
  exact (point_12 m c t y).trans (congrArg (fun a : EReal => a) (pj_at m c t _ _ (by omega)))
theorem final12 : (dats m 0 c).arrAt 12 cfg0.N = arr12 m c := by
  refine (dats m 0 c).arrAt_eq_of_covers 12 _ (by decide +kernel) fun t hf y => ?_
  rw [after0_12, row12 m c t, emb_12]
  exact congrArg (fun a : ℕ => pN m c a (1536 + (512 + ((y : S16x32x256.Idx) 2).val)))
    (show t.val * 512 + (((y : S16x32x256.Idx) 0).val + 16 * ((y : S16x32x256.Idx) 1).val)
      = ((y : S16x32x256.Idx) 0).val + 16 * (t.val * 32 + ((y : S16x32x256.Idx) 1).val) by omega)

def arr13 (i : S8192x512.Idx) : EReal := pN m c (i 0).val (2304 + (i 1).val)
theorem row13 (t : Fin cfg0.N) : (outsAt0 m c t).2.2.2.2.2.2.2.2.2.1 = fun y : S512x512.Idx => pN m c (t.val * 512 + (y 0).val) (2304 + (y 1).val) := by
  funext y
  exact (congrArg _ (Finite.eta2 y)).trans ((point_13 m c t (y 0) (y 1)).trans (pj_at m c t _ _ (y 0).isLt))
theorem final13 : (dats m 0 c).arrAt 13 cfg0.N = arr13 m c := by
  refine (dats m 0 c).arrAt_eq_of_covers 13 _ (by decide +kernel) fun t hf y => ?_
  rw [after0_13, row13 m c t, emb_13]
  rfl

def arr14 (i : S8192x2048.Idx) : EReal := sg (pN m c (i 0).val (2816 + (i 1).val) + aB m c (i 1))
theorem row14 (t : Fin cfg0.N) : (outsAt0 m c t).2.2.2.2.2.2.2.2.2.2 = fun y : S512x2048.Idx =>
    sg (pN m c (t.val * 512 + (y 0).val) (2816 + (y 1).val) + aB m c (y 1)) := by
  funext y
  exact (congrArg _ (Finite.eta2 y)).trans ((point_14 m c t (y 0) (y 1)).trans
    (congrArg₂ (fun a b : EReal => sg (a + b)) (pj_at m c t _ _ (y 0).isLt) (b3 m c t (y 1))))
theorem final14 : (dats m 0 c).arrAt 14 cfg0.N = arr14 m c := by
  refine (dats m 0 c).arrAt_eq_of_covers 14 _ (by decide +kernel) fun t hf y => ?_
  rw [after0_14, row14 m c t, emb_14]
  rfl

end Cert.MixFwd

end
-- ==== Proof.MixFwdClaim.lean ====
module
public import proofs.«01_k».proof.Proof.MixFwdFinal
public import proofs.«01_k».proof.Defs
public import proofs.«01_k».proof.Proof.Gen.Reference14Ideal.Run
public import proofs.«01_k».proof.Proof.Gen.Reference14Ideal.Read
public import Idealize.ShloMosaic.Lib.Quiescent

/-! The claims about the forward kernel of the mixing layer's entry. -/

@[expose] public section

set_option maxRecDepth 16384

noncomputable section

open Idealize.ShloMosaic Idealize.ShloMosaic.TcCoe Idealize.SL.Sem
open Idealize.ShloMosaic.ValueIdx
open Cert.FfnRow (len eps nrm sg)
open Cert.MixFwd (prod eighth)

namespace Cert.MixFwdClaim

open Cert.Reference14Ideal Cert.Reference14Ideal.Gen Cert.Reference14Ideal.Read

/-! ### The reference, entry by entry -/

theorem eta3 {a b d : ℕ} (i : (⟨3, ![a, b, d]⟩ : Shape).Idx) : i = ValueIdx.ix3 (i 0) (i 1) (i 2) :=
  funext fun k => by match k with | ⟨0, _⟩ => rfl | ⟨1, _⟩ => rfl | ⟨2, _⟩ => rfl

theorem lt_rows {d n r a : ℕ} (hd : d * n = 8192) (hr : r < d) (ha : a < n) : r + d * a < 8192 := by
  have : d * a + d ≤ d * n := by rw [← Nat.mul_succ]; exact Nat.mul_le_mul_left d ha
  omega

/-- Columns `o` on of a third, its rows sorted by residue. -/
theorem sorted {d n : ℕ} (hd : d * n = 8192) {X : FVec Ideal S8192x768 .f32} {Y : ℕ → ℕ → EReal}
    (hX : ∀ (l : Fin 8192) (k : Fin 768), @Eq EReal (X (ValueIdx.ix2 l k)) (Y l.val k.val)) (o : ℕ) (ho : o + 256 ≤ 768) (h h' h'')
    (i : (⟨3, ![d, n, 256]⟩ : Shape).Idx) :
    @Eq EReal (transpose (⟨3, ![d, n, 256]⟩ : Shape) [1, 0, 2]
      (shapeCast (⟨3, ![n, d, 256]⟩ : Shape) (extractStridedSlice S8192x256 ![0, o] X h : FVec Ideal S8192x256 .f32) h' : FVec Ideal (⟨3, ![n, d, 256]⟩ : Shape) .f32) h'' i)
      (Y ((i 0).val + d * (i 1).val) (o + (i 2).val)) := by
  have hr : (i 0).val < d := (i 0).isLt
  have ha : (i 1).val < n := (i 1).isLt
  have hj : o + (i 2).val < 768 := by have : (i 2).val < 256 := (i 2).isLt; omega
  refine Eq.trans (b := (shapeCast (⟨3, ![n, d, 256]⟩ : Shape) (extractStridedSlice S8192x256 ![0, o] X h : FVec Ideal S8192x256 .f32) h' (ValueIdx.ix3 (i 1) (i 0) (i 2)) : EReal)) ?_ ?_
  · unfold transpose
    exact congrArg _ (funext fun b => by match b with | ⟨0, _⟩ => rfl | ⟨1, _⟩ => rfl | ⟨2, _⟩ => rfl)
  refine (shapeCast_apply _ _ (ValueIdx.ix3 (i 1) (i 0) (i 2)) (ValueIdx.ix2 (⟨(i 0).val + d * (i 1).val, lt_rows hd hr ha⟩ : Fin 8192) (i 2)) ?_).trans ?_
  · rw [Shape.rowMajor_val_three, Shape.rowMajor_val_two]
    show ((i 0).val + d * (i 1).val) * 256 + (i 2).val = ((i 1).val * d + (i 0).val) * 256 + (i 2).val
    rw [Nat.mul_comm (i 1).val d, Nat.add_comm (i 0).val]
  · refine Eq.trans ?_ (hX ⟨(i 0).val + d * (i 1).val, lt_rows hd hr ha⟩ ⟨o + (i 2).val, hj⟩)
    refine congrArg X (funext fun b => Fin.ext ?_)
    match b with
    | ⟨0, _⟩ => show 0 + ((i 0).val + d * (i 1).val) = _; exact Nat.zero_add _
    | ⟨1, _⟩ => rfl

variable (x : S8192x1024.Idx → EReal) (g : S1024.Idx → EReal) (w : S1024x4864.Idx → EReal) (b : S2048.Idx → EReal)

theorem r1 (i : S8192.Idx) : @Eq EReal (val_main_v1 (F := Ideal) x i) (∑ k, x (ValueIdx.ix2 (i 0) k) * x (ValueIdx.ix2 (i 0) k)) := by
  rw [val_main_v1_apply]
  refine Eq.trans (b := Ideal.ofBits .f32 0x00000000#32 + ∑ k : Fin 1024, x (ValueIdx.ix2 (i 0) k) * x (ValueIdx.ix2 (i 0) k))
    (congrArg (fun a : EReal => Ideal.ofBits .f32 0x00000000#32 + a) (Finset.sum_congr rfl fun k _ => ?_)) ?_
  · have e : idx_main_v1 i k = ValueIdx.ix2 (i 0) k := funext fun a => by match a with | ⟨0, _⟩ => rfl | ⟨1, _⟩ => rfl
    rw [e]; rfl
  · rw [show Ideal.ofBits .f32 0x00000000#32 = (0 : EReal) from Ffn.ofBits_zero, zero_add]

theorem r12 (l : Fin 8192) (d : Fin 1024) : @Eq EReal (val_main_v12 (F := Ideal) x g (ValueIdx.ix2 l d))
    (nrm (fun e => x (ValueIdx.ix2 l e)) (fun e => g (ValueIdx.ix1 e)) d) := by
  rw [val_main_v12_apply, val_main_v11_apply, val_main_v10_apply, val_main_v9_apply, val_main_v8_apply, val_main_v7_apply, val_main_v6_apply,
    val_main_v4_apply, val_main_v2_apply, val_main_v3_apply, val_main_v5_apply]
  unfold nrm
  refine congrArg₂ (fun a b : EReal => a * b) (congrArg (fun a : EReal => x (ValueIdx.ix2 l d) * Ideal.rsqrt (Ideal.div a len + eps)) (r1 x _)) (congrArg g (funext fun a => ?_))
  match a with | ⟨0, _⟩ => rfl

theorem r13 (l : Fin 8192) (k : Fin 4864) (l' k' : ℕ) (hl : l.val = l') (hk : k.val = k') :
    @Eq EReal (val_main_v13 (F := Ideal) x g w (ValueIdx.ix2 l k)) (prod x g w l' k') := by
  subst hl hk
  unfold prod
  rw [val_main_v13_apply, dif_pos (⟨l.isLt, k.isLt⟩ : l.val < 8192 ∧ k.val < 4864)]
  refine Finset.sum_congr rfl fun d _ => congrArg₂ (fun a b : EReal => a * b) ?_ (congrArg w ?_)
  · exact (congrArg _ (funext fun a => by match a with | ⟨0, _⟩ => rfl | ⟨1, _⟩ => rfl)).trans (r12 x g l d)
  · funext a; match a with | ⟨0, _⟩ => rfl | ⟨1, _⟩ => rfl

theorem at13 (i : S8192x4864.Idx) (l k : ℕ) (hl : (i 0).val = l) (hk : (i 1).val = k) :
    @Eq EReal (val_main_v13 (F := Ideal) x g w i) (prod x g w l k) :=
  (congrArg _ (Finite.eta2 i)).trans (r13 x g w (i 0) (i 1) l k hl hk)

theorem r16 (l : Fin 8192) (k : Fin 768) : @Eq EReal (val_main_v16 (F := Ideal) x g w (ValueIdx.ix2 l k)) (prod x g w l.val (0 + k.val) * eighth) := by
  rw [val_main_v16_apply, val_main_v14_apply, val_main_v15_apply]
  exact congrArg (fun a : EReal => a * eighth) (at13 x g w _ _ _ rfl (Nat.zero_add _).symm)
theorem r17 (l : Fin 8192) (k : Fin 768) : @Eq EReal (val_main_v17 (F := Ideal) x g w (ValueIdx.ix2 l k)) (prod x g w l.val (768 + k.val)) := by
  rw [val_main_v17_apply]
  exact at13 x g w _ _ _ rfl rfl
theorem r18 (l : Fin 8192) (k : Fin 768) : @Eq EReal (val_main_v18 (F := Ideal) x g w (ValueIdx.ix2 l k)) (prod x g w l.val (1536 + k.val)) := by
  rw [val_main_v18_apply]
  exact at13 x g w _ _ _ rfl rfl

theorem r46 (i : S1x8192x256.Idx) : @Eq EReal (val_main_v46 (F := Ideal) x g w i)
    (prod x g w ((i 0).val + 1 * (i 1).val) (0 + (0 + (i 2).val)) * eighth) := by
  rw [val_main_v46_apply]
  unfold val_main_v21 val_main_v20 val_main_v19
  exact sorted (d := 1) (n := 8192) rfl (Y := fun l k => prod x g w l (0 + k) * eighth) (r16 x g w) 0 (by norm_num) _ _ _ i
theorem r47 (i : S4x2048x256.Idx) : @Eq EReal (val_main_v47 (F := Ideal) x g w i)
    (prod x g w ((i 0).val + 4 * (i 1).val) (0 + (256 + (i 2).val)) * eighth) := by
  rw [val_main_v47_apply]
  unfold val_main_v24 val_main_v23 val_main_v22
  exact sorted (d := 4) (n := 2048) rfl (Y := fun l k => prod x g w l (0 + k) * eighth) (r16 x g w) 256 (by norm_num) _ _ _ i
theorem r48 (i : S16x512x256.Idx) : @Eq EReal (val_main_v48 (F := Ideal) x g w i)
    (prod x g w ((i 0).val + 16 * (i 1).val) (0 + (512 + (i 2).val)) * eighth) := by
  rw [val_main_v48_apply]
  unfold val_main_v27 val_main_v26 val_main_v25
  exact sorted (d := 16) (n := 512) rfl (Y := fun l k => prod x g w l (0 + k) * eighth) (r16 x g w) 512 (by norm_num) _ _ _ i
theorem r49 (i : S1x8192x256.Idx) : @Eq EReal (val_main_v49 (F := Ideal) x g w i)
    (prod x g w ((i 0).val + 1 * (i 1).val) (768 + (0 + (i 2).val))) := by
  rw [val_main_v49_apply]
  unfold val_main_v30 val_main_v29 val_main_v28
  exact sorted (d := 1) (n := 8192) rfl (Y := fun l k => prod x g w l (768 + k)) (r17 x g w) 0 (by norm_num) _ _ _ i
theorem r50 (i : S4x2048x256.Idx) : @Eq EReal (val_main_v50 (F := Ideal) x g w i)
    (prod x g w ((i 0).val + 4 * (i 1).val) (768 + (256 + (i 2).val))) := by
  rw [val_main_v50_apply]
  unfold val_main_v33 val_main_v32 val_main_v31
  exact sorted (d := 4) (n := 2048) rfl (Y := fun l k => prod x g w l (768 + k)) (r17 x g w) 256 (by norm_num) _ _ _ i
theorem r51 (i : S16x512x256.Idx) : @Eq EReal (val_main_v51 (F := Ideal) x g w i)
    (prod x g w ((i 0).val + 16 * (i 1).val) (768 + (512 + (i 2).val))) := by
  rw [val_main_v51_apply]
  unfold val_main_v36 val_main_v35 val_main_v34
  exact sorted (d := 16) (n := 512) rfl (Y := fun l k => prod x g w l (768 + k)) (r17 x g w) 512 (by norm_num) _ _ _ i
theorem r52 (i : S1x8192x256.Idx) : @Eq EReal (val_main_v52 (F := Ideal) x g w i)
    (prod x g w ((i 0).val + 1 * (i 1).val) (1536 + (0 + (i 2).val))) := by
  rw [val_main_v52_apply]
  unfold val_main_v39 val_main_v38 val_main_v37
  exact sorted (d := 1) (n := 8192) rfl (Y := fun l k => prod x g w l (1536 + k)) (r18 x g w) 0 (by norm_num) _ _ _ i
theorem r53 (i : S4x2048x256.Idx) : @Eq EReal (val_main_v53 (F := Ideal) x g w i)
    (prod x g w ((i 0).val + 4 * (i 1).val) (1536 + (256 + (i 2).val))) := by
  rw [val_main_v53_apply]
  unfold val_main_v42 val_main_v41 val_main_v40
  exact sorted (d := 4) (n := 2048) rfl (Y := fun l k => prod x g w l (1536 + k)) (r18 x g w) 256 (by norm_num) _ _ _ i
theorem r54 (i : S16x512x256.Idx) : @Eq EReal (val_main_v54 (F := Ideal) x g w i)
    (prod x g w ((i 0).val + 16 * (i 1).val) (1536 + (512 + (i 2).val))) := by
  rw [val_main_v54_apply]
  unfold val_main_v45 val_main_v44 val_main_v43
  exact sorted (d := 16) (n := 512) rfl (Y := fun l k => prod x g w l (1536 + k)) (r18 x g w) 512 (by norm_num) _ _ _ i
theorem r55 (i : S8192x512.Idx) : @Eq EReal (val_main_v55 (F := Ideal) x g w i) (prod x g w (i 0).val (2304 + (i 1).val)) := by
  rw [val_main_v55_apply]
  exact at13 x g w _ _ _ rfl rfl
theorem r65 (i : S8192x2048.Idx) : @Eq EReal (val_main_v65 (F := Ideal) x g w b i) (sg (prod x g w (i 0).val (2816 + (i 1).val) + b (ValueIdx.ix1 (i 1)))) := by
  rw [val_main_v65_apply, val_main_v64_apply, val_main_v63_apply, val_main_v62_apply, val_main_v61_apply, val_main_v60_apply, val_main_v59_apply,
    val_main_v58_apply, val_main_v57_apply, val_main_v56_apply, val_main_cst_3_apply, val_main_cst_4_apply]
  refine Eq.trans (b := sg ((val_main_v13 (F := Ideal) x g w (idx_main_v56 i) : EReal) + b (idx_main_v57 (idx_main_v58 i)))) rfl ?_
  have e1 : @Eq EReal (val_main_v13 (F := Ideal) x g w (idx_main_v56 i)) (prod x g w (i 0).val (2816 + (i 1).val)) := at13 x g w _ _ _ rfl rfl
  have e2 : idx_main_v57 (idx_main_v58 i) = ValueIdx.ix1 (i 1) := funext fun a => by match a with | ⟨0, _⟩ => rfl
  rw [e1, e2]
  rfl

/-! ### The claims -/

theorem frame_reference : Cert.quiescent_Reference14Ideal := fun m ρ _ =>
  (θ_run Cert.Reference14Ideal.defs _ _).mono
    (fun r h => ⟨fun c => (h c).2.2.2.2.2.2.2.2.2.2.2, sem_eq_zero_of_no_sems (by decide) r.2⟩)
    (Cert.Reference14Ideal.Value.run (F := Ideal) m ρ)

set_option maxHeartbeats 1000000 in
theorem algebraic : Cert.algebraic_Kernel14Ideal_Reference14Ideal := by
  intro m g m' g' _ hargs
  refine ⟨fun c => (Cert.Kernel14Ideal.Gen.dats m 0 c).arrAt 4 Cert.Kernel14Ideal.cfg0.N,
    fun c => (Cert.Kernel14Ideal.Gen.dats m 0 c).arrAt 5 Cert.Kernel14Ideal.cfg0.N,
    fun c => (Cert.Kernel14Ideal.Gen.dats m 0 c).arrAt 6 Cert.Kernel14Ideal.cfg0.N,
    fun c => (Cert.Kernel14Ideal.Gen.dats m 0 c).arrAt 7 Cert.Kernel14Ideal.cfg0.N,
    fun c => (Cert.Kernel14Ideal.Gen.dats m 0 c).arrAt 8 Cert.Kernel14Ideal.cfg0.N,
    fun c => (Cert.Kernel14Ideal.Gen.dats m 0 c).arrAt 9 Cert.Kernel14Ideal.cfg0.N,
    fun c => (Cert.Kernel14Ideal.Gen.dats m 0 c).arrAt 10 Cert.Kernel14Ideal.cfg0.N,
    fun c => (Cert.Kernel14Ideal.Gen.dats m 0 c).arrAt 11 Cert.Kernel14Ideal.cfg0.N,
    fun c => (Cert.Kernel14Ideal.Gen.dats m 0 c).arrAt 12 Cert.Kernel14Ideal.cfg0.N,
    fun c => (Cert.Kernel14Ideal.Gen.dats m 0 c).arrAt 13 Cert.Kernel14Ideal.cfg0.N,
    fun c => (Cert.Kernel14Ideal.Gen.dats m 0 c).arrAt 14 Cert.Kernel14Ideal.cfg0.N,
    Cert.Kernel14Ideal.Value.run_blocks m g, ?_⟩
  refine (θ_run Cert.Reference14Ideal.defs _ _).mono (fun r h c => ?_) (Cert.Reference14Ideal.Value.run (F := Ideal) m' g')
  obtain ⟨a0, a1, a2, a3⟩ := hargs c
  obtain ⟨h0, h1, h2, h3, h4, h5, h6, h7, h8, h9, h10, h11⟩ := h c
  refine ⟨h0.trans ?_, h1.trans ?_, h2.trans ?_, h3.trans ?_, h4.trans ?_, h5.trans ?_, h6.trans ?_, h7.trans ?_, h8.trans ?_, h9.trans ?_, h10.trans ?_, h11⟩
  · refine (Cert.Reference14Ideal.Read.val_main_v46_eq _ _ _).trans ?_
    rw [a0, a1, a2]
    exact (funext fun i => r46 _ _ _ i).trans (MixFwd.final4 m c).symm
  · refine (Cert.Reference14Ideal.Read.val_main_v47_eq _ _ _).trans ?_
    rw [a0, a1, a2]
    exact (funext fun i => r47 _ _ _ i).trans (MixFwd.final5 m c).symm
  · refine (Cert.Reference14Ideal.Read.val_main_v48_eq _ _ _).trans ?_
    rw [a0, a1, a2]
    exact (funext fun i => r48 _ _ _ i).trans (MixFwd.final6 m c).symm
  · refine (Cert.Reference14Ideal.Read.val_main_v49_eq _ _ _).trans ?_
    rw [a0, a1, a2]
    exact (funext fun i => r49 _ _ _ i).trans (MixFwd.final7 m c).symm
  · refine (Cert.Reference14Ideal.Read.val_main_v50_eq _ _ _).trans ?_
    rw [a0, a1, a2]
    exact (funext fun i => r50 _ _ _ i).trans (MixFwd.final8 m c).symm
  · refine (Cert.Reference14Ideal.Read.val_main_v51_eq _ _ _).trans ?_
    rw [a0, a1, a2]
    exact (funext fun i => r51 _ _ _ i).trans (MixFwd.final9 m c).symm
  · refine (Cert.Reference14Ideal.Read.val_main_v52_eq _ _ _).trans ?_
    rw [a0, a1, a2]
    exact (funext fun i => r52 _ _ _ i).trans (MixFwd.final10 m c).symm
  · refine (Cert.Reference14Ideal.Read.val_main_v53_eq _ _ _).trans ?_
    rw [a0, a1, a2]
    exact (funext fun i => r53 _ _ _ i).trans (MixFwd.final11 m c).symm
  · refine (Cert.Reference14Ideal.Read.val_main_v54_eq _ _ _).trans ?_
    rw [a0, a1, a2]
    exact (funext fun i => r54 _ _ _ i).trans (MixFwd.final12 m c).symm
  · refine (Cert.Reference14Ideal.Read.val_main_v55_eq _ _ _).trans ?_
    rw [a0, a1, a2]
    exact (funext fun i => r55 _ _ _ i).trans (MixFwd.final13 m c).symm
  · refine (Cert.Reference14Ideal.Read.val_main_v65_eq _ _ _ _).trans ?_
    rw [a0, a1, a2, a3]
    exact (funext fun i => r65 _ _ _ _ i).trans (MixFwd.final14 m c).symm

end Cert.MixFwdClaim

end
-- ==== Proof.AdamClaim15.lean ====
module
public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Quiescent

/-! The claims about the optimiser's step of the feed-forward weights. -/

@[expose] public section

set_option maxRecDepth 16384

noncomputable section

open Idealize.ShloMosaic Idealize.ShloMosaic.TcCoe Idealize.SL.Sem

namespace Cert.AdamClaim15

open Cert.Reference15Ideal Cert.Reference15Ideal.Gen Cert.Reference15Ideal.Read

variable (w g a b : (⟨S704x1024, .f32⟩ : BufTy).Contents (Elt Ideal))

/-- The first moment. -/
theorem r4 (i : S704x1024.Idx) : @Eq EReal (val_main_v4 (F := Ideal) g a i) (Cert.Kernel15Ideal.Value.G5 (F := Ideal) g a i) := by
  rw [val_main_v4_apply, val_main_v1_apply, val_main_v3_apply, val_main_v0_apply, val_main_v2_apply]
  rfl

/-- The second moment. -/
theorem r10 (i : S704x1024.Idx) : @Eq EReal (val_main_v10 (F := Ideal) g b i) (Cert.Kernel15Ideal.Value.G6 (F := Ideal) g b i) := by
  rw [val_main_v10_apply, val_main_v6_apply, val_main_v9_apply, val_main_v5_apply, val_main_v8_apply]
  rfl

/-- The change of the parameters. -/
theorem r23 (i : S704x1024.Idx) : @Eq EReal (val_main_v23 (F := Ideal) w g a b i) (Cert.Kernel15Ideal.Value.G4 (F := Ideal) g a b w i) := by
  rw [val_main_v23_apply, val_main_v21_apply, val_main_v18_apply, val_main_v12_apply, val_main_v17_apply, val_main_v15_apply,
    val_main_v14_apply, val_main_v20_apply, val_main_v11_apply, val_main_v13_apply, val_main_v16_apply, val_main_v19_apply,
    val_main_v22_apply, val_main_v4_apply, val_main_v1_apply, val_main_v3_apply, val_main_v0_apply, val_main_v2_apply,
    val_main_v10_apply, val_main_v6_apply, val_main_v9_apply, val_main_v5_apply, val_main_v8_apply]
  rfl

/-! ### The claims -/

theorem frame_reference : Cert.quiescent_Reference15Ideal := fun m ρ _ =>
  (θ_run Cert.Reference15Ideal.defs _ _).mono
    (fun r h => ⟨fun c => (h c).2.2.2, sem_eq_zero_of_no_sems (by decide) r.2⟩)
    (Cert.Reference15Ideal.Value.run (F := Ideal) m ρ)

theorem algebraic : Cert.algebraic_Kernel15Ideal_Reference15Ideal := by
  intro m g m' g' _ hargs
  refine ⟨_, _, _, Cert.Kernel15Ideal.Value.run m g, ?_⟩
  refine (θ_run Cert.Reference15Ideal.defs _ _).mono (fun r h c => ?_) (Cert.Reference15Ideal.Value.run (F := Ideal) m' g')
  obtain ⟨a0, a1, a2, a3⟩ := hargs c
  obtain ⟨h0, h1, h2, h3⟩ := h c
  refine ⟨h0.trans ?_, h1.trans ?_, h2.trans ?_, h3⟩
  · refine (Cert.Reference15Ideal.Read.val_main_v23_eq _ _ _ _).trans ?_
    rw [a0, a1, a2, a3]
    exact funext fun i => r23 _ _ _ _ i
  · refine (Cert.Reference15Ideal.Read.val_main_v4_eq _ _).trans ?_
    rw [a1, a2]
    exact funext fun i => r4 _ _ i
  · refine (Cert.Reference15Ideal.Read.val_main_v10_eq _ _).trans ?_
    rw [a1, a3]
    exact funext fun i => r10 _ _ i

end Cert.AdamClaim15

end
-- ==== Proof.AdamClaim16.lean ====
module
public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Quiescent

/-! The claims about the optimiser's step of w_in. -/

@[expose] public section

set_option maxRecDepth 16384

noncomputable section

open Idealize.ShloMosaic Idealize.ShloMosaic.TcCoe Idealize.SL.Sem

namespace Cert.AdamClaim16

open Cert.Reference16Ideal Cert.Reference16Ideal.Gen Cert.Reference16Ideal.Read

variable (w g a b : (⟨S1216x1024, .f32⟩ : BufTy).Contents (Elt Ideal))

/-- The first moment. -/
theorem r4 (i : S1216x1024.Idx) : @Eq EReal (val_main_v4 (F := Ideal) g a i) (Cert.Kernel16Ideal.Value.G5 (F := Ideal) g a i) := by
  rw [val_main_v4_apply, val_main_v1_apply, val_main_v3_apply, val_main_v0_apply, val_main_v2_apply]
  rfl

/-- The second moment. -/
theorem r10 (i : S1216x1024.Idx) : @Eq EReal (val_main_v10 (F := Ideal) g b i) (Cert.Kernel16Ideal.Value.G6 (F := Ideal) g b i) := by
  rw [val_main_v10_apply, val_main_v6_apply, val_main_v9_apply, val_main_v5_apply, val_main_v8_apply]
  rfl

/-- The change of the parameters. -/
theorem r23 (i : S1216x1024.Idx) : @Eq EReal (val_main_v23 (F := Ideal) w g a b i) (Cert.Kernel16Ideal.Value.G4 (F := Ideal) g a b w i) := by
  rw [val_main_v23_apply, val_main_v21_apply, val_main_v18_apply, val_main_v12_apply, val_main_v17_apply, val_main_v15_apply,
    val_main_v14_apply, val_main_v20_apply, val_main_v11_apply, val_main_v13_apply, val_main_v16_apply, val_main_v19_apply,
    val_main_v22_apply, val_main_v4_apply, val_main_v1_apply, val_main_v3_apply, val_main_v0_apply, val_main_v2_apply,
    val_main_v10_apply, val_main_v6_apply, val_main_v9_apply, val_main_v5_apply, val_main_v8_apply]
  rfl

/-! ### The claims -/

theorem frame_reference : Cert.quiescent_Reference16Ideal := fun m ρ _ =>
  (θ_run Cert.Reference16Ideal.defs _ _).mono
    (fun r h => ⟨fun c => (h c).2.2.2, sem_eq_zero_of_no_sems (by decide) r.2⟩)
    (Cert.Reference16Ideal.Value.run (F := Ideal) m ρ)

theorem algebraic : Cert.algebraic_Kernel16Ideal_Reference16Ideal := by
  intro m g m' g' _ hargs
  refine ⟨_, _, _, Cert.Kernel16Ideal.Value.run m g, ?_⟩
  refine (θ_run Cert.Reference16Ideal.defs _ _).mono (fun r h c => ?_) (Cert.Reference16Ideal.Value.run (F := Ideal) m' g')
  obtain ⟨a0, a1, a2, a3⟩ := hargs c
  obtain ⟨h0, h1, h2, h3⟩ := h c
  refine ⟨h0.trans ?_, h1.trans ?_, h2.trans ?_, h3⟩
  · refine (Cert.Reference16Ideal.Read.val_main_v23_eq _ _ _ _).trans ?_
    rw [a0, a1, a2, a3]
    exact funext fun i => r23 _ _ _ _ i
  · refine (Cert.Reference16Ideal.Read.val_main_v4_eq _ _).trans ?_
    rw [a1, a2]
    exact funext fun i => r4 _ _ i
  · refine (Cert.Reference16Ideal.Read.val_main_v10_eq _ _).trans ?_
    rw [a1, a3]
    exact funext fun i => r10 _ _ i

end Cert.AdamClaim16

end
-- ==== Proof.AdamClaim17.lean ====
module
public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.Quiescent

/-! The claims about the optimiser's step of w_out. -/

@[expose] public section

set_option maxRecDepth 16384

noncomputable section

open Idealize.ShloMosaic Idealize.ShloMosaic.TcCoe Idealize.SL.Sem

namespace Cert.AdamClaim17

open Cert.Reference17Ideal Cert.Reference17Ideal.Gen Cert.Reference17Ideal.Read

variable (w g a b : (⟨S256x1024, .f32⟩ : BufTy).Contents (Elt Ideal))

/-- The first moment. -/
theorem r4 (i : S256x1024.Idx) : @Eq EReal (val_main_v4 (F := Ideal) g a i) (Cert.Kernel17Ideal.Value.G5 (F := Ideal) g a i) := by
  rw [val_main_v4_apply, val_main_v1_apply, val_main_v3_apply, val_main_v0_apply, val_main_v2_apply]
  rfl

/-- The second moment. -/
theorem r10 (i : S256x1024.Idx) : @Eq EReal (val_main_v10 (F := Ideal) g b i) (Cert.Kernel17Ideal.Value.G6 (F := Ideal) g b i) := by
  rw [val_main_v10_apply, val_main_v6_apply, val_main_v9_apply, val_main_v5_apply, val_main_v8_apply]
  rfl

/-- The change of the parameters. -/
theorem r23 (i : S256x1024.Idx) : @Eq EReal (val_main_v23 (F := Ideal) w g a b i) (Cert.Kernel17Ideal.Value.G4 (F := Ideal) g a b w i) := by
  rw [val_main_v23_apply, val_main_v21_apply, val_main_v18_apply, val_main_v12_apply, val_main_v17_apply, val_main_v15_apply,
    val_main_v14_apply, val_main_v20_apply, val_main_v11_apply, val_main_v13_apply, val_main_v16_apply, val_main_v19_apply,
    val_main_v22_apply, val_main_v4_apply, val_main_v1_apply, val_main_v3_apply, val_main_v0_apply, val_main_v2_apply,
    val_main_v10_apply, val_main_v6_apply, val_main_v9_apply, val_main_v5_apply, val_main_v8_apply]
  rfl

/-! ### The claims -/

theorem frame_reference : Cert.quiescent_Reference17Ideal := fun m ρ _ =>
  (θ_run Cert.Reference17Ideal.defs _ _).mono
    (fun r h => ⟨fun c => (h c).2.2.2, sem_eq_zero_of_no_sems (by decide) r.2⟩)
    (Cert.Reference17Ideal.Value.run (F := Ideal) m ρ)

theorem algebraic : Cert.algebraic_Kernel17Ideal_Reference17Ideal := by
  intro m g m' g' _ hargs
  refine ⟨_, _, _, Cert.Kernel17Ideal.Value.run m g, ?_⟩
  refine (θ_run Cert.Reference17Ideal.defs _ _).mono (fun r h c => ?_) (Cert.Reference17Ideal.Value.run (F := Ideal) m' g')
  obtain ⟨a0, a1, a2, a3⟩ := hargs c
  obtain ⟨h0, h1, h2, h3⟩ := h c
  refine ⟨h0.trans ?_, h1.trans ?_, h2.trans ?_, h3⟩
  · refine (Cert.Reference17Ideal.Read.val_main_v23_eq _ _ _ _).trans ?_
    rw [a0, a1, a2, a3]
    exact funext fun i => r23 _ _ _ _ i
  · refine (Cert.Reference17Ideal.Read.val_main_v4_eq _ _).trans ?_
    rw [a1, a2]
    exact funext fun i => r4 _ _ i
  · refine (Cert.Reference17Ideal.Read.val_main_v10_eq _ _).trans ?_
    rw [a1, a3]
    exact funext fun i => r10 _ _ i

end Cert.AdamClaim17

end
-- ==== Proof.AdamClaim18.lean ====
module
public import proofs.«01_k».proof.Defs
public import proofs.«01_k».proof.Proof.Gen.Kernel18Ideal.Value
public import proofs.«01_k».proof.Proof.Gen.Reference18Ideal.Run
public import proofs.«01_k».proof.Proof.Gen.Reference18Ideal.Read
public import Idealize.ShloMosaic.Lib.Quiescent

/-! The claims about the optimiser's step of ssm_w_glu and w_ssm_branch. -/

@[expose] public section

set_option maxRecDepth 16384

noncomputable section

open Idealize.ShloMosaic Idealize.ShloMosaic.TcCoe Idealize.SL.Sem

namespace Cert.AdamClaim18

open Cert.Reference18Ideal Cert.Reference18Ideal.Gen Cert.Reference18Ideal.Read

variable (w g a b : (⟨S512x256, .f32⟩ : BufTy).Contents (Elt Ideal))

/-- The first moment. -/
theorem r4 (i : S512x256.Idx) : @Eq EReal (val_main_v4 (F := Ideal) g a i) (Cert.Kernel18Ideal.Value.G5 (F := Ideal) g a i) := by
  rw [val_main_v4_apply, val_main_v1_apply, val_main_v3_apply, val_main_v0_apply, val_main_v2_apply]
  rfl

/-- The second moment. -/
theorem r10 (i : S512x256.Idx) : @Eq EReal (val_main_v10 (F := Ideal) g b i) (Cert.Kernel18Ideal.Value.G6 (F := Ideal) g b i) := by
  rw [val_main_v10_apply, val_main_v6_apply, val_main_v9_apply, val_main_v5_apply, val_main_v8_apply]
  rfl

/-- The change of the parameters. -/
theorem r23 (i : S512x256.Idx) : @Eq EReal (val_main_v23 (F := Ideal) w g a b i) (Cert.Kernel18Ideal.Value.G4 (F := Ideal) g a b w i) := by
  rw [val_main_v23_apply, val_main_v21_apply, val_main_v18_apply, val_main_v12_apply, val_main_v17_apply, val_main_v15_apply,
    val_main_v14_apply, val_main_v20_apply, val_main_v11_apply, val_main_v13_apply, val_main_v16_apply, val_main_v19_apply,
    val_main_v22_apply, val_main_v4_apply, val_main_v1_apply, val_main_v3_apply, val_main_v0_apply, val_main_v2_apply,
    val_main_v10_apply, val_main_v6_apply, val_main_v9_apply, val_main_v5_apply, val_main_v8_apply]
  rfl

/-! ### The claims -/

theorem frame_reference : Cert.quiescent_Reference18Ideal := fun m ρ _ =>
  (θ_run Cert.Reference18Ideal.defs _ _).mono
    (fun r h => ⟨fun c => (h c).2.2.2, sem_eq_zero_of_no_sems (by decide) r.2⟩)
    (Cert.Reference18Ideal.Value.run (F := Ideal) m ρ)

theorem algebraic : Cert.algebraic_Kernel18Ideal_Reference18Ideal := by
  intro m g m' g' _ hargs
  refine ⟨_, _, _, Cert.Kernel18Ideal.Value.run m g, ?_⟩
  refine (θ_run Cert.Reference18Ideal.defs _ _).mono (fun r h c => ?_) (Cert.Reference18Ideal.Value.run (F := Ideal) m' g')
  obtain ⟨a0, a1, a2, a3⟩ := hargs c
  obtain ⟨h0, h1, h2, h3⟩ := h c
  refine ⟨h0.trans ?_, h1.trans ?_, h2.trans ?_, h3⟩
  · refine (Cert.Reference18Ideal.Read.val_main_v23_eq _ _ _ _).trans ?_
    rw [a0, a1, a2, a3]
    exact funext fun i => r23 _ _ _ _ i
  · refine (Cert.Reference18Ideal.Read.val_main_v4_eq _ _).trans ?_
    rw [a1, a2]
    exact funext fun i => r4 _ _ i
  · refine (Cert.Reference18Ideal.Read.val_main_v10_eq _ _).trans ?_
    rw [a1, a3]
    exact funext fun i => r10 _ _ i

end Cert.AdamClaim18

end
-- ==== Proof.AdamClaim19.lean ====
module
public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Quiescent

/-! The claims about the optimiser's step of w_attn_branch. -/

@[expose] public section

set_option maxRecDepth 16384

noncomputable section

open Idealize.ShloMosaic Idealize.ShloMosaic.TcCoe Idealize.SL.Sem

namespace Cert.AdamClaim19

open Cert.Reference19Ideal Cert.Reference19Ideal.Gen Cert.Reference19Ideal.Read

variable (w g a b : (⟨S256x256, .f32⟩ : BufTy).Contents (Elt Ideal))

/-- The first moment. -/
theorem r4 (i : S256x256.Idx) : @Eq EReal (val_main_v4 (F := Ideal) g a i) (Cert.Kernel19Ideal.Value.G5 (F := Ideal) g a i) := by
  rw [val_main_v4_apply, val_main_v1_apply, val_main_v3_apply, val_main_v0_apply, val_main_v2_apply]
  rfl

/-- The second moment. -/
theorem r10 (i : S256x256.Idx) : @Eq EReal (val_main_v10 (F := Ideal) g b i) (Cert.Kernel19Ideal.Value.G6 (F := Ideal) g b i) := by
  rw [val_main_v10_apply, val_main_v6_apply, val_main_v9_apply, val_main_v5_apply, val_main_v8_apply]
  rfl

/-- The change of the parameters. -/
theorem r23 (i : S256x256.Idx) : @Eq EReal (val_main_v23 (F := Ideal) w g a b i) (Cert.Kernel19Ideal.Value.G4 (F := Ideal) g a b w i) := by
  rw [val_main_v23_apply, val_main_v21_apply, val_main_v18_apply, val_main_v12_apply, val_main_v17_apply, val_main_v15_apply,
    val_main_v14_apply, val_main_v20_apply, val_main_v11_apply, val_main_v13_apply, val_main_v16_apply, val_main_v19_apply,
    val_main_v22_apply, val_main_v4_apply, val_main_v1_apply, val_main_v3_apply, val_main_v0_apply, val_main_v2_apply,
    val_main_v10_apply, val_main_v6_apply, val_main_v9_apply, val_main_v5_apply, val_main_v8_apply]
  rfl

/-! ### The claims -/

theorem frame_reference : Cert.quiescent_Reference19Ideal := fun m ρ _ =>
  (θ_run Cert.Reference19Ideal.defs _ _).mono
    (fun r h => ⟨fun c => (h c).2.2.2, sem_eq_zero_of_no_sems (by decide) r.2⟩)
    (Cert.Reference19Ideal.Value.run (F := Ideal) m ρ)

theorem algebraic : Cert.algebraic_Kernel19Ideal_Reference19Ideal := by
  intro m g m' g' _ hargs
  refine ⟨_, _, _, Cert.Kernel19Ideal.Value.run m g, ?_⟩
  refine (θ_run Cert.Reference19Ideal.defs _ _).mono (fun r h c => ?_) (Cert.Reference19Ideal.Value.run (F := Ideal) m' g')
  obtain ⟨a0, a1, a2, a3⟩ := hargs c
  obtain ⟨h0, h1, h2, h3⟩ := h c
  refine ⟨h0.trans ?_, h1.trans ?_, h2.trans ?_, h3⟩
  · refine (Cert.Reference19Ideal.Read.val_main_v23_eq _ _ _ _).trans ?_
    rw [a0, a1, a2, a3]
    exact funext fun i => r23 _ _ _ _ i
  · refine (Cert.Reference19Ideal.Read.val_main_v4_eq _ _).trans ?_
    rw [a1, a2]
    exact funext fun i => r4 _ _ i
  · refine (Cert.Reference19Ideal.Read.val_main_v10_eq _ _).trans ?_
    rw [a1, a3]
    exact funext fun i => r10 _ _ i

end Cert.AdamClaim19

end
-- ==== Proof.AdamClaim20.lean ====
module
public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Quiescent

/-! The claims about the optimiser's step of the small parameters. -/

@[expose] public section

set_option maxRecDepth 16384

noncomputable section

open Idealize.ShloMosaic Idealize.ShloMosaic.TcCoe Idealize.SL.Sem

namespace Cert.AdamClaim20

open Cert.Reference20Ideal Cert.Reference20Ideal.Gen Cert.Reference20Ideal.Read

variable (w g a b : (⟨S1128x128, .f32⟩ : BufTy).Contents (Elt Ideal))

/-- The first moment. -/
theorem r4 (i : S1128x128.Idx) : @Eq EReal (val_main_v4 (F := Ideal) g a i) (Cert.Kernel20Ideal.Value.G5 (F := Ideal) g a i) := by
  rw [val_main_v4_apply, val_main_v1_apply, val_main_v3_apply, val_main_v0_apply, val_main_v2_apply]
  rfl

/-- The second moment. -/
theorem r10 (i : S1128x128.Idx) : @Eq EReal (val_main_v10 (F := Ideal) g b i) (Cert.Kernel20Ideal.Value.G6 (F := Ideal) g b i) := by
  rw [val_main_v10_apply, val_main_v6_apply, val_main_v9_apply, val_main_v5_apply, val_main_v8_apply]
  rfl

/-- The change of the parameters. -/
theorem r23 (i : S1128x128.Idx) : @Eq EReal (val_main_v23 (F := Ideal) w g a b i) (Cert.Kernel20Ideal.Value.G4 (F := Ideal) g a b w i) := by
  rw [val_main_v23_apply, val_main_v21_apply, val_main_v18_apply, val_main_v12_apply, val_main_v17_apply, val_main_v15_apply,
    val_main_v14_apply, val_main_v20_apply, val_main_v11_apply, val_main_v13_apply, val_main_v16_apply, val_main_v19_apply,
    val_main_v22_apply, val_main_v4_apply, val_main_v1_apply, val_main_v3_apply, val_main_v0_apply, val_main_v2_apply,
    val_main_v10_apply, val_main_v6_apply, val_main_v9_apply, val_main_v5_apply, val_main_v8_apply]
  rfl

/-! ### The claims -/

theorem frame_reference : Cert.quiescent_Reference20Ideal := fun m ρ _ =>
  (θ_run Cert.Reference20Ideal.defs _ _).mono
    (fun r h => ⟨fun c => (h c).2.2.2, sem_eq_zero_of_no_sems (by decide) r.2⟩)
    (Cert.Reference20Ideal.Value.run (F := Ideal) m ρ)

theorem algebraic : Cert.algebraic_Kernel20Ideal_Reference20Ideal := by
  intro m g m' g' _ hargs
  refine ⟨_, _, _, Cert.Kernel20Ideal.Value.run m g, ?_⟩
  refine (θ_run Cert.Reference20Ideal.defs _ _).mono (fun r h c => ?_) (Cert.Reference20Ideal.Value.run (F := Ideal) m' g')
  obtain ⟨a0, a1, a2, a3⟩ := hargs c
  obtain ⟨h0, h1, h2, h3⟩ := h c
  refine ⟨h0.trans ?_, h1.trans ?_, h2.trans ?_, h3⟩
  · refine (Cert.Reference20Ideal.Read.val_main_v23_eq _ _ _ _).trans ?_
    rw [a0, a1, a2, a3]
    exact funext fun i => r23 _ _ _ _ i
  · refine (Cert.Reference20Ideal.Read.val_main_v4_eq _ _).trans ?_
    rw [a1, a2]
    exact funext fun i => r4 _ _ i
  · refine (Cert.Reference20Ideal.Read.val_main_v10_eq _ _).trans ?_
    rw [a1, a3]
    exact funext fun i => r10 _ _ i

end Cert.AdamClaim20

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel12
public import proofs.«01_k».proof.Proof.Gen.Kernel13
public import proofs.«01_k».proof.Proof.Gen.Kernel14
public import proofs.«01_k».proof.Proof.Gen.Kernel15
public import proofs.«01_k».proof.Proof.Gen.Kernel16
public import proofs.«01_k».proof.Proof.Gen.Kernel17
public import proofs.«01_k».proof.Proof.Gen.Kernel18
public import proofs.«01_k».proof.Proof.Gen.Kernel19
public import proofs.«01_k».proof.Proof.Gen.Kernel20
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel11Ideal
public import proofs.«01_k».proof.Proof.Gen.Kernel12Ideal
public import proofs.«01_k».proof.Proof.Gen.Kernel13Ideal
public import proofs.«01_k».proof.Proof.Gen.Kernel14Ideal
public import proofs.«01_k».proof.Proof.Gen.Kernel15Ideal
public import proofs.«01_k».proof.Proof.Gen.Kernel16Ideal
public import proofs.«01_k».proof.Proof.Gen.Kernel17Ideal
public import proofs.«01_k».proof.Proof.Gen.Kernel18Ideal
public import proofs.«01_k».proof.Proof.Gen.Kernel19Ideal
public import proofs.«01_k».proof.Proof.Gen.Kernel20Ideal
public import proofs.«01_k».proof.Proof.Gen.Kernel11Ideal.Skeleton
public import proofs.«01_k».proof.Proof.Gen.Kernel12Ideal.Skeleton
public import proofs.«01_k».proof.Proof.Gen.Kernel13Ideal.Skeleton
public import proofs.«01_k».proof.Proof.Gen.Kernel14Ideal.Skeleton
public import proofs.«01_k».proof.Proof.Gen.Kernel15Ideal.Skeleton
public import proofs.«01_k».proof.Proof.Gen.Kernel16Ideal.Skeleton
public import proofs.«01_k».proof.Proof.Gen.Kernel17Ideal.Skeleton
public import proofs.«01_k».proof.Proof.Gen.Kernel18Ideal.Skeleton
public import proofs.«01_k».proof.Proof.Gen.Kernel19Ideal.Skeleton
public import proofs.«01_k».proof.Proof.Gen.Kernel20Ideal.Skeleton
public import proofs.«01_k».proof.Proof.Gen.Kernel11Ideal.Launch
public import proofs.«01_k».proof.Proof.Gen.Kernel12Ideal.Launch
public import proofs.«01_k».proof.Proof.Gen.Kernel13Ideal.Launch
public import proofs.«01_k».proof.Proof.Gen.Kernel14Ideal.Launch
public import proofs.«01_k».proof.Proof.Gen.Kernel15Ideal.Launch
public import proofs.«01_k».proof.Proof.Gen.Kernel16Ideal.Launch
public import proofs.«01_k».proof.Proof.Gen.Kernel17Ideal.Launch
public import proofs.«01_k».proof.Proof.Gen.Kernel18Ideal.Launch
public import proofs.«01_k».proof.Proof.Gen.Kernel19Ideal.Launch
public import proofs.«01_k».proof.Proof.Gen.Kernel20Ideal.Launch
public import proofs.«01_k».proof.Proof.Gen.Kernel11Ideal.Points
public import proofs.«01_k».proof.Proof.Gen.Kernel12Ideal.Points
public import proofs.«01_k».proof.Proof.Gen.Kernel13Ideal.Points
public import proofs.«01_k».proof.Proof.Gen.Kernel14Ideal.Points
public import proofs.«01_k».proof.Proof.Gen.Kernel15Ideal.Points
public import proofs.«01_k».proof.Proof.Gen.Kernel16Ideal.Points
public import proofs.«01_k».proof.Proof.Gen.Kernel17Ideal.Points
public import proofs.«01_k».proof.Proof.Gen.Kernel18Ideal.Points
public import proofs.«01_k».proof.Proof.Gen.Kernel19Ideal.Points
public import proofs.«01_k».proof.Proof.Gen.Kernel20Ideal.Points
public import proofs.«01_k».proof.Proof.Gen.Kernel11Ideal.Frame
public import proofs.«01_k».proof.Proof.Gen.Kernel12Ideal.Frame
public import proofs.«01_k».proof.Proof.Gen.Kernel13Ideal.Frame
public import proofs.«01_k».proof.Proof.Gen.Kernel14Ideal.Frame
public import proofs.«01_k».proof.Proof.Gen.Kernel15Ideal.Frame
public import proofs.«01_k».proof.Proof.Gen.Kernel16Ideal.Frame
public import proofs.«01_k».proof.Proof.Gen.Kernel17Ideal.Frame
public import proofs.«01_k».proof.Proof.Gen.Kernel18Ideal.Frame
public import proofs.«01_k».proof.Proof.Gen.Kernel19Ideal.Frame
public import proofs.«01_k».proof.Proof.Gen.Kernel20Ideal.Frame
public import proofs.«01_k».proof.Proof.Gen.Kernel11Ideal.Value
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Kernel15Ideal.Value
public import proofs.«01_k».proof.Proof.Gen.Kernel16Ideal.Value
public import proofs.«01_k».proof.Proof.Gen.Kernel17Ideal.Value
public import proofs.«01_k».proof.Proof.Gen.Kernel18Ideal.Value
public import proofs.«01_k».proof.Proof.Gen.Kernel19Ideal.Value
public import proofs.«01_k».proof.Proof.Gen.Kernel20Ideal.Value
public import proofs.«01_k».proof.Proof.Gen.Reference11Ideal
public import proofs.«01_k».proof.Proof.Gen.Reference12Ideal
public import proofs.«01_k».proof.Proof.Gen.Reference13Ideal
public import proofs.«01_k».proof.Proof.Gen.Reference14Ideal
public import proofs.«01_k».proof.Proof.Gen.Reference15Ideal
public import proofs.«01_k».proof.Proof.Gen.Reference16Ideal
public import proofs.«01_k».proof.Proof.Gen.Reference17Ideal
public import proofs.«01_k».proof.Proof.Gen.Reference18Ideal
public import proofs.«01_k».proof.Proof.Gen.Reference19Ideal
public import proofs.«01_k».proof.Proof.Gen.Reference20Ideal
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference11Ideal.Read
public import proofs.«01_k».proof.Proof.Gen.Reference12Ideal.Read
public import proofs.«01_k».proof.Proof.Gen.Reference13Ideal.Read
public import proofs.«01_k».proof.Proof.Gen.Reference14Ideal.Read
public import proofs.«01_k».proof.Proof.Gen.Reference15Ideal.Read
public import proofs.«01_k».proof.Proof.Gen.Reference16Ideal.Read
public import proofs.«01_k».proof.Proof.Gen.Reference17Ideal.Read
public import proofs.«01_k».proof.Proof.Gen.Reference18Ideal.Read
public import proofs.«01_k».proof.Proof.Gen.Reference19Ideal.Read
public import proofs.«01_k».proof.Proof.Gen.Reference20Ideal.Read
public import proofs.«01_k».proof.Proof.Gen.Pre_finite2
public import proofs.«01_k».proof.Proof.DwGateClaim
public import proofs.«01_k».proof.Proof.DwUpClaim
public import proofs.«01_k».proof.Proof.DwDownClaim
public import proofs.«01_k».proof.Proof.DwInClaim
public import proofs.«01_k».proof.Proof.DwOutClaim
public import proofs.«01_k».proof.Proof.DwAttnClaim
public import proofs.«01_k».proof.Proof.DwSsmClaim
public import proofs.«01_k».proof.Proof.DwGluClaim
public import proofs.«01_k».proof.Proof.FfnBwdClaim
public import proofs.«01_k».proof.Proof.FfnFwdClaim
public import proofs.«01_k».proof.Proof.MixInClaim
public import proofs.«01_k».proof.Proof.LossClaim
public import proofs.«01_k».proof.Proof.MixFwdClaim
public import proofs.«01_k».proof.Proof.AdamClaim15
public import proofs.«01_k».proof.Proof.AdamClaim16
public import proofs.«01_k».proof.Proof.AdamClaim17
public import proofs.«01_k».proof.Proof.AdamClaim18
public import proofs.«01_k».proof.Proof.AdamClaim19
public import proofs.«01_k».proof.Proof.AdamClaim20
public import Idealize.ShloMosaic.Lib.Quiescent
public import Idealize.ShloMosaic.Adequacy
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Pre_finite2.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ,
    fun m ρ _ => Cert.Kernel2Ideal.Gen.frame m ρ, FfnBwdClaim.frame_reference,
    fun m ρ _ => FfnBwdClaim.frame_reference m ρ trivial,
    fun m ρ _ => Cert.Kernel3.Gen.frame m ρ, fun m ρ _ => Cert.Kernel3Ideal.Gen.frame m ρ, DwGateClaim.frame_reference,
    fun m ρ _ => Cert.Kernel4.Gen.frame m ρ, fun m ρ _ => Cert.Kernel4Ideal.Gen.frame m ρ, DwUpClaim.frame_reference,
    fun m ρ _ => Cert.Kernel5.Gen.frame m ρ, fun m ρ _ => Cert.Kernel5Ideal.Gen.frame m ρ, DwDownClaim.frame_reference,
    fun m ρ _ => Cert.Kernel6.Gen.frame m ρ, fun m ρ _ => Cert.Kernel6Ideal.Gen.frame m ρ, DwInClaim.frame_reference,
    fun m ρ _ => Cert.Kernel7.Gen.frame m ρ, fun m ρ _ => Cert.Kernel7Ideal.Gen.frame m ρ, DwOutClaim.frame_reference,
    fun m ρ _ => Cert.Kernel8.Gen.frame m ρ, fun m ρ _ => Cert.Kernel8Ideal.Gen.frame m ρ, DwAttnClaim.frame_reference,
    fun m ρ _ => Cert.Kernel9.Gen.frame m ρ, fun m ρ _ => Cert.Kernel9Ideal.Gen.frame m ρ, DwSsmClaim.frame_reference,
    fun m ρ _ => Cert.Kernel10.Gen.frame m ρ, fun m ρ _ => Cert.Kernel10Ideal.Gen.frame m ρ, DwGluClaim.frame_reference,
    fun m ρ _ => Cert.Kernel11.Gen.frame m ρ, fun m ρ _ => Cert.Kernel11Ideal.Gen.frame m ρ, FfnFwdClaim.frame_reference,
    fun m ρ _ => Cert.Kernel12.Gen.frame m ρ, fun m ρ _ => Cert.Kernel12Ideal.Gen.frame m ρ, MixInClaim.frame_reference,
    fun m ρ _ => Cert.Kernel13.Gen.frame m ρ, fun m ρ _ => Cert.Kernel13Ideal.Gen.frame m ρ, LossClaim.frame_reference,
    fun m ρ _ => Cert.Kernel14.Gen.frame m ρ, fun m ρ _ => Cert.Kernel14Ideal.Gen.frame m ρ, MixFwdClaim.frame_reference,
    fun m ρ _ => Cert.Kernel15.Gen.frame m ρ, fun m ρ _ => Cert.Kernel15Ideal.Gen.frame m ρ, AdamClaim15.frame_reference,
    fun m ρ _ => Cert.Kernel16.Gen.frame m ρ, fun m ρ _ => Cert.Kernel16Ideal.Gen.frame m ρ, AdamClaim16.frame_reference,
    fun m ρ _ => Cert.Kernel17.Gen.frame m ρ, fun m ρ _ => Cert.Kernel17Ideal.Gen.frame m ρ, AdamClaim17.frame_reference,
    fun m ρ _ => Cert.Kernel18.Gen.frame m ρ, fun m ρ _ => Cert.Kernel18Ideal.Gen.frame m ρ, AdamClaim18.frame_reference,
    fun m ρ _ => Cert.Kernel19.Gen.frame m ρ, fun m ρ _ => Cert.Kernel19Ideal.Gen.frame m ρ, AdamClaim19.frame_reference,
    fun m ρ _ => Cert.Kernel20.Gen.frame m ρ, fun m ρ _ => Cert.Kernel20Ideal.Gen.frame m ρ, AdamClaim20.frame_reference,
    trivial, trivial, FfnBwdClaim.algebraic,
    trivial, DwGateClaim.algebraic,
    trivial, DwUpClaim.algebraic,
    trivial, DwDownClaim.algebraic,
    trivial, DwInClaim.algebraic,
    trivial, DwOutClaim.algebraic,
    trivial, DwAttnClaim.algebraic,
    trivial, DwSsmClaim.algebraic,
    trivial, DwGluClaim.algebraic,
    trivial, FfnFwdClaim.algebraic,
    trivial, MixInClaim.algebraic,
    trivial, LossClaim.algebraic,
    trivial, MixFwdClaim.algebraic,
    trivial, AdamClaim15.algebraic,
    trivial, AdamClaim16.algebraic,
    trivial, AdamClaim17.algebraic,
    trivial, AdamClaim18.algebraic,
    trivial, AdamClaim19.algebraic,
    trivial, AdamClaim20.algebraic⟩

end Cert.Proof

end
